-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9)
      ∧ r.2.mem ((c.tc : Thread Cert.Kernel13.nD Cert.Kernel13.τ).loc Cert.Kernel13.main_arg10) = m ((c.tc : Thread Cert.Kernel13.nD Cert.Kernel13.τ).loc Cert.Kernel13.main_arg10)
      ∧ r.2.mem ((c.tc : Thread Cert.Kernel13.nD Cert.Kernel13.τ).loc Cert.Kernel13.main_arg11) = m ((c.tc : Thread Cert.Kernel13.nD Cert.Kernel13.τ).loc Cert.Kernel13.main_arg11)
      ∧ r.2.mem ((c.tc : Thread Cert.Kernel13.nD Cert.Kernel13.τ).loc Cert.Kernel13.main_arg12) = m ((c.tc : Thread Cert.Kernel13.nD Cert.Kernel13.τ).loc Cert.Kernel13.main_arg12)
      ∧ r.2.mem ((c.tc : Thread Cert.Kernel13.nD Cert.Kernel13.τ).loc Cert.Kernel13.main_arg13) = m ((c.tc : Thread Cert.Kernel13.nD Cert.Kernel13.τ).loc Cert.Kernel13.main_arg13))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
      ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
      ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11)
      ∧ r.2.mem ((c.tc : Thread Cert.Kernel13Ideal.nD Cert.Kernel13Ideal.τ).loc Cert.Kernel13Ideal.main_arg12) = m ((c.tc : Thread Cert.Kernel13Ideal.nD Cert.Kernel13Ideal.τ).loc Cert.Kernel13Ideal.main_arg12)
      ∧ r.2.mem ((c.tc : Thread Cert.Kernel13Ideal.nD Cert.Kernel13Ideal.τ).loc Cert.Kernel13Ideal.main_arg13) = m ((c.tc : Thread Cert.Kernel13Ideal.nD Cert.Kernel13Ideal.τ).loc Cert.Kernel13Ideal.main_arg13))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9)
      ∧ r.2.mem ((c.tc : Thread Cert.Reference13Ideal.nD Cert.Reference13Ideal.τ).loc Cert.Reference13Ideal.main_arg10) = m ((c.tc : Thread Cert.Reference13Ideal.nD Cert.Reference13Ideal.τ).loc Cert.Reference13Ideal.main_arg10)
      ∧ r.2.mem ((c.tc : Thread Cert.Reference13Ideal.nD Cert.Reference13Ideal.τ).loc Cert.Reference13Ideal.main_arg11) = m ((c.tc : Thread Cert.Reference13Ideal.nD Cert.Reference13Ideal.τ).loc Cert.Reference13Ideal.main_arg11)
      ∧ r.2.mem ((c.tc : Thread Cert.Reference13Ideal.nD Cert.Reference13Ideal.τ).loc Cert.Reference13Ideal.main_arg12) = m ((c.tc : Thread Cert.Reference13Ideal.nD Cert.Reference13Ideal.τ).loc Cert.Reference13Ideal.main_arg12)
      ∧ r.2.mem ((c.tc : Thread Cert.Reference13Ideal.nD Cert.Reference13Ideal.τ).loc Cert.Reference13Ideal.main_arg13) = m ((c.tc : Thread Cert.Reference13Ideal.nD Cert.Reference13Ideal.τ).loc Cert.Reference13Ideal.main_arg13))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_v82) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v90) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_v24) = v1 c
          ∧ r.2.mem ((c.tc : Thread Cert.Reference3Ideal.nD Cert.Reference3Ideal.τ).loc Cert.Reference3Ideal.main_v30) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v79) = v0 c
          ∧ r.2.mem ((c.tc : Thread Cert.Reference4Ideal.nD Cert.Reference4Ideal.τ).loc Cert.Reference4Ideal.main_v81) = v1 c
          ∧ r.2.mem ((c.tc : Thread Cert.Reference4Ideal.nD Cert.Reference4Ideal.τ).loc Cert.Reference4Ideal.main_v83) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v29)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v29) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v7)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v24) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)) (v2 : (c : Dev Cert.Kernel11Ideal.nD) → Buf (Elt Ideal) ((c.tc : Thread Cert.Kernel11Ideal.nD Cert.Kernel11Ideal.τ).loc Cert.Kernel11Ideal.main_v1_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_v1_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v28) = v0 c
          ∧ r.2.mem ((c.tc : Thread Cert.Reference11Ideal.nD Cert.Reference11Ideal.τ).loc Cert.Reference11Ideal.main_v24) = v1 c
          ∧ r.2.mem ((c.tc : Thread Cert.Reference11Ideal.nD Cert.Reference11Ideal.τ).loc Cert.Reference11Ideal.main_v30) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)) →
    ∃ (v0 : (c : Dev Cert.Kernel12Ideal.nD) → Buf (Elt Ideal) ((c.tc : Thread Cert.Kernel12Ideal.nD Cert.Kernel12Ideal.τ).loc Cert.Kernel12Ideal.main_v5_0)) (v1 : (c : Dev Cert.Kernel12Ideal.nD) → Buf (Elt Ideal) ((c.tc : Thread Cert.Kernel12Ideal.nD Cert.Kernel12Ideal.τ).loc Cert.Kernel12Ideal.main_v5_1)) (v2 : (c : Dev Cert.Kernel12Ideal.nD) → Buf (Elt Ideal) ((c.tc : Thread Cert.Kernel12Ideal.nD Cert.Kernel12Ideal.τ).loc Cert.Kernel12Ideal.main_v5_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5_0) = v0 c
          ∧ r.2.mem ((c.tc : Thread Cert.Kernel12Ideal.nD Cert.Kernel12Ideal.τ).loc Cert.Kernel12Ideal.main_v5_1) = v1 c
          ∧ r.2.mem ((c.tc : Thread Cert.Kernel12Ideal.nD Cert.Kernel12Ideal.τ).loc Cert.Kernel12Ideal.main_v5_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v79) = v0 c
          ∧ r.2.mem ((c.tc : Thread Cert.Reference12Ideal.nD Cert.Reference12Ideal.τ).loc Cert.Reference12Ideal.main_v81) = v1 c
          ∧ r.2.mem ((c.tc : Thread Cert.Reference12Ideal.nD Cert.Reference12Ideal.τ).loc Cert.Reference12Ideal.main_v83) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)
      ∧ m' ((c.tc : Thread Cert.Reference13Ideal.nD Cert.Reference13Ideal.τ).loc Cert.Reference13Ideal.main_arg10) = m ((c.tc : Thread Cert.Kernel13Ideal.nD Cert.Kernel13Ideal.τ).loc Cert.Kernel13Ideal.main_arg10)
      ∧ m' ((c.tc : Thread Cert.Reference13Ideal.nD Cert.Reference13Ideal.τ).loc Cert.Reference13Ideal.main_arg11) = m ((c.tc : Thread Cert.Kernel13Ideal.nD Cert.Kernel13Ideal.τ).loc Cert.Kernel13Ideal.main_arg11)
      ∧ m' ((c.tc : Thread Cert.Reference13Ideal.nD Cert.Reference13Ideal.τ).loc Cert.Reference13Ideal.main_arg12) = m ((c.tc : Thread Cert.Kernel13Ideal.nD Cert.Kernel13Ideal.τ).loc Cert.Kernel13Ideal.main_arg12)
      ∧ m' ((c.tc : Thread Cert.Reference13Ideal.nD Cert.Reference13Ideal.τ).loc Cert.Reference13Ideal.main_arg13) = m ((c.tc : Thread Cert.Kernel13Ideal.nD Cert.Kernel13Ideal.τ).loc Cert.Kernel13Ideal.main_arg13)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
          ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
          ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11)
          ∧ r.2.mem ((c.tc : Thread Cert.Kernel13Ideal.nD Cert.Kernel13Ideal.τ).loc Cert.Kernel13Ideal.main_arg12) = m ((c.tc : Thread Cert.Kernel13Ideal.nD Cert.Kernel13Ideal.τ).loc Cert.Kernel13Ideal.main_arg12)
          ∧ r.2.mem ((c.tc : Thread Cert.Kernel13Ideal.nD Cert.Kernel13Ideal.τ).loc Cert.Kernel13Ideal.main_arg13) = m ((c.tc : Thread Cert.Kernel13Ideal.nD Cert.Kernel13Ideal.τ).loc Cert.Kernel13Ideal.main_arg13))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v90) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9)
          ∧ r.2.mem ((c.tc : Thread Cert.Reference13Ideal.nD Cert.Reference13Ideal.τ).loc Cert.Reference13Ideal.main_arg10) = m' ((c.tc : Thread Cert.Reference13Ideal.nD Cert.Reference13Ideal.τ).loc Cert.Reference13Ideal.main_arg10)
          ∧ r.2.mem ((c.tc : Thread Cert.Reference13Ideal.nD Cert.Reference13Ideal.τ).loc Cert.Reference13Ideal.main_arg11) = m' ((c.tc : Thread Cert.Reference13Ideal.nD Cert.Reference13Ideal.τ).loc Cert.Reference13Ideal.main_arg11)
          ∧ r.2.mem ((c.tc : Thread Cert.Reference13Ideal.nD Cert.Reference13Ideal.τ).loc Cert.Reference13Ideal.main_arg12) = m' ((c.tc : Thread Cert.Reference13Ideal.nD Cert.Reference13Ideal.τ).loc Cert.Reference13Ideal.main_arg12)
          ∧ r.2.mem ((c.tc : Thread Cert.Reference13Ideal.nD Cert.Reference13Ideal.τ).loc Cert.Reference13Ideal.main_arg13) = m' ((c.tc : Thread Cert.Reference13Ideal.nD Cert.Reference13Ideal.τ).loc Cert.Reference13Ideal.main_arg13))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v10_0)) (v1 : (c : Dev Cert.Kernel14Ideal.nD) → Buf (Elt Ideal) ((c.tc : Thread Cert.Kernel14Ideal.nD Cert.Kernel14Ideal.τ).loc Cert.Kernel14Ideal.main_v10_1)) (v2 : (c : Dev Cert.Kernel14Ideal.nD) → Buf (Elt Ideal) ((c.tc : Thread Cert.Kernel14Ideal.nD Cert.Kernel14Ideal.τ).loc Cert.Kernel14Ideal.main_v10_2)) (v3 : (c : Dev Cert.Kernel14Ideal.nD) → Buf (Elt Ideal) ((c.tc : Thread Cert.Kernel14Ideal.nD Cert.Kernel14Ideal.τ).loc Cert.Kernel14Ideal.main_v10_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v10_0) = v0 c
          ∧ r.2.mem ((c.tc : Thread Cert.Kernel14Ideal.nD Cert.Kernel14Ideal.τ).loc Cert.Kernel14Ideal.main_v10_1) = v1 c
          ∧ r.2.mem ((c.tc : Thread Cert.Kernel14Ideal.nD Cert.Kernel14Ideal.τ).loc Cert.Kernel14Ideal.main_v10_2) = v2 c
          ∧ r.2.mem ((c.tc : Thread Cert.Kernel14Ideal.nD Cert.Kernel14Ideal.τ).loc Cert.Kernel14Ideal.main_v10_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v80) = v0 c
          ∧ r.2.mem ((c.tc : Thread Cert.Reference14Ideal.nD Cert.Reference14Ideal.τ).loc Cert.Reference14Ideal.main_v83) = v1 c
          ∧ r.2.mem ((c.tc : Thread Cert.Reference14Ideal.nD Cert.Reference14Ideal.τ).loc Cert.Reference14Ideal.main_v84) = v2 c
          ∧ r.2.mem ((c.tc : Thread Cert.Reference14Ideal.nD Cert.Reference14Ideal.τ).loc Cert.Reference14Ideal.main_v82) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Kernel.lean ====
abbrev S4x8192x2048 : Shape := ⟨3, ![4, 8192, 2048]⟩
abbrev S2x4x8192x128 : Shape := ⟨4, ![2, 4, 8192, 128]⟩
abbrev S3x1024 : Shape := ⟨2, ![3, 1024]⟩
abbrev S2x4x4x128x128 : Shape := ⟨5, ![2, 4, 4, 128, 128]⟩
abbrev S2x4x4x1x128 : Shape := ⟨5, ![2, 4, 4, 1, 128]⟩
abbrev S_ : Shape := ⟨0, ![]⟩
abbrev S4x1x1024 : Shape := ⟨3, ![4, 1, 1024]⟩
abbrev S4x63x1024 : Shape := ⟨3, ![4, 63, 1024]⟩
abbrev S4x64x1024 : Shape := ⟨3, ![4, 64, 1024]⟩
abbrev S4x64x1x1024 : Shape := ⟨4, ![4, 64, 1, 1024]⟩
abbrev S4x64x2x1024 : Shape := ⟨4, ![4, 64, 2, 1024]⟩
abbrev S2x4x8192x8 : Shape := ⟨4, ![2, 4, 8192, 8]⟩
abbrev S2x4x8x8192 : Shape := ⟨4, ![2, 4, 8, 8192]⟩
abbrev S2x4x8192x512 : Shape := ⟨4, ![2, 4, 8192, 512]⟩
abbrev S1x128x512 : Shape := ⟨3, ![1, 128, 512]⟩
abbrev S1x1x2x1024 : Shape := ⟨4, ![1, 1, 2, 1024]⟩
abbrev S1x1x128x128 : Shape := ⟨4, ![1, 1, 128, 128]⟩
abbrev S1x1x8x128 : Shape := ⟨4, ![1, 1, 8, 128]⟩
abbrev S1x1x4x128x128 : Shape := ⟨5, ![1, 1, 4, 128, 128]⟩
abbrev S1x1x4x1x128 : Shape := ⟨5, ![1, 1, 4, 1, 128]⟩
abbrev S1x1x128x512 : Shape := ⟨4, ![1, 1, 128, 512]⟩
abbrev S4x128x128 : Shape := ⟨3, ![4, 128, 128]⟩
abbrev S4x1x128 : Shape := ⟨3, ![4, 1, 128]⟩
abbrev S128x128 : Shape := ⟨2, ![128, 128]⟩
abbrev S128x1024 : Shape := ⟨2, ![128, 1024]⟩
abbrev S128x512 : Shape := ⟨2, ![128, 512]⟩
abbrev S1x1x1x1024 : Shape := ⟨4, ![1, 1, 1, 1024]⟩
abbrev S1x1024 : Shape := ⟨2, ![1, 1024]⟩
abbrev S8x128 : Shape := ⟨2, ![8, 128]⟩
abbrev S128x1 : Shape := ⟨2, ![128, 1]⟩
abbrev S1x128 : Shape := ⟨2, ![1, 128]⟩
abbrev S1x1 : Shape := ⟨2, ![1, 1]⟩
abbrev S1x1x1x128x128 : Shape := ⟨5, ![1, 1, 1, 128, 128]⟩
abbrev S1x1x1x1x128 : Shape := ⟨5, ![1, 1, 1, 1, 128]⟩
abbrev S128 : Shape := ⟨1, ![128]⟩
abbrev S1 : Shape := ⟨1, ![1]⟩

abbrev nBuf : Space → Nat
  | .hbm => 21
  | .vmem => 27
  | .smem => 0
  | _ => 0

abbrev bufTy : (tb : Table) → Fin (tcTables nBuf tb) → BufTy
  | .hbm, ⟨0, _⟩ => ⟨S4x8192x2048, .f32⟩
  | .hbm, ⟨1, _⟩ => ⟨S2x4x8192x128, .f32⟩
  | .hbm, ⟨2, _⟩ => ⟨S3x1024, .f32⟩
  | .hbm, ⟨3, _⟩ => ⟨S2x4x4x128x128, .f32⟩
  | .hbm, ⟨4, _⟩ => ⟨S2x4x4x1x128, .f32⟩
  | .hbm, ⟨5, _⟩ => ⟨S2x4x4x1x128, .f32⟩
  | .hbm, ⟨6, _⟩ => ⟨S_, .f32⟩
  | .hbm, ⟨7, _⟩ => ⟨S4x1x1024, .f32⟩
  | .hbm, ⟨8, _⟩ => ⟨S4x63x1024, .f32⟩
  | .hbm, ⟨9, _⟩ => ⟨S4x64x1024, .f32⟩
  | .hbm, ⟨10, _⟩ => ⟨S4x63x1024, .f32⟩
  | .hbm, ⟨11, _⟩ => ⟨S4x64x1024, .f32⟩
  | .hbm, ⟨12, _⟩ => ⟨S4x64x1x1024, .f32⟩
  | .hbm, ⟨13, _⟩ => ⟨S4x64x1x1024, .f32⟩
  | .hbm, ⟨14, _⟩ => ⟨S4x64x2x1024, .f32⟩
  | .hbm, ⟨15, _⟩ => ⟨S2x4x8192x8, .f32⟩
  | .hbm, ⟨16, _⟩ => ⟨S2x4x8x8192, .f32⟩
  | .hbm, ⟨17, _⟩ => ⟨S2x4x8192x512, .f32⟩
  | .hbm, ⟨18, _⟩ => ⟨S2x4x4x128x128, .f32⟩
  | .hbm, ⟨19, _⟩ => ⟨S2x4x4x1x128, .f32⟩
  | .hbm, ⟨20, _⟩ => ⟨S2x4x4x1x128, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x1x2x1024, .f32⟩
  | .local _ .vmem, ⟨7, _⟩ => ⟨S1x1x2x1024, .f32⟩
  | .local _ .vmem, ⟨8, _⟩ => ⟨S1x1x128x128, .f32⟩
  | .local _ .vmem, ⟨9, _⟩ => ⟨S1x1x128x128, .f32⟩
  | .local _ .vmem, ⟨10, _⟩ => ⟨S1x1x8x128, .f32⟩
  | .local _ .vmem, ⟨11, _⟩ => ⟨S1x1x8x128, .f32⟩
  | .local _ .vmem, ⟨12, _⟩ => ⟨S3x1024, .f32⟩
  | .local _ .vmem, ⟨13, _⟩ => ⟨S1x1x4x128x128, .f32⟩
  | .local _ .vmem, ⟨14, _⟩ => ⟨S1x1x4x128x128, .f32⟩
  | .local _ .vmem, ⟨15, _⟩ => ⟨S1x1x4x1x128, .f32⟩
  | .local _ .vmem, ⟨16, _⟩ => ⟨S1x1x4x1x128, .f32⟩
  | .local _ .vmem, ⟨17, _⟩ => ⟨S1x1x4x1x128, .f32⟩
  | .local _ .vmem, ⟨18, _⟩ => ⟨S1x1x4x1x128, .f32⟩
  | .local _ .vmem, ⟨19, _⟩ => ⟨S1x1x128x512, .f32⟩
  | .local _ .vmem, ⟨20, _⟩ => ⟨S1x1x128x512, .f32⟩
  | .local _ .vmem, ⟨21, _⟩ => ⟨S1x1x4x128x128, .f32⟩
  | .local _ .vmem, ⟨22, _⟩ => ⟨S1x1x4x128x128, .f32⟩
  | .local _ .vmem, ⟨23, _⟩ => ⟨S1x1x4x1x128, .f32⟩
  | .local _ .vmem, ⟨24, _⟩ => ⟨S1x1x4x1x128, .f32⟩
  | .local _ .vmem, ⟨25, _⟩ => ⟨S1x1x4x1x128, .f32⟩
  | .local _ .vmem, ⟨26, _⟩ => ⟨S1x1x4x1x128, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨3, ![2, 4, 64], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c63_i32 : BitVec 32 := 63#32
  let v1 : BitVec 32 := Scalar.subi c63_i32 v0
  let v2 : BitVec 32 := Scalar.muli arg0 v1
  let v3 : BitVec 32 := Scalar.addi arg2 v2
  let c0_i32 : BitVec 32 := 0#32
  let c0_i32_0 : BitVec 32 := 0#32
  ![arg1.toNat, v3.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c63_i32 : BitVec 32 := 63#32
  let v1 : BitVec 32 := Scalar.subi c63_i32 v0
  let v2 : BitVec 32 := Scalar.muli arg0 v1
  let v3 : BitVec 32 := Scalar.addi arg2 v2
  let c1_i32 : BitVec 32 := 1#32
  let c0_i32 : BitVec 32 := 0#32
  ![arg1.toNat, v3.toNat, c1_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c63_i32 : BitVec 32 := 63#32
  let v1 : BitVec 32 := Scalar.subi c63_i32 v0
  let v2 : BitVec 32 := Scalar.muli arg0 v1
  let v3 : BitVec 32 := Scalar.addi arg2 v2
  let c2_i32_0 : BitVec 32 := 2#32
  let c0_i32 : BitVec 32 := 0#32
  ![arg1.toNat, v3.toNat, c2_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c63_i32 : BitVec 32 := 63#32
  let v1 : BitVec 32 := Scalar.subi c63_i32 v0
  let v2 : BitVec 32 := Scalar.muli arg0 v1
  let v3 : BitVec 32 := Scalar.addi arg2 v2
  let c0_i32 : BitVec 32 := 0#32
  let c0_i32_0 : BitVec 32 := 0#32
  let c0_i32_1 : BitVec 32 := 0#32
  ![arg1.toNat, v3.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c63_i32 : BitVec 32 := 63#32
  let v1 : BitVec 32 := Scalar.subi c63_i32 v0
  let v2 : BitVec 32 := Scalar.muli arg0 v1
  let v3 : BitVec 32 := Scalar.addi arg2 v2
  let c0_i32 : BitVec 32 := 0#32
  let c0_i32_0 : BitVec 32 := 0#32
  ![arg0.toNat, arg1.toNat, v3.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c63_i32 : BitVec 32 := 63#32
  let v1 : BitVec 32 := Scalar.subi c63_i32 v0
  let v2 : BitVec 32 := Scalar.muli arg0 v1
  let v3 : BitVec 32 := Scalar.addi arg2 v2
  let c0_i32 : BitVec 32 := 0#32
  let c0_i32_0 : BitVec 32 := 0#32
  ![arg0.toNat, arg1.toNat, c0_i32.toNat, v3.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_9 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c63_i32 : BitVec 32 := 63#32
  let v1 : BitVec 32 := Scalar.subi c63_i32 v0
  let v2 : BitVec 32 := Scalar.muli arg0 v1
  let v3 : BitVec 32 := Scalar.addi arg2 v2
  let c0_i32 : BitVec 32 := 0#32
  let c0_i32_0 : BitVec 32 := 0#32
  ![arg0.toNat, arg1.toNat, v3.toNat, c0_i32.toNat]

def cc0_transform_11 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_12 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_13 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x4x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x4x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x1x4x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x1x4x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== ReferenceIdeal.lean ====
abbrev S4x8192x2048 : Shape := ⟨3, ![4, 8192, 2048]⟩
abbrev S2x4x8192x128 : Shape := ⟨4, ![2, 4, 8192, 128]⟩
abbrev S3x1024 : Shape := ⟨2, ![3, 1024]⟩
abbrev S2x4x4x128x128 : Shape := ⟨5, ![2, 4, 4, 128, 128]⟩
abbrev S2x4x4x1x128 : Shape := ⟨5, ![2, 4, 4, 1, 128]⟩
abbrev S4x8192x1024 : Shape := ⟨3, ![4, 8192, 1024]⟩
abbrev S_ : Shape := ⟨0, ![]⟩
abbrev S4x8194x1024 : Shape := ⟨3, ![4, 8194, 1024]⟩
abbrev S1x1024 : Shape := ⟨2, ![1, 1024]⟩
abbrev S1024 : Shape := ⟨1, ![1024]⟩
abbrev S1x1x1024 : Shape := ⟨3, ![1, 1, 1024]⟩
abbrev S4x8192x512 : Shape := ⟨3, ![4, 8192, 512]⟩
abbrev S4x8192x4x128 : Shape := ⟨4, ![4, 8192, 4, 128]⟩
abbrev S2x4x8192x8 : Shape := ⟨4, ![2, 4, 8192, 8]⟩
abbrev S2x4x8192x4 : Shape := ⟨4, ![2, 4, 8192, 4]⟩
abbrev S8x4x128x128 : Shape := ⟨4, ![8, 4, 128, 128]⟩
abbrev S8x4x128 : Shape := ⟨3, ![8, 4, 128]⟩
abbrev S2x4x4x1x1 : Shape := ⟨5, ![2, 4, 4, 1, 1]⟩
abbrev S2x4x4 : Shape := ⟨3, ![2, 4, 4]⟩
abbrev S8x4 : Shape := ⟨2, ![8, 4]⟩
abbrev S8x8192x4x128 : Shape := ⟨4, ![8, 8192, 4, 128]⟩
abbrev S1x4x8192x4 : Shape := ⟨4, ![1, 4, 8192, 4]⟩
abbrev S4x8192x4 : Shape := ⟨3, ![4, 8192, 4]⟩
abbrev S8x8192x4 : Shape := ⟨3, ![8, 8192, 4]⟩
abbrev S128x128 : Shape := ⟨2, ![128, 128]⟩
abbrev S8x64x128x4x128 : Shape := ⟨5, ![8, 64, 128, 4, 128]⟩
abbrev S64x8x4x128x128 : Shape := ⟨5, ![64, 8, 4, 128, 128]⟩
abbrev S8x64x128x4 : Shape := ⟨4, ![8, 64, 128, 4]⟩
abbrev S64x8x4x128 : Shape := ⟨4, ![64, 8, 4, 128]⟩
abbrev S1x8x4x128x128 : Shape := ⟨5, ![1, 8, 4, 128, 128]⟩
abbrev S1x8x4x128 : Shape := ⟨4, ![1, 8, 4, 128]⟩
abbrev S8x4x128x1 : Shape := ⟨4, ![8, 4, 128, 1]⟩
abbrev S8x4x1x128 : Shape := ⟨4, ![8, 4, 1, 128]⟩
abbrev S8x4x1 : Shape := ⟨3, ![8, 4, 1]⟩
abbrev S8x4x1x1 : Shape := ⟨4, ![8, 4, 1, 1]⟩
abbrev S1x4x8192x4x128 : Shape := ⟨5, ![1, 4, 8192, 4, 128]⟩
abbrev S2x4x8192x4x128 : Shape := ⟨5, ![2, 4, 8192, 4, 128]⟩
abbrev S2x4x8192x512 : Shape := ⟨4, ![2, 4, 8192, 512]⟩

abbrev nBuf : Space → Nat
  | .hbm => 254
  | .vmem => 0
  | .smem => 0
  | _ => 0

abbrev hbmTy0_0 (i : Nat) : BufTy := match i % 128 with
  | 0 => ⟨S4x8192x2048, .f32⟩
  | 1 => ⟨S2x4x8192x128, .f32⟩
  | 2 => ⟨S3x1024, .f32⟩
  | 3 => ⟨S2x4x4x128x128, .f32⟩
  | 4 => ⟨S2x4x4x1x128, .f32⟩
  | 5 => ⟨S2x4x4x1x128, .f32⟩
  | 6 => ⟨S4x8192x1024, .f32⟩
  | 7 => ⟨S_, .i32⟩
  | 8 => ⟨S_, .f32⟩
  | 9 => ⟨S4x8194x1024, .f32⟩
  | 10 => ⟨S4x8192x1024, .f32⟩
  | 11 => ⟨S1x1024, .f32⟩
  | 12 => ⟨S1024, .f32⟩
  | 13 => ⟨S1x1x1024, .f32⟩
  | 14 => ⟨S4x8192x1024, .f32⟩
  | 15 => ⟨S4x8192x1024, .f32⟩
  | 16 => ⟨S4x8192x1024, .f32⟩
  | 17 => ⟨S1x1024, .f32⟩
  | 18 => ⟨S1024, .f32⟩
  | 19 => ⟨S1x1x1024, .f32⟩
  | 20 => ⟨S4x8192x1024, .f32⟩
  | 21 => ⟨S4x8192x1024, .f32⟩
  | 22 => ⟨S4x8192x1024, .f32⟩
  | 23 => ⟨S4x8192x1024, .f32⟩
  | 24 => ⟨S1x1024, .f32⟩
  | 25 => ⟨S1024, .f32⟩
  | 26 => ⟨S1x1x1024, .f32⟩
  | 27 => ⟨S4x8192x1024, .f32⟩
  | 28 => ⟨S4x8192x1024, .f32⟩
  | 29 => ⟨S4x8192x1024, .f32⟩
  | 30 => ⟨S4x8192x1024, .f32⟩
  | 31 => ⟨S4x8192x1024, .f32⟩
  | 32 => ⟨S_, .f32⟩
  | 33 => ⟨S4x8192x1024, .f32⟩
  | 34 => ⟨S4x8192x1024, .f32⟩
  | 35 => ⟨S_, .f32⟩
  | 36 => ⟨S4x8192x1024, .f32⟩
  | 37 => ⟨S4x8192x1024, .f32⟩
  | 38 => ⟨S4x8192x1024, .f32⟩
  | 39 => ⟨S4x8192x512, .f32⟩
  | 40 => ⟨S4x8192x4x128, .f32⟩
  | 41 => ⟨S4x8192x512, .f32⟩
  | 42 => ⟨S4x8192x4x128, .f32⟩
  | 43 => ⟨S_, .f32⟩
  | 44 => ⟨S4x8192x4x128, .f32⟩
  | 45 => ⟨S4x8192x4x128, .f32⟩
  | 46 => ⟨S4x8192x512, .f32⟩
  | 47 => ⟨S4x8192x4x128, .f32⟩
  | 48 => ⟨S2x4x8192x8, .f32⟩
  | 49 => ⟨S2x4x8192x4, .f32⟩
  | 50 => ⟨S2x4x8192x4, .f32⟩
  | 51 => ⟨S2x4x8192x4, .f32⟩
  | 52 => ⟨S_, .f32⟩
  | 53 => ⟨S2x4x8192x4, .f32⟩
  | 54 => ⟨S2x4x8192x4, .f32⟩
  | 55 => ⟨S2x4x8192x4, .f32⟩
  | 56 => ⟨S2x4x8192x4, .f32⟩
  | 57 => ⟨S2x4x8192x4, .i1⟩
  | 58 => ⟨S2x4x8192x4, .f32⟩
  | 59 => ⟨S2x4x8192x4, .f32⟩
  | 60 => ⟨S2x4x8192x4, .f32⟩
  | 61 => ⟨S2x4x8192x4, .f32⟩
  | 62 => ⟨S2x4x8192x4, .f32⟩
  | 63 => ⟨S2x4x8192x4, .f32⟩
  | 64 => ⟨S2x4x8192x4, .f32⟩
  | 65 => ⟨S2x4x8192x4, .f32⟩
  | 66 => ⟨S2x4x8192x4, .f32⟩
  | 67 => ⟨S8x4x128x128, .f32⟩
  | 68 => ⟨S8x4x128, .f32⟩
  | 69 => ⟨S2x4x4x1x1, .f32⟩
  | 70 => ⟨S2x4x4, .f32⟩
  | 71 => ⟨S8x4, .f32⟩
  | 72 => ⟨S4x8192x4x128, .f32⟩
  | 73 => ⟨S8x8192x4x128, .f32⟩
  | 74 => ⟨S4x8192x4x128, .f32⟩
  | 75 => ⟨S8x8192x4x128, .f32⟩
  | 76 => ⟨S4x8192x4x128, .f32⟩
  | 77 => ⟨S8x8192x4x128, .f32⟩
  | 78 => ⟨S1x4x8192x4, .f32⟩
  | 79 => ⟨S4x8192x4, .f32⟩
  | 80 => ⟨S1x4x8192x4, .f32⟩
  | 81 => ⟨S4x8192x4, .f32⟩
  | 82 => ⟨S4x8192x4, .f32⟩
  | 83 => ⟨S8x8192x4, .f32⟩
  | 84 => ⟨S1x4x8192x4, .f32⟩
  | 85 => ⟨S4x8192x4, .f32⟩
  | 86 => ⟨S1x4x8192x4, .f32⟩
  | 87 => ⟨S4x8192x4, .f32⟩
  | 88 => ⟨S4x8192x4, .f32⟩
  | 89 => ⟨S8x8192x4, .f32⟩
  | 90 => ⟨S_, .i1⟩
  | 91 => ⟨S128x128, .i1⟩
  | 92 => ⟨S128x128, .i32⟩
  | 93 => ⟨S_, .i32⟩
  | 94 => ⟨S128x128, .i32⟩
  | 95 => ⟨S128x128, .i32⟩
  | 96 => ⟨S128x128, .i32⟩
  | 97 => ⟨S128x128, .i1⟩
  | 98 => ⟨S_, .i1⟩
  | 99 => ⟨S128x128, .i1⟩
  | 100 => ⟨S128x128, .i1⟩
  | 101 => ⟨S8x64x128x4x128, .f32⟩
  | 102 => ⟨S64x8x4x128x128, .f32⟩
  | 103 => ⟨S8x64x128x4x128, .f32⟩
  | 104 => ⟨S64x8x4x128x128, .f32⟩
  | 105 => ⟨S8x64x128x4x128, .f32⟩
  | 106 => ⟨S64x8x4x128x128, .f32⟩
  | 107 => ⟨S8x64x128x4, .f32⟩
  | 108 => ⟨S64x8x4x128, .f32⟩
  | 109 => ⟨S8x64x128x4, .f32⟩
  | 110 => ⟨S64x8x4x128, .f32⟩
  | 111 => ⟨S_, .f32⟩
  | 112 => ⟨S64x8x4x128x128, .f32⟩
  | 113 => ⟨S_, .i32⟩
  | 114 => ⟨S64x8x4x128x128, .f32⟩
  | 115 => ⟨S64x8x4x128x128, .f32⟩
  | 116 => ⟨S64x8x4x128x128, .f32⟩
  | 117 => ⟨S64x8x4x128, .f32⟩
  | 118 => ⟨S64x8x4x128, .f32⟩
  | 119 => ⟨S128x128, .i1⟩
  | 120 => ⟨S_, .i32⟩
  | 121 => ⟨S8x4x128x128, .f32⟩
  | 122 => ⟨S8x4x128, .f32⟩
  | 123 => ⟨S8x4, .f32⟩
  | 124 => ⟨S64x8x4x128x128, .f32⟩
  | 125 => ⟨S_, .i32⟩
  | 126 => ⟨S_, .i1⟩
  | 127 => ⟨S_, .i32⟩
  | _ => ⟨S4x8192x2048, .f32⟩

abbrev hbmTy0_1 (i : Nat) : BufTy := match i % 128 with
  | 0 => ⟨S_, .i32⟩
  | 1 => ⟨S_, .i32⟩
  | 2 => ⟨S_, .i32⟩
  | 3 => ⟨S1x8x4x128x128, .f32⟩
  | 4 => ⟨S8x4x128x128, .f32⟩
  | 5 => ⟨S_, .i32⟩
  | 6 => ⟨S_, .i32⟩
  | 7 => ⟨S_, .i32⟩
  | 8 => ⟨S_, .i32⟩
  | 9 => ⟨S1x8x4x128x128, .f32⟩
  | 10 => ⟨S8x4x128x128, .f32⟩
  | 11 => ⟨S_, .i32⟩
  | 12 => ⟨S_, .i32⟩
  | 13 => ⟨S_, .i32⟩
  | 14 => ⟨S_, .i32⟩
  | 15 => ⟨S1x8x4x128x128, .f32⟩
  | 16 => ⟨S8x4x128x128, .f32⟩
  | 17 => ⟨S_, .i32⟩
  | 18 => ⟨S_, .i32⟩
  | 19 => ⟨S_, .i32⟩
  | 20 => ⟨S1x8x4x128, .f32⟩
  | 21 => ⟨S8x4x128, .f32⟩
  | 22 => ⟨S_, .i32⟩
  | 23 => ⟨S_, .i32⟩
  | 24 => ⟨S_, .i32⟩
  | 25 => ⟨S1x8x4x128, .f32⟩
  | 26 => ⟨S8x4x128, .f32⟩
  | 27 => ⟨S_, .f32⟩
  | 28 => ⟨S_, .f32⟩
  | 29 => ⟨S8x4x128, .f32⟩
  | 30 => ⟨S8x4x128x1, .f32⟩
  | 31 => ⟨S8x4x1x128, .f32⟩
  | 32 => ⟨S8x4x128x128, .f32⟩
  | 33 => ⟨S8x4x128x128, .f32⟩
  | 34 => ⟨S8x4x128x128, .f32⟩
  | 35 => ⟨S8x4x1x128, .f32⟩
  | 36 => ⟨S8x4x128x128, .f32⟩
  | 37 => ⟨S8x4x128x128, .f32⟩
  | 38 => ⟨S_, .f32⟩
  | 39 => ⟨S_, .f32⟩
  | 40 => ⟨S8x4x128x128, .i1⟩
  | 41 => ⟨S8x4x128x128, .f32⟩
  | 42 => ⟨S8x4x128x128, .f32⟩
  | 43 => ⟨S8x4x1, .f32⟩
  | 44 => ⟨S8x4x128, .f32⟩
  | 45 => ⟨S8x4x128, .f32⟩
  | 46 => ⟨S_, .f32⟩
  | 47 => ⟨S8x4x128, .f32⟩
  | 48 => ⟨S8x4x128, .f32⟩
  | 49 => ⟨S8x4x128x128, .f32⟩
  | 50 => ⟨S8x4x128x1, .f32⟩
  | 51 => ⟨S8x4x128x128, .f32⟩
  | 52 => ⟨S8x4x128x128, .f32⟩
  | 53 => ⟨S8x4x128x128, .f32⟩
  | 54 => ⟨S8x4x128x128, .f32⟩
  | 55 => ⟨S8x4x128, .f32⟩
  | 56 => ⟨S8x4x128, .f32⟩
  | 57 => ⟨S8x4x128x128, .f32⟩
  | 58 => ⟨S8x4x128x1, .f32⟩
  | 59 => ⟨S8x4x128x128, .f32⟩
  | 60 => ⟨S8x4x128x128, .f32⟩
  | 61 => ⟨S8x4x128x128, .f32⟩
  | 62 => ⟨S8x4x128x128, .f32⟩
  | 63 => ⟨S_, .f32⟩
  | 64 => ⟨S8x4x128, .f32⟩
  | 65 => ⟨S8x4x128, .f32⟩
  | 66 => ⟨S8x4x128, .f32⟩
  | 67 => ⟨S8x4x128, .f32⟩
  | 68 => ⟨S8x4x128, .f32⟩
  | 69 => ⟨S8x4x128, .f32⟩
  | 70 => ⟨S8x4x128, .f32⟩
  | 71 => ⟨S8x4x128, .f32⟩
  | 72 => ⟨S8x4x128x1, .f32⟩
  | 73 => ⟨S8x4x128x128, .f32⟩
  | 74 => ⟨S8x4x128x128, .f32⟩
  | 75 => ⟨S8x4x1, .f32⟩
  | 76 => ⟨S8x4, .f32⟩
  | 77 => ⟨S8x4x1, .f32⟩
  | 78 => ⟨S8x4x128, .f32⟩
  | 79 => ⟨S8x4x128, .f32⟩
  | 80 => ⟨S8x4x128, .f32⟩
  | 81 => ⟨S8x4, .f32⟩
  | 82 => ⟨S_, .f32⟩
  | 83 => ⟨S8x4, .f32⟩
  | 84 => ⟨S8x4, .f32⟩
  | 85 => ⟨S8x4x1, .f32⟩
  | 86 => ⟨S8x4x128, .f32⟩
  | 87 => ⟨S8x4x128, .f32⟩
  | 88 => ⟨S8x4x128, .f32⟩
  | 89 => ⟨S8x4, .f32⟩
  | 90 => ⟨S8x4, .f32⟩
  | 91 => ⟨S8x4, .f32⟩
  | 92 => ⟨S8x4x1x1, .f32⟩
  | 93 => ⟨S8x4x128x128, .f32⟩
  | 94 => ⟨S8x4x128x128, .f32⟩
  | 95 => ⟨S8x4x128x1, .f32⟩
  | 96 => ⟨S8x4x128x128, .f32⟩
  | 97 => ⟨S8x4x128x128, .f32⟩
  | 98 => ⟨S8x4x128x128, .f32⟩
  | 99 => ⟨S8x4x128x128, .f32⟩
  | 100 => ⟨S8x4x1, .f32⟩
  | 101 => ⟨S8x4x128, .f32⟩
  | 102 => ⟨S8x4x128, .f32⟩
  | 103 => ⟨S8x4x128, .f32⟩
  | 104 => ⟨S8x4x128, .f32⟩
  | 105 => ⟨S1x8x4x128x128, .f32⟩
  | 106 => ⟨S_, .i32⟩
  | 107 => ⟨S_, .i32⟩
  | 108 => ⟨S_, .i32⟩
  | 109 => ⟨S_, .i32⟩
  | 110 => ⟨S64x8x4x128x128, .f32⟩
  | 111 => ⟨S_, .i32⟩
  | 112 => ⟨S_, .i32⟩
  | 113 => ⟨S8x64x128x4x128, .f32⟩
  | 114 => ⟨S8x8192x4x128, .f32⟩
  | 115 => ⟨S4x8192x4x128, .f32⟩
  | 116 => ⟨S4x8192x4x128, .f32⟩
  | 117 => ⟨S4x8192x4x128, .f32⟩
  | 118 => ⟨S1x4x8192x4x128, .f32⟩
  | 119 => ⟨S1x4x8192x4x128, .f32⟩
  | 120 => ⟨S2x4x8192x4x128, .f32⟩
  | 121 => ⟨S2x4x8192x512, .f32⟩
  | 122 => ⟨S2x4x4x1x1, .f32⟩
  | 123 => ⟨S2x4x4x1x128, .f32⟩
  | 124 => ⟨S2x4x4x128x128, .f32⟩
  | 125 => ⟨S2x4x4x1x128, .f32⟩
  | _ => ⟨S4x8192x2048, .f32⟩

abbrev hbmTy (i : Nat) : BufTy := match i / 128 with
  | 0 => hbmTy0_0 i
  | 1 => hbmTy0_1 i
  | _ => ⟨S4x8192x2048, .f32⟩

abbrev bufTy : (tb : Table) → Fin (tcTables nBuf tb) → BufTy
  | .hbm, ⟨i, _⟩ => hbmTy i
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call2_v0 : Ref sig .tc := ⟨.hbm, 51, rfl⟩
abbrev main_call2_call0_cst : Ref sig .tc := ⟨.hbm, 52, rfl⟩
abbrev main_call2_call0_v0 : Ref sig .tc := ⟨.hbm, 53, rfl⟩
abbrev main_call2_call0_v1 : Ref sig .tc := ⟨.hbm, 54, rfl⟩
abbrev main_call2_call0_v2 : Ref sig .tc := ⟨.hbm, 55, rfl⟩
abbrev main_call2_call0_v3 : Ref sig .tc := ⟨.hbm, 56, rfl⟩
abbrev main_call2_call0_v4 : Ref sig .tc := ⟨.hbm, 57, rfl⟩
abbrev main_call2_call0_v5 : Ref sig .tc := ⟨.hbm, 58, rfl⟩
abbrev main_call2_call0_v6 : Ref sig .tc := ⟨.hbm, 59, rfl⟩
abbrev main_call2_call0_v7 : Ref sig .tc := ⟨.hbm, 60, rfl⟩
abbrev main_call2_call0_v8 : Ref sig .tc := ⟨.hbm, 61, rfl⟩
abbrev main_call2_call0_v9 : Ref sig .tc := ⟨.hbm, 62, rfl⟩
abbrev main_call2_call0_v10 : Ref sig .tc := ⟨.hbm, 63, rfl⟩
abbrev main_call2_call0_v11 : Ref sig .tc := ⟨.hbm, 64, rfl⟩
abbrev main_call2_v1 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_0 : Ref sig .tc := ⟨.hbm, 90, rfl⟩
abbrev main_v58 : Ref sig .tc := ⟨.hbm, 91, rfl⟩
abbrev main_call8_v0 : Ref sig .tc := ⟨.hbm, 92, rfl⟩
abbrev main_call8_c : Ref sig .tc := ⟨.hbm, 93, rfl⟩
abbrev main_call8_v1 : Ref sig .tc := ⟨.hbm, 94, rfl⟩
abbrev main_call8_v2 : Ref sig .tc := ⟨.hbm, 95, rfl⟩
abbrev main_call8_v3 : Ref sig .tc := ⟨.hbm, 96, rfl⟩
abbrev main_call8_v4 : Ref sig .tc := ⟨.hbm, 97, rfl⟩
abbrev main_call8_c_0 : Ref sig .tc := ⟨.hbm, 98, rfl⟩
abbrev main_call8_v5 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_1 : Ref sig .tc := ⟨.hbm, 111, rfl⟩
abbrev main_v70 : Ref sig .tc := ⟨.hbm, 112, rfl⟩
abbrev main_c_2 : Ref sig .tc := ⟨.hbm, 113, rfl⟩
abbrev main_v71_0 : Ref sig .tc := ⟨.hbm, 114, rfl⟩
abbrev main_v71_1 : Ref sig .tc := ⟨.hbm, 115, rfl⟩
abbrev main_v71_2 : Ref sig .tc := ⟨.hbm, 116, rfl⟩
abbrev main_v71_3 : Ref sig .tc := ⟨.hbm, 117, rfl⟩
abbrev main_v71_4 : Ref sig .tc := ⟨.hbm, 118, rfl⟩
abbrev main_v71_5 : Ref sig .tc := ⟨.hbm, 119, rfl⟩
abbrev main_v71_6 : Ref sig .tc := ⟨.hbm, 120, rfl⟩
abbrev main_v71_7 : Ref sig .tc := ⟨.hbm, 121, rfl⟩
abbrev main_v71_8 : Ref sig .tc := ⟨.hbm, 122, rfl⟩
abbrev main_v71_9 : Ref sig .tc := ⟨.hbm, 123, rfl⟩
abbrev main_v71_10 : Ref sig .tc := ⟨.hbm, 124, rfl⟩
abbrev main_while0c_c_13 : Ref sig .tc := ⟨.hbm, 125, rfl⟩
abbrev main_while0c_v85 : Ref sig .tc := ⟨.hbm, 126, rfl⟩
abbrev main_while0b_call9_c : Ref sig .tc := ⟨.hbm, 127, rfl⟩
abbrev main_while0b_call9_c_0 : Ref sig .tc := ⟨.hbm, 128, rfl⟩
abbrev main_while0b_call9_c_1 : Ref sig .tc := ⟨.hbm, 129, rfl⟩
abbrev main_while0b_call9_c_2 : Ref sig .tc := ⟨.hbm, 130, rfl⟩
abbrev main_while0b_call9_v0 : Ref sig .tc := ⟨.hbm, 131, rfl⟩
abbrev main_while0b_v85 : Ref sig .tc := ⟨.hbm, 132, rfl⟩
abbrev main_while0b_call10_c : Ref sig .tc := ⟨.hbm, 133, rfl⟩
abbrev main_while0b_call10_c_0 : Ref sig .tc := ⟨.hbm, 134, rfl⟩
abbrev main_while0b_call10_c_1 : Ref sig .tc := ⟨.hbm, 135, rfl⟩
abbrev main_while0b_call10_c_2 : Ref sig .tc := ⟨.hbm, 136, rfl⟩
abbrev main_while0b_call10_v0 : Ref sig .tc := ⟨.hbm, 137, rfl⟩
abbrev main_while0b_v86 : Ref sig .tc := ⟨.hbm, 138, rfl⟩
abbrev main_while0b_call11_c : Ref sig .tc := ⟨.hbm, 139, rfl⟩
abbrev main_while0b_call11_c_0 : Ref sig .tc := ⟨.hbm, 140, rfl⟩
abbrev main_while0b_call11_c_1 : Ref sig .tc := ⟨.hbm, 141, rfl⟩
abbrev main_while0b_call11_c_2 : Ref sig .tc := ⟨.hbm, 142, rfl⟩
abbrev main_while0b_call11_v0 : Ref sig .tc := ⟨.hbm, 143, rfl⟩
abbrev main_while0b_v87 : Ref sig .tc := ⟨.hbm, 144, rfl⟩
abbrev main_while0b_call12_c : Ref sig .tc := ⟨.hbm, 145, rfl⟩
abbrev main_while0b_call12_c_0 : Ref sig .tc := ⟨.hbm, 146, rfl⟩
abbrev main_while0b_call12_c_1 : Ref sig .tc := ⟨.hbm, 147, rfl⟩
abbrev main_while0b_call12_v0 : Ref sig .tc := ⟨.hbm, 148, rfl⟩
abbrev main_while0b_v88 : Ref sig .tc := ⟨.hbm, 149, rfl⟩
abbrev main_while0b_call13_c : Ref sig .tc := ⟨.hbm, 150, rfl⟩
abbrev main_while0b_call13_c_0 : Ref sig .tc := ⟨.hbm, 151, rfl⟩
abbrev main_while0b_call13_c_1 : Ref sig .tc := ⟨.hbm, 152, rfl⟩
abbrev main_while0b_call13_v0 : Ref sig .tc := ⟨.hbm, 153, rfl⟩
abbrev main_while0b_v89 : Ref sig .tc := ⟨.hbm, 154, rfl⟩
abbrev main_while0b_call14_call0_cst : Ref sig .tc := ⟨.hbm, 155, rfl⟩
abbrev main_while0b_call14_call0_v0 : Ref sig .tc := ⟨.hbm, 156, rfl⟩
abbrev main_while0b_v90 : Ref sig .tc := ⟨.hbm, 157, rfl⟩
abbrev main_while0b_v91 : Ref sig .tc := ⟨.hbm, 158, rfl⟩
abbrev main_while0b_v92 : Ref sig .tc := ⟨.hbm, 159, rfl⟩
abbrev main_while0b_v93 : Ref sig .tc := ⟨.hbm, 160, rfl⟩
abbrev main_while0b_v94 : Ref sig .tc := ⟨.hbm, 161, rfl⟩
abbrev main_while0b_v95 : Ref sig .tc := ⟨.hbm, 162, rfl⟩
abbrev main_while0b_v96 : Ref sig .tc := ⟨.hbm, 163, rfl⟩
abbrev main_while0b_v97 : Ref sig .tc := ⟨.hbm, 164, rfl⟩
abbrev main_while0b_v98 : Ref sig .tc := ⟨.hbm, 165, rfl⟩
abbrev main_while0b_cst_13 : Ref sig .tc := ⟨.hbm, 166, rfl⟩
abbrev main_while0b_call15_v0 : Ref sig .tc := ⟨.hbm, 167, rfl⟩
abbrev main_while0b_call15_v1 : Ref sig .tc := ⟨.hbm, 168, rfl⟩
abbrev main_while0b_call15_v2 : Ref sig .tc := ⟨.hbm, 169, rfl⟩
abbrev main_while0b_v99 : Ref sig .tc := ⟨.hbm, 170, rfl⟩
abbrev main_while0b_v100 : Ref sig .tc := ⟨.hbm, 171, rfl⟩
abbrev main_while0b_v101 : Ref sig .tc := ⟨.hbm, 172, rfl⟩
abbrev main_while0b_v102 : Ref sig .tc := ⟨.hbm, 173, rfl⟩
abbrev main_while0b_cst_14 : Ref sig .tc := ⟨.hbm, 174, rfl⟩
abbrev main_while0b_v103 : Ref sig .tc := ⟨.hbm, 175, rfl⟩
abbrev main_while0b_v104 : Ref sig .tc := ⟨.hbm, 176, rfl⟩
abbrev main_while0b_v105 : Ref sig .tc := ⟨.hbm, 177, rfl⟩
abbrev main_while0b_v106 : Ref sig .tc := ⟨.hbm, 178, rfl⟩
abbrev main_while0b_v107 : Ref sig .tc := ⟨.hbm, 179, rfl⟩
abbrev main_while0b_v108 : Ref sig .tc := ⟨.hbm, 180, rfl⟩
abbrev main_while0b_v109 : Ref sig .tc := ⟨.hbm, 181, rfl⟩
abbrev main_while0b_v110 : Ref sig .tc := ⟨.hbm, 182, rfl⟩
abbrev main_while0b_v111 : Ref sig .tc := ⟨.hbm, 183, rfl⟩
abbrev main_while0b_v112 : Ref sig .tc := ⟨.hbm, 184, rfl⟩
abbrev main_while0b_v113 : Ref sig .tc := ⟨.hbm, 185, rfl⟩
abbrev main_while0b_v114 : Ref sig .tc := ⟨.hbm, 186, rfl⟩
abbrev main_while0b_v115 : Ref sig .tc := ⟨.hbm, 187, rfl⟩
abbrev main_while0b_v116 : Ref sig .tc := ⟨.hbm, 188, rfl⟩
abbrev main_while0b_v117 : Ref sig .tc := ⟨.hbm, 189, rfl⟩
abbrev main_while0b_v118 : Ref sig .tc := ⟨.hbm, 190, rfl⟩
abbrev main_while0b_cst_15 : Ref sig .tc := ⟨.hbm, 191, rfl⟩
abbrev main_while0b_v119 : Ref sig .tc := ⟨.hbm, 192, rfl⟩
abbrev main_while0b_v120 : Ref sig .tc := ⟨.hbm, 193, rfl⟩
abbrev main_while0b_v121 : Ref sig .tc := ⟨.hbm, 194, rfl⟩
abbrev main_while0b_v122 : Ref sig .tc := ⟨.hbm, 195, rfl⟩
abbrev main_while0b_v123 : Ref sig .tc := ⟨.hbm, 196, rfl⟩
abbrev main_while0b_v124 : Ref sig .tc := ⟨.hbm, 197, rfl⟩
abbrev main_while0b_v125 : Ref sig .tc := ⟨.hbm, 198, rfl⟩
abbrev main_while0b_v126 : Ref sig .tc := ⟨.hbm, 199, rfl⟩
abbrev main_while0b_v127 : Ref sig .tc := ⟨.hbm, 200, rfl⟩
abbrev main_while0b_v128 : Ref sig .tc := ⟨.hbm, 201, rfl⟩
abbrev main_while0b_v129 : Ref sig .tc := ⟨.hbm, 202, rfl⟩
abbrev main_while0b_v130 : Ref sig .tc := ⟨.hbm, 203, rfl⟩
abbrev main_while0b_v131 : Ref sig .tc := ⟨.hbm, 204, rfl⟩
abbrev main_while0b_v132 : Ref sig .tc := ⟨.hbm, 205, rfl⟩
abbrev main_while0b_v133 : Ref sig .tc := ⟨.hbm, 206, rfl⟩
abbrev main_while0b_v134 : Ref sig .tc := ⟨.hbm, 207, rfl⟩
abbrev main_while0b_v135 : Ref sig .tc := ⟨.hbm, 208, rfl⟩
abbrev main_while0b_v136 : Ref sig .tc := ⟨.hbm, 209, rfl⟩
abbrev main_while0b_cst_16 : Ref sig .tc := ⟨.hbm, 210, rfl⟩
abbrev main_while0b_v137 : Ref sig .tc := ⟨.hbm, 211, rfl⟩
abbrev main_while0b_v138 : Ref sig .tc := ⟨.hbm, 212, rfl⟩
abbrev main_while0b_v139 : Ref sig .tc := ⟨.hbm, 213, rfl⟩
abbrev main_while0b_v140 : Ref sig .tc := ⟨.hbm, 214, rfl⟩
abbrev main_while0b_v141 : Ref sig .tc := ⟨.hbm, 215, rfl⟩
abbrev main_while0b_v142 : Ref sig .tc := ⟨.hbm, 216, rfl⟩
abbrev main_while0b_v143 : Ref sig .tc := ⟨.hbm, 217, rfl⟩
abbrev main_while0b_v144 : Ref sig .tc := ⟨.hbm, 218, rfl⟩
abbrev main_while0b_v145 : Ref sig .tc := ⟨.hbm, 219, rfl⟩
abbrev main_while0b_v146 : Ref sig .tc := ⟨.hbm, 220, rfl⟩
abbrev main_while0b_v147 : Ref sig .tc := ⟨.hbm, 221, rfl⟩
abbrev main_while0b_v148 : Ref sig .tc := ⟨.hbm, 222, rfl⟩
abbrev main_while0b_v149 : Ref sig .tc := ⟨.hbm, 223, rfl⟩
abbrev main_while0b_v150 : Ref sig .tc := ⟨.hbm, 224, rfl⟩
abbrev main_while0b_v151 : Ref sig .tc := ⟨.hbm, 225, rfl⟩
abbrev main_while0b_v152 : Ref sig .tc := ⟨.hbm, 226, rfl⟩
abbrev main_while0b_v153 : Ref sig .tc := ⟨.hbm, 227, rfl⟩
abbrev main_while0b_v154 : Ref sig .tc := ⟨.hbm, 228, rfl⟩
abbrev main_while0b_v155 : Ref sig .tc := ⟨.hbm, 229, rfl⟩
abbrev main_while0b_v156 : Ref sig .tc := ⟨.hbm, 230, rfl⟩
abbrev main_while0b_v157 : Ref sig .tc := ⟨.hbm, 231, rfl⟩
abbrev main_while0b_v158 : Ref sig .tc := ⟨.hbm, 232, rfl⟩
abbrev main_while0b_call16_v0 : Ref sig .tc := ⟨.hbm, 233, rfl⟩
abbrev main_while0b_call16_c : Ref sig .tc := ⟨.hbm, 234, rfl⟩
abbrev main_while0b_call16_c_0 : Ref sig .tc := ⟨.hbm, 235, rfl⟩
abbrev main_while0b_call16_c_1 : Ref sig .tc := ⟨.hbm, 236, rfl⟩
abbrev main_while0b_call16_c_2 : Ref sig .tc := ⟨.hbm, 237, rfl⟩
abbrev main_while0b_v159 : Ref sig .tc := ⟨.hbm, 238, rfl⟩
abbrev main_while0b_c_17 : Ref sig .tc := ⟨.hbm, 239, rfl⟩
abbrev main_while0b_v160 : Ref sig .tc := ⟨.hbm, 240, rfl⟩
abbrev main_v72 : Ref sig .tc := ⟨.hbm, 241, rfl⟩
abbrev main_v73 : Ref sig .tc := ⟨.hbm, 242, rfl⟩
abbrev main_v74 : Ref sig .tc := ⟨.hbm, 243, rfl⟩
abbrev main_v75 : Ref sig .tc := ⟨.hbm, 244, rfl⟩
abbrev main_v76 : Ref sig .tc := ⟨.hbm, 245, rfl⟩
abbrev main_v77 : Ref sig .tc := ⟨.hbm, 246, rfl⟩
abbrev main_v78 : Ref sig .tc := ⟨.hbm, 247, rfl⟩
abbrev main_v79 : Ref sig .tc := ⟨.hbm, 248, rfl⟩
abbrev main_v80 : Ref sig .tc := ⟨.hbm, 249, rfl⟩
abbrev main_v81 : Ref sig .tc := ⟨.hbm, 250, rfl⟩
abbrev main_v82 : Ref sig .tc := ⟨.hbm, 251, rfl⟩
abbrev main_v83 : Ref sig .tc := ⟨.hbm, 252, rfl⟩
abbrev main_v84 : Ref sig .tc := ⟨.hbm, 253, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4x8192x1024 : Shape := ⟨3, ![4, 8192, 1024]⟩
abbrev S4x1x1024 : Shape := ⟨3, ![4, 1, 1024]⟩
abbrev S1x1024 : Shape := ⟨2, ![1, 1024]⟩
abbrev S2x4x8192x512 : Shape := ⟨4, ![2, 4, 8192, 512]⟩
abbrev S4x8192x2048 : Shape := ⟨3, ![4, 8192, 2048]⟩
abbrev S1x512 : Shape := ⟨2, ![1, 512]⟩
abbrev S4x8192x512 : Shape := ⟨3, ![4, 8192, 512]⟩
abbrev S1024x3072 : Shape := ⟨2, ![1024, 3072]⟩
abbrev S1x3072 : Shape := ⟨2, ![1, 3072]⟩
abbrev S3x512x1024 : Shape := ⟨3, ![3, 512, 1024]⟩
abbrev S1024x1024 : Shape := ⟨2, ![1024, 1024]⟩
abbrev S1x256x1024 : Shape := ⟨3, ![1, 256, 1024]⟩
abbrev S1x1x1024 : Shape := ⟨3, ![1, 1, 1024]⟩
abbrev S1x1x256x512 : Shape := ⟨4, ![1, 1, 256, 512]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S256x128 : Shape := ⟨2, ![256, 128]⟩
abbrev S1x512x1024 : Shape := ⟨3, ![1, 512, 1024]⟩
abbrev S512x1024 : Shape := ⟨2, ![512, 1024]⟩

abbrev nBuf : Space → Nat
  | .hbm => 18
  | .vmem => 26
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S1x1024, .f32⟩
  | .hbm, ⟨5, _⟩ => ⟨S2x4x8192x512, .f32⟩
  | .hbm, ⟨6, _⟩ => ⟨S4x8192x2048, .f32⟩
  | .hbm, ⟨7, _⟩ => ⟨S1x512, .f32⟩
  | .hbm, ⟨8, _⟩ => ⟨S4x8192x512, .f32⟩
  | .hbm, ⟨9, _⟩ => ⟨S4x8192x512, .f32⟩
  | .hbm, ⟨10, _⟩ => ⟨S1024x3072, .f32⟩
  | .hbm, ⟨11, _⟩ => ⟨S1x3072, .f32⟩
  | .hbm, ⟨12, _⟩ => ⟨S3x512x1024, .f32⟩
  | .hbm, ⟨13, _⟩ => ⟨S1024x1024, .f32⟩
  | .hbm, ⟨14, _⟩ => ⟨S1024x3072, .bf16⟩
  | .hbm, ⟨15, _⟩ => ⟨S3x512x1024, .bf16⟩
  | .hbm, ⟨16, _⟩ => ⟨S1024x1024, .bf16⟩
  | .hbm, ⟨17, _⟩ => ⟨S4x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1x256x512, .f32⟩
  | .local _ .vmem, ⟨10, _⟩ => ⟨S1x1x256x512, .f32⟩
  | .local _ .vmem, ⟨11, _⟩ => ⟨S1x1x256x512, .f32⟩
  | .local _ .vmem, ⟨12, _⟩ => ⟨S1x1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1024x3072, .bf16⟩
  | .local _ .vmem, ⟨21, _⟩ => ⟨S1x3072, .f32⟩
  | .local _ .vmem, ⟨22, _⟩ => ⟨S3x512x1024, .bf16⟩
  | .local _ .vmem, ⟨23, _⟩ => ⟨S1024x1024, .bf16⟩
  | .local _ .vmem, ⟨24, _⟩ => ⟨S1x256x1024, .f32⟩
  | .local _ .vmem, ⟨25, _⟩ => ⟨S1x256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1024x3072 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S3x512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S4x8192x1024 : Shape := ⟨3, ![4, 8192, 1024]⟩
abbrev S4x1x1024 : Shape := ⟨3, ![4, 1, 1024]⟩
abbrev S1x1024 : Shape := ⟨2, ![1, 1024]⟩
abbrev S2x4x8192x512 : Shape := ⟨4, ![2, 4, 8192, 512]⟩
abbrev S4x8192x2048 : Shape := ⟨3, ![4, 8192, 2048]⟩
abbrev S1x512 : Shape := ⟨2, ![1, 512]⟩
abbrev S4x8192x512 : Shape := ⟨3, ![4, 8192, 512]⟩
abbrev S1024x3072 : Shape := ⟨2, ![1024, 3072]⟩
abbrev S1x3072 : Shape := ⟨2, ![1, 3072]⟩
abbrev S3x512x1024 : Shape := ⟨3, ![3, 512, 1024]⟩
abbrev S1024x1024 : Shape := ⟨2, ![1024, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x4x8192x512 : Shape := ⟨4, ![1, 4, 8192, 512]⟩
abbrev S4x8192x4x128 : Shape := ⟨4, ![4, 8192, 4, 128]⟩
abbrev S4x8192x4 : Shape := ⟨3, ![4, 8192, 4]⟩
abbrev S4x8192x4x1 : Shape := ⟨4, ![4, 8192, 4, 1]⟩
abbrev S4x128 : Shape := ⟨2, ![4, 128]⟩
abbrev S1x1x4x128 : Shape := ⟨4, ![1, 1, 4, 128]⟩
abbrev S4x8192x3072 : Shape := ⟨3, ![4, 8192, 3072]⟩
abbrev S1x1x3072 : Shape := ⟨3, ![1, 1, 3072]⟩
abbrev S4x8192x3x1024 : Shape := ⟨4, ![4, 8192, 3, 1024]⟩
abbrev S4x8192x1x1024 : Shape := ⟨4, ![4, 8192, 1, 1024]⟩
abbrev S1x512x1024 : Shape := ⟨3, ![1, 512, 1024]⟩
abbrev S512x1024 : Shape := ⟨2, ![512, 1024]⟩

abbrev nBuf : Space → Nat
  | .hbm => 118
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S1x1024, .f32⟩
  | .hbm, ⟨5, _⟩ => ⟨S2x4x8192x512, .f32⟩
  | .hbm, ⟨6, _⟩ => ⟨S4x8192x2048, .f32⟩
  | .hbm, ⟨7, _⟩ => ⟨S1x512, .f32⟩
  | .hbm, ⟨8, _⟩ => ⟨S4x8192x512, .f32⟩
  | .hbm, ⟨9, _⟩ => ⟨S4x8192x512, .f32⟩
  | .hbm, ⟨10, _⟩ => ⟨S1024x3072, .f32⟩
  | .hbm, ⟨11, _⟩ => ⟨S1x3072, .f32⟩
  | .hbm, ⟨12, _⟩ => ⟨S3x512x1024, .f32⟩
  | .hbm, ⟨13, _⟩ => ⟨S1024x1024, .f32⟩
  | .hbm, ⟨14, _⟩ => ⟨S4x8192x1024, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S4x8192x1, .f32⟩
  | .hbm, ⟨25, _⟩ => ⟨S4x8192x1024, .f32⟩
  | .hbm, ⟨26, _⟩ => ⟨S4x8192x1024, .f32⟩
  | .hbm, ⟨27, _⟩ => ⟨S1x1x1024, .f32⟩
  | .hbm, ⟨28, _⟩ => ⟨S4x8192x1024, .f32⟩
  | .hbm, ⟨29, _⟩ => ⟨S4x8192x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S4x8192x1024, .f32⟩
  | .hbm, ⟨37, _⟩ => ⟨S1x4x8192x512, .f32⟩
  | .hbm, ⟨38, _⟩ => ⟨S4x8192x512, .f32⟩
  | .hbm, ⟨39, _⟩ => ⟨S1x4x8192x512, .f32⟩
  | .hbm, ⟨40, _⟩ => ⟨S4x8192x512, .f32⟩
  | .hbm, ⟨41, _⟩ => ⟨S4x8192x512, .f32⟩
  | .hbm, ⟨42, _⟩ => ⟨S4x8192x4x128, .f32⟩
  | .hbm, ⟨43, _⟩ => ⟨S_, .f32⟩
  | .hbm, ⟨44, _⟩ => ⟨S4x8192x4, .f32⟩
  | .hbm, ⟨45, _⟩ => ⟨S4x8192x4x1, .f32⟩
  | .hbm, ⟨46, _⟩ => ⟨S_, .f32⟩
  | .hbm, ⟨47, _⟩ => ⟨S4x8192x4x1, .f32⟩
  | .hbm, ⟨48, _⟩ => ⟨S4x8192x4x1, .f32⟩
  | .hbm, ⟨49, _⟩ => ⟨S4x8192x4x128, .f32⟩
  | .hbm, ⟨50, _⟩ => ⟨S4x8192x4x128, .f32⟩
  | .hbm, ⟨51, _⟩ => ⟨S4x8192x4x128, .f32⟩
  | .hbm, ⟨52, _⟩ => ⟨S_, .f32⟩
  | .hbm, ⟨53, _⟩ => ⟨S4x8192x4, .f32⟩
  | .hbm, ⟨54, _⟩ => ⟨S4x8192x4x1, .f32⟩
  | .hbm, ⟨55, _⟩ => ⟨S_, .f32⟩
  | .hbm, ⟨56, _⟩ => ⟨S4x8192x4x1, .f32⟩
  | .hbm, ⟨57, _⟩ => ⟨S4x8192x4x1, .f32⟩
  | .hbm, ⟨58, _⟩ => ⟨S4x8192x4x128, .f32⟩
  | .hbm, ⟨59, _⟩ => ⟨S4x8192x4x128, .f32⟩
  | .hbm, ⟨60, _⟩ => ⟨S_, .f32⟩
  | .hbm, ⟨61, _⟩ => ⟨S4x8192x4x1, .f32⟩
  | .hbm, ⟨62, _⟩ => ⟨S4x8192x4x1, .f32⟩
  | .hbm, ⟨63, _⟩ => ⟨S4x8192x4x1, .f32⟩
  | .hbm, ⟨64, _⟩ => ⟨S4x8192x4x128, .f32⟩
  | .hbm, ⟨65, _⟩ => ⟨S4x8192x4x128, .f32⟩
  | .hbm, ⟨66, _⟩ => ⟨S4x128, .f32⟩
  | .hbm, ⟨67, _⟩ => ⟨S1x1x4x128, .f32⟩
  | .hbm, ⟨68, _⟩ => ⟨S4x8192x4x128, .f32⟩
  | .hbm, ⟨69, _⟩ => ⟨S4x8192x4x128, .f32⟩
  | .hbm, ⟨70, _⟩ => ⟨S4x8192x512, .f32⟩
  | .hbm, ⟨71, _⟩ => ⟨S4x8192x512, .f32⟩
  | .hbm, ⟨72, _⟩ => ⟨S4x8192x512, .f32⟩
  | .hbm, ⟨73, _⟩ => ⟨S_, .f32⟩
  | .hbm, ⟨74, _⟩ => ⟨S4x8192x512, .f32⟩
  | .hbm, ⟨75, _⟩ => ⟨S4x8192x512, .f32⟩
  | .hbm, ⟨76, _⟩ => ⟨S_, .f32⟩
  | .hbm, ⟨77, _⟩ => ⟨S4x8192x512, .f32⟩
  | .hbm, ⟨78, _⟩ => ⟨S4x8192x512, .f32⟩
  | .hbm, ⟨79, _⟩ => ⟨S4x8192x512, .f32⟩
  | .hbm, ⟨80, _⟩ => ⟨S4x8192x512, .f32⟩
  | .hbm, ⟨81, _⟩ => ⟨S4x8192x3072, .f32⟩
  | .hbm, ⟨82, _⟩ => ⟨S1x1x3072, .f32⟩
  | .hbm, ⟨83, _⟩ => ⟨S4x8192x3072, .f32⟩
  | .hbm, ⟨84, _⟩ => ⟨S4x8192x3072, .f32⟩
  | .hbm, ⟨85, _⟩ => ⟨S4x8192x3072, .f32⟩
  | .hbm, ⟨86, _⟩ => ⟨S4x8192x3072, .f32⟩
  | .hbm, ⟨87, _⟩ => ⟨S_, .f32⟩
  | .hbm, ⟨88, _⟩ => ⟨S4x8192x3072, .f32⟩
  | .hbm, ⟨89, _⟩ => ⟨S4x8192x3072, .f32⟩
  | .hbm, ⟨90, _⟩ => ⟨S_, .f32⟩
  | .hbm, ⟨91, _⟩ => ⟨S4x8192x3072, .f32⟩
  | .hbm, ⟨92, _⟩ => ⟨S4x8192x3072, .f32⟩
  | .hbm, ⟨93, _⟩ => ⟨S4x8192x3x1024, .f32⟩
  | .hbm, ⟨94, _⟩ => ⟨S4x8192x1x1024, .f32⟩
  | .hbm, ⟨95, _⟩ => ⟨S4x8192x1024, .f32⟩
  | .hbm, ⟨96, _⟩ => ⟨S1x512x1024, .f32⟩
  | .hbm, ⟨97, _⟩ => ⟨S512x1024, .f32⟩
  | .hbm, ⟨98, _⟩ => ⟨S4x8192x1024, .f32⟩
  | .hbm, ⟨99, _⟩ => ⟨S4x8192x1024, .f32⟩
  | .hbm, ⟨100, _⟩ => ⟨S4x8192x1x1024, .f32⟩
  | .hbm, ⟨101, _⟩ => ⟨S4x8192x1024, .f32⟩
  | .hbm, ⟨102, _⟩ => ⟨S1x512x1024, .f32⟩
  | .hbm, ⟨103, _⟩ => ⟨S512x1024, .f32⟩
  | .hbm, ⟨104, _⟩ => ⟨S4x8192x1024, .f32⟩
  | .hbm, ⟨105, _⟩ => ⟨S4x8192x1024, .f32⟩
  | .hbm, ⟨106, _⟩ => ⟨S4x8192x1024, .f32⟩
  | .hbm, ⟨107, _⟩ => ⟨S4x8192x1x1024, .f32⟩
  | .hbm, ⟨108, _⟩ => ⟨S4x8192x1024, .f32⟩
  | .hbm, ⟨109, _⟩ => ⟨S1x512x1024, .f32⟩
  | .hbm, ⟨110, _⟩ => ⟨S512x1024, .f32⟩
  | .hbm, ⟨111, _⟩ => ⟨S4x8192x1024, .f32⟩
  | .hbm, ⟨112, _⟩ => ⟨S4x8192x1024, .f32⟩
  | .hbm, ⟨113, _⟩ => ⟨S4x8192x1024, .f32⟩
  | .hbm, ⟨114, _⟩ => ⟨S4x8192x1024, .f32⟩
  | .hbm, ⟨115, _⟩ => ⟨S4x8192x1024, .f32⟩
  | .hbm, ⟨116, _⟩ => ⟨S4x8192x1024, .f32⟩
  | .hbm, ⟨117, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_10 : Ref sig .tc := ⟨.hbm, 87, rfl⟩
abbrev main_v62 : Ref sig .tc := ⟨.hbm, 88, rfl⟩
abbrev main_v63 : Ref sig .tc := ⟨.hbm, 89, rfl⟩
abbrev main_cst_11 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x1x1024 : Shape := ⟨3, ![4, 1, 1024]⟩
abbrev S1x1024 : Shape := ⟨2, ![1, 1024]⟩
abbrev S1024x2048 : Shape := ⟨2, ![1024, 2048]⟩
abbrev S1x2048 : Shape := ⟨2, ![1, 2048]⟩
abbrev S1024x256 : Shape := ⟨2, ![1024, 256]⟩
abbrev S1x256 : Shape := ⟨2, ![1, 256]⟩
abbrev S4x8192x2048 : Shape := ⟨3, ![4, 8192, 2048]⟩
abbrev S2x4x8192x128 : Shape := ⟨4, ![2, 4, 8192, 128]⟩
abbrev S2x4x8x8192 : Shape := ⟨4, ![2, 4, 8, 8192]⟩
abbrev S1x512x1024 : Shape := ⟨3, ![1, 512, 1024]⟩
abbrev S1x1x1024 : Shape := ⟨3, ![1, 1, 1024]⟩
abbrev S1x512x2048 : Shape := ⟨3, ![1, 512, 2048]⟩
abbrev S2x1x512x128 : Shape := ⟨4, ![2, 1, 512, 128]⟩
abbrev S2x1x8x512 : Shape := ⟨4, ![2, 1, 8, 512]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S512x256 : Shape := ⟨2, ![512, 256]⟩
abbrev S512x128 : Shape := ⟨2, ![512, 128]⟩
abbrev S1x1x512x128 : Shape := ⟨4, ![1, 1, 512, 128]⟩
abbrev S128x512 : Shape := ⟨2, ![128, 512]⟩
abbrev S8x512 : Shape := ⟨2, ![8, 512]⟩
abbrev S1x1x8x512 : Shape := ⟨4, ![1, 1, 8, 512]⟩

abbrev nBuf : Space → Nat
  | .hbm => 12
  | .vmem => 17
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S1024x2048, .f32⟩
  | .hbm, ⟨5, _⟩ => ⟨S1x2048, .f32⟩
  | .hbm, ⟨6, _⟩ => ⟨S1024x256, .f32⟩
  | .hbm, ⟨7, _⟩ => ⟨S1x256, .f32⟩
  | .hbm, ⟨8, _⟩ => ⟨S1024x2048, .bf16⟩
  | .hbm, ⟨9, _⟩ => ⟨S4x8192x2048, .f32⟩
  | .hbm, ⟨10, _⟩ => ⟨S2x4x8192x128, .f32⟩
  | .hbm, ⟨11, _⟩ => ⟨S2x4x8x8192, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2048, .bf16⟩
  | .local _ .vmem, ⟨8, _⟩ => ⟨S1x2048, .f32⟩
  | .local _ .vmem, ⟨9, _⟩ => ⟨S1024x256, .f32⟩
  | .local _ .vmem, ⟨10, _⟩ => ⟨S1x256, .f32⟩
  | .local _ .vmem, ⟨11, _⟩ => ⟨S1x512x2048, .f32⟩
  | .local _ .vmem, ⟨12, _⟩ => ⟨S1x512x2048, .f32⟩
  | .local _ .vmem, ⟨13, _⟩ => ⟨S2x1x512x128, .f32⟩
  | .local _ .vmem, ⟨14, _⟩ => ⟨S2x1x512x128, .f32⟩
  | .local _ .vmem, ⟨15, _⟩ => ⟨S2x1x8x512, .f32⟩
  | .local _ .vmem, ⟨16, _⟩ => ⟨S2x1x8x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S4x8192x1024 : Shape := ⟨3, ![4, 8192, 1024]⟩
abbrev S4x1x1024 : Shape := ⟨3, ![4, 1, 1024]⟩
abbrev S1x1024 : Shape := ⟨2, ![1, 1024]⟩
abbrev S1024x2048 : Shape := ⟨2, ![1024, 2048]⟩
abbrev S1x2048 : Shape := ⟨2, ![1, 2048]⟩
abbrev S1024x256 : Shape := ⟨2, ![1024, 256]⟩
abbrev S1x256 : Shape := ⟨2, ![1, 256]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x256 : Shape := ⟨3, ![4, 8192, 256]⟩
abbrev S1x1x256 : Shape := ⟨3, ![1, 1, 256]⟩
abbrev S4x8192x2x128 : Shape := ⟨4, ![4, 8192, 2, 128]⟩
abbrev S2x4x8192x128 : Shape := ⟨4, ![2, 4, 8192, 128]⟩
abbrev S4x8192x2048 : Shape := ⟨3, ![4, 8192, 2048]⟩
abbrev S1x1x2048 : Shape := ⟨3, ![1, 1, 2048]⟩
abbrev S2x4x8192x8 : Shape := ⟨4, ![2, 4, 8192, 8]⟩
abbrev S2x4x8x8192 : Shape := ⟨4, ![2, 4, 8, 8192]⟩

abbrev nBuf : Space → Nat
  | .hbm => 43
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S1024x2048, .f32⟩
  | .hbm, ⟨5, _⟩ => ⟨S1x2048, .f32⟩
  | .hbm, ⟨6, _⟩ => ⟨S1024x256, .f32⟩
  | .hbm, ⟨7, _⟩ => ⟨S1x256, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x256, .f32⟩
  | .hbm, ⟨32, _⟩ => ⟨S1x1x256, .f32⟩
  | .hbm, ⟨33, _⟩ => ⟨S4x8192x256, .f32⟩
  | .hbm, ⟨34, _⟩ => ⟨S4x8192x256, .f32⟩
  | .hbm, ⟨35, _⟩ => ⟨S4x8192x2x128, .f32⟩
  | .hbm, ⟨36, _⟩ => ⟨S2x4x8192x128, .f32⟩
  | .hbm, ⟨37, _⟩ => ⟨S4x8192x2048, .f32⟩
  | .hbm, ⟨38, _⟩ => ⟨S1x1x2048, .f32⟩
  | .hbm, ⟨39, _⟩ => ⟨S4x8192x2048, .f32⟩
  | .hbm, ⟨40, _⟩ => ⟨S4x8192x2048, .f32⟩
  | .hbm, ⟨41, _⟩ => ⟨S2x4x8192x8, .f32⟩
  | .hbm, ⟨42, _⟩ => ⟨S2x4x8x8192, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x1x1024 : Shape := ⟨3, ![4, 1, 1024]⟩
abbrev S1x1024 : Shape := ⟨2, ![1, 1024]⟩
abbrev S1024x1536 : Shape := ⟨2, ![1024, 1536]⟩
abbrev S1x1536 : Shape := ⟨2, ![1, 1536]⟩
abbrev S4x128x128 : Shape := ⟨3, ![4, 128, 128]⟩
abbrev S4x128 : Shape := ⟨2, ![4, 128]⟩
abbrev S128x128 : Shape := ⟨2, ![128, 128]⟩
abbrev S128x4 : Shape := ⟨2, ![128, 4]⟩
abbrev S4x8192x512 : Shape := ⟨3, ![4, 8192, 512]⟩
abbrev S1x512x1024 : Shape := ⟨3, ![1, 512, 1024]⟩
abbrev S1x1x1024 : Shape := ⟨3, ![1, 1, 1024]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S512x1536 : Shape := ⟨2, ![512, 1536]⟩
abbrev S512x512 : Shape := ⟨2, ![512, 512]⟩
abbrev S1x128x128 : Shape := ⟨3, ![1, 128, 128]⟩
abbrev S128x1 : Shape := ⟨2, ![128, 1]⟩
abbrev S512x128 : Shape := ⟨2, ![512, 128]⟩
abbrev S1x512x128 : Shape := ⟨3, ![1, 512, 128]⟩

abbrev nBuf : Space → Nat
  | .hbm => 18
  | .vmem => 19
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S1024x1536, .f32⟩
  | .hbm, ⟨5, _⟩ => ⟨S1x1536, .f32⟩
  | .hbm, ⟨6, _⟩ => ⟨S4x128x128, .f32⟩
  | .hbm, ⟨7, _⟩ => ⟨S4x128, .f32⟩
  | .hbm, ⟨8, _⟩ => ⟨S128x128, .f32⟩
  | .hbm, ⟨9, _⟩ => ⟨S128x128, .f32⟩
  | .hbm, ⟨10, _⟩ => ⟨S1024x1536, .bf16⟩
  | .hbm, ⟨11, _⟩ => ⟨S4x128x128, .bf16⟩
  | .hbm, ⟨12, _⟩ => ⟨S128x4, .f32⟩
  | .hbm, ⟨13, _⟩ => ⟨S128x128, .bf16⟩
  | .hbm, ⟨14, _⟩ => ⟨S128x128, .bf16⟩
  | .hbm, ⟨15, _⟩ => ⟨S4x8192x512, .f32⟩
  | .hbm, ⟨16, _⟩ => ⟨S4x8192x512, .f32⟩
  | .hbm, ⟨17, _⟩ => ⟨S4x8192x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1536, .bf16⟩
  | .local _ .vmem, ⟨8, _⟩ => ⟨S1x1536, .f32⟩
  | .local _ .vmem, ⟨9, _⟩ => ⟨S4x128x128, .bf16⟩
  | .local _ .vmem, ⟨10, _⟩ => ⟨S128x4, .f32⟩
  | .local _ .vmem, ⟨11, _⟩ => ⟨S128x128, .bf16⟩
  | .local _ .vmem, ⟨12, _⟩ => ⟨S128x128, .bf16⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference4Ideal.lean ====
abbrev S4x8192x1024 : Shape := ⟨3, ![4, 8192, 1024]⟩
abbrev S4x1x1024 : Shape := ⟨3, ![4, 1, 1024]⟩
abbrev S1x1024 : Shape := ⟨2, ![1, 1024]⟩
abbrev S1024x1536 : Shape := ⟨2, ![1024, 1536]⟩
abbrev S1x1536 : Shape := ⟨2, ![1, 1536]⟩
abbrev S4x128x128 : Shape := ⟨3, ![4, 128, 128]⟩
abbrev S4x128 : Shape := ⟨2, ![4, 128]⟩
abbrev S128x128 : Shape := ⟨2, ![128, 128]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x1536 : Shape := ⟨3, ![4, 8192, 1536]⟩
abbrev S1x1x1536 : Shape := ⟨3, ![1, 1, 1536]⟩
abbrev S4x8192x512 : Shape := ⟨3, ![4, 8192, 512]⟩
abbrev S4x8192x4x128 : Shape := ⟨4, ![4, 8192, 4, 128]⟩
abbrev S4x64x128x4x128 : Shape := ⟨5, ![4, 64, 128, 4, 128]⟩
abbrev S4x4x64x128x128 : Shape := ⟨5, ![4, 4, 64, 128, 128]⟩
abbrev S128x4 : Shape := ⟨2, ![128, 4]⟩
abbrev S1x1x128x4x1 : Shape := ⟨5, ![1, 1, 128, 4, 1]⟩

abbrev nBuf : Space → Nat
  | .hbm => 111
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S1024x1536, .f32⟩
  | .hbm, ⟨5, _⟩ => ⟨S1x1536, .f32⟩
  | .hbm, ⟨6, _⟩ => ⟨S4x128x128, .f32⟩
  | .hbm, ⟨7, _⟩ => ⟨S4x128, .f32⟩
  | .hbm, ⟨8, _⟩ => ⟨S128x128, .f32⟩
  | .hbm, ⟨9, _⟩ => ⟨S128x128, .f32⟩
  | .hbm, ⟨10, _⟩ => ⟨S4x8192x1024, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S4x8192x1, .f32⟩
  | .hbm, ⟨21, _⟩ => ⟨S4x8192x1024, .f32⟩
  | .hbm, ⟨22, _⟩ => ⟨S4x8192x1024, .f32⟩
  | .hbm, ⟨23, _⟩ => ⟨S1x1x1024, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1536, .f32⟩
  | .hbm, ⟨34, _⟩ => ⟨S1x1x1536, .f32⟩
  | .hbm, ⟨35, _⟩ => ⟨S4x8192x1536, .f32⟩
  | .hbm, ⟨36, _⟩ => ⟨S4x8192x1536, .f32⟩
  | .hbm, ⟨37, _⟩ => ⟨S4x8192x512, .f32⟩
  | .hbm, ⟨38, _⟩ => ⟨S4x8192x4x128, .f32⟩
  | .hbm, ⟨39, _⟩ => ⟨S4x8192x512, .f32⟩
  | .hbm, ⟨40, _⟩ => ⟨S4x8192x512, .f32⟩
  | .hbm, ⟨41, _⟩ => ⟨S4x8192x512, .f32⟩
  | .hbm, ⟨42, _⟩ => ⟨S4x8192x512, .f32⟩
  | .hbm, ⟨43, _⟩ => ⟨S_, .f32⟩
  | .hbm, ⟨44, _⟩ => ⟨S4x8192x512, .f32⟩
  | .hbm, ⟨45, _⟩ => ⟨S4x8192x512, .f32⟩
  | .hbm, ⟨46, _⟩ => ⟨S4x8192x512, .f32⟩
  | .hbm, ⟨47, _⟩ => ⟨S_, .f32⟩
  | .hbm, ⟨48, _⟩ => ⟨S4x8192x512, .f32⟩
  | .hbm, ⟨49, _⟩ => ⟨S4x8192x512, .f32⟩
  | .hbm, ⟨50, _⟩ => ⟨S4x8192x512, .f32⟩
  | .hbm, ⟨51, _⟩ => ⟨S_, .f32⟩
  | .hbm, ⟨52, _⟩ => ⟨S4x8192x512, .f32⟩
  | .hbm, ⟨53, _⟩ => ⟨S4x8192x512, .f32⟩
  | .hbm, ⟨54, _⟩ => ⟨S_, .f32⟩
  | .hbm, ⟨55, _⟩ => ⟨S4x8192x512, .f32⟩
  | .hbm, ⟨56, _⟩ => ⟨S4x8192x512, .f32⟩
  | .hbm, ⟨57, _⟩ => ⟨S4x8192x512, .f32⟩
  | .hbm, ⟨58, _⟩ => ⟨S4x8192x512, .f32⟩
  | .hbm, ⟨59, _⟩ => ⟨S4x8192x512, .f32⟩
  | .hbm, ⟨60, _⟩ => ⟨S_, .f32⟩
  | .hbm, ⟨61, _⟩ => ⟨S4x8192x512, .f32⟩
  | .hbm, ⟨62, _⟩ => ⟨S4x8192x512, .f32⟩
  | .hbm, ⟨63, _⟩ => ⟨S4x8192x512, .f32⟩
  | .hbm, ⟨64, _⟩ => ⟨S_, .f32⟩
  | .hbm, ⟨65, _⟩ => ⟨S4x8192x512, .f32⟩
  | .hbm, ⟨66, _⟩ => ⟨S4x8192x512, .f32⟩
  | .hbm, ⟨67, _⟩ => ⟨S4x8192x512, .f32⟩
  | .hbm, ⟨68, _⟩ => ⟨S_, .f32⟩
  | .hbm, ⟨69, _⟩ => ⟨S4x8192x512, .f32⟩
  | .hbm, ⟨70, _⟩ => ⟨S4x8192x512, .f32⟩
  | .hbm, ⟨71, _⟩ => ⟨S_, .f32⟩
  | .hbm, ⟨72, _⟩ => ⟨S4x8192x512, .f32⟩
  | .hbm, ⟨73, _⟩ => ⟨S4x8192x512, .f32⟩
  | .hbm, ⟨74, _⟩ => ⟨S4x8192x512, .f32⟩
  | .hbm, ⟨75, _⟩ => ⟨S_, .f32⟩
  | .hbm, ⟨76, _⟩ => ⟨S4x8192, .f32⟩
  | .hbm, ⟨77, _⟩ => ⟨S4x8192x1, .f32⟩
  | .hbm, ⟨78, _⟩ => ⟨S_, .f32⟩
  | .hbm, ⟨79, _⟩ => ⟨S4x8192x1, .f32⟩
  | .hbm, ⟨80, _⟩ => ⟨S4x8192x1, .f32⟩
  | .hbm, ⟨81, _⟩ => ⟨S4x8192x512, .f32⟩
  | .hbm, ⟨82, _⟩ => ⟨S4x8192x512, .f32⟩
  | .hbm, ⟨83, _⟩ => ⟨S4x8192x512, .f32⟩
  | .hbm, ⟨84, _⟩ => ⟨S_, .f32⟩
  | .hbm, ⟨85, _⟩ => ⟨S4x8192, .f32⟩
  | .hbm, ⟨86, _⟩ => ⟨S4x8192x1, .f32⟩
  | .hbm, ⟨87, _⟩ => ⟨S_, .f32⟩
  | .hbm, ⟨88, _⟩ => ⟨S4x8192x1, .f32⟩
  | .hbm, ⟨89, _⟩ => ⟨S4x8192x1, .f32⟩
  | .hbm, ⟨90, _⟩ => ⟨S4x8192x512, .f32⟩
  | .hbm, ⟨91, _⟩ => ⟨S4x8192x512, .f32⟩
  | .hbm, ⟨92, _⟩ => ⟨S_, .f32⟩
  | .hbm, ⟨93, _⟩ => ⟨S4x8192x1, .f32⟩
  | .hbm, ⟨94, _⟩ => ⟨S4x8192x1, .f32⟩
  | .hbm, ⟨95, _⟩ => ⟨S4x8192x1, .f32⟩
  | .hbm, ⟨96, _⟩ => ⟨S4x8192x512, .f32⟩
  | .hbm, ⟨97, _⟩ => ⟨S4x8192x512, .f32⟩
  | .hbm, ⟨98, _⟩ => ⟨S4x64x128x4x128, .f32⟩
  | .hbm, ⟨99, _⟩ => ⟨S4x4x64x128x128, .f32⟩
  | .hbm, ⟨100, _⟩ => ⟨S4x64x128x4x128, .f32⟩
  | .hbm, ⟨101, _⟩ => ⟨S128x4, .f32⟩
  | .hbm, ⟨102, _⟩ => ⟨S1x1x128x4x1, .f32⟩
  | .hbm, ⟨103, _⟩ => ⟨S4x64x128x4x128, .f32⟩
  | .hbm, ⟨104, _⟩ => ⟨S4x64x128x4x128, .f32⟩
  | .hbm, ⟨105, _⟩ => ⟨S4x8192x512, .f32⟩
  | .hbm, ⟨106, _⟩ => ⟨S4x8192x512, .f32⟩
  | .hbm, ⟨107, _⟩ => ⟨S4x8192x4x128, .f32⟩
  | .hbm, ⟨108, _⟩ => ⟨S4x8192x512, .f32⟩
  | .hbm, ⟨109, _⟩ => ⟨S4x8192x4x128, .f32⟩
  | .hbm, ⟨110, _⟩ => ⟨S4x8192x512, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_v61 : Ref sig .tc := ⟨.hbm, 86, rfl⟩
abbrev main_cst_14 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_15 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩

abbrev nD : Nat := 1
abbrev τ : Topo := Topo.v7x

variable {F : FTy → Type} [FloatOps F]
-- ==== Kernel5.lean ====
abbrev S4x8192x1024 : Shape := ⟨3, ![4, 8192, 1024]⟩
abbrev S1024 : Shape := ⟨1, ![1024]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1x1024, .f32⟩
  | .hbm, ⟨3, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x512x1024, .f32⟩
  | .local _ .vmem, ⟨4, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4x8192x1024 : Shape := ⟨3, ![4, 8192, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x8192x1024, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S_, .f32⟩
  | .hbm, ⟨7, _⟩ => ⟨S4x8192x1, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S4x8192x1, .f32⟩
  | .hbm, ⟨13, _⟩ => ⟨S4x8192x1024, .f32⟩
  | .hbm, ⟨14, _⟩ => ⟨S4x8192x1024, .f32⟩
  | .hbm, ⟨15, _⟩ => ⟨S1x1x1024, .f32⟩
  | .hbm, ⟨16, _⟩ => ⟨S4x8192x1024, .f32⟩
  | .hbm, ⟨17, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel6.lean ====
abbrev S8x1024 : Shape := ⟨2, ![8, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩
abbrev S4x6144x8 : Shape := ⟨3, ![4, 6144, 8]⟩
abbrev S4x8x6144 : Shape := ⟨3, ![4, 8, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x6144x8, .f32⟩
  | .hbm, ⟨13, _⟩ => ⟨S4x8x6144, .f32⟩
  | .hbm, ⟨14, _⟩ => ⟨S4x1x6144, .f32⟩
  | .hbm, ⟨15, _⟩ => ⟨S4x8x6144, .f32⟩
  | .hbm, ⟨16, _⟩ => ⟨S4x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel7.lean ====
abbrev S4x8192x1024 : Shape := ⟨3, ![4, 8192, 1024]⟩
abbrev S256 : Shape := ⟨1, ![256]⟩
abbrev S_ : Shape := ⟨0, ![]⟩
abbrev S128 : Shape := ⟨1, ![128]⟩
abbrev S128x64 : Shape := ⟨2, ![128, 64]⟩
abbrev S8192 : Shape := ⟨1, ![8192]⟩
abbrev S8192x1 : Shape := ⟨2, ![8192, 1]⟩
abbrev S1x256 : Shape := ⟨2, ![1, 256]⟩
abbrev S8192x256 : Shape := ⟨2, ![8192, 256]⟩
abbrev S64 : Shape := ⟨1, ![64]⟩
abbrev S1x64 : Shape := ⟨2, ![1, 64]⟩
abbrev S8192x1024 : Shape := ⟨2, ![8192, 1024]⟩
abbrev S1x512x1024 : Shape := ⟨3, ![1, 512, 1024]⟩
abbrev S512x1024 : Shape := ⟨2, ![512, 1024]⟩

abbrev nBuf : Space → Nat
  | .hbm => 34
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S256, .f32⟩
  | .hbm, ⟨2, _⟩ => ⟨S_, .f32⟩
  | .hbm, ⟨3, _⟩ => ⟨S256, .f32⟩
  | .hbm, ⟨4, _⟩ => ⟨S256, .f32⟩
  | .hbm, ⟨5, _⟩ => ⟨S_, .f32⟩
  | .hbm, ⟨6, _⟩ => ⟨S256, .f32⟩
  | .hbm, ⟨7, _⟩ => ⟨S256, .f32⟩
  | .hbm, ⟨8, _⟩ => ⟨S_, .f32⟩
  | .hbm, ⟨9, _⟩ => ⟨S256, .f32⟩
  | .hbm, ⟨10, _⟩ => ⟨S256, .f32⟩
  | .hbm, ⟨11, _⟩ => ⟨S128, .f32⟩
  | .hbm, ⟨12, _⟩ => ⟨S128x64, .f32⟩
  | .hbm, ⟨13, _⟩ => ⟨S8192, .f32⟩
  | .hbm, ⟨14, _⟩ => ⟨S8192x1, .f32⟩
  | .hbm, ⟨15, _⟩ => ⟨S1x256, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S64, .f32⟩
  | .hbm, ⟨20, _⟩ => ⟨S1x64, .f32⟩
  | .hbm, ⟨21, _⟩ => ⟨S128x64, .f32⟩
  | .hbm, ⟨22, _⟩ => ⟨S8192, .f32⟩
  | .hbm, ⟨23, _⟩ => ⟨S8192x1, .f32⟩
  | .hbm, ⟨24, _⟩ => ⟨S1x256, .f32⟩
  | .hbm, ⟨25, _⟩ => ⟨S8192x256, .f32⟩
  | .hbm, ⟨26, _⟩ => ⟨S8192x256, .f32⟩
  | .hbm, ⟨27, _⟩ => ⟨S8192x256, .f32⟩
  | .hbm, ⟨28, _⟩ => ⟨S8192x256, .f32⟩
  | .hbm, ⟨29, _⟩ => ⟨S8192x256, .f32⟩
  | .hbm, ⟨30, _⟩ => ⟨S8192x256, .f32⟩
  | .hbm, ⟨31, _⟩ => ⟨S8192x256, .f32⟩
  | .hbm, ⟨32, _⟩ => ⟨S8192x1024, .f32⟩
  | .hbm, ⟨33, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S1x512x1024, .f32⟩
  | .local _ .vmem, ⟨5, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4x8192x1024 : Shape := ⟨3, ![4, 8192, 1024]⟩
abbrev S256 : Shape := ⟨1, ![256]⟩
abbrev S_ : Shape := ⟨0, ![]⟩
abbrev S128 : Shape := ⟨1, ![128]⟩
abbrev S128x64 : Shape := ⟨2, ![128, 64]⟩
abbrev S8192 : Shape := ⟨1, ![8192]⟩
abbrev S8192x1 : Shape := ⟨2, ![8192, 1]⟩
abbrev S1x256 : Shape := ⟨2, ![1, 256]⟩
abbrev S8192x256 : Shape := ⟨2, ![8192, 256]⟩
abbrev S64 : Shape := ⟨1, ![64]⟩
abbrev S1x64 : Shape := ⟨2, ![1, 64]⟩
abbrev S8192x1024 : Shape := ⟨2, ![8192, 1024]⟩
abbrev S1x8192x1024 : Shape := ⟨3, ![1, 8192, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S256, .f32⟩
  | .hbm, ⟨2, _⟩ => ⟨S_, .f32⟩
  | .hbm, ⟨3, _⟩ => ⟨S256, .f32⟩
  | .hbm, ⟨4, _⟩ => ⟨S256, .f32⟩
  | .hbm, ⟨5, _⟩ => ⟨S_, .f32⟩
  | .hbm, ⟨6, _⟩ => ⟨S256, .f32⟩
  | .hbm, ⟨7, _⟩ => ⟨S256, .f32⟩
  | .hbm, ⟨8, _⟩ => ⟨S_, .f32⟩
  | .hbm, ⟨9, _⟩ => ⟨S256, .f32⟩
  | .hbm, ⟨10, _⟩ => ⟨S256, .f32⟩
  | .hbm, ⟨11, _⟩ => ⟨S128, .f32⟩
  | .hbm, ⟨12, _⟩ => ⟨S128x64, .f32⟩
  | .hbm, ⟨13, _⟩ => ⟨S8192, .f32⟩
  | .hbm, ⟨14, _⟩ => ⟨S8192x1, .f32⟩
  | .hbm, ⟨15, _⟩ => ⟨S1x256, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S64, .f32⟩
  | .hbm, ⟨20, _⟩ => ⟨S1x64, .f32⟩
  | .hbm, ⟨21, _⟩ => ⟨S128x64, .f32⟩
  | .hbm, ⟨22, _⟩ => ⟨S8192, .f32⟩
  | .hbm, ⟨23, _⟩ => ⟨S8192x1, .f32⟩
  | .hbm, ⟨24, _⟩ => ⟨S1x256, .f32⟩
  | .hbm, ⟨25, _⟩ => ⟨S8192x256, .f32⟩
  | .hbm, ⟨26, _⟩ => ⟨S8192x256, .f32⟩
  | .hbm, ⟨27, _⟩ => ⟨S8192x256, .f32⟩
  | .hbm, ⟨28, _⟩ => ⟨S8192x256, .f32⟩
  | .hbm, ⟨29, _⟩ => ⟨S8192x256, .f32⟩
  | .hbm, ⟨30, _⟩ => ⟨S8192x256, .f32⟩
  | .hbm, ⟨31, _⟩ => ⟨S8192x256, .f32⟩
  | .hbm, ⟨32, _⟩ => ⟨S8192x1024, .f32⟩
  | .hbm, ⟨33, _⟩ => ⟨S1x8192x1024, .f32⟩
  | .hbm, ⟨34, _⟩ => ⟨S4x8192x1024, .f32⟩
  | .hbm, ⟨35, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩

abbrev nD : Nat := 1
abbrev τ : Topo := Topo.v7x

variable {F : FTy → Type} [FloatOps F]
-- ==== Kernel8.lean ====
abbrev S4x64x65536 : Shape := ⟨3, ![4, 64, 65536]⟩
abbrev S64x64 : Shape := ⟨2, ![64, 64]⟩
abbrev S64x128 : Shape := ⟨2, ![64, 128]⟩
abbrev S128x128 : Shape := ⟨2, ![128, 128]⟩
abbrev S4x128x65536 : Shape := ⟨3, ![4, 128, 65536]⟩
abbrev S1x64x16384 : Shape := ⟨3, ![1, 64, 16384]⟩
abbrev S1x128x16384 : Shape := ⟨3, ![1, 128, 16384]⟩
abbrev S64x16384 : Shape := ⟨2, ![64, 16384]⟩
abbrev S128x16384 : Shape := ⟨2, ![128, 16384]⟩

abbrev nBuf : Space → Nat
  | .hbm => 12
  | .vmem => 7
  | .smem => 0
  | _ => 0

abbrev bufTy : (tb : Table) → Fin (tcTables nBuf tb) → BufTy
  | .hbm, ⟨0, _⟩ => ⟨S4x64x65536, .f32⟩
  | .hbm, ⟨1, _⟩ => ⟨S4x64x65536, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x128, .f32⟩
  | .hbm, ⟨6, _⟩ => ⟨S64x64, .f32⟩
  | .hbm, ⟨7, _⟩ => ⟨S64x64, .f32⟩
  | .hbm, ⟨8, _⟩ => ⟨S64x128, .f32⟩
  | .hbm, ⟨9, _⟩ => ⟨S128x128, .f32⟩
  | .hbm, ⟨10, _⟩ => ⟨S128x128, .bf16⟩
  | .hbm, ⟨11, _⟩ => ⟨S4x128x65536, .f32⟩
  | .local _ .vmem, ⟨0, _⟩ => ⟨S1x64x16384, .f32⟩
  | .local _ .vmem, ⟨1, _⟩ => ⟨S1x64x16384, .f32⟩
  | .local _ .vmem, ⟨2, _⟩ => ⟨S1x64x16384, .f32⟩
  | .local _ .vmem, ⟨3, _⟩ => ⟨S1x64x16384, .f32⟩
  | .local _ .vmem, ⟨4, _⟩ => ⟨S128x128, .bf16⟩
  | .local _ .vmem, ⟨5, _⟩ => ⟨S1x128x16384, .f32⟩
  | .local _ .vmem, ⟨6, _⟩ => ⟨S1x128x16384, .f32⟩
  | _, _ => ⟨S4x64x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S4x64x65536 : Shape := ⟨3, ![4, 64, 65536]⟩
abbrev S64x64 : Shape := ⟨2, ![64, 64]⟩
abbrev S4x65536x64 : Shape := ⟨3, ![4, 65536, 64]⟩
abbrev S4x128x65536 : Shape := ⟨3, ![4, 128, 65536]⟩

abbrev nBuf : Space → Nat
  | .hbm => 18
  | .vmem => 0
  | .smem => 0
  | _ => 0

abbrev bufTy : (tb : Table) → Fin (tcTables nBuf tb) → BufTy
  | .hbm, ⟨0, _⟩ => ⟨S4x64x65536, .f32⟩
  | .hbm, ⟨1, _⟩ => ⟨S4x64x65536, .f32⟩
  | .hbm, ⟨2, _⟩ => ⟨S64x64, .f32⟩
  | .hbm, ⟨3, _⟩ => ⟨S64x64, .f32⟩
  | .hbm, ⟨4, _⟩ => ⟨S4x65536x64, .f32⟩
  | .hbm, ⟨5, _⟩ => ⟨S4x64x65536, .f32⟩
  | .hbm, ⟨6, _⟩ => ⟨S64x64, .f32⟩
  | .hbm, ⟨7, _⟩ => ⟨S4x65536x64, .f32⟩
  | .hbm, ⟨8, _⟩ => ⟨S4x64x65536, .f32⟩
  | .hbm, ⟨9, _⟩ => ⟨S4x64x65536, .f32⟩
  | .hbm, ⟨10, _⟩ => ⟨S64x64, .f32⟩
  | .hbm, ⟨11, _⟩ => ⟨S4x65536x64, .f32⟩
  | .hbm, ⟨12, _⟩ => ⟨S4x64x65536, .f32⟩
  | .hbm, ⟨13, _⟩ => ⟨S64x64, .f32⟩
  | .hbm, ⟨14, _⟩ => ⟨S4x65536x64, .f32⟩
  | .hbm, ⟨15, _⟩ => ⟨S4x64x65536, .f32⟩
  | .hbm, ⟨16, _⟩ => ⟨S4x64x65536, .f32⟩
  | .hbm, ⟨17, _⟩ => ⟨S4x128x65536, .f32⟩
  | _, _ => ⟨S4x64x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel9.lean ====
abbrev S4x2x64x128x512 : Shape := ⟨5, ![4, 2, 64, 128, 512]⟩
abbrev S64x128 : Shape := ⟨2, ![64, 128]⟩
abbrev S128x128 : Shape := ⟨2, ![128, 128]⟩
abbrev S128x256 : Shape := ⟨2, ![128, 256]⟩
abbrev S64x128x1 : Shape := ⟨3, ![64, 128, 1]⟩
abbrev S64x128x128 : Shape := ⟨3, ![64, 128, 128]⟩
abbrev S4x128x64x512 : Shape := ⟨4, ![4, 128, 64, 512]⟩
abbrev S1x2x8x128x512 : Shape := ⟨5, ![1, 2, 8, 128, 512]⟩
abbrev S8x128x128 : Shape := ⟨3, ![8, 128, 128]⟩
abbrev S1x128x8x512 : Shape := ⟨4, ![1, 128, 8, 512]⟩
abbrev S1x1x1x128x512 : Shape := ⟨5, ![1, 1, 1, 128, 512]⟩
abbrev S128x512 : Shape := ⟨2, ![128, 512]⟩
abbrev S1x128x128 : Shape := ⟨3, ![1, 128, 128]⟩
abbrev S256x512 : Shape := ⟨2, ![256, 512]⟩
abbrev S1x128x1x512 : Shape := ⟨4, ![1, 128, 1, 512]⟩

abbrev nBuf : Space → Nat
  | .hbm => 12
  | .vmem => 9
  | .smem => 0
  | _ => 0

abbrev bufTy : (tb : Table) → Fin (tcTables nBuf tb) → BufTy
  | .hbm, ⟨0, _⟩ => ⟨S4x2x64x128x512, .f32⟩
  | .hbm, ⟨1, _⟩ => ⟨S64x128, .f32⟩
  | .hbm, ⟨2, _⟩ => ⟨S64x128, .f32⟩
  | .hbm, ⟨3, _⟩ => ⟨S128x128, .f32⟩
  | .hbm, ⟨4, _⟩ => ⟨S128x128, .f32⟩
  | .hbm, ⟨5, _⟩ => ⟨S128x256, .f32⟩
  | .hbm, ⟨6, _⟩ => ⟨S128x256, .bf16⟩
  | .hbm, ⟨7, _⟩ => ⟨S64x128x1, .f32⟩
  | .hbm, ⟨8, _⟩ => ⟨S64x128x128, .f32⟩
  | .hbm, ⟨9, _⟩ => ⟨S64x128x1, .f32⟩
  | .hbm, ⟨10, _⟩ => ⟨S64x128x128, .f32⟩
  | .hbm, ⟨11, _⟩ => ⟨S4x128x64x512, .f32⟩
  | .local _ .vmem, ⟨0, _⟩ => ⟨S1x2x8x128x512, .f32⟩
  | .local _ .vmem, ⟨1, _⟩ => ⟨S1x2x8x128x512, .f32⟩
  | .local _ .vmem, ⟨2, _⟩ => ⟨S8x128x128, .f32⟩
  | .local _ .vmem, ⟨3, _⟩ => ⟨S8x128x128, .f32⟩
  | .local _ .vmem, ⟨4, _⟩ => ⟨S8x128x128, .f32⟩
  | .local _ .vmem, ⟨5, _⟩ => ⟨S8x128x128, .f32⟩
  | .local _ .vmem, ⟨6, _⟩ => ⟨S128x256, .bf16⟩
  | .local _ .vmem, ⟨7, _⟩ => ⟨S1x128x8x512, .f32⟩
  | .local _ .vmem, ⟨8, _⟩ => ⟨S1x128x8x512, .f32⟩
  | _, _ => ⟨S4x2x64x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x2x8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S4x2x64x128x512 : Shape := ⟨5, ![4, 2, 64, 128, 512]⟩
abbrev S64x128 : Shape := ⟨2, ![64, 128]⟩
abbrev S128x128 : Shape := ⟨2, ![128, 128]⟩
abbrev S4x1x64x128x512 : Shape := ⟨5, ![4, 1, 64, 128, 512]⟩
abbrev S4x64x128x512 : Shape := ⟨4, ![4, 64, 128, 512]⟩
abbrev S64x128x1 : Shape := ⟨3, ![64, 128, 1]⟩
abbrev S1x64x128x1 : Shape := ⟨4, ![1, 64, 128, 1]⟩
abbrev S4x64x512x128 : Shape := ⟨4, ![4, 64, 512, 128]⟩
abbrev S4x128x64x512 : Shape := ⟨4, ![4, 128, 64, 512]⟩

abbrev nBuf : Space → Nat
  | .hbm => 30
  | .vmem => 0
  | .smem => 0
  | _ => 0

abbrev bufTy : (tb : Table) → Fin (tcTables nBuf tb) → BufTy
  | .hbm, ⟨0, _⟩ => ⟨S4x2x64x128x512, .f32⟩
  | .hbm, ⟨1, _⟩ => ⟨S64x128, .f32⟩
  | .hbm, ⟨2, _⟩ => ⟨S64x128, .f32⟩
  | .hbm, ⟨3, _⟩ => ⟨S128x128, .f32⟩
  | .hbm, ⟨4, _⟩ => ⟨S128x128, .f32⟩
  | .hbm, ⟨5, _⟩ => ⟨S4x1x64x128x512, .f32⟩
  | .hbm, ⟨6, _⟩ => ⟨S4x64x128x512, .f32⟩
  | .hbm, ⟨7, _⟩ => ⟨S4x1x64x128x512, .f32⟩
  | .hbm, ⟨8, _⟩ => ⟨S4x64x128x512, .f32⟩
  | .hbm, ⟨9, _⟩ => ⟨S64x128x1, .f32⟩
  | .hbm, ⟨10, _⟩ => ⟨S64x128x1, .f32⟩
  | .hbm, ⟨11, _⟩ => ⟨S1x64x128x1, .f32⟩
  | .hbm, ⟨12, _⟩ => ⟨S4x64x128x512, .f32⟩
  | .hbm, ⟨13, _⟩ => ⟨S4x64x128x512, .f32⟩
  | .hbm, ⟨14, _⟩ => ⟨S1x64x128x1, .f32⟩
  | .hbm, ⟨15, _⟩ => ⟨S4x64x128x512, .f32⟩
  | .hbm, ⟨16, _⟩ => ⟨S4x64x128x512, .f32⟩
  | .hbm, ⟨17, _⟩ => ⟨S4x64x128x512, .f32⟩
  | .hbm, ⟨18, _⟩ => ⟨S1x64x128x1, .f32⟩
  | .hbm, ⟨19, _⟩ => ⟨S4x64x128x512, .f32⟩
  | .hbm, ⟨20, _⟩ => ⟨S4x64x128x512, .f32⟩
  | .hbm, ⟨21, _⟩ => ⟨S1x64x128x1, .f32⟩
  | .hbm, ⟨22, _⟩ => ⟨S4x64x128x512, .f32⟩
  | .hbm, ⟨23, _⟩ => ⟨S4x64x128x512, .f32⟩
  | .hbm, ⟨24, _⟩ => ⟨S4x64x128x512, .f32⟩
  | .hbm, ⟨25, _⟩ => ⟨S4x64x512x128, .f32⟩
  | .hbm, ⟨26, _⟩ => ⟨S4x128x64x512, .f32⟩
  | .hbm, ⟨27, _⟩ => ⟨S4x64x512x128, .f32⟩
  | .hbm, ⟨28, _⟩ => ⟨S4x128x64x512, .f32⟩
  | .hbm, ⟨29, _⟩ => ⟨S4x128x64x512, .f32⟩
  | _, _ => ⟨S4x2x64x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Kernel10.lean ====
abbrev S4x256x512 : Shape := ⟨3, ![4, 256, 512]⟩
abbrev S256x256 : Shape := ⟨2, ![256, 256]⟩
abbrev S256x512 : Shape := ⟨2, ![256, 512]⟩
abbrev S1x256x512 : Shape := ⟨3, ![1, 256, 512]⟩
abbrev S512x512 : Shape := ⟨2, ![512, 512]⟩

abbrev nBuf : Space → Nat
  | .hbm => 8
  | .vmem => 7
  | .smem => 0
  | _ => 0

abbrev bufTy : (tb : Table) → Fin (tcTables nBuf tb) → BufTy
  | .hbm, ⟨0, _⟩ => ⟨S4x256x512, .f32⟩
  | .hbm, ⟨1, _⟩ => ⟨S4x256x512, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x512, .f32⟩
  | .hbm, ⟨6, _⟩ => ⟨S256x512, .bf16⟩
  | .hbm, ⟨7, _⟩ => ⟨S4x256x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S256x512, .bf16⟩
  | .local _ .vmem, ⟨5, _⟩ => ⟨S1x256x512, .f32⟩
  | .local _ .vmem, ⟨6, _⟩ => ⟨S1x256x512, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S4x256x512 : Shape := ⟨3, ![4, 256, 512]⟩
abbrev S256x256 : Shape := ⟨2, ![256, 256]⟩
abbrev S4x512x256 : Shape := ⟨3, ![4, 512, 256]⟩

abbrev nBuf : Space → Nat
  | .hbm => 10
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x256x512, .f32⟩
  | .hbm, ⟨2, _⟩ => ⟨S256x256, .f32⟩
  | .hbm, ⟨3, _⟩ => ⟨S256x256, .f32⟩
  | .hbm, ⟨4, _⟩ => ⟨S4x512x256, .f32⟩
  | .hbm, ⟨5, _⟩ => ⟨S4x256x512, .f32⟩
  | .hbm, ⟨6, _⟩ => ⟨S256x256, .f32⟩
  | .hbm, ⟨7, _⟩ => ⟨S4x512x256, .f32⟩
  | .hbm, ⟨8, _⟩ => ⟨S4x256x512, .f32⟩
  | .hbm, ⟨9, _⟩ => ⟨S4x256x512, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel11.lean ====
abbrev S4x256x1024 : Shape := ⟨3, ![4, 256, 1024]⟩
abbrev S4x1x1024 : Shape := ⟨3, ![4, 1, 1024]⟩
abbrev S1x1024 : Shape := ⟨2, ![1, 1024]⟩
abbrev S1024x2048 : Shape := ⟨2, ![1024, 2048]⟩
abbrev S1x2048 : Shape := ⟨2, ![1, 2048]⟩
abbrev S1024x256 : Shape := ⟨2, ![1024, 256]⟩
abbrev S1x256 : Shape := ⟨2, ![1, 256]⟩
abbrev S4x256x2048 : Shape := ⟨3, ![4, 256, 2048]⟩
abbrev S2x4x256x128 : Shape := ⟨4, ![2, 4, 256, 128]⟩
abbrev S2x4x8x256 : Shape := ⟨4, ![2, 4, 8, 256]⟩
abbrev S1x256x1024 : Shape := ⟨3, ![1, 256, 1024]⟩
abbrev S1x1x1024 : Shape := ⟨3, ![1, 1, 1024]⟩
abbrev S1x256x2048 : Shape := ⟨3, ![1, 256, 2048]⟩
abbrev S2x1x256x128 : Shape := ⟨4, ![2, 1, 256, 128]⟩
abbrev S2x1x8x256 : Shape := ⟨4, ![2, 1, 8, 256]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S256x256 : Shape := ⟨2, ![256, 256]⟩
abbrev S256x128 : Shape := ⟨2, ![256, 128]⟩
abbrev S1x1x256x128 : Shape := ⟨4, ![1, 1, 256, 128]⟩
abbrev S128x256 : Shape := ⟨2, ![128, 256]⟩
abbrev S8x256 : Shape := ⟨2, ![8, 256]⟩
abbrev S1x1x8x256 : Shape := ⟨4, ![1, 1, 8, 256]⟩

abbrev nBuf : Space → Nat
  | .hbm => 12
  | .vmem => 17
  | .smem => 0
  | _ => 0

abbrev bufTy : (tb : Table) → Fin (tcTables nBuf tb) → BufTy
  | .hbm, ⟨0, _⟩ => ⟨S4x256x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S1024x2048, .f32⟩
  | .hbm, ⟨5, _⟩ => ⟨S1x2048, .f32⟩
  | .hbm, ⟨6, _⟩ => ⟨S1024x256, .f32⟩
  | .hbm, ⟨7, _⟩ => ⟨S1x256, .f32⟩
  | .hbm, ⟨8, _⟩ => ⟨S1024x2048, .bf16⟩
  | .hbm, ⟨9, _⟩ => ⟨S4x256x2048, .f32⟩
  | .hbm, ⟨10, _⟩ => ⟨S2x4x256x128, .f32⟩
  | .hbm, ⟨11, _⟩ => ⟨S2x4x8x256, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2048, .bf16⟩
  | .local _ .vmem, ⟨8, _⟩ => ⟨S1x2048, .f32⟩
  | .local _ .vmem, ⟨9, _⟩ => ⟨S1024x256, .f32⟩
  | .local _ .vmem, ⟨10, _⟩ => ⟨S1x256, .f32⟩
  | .local _ .vmem, ⟨11, _⟩ => ⟨S1x256x2048, .f32⟩
  | .local _ .vmem, ⟨12, _⟩ => ⟨S1x256x2048, .f32⟩
  | .local _ .vmem, ⟨13, _⟩ => ⟨S2x1x256x128, .f32⟩
  | .local _ .vmem, ⟨14, _⟩ => ⟨S2x1x256x128, .f32⟩
  | .local _ .vmem, ⟨15, _⟩ => ⟨S2x1x8x256, .f32⟩
  | .local _ .vmem, ⟨16, _⟩ => ⟨S2x1x8x256, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x1x8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference11Ideal.lean ====
abbrev S4x256x1024 : Shape := ⟨3, ![4, 256, 1024]⟩
abbrev S4x1x1024 : Shape := ⟨3, ![4, 1, 1024]⟩
abbrev S1x1024 : Shape := ⟨2, ![1, 1024]⟩
abbrev S1024x2048 : Shape := ⟨2, ![1024, 2048]⟩
abbrev S1x2048 : Shape := ⟨2, ![1, 2048]⟩
abbrev S1024x256 : Shape := ⟨2, ![1024, 256]⟩
abbrev S1x256 : Shape := ⟨2, ![1, 256]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x256 : Shape := ⟨3, ![4, 256, 256]⟩
abbrev S1x1x256 : Shape := ⟨3, ![1, 1, 256]⟩
abbrev S4x256x2x128 : Shape := ⟨4, ![4, 256, 2, 128]⟩
abbrev S2x4x256x128 : Shape := ⟨4, ![2, 4, 256, 128]⟩
abbrev S4x256x2048 : Shape := ⟨3, ![4, 256, 2048]⟩
abbrev S1x1x2048 : Shape := ⟨3, ![1, 1, 2048]⟩
abbrev S2x4x256x8 : Shape := ⟨4, ![2, 4, 256, 8]⟩
abbrev S2x4x8x256 : Shape := ⟨4, ![2, 4, 8, 256]⟩

abbrev nBuf : Space → Nat
  | .hbm => 43
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S1024x2048, .f32⟩
  | .hbm, ⟨5, _⟩ => ⟨S1x2048, .f32⟩
  | .hbm, ⟨6, _⟩ => ⟨S1024x256, .f32⟩
  | .hbm, ⟨7, _⟩ => ⟨S1x256, .f32⟩
  | .hbm, ⟨8, _⟩ => ⟨S4x256x1024, .f32⟩
  | .hbm, ⟨9, _⟩ => ⟨S_, .f32⟩
  | .hbm, ⟨10, _⟩ => ⟨S4x256, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S_, .f32⟩
  | .hbm, ⟨16, _⟩ => ⟨S4x256x1, .f32⟩
  | .hbm, ⟨17, _⟩ => ⟨S4x256x1, .f32⟩
  | .hbm, ⟨18, _⟩ => ⟨S4x256x1, .f32⟩
  | .hbm, ⟨19, _⟩ => ⟨S4x256x1024, .f32⟩
  | .hbm, ⟨20, _⟩ => ⟨S4x256x1024, .f32⟩
  | .hbm, ⟨21, _⟩ => ⟨S1x1x1024, .f32⟩
  | .hbm, ⟨22, _⟩ => ⟨S4x256x1024, .f32⟩
  | .hbm, ⟨23, _⟩ => ⟨S4x256x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S4x256x1024, .f32⟩
  | .hbm, ⟨31, _⟩ => ⟨S4x256x256, .f32⟩
  | .hbm, ⟨32, _⟩ => ⟨S1x1x256, .f32⟩
  | .hbm, ⟨33, _⟩ => ⟨S4x256x256, .f32⟩
  | .hbm, ⟨34, _⟩ => ⟨S4x256x256, .f32⟩
  | .hbm, ⟨35, _⟩ => ⟨S4x256x2x128, .f32⟩
  | .hbm, ⟨36, _⟩ => ⟨S2x4x256x128, .f32⟩
  | .hbm, ⟨37, _⟩ => ⟨S4x256x2048, .f32⟩
  | .hbm, ⟨38, _⟩ => ⟨S1x1x2048, .f32⟩
  | .hbm, ⟨39, _⟩ => ⟨S4x256x2048, .f32⟩
  | .hbm, ⟨40, _⟩ => ⟨S4x256x2048, .f32⟩
  | .hbm, ⟨41, _⟩ => ⟨S2x4x256x8, .f32⟩
  | .hbm, ⟨42, _⟩ => ⟨S2x4x8x256, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel12.lean ====
abbrev S4x256x1024 : Shape := ⟨3, ![4, 256, 1024]⟩
abbrev S4x1x1024 : Shape := ⟨3, ![4, 1, 1024]⟩
abbrev S1x1024 : Shape := ⟨2, ![1, 1024]⟩
abbrev S1024x1536 : Shape := ⟨2, ![1024, 1536]⟩
abbrev S1x1536 : Shape := ⟨2, ![1, 1536]⟩
abbrev S4x128x128 : Shape := ⟨3, ![4, 128, 128]⟩
abbrev S4x128 : Shape := ⟨2, ![4, 128]⟩
abbrev S128x128 : Shape := ⟨2, ![128, 128]⟩
abbrev S128x4 : Shape := ⟨2, ![128, 4]⟩
abbrev S4x256x512 : Shape := ⟨3, ![4, 256, 512]⟩
abbrev S1x256x1024 : Shape := ⟨3, ![1, 256, 1024]⟩
abbrev S1x1x1024 : Shape := ⟨3, ![1, 1, 1024]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x1536 : Shape := ⟨2, ![256, 1536]⟩
abbrev S256x512 : Shape := ⟨2, ![256, 512]⟩
abbrev S1x128x128 : Shape := ⟨3, ![1, 128, 128]⟩
abbrev S128x1 : Shape := ⟨2, ![128, 1]⟩
abbrev S256x128 : Shape := ⟨2, ![256, 128]⟩
abbrev S1x256x128 : Shape := ⟨3, ![1, 256, 128]⟩

abbrev nBuf : Space → Nat
  | .hbm => 18
  | .vmem => 19
  | .smem => 0
  | _ => 0

abbrev bufTy : (tb : Table) → Fin (tcTables nBuf tb) → BufTy
  | .hbm, ⟨0, _⟩ => ⟨S4x256x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S1024x1536, .f32⟩
  | .hbm, ⟨5, _⟩ => ⟨S1x1536, .f32⟩
  | .hbm, ⟨6, _⟩ => ⟨S4x128x128, .f32⟩
  | .hbm, ⟨7, _⟩ => ⟨S4x128, .f32⟩
  | .hbm, ⟨8, _⟩ => ⟨S128x128, .f32⟩
  | .hbm, ⟨9, _⟩ => ⟨S128x128, .f32⟩
  | .hbm, ⟨10, _⟩ => ⟨S1024x1536, .bf16⟩
  | .hbm, ⟨11, _⟩ => ⟨S4x128x128, .bf16⟩
  | .hbm, ⟨12, _⟩ => ⟨S128x4, .f32⟩
  | .hbm, ⟨13, _⟩ => ⟨S128x128, .bf16⟩
  | .hbm, ⟨14, _⟩ => ⟨S128x128, .bf16⟩
  | .hbm, ⟨15, _⟩ => ⟨S4x256x512, .f32⟩
  | .hbm, ⟨16, _⟩ => ⟨S4x256x512, .f32⟩
  | .hbm, ⟨17, _⟩ => ⟨S4x256x512, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1536, .bf16⟩
  | .local _ .vmem, ⟨8, _⟩ => ⟨S1x1536, .f32⟩
  | .local _ .vmem, ⟨9, _⟩ => ⟨S4x128x128, .bf16⟩
  | .local _ .vmem, ⟨10, _⟩ => ⟨S128x4, .f32⟩
  | .local _ .vmem, ⟨11, _⟩ => ⟨S128x128, .bf16⟩
  | .local _ .vmem, ⟨12, _⟩ => ⟨S128x128, .bf16⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference12Ideal.lean ====
abbrev S4x256x1024 : Shape := ⟨3, ![4, 256, 1024]⟩
abbrev S4x1x1024 : Shape := ⟨3, ![4, 1, 1024]⟩
abbrev S1x1024 : Shape := ⟨2, ![1, 1024]⟩
abbrev S1024x1536 : Shape := ⟨2, ![1024, 1536]⟩
abbrev S1x1536 : Shape := ⟨2, ![1, 1536]⟩
abbrev S4x128x128 : Shape := ⟨3, ![4, 128, 128]⟩
abbrev S4x128 : Shape := ⟨2, ![4, 128]⟩
abbrev S128x128 : Shape := ⟨2, ![128, 128]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x1536 : Shape := ⟨3, ![4, 256, 1536]⟩
abbrev S1x1x1536 : Shape := ⟨3, ![1, 1, 1536]⟩
abbrev S4x256x512 : Shape := ⟨3, ![4, 256, 512]⟩
abbrev S4x256x4x128 : Shape := ⟨4, ![4, 256, 4, 128]⟩
abbrev S4x2x128x4x128 : Shape := ⟨5, ![4, 2, 128, 4, 128]⟩
abbrev S4x4x2x128x128 : Shape := ⟨5, ![4, 4, 2, 128, 128]⟩
abbrev S128x4 : Shape := ⟨2, ![128, 4]⟩
abbrev S1x1x128x4x1 : Shape := ⟨5, ![1, 1, 128, 4, 1]⟩

abbrev nBuf : Space → Nat
  | .hbm => 111
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S1024x1536, .f32⟩
  | .hbm, ⟨5, _⟩ => ⟨S1x1536, .f32⟩
  | .hbm, ⟨6, _⟩ => ⟨S4x128x128, .f32⟩
  | .hbm, ⟨7, _⟩ => ⟨S4x128, .f32⟩
  | .hbm, ⟨8, _⟩ => ⟨S128x128, .f32⟩
  | .hbm, ⟨9, _⟩ => ⟨S128x128, .f32⟩
  | .hbm, ⟨10, _⟩ => ⟨S4x256x1024, .f32⟩
  | .hbm, ⟨11, _⟩ => ⟨S_, .f32⟩
  | .hbm, ⟨12, _⟩ => ⟨S4x256, .f32⟩
  | .hbm, ⟨13, _⟩ => ⟨S4x256x1, .f32⟩
  | .hbm, ⟨14, _⟩ => ⟨S_, .f32⟩
  | .hbm, ⟨15, _⟩ => ⟨S4x256x1, .f32⟩
  | .hbm, ⟨16, _⟩ => ⟨S4x256x1, .f32⟩
  | .hbm, ⟨17, _⟩ => ⟨S_, .f32⟩
  | .hbm, ⟨18, _⟩ => ⟨S4x256x1, .f32⟩
  | .hbm, ⟨19, _⟩ => ⟨S4x256x1, .f32⟩
  | .hbm, ⟨20, _⟩ => ⟨S4x256x1, .f32⟩
  | .hbm, ⟨21, _⟩ => ⟨S4x256x1024, .f32⟩
  | .hbm, ⟨22, _⟩ => ⟨S4x256x1024, .f32⟩
  | .hbm, ⟨23, _⟩ => ⟨S1x1x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x256x1024, .f32⟩
  | .hbm, ⟨30, _⟩ => ⟨S4x256x1024, .f32⟩
  | .hbm, ⟨31, _⟩ => ⟨S4x256x1024, .f32⟩
  | .hbm, ⟨32, _⟩ => ⟨S4x256x1024, .f32⟩
  | .hbm, ⟨33, _⟩ => ⟨S4x256x1536, .f32⟩
  | .hbm, ⟨34, _⟩ => ⟨S1x1x1536, .f32⟩
  | .hbm, ⟨35, _⟩ => ⟨S4x256x1536, .f32⟩
  | .hbm, ⟨36, _⟩ => ⟨S4x256x1536, .f32⟩
  | .hbm, ⟨37, _⟩ => ⟨S4x256x512, .f32⟩
  | .hbm, ⟨38, _⟩ => ⟨S4x256x4x128, .f32⟩
  | .hbm, ⟨39, _⟩ => ⟨S4x256x512, .f32⟩
  | .hbm, ⟨40, _⟩ => ⟨S4x256x512, .f32⟩
  | .hbm, ⟨41, _⟩ => ⟨S4x256x512, .f32⟩
  | .hbm, ⟨42, _⟩ => ⟨S4x256x512, .f32⟩
  | .hbm, ⟨43, _⟩ => ⟨S_, .f32⟩
  | .hbm, ⟨44, _⟩ => ⟨S4x256x512, .f32⟩
  | .hbm, ⟨45, _⟩ => ⟨S4x256x512, .f32⟩
  | .hbm, ⟨46, _⟩ => ⟨S4x256x512, .f32⟩
  | .hbm, ⟨47, _⟩ => ⟨S_, .f32⟩
  | .hbm, ⟨48, _⟩ => ⟨S4x256x512, .f32⟩
  | .hbm, ⟨49, _⟩ => ⟨S4x256x512, .f32⟩
  | .hbm, ⟨50, _⟩ => ⟨S4x256x512, .f32⟩
  | .hbm, ⟨51, _⟩ => ⟨S_, .f32⟩
  | .hbm, ⟨52, _⟩ => ⟨S4x256x512, .f32⟩
  | .hbm, ⟨53, _⟩ => ⟨S4x256x512, .f32⟩
  | .hbm, ⟨54, _⟩ => ⟨S_, .f32⟩
  | .hbm, ⟨55, _⟩ => ⟨S4x256x512, .f32⟩
  | .hbm, ⟨56, _⟩ => ⟨S4x256x512, .f32⟩
  | .hbm, ⟨57, _⟩ => ⟨S4x256x512, .f32⟩
  | .hbm, ⟨58, _⟩ => ⟨S4x256x512, .f32⟩
  | .hbm, ⟨59, _⟩ => ⟨S4x256x512, .f32⟩
  | .hbm, ⟨60, _⟩ => ⟨S_, .f32⟩
  | .hbm, ⟨61, _⟩ => ⟨S4x256x512, .f32⟩
  | .hbm, ⟨62, _⟩ => ⟨S4x256x512, .f32⟩
  | .hbm, ⟨63, _⟩ => ⟨S4x256x512, .f32⟩
  | .hbm, ⟨64, _⟩ => ⟨S_, .f32⟩
  | .hbm, ⟨65, _⟩ => ⟨S4x256x512, .f32⟩
  | .hbm, ⟨66, _⟩ => ⟨S4x256x512, .f32⟩
  | .hbm, ⟨67, _⟩ => ⟨S4x256x512, .f32⟩
  | .hbm, ⟨68, _⟩ => ⟨S_, .f32⟩
  | .hbm, ⟨69, _⟩ => ⟨S4x256x512, .f32⟩
  | .hbm, ⟨70, _⟩ => ⟨S4x256x512, .f32⟩
  | .hbm, ⟨71, _⟩ => ⟨S_, .f32⟩
  | .hbm, ⟨72, _⟩ => ⟨S4x256x512, .f32⟩
  | .hbm, ⟨73, _⟩ => ⟨S4x256x512, .f32⟩
  | .hbm, ⟨74, _⟩ => ⟨S4x256x512, .f32⟩
  | .hbm, ⟨75, _⟩ => ⟨S_, .f32⟩
  | .hbm, ⟨76, _⟩ => ⟨S4x256, .f32⟩
  | .hbm, ⟨77, _⟩ => ⟨S4x256x1, .f32⟩
  | .hbm, ⟨78, _⟩ => ⟨S_, .f32⟩
  | .hbm, ⟨79, _⟩ => ⟨S4x256x1, .f32⟩
  | .hbm, ⟨80, _⟩ => ⟨S4x256x1, .f32⟩
  | .hbm, ⟨81, _⟩ => ⟨S4x256x512, .f32⟩
  | .hbm, ⟨82, _⟩ => ⟨S4x256x512, .f32⟩
  | .hbm, ⟨83, _⟩ => ⟨S4x256x512, .f32⟩
  | .hbm, ⟨84, _⟩ => ⟨S_, .f32⟩
  | .hbm, ⟨85, _⟩ => ⟨S4x256, .f32⟩
  | .hbm, ⟨86, _⟩ => ⟨S4x256x1, .f32⟩
  | .hbm, ⟨87, _⟩ => ⟨S_, .f32⟩
  | .hbm, ⟨88, _⟩ => ⟨S4x256x1, .f32⟩
  | .hbm, ⟨89, _⟩ => ⟨S4x256x1, .f32⟩
  | .hbm, ⟨90, _⟩ => ⟨S4x256x512, .f32⟩
  | .hbm, ⟨91, _⟩ => ⟨S4x256x512, .f32⟩
  | .hbm, ⟨92, _⟩ => ⟨S_, .f32⟩
  | .hbm, ⟨93, _⟩ => ⟨S4x256x1, .f32⟩
  | .hbm, ⟨94, _⟩ => ⟨S4x256x1, .f32⟩
  | .hbm, ⟨95, _⟩ => ⟨S4x256x1, .f32⟩
  | .hbm, ⟨96, _⟩ => ⟨S4x256x512, .f32⟩
  | .hbm, ⟨97, _⟩ => ⟨S4x256x512, .f32⟩
  | .hbm, ⟨98, _⟩ => ⟨S4x2x128x4x128, .f32⟩
  | .hbm, ⟨99, _⟩ => ⟨S4x4x2x128x128, .f32⟩
  | .hbm, ⟨100, _⟩ => ⟨S4x2x128x4x128, .f32⟩
  | .hbm, ⟨101, _⟩ => ⟨S128x4, .f32⟩
  | .hbm, ⟨102, _⟩ => ⟨S1x1x128x4x1, .f32⟩
  | .hbm, ⟨103, _⟩ => ⟨S4x2x128x4x128, .f32⟩
  | .hbm, ⟨104, _⟩ => ⟨S4x2x128x4x128, .f32⟩
  | .hbm, ⟨105, _⟩ => ⟨S4x256x512, .f32⟩
  | .hbm, ⟨106, _⟩ => ⟨S4x256x512, .f32⟩
  | .hbm, ⟨107, _⟩ => ⟨S4x256x4x128, .f32⟩
  | .hbm, ⟨108, _⟩ => ⟨S4x256x512, .f32⟩
  | .hbm, ⟨109, _⟩ => ⟨S4x256x4x128, .f32⟩
  | .hbm, ⟨110, _⟩ => ⟨S4x256x512, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_v61 : Ref sig .tc := ⟨.hbm, 86, rfl⟩
abbrev main_cst_14 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_15 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩

abbrev nD : Nat := 1
abbrev τ : Topo := Topo.v7x

variable {F : FTy → Type} [FloatOps F]
-- ==== Kernel13.lean ====
abbrev S4x256x1024 : Shape := ⟨3, ![4, 256, 1024]⟩
abbrev S4x1x1024 : Shape := ⟨3, ![4, 1, 1024]⟩
abbrev S1x1024 : Shape := ⟨2, ![1, 1024]⟩
abbrev S2x4x256x512 : Shape := ⟨4, ![2, 4, 256, 512]⟩
abbrev S4x256x2048 : Shape := ⟨3, ![4, 256, 2048]⟩
abbrev S1x512 : Shape := ⟨2, ![1, 512]⟩
abbrev S4x256x512 : Shape := ⟨3, ![4, 256, 512]⟩
abbrev S1024x3072 : Shape := ⟨2, ![1024, 3072]⟩
abbrev S1x3072 : Shape := ⟨2, ![1, 3072]⟩
abbrev S3x512x1024 : Shape := ⟨3, ![3, 512, 1024]⟩
abbrev S1024x1024 : Shape := ⟨2, ![1024, 1024]⟩
abbrev S1x256x1024 : Shape := ⟨3, ![1, 256, 1024]⟩
abbrev S1x1x1024 : Shape := ⟨3, ![1, 1, 1024]⟩
abbrev S1x1x256x512 : Shape := ⟨4, ![1, 1, 256, 512]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S256x128 : Shape := ⟨2, ![256, 128]⟩
abbrev S1x512x1024 : Shape := ⟨3, ![1, 512, 1024]⟩
abbrev S512x1024 : Shape := ⟨2, ![512, 1024]⟩

abbrev nBuf : Space → Nat
  | .hbm => 18
  | .vmem => 26
  | .smem => 0
  | _ => 0

abbrev bufTy : (tb : Table) → Fin (tcTables nBuf tb) → BufTy
  | .hbm, ⟨0, _⟩ => ⟨S4x256x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S1x1024, .f32⟩
  | .hbm, ⟨5, _⟩ => ⟨S2x4x256x512, .f32⟩
  | .hbm, ⟨6, _⟩ => ⟨S4x256x2048, .f32⟩
  | .hbm, ⟨7, _⟩ => ⟨S1x512, .f32⟩
  | .hbm, ⟨8, _⟩ => ⟨S4x256x512, .f32⟩
  | .hbm, ⟨9, _⟩ => ⟨S4x256x512, .f32⟩
  | .hbm, ⟨10, _⟩ => ⟨S1024x3072, .f32⟩
  | .hbm, ⟨11, _⟩ => ⟨S1x3072, .f32⟩
  | .hbm, ⟨12, _⟩ => ⟨S3x512x1024, .f32⟩
  | .hbm, ⟨13, _⟩ => ⟨S1024x1024, .f32⟩
  | .hbm, ⟨14, _⟩ => ⟨S1024x3072, .bf16⟩
  | .hbm, ⟨15, _⟩ => ⟨S3x512x1024, .bf16⟩
  | .hbm, ⟨16, _⟩ => ⟨S1024x1024, .bf16⟩
  | .hbm, ⟨17, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1x256x512, .f32⟩
  | .local _ .vmem, ⟨10, _⟩ => ⟨S1x1x256x512, .f32⟩
  | .local _ .vmem, ⟨11, _⟩ => ⟨S1x1x256x512, .f32⟩
  | .local _ .vmem, ⟨12, _⟩ => ⟨S1x1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1024x3072, .bf16⟩
  | .local _ .vmem, ⟨21, _⟩ => ⟨S1x3072, .f32⟩
  | .local _ .vmem, ⟨22, _⟩ => ⟨S3x512x1024, .bf16⟩
  | .local _ .vmem, ⟨23, _⟩ => ⟨S1024x1024, .bf16⟩
  | .local _ .vmem, ⟨24, _⟩ => ⟨S1x256x1024, .f32⟩
  | .local _ .vmem, ⟨25, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1024x3072 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S3x512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference13Ideal.lean ====
abbrev S4x256x1024 : Shape := ⟨3, ![4, 256, 1024]⟩
abbrev S4x1x1024 : Shape := ⟨3, ![4, 1, 1024]⟩
abbrev S1x1024 : Shape := ⟨2, ![1, 1024]⟩
abbrev S2x4x256x512 : Shape := ⟨4, ![2, 4, 256, 512]⟩
abbrev S4x256x2048 : Shape := ⟨3, ![4, 256, 2048]⟩
abbrev S1x512 : Shape := ⟨2, ![1, 512]⟩
abbrev S4x256x512 : Shape := ⟨3, ![4, 256, 512]⟩
abbrev S1024x3072 : Shape := ⟨2, ![1024, 3072]⟩
abbrev S1x3072 : Shape := ⟨2, ![1, 3072]⟩
abbrev S3x512x1024 : Shape := ⟨3, ![3, 512, 1024]⟩
abbrev S1024x1024 : Shape := ⟨2, ![1024, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1x4x256x512 : Shape := ⟨4, ![1, 4, 256, 512]⟩
abbrev S4x256x4x128 : Shape := ⟨4, ![4, 256, 4, 128]⟩
abbrev S4x256x4 : Shape := ⟨3, ![4, 256, 4]⟩
abbrev S4x256x4x1 : Shape := ⟨4, ![4, 256, 4, 1]⟩
abbrev S4x128 : Shape := ⟨2, ![4, 128]⟩
abbrev S1x1x4x128 : Shape := ⟨4, ![1, 1, 4, 128]⟩
abbrev S4x256x3072 : Shape := ⟨3, ![4, 256, 3072]⟩
abbrev S1x1x3072 : Shape := ⟨3, ![1, 1, 3072]⟩
abbrev S4x256x3x1024 : Shape := ⟨4, ![4, 256, 3, 1024]⟩
abbrev S4x256x1x1024 : Shape := ⟨4, ![4, 256, 1, 1024]⟩
abbrev S1x512x1024 : Shape := ⟨3, ![1, 512, 1024]⟩
abbrev S512x1024 : Shape := ⟨2, ![512, 1024]⟩

abbrev nBuf : Space → Nat
  | .hbm => 118
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S1x1024, .f32⟩
  | .hbm, ⟨5, _⟩ => ⟨S2x4x256x512, .f32⟩
  | .hbm, ⟨6, _⟩ => ⟨S4x256x2048, .f32⟩
  | .hbm, ⟨7, _⟩ => ⟨S1x512, .f32⟩
  | .hbm, ⟨8, _⟩ => ⟨S4x256x512, .f32⟩
  | .hbm, ⟨9, _⟩ => ⟨S4x256x512, .f32⟩
  | .hbm, ⟨10, _⟩ => ⟨S1024x3072, .f32⟩
  | .hbm, ⟨11, _⟩ => ⟨S1x3072, .f32⟩
  | .hbm, ⟨12, _⟩ => ⟨S3x512x1024, .f32⟩
  | .hbm, ⟨13, _⟩ => ⟨S1024x1024, .f32⟩
  | .hbm, ⟨14, _⟩ => ⟨S4x256x1024, .f32⟩
  | .hbm, ⟨15, _⟩ => ⟨S_, .f32⟩
  | .hbm, ⟨16, _⟩ => ⟨S4x256, .f32⟩
  | .hbm, ⟨17, _⟩ => ⟨S4x256x1, .f32⟩
  | .hbm, ⟨18, _⟩ => ⟨S_, .f32⟩
  | .hbm, ⟨19, _⟩ => ⟨S4x256x1, .f32⟩
  | .hbm, ⟨20, _⟩ => ⟨S4x256x1, .f32⟩
  | .hbm, ⟨21, _⟩ => ⟨S_, .f32⟩
  | .hbm, ⟨22, _⟩ => ⟨S4x256x1, .f32⟩
  | .hbm, ⟨23, _⟩ => ⟨S4x256x1, .f32⟩
  | .hbm, ⟨24, _⟩ => ⟨S4x256x1, .f32⟩
  | .hbm, ⟨25, _⟩ => ⟨S4x256x1024, .f32⟩
  | .hbm, ⟨26, _⟩ => ⟨S4x256x1024, .f32⟩
  | .hbm, ⟨27, _⟩ => ⟨S1x1x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x256x1024, .f32⟩
  | .hbm, ⟨34, _⟩ => ⟨S4x256x1024, .f32⟩
  | .hbm, ⟨35, _⟩ => ⟨S4x256x1024, .f32⟩
  | .hbm, ⟨36, _⟩ => ⟨S4x256x1024, .f32⟩
  | .hbm, ⟨37, _⟩ => ⟨S1x4x256x512, .f32⟩
  | .hbm, ⟨38, _⟩ => ⟨S4x256x512, .f32⟩
  | .hbm, ⟨39, _⟩ => ⟨S1x4x256x512, .f32⟩
  | .hbm, ⟨40, _⟩ => ⟨S4x256x512, .f32⟩
  | .hbm, ⟨41, _⟩ => ⟨S4x256x512, .f32⟩
  | .hbm, ⟨42, _⟩ => ⟨S4x256x4x128, .f32⟩
  | .hbm, ⟨43, _⟩ => ⟨S_, .f32⟩
  | .hbm, ⟨44, _⟩ => ⟨S4x256x4, .f32⟩
  | .hbm, ⟨45, _⟩ => ⟨S4x256x4x1, .f32⟩
  | .hbm, ⟨46, _⟩ => ⟨S_, .f32⟩
  | .hbm, ⟨47, _⟩ => ⟨S4x256x4x1, .f32⟩
  | .hbm, ⟨48, _⟩ => ⟨S4x256x4x1, .f32⟩
  | .hbm, ⟨49, _⟩ => ⟨S4x256x4x128, .f32⟩
  | .hbm, ⟨50, _⟩ => ⟨S4x256x4x128, .f32⟩
  | .hbm, ⟨51, _⟩ => ⟨S4x256x4x128, .f32⟩
  | .hbm, ⟨52, _⟩ => ⟨S_, .f32⟩
  | .hbm, ⟨53, _⟩ => ⟨S4x256x4, .f32⟩
  | .hbm, ⟨54, _⟩ => ⟨S4x256x4x1, .f32⟩
  | .hbm, ⟨55, _⟩ => ⟨S_, .f32⟩
  | .hbm, ⟨56, _⟩ => ⟨S4x256x4x1, .f32⟩
  | .hbm, ⟨57, _⟩ => ⟨S4x256x4x1, .f32⟩
  | .hbm, ⟨58, _⟩ => ⟨S4x256x4x128, .f32⟩
  | .hbm, ⟨59, _⟩ => ⟨S4x256x4x128, .f32⟩
  | .hbm, ⟨60, _⟩ => ⟨S_, .f32⟩
  | .hbm, ⟨61, _⟩ => ⟨S4x256x4x1, .f32⟩
  | .hbm, ⟨62, _⟩ => ⟨S4x256x4x1, .f32⟩
  | .hbm, ⟨63, _⟩ => ⟨S4x256x4x1, .f32⟩
  | .hbm, ⟨64, _⟩ => ⟨S4x256x4x128, .f32⟩
  | .hbm, ⟨65, _⟩ => ⟨S4x256x4x128, .f32⟩
  | .hbm, ⟨66, _⟩ => ⟨S4x128, .f32⟩
  | .hbm, ⟨67, _⟩ => ⟨S1x1x4x128, .f32⟩
  | .hbm, ⟨68, _⟩ => ⟨S4x256x4x128, .f32⟩
  | .hbm, ⟨69, _⟩ => ⟨S4x256x4x128, .f32⟩
  | .hbm, ⟨70, _⟩ => ⟨S4x256x512, .f32⟩
  | .hbm, ⟨71, _⟩ => ⟨S4x256x512, .f32⟩
  | .hbm, ⟨72, _⟩ => ⟨S4x256x512, .f32⟩
  | .hbm, ⟨73, _⟩ => ⟨S_, .f32⟩
  | .hbm, ⟨74, _⟩ => ⟨S4x256x512, .f32⟩
  | .hbm, ⟨75, _⟩ => ⟨S4x256x512, .f32⟩
  | .hbm, ⟨76, _⟩ => ⟨S_, .f32⟩
  | .hbm, ⟨77, _⟩ => ⟨S4x256x512, .f32⟩
  | .hbm, ⟨78, _⟩ => ⟨S4x256x512, .f32⟩
  | .hbm, ⟨79, _⟩ => ⟨S4x256x512, .f32⟩
  | .hbm, ⟨80, _⟩ => ⟨S4x256x512, .f32⟩
  | .hbm, ⟨81, _⟩ => ⟨S4x256x3072, .f32⟩
  | .hbm, ⟨82, _⟩ => ⟨S1x1x3072, .f32⟩
  | .hbm, ⟨83, _⟩ => ⟨S4x256x3072, .f32⟩
  | .hbm, ⟨84, _⟩ => ⟨S4x256x3072, .f32⟩
  | .hbm, ⟨85, _⟩ => ⟨S4x256x3072, .f32⟩
  | .hbm, ⟨86, _⟩ => ⟨S4x256x3072, .f32⟩
  | .hbm, ⟨87, _⟩ => ⟨S_, .f32⟩
  | .hbm, ⟨88, _⟩ => ⟨S4x256x3072, .f32⟩
  | .hbm, ⟨89, _⟩ => ⟨S4x256x3072, .f32⟩
  | .hbm, ⟨90, _⟩ => ⟨S_, .f32⟩
  | .hbm, ⟨91, _⟩ => ⟨S4x256x3072, .f32⟩
  | .hbm, ⟨92, _⟩ => ⟨S4x256x3072, .f32⟩
  | .hbm, ⟨93, _⟩ => ⟨S4x256x3x1024, .f32⟩
  | .hbm, ⟨94, _⟩ => ⟨S4x256x1x1024, .f32⟩
  | .hbm, ⟨95, _⟩ => ⟨S4x256x1024, .f32⟩
  | .hbm, ⟨96, _⟩ => ⟨S1x512x1024, .f32⟩
  | .hbm, ⟨97, _⟩ => ⟨S512x1024, .f32⟩
  | .hbm, ⟨98, _⟩ => ⟨S4x256x1024, .f32⟩
  | .hbm, ⟨99, _⟩ => ⟨S4x256x1024, .f32⟩
  | .hbm, ⟨100, _⟩ => ⟨S4x256x1x1024, .f32⟩
  | .hbm, ⟨101, _⟩ => ⟨S4x256x1024, .f32⟩
  | .hbm, ⟨102, _⟩ => ⟨S1x512x1024, .f32⟩
  | .hbm, ⟨103, _⟩ => ⟨S512x1024, .f32⟩
  | .hbm, ⟨104, _⟩ => ⟨S4x256x1024, .f32⟩
  | .hbm, ⟨105, _⟩ => ⟨S4x256x1024, .f32⟩
  | .hbm, ⟨106, _⟩ => ⟨S4x256x1024, .f32⟩
  | .hbm, ⟨107, _⟩ => ⟨S4x256x1x1024, .f32⟩
  | .hbm, ⟨108, _⟩ => ⟨S4x256x1024, .f32⟩
  | .hbm, ⟨109, _⟩ => ⟨S1x512x1024, .f32⟩
  | .hbm, ⟨110, _⟩ => ⟨S512x1024, .f32⟩
  | .hbm, ⟨111, _⟩ => ⟨S4x256x1024, .f32⟩
  | .hbm, ⟨112, _⟩ => ⟨S4x256x1024, .f32⟩
  | .hbm, ⟨113, _⟩ => ⟨S4x256x1024, .f32⟩
  | .hbm, ⟨114, _⟩ => ⟨S4x256x1024, .f32⟩
  | .hbm, ⟨115, _⟩ => ⟨S4x256x1024, .f32⟩
  | .hbm, ⟨116, _⟩ => ⟨S4x256x1024, .f32⟩
  | .hbm, ⟨117, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_10 : Ref sig .tc := ⟨.hbm, 87, rfl⟩
abbrev main_v62 : Ref sig .tc := ⟨.hbm, 88, rfl⟩
abbrev main_v63 : Ref sig .tc := ⟨.hbm, 89, rfl⟩
abbrev main_cst_11 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩

abbrev nD : Nat := 1
abbrev τ : Topo := Topo.v7x

variable {F : FTy → Type} [FloatOps F]
-- ==== Kernel14.lean ====
abbrev S4x256x2048 : Shape := ⟨3, ![4, 256, 2048]⟩
abbrev S2x4x256x128 : Shape := ⟨4, ![2, 4, 256, 128]⟩
abbrev S3x1024 : Shape := ⟨2, ![3, 1024]⟩
abbrev S2x4x4x128x128 : Shape := ⟨5, ![2, 4, 4, 128, 128]⟩
abbrev S2x4x4x1x128 : Shape := ⟨5, ![2, 4, 4, 1, 128]⟩
abbrev S_ : Shape := ⟨0, ![]⟩
abbrev S4x1x1024 : Shape := ⟨3, ![4, 1, 1024]⟩
abbrev S4x2x1024 : Shape := ⟨3, ![4, 2, 1024]⟩
abbrev S4x2x1x1024 : Shape := ⟨4, ![4, 2, 1, 1024]⟩
abbrev S4x2x2x1024 : Shape := ⟨4, ![4, 2, 2, 1024]⟩
abbrev S2x4x256x8 : Shape := ⟨4, ![2, 4, 256, 8]⟩
abbrev S2x4x8x256 : Shape := ⟨4, ![2, 4, 8, 256]⟩
abbrev S2x4x256x512 : Shape := ⟨4, ![2, 4, 256, 512]⟩
abbrev S1x128x512 : Shape := ⟨3, ![1, 128, 512]⟩
abbrev S1x1x2x1024 : Shape := ⟨4, ![1, 1, 2, 1024]⟩
abbrev S1x1x128x128 : Shape := ⟨4, ![1, 1, 128, 128]⟩
abbrev S1x1x8x128 : Shape := ⟨4, ![1, 1, 8, 128]⟩
abbrev S1x1x4x128x128 : Shape := ⟨5, ![1, 1, 4, 128, 128]⟩
abbrev S1x1x4x1x128 : Shape := ⟨5, ![1, 1, 4, 1, 128]⟩
abbrev S1x1x128x512 : Shape := ⟨4, ![1, 1, 128, 512]⟩
abbrev S4x128x128 : Shape := ⟨3, ![4, 128, 128]⟩
abbrev S4x1x128 : Shape := ⟨3, ![4, 1, 128]⟩
abbrev S128x128 : Shape := ⟨2, ![128, 128]⟩
abbrev S128x1024 : Shape := ⟨2, ![128, 1024]⟩
abbrev S128x512 : Shape := ⟨2, ![128, 512]⟩
abbrev S1x1x1x1024 : Shape := ⟨4, ![1, 1, 1, 1024]⟩
abbrev S1x1024 : Shape := ⟨2, ![1, 1024]⟩
abbrev S8x128 : Shape := ⟨2, ![8, 128]⟩
abbrev S128x1 : Shape := ⟨2, ![128, 1]⟩
abbrev S1x128 : Shape := ⟨2, ![1, 128]⟩
abbrev S1x1 : Shape := ⟨2, ![1, 1]⟩
abbrev S1x1x1x128x128 : Shape := ⟨5, ![1, 1, 1, 128, 128]⟩
abbrev S1x1x1x1x128 : Shape := ⟨5, ![1, 1, 1, 1, 128]⟩
abbrev S128 : Shape := ⟨1, ![128]⟩
abbrev S1 : Shape := ⟨1, ![1]⟩

abbrev nBuf : Space → Nat
  | .hbm => 21
  | .vmem => 27
  | .smem => 0
  | _ => 0

abbrev bufTy : (tb : Table) → Fin (tcTables nBuf tb) → BufTy
  | .hbm, ⟨0, _⟩ => ⟨S4x256x2048, .f32⟩
  | .hbm, ⟨1, _⟩ => ⟨S2x4x256x128, .f32⟩
  | .hbm, ⟨2, _⟩ => ⟨S3x1024, .f32⟩
  | .hbm, ⟨3, _⟩ => ⟨S2x4x4x128x128, .f32⟩
  | .hbm, ⟨4, _⟩ => ⟨S2x4x4x1x128, .f32⟩
  | .hbm, ⟨5, _⟩ => ⟨S2x4x4x1x128, .f32⟩
  | .hbm, ⟨6, _⟩ => ⟨S_, .f32⟩
  | .hbm, ⟨7, _⟩ => ⟨S4x1x1024, .f32⟩
  | .hbm, ⟨8, _⟩ => ⟨S4x1x1024, .f32⟩
  | .hbm, ⟨9, _⟩ => ⟨S4x2x1024, .f32⟩
  | .hbm, ⟨10, _⟩ => ⟨S4x1x1024, .f32⟩
  | .hbm, ⟨11, _⟩ => ⟨S4x2x1024, .f32⟩
  | .hbm, ⟨12, _⟩ => ⟨S4x2x1x1024, .f32⟩
  | .hbm, ⟨13, _⟩ => ⟨S4x2x1x1024, .f32⟩
  | .hbm, ⟨14, _⟩ => ⟨S4x2x2x1024, .f32⟩
  | .hbm, ⟨15, _⟩ => ⟨S2x4x256x8, .f32⟩
  | .hbm, ⟨16, _⟩ => ⟨S2x4x8x256, .f32⟩
  | .hbm, ⟨17, _⟩ => ⟨S2x4x256x512, .f32⟩
  | .hbm, ⟨18, _⟩ => ⟨S2x4x4x128x128, .f32⟩
  | .hbm, ⟨19, _⟩ => ⟨S2x4x4x1x128, .f32⟩
  | .hbm, ⟨20, _⟩ => ⟨S2x4x4x1x128, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x1x2x1024, .f32⟩
  | .local _ .vmem, ⟨7, _⟩ => ⟨S1x1x2x1024, .f32⟩
  | .local _ .vmem, ⟨8, _⟩ => ⟨S1x1x128x128, .f32⟩
  | .local _ .vmem, ⟨9, _⟩ => ⟨S1x1x128x128, .f32⟩
  | .local _ .vmem, ⟨10, _⟩ => ⟨S1x1x8x128, .f32⟩
  | .local _ .vmem, ⟨11, _⟩ => ⟨S1x1x8x128, .f32⟩
  | .local _ .vmem, ⟨12, _⟩ => ⟨S3x1024, .f32⟩
  | .local _ .vmem, ⟨13, _⟩ => ⟨S1x1x4x128x128, .f32⟩
  | .local _ .vmem, ⟨14, _⟩ => ⟨S1x1x4x128x128, .f32⟩
  | .local _ .vmem, ⟨15, _⟩ => ⟨S1x1x4x1x128, .f32⟩
  | .local _ .vmem, ⟨16, _⟩ => ⟨S1x1x4x1x128, .f32⟩
  | .local _ .vmem, ⟨17, _⟩ => ⟨S1x1x4x1x128, .f32⟩
  | .local _ .vmem, ⟨18, _⟩ => ⟨S1x1x4x1x128, .f32⟩
  | .local _ .vmem, ⟨19, _⟩ => ⟨S1x1x128x512, .f32⟩
  | .local _ .vmem, ⟨20, _⟩ => ⟨S1x1x128x512, .f32⟩
  | .local _ .vmem, ⟨21, _⟩ => ⟨S1x1x4x128x128, .f32⟩
  | .local _ .vmem, ⟨22, _⟩ => ⟨S1x1x4x128x128, .f32⟩
  | .local _ .vmem, ⟨23, _⟩ => ⟨S1x1x4x1x128, .f32⟩
  | .local _ .vmem, ⟨24, _⟩ => ⟨S1x1x4x1x128, .f32⟩
  | .local _ .vmem, ⟨25, _⟩ => ⟨S1x1x4x1x128, .f32⟩
  | .local _ .vmem, ⟨26, _⟩ => ⟨S1x1x4x1x128, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨3, ![2, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.subi c1_i32 v0
  let v2 : BitVec 32 := Scalar.muli arg0 v1
  let v3 : BitVec 32 := Scalar.addi arg2 v2
  let c0_i32 : BitVec 32 := 0#32
  let c0_i32_0 : BitVec 32 := 0#32
  ![arg1.toNat, v3.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.subi c1_i32 v0
  let v2 : BitVec 32 := Scalar.muli arg0 v1
  let v3 : BitVec 32 := Scalar.addi arg2 v2
  let c1_i32_0 : BitVec 32 := 1#32
  let c0_i32 : BitVec 32 := 0#32
  ![arg1.toNat, v3.toNat, c1_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.subi c1_i32 v0
  let v2 : BitVec 32 := Scalar.muli arg0 v1
  let v3 : BitVec 32 := Scalar.addi arg2 v2
  let c2_i32_0 : BitVec 32 := 2#32
  let c0_i32 : BitVec 32 := 0#32
  ![arg1.toNat, v3.toNat, c2_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.subi c1_i32 v0
  let v2 : BitVec 32 := Scalar.muli arg0 v1
  let v3 : BitVec 32 := Scalar.addi arg2 v2
  let c0_i32 : BitVec 32 := 0#32
  let c0_i32_0 : BitVec 32 := 0#32
  let c0_i32_1 : BitVec 32 := 0#32
  ![arg1.toNat, v3.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.subi c1_i32 v0
  let v2 : BitVec 32 := Scalar.muli arg0 v1
  let v3 : BitVec 32 := Scalar.addi arg2 v2
  let c0_i32 : BitVec 32 := 0#32
  let c0_i32_0 : BitVec 32 := 0#32
  ![arg0.toNat, arg1.toNat, v3.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.subi c1_i32 v0
  let v2 : BitVec 32 := Scalar.muli arg0 v1
  let v3 : BitVec 32 := Scalar.addi arg2 v2
  let c0_i32 : BitVec 32 := 0#32
  let c0_i32_0 : BitVec 32 := 0#32
  ![arg0.toNat, arg1.toNat, c0_i32.toNat, v3.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_9 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.subi c1_i32 v0
  let v2 : BitVec 32 := Scalar.muli arg0 v1
  let v3 : BitVec 32 := Scalar.addi arg2 v2
  let c0_i32 : BitVec 32 := 0#32
  let c0_i32_0 : BitVec 32 := 0#32
  ![arg0.toNat, arg1.toNat, v3.toNat, c0_i32.toNat]

def cc0_transform_11 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_12 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_13 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x4x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x4x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x1x4x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x1x4x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== Reference14Ideal.lean ====
abbrev S4x256x2048 : Shape := ⟨3, ![4, 256, 2048]⟩
abbrev S2x4x256x128 : Shape := ⟨4, ![2, 4, 256, 128]⟩
abbrev S3x1024 : Shape := ⟨2, ![3, 1024]⟩
abbrev S2x4x4x128x128 : Shape := ⟨5, ![2, 4, 4, 128, 128]⟩
abbrev S2x4x4x1x128 : Shape := ⟨5, ![2, 4, 4, 1, 128]⟩
abbrev S4x256x1024 : Shape := ⟨3, ![4, 256, 1024]⟩
abbrev S_ : Shape := ⟨0, ![]⟩
abbrev S4x258x1024 : Shape := ⟨3, ![4, 258, 1024]⟩
abbrev S1x1024 : Shape := ⟨2, ![1, 1024]⟩
abbrev S1024 : Shape := ⟨1, ![1024]⟩
abbrev S1x1x1024 : Shape := ⟨3, ![1, 1, 1024]⟩
abbrev S4x256x512 : Shape := ⟨3, ![4, 256, 512]⟩
abbrev S4x256x4x128 : Shape := ⟨4, ![4, 256, 4, 128]⟩
abbrev S2x4x256x8 : Shape := ⟨4, ![2, 4, 256, 8]⟩
abbrev S2x4x256x4 : Shape := ⟨4, ![2, 4, 256, 4]⟩
abbrev S8x4x128x128 : Shape := ⟨4, ![8, 4, 128, 128]⟩
abbrev S8x4x128 : Shape := ⟨3, ![8, 4, 128]⟩
abbrev S2x4x4x1x1 : Shape := ⟨5, ![2, 4, 4, 1, 1]⟩
abbrev S2x4x4 : Shape := ⟨3, ![2, 4, 4]⟩
abbrev S8x4 : Shape := ⟨2, ![8, 4]⟩
abbrev S8x256x4x128 : Shape := ⟨4, ![8, 256, 4, 128]⟩
abbrev S1x4x256x4 : Shape := ⟨4, ![1, 4, 256, 4]⟩
abbrev S4x256x4 : Shape := ⟨3, ![4, 256, 4]⟩
abbrev S8x256x4 : Shape := ⟨3, ![8, 256, 4]⟩
abbrev S128x128 : Shape := ⟨2, ![128, 128]⟩
abbrev S8x2x128x4x128 : Shape := ⟨5, ![8, 2, 128, 4, 128]⟩
abbrev S2x8x4x128x128 : Shape := ⟨5, ![2, 8, 4, 128, 128]⟩
abbrev S8x2x128x4 : Shape := ⟨4, ![8, 2, 128, 4]⟩
abbrev S2x8x4x128 : Shape := ⟨4, ![2, 8, 4, 128]⟩
abbrev S1x8x4x128x128 : Shape := ⟨5, ![1, 8, 4, 128, 128]⟩
abbrev S1x8x4x128 : Shape := ⟨4, ![1, 8, 4, 128]⟩
abbrev S8x4x128x1 : Shape := ⟨4, ![8, 4, 128, 1]⟩
abbrev S8x4x1x128 : Shape := ⟨4, ![8, 4, 1, 128]⟩
abbrev S8x4x1 : Shape := ⟨3, ![8, 4, 1]⟩
abbrev S8x4x1x1 : Shape := ⟨4, ![8, 4, 1, 1]⟩
abbrev S1x4x256x4x128 : Shape := ⟨5, ![1, 4, 256, 4, 128]⟩
abbrev S2x4x256x4x128 : Shape := ⟨5, ![2, 4, 256, 4, 128]⟩
abbrev S2x4x256x512 : Shape := ⟨4, ![2, 4, 256, 512]⟩

abbrev nBuf : Space → Nat
  | .hbm => 254
  | .vmem => 0
  | .smem => 0
  | _ => 0

abbrev hbmTy0_0 (i : Nat) : BufTy := match i % 128 with
  | 0 => ⟨S4x256x2048, .f32⟩
  | 1 => ⟨S2x4x256x128, .f32⟩
  | 2 => ⟨S3x1024, .f32⟩
  | 3 => ⟨S2x4x4x128x128, .f32⟩
  | 4 => ⟨S2x4x4x1x128, .f32⟩
  | 5 => ⟨S2x4x4x1x128, .f32⟩
  | 6 => ⟨S4x256x1024, .f32⟩
  | 7 => ⟨S_, .i32⟩
  | 8 => ⟨S_, .f32⟩
  | 9 => ⟨S4x258x1024, .f32⟩
  | 10 => ⟨S4x256x1024, .f32⟩
  | 11 => ⟨S1x1024, .f32⟩
  | 12 => ⟨S1024, .f32⟩
  | 13 => ⟨S1x1x1024, .f32⟩
  | 14 => ⟨S4x256x1024, .f32⟩
  | 15 => ⟨S4x256x1024, .f32⟩
  | 16 => ⟨S4x256x1024, .f32⟩
  | 17 => ⟨S1x1024, .f32⟩
  | 18 => ⟨S1024, .f32⟩
  | 19 => ⟨S1x1x1024, .f32⟩
  | 20 => ⟨S4x256x1024, .f32⟩
  | 21 => ⟨S4x256x1024, .f32⟩
  | 22 => ⟨S4x256x1024, .f32⟩
  | 23 => ⟨S4x256x1024, .f32⟩
  | 24 => ⟨S1x1024, .f32⟩
  | 25 => ⟨S1024, .f32⟩
  | 26 => ⟨S1x1x1024, .f32⟩
  | 27 => ⟨S4x256x1024, .f32⟩
  | 28 => ⟨S4x256x1024, .f32⟩
  | 29 => ⟨S4x256x1024, .f32⟩
  | 30 => ⟨S4x256x1024, .f32⟩
  | 31 => ⟨S4x256x1024, .f32⟩
  | 32 => ⟨S_, .f32⟩
  | 33 => ⟨S4x256x1024, .f32⟩
  | 34 => ⟨S4x256x1024, .f32⟩
  | 35 => ⟨S_, .f32⟩
  | 36 => ⟨S4x256x1024, .f32⟩
  | 37 => ⟨S4x256x1024, .f32⟩
  | 38 => ⟨S4x256x1024, .f32⟩
  | 39 => ⟨S4x256x512, .f32⟩
  | 40 => ⟨S4x256x4x128, .f32⟩
  | 41 => ⟨S4x256x512, .f32⟩
  | 42 => ⟨S4x256x4x128, .f32⟩
  | 43 => ⟨S_, .f32⟩
  | 44 => ⟨S4x256x4x128, .f32⟩
  | 45 => ⟨S4x256x4x128, .f32⟩
  | 46 => ⟨S4x256x512, .f32⟩
  | 47 => ⟨S4x256x4x128, .f32⟩
  | 48 => ⟨S2x4x256x8, .f32⟩
  | 49 => ⟨S2x4x256x4, .f32⟩
  | 50 => ⟨S2x4x256x4, .f32⟩
  | 51 => ⟨S2x4x256x4, .f32⟩
  | 52 => ⟨S_, .f32⟩
  | 53 => ⟨S2x4x256x4, .f32⟩
  | 54 => ⟨S2x4x256x4, .f32⟩
  | 55 => ⟨S2x4x256x4, .f32⟩
  | 56 => ⟨S2x4x256x4, .f32⟩
  | 57 => ⟨S2x4x256x4, .i1⟩
  | 58 => ⟨S2x4x256x4, .f32⟩
  | 59 => ⟨S2x4x256x4, .f32⟩
  | 60 => ⟨S2x4x256x4, .f32⟩
  | 61 => ⟨S2x4x256x4, .f32⟩
  | 62 => ⟨S2x4x256x4, .f32⟩
  | 63 => ⟨S2x4x256x4, .f32⟩
  | 64 => ⟨S2x4x256x4, .f32⟩
  | 65 => ⟨S2x4x256x4, .f32⟩
  | 66 => ⟨S2x4x256x4, .f32⟩
  | 67 => ⟨S8x4x128x128, .f32⟩
  | 68 => ⟨S8x4x128, .f32⟩
  | 69 => ⟨S2x4x4x1x1, .f32⟩
  | 70 => ⟨S2x4x4, .f32⟩
  | 71 => ⟨S8x4, .f32⟩
  | 72 => ⟨S4x256x4x128, .f32⟩
  | 73 => ⟨S8x256x4x128, .f32⟩
  | 74 => ⟨S4x256x4x128, .f32⟩
  | 75 => ⟨S8x256x4x128, .f32⟩
  | 76 => ⟨S4x256x4x128, .f32⟩
  | 77 => ⟨S8x256x4x128, .f32⟩
  | 78 => ⟨S1x4x256x4, .f32⟩
  | 79 => ⟨S4x256x4, .f32⟩
  | 80 => ⟨S1x4x256x4, .f32⟩
  | 81 => ⟨S4x256x4, .f32⟩
  | 82 => ⟨S4x256x4, .f32⟩
  | 83 => ⟨S8x256x4, .f32⟩
  | 84 => ⟨S1x4x256x4, .f32⟩
  | 85 => ⟨S4x256x4, .f32⟩
  | 86 => ⟨S1x4x256x4, .f32⟩
  | 87 => ⟨S4x256x4, .f32⟩
  | 88 => ⟨S4x256x4, .f32⟩
  | 89 => ⟨S8x256x4, .f32⟩
  | 90 => ⟨S_, .i1⟩
  | 91 => ⟨S128x128, .i1⟩
  | 92 => ⟨S128x128, .i32⟩
  | 93 => ⟨S_, .i32⟩
  | 94 => ⟨S128x128, .i32⟩
  | 95 => ⟨S128x128, .i32⟩
  | 96 => ⟨S128x128, .i32⟩
  | 97 => ⟨S128x128, .i1⟩
  | 98 => ⟨S_, .i1⟩
  | 99 => ⟨S128x128, .i1⟩
  | 100 => ⟨S128x128, .i1⟩
  | 101 => ⟨S8x2x128x4x128, .f32⟩
  | 102 => ⟨S2x8x4x128x128, .f32⟩
  | 103 => ⟨S8x2x128x4x128, .f32⟩
  | 104 => ⟨S2x8x4x128x128, .f32⟩
  | 105 => ⟨S8x2x128x4x128, .f32⟩
  | 106 => ⟨S2x8x4x128x128, .f32⟩
  | 107 => ⟨S8x2x128x4, .f32⟩
  | 108 => ⟨S2x8x4x128, .f32⟩
  | 109 => ⟨S8x2x128x4, .f32⟩
  | 110 => ⟨S2x8x4x128, .f32⟩
  | 111 => ⟨S_, .f32⟩
  | 112 => ⟨S2x8x4x128x128, .f32⟩
  | 113 => ⟨S_, .i32⟩
  | 114 => ⟨S2x8x4x128x128, .f32⟩
  | 115 => ⟨S2x8x4x128x128, .f32⟩
  | 116 => ⟨S2x8x4x128x128, .f32⟩
  | 117 => ⟨S2x8x4x128, .f32⟩
  | 118 => ⟨S2x8x4x128, .f32⟩
  | 119 => ⟨S128x128, .i1⟩
  | 120 => ⟨S_, .i32⟩
  | 121 => ⟨S8x4x128x128, .f32⟩
  | 122 => ⟨S8x4x128, .f32⟩
  | 123 => ⟨S8x4, .f32⟩
  | 124 => ⟨S2x8x4x128x128, .f32⟩
  | 125 => ⟨S_, .i32⟩
  | 126 => ⟨S_, .i1⟩
  | 127 => ⟨S_, .i32⟩
  | _ => ⟨S4x256x2048, .f32⟩

abbrev hbmTy0_1 (i : Nat) : BufTy := match i % 128 with
  | 0 => ⟨S_, .i32⟩
  | 1 => ⟨S_, .i32⟩
  | 2 => ⟨S_, .i32⟩
  | 3 => ⟨S1x8x4x128x128, .f32⟩
  | 4 => ⟨S8x4x128x128, .f32⟩
  | 5 => ⟨S_, .i32⟩
  | 6 => ⟨S_, .i32⟩
  | 7 => ⟨S_, .i32⟩
  | 8 => ⟨S_, .i32⟩
  | 9 => ⟨S1x8x4x128x128, .f32⟩
  | 10 => ⟨S8x4x128x128, .f32⟩
  | 11 => ⟨S_, .i32⟩
  | 12 => ⟨S_, .i32⟩
  | 13 => ⟨S_, .i32⟩
  | 14 => ⟨S_, .i32⟩
  | 15 => ⟨S1x8x4x128x128, .f32⟩
  | 16 => ⟨S8x4x128x128, .f32⟩
  | 17 => ⟨S_, .i32⟩
  | 18 => ⟨S_, .i32⟩
  | 19 => ⟨S_, .i32⟩
  | 20 => ⟨S1x8x4x128, .f32⟩
  | 21 => ⟨S8x4x128, .f32⟩
  | 22 => ⟨S_, .i32⟩
  | 23 => ⟨S_, .i32⟩
  | 24 => ⟨S_, .i32⟩
  | 25 => ⟨S1x8x4x128, .f32⟩
  | 26 => ⟨S8x4x128, .f32⟩
  | 27 => ⟨S_, .f32⟩
  | 28 => ⟨S_, .f32⟩
  | 29 => ⟨S8x4x128, .f32⟩
  | 30 => ⟨S8x4x128x1, .f32⟩
  | 31 => ⟨S8x4x1x128, .f32⟩
  | 32 => ⟨S8x4x128x128, .f32⟩
  | 33 => ⟨S8x4x128x128, .f32⟩
  | 34 => ⟨S8x4x128x128, .f32⟩
  | 35 => ⟨S8x4x1x128, .f32⟩
  | 36 => ⟨S8x4x128x128, .f32⟩
  | 37 => ⟨S8x4x128x128, .f32⟩
  | 38 => ⟨S_, .f32⟩
  | 39 => ⟨S_, .f32⟩
  | 40 => ⟨S8x4x128x128, .i1⟩
  | 41 => ⟨S8x4x128x128, .f32⟩
  | 42 => ⟨S8x4x128x128, .f32⟩
  | 43 => ⟨S8x4x1, .f32⟩
  | 44 => ⟨S8x4x128, .f32⟩
  | 45 => ⟨S8x4x128, .f32⟩
  | 46 => ⟨S_, .f32⟩
  | 47 => ⟨S8x4x128, .f32⟩
  | 48 => ⟨S8x4x128, .f32⟩
  | 49 => ⟨S8x4x128x128, .f32⟩
  | 50 => ⟨S8x4x128x1, .f32⟩
  | 51 => ⟨S8x4x128x128, .f32⟩
  | 52 => ⟨S8x4x128x128, .f32⟩
  | 53 => ⟨S8x4x128x128, .f32⟩
  | 54 => ⟨S8x4x128x128, .f32⟩
  | 55 => ⟨S8x4x128, .f32⟩
  | 56 => ⟨S8x4x128, .f32⟩
  | 57 => ⟨S8x4x128x128, .f32⟩
  | 58 => ⟨S8x4x128x1, .f32⟩
  | 59 => ⟨S8x4x128x128, .f32⟩
  | 60 => ⟨S8x4x128x128, .f32⟩
  | 61 => ⟨S8x4x128x128, .f32⟩
  | 62 => ⟨S8x4x128x128, .f32⟩
  | 63 => ⟨S_, .f32⟩
  | 64 => ⟨S8x4x128, .f32⟩
  | 65 => ⟨S8x4x128, .f32⟩
  | 66 => ⟨S8x4x128, .f32⟩
  | 67 => ⟨S8x4x128, .f32⟩
  | 68 => ⟨S8x4x128, .f32⟩
  | 69 => ⟨S8x4x128, .f32⟩
  | 70 => ⟨S8x4x128, .f32⟩
  | 71 => ⟨S8x4x128, .f32⟩
  | 72 => ⟨S8x4x128x1, .f32⟩
  | 73 => ⟨S8x4x128x128, .f32⟩
  | 74 => ⟨S8x4x128x128, .f32⟩
  | 75 => ⟨S8x4x1, .f32⟩
  | 76 => ⟨S8x4, .f32⟩
  | 77 => ⟨S8x4x1, .f32⟩
  | 78 => ⟨S8x4x128, .f32⟩
  | 79 => ⟨S8x4x128, .f32⟩
  | 80 => ⟨S8x4x128, .f32⟩
  | 81 => ⟨S8x4, .f32⟩
  | 82 => ⟨S_, .f32⟩
  | 83 => ⟨S8x4, .f32⟩
  | 84 => ⟨S8x4, .f32⟩
  | 85 => ⟨S8x4x1, .f32⟩
  | 86 => ⟨S8x4x128, .f32⟩
  | 87 => ⟨S8x4x128, .f32⟩
  | 88 => ⟨S8x4x128, .f32⟩
  | 89 => ⟨S8x4, .f32⟩
  | 90 => ⟨S8x4, .f32⟩
  | 91 => ⟨S8x4, .f32⟩
  | 92 => ⟨S8x4x1x1, .f32⟩
  | 93 => ⟨S8x4x128x128, .f32⟩
  | 94 => ⟨S8x4x128x128, .f32⟩
  | 95 => ⟨S8x4x128x1, .f32⟩
  | 96 => ⟨S8x4x128x128, .f32⟩
  | 97 => ⟨S8x4x128x128, .f32⟩
  | 98 => ⟨S8x4x128x128, .f32⟩
  | 99 => ⟨S8x4x128x128, .f32⟩
  | 100 => ⟨S8x4x1, .f32⟩
  | 101 => ⟨S8x4x128, .f32⟩
  | 102 => ⟨S8x4x128, .f32⟩
  | 103 => ⟨S8x4x128, .f32⟩
  | 104 => ⟨S8x4x128, .f32⟩
  | 105 => ⟨S1x8x4x128x128, .f32⟩
  | 106 => ⟨S_, .i32⟩
  | 107 => ⟨S_, .i32⟩
  | 108 => ⟨S_, .i32⟩
  | 109 => ⟨S_, .i32⟩
  | 110 => ⟨S2x8x4x128x128, .f32⟩
  | 111 => ⟨S_, .i32⟩
  | 112 => ⟨S_, .i32⟩
  | 113 => ⟨S8x2x128x4x128, .f32⟩
  | 114 => ⟨S8x256x4x128, .f32⟩
  | 115 => ⟨S4x256x4x128, .f32⟩
  | 116 => ⟨S4x256x4x128, .f32⟩
  | 117 => ⟨S4x256x4x128, .f32⟩
  | 118 => ⟨S1x4x256x4x128, .f32⟩
  | 119 => ⟨S1x4x256x4x128, .f32⟩
  | 120 => ⟨S2x4x256x4x128, .f32⟩
  | 121 => ⟨S2x4x256x512, .f32⟩
  | 122 => ⟨S2x4x4x1x1, .f32⟩
  | 123 => ⟨S2x4x4x1x128, .f32⟩
  | 124 => ⟨S2x4x4x128x128, .f32⟩
  | 125 => ⟨S2x4x4x1x128, .f32⟩
  | _ => ⟨S4x256x2048, .f32⟩

abbrev hbmTy (i : Nat) : BufTy := match i / 128 with
  | 0 => hbmTy0_0 i
  | 1 => hbmTy0_1 i
  | _ => ⟨S4x256x2048, .f32⟩

abbrev bufTy : (tb : Table) → Fin (tcTables nBuf tb) → BufTy
  | .hbm, ⟨i, _⟩ => hbmTy i
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call2_v0 : Ref sig .tc := ⟨.hbm, 51, rfl⟩
abbrev main_call2_call0_cst : Ref sig .tc := ⟨.hbm, 52, rfl⟩
abbrev main_call2_call0_v0 : Ref sig .tc := ⟨.hbm, 53, rfl⟩
abbrev main_call2_call0_v1 : Ref sig .tc := ⟨.hbm, 54, rfl⟩
abbrev main_call2_call0_v2 : Ref sig .tc := ⟨.hbm, 55, rfl⟩
abbrev main_call2_call0_v3 : Ref sig .tc := ⟨.hbm, 56, rfl⟩
abbrev main_call2_call0_v4 : Ref sig .tc := ⟨.hbm, 57, rfl⟩
abbrev main_call2_call0_v5 : Ref sig .tc := ⟨.hbm, 58, rfl⟩
abbrev main_call2_call0_v6 : Ref sig .tc := ⟨.hbm, 59, rfl⟩
abbrev main_call2_call0_v7 : Ref sig .tc := ⟨.hbm, 60, rfl⟩
abbrev main_call2_call0_v8 : Ref sig .tc := ⟨.hbm, 61, rfl⟩
abbrev main_call2_call0_v9 : Ref sig .tc := ⟨.hbm, 62, rfl⟩
abbrev main_call2_call0_v10 : Ref sig .tc := ⟨.hbm, 63, rfl⟩
abbrev main_call2_call0_v11 : Ref sig .tc := ⟨.hbm, 64, rfl⟩
abbrev main_call2_v1 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_0 : Ref sig .tc := ⟨.hbm, 90, rfl⟩
abbrev main_v58 : Ref sig .tc := ⟨.hbm, 91, rfl⟩
abbrev main_call8_v0 : Ref sig .tc := ⟨.hbm, 92, rfl⟩
abbrev main_call8_c : Ref sig .tc := ⟨.hbm, 93, rfl⟩
abbrev main_call8_v1 : Ref sig .tc := ⟨.hbm, 94, rfl⟩
abbrev main_call8_v2 : Ref sig .tc := ⟨.hbm, 95, rfl⟩
abbrev main_call8_v3 : Ref sig .tc := ⟨.hbm, 96, rfl⟩
abbrev main_call8_v4 : Ref sig .tc := ⟨.hbm, 97, rfl⟩
abbrev main_call8_c_0 : Ref sig .tc := ⟨.hbm, 98, rfl⟩
abbrev main_call8_v5 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_1 : Ref sig .tc := ⟨.hbm, 111, rfl⟩
abbrev main_v70 : Ref sig .tc := ⟨.hbm, 112, rfl⟩
abbrev main_c_2 : Ref sig .tc := ⟨.hbm, 113, rfl⟩
abbrev main_v71_0 : Ref sig .tc := ⟨.hbm, 114, rfl⟩
abbrev main_v71_1 : Ref sig .tc := ⟨.hbm, 115, rfl⟩
abbrev main_v71_2 : Ref sig .tc := ⟨.hbm, 116, rfl⟩
abbrev main_v71_3 : Ref sig .tc := ⟨.hbm, 117, rfl⟩
abbrev main_v71_4 : Ref sig .tc := ⟨.hbm, 118, rfl⟩
abbrev main_v71_5 : Ref sig .tc := ⟨.hbm, 119, rfl⟩
abbrev main_v71_6 : Ref sig .tc := ⟨.hbm, 120, rfl⟩
abbrev main_v71_7 : Ref sig .tc := ⟨.hbm, 121, rfl⟩
abbrev main_v71_8 : Ref sig .tc := ⟨.hbm, 122, rfl⟩
abbrev main_v71_9 : Ref sig .tc := ⟨.hbm, 123, rfl⟩
abbrev main_v71_10 : Ref sig .tc := ⟨.hbm, 124, rfl⟩
abbrev main_while0c_c_13 : Ref sig .tc := ⟨.hbm, 125, rfl⟩
abbrev main_while0c_v85 : Ref sig .tc := ⟨.hbm, 126, rfl⟩
abbrev main_while0b_call9_c : Ref sig .tc := ⟨.hbm, 127, rfl⟩
abbrev main_while0b_call9_c_0 : Ref sig .tc := ⟨.hbm, 128, rfl⟩
abbrev main_while0b_call9_c_1 : Ref sig .tc := ⟨.hbm, 129, rfl⟩
abbrev main_while0b_call9_c_2 : Ref sig .tc := ⟨.hbm, 130, rfl⟩
abbrev main_while0b_call9_v0 : Ref sig .tc := ⟨.hbm, 131, rfl⟩
abbrev main_while0b_v85 : Ref sig .tc := ⟨.hbm, 132, rfl⟩
abbrev main_while0b_call10_c : Ref sig .tc := ⟨.hbm, 133, rfl⟩
abbrev main_while0b_call10_c_0 : Ref sig .tc := ⟨.hbm, 134, rfl⟩
abbrev main_while0b_call10_c_1 : Ref sig .tc := ⟨.hbm, 135, rfl⟩
abbrev main_while0b_call10_c_2 : Ref sig .tc := ⟨.hbm, 136, rfl⟩
abbrev main_while0b_call10_v0 : Ref sig .tc := ⟨.hbm, 137, rfl⟩
abbrev main_while0b_v86 : Ref sig .tc := ⟨.hbm, 138, rfl⟩
abbrev main_while0b_call11_c : Ref sig .tc := ⟨.hbm, 139, rfl⟩
abbrev main_while0b_call11_c_0 : Ref sig .tc := ⟨.hbm, 140, rfl⟩
abbrev main_while0b_call11_c_1 : Ref sig .tc := ⟨.hbm, 141, rfl⟩
abbrev main_while0b_call11_c_2 : Ref sig .tc := ⟨.hbm, 142, rfl⟩
abbrev main_while0b_call11_v0 : Ref sig .tc := ⟨.hbm, 143, rfl⟩
abbrev main_while0b_v87 : Ref sig .tc := ⟨.hbm, 144, rfl⟩
abbrev main_while0b_call12_c : Ref sig .tc := ⟨.hbm, 145, rfl⟩
abbrev main_while0b_call12_c_0 : Ref sig .tc := ⟨.hbm, 146, rfl⟩
abbrev main_while0b_call12_c_1 : Ref sig .tc := ⟨.hbm, 147, rfl⟩
abbrev main_while0b_call12_v0 : Ref sig .tc := ⟨.hbm, 148, rfl⟩
abbrev main_while0b_v88 : Ref sig .tc := ⟨.hbm, 149, rfl⟩
abbrev main_while0b_call13_c : Ref sig .tc := ⟨.hbm, 150, rfl⟩
abbrev main_while0b_call13_c_0 : Ref sig .tc := ⟨.hbm, 151, rfl⟩
abbrev main_while0b_call13_c_1 : Ref sig .tc := ⟨.hbm, 152, rfl⟩
abbrev main_while0b_call13_v0 : Ref sig .tc := ⟨.hbm, 153, rfl⟩
abbrev main_while0b_v89 : Ref sig .tc := ⟨.hbm, 154, rfl⟩
abbrev main_while0b_call14_call0_cst : Ref sig .tc := ⟨.hbm, 155, rfl⟩
abbrev main_while0b_call14_call0_v0 : Ref sig .tc := ⟨.hbm, 156, rfl⟩
abbrev main_while0b_v90 : Ref sig .tc := ⟨.hbm, 157, rfl⟩
abbrev main_while0b_v91 : Ref sig .tc := ⟨.hbm, 158, rfl⟩
abbrev main_while0b_v92 : Ref sig .tc := ⟨.hbm, 159, rfl⟩
abbrev main_while0b_v93 : Ref sig .tc := ⟨.hbm, 160, rfl⟩
abbrev main_while0b_v94 : Ref sig .tc := ⟨.hbm, 161, rfl⟩
abbrev main_while0b_v95 : Ref sig .tc := ⟨.hbm, 162, rfl⟩
abbrev main_while0b_v96 : Ref sig .tc := ⟨.hbm, 163, rfl⟩
abbrev main_while0b_v97 : Ref sig .tc := ⟨.hbm, 164, rfl⟩
abbrev main_while0b_v98 : Ref sig .tc := ⟨.hbm, 165, rfl⟩
abbrev main_while0b_cst_13 : Ref sig .tc := ⟨.hbm, 166, rfl⟩
abbrev main_while0b_call15_v0 : Ref sig .tc := ⟨.hbm, 167, rfl⟩
abbrev main_while0b_call15_v1 : Ref sig .tc := ⟨.hbm, 168, rfl⟩
abbrev main_while0b_call15_v2 : Ref sig .tc := ⟨.hbm, 169, rfl⟩
abbrev main_while0b_v99 : Ref sig .tc := ⟨.hbm, 170, rfl⟩
abbrev main_while0b_v100 : Ref sig .tc := ⟨.hbm, 171, rfl⟩
abbrev main_while0b_v101 : Ref sig .tc := ⟨.hbm, 172, rfl⟩
abbrev main_while0b_v102 : Ref sig .tc := ⟨.hbm, 173, rfl⟩
abbrev main_while0b_cst_14 : Ref sig .tc := ⟨.hbm, 174, rfl⟩
abbrev main_while0b_v103 : Ref sig .tc := ⟨.hbm, 175, rfl⟩
abbrev main_while0b_v104 : Ref sig .tc := ⟨.hbm, 176, rfl⟩
abbrev main_while0b_v105 : Ref sig .tc := ⟨.hbm, 177, rfl⟩
abbrev main_while0b_v106 : Ref sig .tc := ⟨.hbm, 178, rfl⟩
abbrev main_while0b_v107 : Ref sig .tc := ⟨.hbm, 179, rfl⟩
abbrev main_while0b_v108 : Ref sig .tc := ⟨.hbm, 180, rfl⟩
abbrev main_while0b_v109 : Ref sig .tc := ⟨.hbm, 181, rfl⟩
abbrev main_while0b_v110 : Ref sig .tc := ⟨.hbm, 182, rfl⟩
abbrev main_while0b_v111 : Ref sig .tc := ⟨.hbm, 183, rfl⟩
abbrev main_while0b_v112 : Ref sig .tc := ⟨.hbm, 184, rfl⟩
abbrev main_while0b_v113 : Ref sig .tc := ⟨.hbm, 185, rfl⟩
abbrev main_while0b_v114 : Ref sig .tc := ⟨.hbm, 186, rfl⟩
abbrev main_while0b_v115 : Ref sig .tc := ⟨.hbm, 187, rfl⟩
abbrev main_while0b_v116 : Ref sig .tc := ⟨.hbm, 188, rfl⟩
abbrev main_while0b_v117 : Ref sig .tc := ⟨.hbm, 189, rfl⟩
abbrev main_while0b_v118 : Ref sig .tc := ⟨.hbm, 190, rfl⟩
abbrev main_while0b_cst_15 : Ref sig .tc := ⟨.hbm, 191, rfl⟩
abbrev main_while0b_v119 : Ref sig .tc := ⟨.hbm, 192, rfl⟩
abbrev main_while0b_v120 : Ref sig .tc := ⟨.hbm, 193, rfl⟩
abbrev main_while0b_v121 : Ref sig .tc := ⟨.hbm, 194, rfl⟩
abbrev main_while0b_v122 : Ref sig .tc := ⟨.hbm, 195, rfl⟩
abbrev main_while0b_v123 : Ref sig .tc := ⟨.hbm, 196, rfl⟩
abbrev main_while0b_v124 : Ref sig .tc := ⟨.hbm, 197, rfl⟩
abbrev main_while0b_v125 : Ref sig .tc := ⟨.hbm, 198, rfl⟩
abbrev main_while0b_v126 : Ref sig .tc := ⟨.hbm, 199, rfl⟩
abbrev main_while0b_v127 : Ref sig .tc := ⟨.hbm, 200, rfl⟩
abbrev main_while0b_v128 : Ref sig .tc := ⟨.hbm, 201, rfl⟩
abbrev main_while0b_v129 : Ref sig .tc := ⟨.hbm, 202, rfl⟩
abbrev main_while0b_v130 : Ref sig .tc := ⟨.hbm, 203, rfl⟩
abbrev main_while0b_v131 : Ref sig .tc := ⟨.hbm, 204, rfl⟩
abbrev main_while0b_v132 : Ref sig .tc := ⟨.hbm, 205, rfl⟩
abbrev main_while0b_v133 : Ref sig .tc := ⟨.hbm, 206, rfl⟩
abbrev main_while0b_v134 : Ref sig .tc := ⟨.hbm, 207, rfl⟩
abbrev main_while0b_v135 : Ref sig .tc := ⟨.hbm, 208, rfl⟩
abbrev main_while0b_v136 : Ref sig .tc := ⟨.hbm, 209, rfl⟩
abbrev main_while0b_cst_16 : Ref sig .tc := ⟨.hbm, 210, rfl⟩
abbrev main_while0b_v137 : Ref sig .tc := ⟨.hbm, 211, rfl⟩
abbrev main_while0b_v138 : Ref sig .tc := ⟨.hbm, 212, rfl⟩
abbrev main_while0b_v139 : Ref sig .tc := ⟨.hbm, 213, rfl⟩
abbrev main_while0b_v140 : Ref sig .tc := ⟨.hbm, 214, rfl⟩
abbrev main_while0b_v141 : Ref sig .tc := ⟨.hbm, 215, rfl⟩
abbrev main_while0b_v142 : Ref sig .tc := ⟨.hbm, 216, rfl⟩
abbrev main_while0b_v143 : Ref sig .tc := ⟨.hbm, 217, rfl⟩
abbrev main_while0b_v144 : Ref sig .tc := ⟨.hbm, 218, rfl⟩
abbrev main_while0b_v145 : Ref sig .tc := ⟨.hbm, 219, rfl⟩
abbrev main_while0b_v146 : Ref sig .tc := ⟨.hbm, 220, rfl⟩
abbrev main_while0b_v147 : Ref sig .tc := ⟨.hbm, 221, rfl⟩
abbrev main_while0b_v148 : Ref sig .tc := ⟨.hbm, 222, rfl⟩
abbrev main_while0b_v149 : Ref sig .tc := ⟨.hbm, 223, rfl⟩
abbrev main_while0b_v150 : Ref sig .tc := ⟨.hbm, 224, rfl⟩
abbrev main_while0b_v151 : Ref sig .tc := ⟨.hbm, 225, rfl⟩
abbrev main_while0b_v152 : Ref sig .tc := ⟨.hbm, 226, rfl⟩
abbrev main_while0b_v153 : Ref sig .tc := ⟨.hbm, 227, rfl⟩
abbrev main_while0b_v154 : Ref sig .tc := ⟨.hbm, 228, rfl⟩
abbrev main_while0b_v155 : Ref sig .tc := ⟨.hbm, 229, rfl⟩
abbrev main_while0b_v156 : Ref sig .tc := ⟨.hbm, 230, rfl⟩
abbrev main_while0b_v157 : Ref sig .tc := ⟨.hbm, 231, rfl⟩
abbrev main_while0b_v158 : Ref sig .tc := ⟨.hbm, 232, rfl⟩
abbrev main_while0b_call16_v0 : Ref sig .tc := ⟨.hbm, 233, rfl⟩
abbrev main_while0b_call16_c : Ref sig .tc := ⟨.hbm, 234, rfl⟩
abbrev main_while0b_call16_c_0 : Ref sig .tc := ⟨.hbm, 235, rfl⟩
abbrev main_while0b_call16_c_1 : Ref sig .tc := ⟨.hbm, 236, rfl⟩
abbrev main_while0b_call16_c_2 : Ref sig .tc := ⟨.hbm, 237, rfl⟩
abbrev main_while0b_v159 : Ref sig .tc := ⟨.hbm, 238, rfl⟩
abbrev main_while0b_c_17 : Ref sig .tc := ⟨.hbm, 239, rfl⟩
abbrev main_while0b_v160 : Ref sig .tc := ⟨.hbm, 240, rfl⟩
abbrev main_v72 : Ref sig .tc := ⟨.hbm, 241, rfl⟩
abbrev main_v73 : Ref sig .tc := ⟨.hbm, 242, rfl⟩
abbrev main_v74 : Ref sig .tc := ⟨.hbm, 243, rfl⟩
abbrev main_v75 : Ref sig .tc := ⟨.hbm, 244, rfl⟩
abbrev main_v76 : Ref sig .tc := ⟨.hbm, 245, rfl⟩
abbrev main_v77 : Ref sig .tc := ⟨.hbm, 246, rfl⟩
abbrev main_v78 : Ref sig .tc := ⟨.hbm, 247, rfl⟩
abbrev main_v79 : Ref sig .tc := ⟨.hbm, 248, rfl⟩
abbrev main_v80 : Ref sig .tc := ⟨.hbm, 249, rfl⟩
abbrev main_v81 : Ref sig .tc := ⟨.hbm, 250, rfl⟩
abbrev main_v82 : Ref sig .tc := ⟨.hbm, 251, rfl⟩
abbrev main_v83 : Ref sig .tc := ⟨.hbm, 252, rfl⟩
abbrev main_v84 : Ref sig .tc := ⟨.hbm, 253, rfl⟩

abbrev nD : Nat := 1
abbrev τ : Topo := Topo.v7x

variable {F : FTy → Type} [FloatOps F]

abbrev main_while0_count : Scf.Loop 32 := ⟨0#32, 2#32, 1#32⟩
-- ==== Proof.Rec.lean ====
module
public import Idealize.ShloMosaic.Lib.Pointwise
@[expose] public section
noncomputable section

/-! # One chunk of the mLSTM recurrence of one head, over the extended reals

`Chunk` holds what one chunk of 128 positions feeds the recurrence of one head: the queries, keys and values, the input
gates, the running sum `b` of the forget gates' logarithms (`bl` is the sum over the whole chunk), and for each pair of
positions the bit that says whether the first one sees the second. `State` is the matrix memory, the normalizer and the
stabilizer that are carried from chunk to chunk. -/

namespace Cert.Rec
open Idealize.ShloMosaic

/-- A vector over the 128 positions (or the 128 lanes) of a chunk. -/
abbrev Vec128 := Fin 128 → EReal
/-- A 128 by 128 table. -/
abbrev Mat128 := Fin 128 → Fin 128 → EReal

/-- What one chunk feeds the recurrence of one head. -/
@[ext] structure Chunk where
  M : Fin 128 → Fin 128 → BitVec 1
  b : Vec128
  bl : EReal
  q : Mat128
  k : Mat128
  v : Mat128
  ig : Vec128

/-- What the recurrence of one head carries from chunk to chunk. -/
@[ext] structure State where
  C : Mat128
  n : Vec128
  m : EReal

/-- The value that stands for a pair of positions the first of which does not see the second. -/
abbrev hidden : EReal := Ideal.ofBits .f32 0xFF800000#32

/-- The largest entry of a vector, no less than `hidden`. -/
def vmax (f : Vec128) : EReal := Finset.univ.fold max hidden f

variable (D : Chunk) (S : State)

/-- The logarithm of the weight with which position `t` sees position `s`. -/
def dm (t s : Fin 128) : EReal := Scalar.select (D.M t s) (D.b t - D.b s + D.ig s) hidden
/-- The logarithm of the weight with which position `t` sees the carried state. -/
def inter (t : Fin 128) : EReal := D.b t + S.m
/-- The stabilizer at position `t`. -/
def mt (t : Fin 128) : EReal := max (inter D S t) (vmax (dm D t))
/-- The weighted score of position `s` at position `t`. -/
def sc (t s : Fin 128) : EReal := (∑ j, D.q t j * D.k s j) * Ideal.exp (dm D t s - mt D S t)
/-- The weight of the carried state at position `t`. -/
def al (t : Fin 128) : EReal := Ideal.exp (inter D S t - mt D S t)
/-- The numerator of the output. -/
def num (t j : Fin 128) : EReal := (∑ s, sc D S t s * D.v s j) + al D S t * ∑ e, D.q t e * S.C e j
/-- The normalizer of the output, before its lower bound. -/
def den (t : Fin 128) : EReal := (∑ s, sc D S t s) + al D S t * ∑ e, D.q t e * S.n e
/-- The output at position `t` and lane `j`. -/
def out (t j : Fin 128) : EReal :=
  Ideal.div (num D S t j) (max (Max.max (den D S t) (-(den D S t))) (Ideal.exp (-(mt D S t))))
/-- The logarithm of the weight with which position `s` enters the next state. -/
def gl (s : Fin 128) : EReal := D.bl - D.b s + D.ig s
/-- The next stabilizer. -/
def mnew : EReal := max (D.bl + S.m) (vmax (gl D))
/-- The weight with which position `s` enters the next state. -/
def wt (s : Fin 128) : EReal := Ideal.exp (gl D s - mnew D S)
/-- The factor by which the carried state fades over the chunk. -/
def dec : EReal := Ideal.exp (D.bl + S.m - mnew D S)

/-- The state after the chunk. -/
def next : State where
  C := fun e j => dec D S * S.C e j + ∑ s, (D.k s e * wt D S s) * D.v s j
  n := fun j => dec D S * S.n j + ∑ s, D.k s j * wt D S s
  m := mnew D S

end Cert.Rec
-- ==== Proof.Head.lean ====
module
public import proofs.«01_k».proof.Proof.Gen.KernelIdeal.Value
public import proofs.«01_k».proof.Proof.Rec
public import Idealize.ShloMosaic.Lib.Pipeline.ValueKit
@[expose] public section
set_option maxRecDepth 16384
noncomputable section

/-! # What the kernel computes for one head in one chunk

The kernel treats its four heads one after the other by the same operations on different lanes. `Head` names the operands
of one head; `headH`, `headC`, `headN`, `headM` are the arrays it stores, and the theorems read them at an index as the
recurrence of `Rec.lean`. -/

namespace Cert.KernelIdeal.Scan
open Cert.KernelIdeal Cert.KernelIdeal.Gen Idealize.ShloMosaic Idealize.ShloMosaic.TcCoe Idealize.SL.Sem
open Cert (Rec.Chunk Rec.State)

/-- The operands of one head in one chunk. -/
structure Head where
  mask : IVec S128x128 1
  qf : FVec Ideal S128x128 .f32
  kf : FVec Ideal S128x128 .f32
  v : FVec Ideal S128x128 .f32
  icol : FVec Ideal S128x1 .f32
  bcol : FVec Ideal S128x1 .f32
  irow : FVec Ideal S1x128 .f32
  brow : FVec Ideal S1x128 .f32
  blast : FVec Ideal S1x1 .f32
  C : FVec Ideal S128x128 .f32
  n : FVec Ideal S1x128 .f32
  mst : FVec Ideal S1x1 .f32

variable (H : Head)

def Head.dm : FVec Ideal S128x128 .f32 :=
  select H.mask (addf (subf (broadcastTo S128x128 H.bcol broadcasts_S128x1_S128x128)
    (broadcastTo S128x128 H.brow broadcasts_S1x128_S128x128)) (broadcastTo S128x128 H.irow broadcasts_S1x128_S128x128))
    (broadcast S128x128 (Scalar.ofBits .f32 0xFF800000#32))
def Head.inter : FVec Ideal S128x1 .f32 := addf H.bcol (broadcastTo S128x1 H.mst broadcasts_S1x1_S128x1)
def Head.mt : FVec Ideal S128x1 .f32 :=
  maximumf H.inter (shapeCast S128x1 (multiReduction .maximumf [1] S128 H.dm 0xFF800000#32 reduces_S128x128_S128 (.inl rfl) rfl) shapeCasts_S128_S128x1)
def Head.sc : FVec Ideal S128x128 .f32 :=
  mulf (matmul dot_S128x128_S128x128_S128x128_1_1_0_0_n_n none (truncf .bf16 H.qf bitsLt_bf16_f32) (truncf .bf16 H.kf bitsLt_bf16_f32) (constant S128x128 .f32 0x00000000#32))
    (exp (subf H.dm (broadcastTo S128x128 H.mt broadcasts_S128x1_S128x128)))
def Head.al : FVec Ideal S128x1 .f32 := exp (subf H.inter H.mt)
def Head.num : FVec Ideal S128x128 .f32 :=
  addf (matmul dot_S128x128_S128x128_S128x128_1_0_0_1_n_n none (truncf .bf16 H.sc bitsLt_bf16_f32) (truncf .bf16 H.v bitsLt_bf16_f32) (constant S128x128 .f32 0x00000000#32))
    (mulf (broadcastTo S128x128 H.al broadcasts_S128x1_S128x128)
      (matmul dot_S128x128_S128x128_S128x128_1_0_0_1_n_n none (truncf .bf16 H.qf bitsLt_bf16_f32) (truncf .bf16 H.C bitsLt_bf16_f32) (constant S128x128 .f32 0x00000000#32)))
def Head.den : FVec Ideal S128x1 .f32 :=
  addf (shapeCast S128x1 (multiReduction .add [1] S128 H.sc 0x00000000#32 reduces_S128x128_S128 (.inl rfl) rfl) shapeCasts_S128_S128x1)
    (mulf H.al (shapeCast S128x1 (multiReduction .add [1] S128 (mulf H.qf (broadcastTo S128x128 H.n broadcasts_S1x128_S128x128)) 0x00000000#32 reduces_S128x128_S128 (.inl rfl) rfl) shapeCasts_S128_S128x1))
/-- The head's output over the chunk. -/
def headH : FVec Ideal S128x128 .f32 :=
  divf H.num (broadcastTo S128x128 (maximumf (absf H.den)
    (exp (subf (broadcast S128x1 (Scalar.ofBits .f32 0x00000000#32)) H.mt))) broadcasts_S128x1_S128x128)
/-- The head's next stabilizer. -/
def headM : FVec Ideal S1x1 .f32 :=
  maximumf (addf H.blast H.mst) (shapeCast S1x1 (multiReduction .maximumf [1] S1
    (addf (subf (broadcastTo S1x128 H.blast broadcasts_S1x1_S1x128) H.brow) H.irow) 0xFF800000#32 reduces_S1x128_S1 (.inl rfl) rfl) shapeCasts_S1_S1x1)
def Head.kw : FVec Ideal S128x128 .f32 :=
  mulf H.kf (broadcastTo S128x128 (exp (subf (addf (subf (broadcastTo S128x1 H.blast broadcasts_S1x1_S128x1) H.bcol) H.icol)
    (broadcastTo S128x1 (headM H) broadcasts_S1x1_S128x1))) broadcasts_S128x1_S128x128)
def Head.dec : FVec Ideal S1x1 .f32 := exp (subf (addf H.blast H.mst) (headM H))
/-- The head's next matrix memory. -/
def headC : FVec Ideal S128x128 .f32 :=
  addf (mulf (broadcastTo S128x128 H.dec broadcasts_S1x1_S128x128) H.C)
    (matmul dot_S128x128_S128x128_S128x128_1_0_0_1_n_n none (truncf .bf16 (transpose S128x128 [1, 0] H.kw transposes_S128x128_p1_0_S128x128) bitsLt_bf16_f32)
      (truncf .bf16 H.v bitsLt_bf16_f32) (constant S128x128 .f32 0x00000000#32))
/-- The head's next normalizer. -/
def headN : FVec Ideal S1x128 .f32 :=
  addf (mulf (broadcastTo S1x128 H.dec broadcasts_S1x1_S1x128) H.n)
    (shapeCast S1x128 (multiReduction .add [0] S128 H.kw 0x00000000#32 reduces_S128x128_S128_2 (.inl rfl) rfl) shapeCasts_S128_S1x128)

/-- The head's chunk as the recurrence takes it. -/
def Head.chunk : Rec.Chunk where
  M := fun t s => H.mask (ix2 t s)
  b := fun t => H.brow (ix2 0 t)
  bl := H.blast (ix2 0 0)
  q := fun t j => H.qf (ix2 t j)
  k := fun t j => H.kf (ix2 t j)
  v := fun t j => H.v (ix2 t j)
  ig := fun t => H.irow (ix2 0 t)
/-- The head's carried state as the recurrence takes it. -/
def Head.state : Rec.State where
  C := fun e j => H.C (ix2 e j)
  n := fun j => H.n (ix2 0 j)
  m := H.mst (ix2 0 0)

/-- The gates and their running sums as columns and as rows are the same. -/
structure Head.Coherent : Prop where
  b : ∀ t : Fin 128, H.bcol (ix2 t 0) = H.brow (ix2 0 t)
  i : ∀ t : Fin 128, H.icol (ix2 t 0) = H.irow (ix2 0 t)

variable {H} (hH : H.Coherent)
include hH

theorem Head.dm_apply (t s : Fin 128) : H.dm (ix2 t s) = Rec.dm H.chunk t s := by
  pointwise [Head.dm, Rec.dm, Head.chunk, hH.b]
theorem Head.inter_apply (t : Fin 128) : H.inter (ix2 t 0) = Rec.inter H.chunk H.state t := by
  pointwise [Head.inter, Rec.inter, Head.chunk, Head.state, hH.b]
theorem Head.mt_apply (t : Fin 128) : H.mt (ix2 t 0) = Rec.mt H.chunk H.state t := by
  pointwise [Head.mt, Rec.mt, Rec.vmax, Head.inter_apply hH, Head.dm_apply hH]
theorem Head.sc_apply (t s : Fin 128) : H.sc (ix2 t s) = Rec.sc H.chunk H.state t s := by
  pointwise [Head.sc, Rec.sc, Head.mt_apply hH, Head.dm_apply hH]
  rfl
theorem Head.al_apply (t : Fin 128) : H.al (ix2 t 0) = Rec.al H.chunk H.state t := by
  pointwise [Head.al, Rec.al, Head.mt_apply hH, Head.inter_apply hH]
theorem Head.num_apply (t j : Fin 128) : H.num (ix2 t j) = Rec.num H.chunk H.state t j := by
  pointwise [Head.num, Rec.num, Head.sc_apply hH, Head.al_apply hH]
  rfl
theorem Head.den_apply (t : Fin 128) : H.den (ix2 t 0) = Rec.den H.chunk H.state t := by
  pointwise [Head.den, Rec.den, Head.sc_apply hH, Head.al_apply hH]
  rfl
/-- The head's output is the recurrence's. -/
theorem headH_apply (t j : Fin 128) : headH H (ix2 t j) = Rec.out H.chunk H.state t j := by
  pointwise [headH, Rec.out, Head.num_apply hH, Head.den_apply hH, Head.mt_apply hH]
  rw [sub_eq_add_neg, zero_add]
  rfl
/-- The head's next stabilizer is the recurrence's. -/
theorem headM_apply : headM H (ix2 0 0) = (Rec.next H.chunk H.state).m := by
  pointwise [headM, Rec.next, Rec.mnew, Rec.vmax, Rec.gl]
  rfl
theorem Head.kw_apply (s e : Fin 128) : H.kw (ix2 s e) = H.chunk.k s e * Rec.wt H.chunk H.state s := by
  pointwise [Head.kw, Rec.wt, Rec.gl, headM_apply hH, hH.b, hH.i]
  rfl
theorem Head.dec_apply : H.dec (ix2 0 0) = Rec.dec H.chunk H.state := by
  pointwise [Head.dec, Rec.dec, headM_apply hH]
  rfl
/-- The head's next matrix memory is the recurrence's. -/
theorem headC_apply (e j : Fin 128) : headC H (ix2 e j) = (Rec.next H.chunk H.state).C e j := by
  pointwise [headC, Rec.next, Head.dec_apply hH, Head.kw_apply hH]
  rfl
/-- The head's next normalizer is the recurrence's. -/
theorem headN_apply (j : Fin 128) : headN H (ix2 0 j) = (Rec.next H.chunk H.state).n j := by
  pointwise [headN, Rec.next, Head.dec_apply hH, Head.kw_apply hH]
  rfl
end Cert.KernelIdeal.Scan
-- ==== Proof.Point.lean ====
module
public import proofs.«01_k».proof.Proof.Head
@[expose] public section
set_option maxRecDepth 16384
noncomputable section

/-! # What one grid point of the kernel leaves

At a grid point the kernel reads a chunk of the projections and gates and the carried state, and leaves the chunk's output
and the next state, head by head. -/

namespace Cert.KernelIdeal.Scan
open Cert.KernelIdeal Cert.KernelIdeal.Gen Idealize.ShloMosaic Idealize.ShloMosaic.TcCoe Idealize.SL.Sem
open Idealize.ShloMosaic.Pipeline (Dat)

/-- The chunk's queries and keys, after the convolution along the sequence and its activation. -/
abbrev chunkQK (x0 x1 : FVec Ideal S1x128x512 .f32) (x3 : FVec Ideal S1x1x2x1024 .f32) (x6 : FVec Ideal S3x1024 .f32) : FVec Ideal S128x1024 .f32 :=
  k0_pay13 (iota .tc S128x1024 32 [0] iota_S128x1024_d0_w32) (k0_pay10 x0 x1)
    (k0_pay11 x0 x1 (View.ld (Val := Elt Ideal) (e' := .f32) x3 (Rect.unit ![0, 0, 0, 0] ![1, 1, 1, 1024] inb_S1x1x2x1024_S1x1x1x1024_0_0_0_0))) k0_pay12
    (View.ld (Val := Elt Ideal) (e' := .f32) x3 (Rect.unit ![0, 0, 1, 0] ![1, 1, 1, 1024] inb_S1x1x2x1024_S1x1x1x1024_0_0_1_0))
    (View.ld (Val := Elt Ideal) (e' := .f32) x6 (Rect.unit ![0, 0] ![1, 1024] inb_S3x1024_S1x1024_0_0))
    (View.ld (Val := Elt Ideal) (e' := .f32) x6 (Rect.unit ![1, 0] ![1, 1024] inb_S3x1024_S1x1024_1_0))
    (View.ld (Val := Elt Ideal) (e' := .f32) x6 (Rect.unit ![2, 0] ![1, 1024] inb_S3x1024_S1x1024_2_0))

/-- The running sums of the gates' logarithms, a column for each gate. -/
abbrev sumsCol (i : grid0.Coords) (x4 : FVec Ideal S1x1x128x128 .f32) : FVec Ideal S128x128 .f32 := k0_pay16 (k0_pay8 i) x4
/-- The running sums of the gates' logarithms, a row for each gate. -/
abbrev sumsRow (i : grid0.Coords) (x5 : FVec Ideal S1x1x8x128 .f32) : FVec Ideal S8x128 .f32 :=
  k0_pay19 (k0_pay9 i) (k0_pay17 x5) (k0_pay18 x5) (FloatOps.ofBits FTy.f32 0#32)

theorem slices_qk (k : Fin 4) (o : Fin 2) : S128x1024.Slices ![0, 512 * o.val + 128 * k.val] S128x128 := by
  revert k o; decide
theorem slices_v (k : Fin 4) : S128x512.Slices ![0, 128 * k.val] S128x128 := by revert k; decide
theorem slices_col (k : Fin 4) (o : Fin 2) : S128x128.Slices ![0, 4 * o.val + k.val] S128x1 := by revert k o; decide
theorem slices_row (k : Fin 4) (o : Fin 2) : S8x128.Slices ![4 * o.val + k.val, 0] S1x128 := by revert k o; decide

/-- The operands of head `k` at a grid point, from the blocks it reads and the carried state. -/
def headOf (i : grid0.Coords) (x0 x1 x2 : FVec Ideal S1x128x512 .f32) (x3 : FVec Ideal S1x1x2x1024 .f32)
    (x4 : FVec Ideal S1x1x128x128 .f32) (x5 : FVec Ideal S1x1x8x128 .f32) (x6 : FVec Ideal S3x1024 .f32)
    (C : FVec Ideal S1x1x1x128x128 .f32) (n m : FVec Ideal S1x1x1x1x128 .f32) (k : Fin 4) : Head where
  mask := k0_pay7 i
  qf := extractStridedSlice S128x128 ![0, 512 * (0 : Fin 2).val + 128 * k.val] (chunkQK x0 x1 x3 x6) (slices_qk k 0)
  kf := mulf (extractStridedSlice S128x128 ![0, 512 * (1 : Fin 2).val + 128 * k.val] (chunkQK x0 x1 x3 x6) (slices_qk k 1))
    (broadcast S128x128 (Scalar.ofBits .f32 0x3DB504F3#32))
  v := extractStridedSlice S128x128 ![0, 128 * k.val] (k0_pay20 x2) (slices_v k)
  icol := extractStridedSlice S128x1 ![0, 4 * (0 : Fin 2).val + k.val] (k0_pay14 x4) (slices_col k 0)
  bcol := extractStridedSlice S128x1 ![0, 4 * (1 : Fin 2).val + k.val] (sumsCol i x4) (slices_col k 1)
  irow := extractStridedSlice S1x128 ![4 * (0 : Fin 2).val + k.val, 0] (k0_pay15 x5) (slices_row k 0)
  brow := extractStridedSlice S1x128 ![4 * (1 : Fin 2).val + k.val, 0] (sumsRow i x5) (slices_row k 1)
  blast := Scalar.select (Scalar.cmpi .eq (BitVec.ofNat 32 (i 0).val) 0#32)
    (extractStridedSlice S1x1 ![0, 127] (extractStridedSlice S1x128 ![4 * (1 : Fin 2).val + k.val, 0] (sumsRow i x5) (slices_row k 1)) slices_S1x128_o0_127_S1x1)
    (extractStridedSlice S1x1 ![0, 0] (extractStridedSlice S1x128 ![4 * (1 : Fin 2).val + k.val, 0] (sumsRow i x5) (slices_row k 1)) slices_S1x128_o0_0_S1x1)
  C := shapeCast S128x128 C shapeCasts_S1x1x1x128x128_S128x128
  n := shapeCast S1x128 n shapeCasts_S1x1x1x1x128_S1x128
  mst := extractStridedSlice S1x1 ![0, 0] (shapeCast S1x128 m shapeCasts_S1x1x1x1x128_S1x128) slices_S1x128_o0_0_S1x1

variable (m : (ℓ : Loc nD τ sig) → Buf (Elt Ideal) ℓ)

theorem inbC (k : Fin 4) : ∀ a, (![0, 0, k.val, 0, 0] : Fin 5 → ℕ) a + (![1, 1, 1, 128, 128] : Fin 5 → ℕ) a ≤ S1x1x4x128x128.size a := by
  revert k; decide
theorem inbN (k : Fin 4) : ∀ a, (![0, 0, k.val, 0, 0] : Fin 5 → ℕ) a + (![1, 1, 1, 1, 128] : Fin 5 → ℕ) a ≤ S1x1x4x1x128.size a := by
  revert k; decide

/-- Head `k` of the carried matrix memories. -/
abbrev memOf (X : FVec Ideal S1x1x4x128x128 .f32) (k : Fin 4) : FVec Ideal S1x1x1x128x128 .f32 :=
  View.ld (Val := Elt Ideal) (e' := .f32) X (Rect.unit ![0, 0, k.val, 0, 0] ![1, 1, 1, 128, 128] (inbC k))
/-- Head `k` of the carried normalizers or stabilizers. -/
abbrev vecOf (X : FVec Ideal S1x1x4x1x128 .f32) (k : Fin 4) : FVec Ideal S1x1x1x1x128 .f32 :=
  View.ld (Val := Elt Ideal) (e' := .f32) X (Rect.unit ![0, 0, k.val, 0, 0] ![1, 1, 1, 1, 128] (inbN k))

/-- The operands of head `k` at grid point `t`, over the carried state `C`, `n`, `s`. -/
abbrev headAt (c : Dev nD) (t : Fin cfg0.N) (C : FVec Ideal S1x1x4x128x128 .f32) (n s : FVec Ideal S1x1x4x1x128 .f32) (k : Fin 4) : Head :=
  headOf (grid0.coords t) (iblk m c 0 t) (iblk m c 1 t) (iblk m c 2 t) (iblk m c 3 t) (iblk m c 4 t) (iblk m c 5 t) (iblk m c 6 t)
    (memOf C k) (vecOf n k) (vecOf s k) k

theorem lane_div (y : S1x1x128x512.Idx) : (y 3).val / 128 < 4 := by
  have := (y 3).isLt
  change (y 3).val < 512 at this
  omega

set_option maxHeartbeats 2000000 in
/-- The output chunk after a point that is not the first of its sequence, over the state the point before left. -/
theorem outsH_later (c : Dev nD) (t : Fin cfg0.N) (h0 : ¬ t.val % 64 = 0) (y : S1x1x128x512.Idx) :
    (outsAt0 m c t.val t.isLt).1 y = headH (headAt m c t (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2 ⟨(y 3).val / 128, lane_div y⟩) (ix2 (y 2) ⟨(y 3).val % 128, Nat.mod_lt _ (by decide)⟩) := by
  rw [outsAt0_B m c t h0]
  generalize (outsAt0 m c (t.val - 1) (Nat.lt_of_le_of_lt (Nat.sub_le _ _) t.isLt)) = X
  dsimp only
  frame_out
  canon_tiles x h
  · have hk : (⟨(y 3).val / 128, lane_div y⟩ : Fin 4) = 3 := Fin.ext (by show (y 3).val / 128 = 3; omega)
    rw [hk]
    show shapeCast S1x1x128x128 (headH (headAt m c t X.2.1 X.2.2.1 X.2.2.2 3)) shapeCasts_S128x128_S1x1x128x128 x = _
    pointwise
    exact congrArg (headH _) (congrArg₂ ix2 (Fin.ext h2.symm) (Fin.ext (by show (x 3).val = (y 3).val % 128; omega)))
  · have hk : (⟨(y 3).val / 128, lane_div y⟩ : Fin 4) = 2 := Fin.ext (by show (y 3).val / 128 = 2; omega)
    rw [hk]
    show shapeCast S1x1x128x128 (headH (headAt m c t X.2.1 X.2.2.1 X.2.2.2 2)) shapeCasts_S128x128_S1x1x128x128 x = _
    pointwise
    exact congrArg (headH _) (congrArg₂ ix2 (Fin.ext h2.symm) (Fin.ext (by show (x 3).val = (y 3).val % 128; omega)))
  · have hk : (⟨(y 3).val / 128, lane_div y⟩ : Fin 4) = 1 := Fin.ext (by show (y 3).val / 128 = 1; omega)
    rw [hk]
    show shapeCast S1x1x128x128 (headH (headAt m c t X.2.1 X.2.2.1 X.2.2.2 1)) shapeCasts_S128x128_S1x1x128x128 x = _
    pointwise
    exact congrArg (headH _) (congrArg₂ ix2 (Fin.ext h2.symm) (Fin.ext (by show (x 3).val = (y 3).val % 128; omega)))
  · have hk : (⟨(y 3).val / 128, lane_div y⟩ : Fin 4) = 0 := Fin.ext (by show (y 3).val / 128 = 0; omega)
    rw [hk]
    show shapeCast S1x1x128x128 (headH (headAt m c t X.2.1 X.2.2.1 X.2.2.2 0)) shapeCasts_S128x128_S1x1x128x128 x = _
    pointwise
    exact congrArg (headH _) (congrArg₂ ix2 (Fin.ext h2.symm) (Fin.ext (by show (x 3).val = (y 3).val % 128; omega)))

/-- The matrix memories after a point that is not the first of its sequence, over the state the point before left. -/
theorem outsC_later (c : Dev nD) (t : Fin cfg0.N) (h0 : ¬ t.val % 64 = 0) (y : S1x1x4x128x128.Idx) :
    (outsAt0 m c t.val t.isLt).2.1 y = headC (headAt m c t (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2 (y 2)) (ix2 (y 3) (y 4)) := by
  rw [outsAt0_B m c t h0]
  generalize (outsAt0 m c (t.val - 1) (Nat.lt_of_le_of_lt (Nat.sub_le _ _) t.isLt)) = X
  dsimp only
  frame_out
  canon_tiles x h
  · have hk : y 2 = (show Fin 4 from 3) := Fin.ext (by show (y 2).val = 3; omega)
    rw [hk]
    show shapeCast S1x1x1x128x128 (headC (headAt m c t X.2.1 X.2.2.1 X.2.2.2 3)) shapeCasts_S128x128_S1x1x1x128x128 x = _
    pointwise
    exact congrArg (headC _) (congrArg₂ ix2 (Fin.ext h3.symm) (Fin.ext h4.symm))
  · have hk : y 2 = (show Fin 4 from 2) := Fin.ext (by show (y 2).val = 2; omega)
    rw [hk]
    show shapeCast S1x1x1x128x128 (headC (headAt m c t X.2.1 X.2.2.1 X.2.2.2 2)) shapeCasts_S128x128_S1x1x1x128x128 x = _
    pointwise
    exact congrArg (headC _) (congrArg₂ ix2 (Fin.ext h3.symm) (Fin.ext h4.symm))
  · have hk : y 2 = (show Fin 4 from 1) := Fin.ext (by show (y 2).val = 1; omega)
    rw [hk]
    show shapeCast S1x1x1x128x128 (headC (headAt m c t X.2.1 X.2.2.1 X.2.2.2 1)) shapeCasts_S128x128_S1x1x1x128x128 x = _
    pointwise
    exact congrArg (headC _) (congrArg₂ ix2 (Fin.ext h3.symm) (Fin.ext h4.symm))
  · have hk : y 2 = (show Fin 4 from 0) := Fin.ext (by show (y 2).val = 0; omega)
    rw [hk]
    show shapeCast S1x1x1x128x128 (headC (headAt m c t X.2.1 X.2.2.1 X.2.2.2 0)) shapeCasts_S128x128_S1x1x1x128x128 x = _
    pointwise
    exact congrArg (headC _) (congrArg₂ ix2 (Fin.ext h3.symm) (Fin.ext h4.symm))

/-- The normalizers after a point that is not the first of its sequence, over the state the point before left. -/
theorem outsN_later (c : Dev nD) (t : Fin cfg0.N) (h0 : ¬ t.val % 64 = 0) (y : S1x1x4x1x128.Idx) :
    (outsAt0 m c t.val t.isLt).2.2.1 y = headN (headAt m c t (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2 (y 2)) (ix2 0 (y 4)) := by
  rw [outsAt0_B m c t h0]
  generalize (outsAt0 m c (t.val - 1) (Nat.lt_of_le_of_lt (Nat.sub_le _ _) t.isLt)) = X
  dsimp only
  frame_out
  canon_tiles x h
  · have hk : y 2 = (show Fin 4 from 3) := Fin.ext (by show (y 2).val = 3; omega)
    rw [hk]
    show shapeCast S1x1x1x1x128 (headN (headAt m c t X.2.1 X.2.2.1 X.2.2.2 3)) shapeCasts_S1x128_S1x1x1x1x128 x = _
    pointwise
    exact congrArg (headN _) (congrArg₂ ix2 rfl (Fin.ext h4.symm))
  · have hk : y 2 = (show Fin 4 from 2) := Fin.ext (by show (y 2).val = 2; omega)
    rw [hk]
    show shapeCast S1x1x1x1x128 (headN (headAt m c t X.2.1 X.2.2.1 X.2.2.2 2)) shapeCasts_S1x128_S1x1x1x1x128 x = _
    pointwise
    exact congrArg (headN _) (congrArg₂ ix2 rfl (Fin.ext h4.symm))
  · have hk : y 2 = (show Fin 4 from 1) := Fin.ext (by show (y 2).val = 1; omega)
    rw [hk]
    show shapeCast S1x1x1x1x128 (headN (headAt m c t X.2.1 X.2.2.1 X.2.2.2 1)) shapeCasts_S1x128_S1x1x1x1x128 x = _
    pointwise
    exact congrArg (headN _) (congrArg₂ ix2 rfl (Fin.ext h4.symm))
  · have hk : y 2 = (show Fin 4 from 0) := Fin.ext (by show (y 2).val = 0; omega)
    rw [hk]
    show shapeCast S1x1x1x1x128 (headN (headAt m c t X.2.1 X.2.2.1 X.2.2.2 0)) shapeCasts_S1x128_S1x1x1x1x128 x = _
    pointwise
    exact congrArg (headN _) (congrArg₂ ix2 rfl (Fin.ext h4.symm))

/-- The stabilizers after a point that is not the first of its sequence, over the state the point before left. -/
theorem outsM_later (c : Dev nD) (t : Fin cfg0.N) (h0 : ¬ t.val % 64 = 0) (y : S1x1x4x1x128.Idx) :
    (outsAt0 m c t.val t.isLt).2.2.2 y = headM (headAt m c t (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2 (y 2)) (ix2 0 0) := by
  rw [outsAt0_B m c t h0]
  generalize (outsAt0 m c (t.val - 1) (Nat.lt_of_le_of_lt (Nat.sub_le _ _) t.isLt)) = X
  dsimp only
  frame_out
  canon_tiles x h
  · have hk : y 2 = (show Fin 4 from 3) := Fin.ext (by show (y 2).val = 3; omega)
    rw [hk]
    show shapeCast S1x1x1x1x128 (broadcastTo S1x128 (shapeCast S1x1 (headM (headAt m c t X.2.1 X.2.2.1 X.2.2.2 3)) shapeCasts_S1x1_S1x1) broadcasts_S1x1_S1x128) shapeCasts_S1x128_S1x1x1x1x128 x = _
    pointwise
  · have hk : y 2 = (show Fin 4 from 2) := Fin.ext (by show (y 2).val = 2; omega)
    rw [hk]
    show shapeCast S1x1x1x1x128 (broadcastTo S1x128 (shapeCast S1x1 (headM (headAt m c t X.2.1 X.2.2.1 X.2.2.2 2)) shapeCasts_S1x1_S1x1) broadcasts_S1x1_S1x128) shapeCasts_S1x128_S1x1x1x1x128 x = _
    pointwise
  · have hk : y 2 = (show Fin 4 from 1) := Fin.ext (by show (y 2).val = 1; omega)
    rw [hk]
    show shapeCast S1x1x1x1x128 (broadcastTo S1x128 (shapeCast S1x1 (headM (headAt m c t X.2.1 X.2.2.1 X.2.2.2 1)) shapeCasts_S1x1_S1x1) broadcasts_S1x1_S1x128) shapeCasts_S1x128_S1x1x1x1x128 x = _
    pointwise
  · have hk : y 2 = (show Fin 4 from 0) := Fin.ext (by show (y 2).val = 0; omega)
    rw [hk]
    show shapeCast S1x1x1x1x128 (broadcastTo S1x128 (shapeCast S1x1 (headM (headAt m c t X.2.1 X.2.2.1 X.2.2.2 0)) shapeCasts_S1x1_S1x1) broadcasts_S1x1_S1x128) shapeCasts_S1x128_S1x1x1x1x128 x = _
    pointwise

end Cert.KernelIdeal.Scan
-- ==== Proof.PointFirst.lean ====
module
public import proofs.«01_k».proof.Proof.Point
public import Idealize.ShloMosaic.Lib.Pipeline.ReadBack
@[expose] public section
set_option maxRecDepth 16384
set_option maxHeartbeats 2000000
noncomputable section

/-! # What the first grid point of a sequence leaves -/

namespace Cert.KernelIdeal.Scan
open Cert.KernelIdeal Cert.KernelIdeal.Gen Idealize.ShloMosaic Idealize.ShloMosaic.TcCoe Idealize.SL.Sem
open Idealize.ShloMosaic.Pipeline (Dat)
variable (m : (ℓ : Loc nD τ sig) → Buf (Elt Ideal) ℓ)

/-- Four stores over an earlier one: where one of the four covers the index, the earlier store isn't seen. -/
theorem canon_four {S : Shape} {e : EltTy} {Val : EltTy → Type} [∀ e, Nonempty (Val e)] (p₀ p₁ p₂ p₃ q : View.Piece Val S e) (y : S.Idx)
    (h : ∃ p ∈ [p₀, p₁, p₂, p₃], y ∈ p.1.set) :
    View.canon [p₀, p₁, p₂, p₃, q] y = View.canon [p₀, p₁, p₂, p₃] y := by
  have key : ∀ (L L' : List (View.Piece Val S e)), (∃ p ∈ L, y ∈ p.1.set) → View.canon (L ++ L') y = View.canon L y := by
    intro L L'
    induction L with
    | nil => rintro ⟨p, hp, _⟩; exact absurd hp List.not_mem_nil
    | cons p L ih =>
      intro hc
      by_cases hm : y ∈ p.1.set
      · obtain ⟨x, rfl⟩ := p.1.exists_idx_of_mem hm
        exact (View.canon_cons_emb p.1 p.2 (L ++ L') x).trans (View.canon_cons_emb p.1 p.2 L x).symm
      · rw [List.cons_append, View.canon_cons_of_not_mem p _ hm, View.canon_cons_of_not_mem p _ hm]
        refine ih ?_
        obtain ⟨p', hp', hy'⟩ := hc
        rcases List.mem_cons.mp hp' with rfl | hp'
        · exact absurd hy' hm
        · exact ⟨p', hp', hy'⟩
  exact key [p₀, p₁, p₂, p₃] [q] h

/-- The output chunk after the first point of a sequence, over the initial state. -/
theorem outsH_first (c : Dev nD) (t : Fin cfg0.N) (h0 : t.val % 64 = 0) (y : S1x1x128x512.Idx) :
    (outsAt0 m c t.val t.isLt).1 y = headH (headAt m c t (k0_pay4 (iblk m c 7 t)) (k0_pay5 (iblk m c 8 t)) (k0_pay6 (iblk m c 9 t)) ⟨(y 3).val / 128, lane_div y⟩) (ix2 (y 2) ⟨(y 3).val % 128, Nat.mod_lt _ (by decide)⟩) := by
  rw [outsAt0_A m c t h0]
  dsimp only
  frame_open
  simp (disch := decide) only [↓ View.readCov_skip, ↓ View.readCov_cons_toLoadRect, ↓ View.readCov_fill]
  frame_out
  canon_tiles x h
  · have hk : (⟨(y 3).val / 128, lane_div y⟩ : Fin 4) = 3 := Fin.ext (by show (y 3).val / 128 = 3; omega)
    rw [hk]
    show shapeCast S1x1x128x128 (headH (headAt m c t (k0_pay4 (iblk m c 7 t)) (k0_pay5 (iblk m c 8 t)) (k0_pay6 (iblk m c 9 t)) 3)) shapeCasts_S128x128_S1x1x128x128 x = _
    pointwise
    exact congrArg (headH _) (congrArg₂ ix2 (Fin.ext h2.symm) (Fin.ext (by show (x 3).val = (y 3).val % 128; omega)))
  · have hk : (⟨(y 3).val / 128, lane_div y⟩ : Fin 4) = 2 := Fin.ext (by show (y 3).val / 128 = 2; omega)
    rw [hk]
    show shapeCast S1x1x128x128 (headH (headAt m c t (k0_pay4 (iblk m c 7 t)) (k0_pay5 (iblk m c 8 t)) (k0_pay6 (iblk m c 9 t)) 2)) shapeCasts_S128x128_S1x1x128x128 x = _
    pointwise
    exact congrArg (headH _) (congrArg₂ ix2 (Fin.ext h2.symm) (Fin.ext (by show (x 3).val = (y 3).val % 128; omega)))
  · have hk : (⟨(y 3).val / 128, lane_div y⟩ : Fin 4) = 1 := Fin.ext (by show (y 3).val / 128 = 1; omega)
    rw [hk]
    show shapeCast S1x1x128x128 (headH (headAt m c t (k0_pay4 (iblk m c 7 t)) (k0_pay5 (iblk m c 8 t)) (k0_pay6 (iblk m c 9 t)) 1)) shapeCasts_S128x128_S1x1x128x128 x = _
    pointwise
    exact congrArg (headH _) (congrArg₂ ix2 (Fin.ext h2.symm) (Fin.ext (by show (x 3).val = (y 3).val % 128; omega)))
  · have hk : (⟨(y 3).val / 128, lane_div y⟩ : Fin 4) = 0 := Fin.ext (by show (y 3).val / 128 = 0; omega)
    rw [hk]
    show shapeCast S1x1x128x128 (headH (headAt m c t (k0_pay4 (iblk m c 7 t)) (k0_pay5 (iblk m c 8 t)) (k0_pay6 (iblk m c 9 t)) 0)) shapeCasts_S128x128_S1x1x128x128 x = _
    pointwise
    exact congrArg (headH _) (congrArg₂ ix2 (Fin.ext h2.symm) (Fin.ext (by show (x 3).val = (y 3).val % 128; omega)))

/-- The matrix memories after the first point of a sequence, over the initial state. -/
theorem outsC_first (c : Dev nD) (t : Fin cfg0.N) (h0 : t.val % 64 = 0) (y : S1x1x4x128x128.Idx) :
    (outsAt0 m c t.val t.isLt).2.1 y = headC (headAt m c t (k0_pay4 (iblk m c 7 t)) (k0_pay5 (iblk m c 8 t)) (k0_pay6 (iblk m c 9 t)) (y 2)) (ix2 (y 3) (y 4)) := by
  rw [outsAt0_A m c t h0]
  dsimp only
  frame_open
  simp (disch := decide) only [↓ View.readCov_skip, ↓ View.readCov_cons_toLoadRect, ↓ View.readCov_fill]
  frame_out
  refine (canon_four _ _ _ _ _ y (View.cover_of_tiledL _ ![1, 1, 1, 128, 128] (by rfl) y)).trans ?_
  canon_tiles x h
  · have hk : y 2 = (show Fin 4 from 3) := Fin.ext (by show (y 2).val = 3; omega)
    rw [hk]
    show shapeCast S1x1x1x128x128 (headC (headAt m c t (k0_pay4 (iblk m c 7 t)) (k0_pay5 (iblk m c 8 t)) (k0_pay6 (iblk m c 9 t)) 3)) shapeCasts_S128x128_S1x1x1x128x128 x = _
    pointwise
    exact congrArg (headC _) (congrArg₂ ix2 (Fin.ext h3.symm) (Fin.ext h4.symm))
  · have hk : y 2 = (show Fin 4 from 2) := Fin.ext (by show (y 2).val = 2; omega)
    rw [hk]
    show shapeCast S1x1x1x128x128 (headC (headAt m c t (k0_pay4 (iblk m c 7 t)) (k0_pay5 (iblk m c 8 t)) (k0_pay6 (iblk m c 9 t)) 2)) shapeCasts_S128x128_S1x1x1x128x128 x = _
    pointwise
    exact congrArg (headC _) (congrArg₂ ix2 (Fin.ext h3.symm) (Fin.ext h4.symm))
  · have hk : y 2 = (show Fin 4 from 1) := Fin.ext (by show (y 2).val = 1; omega)
    rw [hk]
    show shapeCast S1x1x1x128x128 (headC (headAt m c t (k0_pay4 (iblk m c 7 t)) (k0_pay5 (iblk m c 8 t)) (k0_pay6 (iblk m c 9 t)) 1)) shapeCasts_S128x128_S1x1x1x128x128 x = _
    pointwise
    exact congrArg (headC _) (congrArg₂ ix2 (Fin.ext h3.symm) (Fin.ext h4.symm))
  · have hk : y 2 = (show Fin 4 from 0) := Fin.ext (by show (y 2).val = 0; omega)
    rw [hk]
    show shapeCast S1x1x1x128x128 (headC (headAt m c t (k0_pay4 (iblk m c 7 t)) (k0_pay5 (iblk m c 8 t)) (k0_pay6 (iblk m c 9 t)) 0)) shapeCasts_S128x128_S1x1x1x128x128 x = _
    pointwise
    exact congrArg (headC _) (congrArg₂ ix2 (Fin.ext h3.symm) (Fin.ext h4.symm))

/-- The normalizers after the first point of a sequence, over the initial state. -/
theorem outsN_first (c : Dev nD) (t : Fin cfg0.N) (h0 : t.val % 64 = 0) (y : S1x1x4x1x128.Idx) :
    (outsAt0 m c t.val t.isLt).2.2.1 y = headN (headAt m c t (k0_pay4 (iblk m c 7 t)) (k0_pay5 (iblk m c 8 t)) (k0_pay6 (iblk m c 9 t)) (y 2)) (ix2 0 (y 4)) := by
  rw [outsAt0_A m c t h0]
  dsimp only
  frame_open
  simp (disch := decide) only [↓ View.readCov_skip, ↓ View.readCov_cons_toLoadRect, ↓ View.readCov_fill]
  frame_out
  refine (canon_four _ _ _ _ _ y (View.cover_of_tiledL _ ![1, 1, 1, 1, 128] (by rfl) y)).trans ?_
  canon_tiles x h
  · have hk : y 2 = (show Fin 4 from 3) := Fin.ext (by show (y 2).val = 3; omega)
    rw [hk]
    show shapeCast S1x1x1x1x128 (headN (headAt m c t (k0_pay4 (iblk m c 7 t)) (k0_pay5 (iblk m c 8 t)) (k0_pay6 (iblk m c 9 t)) 3)) shapeCasts_S1x128_S1x1x1x1x128 x = _
    pointwise
    exact congrArg (headN _) (congrArg₂ ix2 rfl (Fin.ext h4.symm))
  · have hk : y 2 = (show Fin 4 from 2) := Fin.ext (by show (y 2).val = 2; omega)
    rw [hk]
    show shapeCast S1x1x1x1x128 (headN (headAt m c t (k0_pay4 (iblk m c 7 t)) (k0_pay5 (iblk m c 8 t)) (k0_pay6 (iblk m c 9 t)) 2)) shapeCasts_S1x128_S1x1x1x1x128 x = _
    pointwise
    exact congrArg (headN _) (congrArg₂ ix2 rfl (Fin.ext h4.symm))
  · have hk : y 2 = (show Fin 4 from 1) := Fin.ext (by show (y 2).val = 1; omega)
    rw [hk]
    show shapeCast S1x1x1x1x128 (headN (headAt m c t (k0_pay4 (iblk m c 7 t)) (k0_pay5 (iblk m c 8 t)) (k0_pay6 (iblk m c 9 t)) 1)) shapeCasts_S1x128_S1x1x1x1x128 x = _
    pointwise
    exact congrArg (headN _) (congrArg₂ ix2 rfl (Fin.ext h4.symm))
  · have hk : y 2 = (show Fin 4 from 0) := Fin.ext (by show (y 2).val = 0; omega)
    rw [hk]
    show shapeCast S1x1x1x1x128 (headN (headAt m c t (k0_pay4 (iblk m c 7 t)) (k0_pay5 (iblk m c 8 t)) (k0_pay6 (iblk m c 9 t)) 0)) shapeCasts_S1x128_S1x1x1x1x128 x = _
    pointwise
    exact congrArg (headN _) (congrArg₂ ix2 rfl (Fin.ext h4.symm))

/-- The stabilizers after the first point of a sequence, over the initial state. -/
theorem outsM_first (c : Dev nD) (t : Fin cfg0.N) (h0 : t.val % 64 = 0) (y : S1x1x4x1x128.Idx) :
    (outsAt0 m c t.val t.isLt).2.2.2 y = headM (headAt m c t (k0_pay4 (iblk m c 7 t)) (k0_pay5 (iblk m c 8 t)) (k0_pay6 (iblk m c 9 t)) (y 2)) (ix2 0 0) := by
  rw [outsAt0_A m c t h0]
  dsimp only
  frame_open
  simp (disch := decide) only [↓ View.readCov_skip, ↓ View.readCov_cons_toLoadRect, ↓ View.readCov_fill]
  frame_out
  refine (canon_four _ _ _ _ _ y (View.cover_of_tiledL _ ![1, 1, 1, 1, 128] (by rfl) y)).trans ?_
  canon_tiles x h
  · have hk : y 2 = (show Fin 4 from 3) := Fin.ext (by show (y 2).val = 3; omega)
    rw [hk]
    show shapeCast S1x1x1x1x128 (broadcastTo S1x128 (shapeCast S1x1 (headM (headAt m c t (k0_pay4 (iblk m c 7 t)) (k0_pay5 (iblk m c 8 t)) (k0_pay6 (iblk m c 9 t)) 3)) shapeCasts_S1x1_S1x1) broadcasts_S1x1_S1x128) shapeCasts_S1x128_S1x1x1x1x128 x = _
    pointwise
  · have hk : y 2 = (show Fin 4 from 2) := Fin.ext (by show (y 2).val = 2; omega)
    rw [hk]
    show shapeCast S1x1x1x1x128 (broadcastTo S1x128 (shapeCast S1x1 (headM (headAt m c t (k0_pay4 (iblk m c 7 t)) (k0_pay5 (iblk m c 8 t)) (k0_pay6 (iblk m c 9 t)) 2)) shapeCasts_S1x1_S1x1) broadcasts_S1x1_S1x128) shapeCasts_S1x128_S1x1x1x1x128 x = _
    pointwise
  · have hk : y 2 = (show Fin 4 from 1) := Fin.ext (by show (y 2).val = 1; omega)
    rw [hk]
    show shapeCast S1x1x1x1x128 (broadcastTo S1x128 (shapeCast S1x1 (headM (headAt m c t (k0_pay4 (iblk m c 7 t)) (k0_pay5 (iblk m c 8 t)) (k0_pay6 (iblk m c 9 t)) 1)) shapeCasts_S1x1_S1x1) broadcasts_S1x1_S1x128) shapeCasts_S1x128_S1x1x1x1x128 x = _
    pointwise
  · have hk : y 2 = (show Fin 4 from 0) := Fin.ext (by show (y 2).val = 0; omega)
    rw [hk]
    show shapeCast S1x1x1x1x128 (broadcastTo S1x128 (shapeCast S1x1 (headM (headAt m c t (k0_pay4 (iblk m c 7 t)) (k0_pay5 (iblk m c 8 t)) (k0_pay6 (iblk m c 9 t)) 0)) shapeCasts_S1x1_S1x1) broadcasts_S1x1_S1x128) shapeCasts_S1x128_S1x1x1x1x128 x = _
    pointwise

end Cert.KernelIdeal.Scan
-- ==== Proof.Model.lean ====
module
public import proofs.«01_k».proof.Proof.Rec
@[expose] public section
noncomputable section

/-! # The bidirectional recurrence, over the extended reals

From the projections, the gates, the convolution's weights and the initial state: the recurrence of `Rec.lean` over the 64
chunks of each sequence, once forwards and once backwards (`d` is the direction), for each sequence `b` and head `h`. -/

namespace Cert.Model
open Idealize.ShloMosaic Cert.Rec

/-- The call's arguments, entry by entry. -/
structure Inputs where
  X : Fin 4 → Fin 8192 → Fin 2048 → EReal
  G : Fin 2 → Fin 4 → Fin 8192 → Fin 128 → EReal
  W : Fin 3 → Fin 1024 → EReal
  C0 : Fin 2 → Fin 4 → Fin 4 → Fin 128 → Fin 128 → EReal
  n0 : Fin 2 → Fin 4 → Fin 4 → Fin 128 → EReal
  m0 : Fin 2 → Fin 4 → Fin 4 → Fin 128 → EReal

/-- The logarithm of the logistic function. -/
def logsig (x : EReal) : EReal := min x 0 - Ideal.log1p (Ideal.exp (0 - max x (-x)))

/-- The row of the sequence that direction `d` meets at step `p`. -/
def row (d : Fin 2) (p : ℕ) : Fin 8192 := ⟨if d.val = 0 then p % 8192 else 8191 - p % 8192, by split <;> omega⟩

variable (I : Inputs)

/-- The query and key projections. -/
def qk (b : Fin 4) (r : Fin 8192) (j : Fin 1024) : EReal := I.X b r ⟨j.val, by omega⟩
/-- The row before, zero before the first. -/
def before (b : Fin 4) (r : Fin 8192) (j : Fin 1024) : EReal := if h : r.val = 0 then 0 else qk I b ⟨r.val - 1, by omega⟩ j
/-- The row after, zero after the last. -/
def after (b : Fin 4) (r : Fin 8192) (j : Fin 1024) : EReal := if h : r.val = 8191 then 0 else qk I b ⟨r.val + 1, by omega⟩ j
/-- The convolution along the sequence. -/
def conv (b : Fin 4) (r : Fin 8192) (j : Fin 1024) : EReal :=
  before I b r j * I.W 0 j + qk I b r j * I.W 1 j + after I b r j * I.W 2 j
/-- The queries and keys. -/
def act (b : Fin 4) (r : Fin 8192) (j : Fin 1024) : EReal := conv I b r j * Ideal.logistic (conv I b r j)

/-- The logarithm of the forget gate of direction `d`, sequence `b` and head `h` at step `p`. -/
def lf (d : Fin 2) (b h : Fin 4) (p : ℕ) : EReal := logsig (I.G d b (row d p) ⟨4 + h.val, by omega⟩)

/-- The running sum of a vector. -/
def running (f : Vec128) : Vec128 := fun t => ∑ s, if s.val ≤ t.val then f s else 0

/-- Chunk `c` of what direction `d`, sequence `b` and head `h` meet. -/
def chunk (d : Fin 2) (b h : Fin 4) (c : ℕ) : Chunk where
  M := fun t s => if s.val ≤ t.val then 1#1 else 0#1
  b := running fun s => lf I d b h (128 * c + s.val)
  bl := running (fun s => lf I d b h (128 * c + s.val)) 127
  q := fun t j => act I b (row d (128 * c + t.val)) ⟨128 * h.val + j.val, by omega⟩
  k := fun t j => act I b (row d (128 * c + t.val)) ⟨512 + 128 * h.val + j.val, by omega⟩ * Ideal.ofBits .f32 0x3DB504F3#32
  v := fun t j => I.X b (row d (128 * c + t.val)) ⟨1024 + 128 * h.val + j.val, by omega⟩
  ig := fun t => I.G d b (row d (128 * c + t.val)) ⟨h.val, by omega⟩

/-- The state before chunk `c`. -/
def state (d : Fin 2) (b h : Fin 4) : ℕ → State
  | 0 => ⟨I.C0 d b h, I.n0 d b h, I.m0 d b h 0⟩
  | c + 1 => next (chunk I d b h c) (state d b h c)

/-- The recurrence's output at row `r` of sequence `b` in direction `d`: lane `j` of head `h`. -/
def result (d : Fin 2) (b : Fin 4) (r : Fin 8192) (h : Fin 4) (j : Fin 128) : EReal :=
  let p := (row d r.val).val
  out (chunk I d b h (p / 128)) (state I d b h (p / 128)) ⟨p % 128, Nat.mod_lt _ (by decide)⟩ j

end Cert.Model

namespace Cert.Rec
open Idealize.ShloMosaic

/-- A position of a chunk as direction `d` counts it. -/
def flip (d : Fin 2) (t : Fin 128) : Fin 128 := if d.val = 0 then t else t.rev

theorem flip_flip (d : Fin 2) (t : Fin 128) : flip d (flip d t) = t := by
  unfold flip; split <;> simp

/-- `flip` is a bijection. -/
def flipEquiv (d : Fin 2) : Fin 128 ≃ Fin 128 := ⟨flip d, flip d, flip_flip d, flip_flip d⟩

/-- A chunk with its positions counted as direction `d` counts them. -/
def Chunk.flip (d : Fin 2) (D : Chunk) : Chunk where
  M := fun t s => D.M (Rec.flip d t) (Rec.flip d s)
  b := fun t => D.b (Rec.flip d t)
  bl := D.bl
  q := fun t => D.q (Rec.flip d t)
  k := fun t => D.k (Rec.flip d t)
  v := fun t => D.v (Rec.flip d t)
  ig := fun t => D.ig (Rec.flip d t)

theorem sum_flip (d : Fin 2) (f : Fin 128 → EReal) : ∑ s, f (flip d s) = ∑ s, f s := Equiv.sum_comp (flipEquiv d) f

theorem vmax_flip (d : Fin 2) (f : Vec128) : vmax (fun s => f (flip d s)) = vmax f := by
  have h := Finset.fold_map (op := max) (b := hidden) (f := f) (g := (flipEquiv d).toEmbedding) (s := Finset.univ)
  rw [Finset.univ_map_equiv_to_embedding] at h
  exact h.symm

variable (d : Fin 2) (D : Chunk) (S : State)

theorem mt_flip (t : Fin 128) : mt (D.flip d) S t = mt D S (flip d t) := congrArg (max _) (vmax_flip d (dm D (flip d t)))
theorem sc_flip (t s : Fin 128) : sc (D.flip d) S t s = sc D S (flip d t) (flip d s) := by
  simp only [sc, mt_flip]; rfl
theorem al_flip (t : Fin 128) : al (D.flip d) S t = al D S (flip d t) := by
  simp only [al, mt_flip]; rfl

/-- Counting the positions the other way round moves the outputs along. -/
theorem out_flip (t j : Fin 128) : out (D.flip d) S t j = out D S (flip d t) j := by
  have h1 : num (D.flip d) S t j = num D S (flip d t) j := by
    simp only [num, sc_flip, al_flip]
    exact congrArg (· + _) (sum_flip d fun s => sc D S (flip d t) s * D.v s j)
  have h2 : den (D.flip d) S t = den D S (flip d t) := by
    simp only [den, sc_flip, al_flip]
    exact congrArg (· + _) (sum_flip d fun s => sc D S (flip d t) s)
  simp only [out, h1, h2, mt_flip]

theorem mnew_flip : mnew (D.flip d) S = mnew D S := congrArg (max _) (vmax_flip d (gl D))
theorem wt_flip (s : Fin 128) : wt (D.flip d) S s = wt D S (flip d s) := by
  simp only [wt, mnew_flip]; rfl
theorem dec_flip : dec (D.flip d) S = dec D S := by simp only [dec, mnew_flip]; rfl

/-- Counting the positions the other way round leaves the next state as it is. -/
theorem next_flip : next (D.flip d) S = next D S := by
  simp only [next, wt_flip, dec_flip, mnew_flip]
  congr 1
  · funext e j
    exact congrArg (_ + ·) (sum_flip d fun s => (D.k s e * wt D S s) * D.v s j)
  · funext j
    exact congrArg (_ + ·) (sum_flip d fun s => D.k s j * wt D S s)

end Cert.Rec
-- ==== Proof.Blocks.lean ====
module
public import proofs.«01_k».proof.Proof.Head
public import proofs.«01_k».proof.Proof.Model
@[expose] public section
set_option maxRecDepth 16384
noncomputable section

/-! # The blocks a grid point reads

Each block of an operand, entry by entry, in terms of the launch's arguments. -/

namespace Cert.KernelIdeal.Scan
open Cert.KernelIdeal Cert.KernelIdeal.Gen Idealize.ShloMosaic Idealize.ShloMosaic.TcCoe Idealize.SL.Sem
open Idealize.ShloMosaic.Pipeline (Dat)

/-- The direction of a grid point. -/
abbrev dirN (n : ℕ) : ℕ := n / 256
/-- The sequence of a grid point. -/
abbrev seqN (n : ℕ) : ℕ := n % 256 / 64
/-- The array's chunk at a grid point. -/
abbrev blkN (n : ℕ) : ℕ := if n / 256 = 0 then n % 64 else 63 - n % 64

/-- The blocks' places at a grid point. -/
theorem idx : ∀ t : Fin cfg0.N,
    win0_0.index t = ![seqN t.val, blkN t.val, 0] ∧ win0_1.index t = ![seqN t.val, blkN t.val, 1] ∧ win0_2.index t = ![seqN t.val, blkN t.val, 2] ∧
    win0_3.index t = ![seqN t.val, blkN t.val, 0, 0] ∧ win0_4.index t = ![dirN t.val, seqN t.val, blkN t.val, 0] ∧
    win0_5.index t = ![dirN t.val, seqN t.val, 0, blkN t.val] ∧ win0_6.index t = ![0, 0] ∧
    win0_7.index t = ![dirN t.val, seqN t.val, 0, 0, 0] ∧ win0_8.index t = ![dirN t.val, seqN t.val, 0, 0, 0] ∧ win0_9.index t = ![dirN t.val, seqN t.val, 0, 0, 0] ∧
    win0_10.index t = ![dirN t.val, seqN t.val, blkN t.val, 0] ∧
    win0_11.index t = ![dirN t.val, seqN t.val, 0, 0, 0] ∧ win0_12.index t = ![dirN t.val, seqN t.val, 0, 0, 0] ∧ win0_13.index t = ![dirN t.val, seqN t.val, 0, 0, 0] ∧
    (grid0.coords t 0).val = dirN t.val :=
  (by decide +kernel : ∀ t : Fin grid0.N, _)

variable (m : (ℓ : Loc nD τ sig) → Buf (Elt Ideal) ℓ)

/-- The projections. -/
abbrev argX (c : Dev nD) : FVec Ideal S4x8192x2048 .f32 := m (c, Proc.tc.devRef main_arg0)
/-- The gates. -/
abbrev argG (c : Dev nD) : FVec Ideal S2x4x8192x128 .f32 := m (c, Proc.tc.devRef main_arg1)

/-- The convolution's weights. -/
abbrev argW (c : Dev nD) : FVec Ideal S3x1024 .f32 := m (c, Proc.tc.devRef main_arg2)
/-- The initial matrix memories. -/
abbrev argC (c : Dev nD) : FVec Ideal S2x4x4x128x128 .f32 := m (c, Proc.tc.devRef main_arg3)
/-- The initial normalizers. -/
abbrev argN (c : Dev nD) : FVec Ideal S2x4x4x1x128 .f32 := m (c, Proc.tc.devRef main_arg4)
/-- The initial stabilizers. -/
abbrev argM (c : Dev nD) : FVec Ideal S2x4x4x1x128 .f32 := m (c, Proc.tc.devRef main_arg5)

/-- The rows beside each chunk, zero outside the sequence. -/
theorem V_halo (c : Dev nD) (b : Fin 4) (k : Fin 64) (r : Fin 2) (j : Fin 1024) : V m c main_v7 (ix4 b k r j) =
    if r.val = 0 then (if h : k.val = 0 then 0 else argX m c (ix3 b ⟨k.val * 128 - 1, by omega⟩ ⟨j, by omega⟩))
    else (if h : k.val = 63 then 0 else argX m c (ix3 b ⟨(k.val + 1) * 128, by omega⟩ ⟨j, by omega⟩)) := by
  entry_read
  pointwise
  by_cases hr : r.val < 1
  · refine Eq.trans (dif_pos hr) (Eq.trans ?_ (if_pos (by omega)).symm)
    by_cases hk : k.val < 1
    · refine Eq.trans (dif_pos hk) (Eq.trans ?_ (dif_pos (by omega)).symm)
      show broadcastInDim S4x1x1024 ![] bcast_S_S4x1x1024 (constant (F := Ideal) S_ .f32 0x00000000#32) (ix3 b ⟨k.val, hk⟩ j) = 0
      pointwise
    · refine Eq.trans (dif_neg hk) (Eq.trans ?_ (dif_neg (by omega)).symm)
      show Host.slice S4x63x1024 ![0, 127, 0] ![1, 128, 1] (argX m c) slicesBy_S4x8192x2048_S4x63x1024_0s1_127s128_0s1 (ix3 b ⟨k.val - 1, by omega⟩ j) = _
      pointwise
      exact congrArg _ (congrArg₂ (ix3 b) (Fin.ext (by show 127 + 128 * (k.val - 1) = k.val * 128 - 1; omega)) rfl)
  · refine Eq.trans (dif_neg hr) (Eq.trans ?_ (if_neg (by omega)).symm)
    by_cases hk : k.val < 63
    · refine Eq.trans (dif_pos hk) (Eq.trans ?_ (dif_neg (by omega)).symm)
      show Host.slice S4x63x1024 ![0, 128, 0] ![1, 128, 1] (argX m c) slicesBy_S4x8192x2048_S4x63x1024_0s1_128s128_0s1 (ix3 b ⟨k.val, hk⟩ j) = _
      pointwise
      exact congrArg _ (congrArg₂ (ix3 b) (Fin.ext (by show 128 + 128 * k.val = (k.val + 1) * 128; omega)) rfl)
    · refine Eq.trans (dif_neg hk) (Eq.trans ?_ (dif_pos (by omega)).symm)
      show broadcastInDim S4x1x1024 ![] bcast_S_S4x1x1024 (constant (F := Ideal) S_ .f32 0x00000000#32) (ix3 b ⟨k.val - 63, by omega⟩ j) = 0
      pointwise
/-- The gates as rows: the transposed gates. -/
theorem V_gatesT (c : Dev nD) (d : Fin 2) (b : Fin 4) (r : Fin 8) (p : Fin 8192) :
    V m c main_v9 (ix4 d b r p) = argG m c (ix4 d b p ⟨r.val, by omega⟩) := by
  entry_read
  pointwise

section
variable (c : Dev nD) (t : Fin cfg0.N) (d : Fin 2) (b : Fin 4) (hd : d.val = dirN t.val) (hb : b.val = seqN t.val)
include hb

theorem blk_q (r : Fin 128) (j : Fin 512) (p : Fin 8192) (hp : p.val = blkN t.val * 128 + r.val) :
    iblk m c 0 t (ix3 0 r j) = argX m c (ix3 b p ⟨j, by omega⟩) := by
  rw [argX, ← V_main_arg0 m c]
  blk_ext [iblk, idx t, hb, hp]
theorem blk_k (r : Fin 128) (j : Fin 512) (p : Fin 8192) (hp : p.val = blkN t.val * 128 + r.val) :
    iblk m c 1 t (ix3 0 r j) = argX m c (ix3 b p ⟨512 + j, by omega⟩) := by
  rw [argX, ← V_main_arg0 m c]
  blk_ext [iblk, idx t, hb, hp]
theorem blk_v (r : Fin 128) (j : Fin 512) (p : Fin 8192) (hp : p.val = blkN t.val * 128 + r.val) :
    iblk m c 2 t (ix3 0 r j) = argX m c (ix3 b p ⟨1024 + j, by omega⟩) := by
  rw [argX, ← V_main_arg0 m c]
  blk_ext [iblk, idx t, hb, hp]
theorem blk_halo (r : Fin 2) (j : Fin 1024) (k : Fin 64) (hk : k.val = blkN t.val) :
    iblk m c 3 t (ix4 0 0 r j) = V m c main_v7 (ix4 b k r j) := by
  blk_ext [iblk, idx t, hb, hk]
omit hb in
theorem blk_w (i : Fin 3) (j : Fin 1024) : iblk m c 6 t (ix2 i j) = argW m c (ix2 i j) := by
  rw [argW, ← V_main_arg2 m c]
  blk_ext [iblk, idx t]
include hd
theorem blk_gates (r : Fin 128) (j : Fin 128) (p : Fin 8192) (hp : p.val = blkN t.val * 128 + r.val) :
    iblk m c 4 t (ix4 0 0 r j) = argG m c (ix4 d b p j) := by
  rw [argG, ← V_main_arg1 m c]
  blk_ext [iblk, idx t, hb, hp, hd]
theorem blk_gatesT (j : Fin 8) (r : Fin 128) (p : Fin 8192) (hp : p.val = blkN t.val * 128 + r.val) :
    iblk m c 5 t (ix4 0 0 j r) = argG m c (ix4 d b p ⟨j.val, by omega⟩) := by
  rw [← V_gatesT m c]
  blk_ext [iblk, idx t, hb, hp, hd]
theorem blk_C (h : Fin 4) (e j : Fin 128) : iblk m c 7 t (ix5 0 0 h e j) = argC m c (ix5 d b h e j) := by
  rw [argC, ← V_main_arg3 m c]
  blk_ext [iblk, idx t, hb, hd]
theorem blk_n (h : Fin 4) (j : Fin 128) : iblk m c 8 t (ix5 0 0 h 0 j) = argN m c (ix5 d b h 0 j) := by
  rw [argN, ← V_main_arg4 m c]
  blk_ext [iblk, idx t, hb, hd]
theorem blk_m (h : Fin 4) (j : Fin 128) : iblk m c 9 t (ix5 0 0 h 0 j) = argM m c (ix5 d b h 0 j) := by
  rw [argM, ← V_main_arg5 m c]
  blk_ext [iblk, idx t, hb, hd]
end

/-- The launch's arguments, entry by entry. -/
def inputs (c : Dev nD) : Model.Inputs where
  X := fun b r j => argX m c (ix3 b r j)
  G := fun d b r j => argG m c (ix4 d b r j)
  W := fun i j => argW m c (ix2 i j)
  C0 := fun d b h e j => argC m c (ix5 d b h e j)
  n0 := fun d b h j => argN m c (ix5 d b h 0 j)
  m0 := fun d b h j => argM m c (ix5 d b h 0 j)

end Cert.KernelIdeal.Scan
-- ==== Proof.Chunks.lean ====
module
public import proofs.«01_k».proof.Proof.Point
public import proofs.«01_k».proof.Proof.Blocks
@[expose] public section
set_option maxRecDepth 16384
noncomputable section

/-! # The chunk a grid point feeds the recurrence

At grid point `t` the operands of head `k` are those of the model's chunk `t % 64`, with the positions counted as the
direction counts them. -/

namespace Cert.KernelIdeal.Scan
open Cert.KernelIdeal Cert.KernelIdeal.Gen Idealize.ShloMosaic Idealize.ShloMosaic.TcCoe Idealize.SL.Sem
open Idealize.ShloMosaic.Pipeline (Dat)
open Cert.Rec (flip)

/-- The mask's bit: which of two positions comes first in the direction. -/
theorem mask_bit : ∀ d : Fin 2, ∀ t s : Fin 128,
    IntOp.cmpi .sle (IntOp.muli (IntOp.subi (BitVec.ofNat 32 s.val) (BitVec.ofNat 32 t.val))
      (Scalar.select (Scalar.cmpi .eq (BitVec.ofNat 32 d.val) 0#32) 1#32 4294967295#32)) 0#32
      = if (flip d s).val ≤ (flip d t).val then 1#1 else 0#1 := by decide +kernel

theorem bit_value (p : Prop) [Decidable p] :
    (FloatOps.sitofp .f32 (BitVec.setWidth 32 (if p then 1#1 else 0#1 : BitVec 1)) : Ideal .f32) = if p then (1 : EReal) else 0 := by
  by_cases h : p
  · simp only [if_pos h]
    show (((BitVec.setWidth 32 1#1).toInt : ℝ) : EReal) = 1
    have : (BitVec.setWidth 32 1#1).toInt = 1 := by decide
    rw [this]; simp
  · simp only [if_neg h]
    show (((BitVec.setWidth 32 0#1).toInt : ℝ) : EReal) = 0
    have : (BitVec.setWidth 32 0#1).toInt = 0 := by decide
    rw [this]; simp

theorem select_one {α : Type} (a b : α) : Scalar.select 1#1 a b = a := rfl
theorem select_zero {α : Type} (a b : α) : Scalar.select 0#1 a b = b := rfl

theorem running_flip (d : Fin 2) (f : Fin 128 → EReal) (t : Fin 128) :
    (∑ s, if (flip d s).val ≤ (flip d t).val then f (flip d s) else 0) = Model.running f (flip d t) :=
  Rec.sum_flip d fun s => if s.val ≤ (flip d t).val then f s else 0

variable (m : (ℓ : Loc nD τ sig) → Buf (Elt Ideal) ℓ)

section
variable (c : Dev nD) (t : Fin cfg0.N) (d : Fin 2) (b : Fin 4) (hd : d.val = dirN t.val) (hb : b.val = seqN t.val)

include hd in
/-- The array's row of a chunk's position. -/
theorem row_val (r : Fin 128) : (Model.row d (128 * (t.val % 64) + (flip d r).val)).val = blkN t.val * 128 + r.val := by
  have h1 := t.isLt
  change t.val < 512 at h1
  have h2 := r.isLt
  have h3 := d.isLt
  unfold Model.row Rec.flip blkN
  unfold dirN at hd
  dsimp only
  by_cases h : d.val = 0
  · rw [if_pos h, if_pos h, if_pos (by omega)]; omega
  · rw [if_neg h, if_neg h, if_neg (by omega), Fin.val_rev]; omega

include hd in
theorem coord_d : (grid0.coords t 0).val = d.val := (idx t).2.2.2.2.2.2.2.2.2.2.2.2.2.2.trans hd.symm

include hd hb

theorem sumsRow_apply (k : Fin 4) (r : Fin 128) :
    sumsRow (grid0.coords t) (iblk m c 5 t) (ix2 ⟨4 + k.val, by omega⟩ r)
      = Model.running (fun s => Model.lf (inputs m c) d b k (128 * (t.val % 64) + s.val)) (flip d r) := by
  rw [← running_flip d]
  pointwise [sumsRow, k0_pay19, k0_pay9, k0_pay17, k0_pay18, k0_pay15]
  rw [coord_d t d hd]
  refine Finset.sum_congr rfl fun s _ => ?_
  rw [mask_bit, bit_value, blk_gatesT m c t d b hd hb _ s _ (row_val t d hd s)]
  split
  · rw [mul_one]; rfl
  · rw [mul_zero]

theorem sumsCol_apply (k : Fin 4) (r : Fin 128) :
    sumsCol (grid0.coords t) (iblk m c 4 t) (ix2 r ⟨4 + k.val, by omega⟩)
      = Model.running (fun s => Model.lf (inputs m c) d b k (128 * (t.val % 64) + s.val)) (flip d r) := by
  rw [← running_flip d]
  pointwise [sumsCol, k0_pay16, k0_pay8, k0_pay7, k0_pay14]
  rw [coord_d t d hd]
  refine Finset.sum_congr rfl fun s _ => ?_
  rw [mask_bit, bit_value, blk_gates m c t d b hd hb s _ _ (row_val t d hd s)]
  split
  · rw [one_mul]; rfl
  · rw [zero_mul]

omit hd in
/-- The queries' and keys' projections in the blocks. -/
theorem blk_qk (r : Fin 128) (j : Fin 1024) (p : Fin 8192) (hp : p.val = blkN t.val * 128 + r.val) :
    (if h : j.val < 512 then iblk m c 0 t (ix3 0 r ⟨j.val, h⟩) else iblk m c 1 t (ix3 0 r ⟨j.val - 512, by omega⟩)) = Model.qk (inputs m c) b p j := by
  unfold Model.qk
  split
  · exact blk_q m c t d b hb r _ p hp
  · refine (blk_k m c t d b hb r _ p hp).trans ?_
    exact congrArg _ (congrArg (ix3 b p) (Fin.ext (by show 512 + (j.val - 512) = j.val; omega)))

omit hd in
theorem before_apply (r : Fin 128) (j : Fin 1024) (p : Fin 8192) (hp : p.val = blkN t.val * 128 + r.val) (q : Fin 128)
    (hq : q.val = (r.val + 128 - 1) % 128) :
    Scalar.select (IntOp.cmpi .eq (BitVec.ofNat 32 r.val) 0#32) (iblk m c 3 t (ix4 0 0 0 j))
      (if h : j.val < 512 then iblk m c 0 t (ix3 0 q ⟨j.val, h⟩) else iblk m c 1 t (ix3 0 q ⟨j.val - 512, by omega⟩))
      = Model.before (inputs m c) b p j := by
  have h1 := t.isLt
  change t.val < 512 at h1
  have hk : blkN t.val < 64 := by unfold blkN; split <;> omega
  by_cases h : r.val = 0
  · have e : IntOp.cmpi .eq (BitVec.ofNat 32 r.val) 0#32 = 1#1 := by rw [h]; rfl
    rw [e, select_one, blk_halo m c t b hb 0 j ⟨blkN t.val, hk⟩ rfl, V_halo]
    refine (if_pos rfl).trans ?_
    unfold Model.before
    by_cases h' : blkN t.val = 0
    · rw [dif_pos h', dif_pos (show p.val = 0 by omega)]
    · rw [dif_neg h', dif_neg (show ¬ p.val = 0 by omega)]
      exact congrArg _ (congrArg₂ (ix3 b) (Fin.ext (by show blkN t.val * 128 - 1 = p.val - 1; omega)) rfl)
  · have e : IntOp.cmpi .eq (BitVec.ofNat 32 r.val) 0#32 = 0#1 := by
      have : ∀ r : Fin 128, r.val ≠ 0 → IntOp.cmpi .eq (BitVec.ofNat 32 r.val) 0#32 = 0#1 := by decide +kernel
      exact this r h
    rw [e, select_zero]
    unfold Model.before
    rw [dif_neg (show ¬ p.val = 0 by omega)]
    exact blk_qk m c t d b hb q j ⟨p.val - 1, by omega⟩ (by show p.val - 1 = _; omega)

omit hd in
theorem after_apply (r : Fin 128) (j : Fin 1024) (p : Fin 8192) (hp : p.val = blkN t.val * 128 + r.val) (q : Fin 128)
    (hq : q.val = (r.val + 128 - 127) % 128) :
    Scalar.select (IntOp.cmpi .eq (BitVec.ofNat 32 r.val) 127#32) (iblk m c 3 t (ix4 0 0 1 j))
      (if h : j.val < 512 then iblk m c 0 t (ix3 0 q ⟨j.val, h⟩) else iblk m c 1 t (ix3 0 q ⟨j.val - 512, by omega⟩))
      = Model.after (inputs m c) b p j := by
  have h1 := t.isLt
  change t.val < 512 at h1
  have hk : blkN t.val < 64 := by unfold blkN; split <;> omega
  by_cases h : r.val = 127
  · have e : IntOp.cmpi .eq (BitVec.ofNat 32 r.val) 127#32 = 1#1 := by rw [h]; rfl
    rw [e, select_one, blk_halo m c t b hb 1 j ⟨blkN t.val, hk⟩ rfl, V_halo]
    refine (if_neg (by decide)).trans ?_
    unfold Model.after
    by_cases h' : blkN t.val = 63
    · rw [dif_pos h', dif_pos (show p.val = 8191 by omega)]
    · rw [dif_neg h', dif_neg (show ¬ p.val = 8191 by omega)]
      exact congrArg _ (congrArg₂ (ix3 b) (Fin.ext (by show (blkN t.val + 1) * 128 = p.val + 1; omega)) rfl)
  · have e : IntOp.cmpi .eq (BitVec.ofNat 32 r.val) 127#32 = 0#1 := by
      have : ∀ r : Fin 128, r.val ≠ 127 → IntOp.cmpi .eq (BitVec.ofNat 32 r.val) 127#32 = 0#1 := by decide +kernel
      exact this r h
    have hr := r.isLt
    rw [e, select_zero]
    unfold Model.after
    rw [dif_neg (show ¬ p.val = 8191 by omega)]
    exact blk_qk m c t d b hb q j ⟨p.val + 1, by omega⟩ (by show p.val + 1 = _; omega)

omit hd in
/-- The chunk's queries and keys. -/
theorem chunkQK_apply (r : Fin 128) (j : Fin 1024) (p : Fin 8192) (hp : p.val = blkN t.val * 128 + r.val) :
    chunkQK (iblk m c 0 t) (iblk m c 1 t) (iblk m c 3 t) (iblk m c 6 t) (ix2 r j) = Model.act (inputs m c) b p j := by
  pointwise [chunkQK, k0_pay13, k0_pay10, k0_pay11, k0_pay12]
  have e := congrArg₂ (fun x y : EReal => x + y) (congrArg₂ (fun x y : EReal => x + y)
    (congrArg₂ (fun x y : EReal => x * y) (before_apply m c t 0 b hb r j p hp ⟨(r.val + 128 - 1) % 128, Nat.mod_lt _ (by decide)⟩ rfl) (blk_w m c t 0 j))
    (congrArg₂ (fun x y : EReal => x * y) (blk_qk m c t 0 b hb r j p hp) (blk_w m c t 1 j)))
    (congrArg₂ (fun x y : EReal => x * y) (after_apply m c t 0 b hb r j p hp ⟨(r.val + 128 - 127) % 128, Nat.mod_lt _ (by decide)⟩ rfl) (blk_w m c t 2 j))
  exact congrArg (fun x : EReal => x * Ideal.logistic x) e

end

/-- The operands of head `k` at a grid point are the model's chunk. -/
theorem chunk_at (c : Dev nD) (t : Fin cfg0.N) (d : Fin 2) (b : Fin 4) (hd : d.val = dirN t.val) (hb : b.val = seqN t.val)
    (C : FVec Ideal S1x1x4x128x128 .f32) (n s : FVec Ideal S1x1x4x1x128 .f32) (k : Fin 4) :
    (headAt m c t C n s k).chunk = (Model.chunk (inputs m c) d b k (t.val % 64)).flip d := by
  have hrow : ∀ r : Fin 128, (headAt m c t C n s k).brow (ix2 0 r)
      = Model.running (fun s => Model.lf (inputs m c) d b k (128 * (t.val % 64) + s.val)) (flip d r) := by
    intro r
    refine Eq.trans ?_ (sumsRow_apply m c t d b hd hb k r)
    pointwise [headAt, headOf]
  refine Rec.Chunk.ext ?_ ?_ ?_ ?_ ?_ ?_ ?_
  · funext r s
    show k0_pay7 (grid0.coords t) (ix2 r s) = _
    pointwise [k0_pay7]
    rw [coord_d t d hd]
    exact mask_bit d r s
  · funext r
    exact hrow r
  · refine Eq.trans (b := Scalar.select (Scalar.cmpi .eq (BitVec.ofNat 32 (grid0.coords t 0).val) 0#32)
      ((headAt m c t C n s k).brow (ix2 0 127)) ((headAt m c t C n s k).brow (ix2 0 0))) ?_ ?_
    · pointwise [headAt, headOf, Head.chunk]
    · rw [coord_d t d hd, hrow, hrow]
      have h3 := d.isLt
      by_cases h : d.val = 0
      · rw [h]
        refine (select_one _ _).trans (congrArg _ ?_)
        exact (if_pos h)
      · have h' : d.val = 1 := by omega
        rw [h']
        refine (select_zero _ _).trans (congrArg _ ?_)
        exact (if_neg h)
  · funext r j
    refine Eq.trans ?_ (chunkQK_apply m c t b hb r ⟨128 * k.val + j.val, by omega⟩ _ (row_val t d hd r))
    pointwise [headAt, headOf, Head.chunk]
  · funext r j
    refine Eq.trans ?_ (congrArg (· * _) (chunkQK_apply m c t b hb r ⟨512 + 128 * k.val + j.val, by omega⟩ _ (row_val t d hd r)))
    pointwise [headAt, headOf, Head.chunk]
  · funext r j
    refine Eq.trans ?_ ((blk_v m c t d b hb r ⟨128 * k.val + j.val, by omega⟩ _ (row_val t d hd r)).trans
      (congrArg (argX m c) (congrArg (ix3 b _) (Fin.ext (by show 1024 + (128 * k.val + j.val) = 1024 + 128 * k.val + j.val; omega)))))
    pointwise [headAt, headOf, Head.chunk, k0_pay20]
  · funext r
    refine Eq.trans ?_ (blk_gatesT m c t d b hd hb ⟨k.val, by omega⟩ r _ (row_val t d hd r))
    pointwise [headAt, headOf, Head.chunk, k0_pay15]

/-- The gates and their running sums as columns and as rows agree. -/
theorem coherent_at (c : Dev nD) (t : Fin cfg0.N) (d : Fin 2) (b : Fin 4) (hd : d.val = dirN t.val) (hb : b.val = seqN t.val)
    (C : FVec Ideal S1x1x4x128x128 .f32) (n s : FVec Ideal S1x1x4x1x128 .f32) (k : Fin 4) :
    (headAt m c t C n s k).Coherent where
  b := by
    intro r
    refine Eq.trans ?_ ((sumsCol_apply m c t d b hd hb k r).trans ((sumsRow_apply m c t d b hd hb k r).symm.trans ?_))
    · pointwise [headAt, headOf]
    · pointwise [headAt, headOf]
  i := by
    intro r
    refine Eq.trans ?_ ((blk_gates m c t d b hd hb r ⟨k.val, by omega⟩ _ (row_val t d hd r)).trans
      ((blk_gatesT m c t d b hd hb ⟨k.val, by omega⟩ r _ (row_val t d hd r)).symm.trans ?_))
    · pointwise [headAt, headOf, k0_pay14]
    · pointwise [headAt, headOf, k0_pay15]

theorem memOf_apply (X : FVec Ideal S1x1x4x128x128 .f32) (k : Fin 4) (e j : Fin 128) : memOf X k (ix5 0 0 0 e j) = X (ix5 0 0 k e j) := by
  refine congrArg X (funext fun a => Fin.ext ((Rect.idx_unit_val ..).trans ?_))
  fin_cases a
  · rfl
  · rfl
  · rfl
  · exact Nat.zero_add _
  · exact Nat.zero_add _
theorem vecOf_apply (X : FVec Ideal S1x1x4x1x128 .f32) (k : Fin 4) (j : Fin 128) : vecOf X k (ix5 0 0 0 0 j) = X (ix5 0 0 k 0 j) := by
  refine congrArg X (funext fun a => Fin.ext ((Rect.idx_unit_val ..).trans ?_))
  fin_cases a
  · rfl
  · rfl
  · rfl
  · rfl
  · exact Nat.zero_add _

/-- The carried state of head `k`, as the recurrence takes it. -/
theorem state_at (c : Dev nD) (t : Fin cfg0.N) (C : FVec Ideal S1x1x4x128x128 .f32) (n s : FVec Ideal S1x1x4x1x128 .f32) (k : Fin 4)
    (S : Rec.State) (hC : ∀ e j : Fin 128, C (ix5 0 0 k e j) = S.C e j) (hn : ∀ j : Fin 128, n (ix5 0 0 k 0 j) = S.n j)
    (hs : s (ix5 0 0 k 0 0) = S.m) : (headAt m c t C n s k).state = S := by
  refine Rec.State.ext ?_ ?_ ?_
  · funext e j
    refine Eq.trans ?_ (hC e j)
    pointwise [headAt, headOf, Head.state]
    exact memOf_apply C k e j
  · funext j
    refine Eq.trans ?_ (hn j)
    pointwise [headAt, headOf, Head.state]
    exact vecOf_apply n k j
  · refine Eq.trans ?_ hs
    pointwise [headAt, headOf, Head.state]
    exact vecOf_apply s k 0

end Cert.KernelIdeal.Scan
-- ==== Proof.Scan.lean ====
module
public import proofs.«01_k».proof.Proof.PointFirst
public import proofs.«01_k».proof.Proof.Chunks
public import Idealize.ShloMosaic.Lib.Pipeline.Covers
@[expose] public section
set_option maxRecDepth 16384
noncomputable section

/-! # The kernel's grid, point after point

By induction over the grid points of a sequence, what each point leaves is the model's output and state; the launch's
result arrays are the model's results. -/

namespace Cert.KernelIdeal.Scan
open Cert.KernelIdeal Cert.KernelIdeal.Gen Idealize.ShloMosaic Idealize.ShloMosaic.TcCoe Idealize.SL.Sem
open Idealize.ShloMosaic.Pipeline (Dat)
open Cert.Rec (flip)

variable (m : (ℓ : Loc nD τ sig) → Buf (Elt Ideal) ℓ)

section
variable (c : Dev nD) (t : Fin cfg0.N) (d : Fin 2) (b : Fin 4) (hd : d.val = dirN t.val) (hb : b.val = seqN t.val)
    (C : FVec Ideal S1x1x4x128x128 .f32) (n s : FVec Ideal S1x1x4x1x128 .f32) (k : Fin 4) (S : Rec.State)
    (hC : ∀ e j : Fin 128, C (ix5 0 0 k e j) = S.C e j) (hn : ∀ j : Fin 128, n (ix5 0 0 k 0 j) = S.n j)
    (hs : s (ix5 0 0 k 0 0) = S.m)
include hd hb hC hn hs

theorem pointH (r j : Fin 128) : headH (headAt m c t C n s k) (ix2 r j)
    = Rec.out (Model.chunk (inputs m c) d b k (t.val % 64)) S (flip d r) j := by
  rw [headH_apply (coherent_at m c t d b hd hb C n s k), chunk_at m c t d b hd hb C n s k, state_at m c t C n s k S hC hn hs, Rec.out_flip]
theorem pointC (e j : Fin 128) : headC (headAt m c t C n s k) (ix2 e j)
    = (Rec.next (Model.chunk (inputs m c) d b k (t.val % 64)) S).C e j := by
  rw [headC_apply (coherent_at m c t d b hd hb C n s k), chunk_at m c t d b hd hb C n s k, state_at m c t C n s k S hC hn hs, Rec.next_flip]
theorem pointN (j : Fin 128) : headN (headAt m c t C n s k) (ix2 0 j)
    = (Rec.next (Model.chunk (inputs m c) d b k (t.val % 64)) S).n j := by
  rw [headN_apply (coherent_at m c t d b hd hb C n s k), chunk_at m c t d b hd hb C n s k, state_at m c t C n s k S hC hn hs, Rec.next_flip]
theorem pointM : headM (headAt m c t C n s k) (ix2 0 0)
    = (Rec.next (Model.chunk (inputs m c) d b k (t.val % 64)) S).m := by
  rw [headM_apply (coherent_at m c t d b hd hb C n s k), chunk_at m c t d b hd hb C n s k, state_at m c t C n s k S hC hn hs, Rec.next_flip]
end

theorem pay4_apply (X : FVec Ideal S1x1x4x128x128 .f32) (k : Fin 4) (e j : Fin 128) : k0_pay4 X (ix5 0 0 k e j) = X (ix5 0 0 k e j) := by
  pointwise [k0_pay4]
theorem pay5_apply (X : FVec Ideal S1x1x4x1x128 .f32) (k : Fin 4) (j : Fin 128) : k0_pay5 X (ix5 0 0 k 0 j) = X (ix5 0 0 k 0 j) := by
  pointwise [k0_pay5]
theorem pay6_apply (X : FVec Ideal S1x1x4x1x128 .f32) (k : Fin 4) (j : Fin 128) : k0_pay6 X (ix5 0 0 k 0 j) = X (ix5 0 0 k 0 j) := by
  pointwise [k0_pay6]

/-- What grid point `t` leaves, in the model's terms. -/
structure Leaves (c : Dev nD) (d : Fin 2) (b : Fin 4) (t : Fin cfg0.N) : Prop where
  H : ∀ (k : Fin 4) (r j : Fin 128), (outsAt0 m c t.val t.isLt).1 (ix4 0 0 r ⟨128 * k.val + j.val, by omega⟩)
    = Rec.out (Model.chunk (inputs m c) d b k (t.val % 64)) (Model.state (inputs m c) d b k (t.val % 64)) (flip d r) j
  C : ∀ (k : Fin 4) (e j : Fin 128), (outsAt0 m c t.val t.isLt).2.1 (ix5 0 0 k e j) = (Model.state (inputs m c) d b k (t.val % 64 + 1)).C e j
  n : ∀ (k : Fin 4) (j : Fin 128), (outsAt0 m c t.val t.isLt).2.2.1 (ix5 0 0 k 0 j) = (Model.state (inputs m c) d b k (t.val % 64 + 1)).n j
  m : ∀ (k : Fin 4) (j : Fin 128), (outsAt0 m c t.val t.isLt).2.2.2 (ix5 0 0 k 0 j) = (Model.state (inputs m c) d b k (t.val % 64 + 1)).m

theorem lane_split (k : Fin 4) (j : Fin 128) (r : Fin 128) (H : Fin 4 → FVec Ideal S128x128 .f32) :
    H ⟨(128 * k.val + j.val) / 128, by omega⟩ (ix2 r ⟨(128 * k.val + j.val) % 128, Nat.mod_lt _ (by decide)⟩) = H k (ix2 r j) := by
  have h1 : (⟨(128 * k.val + j.val) / 128, by omega⟩ : Fin 4) = k := Fin.ext (by show (128 * k.val + j.val) / 128 = k.val; omega)
  have h2 : (⟨(128 * k.val + j.val) % 128, Nat.mod_lt _ (by decide)⟩ : Fin 128) = j := Fin.ext (by show (128 * k.val + j.val) % 128 = j.val; omega)
  rw [h1, h2]

theorem leaves_first (c : Dev nD) (t : Fin cfg0.N) (d : Fin 2) (b : Fin 4) (hd : d.val = dirN t.val) (hb : b.val = seqN t.val)
    (h0 : t.val % 64 = 0) : Leaves m c d b t := by
  have hC : ∀ (k : Fin 4) (e j : Fin 128), k0_pay4 (iblk m c 7 t) (ix5 0 0 k e j) = (Model.state (inputs m c) d b k 0).C e j :=
    fun k e j => (pay4_apply _ k e j).trans (blk_C m c t d b hd hb k e j)
  have hn : ∀ (k : Fin 4) (j : Fin 128), k0_pay5 (iblk m c 8 t) (ix5 0 0 k 0 j) = (Model.state (inputs m c) d b k 0).n j :=
    fun k j => (pay5_apply _ k j).trans (blk_n m c t d b hd hb k j)
  have hm : ∀ (k : Fin 4), k0_pay6 (iblk m c 9 t) (ix5 0 0 k 0 0) = (Model.state (inputs m c) d b k 0).m :=
    fun k => (pay6_apply _ k 0).trans (blk_m m c t d b hd hb k 0)
  have hc : ∀ k, Model.state (inputs m c) d b k (t.val % 64) = Model.state (inputs m c) d b k 0 := fun k => by rw [h0]
  refine ⟨fun k r j => ?_, fun k e j => ?_, fun k j => ?_, fun k j => ?_⟩
  · rw [hc]
    refine (outsH_first m c t h0 _).trans (Eq.trans ?_ (pointH m c t d b hd hb _ _ _ k _ (hC k) (hn k) (hm k) r j))
    exact lane_split k j r fun k => headH (headAt m c t _ _ _ k)
  · refine (outsC_first m c t h0 _).trans ((pointC m c t d b hd hb _ _ _ k _ (hC k) (hn k) (hm k) e j).trans ?_)
    exact congrArg (fun S => (Rec.next (Model.chunk (inputs m c) d b k (t.val % 64)) S).C e j) (hc k).symm
  · refine (outsN_first m c t h0 _).trans ((pointN m c t d b hd hb _ _ _ k _ (hC k) (hn k) (hm k) j).trans ?_)
    exact congrArg (fun S => (Rec.next (Model.chunk (inputs m c) d b k (t.val % 64)) S).n j) (hc k).symm
  · refine (outsM_first m c t h0 _).trans ((pointM m c t d b hd hb _ _ _ k _ (hC k) (hn k) (hm k)).trans ?_)
    exact congrArg (fun S => (Rec.next (Model.chunk (inputs m c) d b k (t.val % 64)) S).m) (hc k).symm

theorem leaves_later (c : Dev nD) (t : Fin cfg0.N) (d : Fin 2) (b : Fin 4) (hd : d.val = dirN t.val) (hb : b.val = seqN t.val)
    (h0 : ¬ t.val % 64 = 0) (ih : Leaves m c d b ⟨t.val - 1, Nat.lt_of_le_of_lt (Nat.sub_le _ _) t.isLt⟩) : Leaves m c d b t := by
  have e : (t.val - 1) % 64 + 1 = t.val % 64 := by omega
  have hC : ∀ (k : Fin 4) (e j : Fin 128), _ = (Model.state (inputs m c) d b k (t.val % 64)).C e j :=
    fun k e' j => (ih.C k e' j).trans (by rw [← e])
  have hn : ∀ (k : Fin 4) (j : Fin 128), _ = (Model.state (inputs m c) d b k (t.val % 64)).n j :=
    fun k j => (ih.n k j).trans (by rw [← e])
  have hm : ∀ (k : Fin 4), _ = (Model.state (inputs m c) d b k (t.val % 64)).m :=
    fun k => (ih.m k 0).trans (by rw [← e])
  refine ⟨fun k r j => ?_, fun k e j => ?_, fun k j => ?_, fun k j => ?_⟩
  · refine (outsH_later m c t h0 _).trans (Eq.trans ?_ (pointH m c t d b hd hb _ _ _ k _ (hC k) (hn k) (hm k) r j))
    exact lane_split k j r fun k => headH (headAt m c t _ _ _ k)
  · exact (outsC_later m c t h0 _).trans (pointC m c t d b hd hb _ _ _ k _ (hC k) (hn k) (hm k) e j)
  · exact (outsN_later m c t h0 _).trans (pointN m c t d b hd hb _ _ _ k _ (hC k) (hn k) (hm k) j)
  · exact (outsM_later m c t h0 _).trans (pointM m c t d b hd hb _ _ _ k _ (hC k) (hn k) (hm k))

/-- What every grid point leaves. -/
theorem leaves (c : Dev nD) : ∀ (n : ℕ) (hn : n < cfg0.N) (d : Fin 2) (b : Fin 4), d.val = dirN n → b.val = seqN n → Leaves m c d b ⟨n, hn⟩
  | 0, hn, d, b, hd, hb => leaves_first m c ⟨0, hn⟩ d b hd hb rfl
  | n + 1, hn, d, b, hd, hb => by
    by_cases h0 : (n + 1) % 64 = 0
    · exact leaves_first m c ⟨n + 1, hn⟩ d b hd hb h0
    · refine leaves_later m c ⟨n + 1, hn⟩ d b hd hb h0 ?_
      refine leaves c n (Nat.lt_of_succ_lt hn) d b (hd.trans ?_) (hb.trans ?_)
      · unfold dirN; omega
      · unfold seqN; omega

end Cert.KernelIdeal.Scan
-- ==== Proof.Arrays.lean ====
module
public import proofs.«01_k».proof.Proof.Scan
@[expose] public section
set_option maxRecDepth 16384
noncomputable section

/-! # The launch's result arrays

The arrays the launch leaves are the model's outputs and its states after the last chunk. -/

namespace Cert.KernelIdeal.Scan
open Cert.KernelIdeal Cert.KernelIdeal.Gen Idealize.ShloMosaic Idealize.ShloMosaic.TcCoe Idealize.SL.Sem
open Idealize.ShloMosaic.Pipeline (Dat)
open Cert.Rec (flip)

variable (m : (ℓ : Loc nD τ sig) → Buf (Elt Ideal) ℓ)

/-- A lane of the output as head and component. -/
theorem lane_eq (l : Fin 512) : ∃ (k : Fin 4) (j : Fin 128), l = ⟨128 * k.val + j.val, by omega⟩ :=
  ⟨⟨l.val / 128, by omega⟩, ⟨l.val % 128, Nat.mod_lt _ (by decide)⟩, Fin.ext (by show l.val = 128 * (l.val / 128) + l.val % 128; omega)⟩

theorem row_row (d : Fin 2) (r : Fin 8192) : Model.row d (Model.row d r.val).val = r := by
  apply Fin.ext
  unfold Model.row
  have := r.isLt
  split <;> simp only [] <;> omega

/-- The model's result at a lane. -/
def outG (I : Model.Inputs) : FVec Ideal S2x4x8192x512 .f32 := fun y =>
  Model.result I (y 0) (y 1) (y 2) ⟨(y 3).val / 128, by have := (y 3).isLt; change _ < 512 at this; omega⟩ ⟨(y 3).val % 128, Nat.mod_lt _ (by decide)⟩

theorem outG_apply (I : Model.Inputs) (d : Fin 2) (b : Fin 4) (r : Fin 8192) (k : Fin 4) (j : Fin 128) :
    outG I (ix4 d b r ⟨128 * k.val + j.val, by omega⟩) = Model.result I d b r k j := by
  have h1 : (⟨(128 * k.val + j.val) / 128, by omega⟩ : Fin 4) = k := Fin.ext (by show (128 * k.val + j.val) / 128 = k.val; omega)
  have h2 : (⟨(128 * k.val + j.val) % 128, Nat.mod_lt _ (by decide)⟩ : Fin 128) = j := Fin.ext (by show (128 * k.val + j.val) % 128 = j.val; omega)
  show Model.result I d b r ⟨(128 * k.val + j.val) / 128, _⟩ ⟨(128 * k.val + j.val) % 128, _⟩ = _
  rw [h1, h2]

/-- The model's result at the row a position of a chunk comes from. -/
theorem result_at (I : Model.Inputs) (t : Fin cfg0.N) (d : Fin 2) (b : Fin 4) (hd : d.val = dirN t.val) (r : Fin 128) (k : Fin 4) (j : Fin 128) (R : Fin 8192)
    (hR : R.val = blkN t.val * 128 + r.val) : Model.result I d b R k j =
      Rec.out (Model.chunk I d b k (t.val % 64)) (Model.state I d b k (t.val % 64)) (flip d r) j := by
  have e : Model.row d (128 * (t.val % 64) + (flip d r).val) = R := Fin.ext ((row_val t d hd r).trans hR.symm)
  have e' : (Model.row d R.val).val = 128 * (t.val % 64) + (flip d r).val := by
    rw [← e]
    unfold Model.row
    have := (flip d r).isLt
    split <;> simp only [] <;> omega
  have e1 : (Model.row d R.val).val / 128 = t.val % 64 := by omega
  have e2 : (⟨(Model.row d R.val).val % 128, Nat.mod_lt _ (by decide)⟩ : Fin 128) = flip d r := Fin.ext (by show (Model.row d R.val).val % 128 = _; omega)
  unfold Model.result
  simp only [e1, e2]

theorem dir_lt (t : Fin cfg0.N) : dirN t.val < 2 := by
  have := lt_of_lt_of_eq t.isLt N_0
  unfold dirN; omega
theorem seq_lt (t : Fin cfg0.N) : seqN t.val < 4 := by
  unfold seqN; omega
theorem row_lt (t : Fin cfg0.N) (r : Fin 128) : blkN t.val * 128 + r.val < 8192 := by
  unfold blkN; split <;> omega

theorem arrH (c : Dev nD) : (dats m 0 c).arrAt 10 cfg0.N = outG (inputs m c) := by
  refine (dats m 0 c).arrAt_eq_of_covers 10 _ (by decide +kernel) fun t hf y => ?_
  blk_simp
  rw [after0_10]
  have L := leaves m c t.val t.isLt ⟨dirN t.val, dir_lt t⟩ ⟨seqN t.val, seq_lt t⟩ rfl rfl
  obtain ⟨k, j, hl⟩ := lane_eq (y 3)
  have hy : y = (ix4 0 0 (show Fin 128 from y 2) ⟨128 * k.val + j.val, by omega⟩ : S1x1x128x512.Idx) := by
    rw [← hl]; blk_ext
  have he : ((win0_10.blk t).view.emb y : S2x4x8192x512.Idx) = ix4 ⟨dirN t.val, dir_lt t⟩ ⟨seqN t.val, seq_lt t⟩ ⟨blkN t.val * 128 + (show Fin 128 from y 2).val, row_lt t _⟩ ⟨128 * k.val + j.val, by omega⟩ := by
    have hl' := congrArg Fin.val hl
    blk_ext [idx t, hl']
  refine Eq.trans ?_ (congrArg (outG (inputs m c)) he).symm
  rw [outG_apply, result_at (inputs m c) t ⟨dirN t.val, dir_lt t⟩ _ rfl (show Fin 128 from y 2) k j _ rfl]
  exact (congrArg _ hy).trans (L.H k _ j)

/-- The matrix memories after the last chunk. -/
def memG (I : Model.Inputs) : FVec Ideal S2x4x4x128x128 .f32 := fun y => (Model.state I (y 0) (y 1) (y 2) 64).C (y 3) (y 4)
/-- The normalizers after the last chunk. -/
def vecG (I : Model.Inputs) : FVec Ideal S2x4x4x1x128 .f32 := fun y => (Model.state I (y 0) (y 1) (y 2) 64).n (y 4)
/-- The stabilizers after the last chunk, repeated along the lanes. -/
def stabG (I : Model.Inputs) : FVec Ideal S2x4x4x1x128 .f32 := fun y => (Model.state I (y 0) (y 1) (y 2) 64).m

theorem arrC (c : Dev nD) : (dats m 0 c).arrAt 11 cfg0.N = memG (inputs m c) := by
  refine (dats m 0 c).arrAt_eq_of_covers 11 _ (by decide +kernel) fun t hf y => ?_
  have h63 : t.val % 64 + 1 = 64 := by have := (flush0_11 t).mp hf; omega
  blk_simp
  rw [after0_11]
  have L := leaves m c t.val t.isLt ⟨dirN t.val, dir_lt t⟩ ⟨seqN t.val, seq_lt t⟩ rfl rfl
  have hy : y = (ix5 0 0 (show Fin 4 from y 2) (show Fin 128 from y 3) (show Fin 128 from y 4) : S1x1x4x128x128.Idx) := by
    blk_ext
  have he : ((win0_11.blk t).view.emb y : S2x4x4x128x128.Idx) = ix5 ⟨dirN t.val, dir_lt t⟩ ⟨seqN t.val, seq_lt t⟩ (show Fin 4 from y 2) (show Fin 128 from y 3) (show Fin 128 from y 4) := by
    blk_ext [idx t]
  refine Eq.trans ?_ (congrArg (memG (inputs m c)) he).symm
  refine (congrArg _ hy).trans ((L.C _ _ _).trans ?_)
  rw [h63]; rfl

theorem arrN (c : Dev nD) : (dats m 0 c).arrAt 12 cfg0.N = vecG (inputs m c) := by
  refine (dats m 0 c).arrAt_eq_of_covers 12 _ (by decide +kernel) fun t hf y => ?_
  have h63 : t.val % 64 + 1 = 64 := by have := (flush0_12 t).mp hf; omega
  blk_simp
  rw [after0_12]
  have L := leaves m c t.val t.isLt ⟨dirN t.val, dir_lt t⟩ ⟨seqN t.val, seq_lt t⟩ rfl rfl
  have hy : y = (ix5 0 0 (show Fin 4 from y 2) 0 (show Fin 128 from y 4) : S1x1x4x1x128.Idx) := by
    blk_ext
  have he : ((win0_12.blk t).view.emb y : S2x4x4x1x128.Idx) = ix5 ⟨dirN t.val, dir_lt t⟩ ⟨seqN t.val, seq_lt t⟩ (show Fin 4 from y 2) 0 (show Fin 128 from y 4) := by
    blk_ext [idx t]
  refine Eq.trans ?_ (congrArg (vecG (inputs m c)) he).symm
  refine (congrArg _ hy).trans ((L.n _ _).trans ?_)
  rw [h63]; rfl

theorem arrM (c : Dev nD) : (dats m 0 c).arrAt 13 cfg0.N = stabG (inputs m c) := by
  refine (dats m 0 c).arrAt_eq_of_covers 13 _ (by decide +kernel) fun t hf y => ?_
  have h63 : t.val % 64 + 1 = 64 := by have := (flush0_13 t).mp hf; omega
  blk_simp
  rw [after0_13]
  have L := leaves m c t.val t.isLt ⟨dirN t.val, dir_lt t⟩ ⟨seqN t.val, seq_lt t⟩ rfl rfl
  have hy : y = (ix5 0 0 (show Fin 4 from y 2) 0 (show Fin 128 from y 4) : S1x1x4x1x128.Idx) := by
    blk_ext
  have he : ((win0_13.blk t).view.emb y : S2x4x4x1x128.Idx) = ix5 ⟨dirN t.val, dir_lt t⟩ ⟨seqN t.val, seq_lt t⟩ (show Fin 4 from y 2) 0 (show Fin 128 from y 4) := by
    blk_ext [idx t]
  refine Eq.trans ?_ (congrArg (stabG (inputs m c)) he).symm
  refine (congrArg _ hy).trans ((L.m _ _).trans ?_)
  rw [h63]; rfl

end Cert.KernelIdeal.Scan
-- ==== Proof.Cumsum.lean ====
module
public import proofs.«01_k».proof.Proof.Model
public import proofs.«01_k».proof.Proof.Gen.ReferenceIdeal.Run
@[expose] public section
set_option maxRecDepth 16384
noncomputable section

/-! # The running sum of the reference

A window of the whole length, padded low by one less, sums a prefix. -/

namespace Cert.RefScan
open Cert.ReferenceIdeal Idealize.ShloMosaic

/-- Adding entry after entry is adding their sum. -/
theorem foldl_add {ι : Type} (g : ι → EReal) (l : List ι) (z : EReal) : l.foldl (fun r n => r + g n) z = z + (l.map g).sum := by
  induction l generalizing z with
  | nil => simp
  | cons a l ih => rw [List.foldl_cons, ih, List.map_cons, List.sum_cons, add_assoc]

/-- The window's place at position `n`. -/
theorem place (n : Fin (⟨3, ![1, 1, 128]⟩ : Shape).numel) :
    ((⟨3, ![1, 1, 128]⟩ : Shape).rowMajor.symm n 0).val = 0 ∧ ((⟨3, ![1, 1, 128]⟩ : Shape).rowMajor.symm n 1).val = 0 ∧
      ((⟨3, ![1, 1, 128]⟩ : Shape).rowMajor.symm n 2).val = n.val := by
  have h := Shape.rowMajor_val_three ((⟨3, ![1, 1, 128]⟩ : Shape).rowMajor.symm n)
  rw [Equiv.apply_symm_apply] at h
  have h0 := ((⟨3, ![1, 1, 128]⟩ : Shape).rowMajor.symm n 0).isLt
  have h1 := ((⟨3, ![1, 1, 128]⟩ : Shape).rowMajor.symm n 1).isLt
  change _ < 1 at h0
  change _ < 1 at h1
  change n.val = (_ * 1 + _) * 128 + _ at h
  refine ⟨by omega, by omega, by omega⟩

theorem numel_window : (⟨3, ![1, 1, 128]⟩ : Shape).numel = 128 := by decide

/-- The reference's running sum along the last axis, entry by entry. -/
theorem cumsum_apply (x : FVec Ideal S8x4x128 .f32) (init : FVec Ideal S_ .f32) (hinit : ∀ i, init i = (0 : EReal))
    (h : S8x4x128.ReduceWindows (![1, 1, 128] : Fin 3 → ℕ) ![1, 1, 1] ![0, 0, 127] ![0, 0, 0] S8x4x128) (hu : 0 < S_.numel) (B : Fin 8) (k : Fin 4) (j : Fin 128) :
    Host.reduceWindowAdd ![1, 1, 128] ![1, 1, 1] ![0, 0, 127] ![0, 0, 0] x init h hu (ix3 B k j)
      = Model.running (fun s => x (ix3 B k s)) j := by
  unfold Host.reduceWindowAdd
  rw [Ideal.hostReduceWindowAdd_def]
  unfold Ideal.hostReduceWindowAdd Host.reduceWindow
  refine (foldl_add _ _ _).trans ?_
  rw [hinit, zero_add]
  rw [← List.ofFn_eq_map, List.sum_ofFn]
  refine (Equiv.sum_comp (finCongr numel_window.symm) _).symm.trans ?_
  refine Eq.trans ?_ (Equiv.sum_comp (Equiv.addRight (j + 1)) _)
  refine Finset.sum_congr rfl fun w _ => ?_
  obtain ⟨p0, p1, p2⟩ := place (finCongr numel_window.symm w)
  have hw : (finCongr numel_window.symm w).val = w.val := rfl
  have hs : (Equiv.addRight (j + 1) w).val = (w.val + (j.val + 1)) % 128 := by
    show (w + (j + 1)).val = _
    simp only [Fin.val_add, Nat.add_mod_mod]
    rfl
  have hj := j.isLt
  have hwl := w.isLt
  by_cases hc : 127 ≤ w.val + j.val
  · have hs' : (Equiv.addRight (j + 1) w).val = w.val + j.val - 127 := by rw [hs]; omega
    refine (dif_pos ?_).trans (Eq.trans ?_ (if_pos (by omega)).symm)
    · intro a
      match a with
      | ⟨0, _⟩ =>
        show 0 ≤ B.val * 1 + ((⟨3, ![1, 1, 128]⟩ : Shape).rowMajor.symm (finCongr numel_window.symm w) 0).val ∧ B.val * 1 + ((⟨3, ![1, 1, 128]⟩ : Shape).rowMajor.symm (finCongr numel_window.symm w) 0).val - 0 < 8
        omega
      | ⟨1, _⟩ =>
        show 0 ≤ k.val * 1 + ((⟨3, ![1, 1, 128]⟩ : Shape).rowMajor.symm (finCongr numel_window.symm w) 1).val ∧ k.val * 1 + ((⟨3, ![1, 1, 128]⟩ : Shape).rowMajor.symm (finCongr numel_window.symm w) 1).val - 0 < 4
        omega
      | ⟨2, _⟩ =>
        show 127 ≤ j.val * 1 + ((⟨3, ![1, 1, 128]⟩ : Shape).rowMajor.symm (finCongr numel_window.symm w) 2).val ∧ j.val * 1 + ((⟨3, ![1, 1, 128]⟩ : Shape).rowMajor.symm (finCongr numel_window.symm w) 2).val - 127 < 128
        omega
    · refine congrArg x (funext fun a => Fin.ext ?_)
      match a with
      | ⟨0, _⟩ =>
        show B.val * 1 + ((⟨3, ![1, 1, 128]⟩ : Shape).rowMajor.symm (finCongr numel_window.symm w) 0).val - 0 = B.val
        omega
      | ⟨1, _⟩ =>
        show k.val * 1 + ((⟨3, ![1, 1, 128]⟩ : Shape).rowMajor.symm (finCongr numel_window.symm w) 1).val - 0 = k.val
        omega
      | ⟨2, _⟩ =>
        show j.val * 1 + ((⟨3, ![1, 1, 128]⟩ : Shape).rowMajor.symm (finCongr numel_window.symm w) 2).val - 127 = (Equiv.addRight (j + 1) w).val
        omega
  · refine (dif_neg ?_).trans (if_neg (by omega)).symm
    intro hin
    have h2 := (hin 2).1
    change 127 ≤ j.val * 1 + ((⟨3, ![1, 1, 128]⟩ : Shape).rowMajor.symm (finCongr numel_window.symm w) 2).val at h2
    omega

end Cert.RefScan
-- ==== Proof.RefTrip.lean ====
module
public import proofs.«01_k».proof.Proof.Cumsum
public import Idealize.ShloMosaic.Lib.DynamicIndex
@[expose] public section
set_option maxRecDepth 16384
noncomputable section

/-! # One trip of the reference's scan

What one trip makes of the carried arrays, entry by entry: one chunk of the recurrence of each sequence and head. -/

namespace Cert.RefScan
open Cert.ReferenceIdeal Cert.ReferenceIdeal.Gen Cert.ReferenceIdeal.Value Idealize.ShloMosaic Idealize.ShloMosaic.TcCoe

theorem ctr_toInt (k : Fin 64) : (Scf.iv 0#32 1#32 k.val).toInt = ((k.val : ℕ) : Int) := by
  revert k; decide

/-- The largest entry of a row, as a maximum over the row's places. -/
theorem fold_row4 (f : S8x4x128x128.Idx → EReal) (z : EReal) (B : Fin 8) (h : Fin 4) (t : Fin 128) :
    Finset.fold max z f {i | reducesTo_S8x4x128x128_S8x4x128_d3.drop i = ix3 B h t} = Finset.univ.fold max z fun s : Fin 128 => f (ix4 B h t s) := by
  have e : (Finset.univ.filter fun i : S8x4x128x128.Idx => reducesTo_S8x4x128x128_S8x4x128_d3.drop i = ix3 B h t)
      = Finset.univ.map ⟨fun s : Fin 128 => ix4 B h t s, fun a b hab => congrFun hab 3⟩ := by
    ext i
    simp only [Finset.mem_filter, Finset.mem_univ, true_and, Finset.mem_map, Function.Embedding.coeFn_mk]
    constructor
    · intro hi
      refine ⟨i 3, ?_⟩
      rw [ValueIdx.eq_ix4 i] at hi ⊢
      have h0 := congrFun hi 0
      have h1 := congrFun hi 1
      have h2 := congrFun hi 2
      change i 0 = B at h0
      change i 1 = h at h1
      change i 2 = t at h2
      rw [← h0, ← h1, ← h2]
      rfl
    · rintro ⟨s, rfl⟩
      exact ValueIdx.eq_ix3 _
  rw [e, Finset.fold_map]
  rfl
theorem fold_row3 (f : S8x4x128.Idx → EReal) (z : EReal) (B : Fin 8) (h : Fin 4) :
    Finset.fold max z f {i | reducesTo_S8x4x128_S8x4_d2.drop i = ix2 B h} = Finset.univ.fold max z fun s : Fin 128 => f (ix3 B h s) := by
  have e : (Finset.univ.filter fun i : S8x4x128.Idx => reducesTo_S8x4x128_S8x4_d2.drop i = ix2 B h)
      = Finset.univ.map ⟨fun s : Fin 128 => ix3 B h s, fun a b hab => congrFun hab 2⟩ := by
    ext i
    simp only [Finset.mem_filter, Finset.mem_univ, true_and, Finset.mem_map, Function.Embedding.coeFn_mk]
    constructor
    · intro hi
      refine ⟨i 2, ?_⟩
      rw [ValueIdx.eq_ix3 i] at hi ⊢
      have h0 := congrFun hi 0
      have h1 := congrFun hi 1
      change i 0 = B at h0
      change i 1 = h at h1
      rw [← h0, ← h1]
      rfl
    · rintro ⟨s, rfl⟩
      exact ValueIdx.eq_ix2 _
  rw [e, Finset.fold_map]
  rfl

theorem max_row4 (f : FVec Ideal S8x4x128x128 .f32) (B : Fin 8) (h : Fin 4) (t : Fin 128) :
    Host.reduce FloatOps.maximumf f (constant S_ .f32 0xFF800000#32) reducesTo_S8x4x128x128_S8x4x128_d3 h_S_ (ix3 B h t) = Rec.vmax fun s => f (ix4 B h t s) := by
  unfold Rec.vmax
  rw [← fold_row4]
  pointwise
theorem max_row3 (f : FVec Ideal S8x4x128 .f32) (B : Fin 8) (h : Fin 4) :
    Host.reduce FloatOps.maximumf f (constant S_ .f32 0xFF800000#32) reducesTo_S8x4x128_S8x4_d2 h_S_ (ix2 B h) = Rec.vmax fun s => f (ix3 B h s) := by
  unfold Rec.vmax
  rw [← fold_row3]
  pointwise

variable (V0 : Valuation τ sig (Elt Ideal))

/-- The carried arrays. -/
abbrev aQ : FVec Ideal S64x8x4x128x128 .f32 := V0 (Proc.devRef .tc main_v71_0)
abbrev aK : FVec Ideal S64x8x4x128x128 .f32 := V0 (Proc.devRef .tc main_v71_1)
abbrev aV : FVec Ideal S64x8x4x128x128 .f32 := V0 (Proc.devRef .tc main_v71_2)
abbrev aI : FVec Ideal S64x8x4x128 .f32 := V0 (Proc.devRef .tc main_v71_3)
abbrev aF : FVec Ideal S64x8x4x128 .f32 := V0 (Proc.devRef .tc main_v71_4)
abbrev aE : IVec S128x128 1 := V0 (Proc.devRef .tc main_v71_5)
abbrev aC : FVec Ideal S8x4x128x128 .f32 := V0 (Proc.devRef .tc main_v71_7)
abbrev aN : FVec Ideal S8x4x128 .f32 := V0 (Proc.devRef .tc main_v71_8)
abbrev aM : FVec Ideal S8x4 .f32 := V0 (Proc.devRef .tc main_v71_9)
abbrev aH : FVec Ideal S64x8x4x128x128 .f32 := V0 (Proc.devRef .tc main_v71_10)

/-- Chunk `k` of what sequence `B` and head `h` meet. -/
def tripChunk (k : Fin 64) (B : Fin 8) (h : Fin 4) : Rec.Chunk where
  M := fun t s => aE V0 (ix2 t s)
  b := Model.running fun s => aF V0 (ix4 k B h s)
  bl := Model.running (fun s => aF V0 (ix4 k B h s)) 127
  q := fun t j => aQ V0 (ix5 k B h t j)
  k := fun t j => aK V0 (ix5 k B h t j)
  v := fun t j => aV V0 (ix5 k B h t j)
  ig := fun t => aI V0 (ix4 k B h t)

/-- The state of sequence `B` and head `h`. -/
def tripState (B : Fin 8) (h : Fin 4) : Rec.State where
  C := fun e j => aC V0 (ix4 B h e j)
  n := fun j => aN V0 (ix3 B h j)
  m := aM V0 (ix2 B h)

variable (k : Fin 64) (hk : V0 (Proc.devRef .tc main_v71_6) = fun _ => Scf.iv 0#32 1#32 k.val)
include hk

theorem slices5 : S64x8x4x128x128.Slices ![k.val, 0, 0, 0, 0] S1x8x4x128x128 := by
  refine ⟨rfl, fun a => ?_⟩
  have := k.isLt
  match a with
  | ⟨0, _⟩ => show k.val + 1 ≤ 64; omega
  | ⟨1, _⟩ => show 0 + 8 ≤ 8; omega
  | ⟨2, _⟩ => show 0 + 4 ≤ 4; omega
  | ⟨3, _⟩ => show 0 + 128 ≤ 128; omega
  | ⟨4, _⟩ => show 0 + 128 ≤ 128; omega
theorem slices4 : S64x8x4x128.Slices ![k.val, 0, 0, 0] S1x8x4x128 := by
  refine ⟨rfl, fun a => ?_⟩
  have := k.isLt
  match a with
  | ⟨0, _⟩ => show k.val + 1 ≤ 64; omega
  | ⟨1, _⟩ => show 0 + 8 ≤ 8; omega
  | ⟨2, _⟩ => show 0 + 4 ≤ 4; omega
  | ⟨3, _⟩ => show 0 + 128 ≤ 128; omega

/-- A chunk taken out of a stacked array, entry by entry. -/
theorem chunk5 (x : FVec Ideal S64x8x4x128x128 .f32) (B : Fin 8) (h : Fin 4) (t j : Fin 128) :
    shapeCast S8x4x128x128 (Host.dynamicSlice S1x8x4x128x128 x (fun k => (((![V0 (Proc.devRef .tc main_v71_6), constantI S_ 32 0#32, constantI S_ 32 0#32, constantI S_ 32 0#32, constantI S_ 32 0#32] : Fin 5 → (⟨S_, .i32⟩ : BufTy).Contents (Elt Ideal))) k (Shape.Idx.first h_S_)).toInt) sliceFits_S64x8x4x128x128_S1x8x4x128x128) shapeCasts_S1x8x4x128x128_S8x4x128x128 (ix4 B h t j)
      = x (ix5 k B h t j) := by
  rw [Host.dynamicSlice_eq_extractStridedSlice S1x8x4x128x128 _ _ ![k.val,0,0,0,0] _ (slices5 V0 k hk) (fun a => by
    match a with
    | ⟨0,_⟩ => exact (congrArg (fun f : S_.Idx → BitVec 32 => (f (Shape.Idx.first h_S_)).toInt) hk).trans (ctr_toInt k)
    | ⟨1,_⟩ => rfl
    | ⟨2,_⟩ => rfl
    | ⟨3,_⟩ => rfl
    | ⟨4,_⟩ => rfl)]
  pointwise
theorem chunk4 (x : FVec Ideal S64x8x4x128 .f32) (B : Fin 8) (h : Fin 4) (t : Fin 128) :
    shapeCast S8x4x128 (Host.dynamicSlice S1x8x4x128 x (fun k => (((![V0 (Proc.devRef .tc main_v71_6), constantI S_ 32 0#32, constantI S_ 32 0#32, constantI S_ 32 0#32] : Fin 4 → (⟨S_, .i32⟩ : BufTy).Contents (Elt Ideal))) k (Shape.Idx.first h_S_)).toInt) sliceFits_S64x8x4x128_S1x8x4x128) shapeCasts_S1x8x4x128_S8x4x128 (ix3 B h t)
      = x (ix4 k B h t) := by
  rw [Host.dynamicSlice_eq_extractStridedSlice S1x8x4x128 _ _ ![k.val,0,0,0] _ (slices4 V0 k hk) (fun a => by
    match a with
    | ⟨0,_⟩ => exact (congrArg (fun f : S_.Idx → BitVec 32 => (f (Shape.Idx.first h_S_)).toInt) hk).trans (ctr_toInt k)
    | ⟨1,_⟩ => rfl
    | ⟨2,_⟩ => rfl
    | ⟨3,_⟩ => rfl)]
  pointwise

theorem rd_q (B : Fin 8) (h : Fin 4) (t j : Fin 128) : res_main_while0b_v85 V0 (ix4 B h t j) = (tripChunk V0 k B h).q t j := chunk5 V0 k hk _ B h t j
theorem rd_k (B : Fin 8) (h : Fin 4) (t j : Fin 128) : res_main_while0b_v86 V0 (ix4 B h t j) = (tripChunk V0 k B h).k t j := chunk5 V0 k hk _ B h t j
theorem rd_v (B : Fin 8) (h : Fin 4) (t j : Fin 128) : res_main_while0b_v87 V0 (ix4 B h t j) = (tripChunk V0 k B h).v t j := chunk5 V0 k hk _ B h t j
theorem rd_ig (B : Fin 8) (h : Fin 4) (t : Fin 128) : res_main_while0b_v88 V0 (ix3 B h t) = (tripChunk V0 k B h).ig t := chunk4 V0 k hk _ B h t
theorem rd_b (B : Fin 8) (h : Fin 4) (t : Fin 128) : res_main_while0b_v90 V0 (ix3 B h t) = (tripChunk V0 k B h).b t := by
  unfold res_main_while0b_v90
  refine (cumsum_apply _ _ (fun i => by rw [ValueIdx.eq_ix0 i]; pointwise) _ _ B h t).trans ?_
  exact congrArg (fun f => Model.running f t) (funext fun s => chunk4 V0 k hk _ B h s)
theorem rd_bl (B : Fin 8) (h : Fin 4) : res_main_while0b_v131 V0 (ix2 B h) = (tripChunk V0 k B h).bl := by
  unfold res_main_while0b_v131
  refine Eq.trans ?_ (rd_b V0 k hk B h 127)
  pointwise

theorem rd_dm (B : Fin 8) (h : Fin 4) (t s : Fin 128) : res_main_while0b_v99 V0 (ix4 B h t s) = Rec.dm (tripChunk V0 k B h) t s := by
  unfold res_main_while0b_v99
  pointwise
  simp only [rd_b V0 k hk, rd_ig V0 k hk]
  rfl
theorem rd_inter (B : Fin 8) (h : Fin 4) (t : Fin 128) : res_main_while0b_v102 V0 (ix3 B h t) = Rec.inter (tripChunk V0 k B h) (tripState V0 B h) t := by
  unfold res_main_while0b_v102
  pointwise
  simp only [rd_b V0 k hk]
  rfl
theorem rd_mt (B : Fin 8) (h : Fin 4) (t : Fin 128) : res_main_while0b_v104 V0 (ix3 B h t) = Rec.mt (tripChunk V0 k B h) (tripState V0 B h) t := by
  unfold res_main_while0b_v104
  refine congrArg₂ (fun x y : EReal => max x y) (rd_inter V0 k hk B h t) ((max_row4 _ B h t).trans ?_)
  simp only [rd_dm V0 k hk]
theorem rd_sc (B : Fin 8) (h : Fin 4) (t s : Fin 128) : res_main_while0b_v110 V0 (ix4 B h t s) = Rec.sc (tripChunk V0 k B h) (tripState V0 B h) t s := by
  unfold res_main_while0b_v110
  pointwise
  simp only [rd_q V0 k hk, rd_k V0 k hk, rd_dm V0 k hk, rd_mt V0 k hk]
  rfl
theorem rd_al (B : Fin 8) (h : Fin 4) (t : Fin 128) : res_main_while0b_v112 V0 (ix3 B h t) = Rec.al (tripChunk V0 k B h) (tripState V0 B h) t := by
  unfold res_main_while0b_v112
  pointwise
  simp only [rd_inter V0 k hk, rd_mt V0 k hk]
  rfl
theorem rd_gl (B : Fin 8) (h : Fin 4) (s : Fin 128) : res_main_while0b_v135 V0 (ix3 B h s) = Rec.gl (tripChunk V0 k B h) s := by
  unfold res_main_while0b_v135
  pointwise
  simp only [rd_b V0 k hk, rd_bl V0 k hk, rd_ig V0 k hk]
  rfl
theorem rd_mnew (B : Fin 8) (h : Fin 4) : res_main_while0b_v138 V0 (ix2 B h) = Rec.mnew (tripChunk V0 k B h) (tripState V0 B h) := by
  unfold res_main_while0b_v138
  refine congrArg₂ (fun x y : EReal => max x y) (congrArg (· + _) (rd_bl V0 k hk B h)) ((max_row3 _ B h).trans ?_)
  simp only [rd_gl V0 k hk]
theorem rd_wt (B : Fin 8) (h : Fin 4) (s : Fin 128) : res_main_while0b_v142 V0 (ix3 B h s) = Rec.wt (tripChunk V0 k B h) (tripState V0 B h) s := by
  unfold res_main_while0b_v142
  pointwise
  simp only [rd_gl V0 k hk, rd_mnew V0 k hk]
  rfl
theorem rd_dec (B : Fin 8) (h : Fin 4) : res_main_while0b_v145 V0 (ix2 B h) = Rec.dec (tripChunk V0 k B h) (tripState V0 B h) := by
  unfold res_main_while0b_v145
  pointwise
  simp only [rd_bl V0 k hk, rd_mnew V0 k hk]
  rfl

/-- The matrix memory after the trip. -/
theorem step_C (B : Fin 8) (h : Fin 4) (e j : Fin 128) :
    step_main_v71_7 V0 (ix4 B h e j) = (Rec.next (tripChunk V0 k B h) (tripState V0 B h)).C e j := by
  unfold step_main_v71_7
  dsimp only [id]
  pointwise
  simp only [rd_dec V0 k hk, rd_k V0 k hk, rd_wt V0 k hk, rd_v V0 k hk]
  rfl
/-- The normalizer after the trip. -/
theorem step_n (B : Fin 8) (h : Fin 4) (j : Fin 128) :
    step_main_v71_8 V0 (ix3 B h j) = (Rec.next (tripChunk V0 k B h) (tripState V0 B h)).n j := by
  unfold step_main_v71_8
  dsimp only [id]
  pointwise
  simp only [rd_dec V0 k hk, rd_k V0 k hk, rd_wt V0 k hk]
  refine congrArg (_ + ·) (Finset.sum_congr rfl fun s _ => ?_)
  exact mul_comm _ _
/-- The stabilizer after the trip. -/
theorem step_m (B : Fin 8) (h : Fin 4) :
    step_main_v71_9 V0 (ix2 B h) = (Rec.next (tripChunk V0 k B h) (tripState V0 B h)).m := rd_mnew V0 k hk B h

/-- What is written at one place of a stacked array, entry by entry. -/
theorem write5 (x : FVec Ideal S64x8x4x128x128 .f32) (y : FVec Ideal S1x8x4x128x128 .f32) (k' : Fin 64) (B : Fin 8) (h : Fin 4) (t j : Fin 128) :
    Host.dynamicUpdateSlice x y (fun k => (((![V0 (Proc.devRef .tc main_v71_6), constantI S_ 32 0#32, constantI S_ 32 0#32, constantI S_ 32 0#32, constantI S_ 32 0#32] : Fin 5 → (⟨S_, .i32⟩ : BufTy).Contents (Elt Ideal))) k (Shape.Idx.first h_S_)).toInt) updateFits_S64x8x4x128x128_S1x8x4x128x128 (ix5 k' B h t j)
      = if k' = k then y (ix5 0 B h t j) else x (ix5 k' B h t j) := by
  have hc := (congrArg (fun f : S_.Idx → BitVec 32 => (f (Shape.Idx.first h_S_)).toInt) hk).trans (ctr_toInt k)
  rw [Host.dynamicUpdateSlice_eq_updateSlice x y _ _ ![k.val,0,0,0,0] (fun a => by
    have := k.isLt
    match a with
    | ⟨0,_⟩ =>
      show (min (max ((V0 (Proc.devRef .tc main_v71_6) : S_.Idx → BitVec 32) (Shape.Idx.first h_S_)).toInt 0) ((64 - 1 : ℕ) : Int)).toNat = k.val
      change ((V0 (Proc.devRef .tc main_v71_6) : S_.Idx → BitVec 32) (Shape.Idx.first h_S_)).toInt = _ at hc
      rw [hc]
      omega
    | ⟨1,_⟩ => rfl
    | ⟨2,_⟩ => rfl
    | ⟨3,_⟩ => rfl
    | ⟨4,_⟩ => rfl) (slices5 V0 k hk)]
  by_cases e : k' = k
  · subst e
    rw [if_pos rfl]
    refine (dif_pos ?_).trans (congrArg y (funext fun b => Fin.ext ?_))
    · intro a
      match a with
      | ⟨0,_⟩ => exact ⟨le_refl k'.val, Nat.lt_succ_self k'.val⟩
      | ⟨1,_⟩ => exact ⟨Nat.zero_le _, (Nat.zero_add 8).symm ▸ B.isLt⟩
      | ⟨2,_⟩ => exact ⟨Nat.zero_le _, (Nat.zero_add 4).symm ▸ h.isLt⟩
      | ⟨3,_⟩ => exact ⟨Nat.zero_le _, (Nat.zero_add 128).symm ▸ t.isLt⟩
      | ⟨4,_⟩ => exact ⟨Nat.zero_le _, (Nat.zero_add 128).symm ▸ j.isLt⟩
    · match b with
      | ⟨0,_⟩ => exact Nat.sub_self k'.val
      | ⟨1,_⟩ => rfl
      | ⟨2,_⟩ => rfl
      | ⟨3,_⟩ => rfl
      | ⟨4,_⟩ => rfl
  · rw [if_neg e]
    refine dif_neg fun hin => e (Fin.ext ?_)
    have h0 := hin 0
    change k.val ≤ k'.val ∧ k'.val < k.val + 1 at h0
    omega

/-- The outputs after the trip: those of the trip's own chunk are written, the others stay. -/
theorem step_H (k' : Fin 64) (B : Fin 8) (h : Fin 4) (t j : Fin 128) :
    step_main_v71_10 V0 (ix5 k' B h t j) =
      if k' = k then Rec.out (tripChunk V0 k B h) (tripState V0 B h) t j else aH V0 (ix5 k' B h t j) := by
  unfold step_main_v71_10
  dsimp only [id]
  refine (write5 V0 k hk _ _ k' B h t j).trans ?_
  refine congrArg (fun z => if k' = k then z else _) ?_
  pointwise
  simp only [rd_sc V0 k hk, rd_v V0 k hk, rd_al V0 k hk, rd_q V0 k hk, rd_mt V0 k hk]
  rfl

end Cert.RefScan
-- ==== Proof.RefInputs.lean ====
module
public import proofs.«01_k».proof.Proof.RefTrip
public import Idealize.ShloMosaic.Lib.StableHlo.RunClose
@[expose] public section
set_option maxRecDepth 16384
noncomputable section

/-! # The arrays the reference's scan reads, as functions of the arguments -/

namespace Cert.RefScan
open Cert.ReferenceIdeal Cert.ReferenceIdeal.Gen Cert.ReferenceIdeal.Value Idealize.ShloMosaic Idealize.ShloMosaic.TcCoe
open Idealize.ShloMosaic.StableHlo Idealize.ShloMosaic.Tactic

/-- The query and key projections with a row of zeros before and after. -/
def padR (X : FVec Ideal S4x8192x2048 .f32) : FVec Ideal S4x8194x1024 .f32 :=
  pad S4x8194x1024 ![0, 1, 0] ![0, 1, 0] ![0, 0, 0] (extractStridedSlice S4x8192x1024 ![0, 0, 0] X slices_S4x8192x2048_S4x8192x1024_0_0_0)
    (sitofp .f32 (constantI S_ 32 0#32)) pads_S4x8192x1024_S4x8194x1024_000_110_000 h_S_

/-- One row of weights, repeated over the sequences. -/
def rowR (w : FVec Ideal S1x1024 .f32) : FVec Ideal S4x8192x1024 .f32 :=
  broadcastInDim S4x8192x1024 ![0, 1, 2] bcast_S1x1x1024_S4x8192x1024_0_1_2 (broadcastInDim S1x1x1024 ![2] bcast_S1024_S1x1x1024_2
    (shapeCast S1024 w shapeCasts_S1x1024_S1024))

/-- The convolution. -/
def convR (X : FVec Ideal S4x8192x2048 .f32) (W : FVec Ideal S3x1024 .f32) : FVec Ideal S4x8192x1024 .f32 :=
  addf (addf
    (mulf (extractStridedSlice S4x8192x1024 ![0, 0, 0] (padR X) slices_S4x8194x1024_S4x8192x1024_0_0_0) (rowR (extractStridedSlice S1x1024 ![0, 0] W slices_S3x1024_S1x1024_0_0)))
    (mulf (extractStridedSlice S4x8192x1024 ![0, 1, 0] (padR X) slices_S4x8194x1024_S4x8192x1024_0_1_0) (rowR (extractStridedSlice S1x1024 ![1, 0] W slices_S3x1024_S1x1024_1_0))))
    (mulf (extractStridedSlice S4x8192x1024 ![0, 2, 0] (padR X) slices_S4x8194x1024_S4x8192x1024_0_2_0) (rowR (extractStridedSlice S1x1024 ![2, 0] W slices_S3x1024_S1x1024_2_0)))

/-- The activation. -/
def siluR (x : FVec Ideal S4x8192x1024 .f32) : FVec Ideal S4x8192x1024 .f32 :=
  mulf x (Host.divf (broadcastInDim S4x8192x1024 ![] bcast_S_S4x8192x1024 (constant S_ .f32 0x3F800000#32))
    (addf (broadcastInDim S4x8192x1024 ![] bcast_S_S4x8192x1024 (constant S_ .f32 0x3F800000#32)) (Host.exp (Host.negf x))))

/-- The queries and keys of all sequences. -/
def actR (X : FVec Ideal S4x8192x2048 .f32) (W : FVec Ideal S3x1024 .f32) : FVec Ideal S4x8192x1024 .f32 := siluR (convR X W)

/-- The queries by head. -/
def qR (X : FVec Ideal S4x8192x2048 .f32) (W : FVec Ideal S3x1024 .f32) : FVec Ideal S4x8192x4x128 .f32 :=
  shapeCast S4x8192x4x128 (extractStridedSlice S4x8192x512 ![0, 0, 0] (actR X W) slices_S4x8192x1024_S4x8192x512_0_0_0) shapeCasts_S4x8192x512_S4x8192x4x128
/-- The keys by head. -/
def kR (X : FVec Ideal S4x8192x2048 .f32) (W : FVec Ideal S3x1024 .f32) : FVec Ideal S4x8192x4x128 .f32 :=
  mulf (shapeCast S4x8192x4x128 (extractStridedSlice S4x8192x512 ![0, 0, 512] (actR X W) slices_S4x8192x1024_S4x8192x512_0_0_512) shapeCasts_S4x8192x512_S4x8192x4x128)
    (broadcastInDim S4x8192x4x128 ![] bcast_S_S4x8192x4x128 (constant S_ .f32 0x3DB504F3#32))
/-- The values by head. -/
def vR (X : FVec Ideal S4x8192x2048 .f32) : FVec Ideal S4x8192x4x128 .f32 :=
  shapeCast S4x8192x4x128 (extractStridedSlice S4x8192x512 ![0, 0, 1024] X slices_S4x8192x2048_S4x8192x512_0_0_1024) shapeCasts_S4x8192x512_S4x8192x4x128

/-- The sequences and the reversed sequences, one after the other, cut into chunks and stacked. -/
def stackR (x : FVec Ideal S4x8192x4x128 .f32) : FVec Ideal S64x8x4x128x128 .f32 :=
  transpose S64x8x4x128x128 [1, 0, 3, 2, 4] (shapeCast S8x64x128x4x128
    (concatenate S8x8192x4x128 0 [⟨S4x8192x4x128, x⟩, ⟨S4x8192x4x128, Host.reverse [1] x⟩] concatenates_S4x8192x4x128_S4x8192x4x128_S8x8192x4x128_d0)
    shapeCasts_S8x8192x4x128_S8x64x128x4x128) transposes_S8x64x128x4x128_S64x8x4x128x128_1_0_3_2_4

/-- The same for the two directions' gates. -/
def stackG (g : FVec Ideal S2x4x8192x4 .f32) : FVec Ideal S64x8x4x128 .f32 :=
  transpose S64x8x4x128 [1, 0, 3, 2] (shapeCast S8x64x128x4
    (concatenate S8x8192x4 0 [⟨S4x8192x4, shapeCast S4x8192x4 (extractStridedSlice S1x4x8192x4 ![0, 0, 0, 0] g slices_S2x4x8192x4_S1x4x8192x4_0_0_0_0) shapeCasts_S1x4x8192x4_S4x8192x4⟩,
      ⟨S4x8192x4, Host.reverse [1] (shapeCast S4x8192x4 (extractStridedSlice S1x4x8192x4 ![1, 0, 0, 0] g slices_S2x4x8192x4_S1x4x8192x4_1_0_0_0) shapeCasts_S1x4x8192x4_S4x8192x4)⟩]
      concatenates_S4x8192x4_S4x8192x4_S8x8192x4_d0)
    shapeCasts_S8x8192x4_S8x64x128x4) transposes_S8x64x128x4_S64x8x4x128_1_0_3_2

/-- The input gates. -/
def igR (G : FVec Ideal S2x4x8192x128 .f32) : FVec Ideal S2x4x8192x4 .f32 :=
  extractStridedSlice S2x4x8192x4 ![0, 0, 0, 0] (extractStridedSlice S2x4x8192x8 ![0, 0, 0, 0] G slices_S2x4x8192x128_S2x4x8192x8_0_0_0_0) slices_S2x4x8192x8_S2x4x8192x4_0_0_0_0

/-- A zero everywhere. -/
def zeroR : FVec Ideal S2x4x8192x4 .f32 := broadcastInDim S2x4x8192x4 ![] bcast_S_S2x4x8192x4 (constant S_ .f32 0x00000000#32)

/-- The logarithm of the logistic function, as a softplus of the negation. -/
def logsigR (x : FVec Ideal S2x4x8192x4 .f32) : FVec Ideal S2x4x8192x4 .f32 :=
  Host.negf (select (cmpf .une (subf (Host.negf x) zeroR) (subf (Host.negf x) zeroR)) (addf (Host.negf x) zeroR)
    (addf (maximumf (Host.negf x) zeroR) (Host.log1p (Host.exp (Host.negf (Host.absf (subf (Host.negf x) zeroR)))))))

/-- The forget gates' logarithms. -/
def lfR (G : FVec Ideal S2x4x8192x128 .f32) : FVec Ideal S2x4x8192x4 .f32 :=
  logsigR (extractStridedSlice S2x4x8192x4 ![0, 0, 0, 4] (extractStridedSlice S2x4x8192x8 ![0, 0, 0, 0] G slices_S2x4x8192x128_S2x4x8192x8_0_0_0_0) slices_S2x4x8192x8_S2x4x8192x4_0_0_0_4)

/-- The pairs of positions the first of which sees the second. -/
def earlierR : IVec S128x128 1 :=
  select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))

variable (m : (ℓ : Loc nD τ sig) → Buf (Elt Ideal) ℓ)

/-- The arguments. -/
abbrev argX (c : Dev nD) : FVec Ideal S4x8192x2048 .f32 := m ((c.tc : Thread nD τ).loc main_arg0)
abbrev argG (c : Dev nD) : FVec Ideal S2x4x8192x128 .f32 := m ((c.tc : Thread nD τ).loc main_arg1)
abbrev argW (c : Dev nD) : FVec Ideal S3x1024 .f32 := m ((c.tc : Thread nD τ).loc main_arg2)
abbrev argC (c : Dev nD) : FVec Ideal S2x4x4x128x128 .f32 := m ((c.tc : Thread nD τ).loc main_arg3)
abbrev argN (c : Dev nD) : FVec Ideal S2x4x4x1x128 .f32 := m ((c.tc : Thread nD τ).loc main_arg4)
abbrev argM (c : Dev nD) : FVec Ideal S2x4x4x1x128 .f32 := m ((c.tc : Thread nD τ).loc main_arg5)

end Cert.RefScan
-- ==== Proof.RefRead.lean ====
module
public import proofs.«01_k».proof.Proof.RefInputs
public import Idealize.ShloMosaic.Lib.Pointwise
@[expose] public section
set_option maxRecDepth 16384
noncomputable section

/-! # The reference's arrays, entry by entry

At sequence `d * 4 + b` of the doubled batch the reference's scan reads direction `d` of sequence `b`. -/

namespace Cert.RefScan
open Cert.ReferenceIdeal Cert.ReferenceIdeal.Gen Cert.ReferenceIdeal.Value Idealize.ShloMosaic Idealize.ShloMosaic.TcCoe

/-- Where the doubled batch holds direction `d` of sequence `b`. -/
def both (d : Fin 2) (b : Fin 4) : Fin 8 := ⟨d.val * 4 + b.val, by omega⟩

theorem split_rows (x : FVec Ideal S8x8192x4x128 .f32) (B : Fin 8) (k : Fin 64) (t : Fin 128) (h : Fin 4) (j : Fin 128) :
    shapeCast S8x64x128x4x128 x shapeCasts_S8x8192x4x128_S8x64x128x4x128 (ix5 B k t h j) = x (ix4 B ⟨128 * k.val + t.val, by omega⟩ h j) :=
  shapeCast_apply x shapeCasts_S8x8192x4x128_S8x64x128x4x128 (ix5 B k t h j) (ix4 B ⟨128 * k.val + t.val, by omega⟩ h j) (by
    rw [Shape.rowMajor_val_four, Shape.rowMajor_val_five]
    show ((B.val * 8192 + (128 * k.val + t.val)) * 4 + h.val) * 128 + j.val = (((B.val * 64 + k.val) * 128 + t.val) * 4 + h.val) * 128 + j.val
    omega)

theorem split_heads (x : FVec Ideal S4x8192x512 .f32) (b : Fin 4) (r : Fin 8192) (h : Fin 4) (j : Fin 128) :
    shapeCast S4x8192x4x128 x shapeCasts_S4x8192x512_S4x8192x4x128 (ix4 b r h j) = x (ix3 b r ⟨128 * h.val + j.val, by omega⟩) :=
  shapeCast_apply x shapeCasts_S4x8192x512_S4x8192x4x128 (ix4 b r h j) (ix3 b r ⟨128 * h.val + j.val, by omega⟩) (by
    rw [Shape.rowMajor_val_three, Shape.rowMajor_val_four]
    show (b.val * 8192 + r.val) * 512 + (128 * h.val + j.val) = ((b.val * 8192 + r.val) * 4 + h.val) * 128 + j.val
    omega)

/-- The reversed batch after the batch. -/
theorem doubled (x : FVec Ideal S4x8192x4x128 .f32) (d : Fin 2) (b : Fin 4) (p : Fin 8192) (h : Fin 4) (j : Fin 128) :
    concatenate S8x8192x4x128 0 [⟨S4x8192x4x128, x⟩, ⟨S4x8192x4x128, Host.reverse [1] x⟩] concatenates_S4x8192x4x128_S4x8192x4x128_S8x8192x4x128_d0
      (ix4 (both d b) p h j) = x (ix4 b (Model.row d p.val) h j) := by
  pointwise
  have hp := p.isLt
  match d with
  | 0 =>
    refine (dif_pos (show 0 * 4 + b.val < 4 by omega)).trans ?_
    refine congrArg x (congrArg₂ (fun u v => ix4 u v h j) (Fin.ext (by show 0 * 4 + b.val = b.val; omega)) (Fin.ext ?_))
    show p.val = if (0 : ℕ) = 0 then p.val % 8192 else 8191 - p.val % 8192
    rw [if_pos rfl]; omega
  | 1 =>
    refine (dif_neg (show ¬ 1 * 4 + b.val < 4 by omega)).trans ?_
    refine congrArg x (congrArg₂ (fun u v => ix4 u v h j) (Fin.ext (by show 1 * 4 + b.val - 4 = b.val; omega)) (Fin.ext ?_))
    show 8192 - (p.val + 1) = if (1 : ℕ) = 0 then p.val % 8192 else 8191 - p.val % 8192
    rw [if_neg (by decide)]; omega

theorem stacked (y : FVec Ideal S8x64x128x4x128 .f32) (k : Fin 64) (B : Fin 8) (h : Fin 4) (t j : Fin 128) :
    transpose S64x8x4x128x128 [1, 0, 3, 2, 4] y transposes_S8x64x128x4x128_S64x8x4x128x128_1_0_3_2_4 (ix5 k B h t j) = y (ix5 B k t h j) :=
  congrArg y (ValueIdx.eq_ix5 _)

theorem stackR_apply (x : FVec Ideal S4x8192x4x128 .f32) (k : Fin 64) (d : Fin 2) (b h : Fin 4) (t j : Fin 128) :
    stackR x (ix5 k (both d b) h t j) = x (ix4 b (Model.row d (128 * k.val + t.val)) h j) := by
  unfold stackR
  rw [stacked, split_rows, doubled]

theorem stackG_apply (g : FVec Ideal S2x4x8192x4 .f32) (k : Fin 64) (d : Fin 2) (b h : Fin 4) (t : Fin 128) :
    stackG g (ix4 k (both d b) h t) = g (ix4 d b (Model.row d (128 * k.val + t.val)) h) := by
  pointwise [stackG]
  have hk := k.isLt
  have ht := t.isLt
  match d with
  | 0 =>
    refine (dif_pos (show 0 * 4 + b.val < 4 by omega)).trans ?_
    refine congrArg g (congrArg₂ (fun u v => ix4 0 u v h) (Fin.ext (by show 0 * 4 + b.val = b.val; omega)) (Fin.ext ?_))
    show k.val * 128 + t.val = if (0 : ℕ) = 0 then (128 * k.val + t.val) % 8192 else 8191 - (128 * k.val + t.val) % 8192
    rw [if_pos rfl]; omega
  | 1 =>
    refine (dif_neg (show ¬ 1 * 4 + b.val < 4 by omega)).trans ?_
    refine congrArg g (congrArg₂ (fun u v => ix4 1 u v h) (Fin.ext (by show 1 * 4 + b.val - 4 = b.val; omega)) (Fin.ext ?_))
    show 8192 - (k.val * 128 + t.val + 1) = if (1 : ℕ) = 0 then (128 * k.val + t.val) % 8192 else 8191 - (128 * k.val + t.val) % 8192
    rw [if_neg (by decide)]; omega

/-- The arguments, entry by entry. -/
def inputs (X : FVec Ideal S4x8192x2048 .f32) (G : FVec Ideal S2x4x8192x128 .f32) (W : FVec Ideal S3x1024 .f32)
    (C : FVec Ideal S2x4x4x128x128 .f32) (N M : FVec Ideal S2x4x4x1x128 .f32) : Model.Inputs where
  X := fun b r j => X (ix3 b r j)
  G := fun d b r j => G (ix4 d b r j)
  W := fun i j => W (ix2 i j)
  C0 := fun d b h e j => C (ix5 d b h e j)
  n0 := fun d b h j => N (ix5 d b h 0 j)
  m0 := fun d b h j => M (ix5 d b h 0 j)

variable (X : FVec Ideal S4x8192x2048 .f32) (G : FVec Ideal S2x4x8192x128 .f32) (W : FVec Ideal S3x1024 .f32)
    (C : FVec Ideal S2x4x4x128x128 .f32) (N M : FVec Ideal S2x4x4x1x128 .f32)

theorem zero_value : (FloatOps.sitofp .f32 (0#32) : Ideal .f32) = (0 : EReal) := by
  show (((0#32 : BitVec 32).toInt : ℝ) : EReal) = 0
  simp

theorem padR_apply (b : Fin 4) (r : Fin 8194) (j : Fin 1024) :
    padR X (ix3 b r j) = if h : 1 ≤ r.val ∧ r.val - 1 < 8192 then X (ix3 b ⟨r.val - 1, h.2⟩ ⟨j.val, by omega⟩) else 0 := by
  pointwise [padR]
  split
  · rfl
  · exact zero_value

theorem convR_apply (b : Fin 4) (r : Fin 8192) (j : Fin 1024) :
    convR X W (ix3 b r j) = Model.conv (inputs X G W C N M) b r j := by
  have hr := r.isLt
  pointwise [convR, rowR]
  rw [padR_apply, padR_apply, padR_apply]
  unfold Model.conv
  have e0 : (if h : 1 ≤ r.val ∧ r.val - 1 < 8192 then X (ix3 b ⟨r.val - 1, h.2⟩ ⟨j.val, by omega⟩) else 0) = Model.before (inputs X G W C N M) b r j := by
    unfold Model.before
    by_cases h : r.val = 0
    · rw [dif_pos h, dif_neg (by omega)]
    · rw [dif_neg h, dif_pos (by omega)]; rfl
  have e1 : (if h : 1 ≤ 1 + r.val ∧ 1 + r.val - 1 < 8192 then X (ix3 b ⟨1 + r.val - 1, h.2⟩ ⟨j.val, by omega⟩) else 0) = Model.qk (inputs X G W C N M) b r j := by
    rw [dif_pos (by omega)]
    exact congrArg X (congrArg₂ (ix3 b) (Fin.ext (by show 1 + r.val - 1 = r.val; omega)) rfl)
  have e2 : (if h : 1 ≤ 2 + r.val ∧ 2 + r.val - 1 < 8192 then X (ix3 b ⟨2 + r.val - 1, h.2⟩ ⟨j.val, by omega⟩) else 0) = Model.after (inputs X G W C N M) b r j := by
    unfold Model.after
    by_cases h : r.val = 8191
    · rw [dif_pos h, dif_neg (by omega)]
    · rw [dif_neg h, dif_pos (by omega)]
      exact congrArg X (congrArg₂ (ix3 b) (Fin.ext (by show 2 + r.val - 1 = r.val + 1; omega)) rfl)
  exact congr (congrArg HAdd.hAdd (congr (congrArg HAdd.hAdd (congrArg (· * W (ix2 0 j)) e0)) (congrArg (· * W (ix2 1 j)) e1))) (congrArg (· * W (ix2 2 j)) e2)

theorem actR_apply (b : Fin 4) (r : Fin 8192) (j : Fin 1024) :
    actR X W (ix3 b r j) = Model.act (inputs X G W C N M) b r j := by
  unfold actR Model.act
  rw [← convR_apply]
  pointwise [siluR]
  rfl

theorem qR_apply (b : Fin 4) (r : Fin 8192) (h : Fin 4) (j : Fin 128) :
    qR X W (ix4 b r h j) = Model.act (inputs X G W C N M) b r ⟨128 * h.val + j.val, by omega⟩ := by
  rw [← actR_apply]
  refine (split_heads _ b r h j).trans ?_
  pointwise

theorem scaled (y : FVec Ideal S4x8192x4x128 .f32) (w : BitVec 32) (i : S4x8192x4x128.Idx) :
    mulf y (broadcastInDim S4x8192x4x128 ![] bcast_S_S4x8192x4x128 (constant (F := Ideal) S_ .f32 w)) i = y i * Ideal.ofBits .f32 w := rfl

theorem kR_apply (b : Fin 4) (r : Fin 8192) (h : Fin 4) (j : Fin 128) :
    kR X W (ix4 b r h j) = Model.act (inputs X G W C N M) b r ⟨512 + 128 * h.val + j.val, by omega⟩ * Ideal.ofBits .f32 0x3DB504F3#32 := by
  unfold kR
  rw [scaled, split_heads, ← actR_apply]
  refine congrArg (· * Ideal.ofBits .f32 0x3DB504F3#32) ?_
  pointwise
  exact congrArg _ (congrArg (ix3 b r) (Fin.ext (by show 512 + (128 * h.val + j.val) = 512 + 128 * h.val + j.val; omega)))

theorem vR_apply (b : Fin 4) (r : Fin 8192) (h : Fin 4) (j : Fin 128) :
    vR X (ix4 b r h j) = X (ix3 b r ⟨1024 + 128 * h.val + j.val, by omega⟩) := by
  refine (split_heads _ b r h j).trans ?_
  pointwise
  exact congrArg _ (congrArg (ix3 b r) (Fin.ext (by show 1024 + (128 * h.val + j.val) = 1024 + 128 * h.val + j.val; omega)))

theorem igR_apply (d : Fin 2) (b : Fin 4) (r : Fin 8192) (h : Fin 4) : igR G (ix4 d b r h) = G (ix4 d b r ⟨h.val, by omega⟩) := by
  pointwise [igR]

theorem exp_nonneg (x : EReal) : 0 ≤ Ideal.exp x := by
  induction x with
  | bot => exact le_refl _
  | top => exact le_top
  | coe r => exact EReal.coe_nonneg.2 (Real.exp_pos r).le

theorem log1p_ne_bot (x : EReal) (h : 0 ≤ x) : Ideal.log1p x ≠ ⊥ := by
  unfold Ideal.log1p
  induction x with
  | bot => simp at h
  | top =>
    have e : (1 : EReal) + ⊤ = ⊤ := EReal.add_top_of_ne_bot (EReal.coe_ne_bot 1)
    rw [e]
    show (⊤ : EReal) ≠ ⊥
    simp
  | coe r =>
    have h' : 0 ≤ r := EReal.coe_nonneg.1 h
    show (if 1 + r ≤ 0 then (⊥ : EReal) else (Real.log (1 + r) : EReal)) ≠ ⊥
    rw [if_neg (by linarith)]
    exact EReal.coe_ne_bot _

theorem neg_max_zero (x : EReal) : -max (-x) 0 = min x 0 := by
  rcases le_total x 0 with h | h
  · rw [max_eq_left (by simpa using h), min_eq_left h, neg_neg]
  · rw [max_eq_right (by simpa using h), min_eq_right h, neg_zero]

/-- Minus the softplus of minus `x` is the logarithm of the logistic function, at the infinities too. -/
theorem logsig_eq (x : EReal) : -(max (-x) 0 + Ideal.log1p (Ideal.exp (-max (-x) (- -x)))) = Model.logsig x := by
  unfold Model.logsig
  rw [neg_neg, max_comm (-x) x, zero_sub, ← neg_max_zero]
  have hne : max (-x) 0 ≠ ⊥ := fun h => by
    have := le_max_right (-x) (0 : EReal)
    rw [h] at this
    simp at this
  exact EReal.neg_add (Or.inl hne) (Or.inr (log1p_ne_bot _ (exp_nonneg _)))

theorem logsigR_apply (x : FVec Ideal S2x4x8192x4 .f32) (d : Fin 2) (b : Fin 4) (r : Fin 8192) (h : Fin 4) :
    logsigR x (ix4 d b r h) = Model.logsig (x (ix4 d b r h)) := by
  rw [← logsig_eq]
  pointwise [logsigR, zeroR]
  rw [if_neg (by simp)]
  rfl

theorem lfR_apply (d : Fin 2) (b : Fin 4) (r : Fin 8192) (h : Fin 4) : lfR G (ix4 d b r h) = Model.logsig (G (ix4 d b r ⟨4 + h.val, by omega⟩)) := by
  unfold lfR
  rw [logsigR_apply]
  refine congrArg Model.logsig ?_
  pointwise

theorem earlierR_apply (t s : Fin 128) : earlierR (ix2 t s) = if s.val ≤ t.val then 1#1 else 0#1 := by
  have e : ∀ t s : Fin 128, Scalar.select (IntOp.cmpi CmpIPredicate.sge (IntOp.addi (BitVec.ofNat 32 t.val) 0#32) (BitVec.ofNat 32 s.val)) 1#1 0#1
      = if s.val ≤ t.val then 1#1 else 0#1 := by decide +kernel
  rw [← e]
  pointwise [earlierR]

theorem both_div (d : Fin 2) (b : Fin 4) : (⟨(both d b).val / 4, by omega⟩ : Fin 2) = d := Fin.ext (by show (d.val * 4 + b.val) / 4 = d.val; omega)
theorem both_mod (d : Fin 2) (b : Fin 4) : (⟨(both d b).val % 4, by omega⟩ : Fin 4) = b := Fin.ext (by show (d.val * 4 + b.val) % 4 = b.val; omega)

theorem memR_apply (d : Fin 2) (b h : Fin 4) (e j : Fin 128) :
    shapeCast S8x4x128x128 C shapeCasts_S2x4x4x128x128_S8x4x128x128 (ix4 (both d b) h e j) = C (ix5 d b h e j) := by
  pointwise
  exact congrArg₂ (fun u v => C (ix5 u v h e j)) (both_div d b) (both_mod d b)
theorem vecR_apply (d : Fin 2) (b h : Fin 4) (j : Fin 128) :
    shapeCast S8x4x128 N shapeCasts_S2x4x4x1x128_S8x4x128 (ix3 (both d b) h j) = N (ix5 d b h 0 j) := by
  pointwise
  exact congrArg₂ (fun u v => N (ix5 u v h 0 j)) (both_div d b) (both_mod d b)
theorem stabR_apply (d : Fin 2) (b h : Fin 4) :
    shapeCast S8x4 (shapeCast S2x4x4 (extractStridedSlice S2x4x4x1x1 ![0, 0, 0, 0, 0] M slices_S2x4x4x1x128_S2x4x4x1x1_0_0_0_0_0)
      shapeCasts_S2x4x4x1x1_S2x4x4) shapeCasts_S2x4x4_S8x4 (ix2 (both d b) h) = M (ix5 d b h 0 0) := by
  pointwise
  exact congrArg₂ (fun u v => M (ix5 u v h 0 0)) (both_div d b) (both_mod d b)

end Cert.RefScan
-- ==== Proof.RefEntryAct.lean ====
module
public import proofs.«01_k».proof.Proof.RefInputs
@[expose] public section
set_option maxRecDepth 16384
noncomputable section

/-! # What the reference's scan starts from: queries and keys -/

namespace Cert.RefScan
open Cert.ReferenceIdeal Cert.ReferenceIdeal.Gen Cert.ReferenceIdeal.Value Idealize.ShloMosaic Idealize.ShloMosaic.TcCoe
open Idealize.ShloMosaic.StableHlo Idealize.ShloMosaic.Tactic

variable (m : (ℓ : Loc nD τ sig) → Buf (Elt Ideal) ℓ) (V : Valuation τ sig (Elt Ideal))

/-- The padded projections, where the convolution reads them. -/
theorem at_pad : after hostOps0_1 (after hostOps0 V) (Proc.devRef .tc main_v1) = padR (V (Proc.devRef .tc main_arg0)) := by
  after_reads_simp
  rfl

/-- The convolution, from the padded projections and the weights. -/
theorem at_conv (P : FVec Ideal S4x8194x1024 .f32) (W : FVec Ideal S3x1024 .f32) (hP : V (Proc.devRef .tc main_v1) = P)
    (hW : V (Proc.devRef .tc main_arg2) = W) : after hostOps0_2 V (Proc.devRef .tc main_v21) = addf (addf
    (mulf (extractStridedSlice S4x8192x1024 ![0, 0, 0] P slices_S4x8194x1024_S4x8192x1024_0_0_0) (rowR (extractStridedSlice S1x1024 ![0, 0] W slices_S3x1024_S1x1024_0_0)))
    (mulf (extractStridedSlice S4x8192x1024 ![0, 1, 0] P slices_S4x8194x1024_S4x8192x1024_0_1_0) (rowR (extractStridedSlice S1x1024 ![1, 0] W slices_S3x1024_S1x1024_1_0))))
    (mulf (extractStridedSlice S4x8192x1024 ![0, 2, 0] P slices_S4x8194x1024_S4x8192x1024_0_2_0) (rowR (extractStridedSlice S1x1024 ![2, 0] W slices_S3x1024_S1x1024_2_0))) := by
  subst hP hW
  after_reads_simp
  rfl

/-- The activation, from the convolution. -/
theorem at_silu : after hostOps0_3 V (Proc.devRef .tc main_v22) = siluR (V (Proc.devRef .tc main_v21)) := by
  after_reads_simp
  rfl

/-- The activation, from the arguments. -/
theorem at_act : after hostOps0_3 (after hostOps0_2 (after hostOps0_1 (after hostOps0 V))) (Proc.devRef .tc main_v22) =
    actR (V (Proc.devRef .tc main_arg0)) (V (Proc.devRef .tc main_arg2)) := by
  rw [at_silu, at_conv _ _ (V (Proc.devRef .tc main_arg2)) (at_pad V) (by after_reads_simp)]
  rfl

/-- The rest of the way to the queries. -/
theorem at_q : after hostOps0_18 (after hostOps0_17 (after hostOps0_16 (after hostOps0_15 (after hostOps0_14 (after hostOps0_13
    (after hostOps0_12 (after hostOps0_11 (after hostOps0_10 (after hostOps0_9 (after hostOps0_8 (after hostOps0_7 (after hostOps0_6
    (after hostOps0_5 (after hostOps0_4 V)))))))))))))) (Proc.devRef .tc main_v71_0) =
    stackR (shapeCast S4x8192x4x128 (extractStridedSlice S4x8192x512 ![0, 0, 0] (V (Proc.devRef .tc main_v22) : FVec Ideal S4x8192x1024 .f32)
      slices_S4x8192x1024_S4x8192x512_0_0_0) shapeCasts_S4x8192x512_S4x8192x4x128) := by
  after_reads_simp
  rfl

/-- The rest of the way to the keys. -/
theorem at_k : after hostOps0_18 (after hostOps0_17 (after hostOps0_16 (after hostOps0_15 (after hostOps0_14 (after hostOps0_13
    (after hostOps0_12 (after hostOps0_11 (after hostOps0_10 (after hostOps0_9 (after hostOps0_8 (after hostOps0_7 (after hostOps0_6
    (after hostOps0_5 (after hostOps0_4 V)))))))))))))) (Proc.devRef .tc main_v71_1) =
    stackR (mulf (shapeCast S4x8192x4x128 (extractStridedSlice S4x8192x512 ![0, 0, 512] (V (Proc.devRef .tc main_v22) : FVec Ideal S4x8192x1024 .f32)
      slices_S4x8192x1024_S4x8192x512_0_0_512) shapeCasts_S4x8192x512_S4x8192x4x128)
      (broadcastInDim S4x8192x4x128 ![] bcast_S_S4x8192x4x128 (constant S_ .f32 0x3DB504F3#32))) := by
  after_reads_simp
  rfl

theorem entry_0 (c : Dev nD) : entryContents preI m c (Proc.devRef .tc main_v71_0) = stackR (qR (argX m c) (argW m c)) := by
  simp only [entryContents, afterL_cons, afterL_nil]
  rw [at_q, at_act]
  rfl
theorem entry_1 (c : Dev nD) : entryContents preI m c (Proc.devRef .tc main_v71_1) = stackR (kR (argX m c) (argW m c)) := by
  simp only [entryContents, afterL_cons, afterL_nil]
  rw [at_k, at_act]
  rfl

end Cert.RefScan
-- ==== Proof.RefEntry.lean ====
module
public import proofs.«01_k».proof.Proof.RefInputs
@[expose] public section
set_option maxRecDepth 16384
noncomputable section

/-! # What the reference's scan starts from: values, gates and the state -/

namespace Cert.RefScan
open Cert.ReferenceIdeal Cert.ReferenceIdeal.Gen Cert.ReferenceIdeal.Value Idealize.ShloMosaic Idealize.ShloMosaic.TcCoe
open Idealize.ShloMosaic.StableHlo Idealize.ShloMosaic.Tactic

variable (m : (ℓ : Loc nD τ sig) → Buf (Elt Ideal) ℓ)

set_option maxHeartbeats 2000000
theorem entry_2 (c : Dev nD) : entryContents preI m c (Proc.devRef .tc main_v71_2) = stackR (vR (argX m c)) := by
  simp only [entryContents, afterL_cons, afterL_nil]
  after_reads_simp
  rfl
theorem entry_3 (c : Dev nD) : entryContents preI m c (Proc.devRef .tc main_v71_3) = stackG (igR (argG m c)) := by
  simp only [entryContents, afterL_cons, afterL_nil]
  after_reads_simp
  rfl
theorem entry_4 (c : Dev nD) : entryContents preI m c (Proc.devRef .tc main_v71_4) = stackG (lfR (argG m c)) := by
  simp only [entryContents, afterL_cons, afterL_nil]
  after_reads_simp
  rfl
theorem entry_5 (c : Dev nD) : entryContents preI m c (Proc.devRef .tc main_v71_5) = earlierR := by
  simp only [entryContents, afterL_cons, afterL_nil]
  after_reads_simp
  rfl
theorem entry_7 (c : Dev nD) : entryContents preI m c (Proc.devRef .tc main_v71_7) = shapeCast S8x4x128x128 (argC m c) shapeCasts_S2x4x4x128x128_S8x4x128x128 := by
  simp only [entryContents, afterL_cons, afterL_nil]
  after_reads_simp
  rfl
theorem entry_8 (c : Dev nD) : entryContents preI m c (Proc.devRef .tc main_v71_8) = shapeCast S8x4x128 (argN m c) shapeCasts_S2x4x4x1x128_S8x4x128 := by
  simp only [entryContents, afterL_cons, afterL_nil]
  after_reads_simp
  rfl
theorem entry_9 (c : Dev nD) : entryContents preI m c (Proc.devRef .tc main_v71_9) =
    shapeCast S8x4 (shapeCast S2x4x4 (extractStridedSlice S2x4x4x1x1 ![0, 0, 0, 0, 0] (argM m c) slices_S2x4x4x1x128_S2x4x4x1x1_0_0_0_0_0) shapeCasts_S2x4x4x1x1_S2x4x4) shapeCasts_S2x4x4_S8x4 := by
  simp only [entryContents, afterL_cons, afterL_nil]
  after_reads_simp
  rfl

end Cert.RefScan
-- ==== Proof.RefFinal.lean ====
module
public import proofs.«01_k».proof.Proof.RefTrip
public import proofs.«01_k».proof.Proof.RefRead
public import proofs.«01_k».proof.Proof.RefEntryAct
public import proofs.«01_k».proof.Proof.RefEntry
@[expose] public section
set_option maxRecDepth 16384
noncomputable section

/-! # The reference's results

After `k` trips the reference's scan carries the model's states before chunk `k` and has written the model's outputs of
the chunks before `k`; its results are the model's. -/

namespace Cert.RefScan
open Cert.ReferenceIdeal Cert.ReferenceIdeal.Gen Cert.ReferenceIdeal.Value Idealize.ShloMosaic Idealize.ShloMosaic.TcCoe
open Idealize.ShloMosaic.StableHlo

/-- What holds of the carried arrays before trip `k`. -/
structure Inv (I : Model.Inputs) (k : ℕ) (V : Valuation τ sig (Elt Ideal)) : Prop where
  ctr : V (Proc.devRef .tc main_v71_6) = fun _ => Scf.iv 0#32 1#32 k
  chunk : ∀ (c : Fin 64) (d : Fin 2) (b h : Fin 4), tripChunk V c (both d b) h = Model.chunk I d b h c.val
  state : ∀ (d : Fin 2) (b h : Fin 4), tripState V (both d b) h = Model.state I d b h k
  out : ∀ c : Fin 64, c.val < k → ∀ (d : Fin 2) (b h : Fin 4) (t j : Fin 128),
    aH V (ix5 c (both d b) h t j) = Rec.out (Model.chunk I d b h c.val) (Model.state I d b h c.val) t j

theorem tripChunk_STEP (V : Valuation τ sig (Elt Ideal)) (c : Fin 64) (B : Fin 8) (h : Fin 4) : tripChunk (STEP V) c B h = tripChunk V c B h := by
  have e4 : aF (STEP V) = aF V := STEP_main_v71_4 V
  refine Rec.Chunk.ext ?_ ?_ ?_ ?_ ?_ ?_ ?_
  · exact congrArg (fun (a : IVec S128x128 1) t s => a (ix2 t s)) (STEP_main_v71_5 V)
  · show Model.running (fun s => aF (STEP V) (ix4 c B h s)) = _
    rw [e4]; rfl
  · show Model.running (fun s => aF (STEP V) (ix4 c B h s)) 127 = _
    rw [e4]; rfl
  · exact congrArg (fun (a : FVec Ideal S64x8x4x128x128 .f32) t j => a (ix5 c B h t j)) (STEP_main_v71_0 V)
  · exact congrArg (fun (a : FVec Ideal S64x8x4x128x128 .f32) t j => a (ix5 c B h t j)) (STEP_main_v71_1 V)
  · exact congrArg (fun (a : FVec Ideal S64x8x4x128x128 .f32) t j => a (ix5 c B h t j)) (STEP_main_v71_2 V)
  · exact congrArg (fun (a : FVec Ideal S64x8x4x128 .f32) t => a (ix4 c B h t)) (STEP_main_v71_3 V)

theorem Inv.step {I : Model.Inputs} {k : ℕ} {V : Valuation τ sig (Elt Ideal)} (hk : k < 64) (H : Inv I k V) : Inv I (k + 1) (STEP V) where
  ctr := by
    rw [STEP_main_v71_6]
    unfold step_main_v71_6
    rw [H.ctr, Scf.iv_succ]
    rfl
  chunk := fun c d b h => (tripChunk_STEP V c (both d b) h).trans (H.chunk c d b h)
  state := fun d b h => by
    have e : Rec.next (tripChunk V ⟨k, hk⟩ (both d b) h) (tripState V (both d b) h) = Model.state I d b h (k + 1) := by
      rw [H.chunk, H.state]; rfl
    rw [← e]
    refine Rec.State.ext ?_ ?_ ?_
    · funext e j
      exact (congrFun (STEP_main_v71_7 V) (ix4 (both d b) h e j)).trans (step_C V ⟨k, hk⟩ H.ctr (both d b) h e j)
    · funext j
      exact (congrFun (STEP_main_v71_8 V) (ix3 (both d b) h j)).trans (step_n V ⟨k, hk⟩ H.ctr (both d b) h j)
    · exact (congrFun (STEP_main_v71_9 V) (ix2 (both d b) h)).trans (step_m V ⟨k, hk⟩ H.ctr (both d b) h)
  out := fun c hc d b h t j => by
    refine (congrFun (STEP_main_v71_10 V) (ix5 c (both d b) h t j)).trans ?_
    rw [step_H V ⟨k, hk⟩ H.ctr c (both d b) h t j]
    by_cases e : c = ⟨k, hk⟩
    · rw [if_pos e, H.chunk, H.state, e]
    · rw [if_neg e]
      exact H.out c (by have : c.val ≠ k := fun h => e (Fin.ext h); omega) d b h t j

theorem Inv.iterate {I : Model.Inputs} {V : Valuation τ sig (Elt Ideal)} (H : Inv I 0 V) : ∀ k, k ≤ 64 → Inv I k (STEP^[k] V)
  | 0, _ => H
  | k + 1, hk => by
    rw [Function.iterate_succ_apply']
    exact (Inv.iterate H k (by omega)).step (by omega)

/-- The carried arrays before the first trip, from what they hold entry by entry. -/
theorem Inv.start {I : Model.Inputs} {V : Valuation τ sig (Elt Ideal)}
    (hctr : V (Proc.devRef .tc main_v71_6) = fun _ => (0#32 : BitVec 32))
    (hE : ∀ t s : Fin 128, aE V (ix2 t s) = if s.val ≤ t.val then 1#1 else 0#1)
    (hF : ∀ (k : Fin 64) (d : Fin 2) (b h : Fin 4) (t : Fin 128), aF V (ix4 k (both d b) h t) = Model.lf I d b h (128 * k.val + t.val))
    (hQ : ∀ (k : Fin 64) (d : Fin 2) (b h : Fin 4) (t j : Fin 128), aQ V (ix5 k (both d b) h t j) =
      Model.act I b (Model.row d (128 * k.val + t.val)) ⟨128 * h.val + j.val, by omega⟩)
    (hK : ∀ (k : Fin 64) (d : Fin 2) (b h : Fin 4) (t j : Fin 128), aK V (ix5 k (both d b) h t j) =
      Model.act I b (Model.row d (128 * k.val + t.val)) ⟨512 + 128 * h.val + j.val, by omega⟩ * Ideal.ofBits .f32 0x3DB504F3#32)
    (hV : ∀ (k : Fin 64) (d : Fin 2) (b h : Fin 4) (t j : Fin 128), aV V (ix5 k (both d b) h t j) =
      I.X b (Model.row d (128 * k.val + t.val)) ⟨1024 + 128 * h.val + j.val, by omega⟩)
    (hI : ∀ (k : Fin 64) (d : Fin 2) (b h : Fin 4) (t : Fin 128), aI V (ix4 k (both d b) h t) =
      I.G d b (Model.row d (128 * k.val + t.val)) ⟨h.val, by omega⟩)
    (hC : ∀ (d : Fin 2) (b h : Fin 4) (e j : Fin 128), aC V (ix4 (both d b) h e j) = I.C0 d b h e j)
    (hN : ∀ (d : Fin 2) (b h : Fin 4) (j : Fin 128), aN V (ix3 (both d b) h j) = I.n0 d b h j)
    (hM : ∀ (d : Fin 2) (b h : Fin 4), aM V (ix2 (both d b) h) = I.m0 d b h 0) : Inv I 0 V where
  ctr := hctr.trans (by rw [Scf.iv_zero])
  chunk := fun k d b h => by
    have eF : (fun s => aF V (ix4 k (both d b) h s)) = fun s : Fin 128 => Model.lf I d b h (128 * k.val + s.val) := funext (hF k d b h)
    unfold tripChunk Model.chunk
    rw [eF]
    congr 1
    · funext t s; exact hE t s
    · funext t j; exact hQ k d b h t j
    · funext t j; exact hK k d b h t j
    · funext t j; exact hV k d b h t j
    · funext t; exact hI k d b h t
  state := fun d b h => by
    unfold tripState Model.state
    congr 1
    · funext e j; exact hC d b h e j
    · funext j; exact hN d b h j
    · exact hM d b h
  out := fun k hk => absurd hk (by omega)

variable (m : (ℓ : Loc nD τ sig) → Buf (Elt Ideal) ℓ) (c : Dev nD)

/-- The reference's arguments, entry by entry. -/
abbrev argI : Model.Inputs := inputs (argX m c) (argG m c) (argW m c) (argC m c) (argN m c) (argM m c)

variable (k : Fin 64) (d : Fin 2) (b h : Fin 4) (t j : Fin 128)

theorem entry_q : aQ (entryContents preI m c) (ix5 k (both d b) h t j) =
    Model.act (argI m c) b (Model.row d (128 * k.val + t.val)) ⟨128 * h.val + j.val, by omega⟩ := by
  refine (congrFun (entry_0 m c) (ix5 k (both d b) h t j)).trans ?_
  rw [stackR_apply]
  exact qR_apply (argX m c) (argG m c) (argW m c) (argC m c) (argN m c) (argM m c) b (Model.row d (128 * k.val + t.val)) h j
theorem entry_k : aK (entryContents preI m c) (ix5 k (both d b) h t j) =
    Model.act (argI m c) b (Model.row d (128 * k.val + t.val)) ⟨512 + 128 * h.val + j.val, by omega⟩ * Ideal.ofBits .f32 0x3DB504F3#32 := by
  refine (congrFun (entry_1 m c) (ix5 k (both d b) h t j)).trans ?_
  rw [stackR_apply]
  exact kR_apply (argX m c) (argG m c) (argW m c) (argC m c) (argN m c) (argM m c) b (Model.row d (128 * k.val + t.val)) h j
theorem entry_v : aV (entryContents preI m c) (ix5 k (both d b) h t j) =
    (argI m c).X b (Model.row d (128 * k.val + t.val)) ⟨1024 + 128 * h.val + j.val, by omega⟩ := by
  refine (congrFun (entry_2 m c) (ix5 k (both d b) h t j)).trans ?_
  rw [stackR_apply]
  exact vR_apply (argX m c) b (Model.row d (128 * k.val + t.val)) h j
theorem entry_i : aI (entryContents preI m c) (ix4 k (both d b) h t) =
    (argI m c).G d b (Model.row d (128 * k.val + t.val)) ⟨h.val, by omega⟩ := by
  refine (congrFun (entry_3 m c) (ix4 k (both d b) h t)).trans ?_
  rw [stackG_apply]
  exact igR_apply (argG m c) d b (Model.row d (128 * k.val + t.val)) h
theorem entry_f : aF (entryContents preI m c) (ix4 k (both d b) h t) = Model.lf (argI m c) d b h (128 * k.val + t.val) := by
  refine (congrFun (entry_4 m c) (ix4 k (both d b) h t)).trans ?_
  rw [stackG_apply]
  exact lfR_apply (argG m c) d b (Model.row d (128 * k.val + t.val)) h

omit k d b h t j in
theorem Inv.entry : Inv (argI m c) 0 (entryContents preI m c) :=
  Inv.start (ctr_entry m c) (fun t s => (congrFun (entry_5 m c) (ix2 t s)).trans (earlierR_apply t s)) (entry_f m c) (entry_q m c) (entry_k m c)
    (entry_v m c) (entry_i m c) (fun d b h e j => (congrFun (entry_7 m c) (ix4 (both d b) h e j)).trans (memR_apply (argC m c) d b h e j))
    (fun d b h j => (congrFun (entry_8 m c) (ix3 (both d b) h j)).trans (vecR_apply (argN m c) d b h j))
    (fun d b h => (congrFun (entry_9 m c) (ix2 (both d b) h)).trans (stabR_apply (argM m c) d b h))

/-- What the carried arrays hold after the scan. -/
theorem scanned : Inv (argI m c) 64 (STEP^[64] (entryContents preI m c)) := (Inv.entry m c).iterate 64 (le_refl _)

/-! ## The results, from what the scan leaves -/

theorem merge_heads (z : FVec Ideal S2x4x8192x4x128 .f32) (d : Fin 2) (b : Fin 4) (r : Fin 8192) (h : Fin 4) (j : Fin 128) :
    shapeCast S2x4x8192x512 z shapeCasts_S2x4x8192x4x128_S2x4x8192x512 (ix4 d b r ⟨128 * h.val + j.val, by omega⟩) = z (ix5 d b r h j) :=
  shapeCast_apply z shapeCasts_S2x4x8192x4x128_S2x4x8192x512 (ix4 d b r ⟨128 * h.val + j.val, by omega⟩) (ix5 d b r h j) (by
    rw [Shape.rowMajor_val_four, Shape.rowMajor_val_five]
    show (((d.val * 4 + b.val) * 8192 + r.val) * 4 + h.val) * 128 + j.val = ((d.val * 4 + b.val) * 8192 + r.val) * 512 + (128 * h.val + j.val)
    omega)

theorem parted (w : FVec Ideal S8x8192x4x128 .f32) (d : Fin 2) (b : Fin 4) (r : Fin 8192) (h : Fin 4) (j : Fin 128) :
    concatenate S2x4x8192x4x128 0 [⟨S1x4x8192x4x128, broadcastInDim S1x4x8192x4x128 ![1, 2, 3, 4] bcast_S4x8192x4x128_S1x4x8192x4x128_1_2_3_4
        (extractStridedSlice S4x8192x4x128 ![0, 0, 0, 0] w slices_S8x8192x4x128_S4x8192x4x128_0_0_0_0)⟩,
      ⟨S1x4x8192x4x128, broadcastInDim S1x4x8192x4x128 ![1, 2, 3, 4] bcast_S4x8192x4x128_S1x4x8192x4x128_1_2_3_4
        (Host.reverse [1] (extractStridedSlice S4x8192x4x128 ![4, 0, 0, 0] w slices_S8x8192x4x128_S4x8192x4x128_4_0_0_0))⟩]
      concatenates_S1x4x8192x4x128_S1x4x8192x4x128_S2x4x8192x4x128_d0 (ix5 d b r h j) = w (ix4 (both d b) (Model.row d r.val) h j) := by
  pointwise
  have hr := r.isLt
  match d with
  | 0 =>
    refine (dif_pos (show (0 : ℕ) < 1 by omega)).trans ?_
    refine congrArg w (congrArg₂ (fun u v => ix4 u v h j) (Fin.ext (by show b.val = 0 * 4 + b.val; omega)) (Fin.ext ?_))
    show r.val = if (0 : ℕ) = 0 then r.val % 8192 else 8191 - r.val % 8192
    rw [if_pos rfl]; omega
  | 1 =>
    refine (dif_neg (show ¬ (1 : ℕ) < 1 by omega)).trans ?_
    refine congrArg w (congrArg₂ (fun u v => ix4 u v h j) (Fin.ext (by show 4 + b.val = 1 * 4 + b.val; omega)) (Fin.ext ?_))
    show 8192 - (r.val + 1) = if (1 : ℕ) = 0 then r.val % 8192 else 8191 - r.val % 8192
    rw [if_neg (by decide)]; omega

theorem join_rows (u : FVec Ideal S8x64x128x4x128 .f32) (B : Fin 8) (p : Fin 8192) (h : Fin 4) (j : Fin 128) :
    shapeCast S8x8192x4x128 u shapeCasts_S8x64x128x4x128_S8x8192x4x128 (ix4 B p h j) =
      u (ix5 B ⟨p.val / 128, by omega⟩ ⟨p.val % 128, Nat.mod_lt _ (by decide)⟩ h j) :=
  shapeCast_apply u shapeCasts_S8x64x128x4x128_S8x8192x4x128 (ix4 B p h j) (ix5 B ⟨p.val / 128, by omega⟩ ⟨p.val % 128, Nat.mod_lt _ (by decide)⟩ h j) (by
    rw [Shape.rowMajor_val_four, Shape.rowMajor_val_five]
    show (((B.val * 64 + p.val / 128) * 128 + p.val % 128) * 4 + h.val) * 128 + j.val = ((B.val * 8192 + p.val) * 4 + h.val) * 128 + j.val
    omega)

theorem unstacked (y : FVec Ideal S64x8x4x128x128 .f32) (k : Fin 64) (B : Fin 8) (h : Fin 4) (t j : Fin 128) :
    transpose S8x64x128x4x128 [1, 0, 3, 2, 4] y transposes_S64x8x4x128x128_S8x64x128x4x128_1_0_3_2_4 (ix5 B k t h j) = y (ix5 k B h t j) :=
  congrArg y (ValueIdx.eq_ix5 _)

variable (V : Valuation τ sig (Elt Ideal))

theorem out_H (d : Fin 2) (b : Fin 4) (r : Fin 8192) (h : Fin 4) (j : Fin 128) :
    out_main_v80 V (ix4 d b r ⟨128 * h.val + j.val, by omega⟩) =
      aH V (ix5 ⟨(Model.row d r.val).val / 128, by omega⟩ (both d b) h ⟨(Model.row d r.val).val % 128, Nat.mod_lt _ (by decide)⟩ j) := by
  unfold out_main_v80
  refine (merge_heads _ d b r h j).trans ?_
  refine (parted _ d b r h j).trans ?_
  refine (join_rows _ (both d b) (Model.row d r.val) h j).trans ?_
  exact unstacked _ _ _ _ _ _

theorem out_C (d : Fin 2) (b h : Fin 4) (e j : Fin 128) : out_main_v83 V (ix5 d b h e j) = aC V (ix4 (both d b) h e j) := by
  unfold out_main_v83
  refine shapeCast_apply (aC V) shapeCasts_S8x4x128x128_S2x4x4x128x128 (ix5 d b h e j) (ix4 (both d b) h e j) ?_
  rw [Shape.rowMajor_val_four, Shape.rowMajor_val_five]
  rfl

theorem out_N (d : Fin 2) (b h : Fin 4) (j : Fin 128) : out_main_v84 V (ix5 d b h 0 j) = aN V (ix3 (both d b) h j) := by
  unfold out_main_v84
  refine shapeCast_apply (aN V) shapeCasts_S8x4x128_S2x4x4x1x128 (ix5 d b h 0 j) (ix3 (both d b) h j) ?_
  rw [Shape.rowMajor_val_three, Shape.rowMajor_val_five]
  show ((d.val * 4 + b.val) * 4 + h.val) * 128 + j.val = (((d.val * 4 + b.val) * 4 + h.val) * 1 + 0) * 128 + j.val
  omega

theorem spread (y : FVec Ideal S8x4 .f32) (d : Fin 2) (b h : Fin 4) (j : Fin 128) :
    broadcastInDim S2x4x4x1x128 ![0, 1, 2, 3, 4] bcast_S2x4x4x1x1_S2x4x4x1x128_0_1_2_3_4 (shapeCast S2x4x4x1x1 y shapeCasts_S8x4_S2x4x4x1x1) (ix5 d b h 0 j)
      = y (ix2 (both d b) h) := by
  pointwise
  rfl

theorem out_M (d : Fin 2) (b h : Fin 4) (j : Fin 128) : out_main_v82 V (ix5 d b h 0 j) = aM V (ix2 (both d b) h) := spread (aM V) d b h j

/-! ## The results are the model's -/

theorem final_H (d : Fin 2) (b : Fin 4) (r : Fin 8192) (h : Fin 4) (j : Fin 128) :
    out_main_v80 (STEP^[64] (entryContents preI m c)) (ix4 d b r ⟨128 * h.val + j.val, by omega⟩) = Model.result (argI m c) d b r h j :=
  (out_H _ d b r h j).trans ((scanned m c).out _ (by show (Model.row d r.val).val / 128 < 64; omega) d b h _ j)

theorem final_C (d : Fin 2) (b h : Fin 4) (e j : Fin 128) :
    out_main_v83 (STEP^[64] (entryContents preI m c)) (ix5 d b h e j) = (Model.state (argI m c) d b h 64).C e j :=
  (out_C _ d b h e j).trans (congrArg (fun S : Rec.State => S.C e j) ((scanned m c).state d b h))
theorem final_N (d : Fin 2) (b h : Fin 4) (j : Fin 128) :
    out_main_v84 (STEP^[64] (entryContents preI m c)) (ix5 d b h 0 j) = (Model.state (argI m c) d b h 64).n j :=
  (out_N _ d b h j).trans (congrArg (fun S : Rec.State => S.n j) ((scanned m c).state d b h))
theorem final_M (d : Fin 2) (b h : Fin 4) (j : Fin 128) :
    out_main_v82 (STEP^[64] (entryContents preI m c)) (ix5 d b h 0 j) = (Model.state (argI m c) d b h 64).m :=
  (out_M _ d b h j).trans (congrArg (fun S : Rec.State => S.m) ((scanned m c).state d b h))

end Cert.RefScan
-- ==== Proof.Layer.lean ====
module
public import Idealize.ShloMosaic.Lib.Pointwise
@[expose] public section
noncomputable section

/-! # One token of the layer, over the extended reals

What the layer does to one token outside the recurrence: the normalized and modulated input, the layer normalization of
one head, the gated branches and the residual sum. -/

namespace Cert.Layer
open Idealize.ShloMosaic

/-- A row of `n` entries. -/
abbrev Row (n : ℕ) := Fin n → EReal
/-- A table of `n` rows of `k` entries. -/
abbrev Tab (n k : ℕ) := Fin n → Fin k → EReal
/-- What is added to a mean square before its root is taken. -/
abbrev eps : EReal := Ideal.ofBits .f32 0x358637BD#32

/-- The token over the root of its mean square, times `g`, modulated by a scale and a shift. -/
def norm (x sh sc g : Row 1024) : Row 1024 := fun j =>
  x j * Ideal.rsqrt (Ideal.div (∑ k, x k * x k) (Ideal.ofBits .f32 0x44800000#32) + eps) * g j * (1 + sc j) + sh j
/-- A row times a table. -/
def lin {n k : ℕ} (x : Row n) (w : Tab n k) : Row k := fun j => ∑ i, x i * w i j

/-- The mean of the 128 entries of one head. -/
def mean (z : Row 128) : EReal := Ideal.div (∑ k, z k) (Ideal.ofBits .f32 0x43000000#32)
/-- One head, its mean taken off, over the root of its variance. -/
def ln (z : Row 128) : Row 128 := fun i =>
  (z i - mean z) * Ideal.rsqrt (mean (fun k => (z k - mean z) * (z k - mean z)) + eps)
/-- Head `a` of a row of four heads. -/
def head (h : Row 512) (a : Fin 4) : Row 128 := fun e => h ⟨128 * a.val + e.val, by omega⟩
/-- The four heads normalized one by one, scaled and gated. -/
def heads (h o g : Row 512) : Row 512 := fun i =>
  Ideal.logistic (o i) * (ln (head h ⟨i.val / 128, by omega⟩) ⟨i.val % 128, Nat.mod_lt _ (by decide)⟩ * g i)

/-- Branch `r` through its projection, times its gate. -/
def branch (h : Row 1024) (w : Tab 1024 3072) (b : Row 3072) (r : Fin 3) (y : Row 512) (p : Tab 512 1024) : Row 1024 := fun j =>
  Ideal.logistic (lin h w ⟨1024 * r.val + j.val, by omega⟩ + b ⟨1024 * r.val + j.val, by omega⟩) * lin y p j
/-- The token plus the gated output of the three branches. -/
def merge (x sh sc gt g : Row 1024) (hf hb o mg ys yf : Row 512) (w : Tab 1024 3072) (b : Row 3072) (p : Fin 3 → Tab 512 1024) (q : Tab 1024 1024) : Row 1024 := fun j =>
  x j + gt j * lin (fun i =>
    branch (norm x sh sc g) w b 0 (heads (fun e => hf e + hb e) o mg) (p 0) i + branch (norm x sh sc g) w b 1 ys (p 1) i + branch (norm x sh sc g) w b 2 yf (p 2) i) q j

/-- The smooth rectifier by its hyperbolic tangent. -/
def gelu (x : EReal) : EReal :=
  x * (Ideal.ofBits .f32 0x3F000000#32 * (1 + Ideal.tanh (Ideal.ofBits .f32 0x3F4C422A#32 * (x + Ideal.ofBits .f32 0x3D372713#32 * (x * x * x)))))
/-- The mean of a row of 512. -/
def mean512 (z : Row 512) : EReal := Ideal.div (∑ k, z k) (Ideal.ofBits .f32 0x44000000#32)
/-- A row, its mean taken off, over the root of its variance. -/
def ln512 (z : Row 512) : Row 512 := fun i =>
  (z i - mean512 z) * Ideal.rsqrt (mean512 (fun k => (z k - mean512 z) * (z k - mean512 z)) + eps)
/-- The spatial gate of a chunk of 128 tokens at place `i` of the chunk and channel `e` of group `q`, from the rows `u` and `v` of all its tokens. -/
def sgu (u v : Tab 128 512) (w : Tab 128 128) (b : Row 128) (q : Fin 4) (i e : Fin 128) : EReal :=
  gelu (u i ⟨q.val * 128 + e.val, by omega⟩) * ((∑ k, w i k * ln512 (fun j => gelu (v k j)) ⟨q.val * 128 + e.val, by omega⟩) + b i)

end Cert.Layer
-- ==== Proof.MergeBlock.lean ====
module
public import proofs.«01_k».proof.Proof.Layer
public import proofs.«01_k».proof.Proof.Gen.Kernel2Ideal.Frame
public import Idealize.ShloMosaic.Lib.Pipeline.ValueKit
@[expose] public section
set_option maxRecDepth 16384
noncomputable section

/-! # The merge on one block of 256 tokens -/

namespace Cert.Kernel2Ideal.Merge
open Cert.Kernel2Ideal Cert.Kernel2Ideal.Gen Idealize.ShloMosaic Idealize.ShloMosaic.TcCoe Idealize.SL.Sem
open Cert.Layer (Row Tab)

variable (x : FVec Ideal S1x256x1024 .f32) (sh sc gt : FVec Ideal S1x1x1024 .f32) (g : FVec Ideal S1x1024 .f32) (a0 a1 : FVec Ideal S1x1x256x512 .f32)
  (o : FVec Ideal S1x256x512 .f32) (mg : FVec Ideal S1x512 .f32) (ys yf : FVec Ideal S1x256x512 .f32) (w : FVec Ideal S1024x3072 .bf16) (wb : FVec Ideal S1x3072 .f32)
  (p : FVec Ideal S3x512x1024 .bf16) (q : FVec Ideal S1024x1024 .bf16) (r : Fin 256)

theorem hid_apply (j : Fin 1024) : k0_pay3 (F := Ideal) x g sh sc (ix2 r j) =
    Layer.norm (fun k => x (ix3 0 r k)) (fun k => sh (ix3 0 0 k)) (fun k => sc (ix3 0 0 k)) (fun k => g (ix2 0 k)) j := by
  pointwise [k0_pay3, k0_pay2, Layer.norm]
theorem hs_apply (i : Fin 512) : k0_pay4 (F := Ideal) a0 a1 (ix2 r i) = a0 (ix4 0 0 r i) + a1 (ix4 0 0 r i) := by
  pointwise [k0_pay4]
theorem head0 (e : Fin 128) : k0_pay7 (F := Ideal) (k0_pay5 a0 a1) (k0_pay6 a0 a1) (ix2 r e) =
    Layer.ln (Layer.head (fun i => k0_pay4 (F := Ideal) a0 a1 (ix2 r i)) 0) e := by
  pointwise [k0_pay7, k0_pay6, k0_pay5, Layer.ln, Layer.mean, Layer.head]
variable (h : FVec Ideal S256x512 .f32)
theorem head1 (e : Fin 128) : k0_pay8 (F := Ideal) h (ix2 r e) = Layer.ln (Layer.head (fun i => h (ix2 r i)) 1) e := by
  pointwise [k0_pay8, Layer.ln, Layer.mean, Layer.head]
theorem head2 (e : Fin 128) : (k0_pay9 (F := Ideal) h (ix2 r e) - k0_pay10 (F := Ideal) h (ix2 r 0)) * Ideal.rsqrt (k0_pay11 (F := Ideal) h (ix2 r 0) + Layer.eps) =
    Layer.ln (Layer.head (fun i => h (ix2 r i)) 2) e := by
  pointwise [k0_pay9, k0_pay10, k0_pay11, Layer.ln, Layer.mean, Layer.head]
theorem heads_apply (v : FVec Ideal S256x128 .f32) (hv : ∀ e, v (ix2 r e) = Layer.ln (Layer.head (fun i => h (ix2 r i)) 0) e) (i : Fin 512) :
    k0_pay12 (F := Ideal) h v (k0_pay8 h) (k0_pay9 h) (k0_pay10 h) (k0_pay11 h) mg o (ix2 r i) =
      Layer.heads (fun i => h (ix2 r i)) (fun i => o (ix3 0 r i)) (fun i => mg (ix2 0 i)) i := by
  pointwise [k0_pay12]
  unfold Layer.heads
  by_cases h1 : i.val < 128
  · have e1 : (⟨i.val / 128, by omega⟩ : Fin 4) = 0 := Fin.ext (by show i.val / 128 = 0; omega)
    have e2 : (⟨i.val % 128, Nat.mod_lt _ (by decide)⟩ : Fin 128) = ⟨i.val, h1⟩ := Fin.ext (by show i.val % 128 = i.val; omega)
    rw [dif_pos h1, e1, e2, hv]
  by_cases h2 : i.val - 128 < 128
  · have e1 : (⟨i.val / 128, by omega⟩ : Fin 4) = 1 := Fin.ext (by show i.val / 128 = 1; omega)
    have e2 : (⟨i.val % 128, Nat.mod_lt _ (by decide)⟩ : Fin 128) = ⟨i.val - 128, h2⟩ := Fin.ext (by show i.val % 128 = i.val - 128; omega)
    rw [dif_neg h1, dif_pos h2, e1, e2, head1]
  by_cases h3 : i.val - 128 - 128 < 128
  · have e1 : (⟨i.val / 128, by omega⟩ : Fin 4) = 2 := Fin.ext (by show i.val / 128 = 2; omega)
    have e2 : (⟨i.val % 128, Nat.mod_lt _ (by decide)⟩ : Fin 128) = ⟨i.val - 128 - 128, h3⟩ := Fin.ext (by show i.val % 128 = i.val - 128 - 128; omega)
    rw [dif_neg h1, dif_neg h2, dif_pos h3, e1, e2, head2]
  · have e1 : (⟨i.val / 128, by omega⟩ : Fin 4) = 3 := Fin.ext (by show i.val / 128 = 3; omega)
    have e2 : (⟨i.val % 128, Nat.mod_lt _ (by decide)⟩ : Fin 128) = ⟨i.val - 128 - 128 - 128, by omega⟩ := Fin.ext (by show i.val % 128 = i.val - 128 - 128 - 128; omega)
    rw [dif_neg h1, dif_neg h2, dif_neg h3, e1, e2]
    rfl
theorem mix_apply (v25 : FVec Ideal S256x1024 .bf16) (y0 y1 y2 : FVec Ideal S256x512 .f32) (j : Fin 1024) :
    k0_pay16 (F := Ideal) v25 y0 y1 y2 (k0_pay15 (View.ld w r0_6)) (constant S256x1024 .f32 0x00000000#32) (View.ld wb r0_7) (View.ld p r0_8) (View.ld w r0_9) (View.ld wb r0_10) (View.ld p r0_11) (View.ld w r0_12) (View.ld wb r0_13) (View.ld p r0_14) (ix2 r j) =
    Layer.branch (fun k => v25 (ix2 r k)) (fun k j => w (ix2 k j)) (fun j => wb (ix2 0 j)) 0 (fun k => y0 (ix2 r k)) (fun k j => p (ix3 0 k j)) j +
    Layer.branch (fun k => v25 (ix2 r k)) (fun k j => w (ix2 k j)) (fun j => wb (ix2 0 j)) 1 (fun k => y1 (ix2 r k)) (fun k j => p (ix3 1 k j)) j +
    Layer.branch (fun k => v25 (ix2 r k)) (fun k j => w (ix2 k j)) (fun j => wb (ix2 0 j)) 2 (fun k => y2 (ix2 r k)) (fun k j => p (ix3 2 k j)) j := by
  have e0 : ∀ j : Fin 1024, (⟨1024 * (0 : Fin 3).val + j.val, by omega⟩ : Fin 3072) = ⟨j.val, by omega⟩ := fun j => Fin.ext (by show 1024 * 0 + j.val = j.val; omega)
  pointwise [k0_pay16, k0_pay15, Layer.branch, Layer.lin, e0]
theorem fin_apply (z : FVec Ideal S256x1024 .f32) (j : Fin 1024) : k0_pay1 (F := Ideal) (k0_pay2 x) z gt q (ix3 0 r j) =
    x (ix3 0 r j) + gt (ix3 0 0 j) * Layer.lin (fun k => z (ix2 r k)) (fun k j => q (ix2 k j)) j := by
  pointwise [k0_pay1, k0_pay2, Layer.lin]

theorem ys_apply (j : Fin 512) : k0_pay13 (F := Ideal) ys (ix2 r j) = ys (ix3 0 r j) := by pointwise [k0_pay13]
theorem yf_apply (j : Fin 512) : k0_pay14 (F := Ideal) yf (ix2 r j) = yf (ix3 0 r j) := by pointwise [k0_pay14]

/-- What the body leaves of token `r` of its block. -/
theorem body (j : Fin 1024) : out0_15 (F := Ideal) x sh sc gt g a0 a1 o mg ys yf w wb p q (ix3 0 r j) =
    Layer.merge (fun k => x (ix3 0 r k)) (fun k => sh (ix3 0 0 k)) (fun k => sc (ix3 0 0 k)) (fun k => gt (ix3 0 0 k)) (fun k => g (ix2 0 k))
      (fun i => a0 (ix4 0 0 r i)) (fun i => a1 (ix4 0 0 r i)) (fun i => o (ix3 0 r i)) (fun i => mg (ix2 0 i))
      (fun i => ys (ix3 0 r i)) (fun i => yf (ix3 0 r i)) (fun k j => w (ix2 k j)) (fun j => wb (ix2 0 j)) (fun s k j => p (ix3 s k j)) (fun k j => q (ix2 k j)) j := by
  unfold_out out0_15
  frame_out
  rw [fin_apply]
  simp only [mix_apply, hid_apply, heads_apply _ _ _ _ _ (head0 a0 a1 r), hs_apply, ys_apply, yf_apply]
  rfl
end Cert.Kernel2Ideal.Merge
-- ==== Proof.MergeRef.lean ====
module
public import proofs.«01_k».proof.Proof.Layer
public import proofs.«01_k».proof.Proof.Gen.Reference2Ideal.Run
@[expose] public section
set_option maxRecDepth 16384
noncomputable section

/-! # The merge's reference, entry by entry -/

namespace Cert.Reference2Ideal.Merge
open Cert.Reference2Ideal Cert.Reference2Ideal.Gen Idealize.ShloMosaic Idealize.ShloMosaic.TcCoe Idealize.SL.Sem
open Cert.Layer (Row Tab)

/-- The normalized and modulated input. -/
def hid (x : FVec Ideal S4x8192x1024 .f32) (sh sc : FVec Ideal S4x1x1024 .f32) (g : FVec Ideal S1x1024 .f32) : FVec Ideal S4x8192x1024 .f32 :=
  addf (mulf (mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![1, 2] bcast_S1x1024_S1x1x1024_1_2 g))) (broadcastInDim S4x8192x1024 ![0, 1, 2] bcast_S4x1x1024_S4x8192x1024_0_1_2 (addf (broadcastInDim S4x1x1024 ![] bcast_S_S4x1x1024 (constant S_ .f32 0x3F800000#32)) sc))) (broadcastInDim S4x8192x1024 ![0, 1, 2] bcast_S4x1x1024_S4x8192x1024_0_1_2 sh)
/-- The sum of the two directions' outputs, as heads. -/
def hs (a : FVec Ideal S2x4x8192x512 .f32) : FVec Ideal S4x8192x4x128 .f32 :=
  shapeCast _ (addf (shapeCast _ (extractStridedSlice S1x4x8192x512 ![0, 0, 0, 0] a slices_S2x4x8192x512_S1x4x8192x512_0_0_0_0) shapeCasts_S1x4x8192x512_S4x8192x512) (shapeCast _ (extractStridedSlice S1x4x8192x512 ![1, 0, 0, 0] a slices_S2x4x8192x512_S1x4x8192x512_1_0_0_0) shapeCasts_S1x4x8192x512_S4x8192x512)) shapeCasts_S4x8192x512_S4x8192x4x128
/-- The heads' means. -/
def mean (z : FVec Ideal S4x8192x4x128 .f32) : FVec Ideal S4x8192x4x1 .f32 :=
  Host.divf (broadcastInDim S4x8192x4x1 ![0, 1, 2] bcast_S4x8192x4_S4x8192x4x1_0_1_2 (Host.reduceAdd z (constant S_ .f32 0x00000000#32) reducesTo_S4x8192x4x128_S4x8192x4_d3 h_S_)) (broadcastInDim S4x8192x4x1 ![] bcast_S_S4x8192x4x1 (constant S_ .f32 0x43000000#32))
/-- The heads less their means. -/
def cen (z : FVec Ideal S4x8192x4x128 .f32) : FVec Ideal S4x8192x4x128 .f32 :=
  subf z (broadcastInDim S4x8192x4x128 ![0, 1, 2, 3] bcast_S4x8192x4x1_S4x8192x4x128_0_1_2_3 (mean z))
/-- The heads' layer normalization, scaled. -/
def lnm (z : FVec Ideal S4x8192x4x128 .f32) (g : FVec Ideal S1x512 .f32) : FVec Ideal S4x8192x4x128 .f32 :=
  mulf (mulf (cen z) (broadcastInDim S4x8192x4x128 ![0, 1, 2, 3] bcast_S4x8192x4x1_S4x8192x4x128_0_1_2_3 (Host.rsqrt (addf (mean (mulf (cen z) (cen z))) (broadcastInDim S4x8192x4x1 ![] bcast_S_S4x8192x4x1 (constant S_ .f32 0x358637BD#32)))))) (broadcastInDim S4x8192x4x128 ![0, 1, 2, 3] bcast_S1x1x4x128_S4x8192x4x128_0_1_2_3 (broadcastInDim S1x1x4x128 ![2, 3] bcast_S4x128_S1x1x4x128_2_3 (shapeCast _ g shapeCasts_S1x512_S4x128)))
/-- The recurrence's branch. -/
def ym (z : FVec Ideal S4x8192x4x128 .f32) (a : FVec Ideal S4x8192x2048 .f32) : FVec Ideal S4x8192x512 .f32 :=
  mulf (Host.divf (broadcastInDim S4x8192x512 ![] bcast_S_S4x8192x512 (constant S_ .f32 0x3F800000#32)) (addf (broadcastInDim S4x8192x512 ![] bcast_S_S4x8192x512 (constant S_ .f32 0x3F800000#32)) (Host.exp (Host.negf (extractStridedSlice S4x8192x512 ![0, 0, 1536] a slices_S4x8192x2048_S4x8192x512_0_0_1536))))) (shapeCast _ z shapeCasts_S4x8192x4x128_S4x8192x512)
/-- The branches' gates, as one row. -/
def gates (h : FVec Ideal S4x8192x1024 .f32) (w : FVec Ideal S1024x3072 .f32) (b : FVec Ideal S1x3072 .f32) : FVec Ideal S4x8192x3072 .f32 :=
  Host.divf (broadcastInDim S4x8192x3072 ![] bcast_S_S4x8192x3072 (constant S_ .f32 0x3F800000#32)) (addf (broadcastInDim S4x8192x3072 ![] bcast_S_S4x8192x3072 (constant S_ .f32 0x3F800000#32)) (Host.exp (Host.negf (addf (Host.dotGeneral dot_S4x8192x1024_S1024x3072_S4x8192x3072_2_0_01_1_n_n none h w) (broadcastInDim S4x8192x3072 ![0, 1, 2] bcast_S1x1x3072_S4x8192x3072_0_1_2 (broadcastInDim S1x1x3072 ![1, 2] bcast_S1x3072_S1x1x3072_1_2 b))))))
/-- The branches' gates, one row for each branch. -/
def gates3 (G : FVec Ideal S4x8192x3072 .f32) : FVec Ideal S4x8192x3x1024 .f32 := shapeCast _ G shapeCasts_S4x8192x3072_S4x8192x3x1024
/-- Branch 0, projected and gated. -/
def br0 (G : FVec Ideal S4x8192x3x1024 .f32) (y : FVec Ideal S4x8192x512 .f32) (p : FVec Ideal S3x512x1024 .f32) : FVec Ideal S4x8192x1024 .f32 :=
  mulf (shapeCast _ (extractStridedSlice S4x8192x1x1024 ![0, 0, 0, 0] G slices_S4x8192x3x1024_S4x8192x1x1024_0_0_0_0) shapeCasts_S4x8192x1x1024_S4x8192x1024) (Host.dotGeneral dot_S4x8192x512_S512x1024_S4x8192x1024_2_0_01_1_n_n none y (shapeCast _ (extractStridedSlice S1x512x1024 ![0, 0, 0] p slices_S3x512x1024_S1x512x1024_0_0_0) shapeCasts_S1x512x1024_S512x1024))
/-- Branch 1, projected and gated. -/
def br1 (G : FVec Ideal S4x8192x3x1024 .f32) (y : FVec Ideal S4x8192x512 .f32) (p : FVec Ideal S3x512x1024 .f32) : FVec Ideal S4x8192x1024 .f32 :=
  mulf (shapeCast _ (extractStridedSlice S4x8192x1x1024 ![0, 0, 1, 0] G slices_S4x8192x3x1024_S4x8192x1x1024_0_0_1_0) shapeCasts_S4x8192x1x1024_S4x8192x1024) (Host.dotGeneral dot_S4x8192x512_S512x1024_S4x8192x1024_2_0_01_1_n_n none y (shapeCast _ (extractStridedSlice S1x512x1024 ![1, 0, 0] p slices_S3x512x1024_S1x512x1024_1_0_0) shapeCasts_S1x512x1024_S512x1024))
/-- Branch 2, projected and gated. -/
def br2 (G : FVec Ideal S4x8192x3x1024 .f32) (y : FVec Ideal S4x8192x512 .f32) (p : FVec Ideal S3x512x1024 .f32) : FVec Ideal S4x8192x1024 .f32 :=
  mulf (shapeCast _ (extractStridedSlice S4x8192x1x1024 ![0, 0, 2, 0] G slices_S4x8192x3x1024_S4x8192x1x1024_0_0_2_0) shapeCasts_S4x8192x1x1024_S4x8192x1024) (Host.dotGeneral dot_S4x8192x512_S512x1024_S4x8192x1024_2_0_01_1_n_n none y (shapeCast _ (extractStridedSlice S1x512x1024 ![2, 0, 0] p slices_S3x512x1024_S1x512x1024_2_0_0) shapeCasts_S1x512x1024_S512x1024))
/-- The branches summed, projected, gated and added to the input. -/
def fin (x : FVec Ideal S4x8192x1024 .f32) (gt : FVec Ideal S4x1x1024 .f32) (Y0 Y1 Y2 : FVec Ideal S4x8192x1024 .f32) (q : FVec Ideal S1024x1024 .f32) : FVec Ideal S4x8192x1024 .f32 :=
  addf x (mulf (broadcastInDim S4x8192x1024 ![0, 1, 2] bcast_S4x1x1024_S4x8192x1024_0_1_2 gt) (Host.dotGeneral dot_S4x8192x1024_S1024x1024_S4x8192x1024_2_0_01_1_n_n none (addf (addf Y0 Y1) Y2) q))

variable (x : FVec Ideal S4x8192x1024 .f32) (sh sc gt : FVec Ideal S4x1x1024 .f32) (g : FVec Ideal S1x1024 .f32) (a : FVec Ideal S2x4x8192x512 .f32)
  (qk : FVec Ideal S4x8192x2048 .f32) (mg : FVec Ideal S1x512 .f32) (ys yf : FVec Ideal S4x8192x512 .f32) (w : FVec Ideal S1024x3072 .f32) (wb : FVec Ideal S1x3072 .f32)
  (p : FVec Ideal S3x512x1024 .f32) (q : FVec Ideal S1024x1024 .f32) (b : Fin 4) (t : Fin 8192)

theorem hid_apply (j : Fin 1024) : hid x sh sc g (ix3 b t j) =
    Layer.norm (fun k => x (ix3 b t k)) (fun k => sh (ix3 b 0 k)) (fun k => sc (ix3 b 0 k)) (fun k => g (ix2 0 k)) j := by
  pointwise [hid, Layer.norm]
theorem hs_apply (k : Fin 4) (e : Fin 128) : hs a (ix4 b t k e) =
    Layer.head (fun i => a (ix4 0 b t i) + a (ix4 1 b t i)) k e := by
  refine (shapeCast_apply _ _ _ (ix3 b t ⟨128 * k.val + e.val, by omega⟩) ?_).trans ?_
  · rw [Shape.rowMajor_val_three, Shape.rowMajor_val_four]
    show (b.val * 8192 + t.val) * 512 + (128 * k.val + e.val) = ((b.val * 8192 + t.val) * 4 + k.val) * 128 + e.val
    omega
  · pointwise [Layer.head]
theorem mean_apply (z : FVec Ideal S4x8192x4x128 .f32) (k : Fin 4) : mean z (ix4 b t k 0) = Layer.mean (fun e => z (ix4 b t k e)) := by
  pointwise [mean, Layer.mean]
theorem cen_apply (z : FVec Ideal S4x8192x4x128 .f32) (k : Fin 4) (e : Fin 128) : cen z (ix4 b t k e) = z (ix4 b t k e) - Layer.mean (fun e => z (ix4 b t k e)) := by
  pointwise [cen, mean_apply]
theorem lnm_apply (z : FVec Ideal S4x8192x4x128 .f32) (k : Fin 4) (e : Fin 128) : lnm z mg (ix4 b t k e) =
    Layer.ln (fun e => z (ix4 b t k e)) e * mg (ix2 0 ⟨k.val * 128 + e.val, by omega⟩) := by
  pointwise [lnm, Layer.ln, mean_apply, cen_apply]
theorem ym_apply (z : FVec Ideal S4x8192x4x128 .f32) (i : Fin 512) : ym z qk (ix3 b t i) =
    Ideal.logistic (qk (ix3 b t ⟨1536 + i.val, by omega⟩)) * z (ix4 b t ⟨i.val / 128, by omega⟩ ⟨i.val % 128, Nat.mod_lt _ (by decide)⟩) := by
  pointwise [ym]
  rfl
theorem gates_apply (h : FVec Ideal S4x8192x1024 .f32) (j : Fin 3072) : gates h w wb (ix3 b t j) =
    Ideal.logistic (Layer.lin (fun k => h (ix3 b t k)) (fun k j => w (ix2 k j)) j + wb (ix2 0 j)) := by
  pointwise [gates, Layer.lin]
  rfl
theorem gates3_apply (G : FVec Ideal S4x8192x3072 .f32) (r : Fin 3) (j : Fin 1024) : gates3 G (ix4 b t r j) = G (ix3 b t ⟨1024 * r.val + j.val, by omega⟩) := by
  refine shapeCast_apply _ _ _ (ix3 b t ⟨1024 * r.val + j.val, by omega⟩) ?_
  rw [Shape.rowMajor_val_three, Shape.rowMajor_val_four]
  show (b.val * 8192 + t.val) * 3072 + (1024 * r.val + j.val) = ((b.val * 8192 + t.val) * 3 + r.val) * 1024 + j.val
  omega
theorem br0_apply (G : FVec Ideal S4x8192x3x1024 .f32) (y : FVec Ideal S4x8192x512 .f32) (j : Fin 1024) : br0 G y p (ix3 b t j) =
    G (ix4 b t 0 j) * Layer.lin (fun k => y (ix3 b t k)) (fun k j => p (ix3 0 k j)) j := by
  pointwise [br0, Layer.lin]
theorem br1_apply (G : FVec Ideal S4x8192x3x1024 .f32) (y : FVec Ideal S4x8192x512 .f32) (j : Fin 1024) : br1 G y p (ix3 b t j) =
    G (ix4 b t 1 j) * Layer.lin (fun k => y (ix3 b t k)) (fun k j => p (ix3 1 k j)) j := by
  pointwise [br1, Layer.lin]
theorem br2_apply (G : FVec Ideal S4x8192x3x1024 .f32) (y : FVec Ideal S4x8192x512 .f32) (j : Fin 1024) : br2 G y p (ix3 b t j) =
    G (ix4 b t 2 j) * Layer.lin (fun k => y (ix3 b t k)) (fun k j => p (ix3 2 k j)) j := by
  pointwise [br2, Layer.lin]
theorem fin_apply (Y0 Y1 Y2 : FVec Ideal S4x8192x1024 .f32) (j : Fin 1024) : fin x gt Y0 Y1 Y2 q (ix3 b t j) =
    x (ix3 b t j) + gt (ix3 b 0 j) * Layer.lin (fun i => Y0 (ix3 b t i) + Y1 (ix3 b t i) + Y2 (ix3 b t i)) (fun k j => q (ix2 k j)) j := by
  pointwise [fin, Layer.lin]

/-- The reference's result from its arguments. -/
def out : FVec Ideal S4x8192x1024 .f32 :=
  fin x gt (br0 (gates3 (gates (hid x sh sc g) w wb)) (ym (lnm (hs a) mg) qk) p) (br1 (gates3 (gates (hid x sh sc g) w wb)) ys p)
    (br2 (gates3 (gates (hid x sh sc g) w wb)) yf p) q

/-- The merge at one token and entry. -/
def ref (j : Fin 1024) : EReal :=
  Layer.merge (fun k => x (ix3 b t k)) (fun k => sh (ix3 b 0 k)) (fun k => sc (ix3 b 0 k)) (fun k => gt (ix3 b 0 k)) (fun k => g (ix2 0 k))
    (fun i => a (ix4 0 b t i)) (fun i => a (ix4 1 b t i)) (fun i => qk (ix3 b t ⟨1536 + i.val, by omega⟩)) (fun i => mg (ix2 0 i))
    (fun i => ys (ix3 b t i)) (fun i => yf (ix3 b t i)) (fun k j => w (ix2 k j)) (fun j => wb (ix2 0 j)) (fun r k j => p (ix3 r k j)) (fun k j => q (ix2 k j)) j

theorem out_apply (j : Fin 1024) : out x sh sc gt g a qk mg ys yf w wb p q (ix3 b t j) = ref x sh sc gt g a qk mg ys yf w wb p q b t j := by
  unfold out
  rw [fin_apply]
  simp only [br0_apply, br1_apply, br2_apply, gates3_apply, gates_apply, ym_apply, lnm_apply, hs_apply, hid_apply]
  have e : ∀ k : Fin 512, (⟨k.val / 128 * 128 + k.val % 128, by omega⟩ : Fin 512) = k := fun k => Fin.ext (Nat.div_add_mod' k.val 128)
  simp only [e]
  rfl
theorem res_eq (m : (ℓ : Loc nD τ sig) → Buf (Elt Ideal) ℓ) (c : Dev nD) : Value.res_main_v90 (F := Ideal) m c =
    out (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) := by
  unfold Value.res_main_v90
  rfl
end Cert.Reference2Ideal.Merge
-- ==== Proof.MergeArray.lean ====
module
public import proofs.«01_k».proof.Proof.MergeBlock
public import proofs.«01_k».proof.Proof.MergeRef
public import proofs.«01_k».proof.Proof.Gen.Kernel2Ideal.Value
@[expose] public section
set_option maxRecDepth 16384
noncomputable section

/-! # The array the merge leaves

The blocks a grid point reads, entry by entry, and the array all grid points leave: the reference's result. -/

namespace Cert.Kernel2Ideal.Merge
open Cert.Kernel2Ideal Cert.Kernel2Ideal.Gen Idealize.ShloMosaic Idealize.ShloMosaic.TcCoe Idealize.SL.Sem
open Idealize.ShloMosaic.Pipeline (Dat)

/-- The blocks' places at a grid point. -/
theorem idx : ∀ t : Fin cfg0.N,
    win0_0.index t = ![t.val / 32, t.val % 32, 0] ∧ win0_1.index t = ![t.val / 32, 0, 0] ∧ win0_2.index t = ![t.val / 32, 0, 0] ∧ win0_3.index t = ![t.val / 32, 0, 0] ∧
    win0_4.index t = ![0, 0] ∧ win0_5.index t = ![0, t.val / 32, t.val % 32, 0] ∧ win0_6.index t = ![1, t.val / 32, t.val % 32, 0] ∧
    win0_7.index t = ![t.val / 32, t.val % 32, 3] ∧ win0_8.index t = ![0, 0] ∧ win0_9.index t = ![t.val / 32, t.val % 32, 0] ∧ win0_10.index t = ![t.val / 32, t.val % 32, 0] ∧
    win0_11.index t = ![0, 0] ∧ win0_12.index t = ![0, 0] ∧ win0_13.index t = ![0, 0, 0] ∧ win0_14.index t = ![0, 0] ∧ win0_15.index t = ![t.val / 32, t.val % 32, 0] :=
  (by decide +kernel : ∀ t : Fin grid0.N, _)

variable (m : (ℓ : Loc nD τ sig) → Buf (Elt Ideal) ℓ) (c : Dev nD)

abbrev arg0 : FVec Ideal S4x8192x1024 .f32 := m (c, Proc.tc.devRef main_arg0)
abbrev arg1 : FVec Ideal S4x1x1024 .f32 := m (c, Proc.tc.devRef main_arg1)
abbrev arg2 : FVec Ideal S4x1x1024 .f32 := m (c, Proc.tc.devRef main_arg2)
abbrev arg3 : FVec Ideal S4x1x1024 .f32 := m (c, Proc.tc.devRef main_arg3)
abbrev arg4 : FVec Ideal S1x1024 .f32 := m (c, Proc.tc.devRef main_arg4)
abbrev arg5 : FVec Ideal S2x4x8192x512 .f32 := m (c, Proc.tc.devRef main_arg5)
abbrev arg6 : FVec Ideal S4x8192x2048 .f32 := m (c, Proc.tc.devRef main_arg6)
abbrev arg7 : FVec Ideal S1x512 .f32 := m (c, Proc.tc.devRef main_arg7)
abbrev arg8 : FVec Ideal S4x8192x512 .f32 := m (c, Proc.tc.devRef main_arg8)
abbrev arg9 : FVec Ideal S4x8192x512 .f32 := m (c, Proc.tc.devRef main_arg9)
abbrev arg10 : FVec Ideal S1024x3072 .f32 := m (c, Proc.tc.devRef main_arg10)
abbrev arg11 : FVec Ideal S1x3072 .f32 := m (c, Proc.tc.devRef main_arg11)
abbrev arg12 : FVec Ideal S3x512x1024 .f32 := m (c, Proc.tc.devRef main_arg12)
abbrev arg13 : FVec Ideal S1024x1024 .f32 := m (c, Proc.tc.devRef main_arg13)

theorem V_w (i : Fin 1024) (j : Fin 3072) : V m c main_v0 (ix2 i j) = arg10 m c (ix2 i j) := by
  entry_read
  pointwise
theorem V_p (s : Fin 3) (i : Fin 512) (j : Fin 1024) : V m c main_v1 (ix3 s i j) = arg12 m c (ix3 s i j) := by
  entry_read
  pointwise
theorem V_q (i : Fin 1024) (j : Fin 1024) : V m c main_v2 (ix2 i j) = arg13 m c (ix2 i j) := by
  entry_read
  pointwise

section
variable (t : Fin cfg0.N) (b : Fin 4) (hb : b.val = t.val / 32) (r : Fin 256) (R : Fin 8192) (hR : R.val = t.val % 32 * 256 + r.val)
theorem blk_g (j : Fin 1024) : iblk m c 4 t (ix2 0 j) = arg4 m c (ix2 0 j) := by
  rw [arg4, ← V_main_arg4 m c]; blk_ext [iblk, idx t]
theorem blk_mg (j : Fin 512) : iblk m c 8 t (ix2 0 j) = arg7 m c (ix2 0 j) := by
  rw [arg7, ← V_main_arg7 m c]; blk_ext [iblk, idx t]
theorem blk_w (i : Fin 1024) (j : Fin 3072) : iblk m c 11 t (ix2 i j) = arg10 m c (ix2 i j) := by
  rw [← V_w m c]; blk_ext [iblk, idx t]
theorem blk_wb (j : Fin 3072) : iblk m c 12 t (ix2 0 j) = arg11 m c (ix2 0 j) := by
  rw [arg11, ← V_main_arg11 m c]; blk_ext [iblk, idx t]
theorem blk_p (s : Fin 3) (i : Fin 512) (j : Fin 1024) : iblk m c 13 t (ix3 s i j) = arg12 m c (ix3 s i j) := by
  rw [← V_p m c]; blk_ext [iblk, idx t]
theorem blk_q (i : Fin 1024) (j : Fin 1024) : iblk m c 14 t (ix2 i j) = arg13 m c (ix2 i j) := by
  rw [← V_q m c]; blk_ext [iblk, idx t]
include hb
theorem blk_sh (j : Fin 1024) : iblk m c 1 t (ix3 0 0 j) = arg1 m c (ix3 b 0 j) := by
  rw [arg1, ← V_main_arg1 m c]; blk_ext [iblk, idx t, hb]
theorem blk_sc (j : Fin 1024) : iblk m c 2 t (ix3 0 0 j) = arg2 m c (ix3 b 0 j) := by
  rw [arg2, ← V_main_arg2 m c]; blk_ext [iblk, idx t, hb]
theorem blk_gt (j : Fin 1024) : iblk m c 3 t (ix3 0 0 j) = arg3 m c (ix3 b 0 j) := by
  rw [arg3, ← V_main_arg3 m c]; blk_ext [iblk, idx t, hb]
include hR
theorem blk_x (j : Fin 1024) : iblk m c 0 t (ix3 0 r j) = arg0 m c (ix3 b R j) := by
  rw [arg0, ← V_main_arg0 m c]; blk_ext [iblk, idx t, hb, hR]
theorem blk_a0 (j : Fin 512) : iblk m c 5 t (ix4 0 0 r j) = arg5 m c (ix4 0 b R j) := by
  rw [arg5, ← V_main_arg5 m c]; blk_ext [iblk, idx t, hb, hR]
theorem blk_a1 (j : Fin 512) : iblk m c 6 t (ix4 0 0 r j) = arg5 m c (ix4 1 b R j) := by
  rw [arg5, ← V_main_arg5 m c]; blk_ext [iblk, idx t, hb, hR]
theorem blk_o (j : Fin 512) : iblk m c 7 t (ix3 0 r j) = arg6 m c (ix3 b R ⟨1536 + j.val, by omega⟩) := by
  rw [arg6, ← V_main_arg6 m c]; blk_ext [iblk, idx t, hb, hR]
theorem blk_ys (j : Fin 512) : iblk m c 9 t (ix3 0 r j) = arg8 m c (ix3 b R j) := by
  rw [arg8, ← V_main_arg8 m c]; blk_ext [iblk, idx t, hb, hR]
theorem blk_yf (j : Fin 512) : iblk m c 10 t (ix3 0 r j) = arg9 m c (ix3 b R j) := by
  rw [arg9, ← V_main_arg9 m c]; blk_ext [iblk, idx t, hb, hR]

/-- What a grid point leaves of a token is the reference's result there. -/
theorem point (j : Fin 1024) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) (iblk m c 13 t) (iblk m c 14 t) (ix3 0 r j) =
    Cert.Reference2Ideal.Merge.ref (arg0 m c) (arg1 m c) (arg2 m c) (arg3 m c) (arg4 m c) (arg5 m c) (arg6 m c) (arg7 m c) (arg8 m c) (arg9 m c) (arg10 m c) (arg11 m c)
      (arg12 m c) (arg13 m c) b R j := by
  refine (body _ _ _ _ _ _ _ _ _ _ _ _ _ _ _ r j).trans ?_
  have h0 := funext (blk_x m c t b hb r R hR)
  have h1 := funext (blk_sh m c t b hb)
  have h2 := funext (blk_sc m c t b hb)
  have h3 := funext (blk_gt m c t b hb)
  have h4 := funext (blk_g m c t)
  have h5 := funext (blk_a0 m c t b hb r R hR)
  have h6 := funext (blk_a1 m c t b hb r R hR)
  have h7 := funext (blk_o m c t b hb r R hR)
  have h8 := funext (blk_mg m c t)
  have h9 := funext (blk_ys m c t b hb r R hR)
  have h10 := funext (blk_yf m c t b hb r R hR)
  have h11 := funext fun i => funext (blk_w m c t i)
  have h12 := funext (blk_wb m c t)
  have h13 := funext fun s => funext fun i => funext (blk_p m c t s i)
  have h14 := funext fun i => funext (blk_q m c t i)
  rw [h0, h1, h2, h3, h4, h5, h6, h7, h8, h9, h10, h11, h12, h13, h14]
  rfl
end

/-- The reference's result on the call's arguments. -/
abbrev res : FVec Ideal S4x8192x1024 .f32 :=
  Cert.Reference2Ideal.Merge.out (arg0 m c) (arg1 m c) (arg2 m c) (arg3 m c) (arg4 m c) (arg5 m c) (arg6 m c) (arg7 m c) (arg8 m c) (arg9 m c) (arg10 m c) (arg11 m c)
    (arg12 m c) (arg13 m c)

theorem arr : (dats m 0 c).arrAt 15 cfg0.N = res m c := by
  refine (dats m 0 c).arrAt_eq_of_covers 15 _ (by decide +kernel) fun t hf y => ?_
  blk_simp
  rw [after0_15]
  have ht : t.val < 128 := lt_of_lt_of_eq t.isLt N_0
  have hr : (y 1).val < 256 := (y 1).isLt
  have hy : y = (ix3 0 (show Fin 256 from y 1) (show Fin 1024 from y 2) : S1x256x1024.Idx) := by
    blk_ext
  have he : ((win0_15.blk t).view.emb y : S4x8192x1024.Idx) = ix3 ⟨t.val / 32, by omega⟩ ⟨t.val % 32 * 256 + (y 1).val, by omega⟩ (show Fin 1024 from y 2) := by
    blk_ext [idx t]
  refine Eq.trans ?_ (congrArg (res m c) he).symm
  refine (congrArg _ hy).trans ((point m c t ⟨t.val / 32, by omega⟩ rfl (show Fin 256 from y 1) ⟨t.val % 32 * 256 + (y 1).val, by omega⟩ rfl _).trans ?_)
  exact (Cert.Reference2Ideal.Merge.out_apply _ _ _ _ _ _ _ _ _ _ _ _ _ _ _ _ _).symm
end Cert.Kernel2Ideal.Merge
-- ==== Proof.ProjBlock.lean ====
module
public import proofs.«01_k».proof.Proof.Layer
public import proofs.«01_k».proof.Proof.Gen.Kernel3Ideal.Frame
public import Idealize.ShloMosaic.Lib.Pipeline.ValueKit
@[expose] public section
set_option maxRecDepth 16384
noncomputable section

/-! # The projection on one block of 512 tokens -/

namespace Cert.Kernel3Ideal.Proj
open Cert.Kernel3Ideal Cert.Kernel3Ideal.Gen Idealize.ShloMosaic Idealize.ShloMosaic.TcCoe Idealize.SL.Sem
open Cert.Layer (Row Tab)

variable (x : FVec Ideal S1x512x1024 .f32) (sh sc : FVec Ideal S1x1x1024 .f32) (g : FVec Ideal S1x1024 .f32) (w : FVec Ideal S1024x2048 .bf16) (wb : FVec Ideal S1x2048 .f32)
  (u : FVec Ideal S1024x256 .f32) (ub : FVec Ideal S1x256 .f32) (r : Fin 512)

/-- A token of the block, normalized and modulated. -/
abbrev tok : Row 1024 := Layer.norm (fun k => x (ix3 0 r k)) (fun k => sh (ix3 0 0 k)) (fun k => sc (ix3 0 0 k)) (fun k => g (ix2 0 k))

theorem hid_apply (j : Fin 1024) : k0_pay8 (F := Ideal) x g sh sc (ix2 r j) = tok x sh sc g r j := by
  pointwise [k0_pay8, tok, Layer.norm]
theorem lin_apply (j : Fin 2048) : k0_pay9 (F := Ideal) x g sh sc w wb (ix3 0 r j) =
    Layer.lin (tok x sh sc g r) (fun k j => w (ix2 k j)) j + wb (ix2 0 j) := by
  pointwise [k0_pay9, Layer.lin, hid_apply]
theorem glin_apply (h : FVec Ideal S512x1024 .f32) (j : Fin 256) : k0_pay1 (F := Ideal) h u ub (ix2 r j) =
    Layer.lin (fun k => h (ix2 r k)) (fun k j => u (ix2 k j)) j + ub (ix2 0 j) := by
  pointwise [k0_pay1, Layer.lin]
theorem g0 (h : FVec Ideal S512x1024 .f32) (j : Fin 128) : k0_pay3 (F := Ideal) h u ub (ix4 0 0 r j) = k0_pay1 (F := Ideal) h u ub (ix2 r ⟨j.val, by omega⟩) := by
  pointwise [k0_pay3, k0_pay2]
theorem g1 (h : FVec Ideal S512x1024 .f32) (j : Fin 128) : k0_pay6 (F := Ideal) h u ub (ix4 0 0 r j) = k0_pay1 (F := Ideal) h u ub (ix2 r ⟨128 + j.val, by omega⟩) := by
  pointwise [k0_pay6, k0_pay5]
theorem t0 (h : FVec Ideal S512x1024 .f32) (j : Fin 8) : k0_pay4 (F := Ideal) h u ub (ix4 0 0 j r) = k0_pay1 (F := Ideal) h u ub (ix2 r ⟨j.val, by omega⟩) := by
  pointwise [k0_pay4, k0_pay2]
theorem t1 (h : FVec Ideal S512x1024 .f32) (j : Fin 8) : k0_pay7 (F := Ideal) h u ub (ix4 0 0 j r) = k0_pay1 (F := Ideal) h u ub (ix2 r ⟨128 + j.val, by omega⟩) := by
  pointwise [k0_pay7, k0_pay5]

/-- The gates of a token of the block. -/
abbrev gts (j : Fin 256) : EReal := Layer.lin (tok x sh sc g r) (fun k j => u (ix2 k j)) j + ub (ix2 0 j)

theorem body (j : Fin 2048) : out0_8 (F := Ideal) x sh sc g w wb u ub (ix3 0 r j) = Layer.lin (tok x sh sc g r) (fun k j => w (ix2 k j)) j + wb (ix2 0 j) := by
  unfold_out out0_8
  frame_out
  exact lin_apply x sh sc g w wb r j
theorem bodyG (d : Fin 2) (j : Fin 128) : out0_9 (F := Ideal) x sh sc g w wb u ub (ix4 d 0 r j) = gts x sh sc g u ub r ⟨128 * d.val + j.val, by omega⟩ := by
  unfold_out out0_9
  frame_out
  have n0 : ∀ j : Fin 128, k0_pay3 (F := Ideal) (k0_pay8 (F := Ideal) x g sh sc) u ub (ix4 0 0 r j) = gts x sh sc g u ub r ⟨j.val, by omega⟩ := fun j => by
    rw [g0, glin_apply]
    simp only [hid_apply]
  have n1 : ∀ j : Fin 128, k0_pay6 (F := Ideal) (k0_pay8 (F := Ideal) x g sh sc) u ub (ix4 0 0 r j) = gts x sh sc g u ub r ⟨128 + j.val, by omega⟩ := fun j => by
    rw [g1, glin_apply]
    simp only [hid_apply]
  canon_tiles i h
  · have hd : d = 1 := Fin.ext (by have := d.isLt; have : d.val = 1 + (i 0).val := h0; show d.val = 1; omega)
    have hi : i = (ix4 0 0 r j : S1x1x512x128.Idx) := by
      have a0 : i 0 = (0 : Fin 1) := Subsingleton.elim (α := Fin 1) _ _
      have a1 : i 1 = (0 : Fin 1) := Subsingleton.elim (α := Fin 1) _ _
      have a2 : i 2 = r := Fin.ext h2.symm
      have a3 : i 3 = j := Fin.ext h3.symm
      rw [ValueIdx.eq_ix4 i, a0, a1, a2, a3]
      rfl
    subst hd
    rw [hi]
    exact n1 j
  · have hd : d = 0 := Fin.ext (by have : d.val = (i 0).val := h0; show d.val = 0; omega)
    have hi : i = (ix4 0 0 r j : S1x1x512x128.Idx) := by
      have a0 : i 0 = (0 : Fin 1) := Subsingleton.elim (α := Fin 1) _ _
      have a1 : i 1 = (0 : Fin 1) := Subsingleton.elim (α := Fin 1) _ _
      have a2 : i 2 = r := Fin.ext h2.symm
      have a3 : i 3 = j := Fin.ext h3.symm
      rw [ValueIdx.eq_ix4 i, a0, a1, a2, a3]
      rfl
    subst hd
    rw [hi]
    refine (n0 j).trans ?_
    rw [show (⟨j.val, by omega⟩ : Fin 256) = ⟨128 * (0 : Fin 2).val + j.val, by omega⟩ from Fin.ext (by show j.val = 128 * 0 + j.val; omega)]
theorem bodyT (d : Fin 2) (j : Fin 8) : out0_10 (F := Ideal) x sh sc g w wb u ub (ix4 d 0 j r) = gts x sh sc g u ub r ⟨128 * d.val + j.val, by omega⟩ := by
  unfold_out out0_10
  frame_out
  have n0 : ∀ j : Fin 8, k0_pay4 (F := Ideal) (k0_pay8 (F := Ideal) x g sh sc) u ub (ix4 0 0 j r) = gts x sh sc g u ub r ⟨j.val, by omega⟩ := fun j => by
    rw [t0, glin_apply]
    simp only [hid_apply]
  have n1 : ∀ j : Fin 8, k0_pay7 (F := Ideal) (k0_pay8 (F := Ideal) x g sh sc) u ub (ix4 0 0 j r) = gts x sh sc g u ub r ⟨128 + j.val, by omega⟩ := fun j => by
    rw [t1, glin_apply]
    simp only [hid_apply]
  canon_tiles i h
  · have hd : d = 1 := Fin.ext (by have := d.isLt; have : d.val = 1 + (i 0).val := h0; show d.val = 1; omega)
    have hi : i = (ix4 0 0 j r : S1x1x8x512.Idx) := by
      have a0 : i 0 = (0 : Fin 1) := Subsingleton.elim (α := Fin 1) _ _
      have a1 : i 1 = (0 : Fin 1) := Subsingleton.elim (α := Fin 1) _ _
      have a2 : i 2 = j := Fin.ext h2.symm
      have a3 : i 3 = r := Fin.ext h3.symm
      rw [ValueIdx.eq_ix4 i, a0, a1, a2, a3]
      rfl
    subst hd
    rw [hi]
    exact n1 j
  · have hd : d = 0 := Fin.ext (by have : d.val = (i 0).val := h0; show d.val = 0; omega)
    have hi : i = (ix4 0 0 j r : S1x1x8x512.Idx) := by
      have a0 : i 0 = (0 : Fin 1) := Subsingleton.elim (α := Fin 1) _ _
      have a1 : i 1 = (0 : Fin 1) := Subsingleton.elim (α := Fin 1) _ _
      have a2 : i 2 = j := Fin.ext h2.symm
      have a3 : i 3 = r := Fin.ext h3.symm
      rw [ValueIdx.eq_ix4 i, a0, a1, a2, a3]
      rfl
    subst hd
    rw [hi]
    refine (n0 j).trans ?_
    rw [show (⟨j.val, by omega⟩ : Fin 256) = ⟨128 * (0 : Fin 2).val + j.val, by omega⟩ from Fin.ext (by show j.val = 128 * 0 + j.val; omega)]
end Cert.Kernel3Ideal.Proj
-- ==== Proof.ProjRef.lean ====
module
public import proofs.«01_k».proof.Proof.Layer
public import proofs.«01_k».proof.Proof.Gen.Reference3Ideal.Run
@[expose] public section
set_option maxRecDepth 16384
noncomputable section

/-! # The projection's reference, entry by entry -/

namespace Cert.Reference3Ideal.Proj
open Cert.Reference3Ideal Cert.Reference3Ideal.Gen Idealize.ShloMosaic Idealize.ShloMosaic.TcCoe Idealize.SL.Sem
open Cert.Layer (Row Tab)

/-- The normalized and modulated input. -/
def hid (x : FVec Ideal S4x8192x1024 .f32) (sh sc : FVec Ideal S4x1x1024 .f32) (g : FVec Ideal S1x1024 .f32) : FVec Ideal S4x8192x1024 .f32 :=
  addf (mulf (mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![1, 2] bcast_S1x1024_S1x1x1024_1_2 g))) (broadcastInDim S4x8192x1024 ![0, 1, 2] bcast_S4x1x1024_S4x8192x1024_0_1_2 (addf (broadcastInDim S4x1x1024 ![] bcast_S_S4x1x1024 (constant S_ .f32 0x3F800000#32)) sc))) (broadcastInDim S4x8192x1024 ![0, 1, 2] bcast_S4x1x1024_S4x8192x1024_0_1_2 sh)
/-- The projection. -/
def lin (h : FVec Ideal S4x8192x1024 .f32) (w : FVec Ideal S1024x2048 .f32) (b : FVec Ideal S1x2048 .f32) : FVec Ideal S4x8192x2048 .f32 :=
  addf (Host.dotGeneral dot_S4x8192x1024_S1024x2048_S4x8192x2048_2_0_01_1_n_n none h w) (broadcastInDim S4x8192x2048 ![0, 1, 2] bcast_S1x1x2048_S4x8192x2048_0_1_2 (broadcastInDim S1x1x2048 ![1, 2] bcast_S1x2048_S1x1x2048_1_2 b))
/-- The gates, both directions in one row. -/
def glin (h : FVec Ideal S4x8192x1024 .f32) (w : FVec Ideal S1024x256 .f32) (b : FVec Ideal S1x256 .f32) : FVec Ideal S4x8192x256 .f32 :=
  addf (Host.dotGeneral dot_S4x8192x1024_S1024x256_S4x8192x256_2_0_01_1_n_n none h w) (broadcastInDim S4x8192x256 ![0, 1, 2] bcast_S1x1x256_S4x8192x256_0_1_2 (broadcastInDim S1x1x256 ![1, 2] bcast_S1x256_S1x1x256_1_2 b))
/-- The gates, a row for each direction. -/
def split (G : FVec Ideal S4x8192x256 .f32) : FVec Ideal S4x8192x2x128 .f32 := shapeCast _ G shapeCasts_S4x8192x256_S4x8192x2x128
/-- The gates, the direction first. -/
def gates (G : FVec Ideal S4x8192x2x128 .f32) : FVec Ideal S2x4x8192x128 .f32 := transpose S2x4x8192x128 [2, 0, 1, 3] G transposes_S4x8192x2x128_S2x4x8192x128_2_0_1_3
/-- The first eight gates, as rows. -/
def gatesT (G : FVec Ideal S2x4x8192x128 .f32) : FVec Ideal S2x4x8x8192 .f32 :=
  transpose S2x4x8x8192 [0, 1, 3, 2] (extractStridedSlice S2x4x8192x8 ![0, 0, 0, 0] G slices_S2x4x8192x128_S2x4x8192x8_0_0_0_0) transposes_S2x4x8192x8_S2x4x8x8192_0_1_3_2

variable (x : FVec Ideal S4x8192x1024 .f32) (sh sc : FVec Ideal S4x1x1024 .f32) (g : FVec Ideal S1x1024 .f32)
  (w : FVec Ideal S1024x2048 .f32) (wb : FVec Ideal S1x2048 .f32) (u : FVec Ideal S1024x256 .f32) (ub : FVec Ideal S1x256 .f32) (d : Fin 2) (b : Fin 4) (t : Fin 8192)

theorem hid_apply (j : Fin 1024) : hid x sh sc g (ix3 b t j) =
    Layer.norm (fun k => x (ix3 b t k)) (fun k => sh (ix3 b 0 k)) (fun k => sc (ix3 b 0 k)) (fun k => g (ix2 0 k)) j := by
  pointwise [hid, Layer.norm]
theorem lin_apply (h : FVec Ideal S4x8192x1024 .f32) (j : Fin 2048) : lin h w wb (ix3 b t j) =
    Layer.lin (fun k => h (ix3 b t k)) (fun k j => w (ix2 k j)) j + wb (ix2 0 j) := by
  pointwise [lin, Layer.lin]
theorem glin_apply (h : FVec Ideal S4x8192x1024 .f32) (j : Fin 256) : glin h u ub (ix3 b t j) =
    Layer.lin (fun k => h (ix3 b t k)) (fun k j => u (ix2 k j)) j + ub (ix2 0 j) := by
  pointwise [glin, Layer.lin]
theorem split_apply (G : FVec Ideal S4x8192x256 .f32) (j : Fin 128) : split G (ix4 b t d j) = G (ix3 b t ⟨128 * d.val + j.val, by omega⟩) := by
  refine shapeCast_apply _ _ _ (ix3 b t ⟨128 * d.val + j.val, by omega⟩) ?_
  rw [Shape.rowMajor_val_three, Shape.rowMajor_val_four]
  show (b.val * 8192 + t.val) * 256 + (128 * d.val + j.val) = ((b.val * 8192 + t.val) * 2 + d.val) * 128 + j.val
  omega
theorem gates_apply (G : FVec Ideal S4x8192x2x128 .f32) (j : Fin 128) : gates G (ix4 d b t j) = G (ix4 b t d j) := by
  pointwise [gates]
theorem gatesT_apply (G : FVec Ideal S2x4x8192x128 .f32) (j : Fin 8) : gatesT G (ix4 d b j t) = G (ix4 d b t ⟨j.val, by omega⟩) := by
  pointwise [gatesT]

/-- The first result: the projection. -/
def out : FVec Ideal S4x8192x2048 .f32 := lin (hid x sh sc g) w wb
/-- The second result: the gates. -/
def outG : FVec Ideal S2x4x8192x128 .f32 := gates (split (glin (hid x sh sc g) u ub))
/-- The third result: the gates as rows. -/
def outT : FVec Ideal S2x4x8x8192 .f32 := gatesT (outG x sh sc g u ub)

/-- The projection of one token. -/
def ref (j : Fin 2048) : EReal :=
  Layer.lin (Layer.norm (fun k => x (ix3 b t k)) (fun k => sh (ix3 b 0 k)) (fun k => sc (ix3 b 0 k)) (fun k => g (ix2 0 k))) (fun k j => w (ix2 k j)) j + wb (ix2 0 j)
/-- The gates of one token. -/
def refG (j : Fin 256) : EReal :=
  Layer.lin (Layer.norm (fun k => x (ix3 b t k)) (fun k => sh (ix3 b 0 k)) (fun k => sc (ix3 b 0 k)) (fun k => g (ix2 0 k))) (fun k j => u (ix2 k j)) j + ub (ix2 0 j)

theorem out_apply (j : Fin 2048) : out x sh sc g w wb (ix3 b t j) = ref x sh sc g w wb b t j := by
  unfold out
  rw [lin_apply]
  simp only [hid_apply]
  rfl
theorem outG_apply (j : Fin 128) : outG x sh sc g u ub (ix4 d b t j) = refG x sh sc g u ub b t ⟨128 * d.val + j.val, by omega⟩ := by
  unfold outG
  rw [gates_apply, split_apply, glin_apply]
  simp only [hid_apply]
  rfl
theorem outT_apply (j : Fin 8) : outT x sh sc g u ub (ix4 d b j t) = refG x sh sc g u ub b t ⟨128 * d.val + j.val, by omega⟩ := by
  unfold outT
  rw [gatesT_apply, outG_apply]
end Cert.Reference3Ideal.Proj
-- ==== Proof.ProjArray.lean ====
module
public import proofs.«01_k».proof.Proof.ProjBlock
public import proofs.«01_k».proof.Proof.ProjRef
public import proofs.«01_k».proof.Proof.Gen.Kernel3Ideal.Value
@[expose] public section
set_option maxRecDepth 16384
noncomputable section

/-! # The arrays the projection leaves

The blocks a grid point reads, entry by entry, and the arrays all grid points leave: the reference's results. -/

namespace Cert.Kernel3Ideal.Proj
open Cert.Kernel3Ideal Cert.Kernel3Ideal.Gen Idealize.ShloMosaic Idealize.ShloMosaic.TcCoe Idealize.SL.Sem
open Idealize.ShloMosaic.Pipeline (Dat)

/-- The blocks' places at a grid point. -/
theorem idx : ∀ t : Fin cfg0.N,
    win0_0.index t = ![t.val / 16, t.val % 16, 0] ∧ win0_1.index t = ![t.val / 16, 0, 0] ∧ win0_2.index t = ![t.val / 16, 0, 0] ∧ win0_3.index t = ![0, 0] ∧
    win0_4.index t = ![0, 0] ∧ win0_5.index t = ![0, 0] ∧ win0_6.index t = ![0, 0] ∧ win0_7.index t = ![0, 0] ∧ win0_8.index t = ![t.val / 16, t.val % 16, 0] ∧
    win0_9.index t = ![0, t.val / 16, t.val % 16, 0] ∧ win0_10.index t = ![0, t.val / 16, 0, t.val % 16] :=
  (by decide +kernel : ∀ t : Fin grid0.N, _)

variable (m : (ℓ : Loc nD τ sig) → Buf (Elt Ideal) ℓ) (c : Dev nD)

/-- The call's arguments. -/
abbrev arg0 : FVec Ideal S4x8192x1024 .f32 := m (c, Proc.tc.devRef main_arg0)
abbrev arg1 : FVec Ideal S4x1x1024 .f32 := m (c, Proc.tc.devRef main_arg1)
abbrev arg2 : FVec Ideal S4x1x1024 .f32 := m (c, Proc.tc.devRef main_arg2)
abbrev arg3 : FVec Ideal S1x1024 .f32 := m (c, Proc.tc.devRef main_arg3)
abbrev arg4 : FVec Ideal S1024x2048 .f32 := m (c, Proc.tc.devRef main_arg4)
abbrev arg5 : FVec Ideal S1x2048 .f32 := m (c, Proc.tc.devRef main_arg5)
abbrev arg6 : FVec Ideal S1024x256 .f32 := m (c, Proc.tc.devRef main_arg6)
abbrev arg7 : FVec Ideal S1x256 .f32 := m (c, Proc.tc.devRef main_arg7)

theorem V_w (i : Fin 1024) (j : Fin 2048) : V m c main_v0 (ix2 i j) = arg4 m c (ix2 i j) := by
  entry_read
  pointwise

section
variable (t : Fin cfg0.N) (b : Fin 4) (hb : b.val = t.val / 16) (r : Fin 512) (R : Fin 8192) (hR : R.val = t.val % 16 * 512 + r.val)
theorem blk_g (j : Fin 1024) : iblk m c 3 t (ix2 0 j) = arg3 m c (ix2 0 j) := by
  rw [arg3, ← V_main_arg3 m c]; blk_ext [iblk, idx t]
theorem blk_w (i : Fin 1024) (j : Fin 2048) : iblk m c 4 t (ix2 i j) = arg4 m c (ix2 i j) := by
  rw [← V_w m c]; blk_ext [iblk, idx t]
theorem blk_wb (j : Fin 2048) : iblk m c 5 t (ix2 0 j) = arg5 m c (ix2 0 j) := by
  rw [arg5, ← V_main_arg5 m c]; blk_ext [iblk, idx t]
theorem blk_u (i : Fin 1024) (j : Fin 256) : iblk m c 6 t (ix2 i j) = arg6 m c (ix2 i j) := by
  rw [arg6, ← V_main_arg6 m c]; blk_ext [iblk, idx t]
theorem blk_ub (j : Fin 256) : iblk m c 7 t (ix2 0 j) = arg7 m c (ix2 0 j) := by
  rw [arg7, ← V_main_arg7 m c]; blk_ext [iblk, idx t]
include hb
theorem blk_sh (j : Fin 1024) : iblk m c 1 t (ix3 0 0 j) = arg1 m c (ix3 b 0 j) := by
  rw [arg1, ← V_main_arg1 m c]; blk_ext [iblk, idx t, hb]
theorem blk_sc (j : Fin 1024) : iblk m c 2 t (ix3 0 0 j) = arg2 m c (ix3 b 0 j) := by
  rw [arg2, ← V_main_arg2 m c]; blk_ext [iblk, idx t, hb]
include hR
theorem blk_x (j : Fin 1024) : iblk m c 0 t (ix3 0 r j) = arg0 m c (ix3 b R j) := by
  rw [arg0, ← V_main_arg0 m c]; blk_ext [iblk, idx t, hb, hR]

theorem tok_eq : tok (iblk m c 0 t) (iblk m c 1 t) (iblk m c 2 t) (iblk m c 3 t) r =
    Layer.norm (fun k => arg0 m c (ix3 b R k)) (fun k => arg1 m c (ix3 b 0 k)) (fun k => arg2 m c (ix3 b 0 k)) (fun k => arg3 m c (ix2 0 k)) := by
  have h0 := funext (blk_x m c t b hb r R hR)
  have h1 := funext (blk_sh m c t b hb)
  have h2 := funext (blk_sc m c t b hb)
  have h3 := funext (blk_g m c t)
  unfold tok
  rw [h0, h1, h2, h3]

/-- What a grid point leaves of a token is the reference's result there. -/
theorem point (j : Fin 2048) :
    out0_8 (F := Ideal) (iblk m c 0 t) (iblk m c 1 t) (iblk m c 2 t) (iblk m c 3 t) (iblk m c 4 t) (iblk m c 5 t) (iblk m c 6 t) (iblk m c 7 t) (ix3 0 r j) =
    Cert.Reference3Ideal.Proj.ref (arg0 m c) (arg1 m c) (arg2 m c) (arg3 m c) (arg4 m c) (arg5 m c) b R j := by
  refine (body _ _ _ _ _ _ _ _ r j).trans ?_
  have h4 := funext fun i => funext (blk_w m c t i)
  rw [tok_eq m c t b hb r R hR, h4, blk_wb m c t]
  rfl
theorem gts_eq (j : Fin 256) : gts (iblk m c 0 t) (iblk m c 1 t) (iblk m c 2 t) (iblk m c 3 t) (iblk m c 6 t) (iblk m c 7 t) r j =
    Cert.Reference3Ideal.Proj.refG (arg0 m c) (arg1 m c) (arg2 m c) (arg3 m c) (arg6 m c) (arg7 m c) b R j := by
  have h4 := funext fun i => funext (blk_u m c t i)
  unfold gts
  rw [tok_eq m c t b hb r R hR, h4, blk_ub m c t]
  rfl
end

/-- The reference's results on the call's arguments. -/
abbrev res : FVec Ideal S4x8192x2048 .f32 :=
  Cert.Reference3Ideal.Proj.out (arg0 m c) (arg1 m c) (arg2 m c) (arg3 m c) (arg4 m c) (arg5 m c)
abbrev resG : FVec Ideal S2x4x8192x128 .f32 :=
  Cert.Reference3Ideal.Proj.outG (arg0 m c) (arg1 m c) (arg2 m c) (arg3 m c) (arg6 m c) (arg7 m c)
abbrev resT : FVec Ideal S2x4x8x8192 .f32 :=
  Cert.Reference3Ideal.Proj.outT (arg0 m c) (arg1 m c) (arg2 m c) (arg3 m c) (arg6 m c) (arg7 m c)

theorem arr : (dats m 0 c).arrAt 8 cfg0.N = res m c := by
  refine (dats m 0 c).arrAt_eq_of_covers 8 _ (by decide +kernel) fun t hf y => ?_
  blk_simp
  rw [after0_8]
  have ht : t.val < 64 := lt_of_lt_of_eq t.isLt N_0
  have hr : (y 1).val < 512 := (y 1).isLt
  have hy : y = (ix3 0 (show Fin 512 from y 1) (show Fin 2048 from y 2) : S1x512x2048.Idx) := by
    blk_ext
  have he : ((win0_8.blk t).view.emb y : S4x8192x2048.Idx) = ix3 ⟨t.val / 16, by omega⟩ ⟨t.val % 16 * 512 + (y 1).val, by omega⟩ (show Fin 2048 from y 2) := by
    blk_ext [idx t]
  refine Eq.trans ?_ (congrArg (res m c) he).symm
  refine (congrArg _ hy).trans ((point m c t ⟨t.val / 16, by omega⟩ rfl (show Fin 512 from y 1) ⟨t.val % 16 * 512 + (y 1).val, by omega⟩ rfl _).trans ?_)
  exact (Cert.Reference3Ideal.Proj.out_apply _ _ _ _ _ _ _ _ _).symm

theorem arrG : (dats m 0 c).arrAt 9 cfg0.N = resG m c := by
  refine (dats m 0 c).arrAt_eq_of_covers 9 _ (by decide +kernel) fun t hf y => ?_
  blk_simp
  rw [after0_9]
  have ht : t.val < 64 := lt_of_lt_of_eq t.isLt N_0
  have hr : (y 2).val < 512 := (y 2).isLt
  have hy : y = (ix4 (show Fin 2 from y 0) 0 (show Fin 512 from y 2) (show Fin 128 from y 3) : S2x1x512x128.Idx) := by
    blk_ext
  have he : ((win0_9.blk t).view.emb y : S2x4x8192x128.Idx) = ix4 (show Fin 2 from y 0) ⟨t.val / 16, by omega⟩ ⟨t.val % 16 * 512 + (y 2).val, by omega⟩ (show Fin 128 from y 3) := by
    blk_ext [idx t]
  refine Eq.trans ?_ (congrArg (resG m c) he).symm
  refine (congrArg _ hy).trans ((bodyG _ _ _ _ _ _ _ _ _ _ _).trans
    ((gts_eq m c t ⟨t.val / 16, by omega⟩ rfl (show Fin 512 from y 2) ⟨t.val % 16 * 512 + (y 2).val, by omega⟩ rfl _).trans ?_))
  exact (Cert.Reference3Ideal.Proj.outG_apply _ _ _ _ _ _ _ _ _ _).symm

theorem arrT : (dats m 0 c).arrAt 10 cfg0.N = resT m c := by
  refine (dats m 0 c).arrAt_eq_of_covers 10 _ (by decide +kernel) fun t hf y => ?_
  blk_simp
  rw [after0_10]
  have ht : t.val < 64 := lt_of_lt_of_eq t.isLt N_0
  have hr : (y 3).val < 512 := (y 3).isLt
  have hy : y = (ix4 (show Fin 2 from y 0) 0 (show Fin 8 from y 2) (show Fin 512 from y 3) : S2x1x8x512.Idx) := by
    blk_ext
  have he : ((win0_10.blk t).view.emb y : S2x4x8x8192.Idx) = ix4 (show Fin 2 from y 0) ⟨t.val / 16, by omega⟩ (show Fin 8 from y 2) ⟨t.val % 16 * 512 + (y 3).val, by omega⟩ := by
    blk_ext [idx t]
  refine Eq.trans ?_ (congrArg (resT m c) he).symm
  refine (congrArg _ hy).trans ((bodyT _ _ _ _ _ _ _ _ _ _ _).trans
    ((gts_eq m c t ⟨t.val / 16, by omega⟩ rfl (show Fin 512 from y 3) ⟨t.val % 16 * 512 + (y 3).val, by omega⟩ rfl _).trans ?_))
  exact (Cert.Reference3Ideal.Proj.outT_apply _ _ _ _ _ _ _ _ _ _).symm
end Cert.Kernel3Ideal.Proj
-- ==== Proof.GateBlock.lean ====
module
public import proofs.«01_k».proof.Proof.Layer
public import proofs.«01_k».proof.Proof.Gen.Kernel4Ideal.Frame
public import Idealize.ShloMosaic.Lib.Pipeline.ValueKit
@[expose] public section
set_option maxRecDepth 16384
noncomputable section

/-! # The gating projection on one block of 512 tokens -/

namespace Cert.Kernel4Ideal.Gate
open Cert.Kernel4Ideal Cert.Kernel4Ideal.Gen Idealize.ShloMosaic Idealize.ShloMosaic.TcCoe Idealize.SL.Sem
open Cert.Layer (Row Tab)

/-- An index from its coordinates. -/
theorem ix3_of {n0 n1 n2 : ℕ} (x : (⟨3, ![n0, n1, n2]⟩ : Shape).Idx) (a : Fin n0) (b : Fin n1) (c : Fin n2) (h0 : x 0 = a) (h1 : x 1 = b) (h2 : x 2 = c) : x = ix3 a b c := by
  subst h0 h1 h2
  exact ValueIdx.eq_ix3 x

section
variable (u : FVec Ideal S512x512 .f32) (v : FVec Ideal S512x512 .bf16) (w : FVec Ideal S4x128x128 .bf16) (sb : FVec Ideal S128x4 .f32)

/-- What is stored of chunk `a` and group `q`. -/
def cell (a q : Fin 4) (i e : Fin 128) : EReal :=
  u (ix2 ⟨a.val * 128 + i.val, by omega⟩ ⟨q.val * 128 + e.val, by omega⟩) *
    ((∑ k : Fin 128, w (ix3 q i k) * v (ix2 ⟨a.val * 128 + k.val, by omega⟩ ⟨q.val * 128 + e.val, by omega⟩)) + sb (ix2 i q))

variable (i e : Fin 128)
theorem cell00 : k0_pay9 (F := Ideal) u (k0_pay7 (F := Ideal) (View.ld w r0_5)) (extractStridedSlice S128x128 ![0, 0] v slices_S512x512_o0_0_S128x128) (View.ld sb r0_6) (ix3 0 i e) = cell u v w sb 0 0 i e := by
  pointwise [k0_pay9, k0_pay7, cell]
theorem cell01 : k0_pay10 (F := Ideal) u v (View.ld w r0_8) (View.ld sb r0_9) (ix3 0 i e) = cell u v w sb 0 1 i e := by
  pointwise [k0_pay10, cell]
theorem cell02 : k0_pay12 (F := Ideal) (k0_pay11 (F := Ideal) u v (View.ld w r0_11) (View.ld sb r0_12)) (ix3 0 i e) = cell u v w sb 0 2 i e := by
  pointwise [k0_pay12, k0_pay11, cell]
theorem cell03 : k0_pay13 (F := Ideal) u v (View.ld w r0_14) (View.ld sb r0_15) (ix3 0 i e) = cell u v w sb 0 3 i e := by
  pointwise [k0_pay13, cell]
theorem cell10 : k0_pay14 (F := Ideal) u v (View.ld w r0_5) (View.ld sb r0_6) (ix3 0 i e) = cell u v w sb 1 0 i e := by
  pointwise [k0_pay14, cell]
theorem cell11 : k0_pay16 (F := Ideal) u (k0_pay15 (F := Ideal) v (View.ld w r0_8)) (View.ld sb r0_9) (ix3 0 i e) = cell u v w sb 1 1 i e := by
  pointwise [k0_pay16, k0_pay15, cell]
theorem cell12 : k0_pay17 (F := Ideal) u v (View.ld w r0_11) (View.ld sb r0_12) (ix3 0 i e) = cell u v w sb 1 2 i e := by
  pointwise [k0_pay17, cell]
theorem cell13 : k0_pay18 (F := Ideal) u v (View.ld w r0_14) (View.ld sb r0_15) (ix3 0 i e) = cell u v w sb 1 3 i e := by
  pointwise [k0_pay18, cell]
theorem cell20 : k0_pay19 (F := Ideal) u v (View.ld w r0_5) (View.ld sb r0_6) (ix3 0 i e) = cell u v w sb 2 0 i e := by
  pointwise [k0_pay19, cell]
theorem cell21 : k0_pay20 (F := Ideal) u v (View.ld w r0_8) (View.ld sb r0_9) (ix3 0 i e) = cell u v w sb 2 1 i e := by
  pointwise [k0_pay20, cell]
theorem cell22 : k0_pay22 (F := Ideal) (k0_pay21 (F := Ideal) u v (View.ld w r0_11) (View.ld sb r0_12)) (ix3 0 i e) = cell u v w sb 2 2 i e := by
  pointwise [k0_pay22, k0_pay21, cell]
theorem cell23 : k0_pay23 (F := Ideal) u v (View.ld w r0_14) (View.ld sb r0_15) (ix3 0 i e) = cell u v w sb 2 3 i e := by
  pointwise [k0_pay23, cell]
theorem cell30 : k0_pay24 (F := Ideal) u v (View.ld w r0_5) (View.ld sb r0_6) (ix3 0 i e) = cell u v w sb 3 0 i e := by
  pointwise [k0_pay24, cell]
theorem cell31 : k0_pay27 (F := Ideal) u (k0_pay25 (F := Ideal) (View.ld w r0_8)) (k0_pay26 (F := Ideal) v) (constant S128x128 .f32 0x00000000#32) (View.ld sb r0_9) (ix3 0 i e) = cell u v w sb 3 1 i e := by
  pointwise [k0_pay27, k0_pay25, k0_pay26, cell]
theorem cell32 : k0_pay28 (F := Ideal) u v (View.ld w r0_11) (View.ld sb r0_12) (ix3 0 i e) = cell u v w sb 3 2 i e := by
  pointwise [k0_pay28, cell]
theorem cell33 : k0_pay30 (F := Ideal) (k0_pay29 (F := Ideal) u v (View.ld w r0_14) (View.ld sb r0_15)) (ix3 0 i e) = cell u v w sb 3 3 i e := by
  pointwise [k0_pay30, k0_pay29, cell]

/-- A piece read at its own index. -/
theorem close (f : FVec Ideal S1x128x128 .f32) (a q : Fin 4) (hf : ∀ i e, f (ix3 0 i e) = cell u v w sb a q i e) (r j : Fin 512) (x : S1x128x128.Idx)
    (h1 : r.val = a.val * 128 + (x 1).val) (h2 : j.val = q.val * 128 + (x 2).val) :
    f x = cell u v w sb ⟨r.val / 128, by omega⟩ ⟨j.val / 128, by omega⟩ ⟨r.val % 128, by omega⟩ ⟨j.val % 128, by omega⟩ := by
  have x1 : (x 1).val < 128 := (x 1).isLt
  have x2 : (x 2).val < 128 := (x 2).isLt
  have a0 : x 0 = (0 : Fin 1) := Subsingleton.elim (α := Fin 1) _ _
  have a1 : x 1 = (⟨r.val % 128, by omega⟩ : Fin 128) := Fin.ext (by show (x 1).val = r.val % 128; omega)
  have a2 : x 2 = (⟨j.val % 128, by omega⟩ : Fin 128) := Fin.ext (by show (x 2).val = j.val % 128; omega)
  have ea : a = ⟨r.val / 128, by omega⟩ := Fin.ext (by show a.val = r.val / 128; omega)
  have eq : q = ⟨j.val / 128, by omega⟩ := Fin.ext (by show q.val = j.val / 128; omega)
  have hx : x = (ix3 0 ⟨r.val % 128, by omega⟩ ⟨j.val % 128, by omega⟩ : S1x128x128.Idx) := by
    exact ix3_of x _ _ _ a0 a1 a2
  refine (congrArg f hx).trans ((hf _ _).trans ?_)
  rw [← ea, ← eq]
end

section
variable (z : FVec Ideal S512x512 .bf16) (P : FVec Ideal S512x1536 .f32) (d : FVec Ideal S128x128 .bf16) (r : Fin 512) (e : Fin 128)

/-- The transformed channels of group `q`. -/
def zcell (q : Fin 4) (r : Fin 512) (e : Fin 128) : EReal := Layer.lin (fun k : Fin 128 => z (ix2 r ⟨q.val * 128 + k.val, by omega⟩)) (fun k j => d (ix2 k j)) e
theorem c0 : k0_pay32 (F := Ideal) P d (ix3 0 r e) = zcell (k0_pay31 (F := Ideal) P) d 0 r e := by
  pointwise [k0_pay32, zcell, Layer.lin]
theorem s0 : k0_pay33 (F := Ideal) P d (ix3 0 r e) = zcell (k0_pay31 (F := Ideal) P) d 0 r e := by
  pointwise [k0_pay33, zcell, Layer.lin]
theorem c1 : k0_pay34 (F := Ideal) P d (ix3 0 r e) = zcell (k0_pay31 (F := Ideal) P) d 1 r e := by
  pointwise [k0_pay34, zcell, Layer.lin]
theorem s1 : k0_pay35 (F := Ideal) P d (ix3 0 r e) = zcell (k0_pay31 (F := Ideal) P) d 1 r e := by
  pointwise [k0_pay35, zcell, Layer.lin]
theorem c2 : k0_pay36 (F := Ideal) z d (ix3 0 r e) = zcell z d 2 r e := by
  pointwise [k0_pay36, zcell, Layer.lin]
theorem s2 : k0_pay37 (F := Ideal) z d (ix3 0 r e) = zcell z d 2 r e := by
  pointwise [k0_pay37, zcell, Layer.lin]
theorem c3 : k0_pay38 (F := Ideal) z d (ix3 0 r e) = zcell z d 3 r e := by
  pointwise [k0_pay38, zcell, Layer.lin]
theorem s3 : k0_pay1 (F := Ideal) (k0_pay39 (F := Ideal) z d) (ix3 0 r e) = zcell z d 3 r e := by
  pointwise [k0_pay1, k0_pay39, zcell, Layer.lin]

/-- A piece read at its own index. -/
theorem zclose (f : FVec Ideal S1x512x128 .f32) (q : Fin 4) (hf : ∀ r e, f (ix3 0 r e) = zcell z d q r e) (r j : Fin 512) (x : S1x512x128.Idx)
    (h1 : r.val = (x 1).val) (h2 : j.val = q.val * 128 + (x 2).val) : f x = zcell z d ⟨j.val / 128, by omega⟩ r ⟨j.val % 128, by omega⟩ := by
  have x2 : (x 2).val < 128 := (x 2).isLt
  have a0 : x 0 = (0 : Fin 1) := Subsingleton.elim (α := Fin 1) _ _
  have a1 : x 1 = r := Fin.ext h1.symm
  have a2 : x 2 = (⟨j.val % 128, by omega⟩ : Fin 128) := Fin.ext (by show (x 2).val = j.val % 128; omega)
  have eq : q = ⟨j.val / 128, by omega⟩ := Fin.ext (by show q.val = j.val / 128; omega)
  have hx : x = (ix3 0 r ⟨j.val % 128, by omega⟩ : S1x512x128.Idx) := by
    exact ix3_of x _ _ _ a0 a1 a2
  refine (congrArg f hx).trans ((hf _ _).trans ?_)
  rw [← eq]
end

variable (x : FVec Ideal S1x512x1024 .f32) (sh sc : FVec Ideal S1x1x1024 .f32) (g : FVec Ideal S1x1024 .f32) (w : FVec Ideal S1024x1536 .bf16) (wb : FVec Ideal S1x1536 .f32)
  (sw : FVec Ideal S4x128x128 .bf16) (sb : FVec Ideal S128x4 .f32) (d d' : FVec Ideal S128x128 .bf16) (r : Fin 512)

/-- The projection of a token of the block. -/
abbrev tok (j : Fin 1536) : EReal :=
  Layer.lin (Layer.norm (fun k => x (ix3 0 r k)) (fun k => sh (ix3 0 0 k)) (fun k => sc (ix3 0 0 k)) (fun k => g (ix2 0 k))) (fun k j => w (ix2 k j)) j + wb (ix2 0 j)

theorem pre_apply (j : Fin 1536) : k0_pay2 (F := Ideal) x g sh sc w wb (ix2 r j) = tok x sh sc g w wb r j := by
  pointwise [k0_pay2, tok, Layer.norm, Layer.lin]
theorem u_apply (j : Fin 512) : k0_pay5 (F := Ideal) (k0_pay3 (F := Ideal) x g sh sc w wb) (k0_pay4 (F := Ideal) x g sh sc w wb) (ix2 r j) =
    Layer.gelu (tok x sh sc g w wb r ⟨j.val, by omega⟩) := by
  pointwise [k0_pay5, k0_pay3, k0_pay4, pre_apply, Layer.gelu]
  simp only [mul_assoc]
theorem v_apply (P : FVec Ideal S512x1536 .f32) (j : Fin 512) : k0_pay6 (F := Ideal) P (ix2 r j) = Layer.ln512 (fun k => Layer.gelu (P (ix2 r ⟨512 + k.val, by omega⟩))) j := by
  pointwise [k0_pay6, Layer.ln512, Layer.mean512, Layer.gelu]
  simp only [mul_assoc]
theorem z_apply (P : FVec Ideal S512x1536 .f32) (j : Fin 512) : k0_pay31 (F := Ideal) P (ix2 r j) = P (ix2 r ⟨1024 + j.val, by omega⟩) := by
  pointwise [k0_pay31]

theorem body (j : Fin 512) : out0_10 (F := Ideal) x sh sc g w wb sw sb d d' (ix3 0 r j) =
   cell (k0_pay5 (F := Ideal) (k0_pay3 (F := Ideal) x g sh sc w wb) (k0_pay4 (F := Ideal) x g sh sc w wb)) (k0_pay6 (F := Ideal) (k0_pay2 (F := Ideal) x g sh sc w wb)) sw sb ⟨r.val / 128, by omega⟩ ⟨j.val / 128, by omega⟩ ⟨r.val % 128, by omega⟩ ⟨j.val % 128, by omega⟩ := by
  unfold_out out0_10
  frame_out
  canon_tiles i h
  · exact close _ _ sw sb _ 3 3 (cell33 _ _ sw sb) r j i (show r.val = 384 + (i 1).val from h1) (show j.val = 384 + (i 2).val from h2)
  · exact close _ _ sw sb _ 3 2 (cell32 _ _ sw sb) r j i (show r.val = 384 + (i 1).val from h1) (show j.val = 256 + (i 2).val from h2)
  · exact close _ _ sw sb _ 3 1 (cell31 _ _ sw sb) r j i (show r.val = 384 + (i 1).val from h1) (show j.val = 128 + (i 2).val from h2)
  · exact close _ _ sw sb _ 3 0 (cell30 _ _ sw sb) r j i (show r.val = 384 + (i 1).val from h1) (show j.val = 0 * 128 + (i 2).val from (show j.val = (i 2).val from h2).trans (Nat.zero_add _).symm)
  · exact close _ _ sw sb _ 2 3 (cell23 _ _ sw sb) r j i (show r.val = 256 + (i 1).val from h1) (show j.val = 384 + (i 2).val from h2)
  · exact close _ _ sw sb _ 2 2 (cell22 _ _ sw sb) r j i (show r.val = 256 + (i 1).val from h1) (show j.val = 256 + (i 2).val from h2)
  · exact close _ _ sw sb _ 2 1 (cell21 _ _ sw sb) r j i (show r.val = 256 + (i 1).val from h1) (show j.val = 128 + (i 2).val from h2)
  · exact close _ _ sw sb _ 2 0 (cell20 _ _ sw sb) r j i (show r.val = 256 + (i 1).val from h1) (show j.val = 0 * 128 + (i 2).val from (show j.val = (i 2).val from h2).trans (Nat.zero_add _).symm)
  · exact close _ _ sw sb _ 1 3 (cell13 _ _ sw sb) r j i (show r.val = 128 + (i 1).val from h1) (show j.val = 384 + (i 2).val from h2)
  · exact close _ _ sw sb _ 1 2 (cell12 _ _ sw sb) r j i (show r.val = 128 + (i 1).val from h1) (show j.val = 256 + (i 2).val from h2)
  · exact close _ _ sw sb _ 1 1 (cell11 _ _ sw sb) r j i (show r.val = 128 + (i 1).val from h1) (show j.val = 128 + (i 2).val from h2)
  · exact close _ _ sw sb _ 1 0 (cell10 _ _ sw sb) r j i (show r.val = 128 + (i 1).val from h1) (show j.val = 0 * 128 + (i 2).val from (show j.val = (i 2).val from h2).trans (Nat.zero_add _).symm)
  · exact close _ _ sw sb _ 0 3 (cell03 _ _ sw sb) r j i (show r.val = 0 * 128 + (i 1).val from (show r.val = (i 1).val from h1).trans (Nat.zero_add _).symm) (show j.val = 384 + (i 2).val from h2)
  · exact close _ _ sw sb _ 0 2 (cell02 _ _ sw sb) r j i (show r.val = 0 * 128 + (i 1).val from (show r.val = (i 1).val from h1).trans (Nat.zero_add _).symm) (show j.val = 256 + (i 2).val from h2)
  · exact close _ _ sw sb _ 0 1 (cell01 _ _ sw sb) r j i (show r.val = 0 * 128 + (i 1).val from (show r.val = (i 1).val from h1).trans (Nat.zero_add _).symm) (show j.val = 128 + (i 2).val from h2)
  · exact close _ _ sw sb _ 0 0 (cell00 _ _ sw sb) r j i (show r.val = 0 * 128 + (i 1).val from (show r.val = (i 1).val from h1).trans (Nat.zero_add _).symm) (show j.val = 0 * 128 + (i 2).val from (show j.val = (i 2).val from h2).trans (Nat.zero_add _).symm)
theorem bodyC (j : Fin 512) : out0_11 (F := Ideal) x sh sc g w wb sw sb d d' (ix3 0 r j) =
    zcell (k0_pay31 (F := Ideal) (k0_pay2 (F := Ideal) x g sh sc w wb)) d ⟨j.val / 128, by omega⟩ r ⟨j.val % 128, by omega⟩ := by
  unfold_out out0_11
  frame_out
  canon_tiles i h
  · exact zclose _ d _ 3 (c3 _ d) r j i h1 (show j.val = 384 + (i 2).val from h2)
  · exact zclose _ d _ 2 (c2 _ d) r j i h1 (show j.val = 256 + (i 2).val from h2)
  · exact zclose _ d _ 1 (c1 _ d) r j i h1 (show j.val = 128 + (i 2).val from h2)
  · exact zclose _ d _ 0 (c0 _ d) r j i h1 (show j.val = 0 * 128 + (i 2).val from (show j.val = (i 2).val from h2).trans (Nat.zero_add _).symm)
theorem bodyS (j : Fin 512) : out0_12 (F := Ideal) x sh sc g w wb sw sb d d' (ix3 0 r j) =
    zcell (k0_pay31 (F := Ideal) (k0_pay2 (F := Ideal) x g sh sc w wb)) d' ⟨j.val / 128, by omega⟩ r ⟨j.val % 128, by omega⟩ := by
  unfold_out out0_12
  frame_out
  canon_tiles i h
  · exact zclose _ d' _ 3 (s3 _ d') r j i h1 (show j.val = 384 + (i 2).val from h2)
  · exact zclose _ d' _ 2 (s2 _ d') r j i h1 (show j.val = 256 + (i 2).val from h2)
  · exact zclose _ d' _ 1 (s1 _ d') r j i h1 (show j.val = 128 + (i 2).val from h2)
  · exact zclose _ d' _ 0 (s0 _ d') r j i h1 (show j.val = 0 * 128 + (i 2).val from (show j.val = (i 2).val from h2).trans (Nat.zero_add _).symm)
end Cert.Kernel4Ideal.Gate
-- ==== Proof.GateRef.lean ====
module
public import proofs.«01_k».proof.Proof.Layer
public import proofs.«01_k».proof.Proof.Gen.Reference4Ideal.Run
@[expose] public section
set_option maxRecDepth 16384
noncomputable section

/-! # The gating projection's reference, entry by entry -/

namespace Cert.Reference4Ideal.Gate
open Cert.Reference4Ideal Cert.Reference4Ideal.Gen Idealize.ShloMosaic Idealize.ShloMosaic.TcCoe Idealize.SL.Sem
open Cert.Layer (Row Tab)

/-- The normalized and modulated input. -/
def hid (x : FVec Ideal S4x8192x1024 .f32) (sh sc : FVec Ideal S4x1x1024 .f32) (g : FVec Ideal S1x1024 .f32) : FVec Ideal S4x8192x1024 .f32 :=
  addf (mulf (mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![1, 2] bcast_S1x1024_S1x1x1024_1_2 g))) (broadcastInDim S4x8192x1024 ![0, 1, 2] bcast_S4x1x1024_S4x8192x1024_0_1_2 (addf (broadcastInDim S4x1x1024 ![] bcast_S_S4x1x1024 (constant S_ .f32 0x3F800000#32)) sc))) (broadcastInDim S4x8192x1024 ![0, 1, 2] bcast_S4x1x1024_S4x8192x1024_0_1_2 sh)
/-- The projection. -/
def lin (h : FVec Ideal S4x8192x1024 .f32) (w : FVec Ideal S1024x1536 .f32) (b : FVec Ideal S1x1536 .f32) : FVec Ideal S4x8192x1536 .f32 :=
  addf (Host.dotGeneral dot_S4x8192x1024_S1024x1536_S4x8192x1536_2_0_01_1_n_n none h w) (broadcastInDim S4x8192x1536 ![0, 1, 2] bcast_S1x1x1536_S4x8192x1536_0_1_2 (broadcastInDim S1x1x1536 ![1, 2] bcast_S1x1536_S1x1x1536_1_2 b))
/-- The rectifier. -/
def gelu (z : FVec Ideal S4x8192x512 .f32) : FVec Ideal S4x8192x512 .f32 :=
  mulf z (mulf (broadcastInDim S4x8192x512 ![] bcast_S_S4x8192x512 (constant S_ .f32 0x3F000000#32)) (addf (broadcastInDim S4x8192x512 ![] bcast_S_S4x8192x512 (constant S_ .f32 0x3F800000#32)) (Host.tanh (mulf (broadcastInDim S4x8192x512 ![] bcast_S_S4x8192x512 (constant S_ .f32 0x3F4C422A#32)) (addf z (mulf (broadcastInDim S4x8192x512 ![] bcast_S_S4x8192x512 (constant S_ .f32 0x3D372713#32)) (mulf (mulf z z) z)))))))
/-- The columns that are gated. -/
def colU (P : FVec Ideal S4x8192x1536 .f32) : FVec Ideal S4x8192x512 .f32 := extractStridedSlice S4x8192x512 ![0, 0, 0] P slices_S4x8192x1536_S4x8192x512_0_0_0
/-- The columns the gate is made of. -/
def colV (P : FVec Ideal S4x8192x1536 .f32) : FVec Ideal S4x8192x512 .f32 := extractStridedSlice S4x8192x512 ![0, 0, 512] P slices_S4x8192x1536_S4x8192x512_0_0_512
/-- The columns whose channels are transformed. -/
def colZ (P : FVec Ideal S4x8192x1536 .f32) : FVec Ideal S4x8192x512 .f32 := extractStridedSlice S4x8192x512 ![0, 0, 1024] P slices_S4x8192x1536_S4x8192x512_0_0_1024
/-- The rows' means. -/
def mean (z : FVec Ideal S4x8192x512 .f32) : FVec Ideal S4x8192x1 .f32 :=
  Host.divf (broadcastInDim S4x8192x1 ![0, 1] bcast_S4x8192_S4x8192x1_0_1 (Host.reduceAdd z (constant S_ .f32 0x00000000#32) reducesTo_S4x8192x512_S4x8192_d2 h_S_)) (broadcastInDim S4x8192x1 ![] bcast_S_S4x8192x1 (constant S_ .f32 0x44000000#32))
/-- The rows less their means. -/
def cen (z : FVec Ideal S4x8192x512 .f32) : FVec Ideal S4x8192x512 .f32 :=
  subf z (broadcastInDim S4x8192x512 ![0, 1, 2] bcast_S4x8192x1_S4x8192x512_0_1_2 (mean z))
/-- The rows' layer normalization. -/
def ln (z : FVec Ideal S4x8192x512 .f32) : FVec Ideal S4x8192x512 .f32 :=
  mulf (cen z) (broadcastInDim S4x8192x512 ![0, 1, 2] bcast_S4x8192x1_S4x8192x512_0_1_2 (Host.rsqrt (addf (mean (mulf (cen z) (cen z))) (broadcastInDim S4x8192x1 ![] bcast_S_S4x8192x1 (constant S_ .f32 0x358637BD#32)))))
/-- The tokens cut into chunks and the channels into groups. -/
def cut (z : FVec Ideal S4x8192x512 .f32) : FVec Ideal S4x64x128x4x128 .f32 := shapeCast _ z shapeCasts_S4x8192x512_S4x64x128x4x128
/-- The chunks' tokens mixed. -/
def mix (z : FVec Ideal S4x64x128x4x128 .f32) (w : FVec Ideal S4x128x128 .f32) (sb : FVec Ideal S4x128 .f32) : FVec Ideal S4x64x128x4x128 .f32 :=
  addf (transpose S4x64x128x4x128 [1, 2, 4, 0, 3] (Host.dotGeneral dot_S4x64x128x4x128_S4x128x128_S4x4x64x128x128_2_2_014_1_3_0 none z w) transposes_S4x4x64x128x128_S4x64x128x4x128_1_2_4_0_3) (broadcastInDim S4x64x128x4x128 ![0, 1, 2, 3, 4] bcast_S1x1x128x4x1_S4x64x128x4x128_0_1_2_3_4 (broadcastInDim S1x1x128x4x1 ![2, 3] bcast_S128x4_S1x1x128x4x1_2_3 (transpose S128x4 [1, 0] sb transposes_S4x128_S128x4_1_0)))
/-- The chunks set side by side again. -/
def join (z : FVec Ideal S4x64x128x4x128 .f32) : FVec Ideal S4x8192x512 .f32 := shapeCast _ z shapeCasts_S4x64x128x4x128_S4x8192x512
/-- The channels of each group transformed. -/
def chan (z : FVec Ideal S4x8192x512 .f32) (w : FVec Ideal S128x128 .f32) : FVec Ideal S4x8192x512 .f32 :=
  shapeCast _ (Host.dotGeneral dot_S4x8192x4x128_S128x128_S4x8192x4x128_3_0_012_1_n_n none (shapeCast _ z shapeCasts_S4x8192x512_S4x8192x4x128) w) shapeCasts_S4x8192x4x128_S4x8192x512

variable (x : FVec Ideal S4x8192x1024 .f32) (sh sc : FVec Ideal S4x1x1024 .f32) (g : FVec Ideal S1x1024 .f32)
  (w : FVec Ideal S1024x1536 .f32) (wb : FVec Ideal S1x1536 .f32) (sw : FVec Ideal S4x128x128 .f32) (sb : FVec Ideal S4x128 .f32) (d : FVec Ideal S128x128 .f32)
  (b : Fin 4) (t : Fin 8192) (n : Fin 64) (q : Fin 4) (i e : Fin 128)

theorem hid_apply (j : Fin 1024) : hid x sh sc g (ix3 b t j) =
    Layer.norm (fun k => x (ix3 b t k)) (fun k => sh (ix3 b 0 k)) (fun k => sc (ix3 b 0 k)) (fun k => g (ix2 0 k)) j := by
  pointwise [hid, Layer.norm]
theorem lin_apply (h : FVec Ideal S4x8192x1024 .f32) (j : Fin 1536) : lin h w wb (ix3 b t j) =
    Layer.lin (fun k => h (ix3 b t k)) (fun k j => w (ix2 k j)) j + wb (ix2 0 j) := by
  pointwise [lin, Layer.lin]
theorem gelu_apply (z : FVec Ideal S4x8192x512 .f32) (j : Fin 512) : gelu z (ix3 b t j) = Layer.gelu (z (ix3 b t j)) := by
  pointwise [gelu, Layer.gelu]
theorem colU_apply (P : FVec Ideal S4x8192x1536 .f32) (j : Fin 512) : colU P (ix3 b t j) = P (ix3 b t ⟨j.val, by omega⟩) := by
  pointwise [colU]
theorem colV_apply (P : FVec Ideal S4x8192x1536 .f32) (j : Fin 512) : colV P (ix3 b t j) = P (ix3 b t ⟨512 + j.val, by omega⟩) := by
  pointwise [colV]
theorem colZ_apply (P : FVec Ideal S4x8192x1536 .f32) (j : Fin 512) : colZ P (ix3 b t j) = P (ix3 b t ⟨1024 + j.val, by omega⟩) := by
  pointwise [colZ]
theorem mean_apply (z : FVec Ideal S4x8192x512 .f32) : mean z (ix3 b t 0) = Layer.mean512 (fun k => z (ix3 b t k)) := by
  pointwise [mean, Layer.mean512]
theorem cen_apply (z : FVec Ideal S4x8192x512 .f32) (j : Fin 512) : cen z (ix3 b t j) = z (ix3 b t j) - Layer.mean512 (fun k => z (ix3 b t k)) := by
  pointwise [cen, mean_apply]
theorem ln_apply (z : FVec Ideal S4x8192x512 .f32) (j : Fin 512) : ln z (ix3 b t j) = Layer.ln512 (fun k => z (ix3 b t k)) j := by
  pointwise [ln, mean_apply, cen_apply, Layer.ln512]
theorem cut_apply (z : FVec Ideal S4x8192x512 .f32) : cut z (ix5 b n i q e) = z (ix3 b ⟨n.val * 128 + i.val, by omega⟩ ⟨q.val * 128 + e.val, by omega⟩) := by
  pointwise [cut]
theorem mix_apply (z : FVec Ideal S4x64x128x4x128 .f32) : mix z sw sb (ix5 b n i q e) = (∑ k, sw (ix3 q i k) * z (ix5 b n k q e)) + sb (ix2 q i) := by
  pointwise [mix]
  exact congrArg (· + _) (Finset.sum_congr rfl fun k _ => mul_comm _ _)
theorem join_apply (z : FVec Ideal S4x64x128x4x128 .f32) :
    join z (ix3 b ⟨n.val * 128 + i.val, by omega⟩ ⟨q.val * 128 + e.val, by omega⟩) = z (ix5 b n i q e) := by
  pointwise [join]
theorem chan_apply (z : FVec Ideal S4x8192x512 .f32) :
    chan z d (ix3 b t ⟨q.val * 128 + e.val, by omega⟩) = Layer.lin (fun k => z (ix3 b t ⟨q.val * 128 + k.val, by omega⟩)) (fun k j => d (ix2 k j)) e := by
  pointwise [chan, Layer.lin]

/-- The projected input. -/
def pre : FVec Ideal S4x8192x1536 .f32 := lin (hid x sh sc g) w wb
/-- The first result: the gated columns. -/
def out : FVec Ideal S4x8192x512 .f32 :=
  mulf (gelu (colU (pre x sh sc g w wb))) (join (mix (cut (ln (gelu (colV (pre x sh sc g w wb))))) sw sb))
/-- The other results: the transformed channels. -/
def outZ : FVec Ideal S4x8192x512 .f32 := chan (colZ (pre x sh sc g w wb)) d

/-- The projection of one token. -/
def ref (j : Fin 1536) : EReal :=
  Layer.lin (Layer.norm (fun k => x (ix3 b t k)) (fun k => sh (ix3 b 0 k)) (fun k => sc (ix3 b 0 k)) (fun k => g (ix2 0 k))) (fun k j => w (ix2 k j)) j + wb (ix2 0 j)

theorem pre_apply (j : Fin 1536) : pre x sh sc g w wb (ix3 b t j) = ref x sh sc g w wb b t j := by
  unfold pre
  rw [lin_apply]
  simp only [hid_apply]
  rfl

theorem out_apply : out x sh sc g w wb sw sb (ix3 b ⟨n.val * 128 + i.val, by omega⟩ ⟨q.val * 128 + e.val, by omega⟩) =
    Layer.sgu (fun k j => ref x sh sc g w wb b ⟨n.val * 128 + k.val, by omega⟩ ⟨j.val, by omega⟩) (fun k j => ref x sh sc g w wb b ⟨n.val * 128 + k.val, by omega⟩ ⟨512 + j.val, by omega⟩)
      (fun i k => sw (ix3 q i k)) (fun i => sb (ix2 q i)) q i e := by
  refine Eq.trans (b := gelu (colU (pre x sh sc g w wb)) (ix3 b ⟨n.val * 128 + i.val, by omega⟩ ⟨q.val * 128 + e.val, by omega⟩) *
    join (mix (cut (ln (gelu (colV (pre x sh sc g w wb))))) sw sb) (ix3 b ⟨n.val * 128 + i.val, by omega⟩ ⟨q.val * 128 + e.val, by omega⟩)) rfl ?_
  rw [join_apply, mix_apply, gelu_apply, colU_apply, pre_apply]
  simp only [cut_apply, ln_apply, gelu_apply, colV_apply, pre_apply]
  rfl
theorem outZ_apply : outZ x sh sc g w wb d (ix3 b t ⟨q.val * 128 + e.val, by omega⟩) =
    Layer.lin (fun k : Fin 128 => ref x sh sc g w wb b t ⟨1024 + (q.val * 128 + k.val), by omega⟩) (fun k j => d (ix2 k j)) e := by
  unfold outZ
  rw [chan_apply]
  simp only [colZ_apply, pre_apply]

/-- The call's first result, read off its run. -/
theorem res_eq (m : (ℓ : Loc nD τ sig) → Buf (Elt Ideal) ℓ) (c : Dev nD) :
    Value.res_main_v79 m c = out (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) := by
  unfold Value.res_main_v79
  rfl
end Cert.Reference4Ideal.Gate
-- ==== Proof.GateArray.lean ====
module
public import proofs.«01_k».proof.Proof.GateBlock
public import proofs.«01_k».proof.Proof.GateRef
public import proofs.«01_k».proof.Proof.Gen.Kernel4Ideal.Value
@[expose] public section
set_option maxRecDepth 16384
noncomputable section

/-! # The arrays the gating projection leaves

The blocks a grid point reads, entry by entry, and the arrays all grid points leave: the reference's results. -/

namespace Cert.Kernel4Ideal.Gate
open Cert.Kernel4Ideal Cert.Kernel4Ideal.Gen Idealize.ShloMosaic Idealize.ShloMosaic.TcCoe Idealize.SL.Sem
open Idealize.ShloMosaic.Pipeline (Dat)

/-- The blocks' places at a grid point. -/
theorem idx : ∀ t : Fin cfg0.N,
    win0_0.index t = ![t.val / 16, t.val % 16, 0] ∧ win0_1.index t = ![t.val / 16, 0, 0] ∧ win0_2.index t = ![t.val / 16, 0, 0] ∧ win0_3.index t = ![0, 0] ∧
    win0_4.index t = ![0, 0] ∧ win0_5.index t = ![0, 0] ∧ win0_6.index t = ![0, 0, 0] ∧ win0_7.index t = ![0, 0] ∧ win0_8.index t = ![0, 0] ∧ win0_9.index t = ![0, 0] ∧
    win0_10.index t = ![t.val / 16, t.val % 16, 0] ∧ win0_11.index t = ![t.val / 16, t.val % 16, 0] ∧ win0_12.index t = ![t.val / 16, t.val % 16, 0] :=
  (by decide +kernel : ∀ t : Fin grid0.N, _)

variable (m : (ℓ : Loc nD τ sig) → Buf (Elt Ideal) ℓ) (c : Dev nD)

/-- The call's arguments. -/
abbrev arg0 : FVec Ideal S4x8192x1024 .f32 := m (c, Proc.tc.devRef main_arg0)
abbrev arg1 : FVec Ideal S4x1x1024 .f32 := m (c, Proc.tc.devRef main_arg1)
abbrev arg2 : FVec Ideal S4x1x1024 .f32 := m (c, Proc.tc.devRef main_arg2)
abbrev arg3 : FVec Ideal S1x1024 .f32 := m (c, Proc.tc.devRef main_arg3)
abbrev arg4 : FVec Ideal S1024x1536 .f32 := m (c, Proc.tc.devRef main_arg4)
abbrev arg5 : FVec Ideal S1x1536 .f32 := m (c, Proc.tc.devRef main_arg5)
abbrev arg6 : FVec Ideal S4x128x128 .f32 := m (c, Proc.tc.devRef main_arg6)
abbrev arg7 : FVec Ideal S4x128 .f32 := m (c, Proc.tc.devRef main_arg7)
abbrev arg8 : FVec Ideal S128x128 .f32 := m (c, Proc.tc.devRef main_arg8)
abbrev arg9 : FVec Ideal S128x128 .f32 := m (c, Proc.tc.devRef main_arg9)

theorem V_w (i : Fin 1024) (j : Fin 1536) : V m c main_v0 (ix2 i j) = arg4 m c (ix2 i j) := by
  entry_read
  pointwise
theorem V_sw (q : Fin 4) (i j : Fin 128) : V m c main_v1 (ix3 q i j) = arg6 m c (ix3 q i j) := by
  entry_read
  pointwise
theorem V_sb (i : Fin 128) (q : Fin 4) : V m c main_v2 (ix2 i q) = arg7 m c (ix2 q i) := by
  entry_read
  pointwise
theorem V_c (i j : Fin 128) : V m c main_v3 (ix2 i j) = arg8 m c (ix2 i j) := by
  entry_read
  pointwise
theorem V_s (i j : Fin 128) : V m c main_v4 (ix2 i j) = arg9 m c (ix2 i j) := by
  entry_read
  pointwise

section
variable (t : Fin cfg0.N) (b : Fin 4) (hb : b.val = t.val / 16) (r : Fin 512) (R : Fin 8192) (hR : R.val = t.val % 16 * 512 + r.val)
theorem blk_g (j : Fin 1024) : iblk m c 3 t (ix2 0 j) = arg3 m c (ix2 0 j) := by
  rw [arg3, ← V_main_arg3 m c]; blk_ext [iblk, idx t]
theorem blk_w (i : Fin 1024) (j : Fin 1536) : iblk m c 4 t (ix2 i j) = arg4 m c (ix2 i j) := by
  rw [← V_w m c]; blk_ext [iblk, idx t]
theorem blk_wb (j : Fin 1536) : iblk m c 5 t (ix2 0 j) = arg5 m c (ix2 0 j) := by
  rw [arg5, ← V_main_arg5 m c]; blk_ext [iblk, idx t]
theorem blk_sw (q : Fin 4) (i j : Fin 128) : iblk m c 6 t (ix3 q i j) = arg6 m c (ix3 q i j) := by
  rw [← V_sw m c]; blk_ext [iblk, idx t]
theorem blk_sb (i : Fin 128) (q : Fin 4) : iblk m c 7 t (ix2 i q) = arg7 m c (ix2 q i) := by
  rw [← V_sb m c]; blk_ext [iblk, idx t]
theorem blk_c (i j : Fin 128) : iblk m c 8 t (ix2 i j) = arg8 m c (ix2 i j) := by
  rw [← V_c m c]; blk_ext [iblk, idx t]
theorem blk_s (i j : Fin 128) : iblk m c 9 t (ix2 i j) = arg9 m c (ix2 i j) := by
  rw [← V_s m c]; blk_ext [iblk, idx t]
include hb
theorem blk_sh (j : Fin 1024) : iblk m c 1 t (ix3 0 0 j) = arg1 m c (ix3 b 0 j) := by
  rw [arg1, ← V_main_arg1 m c]; blk_ext [iblk, idx t, hb]
theorem blk_sc (j : Fin 1024) : iblk m c 2 t (ix3 0 0 j) = arg2 m c (ix3 b 0 j) := by
  rw [arg2, ← V_main_arg2 m c]; blk_ext [iblk, idx t, hb]
include hR
theorem blk_x (j : Fin 1024) : iblk m c 0 t (ix3 0 r j) = arg0 m c (ix3 b R j) := by
  rw [arg0, ← V_main_arg0 m c]; blk_ext [iblk, idx t, hb, hR]

theorem tok_eq (j : Fin 1536) : tok (iblk m c 0 t) (iblk m c 1 t) (iblk m c 2 t) (iblk m c 3 t) (iblk m c 4 t) (iblk m c 5 t) r j =
    Cert.Reference4Ideal.Gate.ref (arg0 m c) (arg1 m c) (arg2 m c) (arg3 m c) (arg4 m c) (arg5 m c) b R j := by
  have h0 := funext (blk_x m c t b hb r R hR)
  have h1 := funext (blk_sh m c t b hb)
  have h2 := funext (blk_sc m c t b hb)
  have h3 := funext (blk_g m c t)
  have h4 := funext fun i => funext (blk_w m c t i)
  unfold tok
  rw [h0, h1, h2, h3, h4, blk_wb m c t]
  rfl
end

/-- The reference's results on the call's arguments. -/
abbrev res : FVec Ideal S4x8192x512 .f32 :=
  Cert.Reference4Ideal.Gate.out (arg0 m c) (arg1 m c) (arg2 m c) (arg3 m c) (arg4 m c) (arg5 m c) (arg6 m c) (arg7 m c)
abbrev resC : FVec Ideal S4x8192x512 .f32 :=
  Cert.Reference4Ideal.Gate.outZ (arg0 m c) (arg1 m c) (arg2 m c) (arg3 m c) (arg4 m c) (arg5 m c) (arg8 m c)
abbrev resS : FVec Ideal S4x8192x512 .f32 :=
  Cert.Reference4Ideal.Gate.outZ (arg0 m c) (arg1 m c) (arg2 m c) (arg3 m c) (arg4 m c) (arg5 m c) (arg9 m c)

section
variable (t : Fin cfg0.N) (b : Fin 4) (hb : b.val = t.val / 16)
include hb

/-- What a grid point leaves of a gated entry is the reference's result there. -/
theorem point (a q : Fin 4) (i e : Fin 128) (n : Fin 64) (hn : n.val = t.val % 16 * 4 + a.val) :
    cell (k0_pay5 (F := Ideal) (k0_pay3 (F := Ideal) (iblk m c 0 t) (iblk m c 3 t) (iblk m c 1 t) (iblk m c 2 t) (iblk m c 4 t) (iblk m c 5 t))
        (k0_pay4 (F := Ideal) (iblk m c 0 t) (iblk m c 3 t) (iblk m c 1 t) (iblk m c 2 t) (iblk m c 4 t) (iblk m c 5 t)))
      (k0_pay6 (F := Ideal) (k0_pay2 (F := Ideal) (iblk m c 0 t) (iblk m c 3 t) (iblk m c 1 t) (iblk m c 2 t) (iblk m c 4 t) (iblk m c 5 t)))
      (iblk m c 6 t) (iblk m c 7 t) a q i e =
    res m c (ix3 b ⟨n.val * 128 + i.val, by omega⟩ ⟨q.val * 128 + e.val, by omega⟩) := by
  refine Eq.trans ?_ (Cert.Reference4Ideal.Gate.out_apply _ _ _ _ _ _ _ _ _ _ _ _ _).symm
  have hk := fun k : Fin 128 => tok_eq m c t b hb ⟨a.val * 128 + k.val, by omega⟩ ⟨n.val * 128 + k.val, by omega⟩ (by show n.val * 128 + k.val = t.val % 16 * 512 + (a.val * 128 + k.val); omega)
  unfold cell
  simp only [u_apply, v_apply, pre_apply, hk, blk_sw, blk_sb]
  rfl
theorem pointZ (d : FVec Ideal S128x128 .bf16) (d' : FVec Ideal S128x128 .f32) (hd : ∀ i j, d (ix2 i j) = d' (ix2 i j)) (q : Fin 4) (r : Fin 512) (e : Fin 128) (R : Fin 8192)
    (hR : R.val = t.val % 16 * 512 + r.val) :
    zcell (k0_pay31 (F := Ideal) (k0_pay2 (F := Ideal) (iblk m c 0 t) (iblk m c 3 t) (iblk m c 1 t) (iblk m c 2 t) (iblk m c 4 t) (iblk m c 5 t))) d q r e =
    Cert.Reference4Ideal.Gate.outZ (arg0 m c) (arg1 m c) (arg2 m c) (arg3 m c) (arg4 m c) (arg5 m c) d' (ix3 b R ⟨q.val * 128 + e.val, by omega⟩) := by
  refine Eq.trans ?_ (Cert.Reference4Ideal.Gate.outZ_apply _ _ _ _ _ _ _ _ _ _ _).symm
  have hk := tok_eq m c t b hb r R hR
  have hd' := funext fun i => funext (hd i)
  unfold zcell
  simp only [z_apply, pre_apply, hk]
  rw [hd']
end

theorem arr : (dats m 0 c).arrAt 10 cfg0.N = res m c := by
  refine (dats m 0 c).arrAt_eq_of_covers 10 _ (by decide +kernel) fun t hf y => ?_
  blk_simp
  rw [after0_10]
  have ht : t.val < 64 := lt_of_lt_of_eq t.isLt N_0
  have hr : (y 1).val < 512 := (y 1).isLt
  have hj : (y 2).val < 512 := (y 2).isLt
  have hy : y = (ix3 0 (show Fin 512 from y 1) (show Fin 512 from y 2) : S1x512x512.Idx) := by
    blk_ext
  have he : ((win0_10.blk t).view.emb y : S4x8192x512.Idx) =
      ix3 ⟨t.val / 16, by omega⟩ ⟨(t.val % 16 * 4 + (y 1).val / 128) * 128 + (y 1).val % 128, by omega⟩ ⟨(y 2).val / 128 * 128 + (y 2).val % 128, by omega⟩ := by
    blk_ext [idx t]
  refine Eq.trans ?_ (congrArg (res m c) he).symm
  refine (congrArg _ hy).trans ((body _ _ _ _ _ _ _ _ _ _ _ _).trans ?_)
  exact point m c t ⟨t.val / 16, by omega⟩ rfl _ _ _ _ ⟨t.val % 16 * 4 + (y 1).val / 128, by omega⟩ rfl

theorem arrC : (dats m 0 c).arrAt 11 cfg0.N = resC m c := by
  refine (dats m 0 c).arrAt_eq_of_covers 11 _ (by decide +kernel) fun t hf y => ?_
  blk_simp
  rw [after0_11]
  have ht : t.val < 64 := lt_of_lt_of_eq t.isLt N_0
  have hr : (y 1).val < 512 := (y 1).isLt
  have hj : (y 2).val < 512 := (y 2).isLt
  have hy : y = (ix3 0 (show Fin 512 from y 1) (show Fin 512 from y 2) : S1x512x512.Idx) := by
    blk_ext
  have he : ((win0_11.blk t).view.emb y : S4x8192x512.Idx) =
      ix3 ⟨t.val / 16, by omega⟩ ⟨t.val % 16 * 512 + (y 1).val, by omega⟩ ⟨(y 2).val / 128 * 128 + (y 2).val % 128, by omega⟩ := by
    blk_ext [idx t]
  refine Eq.trans ?_ (congrArg (resC m c) he).symm
  refine (congrArg _ hy).trans ((bodyC _ _ _ _ _ _ _ _ _ _ _ _).trans ?_)
  exact pointZ m c t ⟨t.val / 16, by omega⟩ rfl _ _ (blk_c m c t) _ _ _ ⟨t.val % 16 * 512 + (y 1).val, by omega⟩ rfl

theorem arrS : (dats m 0 c).arrAt 12 cfg0.N = resS m c := by
  refine (dats m 0 c).arrAt_eq_of_covers 12 _ (by decide +kernel) fun t hf y => ?_
  blk_simp
  rw [after0_12]
  have ht : t.val < 64 := lt_of_lt_of_eq t.isLt N_0
  have hr : (y 1).val < 512 := (y 1).isLt
  have hj : (y 2).val < 512 := (y 2).isLt
  have hy : y = (ix3 0 (show Fin 512 from y 1) (show Fin 512 from y 2) : S1x512x512.Idx) := by
    blk_ext
  have he : ((win0_12.blk t).view.emb y : S4x8192x512.Idx) =
      ix3 ⟨t.val / 16, by omega⟩ ⟨t.val % 16 * 512 + (y 1).val, by omega⟩ ⟨(y 2).val / 128 * 128 + (y 2).val % 128, by omega⟩ := by
    blk_ext [idx t]
  refine Eq.trans ?_ (congrArg (resS m c) he).symm
  refine (congrArg _ hy).trans ((bodyS _ _ _ _ _ _ _ _ _ _ _ _).trans ?_)
  exact pointZ m c t ⟨t.val / 16, by omega⟩ rfl _ _ (blk_s m c t) _ _ _ ⟨t.val % 16 * 512 + (y 1).val, by omega⟩ rfl
end Cert.Kernel4Ideal.Gate
-- ==== Proof.FinalArray.lean ====
module
public import proofs.«01_k».proof.Proof.Layer
public import proofs.«01_k».proof.Proof.Gen.Kernel5Ideal.Value
public import proofs.«01_k».proof.Proof.Gen.Reference5Ideal.Run
public import Idealize.ShloMosaic.Lib.Pipeline.ValueKit
@[expose] public section
set_option maxRecDepth 16384
noncomputable section

/-! # The norm that gives the result: what the call leaves is the reference's result -/

namespace Cert.Layer
/-- The token over the root of its mean square, times `g`. -/
def scaled (x g : Row 1024) : Row 1024 := fun j =>
  x j * Idealize.ShloMosaic.Ideal.rsqrt (Idealize.ShloMosaic.Ideal.div (∑ k, x k * x k) (Idealize.ShloMosaic.Ideal.ofBits .f32 0x44800000#32) + eps) * g j
end Cert.Layer

namespace Cert.Reference5Ideal.Final
open Cert.Reference5Ideal Cert.Reference5Ideal.Gen Idealize.ShloMosaic Idealize.ShloMosaic.TcCoe Idealize.SL.Sem

/-- The reference's result. -/
def out (x : FVec Ideal S4x8192x1024 .f32) (g : FVec Ideal S1024 .f32) : FVec Ideal S4x8192x1024 .f32 :=
  mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))

theorem out_apply (x : FVec Ideal S4x8192x1024 .f32) (g : FVec Ideal S1024 .f32) (b : Fin 4) (t : Fin 8192) (j : Fin 1024) :
    out x g (ix3 b t j) = Layer.scaled (fun k => x (ix3 b t k)) (fun k => g (ix1 k)) j := by
  pointwise [out, Layer.scaled]
end Cert.Reference5Ideal.Final

namespace Cert.Kernel5Ideal.Final
open Cert.Kernel5Ideal Cert.Kernel5Ideal.Gen Idealize.ShloMosaic Idealize.ShloMosaic.TcCoe Idealize.SL.Sem
open Idealize.ShloMosaic.Pipeline (Dat)

theorem body (x : FVec Ideal S1x512x1024 .f32) (g : FVec Ideal S1x1024 .f32) (r : Fin 512) (j : Fin 1024) :
    out0_2 (F := Ideal) x g (ix3 0 r j) = Layer.scaled (fun k => x (ix3 0 r k)) (fun k => g (ix2 0 k)) j := by
  frame_out
  pointwise [k0_pay1, Layer.scaled]

/-- The blocks' places at a grid point. -/
theorem idx : ∀ t : Fin cfg0.N, win0_0.index t = ![t.val / 16, t.val % 16, 0] ∧ win0_1.index t = ![0, 0] ∧ win0_2.index t = ![t.val / 16, t.val % 16, 0] :=
  (by decide +kernel : ∀ t : Fin grid0.N, _)

variable (m : (ℓ : Loc nD τ sig) → Buf (Elt Ideal) ℓ) (c : Dev nD)

/-- The call's arguments. -/
abbrev arg0 : FVec Ideal S4x8192x1024 .f32 := m (c, Proc.tc.devRef main_arg0)
abbrev arg1 : FVec Ideal S1024 .f32 := m (c, Proc.tc.devRef main_arg1)

theorem V_g (j : Fin 1024) : V m c main_v0 (ix2 0 j) = arg1 m c (ix1 j) := by
  entry_read
  pointwise
theorem blk_g (t : Fin cfg0.N) (j : Fin 1024) : iblk m c 1 t (ix2 0 j) = arg1 m c (ix1 j) := by
  rw [← V_g m c]; blk_ext [iblk, idx t]
theorem blk_x (t : Fin cfg0.N) (b : Fin 4) (hb : b.val = t.val / 16) (r : Fin 512) (R : Fin 8192) (hR : R.val = t.val % 16 * 512 + r.val) (j : Fin 1024) :
    iblk m c 0 t (ix3 0 r j) = arg0 m c (ix3 b R j) := by
  rw [arg0, ← V_main_arg0 m c]; blk_ext [iblk, idx t, hb, hR]

/-- The reference's result on the call's arguments. -/
abbrev res : FVec Ideal S4x8192x1024 .f32 := Cert.Reference5Ideal.Final.out (arg0 m c) (arg1 m c)

theorem arr : (dats m 0 c).arrAt 2 cfg0.N = res m c := by
  refine (dats m 0 c).arrAt_eq_of_covers 2 _ (by decide +kernel) fun t hf y => ?_
  blk_simp
  rw [after0_2]
  have ht : t.val < 64 := lt_of_lt_of_eq t.isLt N_0
  have hr : (y 1).val < 512 := (y 1).isLt
  have hj : (y 2).val < 1024 := (y 2).isLt
  have hy : y = (ix3 0 (show Fin 512 from y 1) (show Fin 1024 from y 2) : S1x512x1024.Idx) := by
    blk_ext
  have he : ((win0_2.blk t).view.emb y : S4x8192x1024.Idx) =
      ix3 ⟨t.val / 16, by omega⟩ ⟨t.val % 16 * 512 + (y 1).val, by omega⟩ (show Fin 1024 from y 2) := by
    blk_ext [idx t]
  refine Eq.trans ?_ (congrArg (res m c) he).symm
  refine (congrArg _ hy).trans ((body _ _ _ _).trans (Eq.trans ?_ (Cert.Reference5Ideal.Final.out_apply _ _ _ _ _).symm))
  rw [funext (blk_x m c t ⟨t.val / 16, by omega⟩ rfl (show Fin 512 from y 1) ⟨t.val % 16 * 512 + (y 1).val, by omega⟩ rfl), funext (blk_g m c t)]
end Cert.Kernel5Ideal.Final
-- ==== Proof.ModArray.lean ====
module
public import proofs.«01_k».proof.Proof.Layer
public import proofs.«01_k».proof.Proof.Gen.Kernel6Ideal.Value
public import proofs.«01_k».proof.Proof.Gen.Reference6Ideal.Run
public import Idealize.ShloMosaic.Lib.Pipeline.ValueKit
@[expose] public section
set_option maxRecDepth 16384
noncomputable section

/-! # The modulation of all layers: what the call leaves is the reference's result -/

namespace Cert.Layer
/-- One entry of a layer's modulation: the conditioning row through the smooth unit, times a column, plus the bias. -/
def modul (c w : Row 1024) (b : EReal) : EReal := (∑ k, c k * Idealize.ShloMosaic.Ideal.logistic (c k) * w k) + b
end Cert.Layer

namespace Cert.Reference6Ideal.Mod
open Cert.Reference6Ideal Cert.Reference6Ideal.Gen Idealize.ShloMosaic Idealize.ShloMosaic.TcCoe Idealize.SL.Sem

/-- The conditioning rows through the smooth unit. -/
def silu (c : FVec Ideal S8x1024 .f32) : FVec Ideal S8x1024 .f32 :=
  mulf c (Host.divf (broadcastInDim S8x1024 ![] bcast_S_S8x1024 (constant S_ .f32 0x3F800000#32)) (addf (broadcastInDim S8x1024 ![] bcast_S_S8x1024 (constant S_ .f32 0x3F800000#32)) (Host.exp (Host.negf c))))
/-- The reference's result. -/
def out (c : FVec Ideal S8x1024 .f32) (w : FVec Ideal S4x1024x6144 .f32) (b : FVec Ideal S4x6144 .f32) : FVec Ideal S4x8x6144 .f32 :=
  addf (transpose S4x8x6144 [0, 2, 1] (Host.dotGeneral dot_S4x1024x6144_S8x1024_S4x6144x8_1_1_02_0_n_n none w (silu c)) transposes_S4x6144x8_S4x8x6144_0_2_1) (broadcastInDim S4x8x6144 ![0, 1, 2] bcast_S4x1x6144_S4x8x6144_0_1_2 (broadcastInDim S4x1x6144 ![0, 2] bcast_S4x6144_S4x1x6144_0_2 b))

variable (c : FVec Ideal S8x1024 .f32) (w : FVec Ideal S4x1024x6144 .f32) (b : FVec Ideal S4x6144 .f32)

theorem silu_apply (r : Fin 8) (k : Fin 1024) : silu c (ix2 r k) = c (ix2 r k) * Ideal.logistic (c (ix2 r k)) := by
  pointwise [silu]
  rfl
theorem out_apply (l : Fin 4) (r : Fin 8) (j : Fin 6144) : out c w b (ix3 l r j) = Layer.modul (fun k => c (ix2 r k)) (fun k => w (ix3 l k j)) (b (ix2 l j)) := by
  have h : out c w b (ix3 l r j) = (∑ k : Fin 1024, w (ix3 l k j) * silu c (ix2 r k)) + b (ix2 l j) := by
    pointwise [out]
  rw [h]
  unfold Layer.modul
  refine congrArg (· + _) (Finset.sum_congr rfl fun k _ => ?_)
  rw [silu_apply, mul_comm]
end Cert.Reference6Ideal.Mod

namespace Cert.Kernel6Ideal.Mod
open Cert.Kernel6Ideal Cert.Kernel6Ideal.Gen Idealize.ShloMosaic Idealize.ShloMosaic.TcCoe Idealize.SL.Sem
open Idealize.ShloMosaic.Pipeline (Dat)

theorem body (x : FVec Ideal S8x1024 .f32) (w : FVec Ideal S1x1024x1024 .f32) (b : FVec Ideal S1x1x1024 .f32) (r : Fin 8) (j : Fin 1024) :
    out0_3 (F := Ideal) x w b (ix3 0 r j) = Layer.modul (fun k => x (ix2 r k)) (fun k => w (ix3 0 k j)) (b (ix3 0 0 j)) := by
  frame_out
  pointwise [k0_pay1, Layer.modul]

/-- The blocks' places at a grid point. -/
theorem idx : ∀ t : Fin cfg0.N, win0_0.index t = ![0, 0] ∧ win0_1.index t = ![t.val / 6, 0, t.val % 6] ∧ win0_2.index t = ![t.val / 6, 0, t.val % 6] ∧ win0_3.index t = ![t.val / 6, 0, t.val % 6] :=
  (by decide +kernel : ∀ t : Fin grid0.N, _)

variable (m : (ℓ : Loc nD τ sig) → Buf (Elt Ideal) ℓ) (c : Dev nD)

/-- The call's arguments. -/
abbrev arg0 : FVec Ideal S8x1024 .f32 := m (c, Proc.tc.devRef main_arg0)
abbrev arg1 : FVec Ideal S4x1024x6144 .f32 := m (c, Proc.tc.devRef main_arg1)
abbrev arg2 : FVec Ideal S4x6144 .f32 := m (c, Proc.tc.devRef main_arg2)

theorem V_b (l : Fin 4) (j : Fin 6144) : V m c main_v0 (ix3 l 0 j) = arg2 m c (ix2 l j) := by
  entry_read
  pointwise

section
variable (t : Fin cfg0.N)
theorem blk_c (r : Fin 8) (j : Fin 1024) : iblk m c 0 t (ix2 r j) = arg0 m c (ix2 r j) := by
  rw [arg0, ← V_main_arg0 m c]; blk_ext [iblk, idx t]
variable (l : Fin 4) (hl : l.val = t.val / 6) (j : Fin 1024) (J : Fin 6144) (hJ : J.val = t.val % 6 * 1024 + j.val)
include hl hJ
theorem blk_w (k : Fin 1024) : iblk m c 1 t (ix3 0 k j) = arg1 m c (ix3 l k J) := by
  rw [arg1, ← V_main_arg1 m c]; blk_ext [iblk, idx t, hl, hJ]
theorem blk_b : iblk m c 2 t (ix3 0 0 j) = arg2 m c (ix2 l J) := by
  rw [← V_b m c]; blk_ext [iblk, idx t, hl, hJ]
end

/-- The reference's result on the call's arguments. -/
abbrev res : FVec Ideal S4x8x6144 .f32 := Cert.Reference6Ideal.Mod.out (arg0 m c) (arg1 m c) (arg2 m c)

theorem arr : (dats m 0 c).arrAt 3 cfg0.N = res m c := by
  refine (dats m 0 c).arrAt_eq_of_covers 3 _ (by decide +kernel) fun t hf y => ?_
  blk_simp
  rw [after0_3]
  have ht : t.val < 24 := lt_of_lt_of_eq t.isLt N_0
  have hr : (y 1).val < 8 := (y 1).isLt
  have hj : (y 2).val < 1024 := (y 2).isLt
  have hy : y = (ix3 0 (show Fin 8 from y 1) (show Fin 1024 from y 2) : S1x8x1024.Idx) := by
    blk_ext
  have he : ((win0_3.blk t).view.emb y : S4x8x6144.Idx) =
      ix3 ⟨t.val / 6, by omega⟩ (show Fin 8 from y 1) ⟨t.val % 6 * 1024 + (y 2).val, by omega⟩ := by
    blk_ext [idx t]
  refine Eq.trans ?_ (congrArg (res m c) he).symm
  refine (congrArg _ hy).trans ((body _ _ _ _ _).trans (Eq.trans ?_ (Cert.Reference6Ideal.Mod.out_apply _ _ _ _ _ _).symm))
  have hw := blk_w m c t ⟨t.val / 6, by omega⟩ rfl (show Fin 1024 from y 2) ⟨t.val % 6 * 1024 + (y 2).val, by omega⟩ rfl
  have hb := blk_b m c t ⟨t.val / 6, by omega⟩ rfl (show Fin 1024 from y 2) ⟨t.val % 6 * 1024 + (y 2).val, by omega⟩ rfl
  rw [funext (blk_c m c t _), funext hw, hb]
end Cert.Kernel6Ideal.Mod
-- ==== Proof.PosArray.lean ====
module
public import proofs.«01_k».proof.Proof.Layer
public import proofs.«01_k».proof.Proof.Gen.Kernel7Ideal.Value
public import proofs.«01_k».proof.Proof.Gen.Reference7Ideal.Run
public import Idealize.ShloMosaic.Lib.Pipeline.ValueKit
@[expose] public section
set_option maxRecDepth 16384
noncomputable section

/-! # The position embedding: what the call leaves is the reference's result -/

namespace Cert.Reference7Ideal.Pos
open Cert.Reference7Ideal Cert.Reference7Ideal.Gen Idealize.ShloMosaic Idealize.ShloMosaic.TcCoe Idealize.SL.Sem

/-- The frequencies. -/
def freq : FVec Ideal S256 .f32 := Host.divf (broadcastInDim S256 ![] bcast_S_S256 (constant S_ .f32 0x3F800000#32)) (Host.powf (broadcastInDim S256 ![] bcast_S_S256 (constant S_ .f32 0x461C4000#32)) (Host.divf (sitofp .f32 (iotaInDim S256 32 0)) (broadcastInDim S256 ![] bcast_S_S256 (constant S_ .f32 0x43800000#32))))
/-- The row of each token. -/
def row : FVec Ideal S8192 .f32 := shapeCast _ (broadcastInDim S128x64 ![0] bcast_S128_S128x64_0 (sitofp .f32 (iotaInDim S128 32 0))) shapeCasts_S128x64_S8192
/-- The column of each token. -/
def col : FVec Ideal S8192 .f32 := shapeCast _ (broadcastInDim S128x64 ![0, 1] bcast_S1x64_S128x64_0_1 (shapeCast _ (sitofp .f32 (iotaInDim S64 32 0)) shapeCasts_S64_S1x64)) shapeCasts_S128x64_S8192
/-- A place times the frequencies. -/
def angle (p : FVec Ideal S8192 .f32) : FVec Ideal S8192x256 .f32 :=
  mulf (broadcastInDim S8192x256 ![0, 1] bcast_S8192x1_S8192x256_0_1 (broadcastInDim S8192x1 ![0] bcast_S8192_S8192x1_0 p)) (broadcastInDim S8192x256 ![0, 1] bcast_S1x256_S8192x256_0_1 (broadcastInDim S1x256 ![1] bcast_S256_S1x256_1 freq))
/-- The embedding of each token's place. -/
def pos : FVec Ideal S8192x1024 .f32 :=
  concatenate S8192x1024 1 [⟨S8192x256, Host.sin (angle row)⟩, ⟨S8192x256, Host.cos (angle row)⟩, ⟨S8192x256, Host.sin (angle col)⟩, ⟨S8192x256, Host.cos (angle col)⟩] concatenates_S8192x256_S8192x256_S8192x256_S8192x256_S8192x1024_d1
/-- The tokens plus the embedding. -/
def out (x : FVec Ideal S4x8192x1024 .f32) (p : FVec Ideal S8192x1024 .f32) : FVec Ideal S4x8192x1024 .f32 :=
  addf x (broadcastInDim S4x8192x1024 ![0, 1, 2] bcast_S1x8192x1024_S4x8192x1024_0_1_2 (broadcastInDim S1x8192x1024 ![1, 2] bcast_S8192x1024_S1x8192x1024_1_2 p))

theorem out_apply (x : FVec Ideal S4x8192x1024 .f32) (p : FVec Ideal S8192x1024 .f32) (b : Fin 4) (t : Fin 8192) (j : Fin 1024) :
    out x p (ix3 b t j) = x (ix3 b t j) + p (ix2 t j) := by
  pointwise [out]
end Cert.Reference7Ideal.Pos

namespace Cert.Kernel7Ideal.Pos
open Cert.Kernel7Ideal Cert.Kernel7Ideal.Gen Idealize.ShloMosaic Idealize.ShloMosaic.TcCoe Idealize.SL.Sem
open Idealize.ShloMosaic.Pipeline (Dat)

theorem body (x : FVec Ideal S1x512x1024 .f32) (p : FVec Ideal S512x1024 .f32) (r : Fin 512) (j : Fin 1024) :
    out0_2 (F := Ideal) x p (ix3 0 r j) = x (ix3 0 r j) + p (ix2 r j) := by
  frame_out
  pointwise [k0_pay1]

/-- The blocks' places at a grid point. -/
theorem idx : ∀ t : Fin cfg0.N, win0_0.index t = ![t.val / 16, t.val % 16, 0] ∧ win0_1.index t = ![t.val % 16, 0] ∧ win0_2.index t = ![t.val / 16, t.val % 16, 0] :=
  (by decide +kernel : ∀ t : Fin grid0.N, _)

variable (m : (ℓ : Loc nD τ sig) → Buf (Elt Ideal) ℓ) (c : Dev nD)

/-- The call's argument. -/
abbrev arg0 : FVec Ideal S4x8192x1024 .f32 := m (c, Proc.tc.devRef main_arg0)

set_option maxHeartbeats 4000000 in
/-- The host's embedding is the reference's. -/
theorem V_pos : V m c main_v28 = Cert.Reference7Ideal.Pos.pos := by
  show StableHlo.after hostOps0 (fun b => m (c, b)) (Proc.devRef .tc main_v28) = _
  after_results_simp <;> (try dsimp only [Matrix.cons_val]) <;> (try after_results_simp) <;> rfl
theorem blk_p (t : Fin cfg0.N) (r : Fin 512) (R : Fin 8192) (hR : R.val = t.val % 16 * 512 + r.val) (j : Fin 1024) :
    iblk m c 1 t (ix2 r j) = Cert.Reference7Ideal.Pos.pos (ix2 R j) := by
  rw [← V_pos m c]; blk_ext [iblk, idx t, hR]
theorem blk_x (t : Fin cfg0.N) (b : Fin 4) (hb : b.val = t.val / 16) (r : Fin 512) (R : Fin 8192) (hR : R.val = t.val % 16 * 512 + r.val) (j : Fin 1024) :
    iblk m c 0 t (ix3 0 r j) = arg0 m c (ix3 b R j) := by
  rw [arg0, ← V_main_arg0 m c]; blk_ext [iblk, idx t, hb, hR]

/-- The reference's result on the call's argument. -/
abbrev res : FVec Ideal S4x8192x1024 .f32 := Cert.Reference7Ideal.Pos.out (arg0 m c) Cert.Reference7Ideal.Pos.pos

theorem arr : (dats m 0 c).arrAt 2 cfg0.N = res m c := by
  refine (dats m 0 c).arrAt_eq_of_covers 2 _ (by decide +kernel) fun t hf y => ?_
  blk_simp
  rw [after0_2]
  have ht : t.val < 64 := lt_of_lt_of_eq t.isLt N_0
  have hr : (y 1).val < 512 := (y 1).isLt
  have hj : (y 2).val < 1024 := (y 2).isLt
  have hy : y = (ix3 0 (show Fin 512 from y 1) (show Fin 1024 from y 2) : S1x512x1024.Idx) := by
    blk_ext
  have he : ((win0_2.blk t).view.emb y : S4x8192x1024.Idx) =
      ix3 ⟨t.val / 16, by omega⟩ ⟨t.val % 16 * 512 + (y 1).val, by omega⟩ (show Fin 1024 from y 2) := by
    blk_ext [idx t]
  refine Eq.trans ?_ (congrArg (res m c) he).symm
  refine (congrArg _ hy).trans ((body _ _ _ _).trans (Eq.trans ?_ (Cert.Reference7Ideal.Pos.out_apply _ _ _ _ _).symm))
  rw [blk_x m c t ⟨t.val / 16, by omega⟩ rfl (show Fin 512 from y 1) ⟨t.val % 16 * 512 + (y 1).val, by omega⟩ rfl,
    blk_p m c t (show Fin 512 from y 1) ⟨t.val % 16 * 512 + (y 1).val, by omega⟩ rfl]
end Cert.Kernel7Ideal.Pos
-- ==== Proof.Fourier.lean ====
module
public import proofs.«01_k».proof.Proof.Layer
@[expose] public section
noncomputable section

/-! # Sums in two halves, as the Fourier calls take them -/

namespace Cert.Fourier
open Cert.Layer (Row)

/-- One matrix row on the one array's column plus another row on the other's. -/
def pair {n : ℕ} (c a s b : Row n) : EReal := ∑ k, c k * a k + ∑ k, s k * b k

/-- A sum over twice as many terms is the sum of its halves. -/
theorem sum_halves {n N : ℕ} (h : N = n + n) (f : Fin N → EReal) :
    ∑ k, f k = ∑ k : Fin n, f ⟨k.val, by omega⟩ + ∑ k : Fin n, f ⟨n + k.val, by omega⟩ := by
  subst h
  exact Fin.sum_univ_add f
end Cert.Fourier
-- ==== Proof.Stage1Array.lean ====
module
public import proofs.«01_k».proof.Proof.Fourier
public import proofs.«01_k».proof.Proof.Gen.Kernel8Ideal.Value
public import proofs.«01_k».proof.Proof.Gen.Reference8Ideal.Run
public import Idealize.ShloMosaic.Lib.Pipeline.ValueKit
@[expose] public section
set_option maxRecDepth 16384
noncomputable section

/-! # The first Fourier stage: what the call leaves is the reference's result -/

namespace Cert.Reference8Ideal.Stage1
open Cert.Reference8Ideal Cert.Reference8Ideal.Gen Idealize.ShloMosaic Idealize.ShloMosaic.TcCoe Idealize.SL.Sem

/-- A matrix on one array plus another on the other. -/
def rows (a b : FVec Ideal S4x64x65536 .f32) (u v : FVec Ideal S64x64 .f32) : FVec Ideal S4x64x65536 .f32 :=
  addf (transpose S4x64x65536 [0, 2, 1] (Host.dotGeneral dot_S4x64x65536_S64x64_S4x65536x64_1_1_02_0_n_n none a u) transposes_S4x65536x64_S4x64x65536_0_2_1)
    (transpose S4x64x65536 [0, 2, 1] (Host.dotGeneral dot_S4x64x65536_S64x64_S4x65536x64_1_1_02_0_n_n none b v) transposes_S4x65536x64_S4x64x65536_0_2_1)
/-- The reference's result. -/
def out (a b : FVec Ideal S4x64x65536 .f32) (c s : FVec Ideal S64x64 .f32) : FVec Ideal S4x128x65536 .f32 :=
  concatenate S4x128x65536 1 [⟨S4x64x65536, rows a b c (Host.negf s)⟩, ⟨S4x64x65536, rows a b (Host.negf s) (Host.negf c)⟩] concatenates_S4x64x65536_S4x64x65536_S4x128x65536_d1

variable (a b : FVec Ideal S4x64x65536 .f32) (c s : FVec Ideal S64x64 .f32)

theorem rows_apply (u v : FVec Ideal S64x64 .f32) (l : Fin 4) (t : Fin 64) (j : Fin 65536) : rows a b u v (ix3 l t j) =
    Fourier.pair (fun k => u (ix2 t k)) (fun k => a (ix3 l k j)) (fun k => v (ix2 t k)) (fun k => b (ix3 l k j)) := by
  have h : rows a b u v (ix3 l t j) = (∑ k : Fin 64, a (ix3 l k j) * u (ix2 t k)) + ∑ k : Fin 64, b (ix3 l k j) * v (ix2 t k) := by
    pointwise [rows]
  rw [h]
  unfold Fourier.pair
  exact congrArg₂ (· + ·) (Finset.sum_congr rfl fun k _ => mul_comm _ _) (Finset.sum_congr rfl fun k _ => mul_comm _ _)

/-- The left half of row `R` of the two matrices side by side, each above its partner. -/
def left (R : Fin 128) (k : Fin 64) : EReal := if h : R.val < 64 then c (ix2 ⟨R.val, h⟩ k) else -s (ix2 ⟨R.val - 64, by omega⟩ k)
/-- The right half. -/
def right (R : Fin 128) (k : Fin 64) : EReal := if h : R.val < 64 then -s (ix2 ⟨R.val, h⟩ k) else -c (ix2 ⟨R.val - 64, by omega⟩ k)

theorem out_apply (l : Fin 4) (R : Fin 128) (j : Fin 65536) : out a b c s (ix3 l R j) =
    Fourier.pair (left c s R) (fun k => a (ix3 l k j)) (right c s R) (fun k => b (ix3 l k j)) := by
  have h : out a b c s (ix3 l R j) = if h : R.val < 64 then rows a b c (Host.negf s) (ix3 l ⟨R.val, h⟩ j) else rows a b (Host.negf s) (Host.negf c) (ix3 l ⟨R.val - 64, by omega⟩ j) := by
    pointwise [out]
  refine h.trans ?_
  by_cases hR : R.val < 64
  · rw [dif_pos hR, rows_apply]
    refine congr (congr (congr (congrArg Fourier.pair (funext fun k => ?_)) rfl) (funext fun k => ?_)) rfl
    · rw [left, dif_pos hR]
    · rw [right, dif_pos hR]; rfl
  · rw [dif_neg hR, rows_apply]
    refine congr (congr (congr (congrArg Fourier.pair (funext fun k => ?_)) rfl) (funext fun k => ?_)) rfl
    · rw [left, dif_neg hR]; rfl
    · rw [right, dif_neg hR]; rfl
end Cert.Reference8Ideal.Stage1

namespace Cert.Kernel8Ideal.Stage1
open Cert.Kernel8Ideal Cert.Kernel8Ideal.Gen Idealize.ShloMosaic Idealize.ShloMosaic.TcCoe Idealize.SL.Sem
open Idealize.ShloMosaic.Pipeline (Dat)

theorem body (a b : FVec Ideal S1x64x16384 .f32) (w : FVec Ideal S128x128 .bf16) (r : Fin 128) (j : Fin 16384) :
    out0_3 (F := Ideal) a b w (ix3 0 r j) = Fourier.pair (n := 64) (fun k => w (ix2 r ⟨k.val, by omega⟩)) (fun k => a (ix3 0 k j))
      (fun k => w (ix2 r ⟨64 + k.val, by omega⟩)) (fun k => b (ix3 0 k j)) := by
  frame_out
  have h : k0_pay1 (F := Ideal) a b w (ix3 0 r j) = ∑ k : Fin 128, w (ix2 r k) * (if h : k.val < 64 then a (ix3 0 ⟨k.val, h⟩ j) else b (ix3 0 ⟨k.val - 64, by omega⟩ j)) := by
    pointwise [k0_pay1]
  refine h.trans ?_
  rw [Fourier.sum_halves (n := 64) rfl]
  unfold Fourier.pair
  refine congrArg₂ (· + ·) (Finset.sum_congr rfl fun k _ => ?_) (Finset.sum_congr rfl fun k _ => ?_)
  · rw [dif_pos k.isLt]
  · rw [dif_neg (show ¬ 64 + k.val < 64 by omega)]
    simp only [Nat.add_sub_cancel_left]

/-- The blocks' places at a grid point. -/
theorem idx : ∀ t : Fin cfg0.N, win0_0.index t = ![t.val / 4, 0, t.val % 4] ∧ win0_1.index t = ![t.val / 4, 0, t.val % 4] ∧ win0_2.index t = ![0, 0] ∧ win0_3.index t = ![t.val / 4, 0, t.val % 4] :=
  (by decide +kernel : ∀ t : Fin grid0.N, _)

variable (m : (ℓ : Loc nD τ sig) → Buf (Elt Ideal) ℓ) (c : Dev nD)

/-- The call's arguments. -/
abbrev arg0 : FVec Ideal S4x64x65536 .f32 := m (c, Proc.tc.devRef main_arg0)
abbrev arg1 : FVec Ideal S4x64x65536 .f32 := m (c, Proc.tc.devRef main_arg1)
abbrev arg2 : FVec Ideal S64x64 .f32 := m (c, Proc.tc.devRef main_arg2)
abbrev arg3 : FVec Ideal S64x64 .f32 := m (c, Proc.tc.devRef main_arg3)

theorem V_left (R : Fin 128) (k : Fin 64) : V m c main_v6 (ix2 R ⟨k.val, by omega⟩) = Cert.Reference8Ideal.Stage1.left (arg2 m c) (arg3 m c) R k := by
  entry_read
  pointwise [Cert.Reference8Ideal.Stage1.left]
theorem V_right (R : Fin 128) (k : Fin 64) : V m c main_v6 (ix2 R ⟨64 + k.val, by omega⟩) = Cert.Reference8Ideal.Stage1.right (arg2 m c) (arg3 m c) R k := by
  entry_read
  pointwise [Cert.Reference8Ideal.Stage1.right]

section
variable (t : Fin cfg0.N)
theorem blk_left (R : Fin 128) (k : Fin 64) : iblk m c 2 t (ix2 R ⟨k.val, by omega⟩) = Cert.Reference8Ideal.Stage1.left (arg2 m c) (arg3 m c) R k := by
  rw [← V_left m c]; blk_ext [iblk, idx t]
theorem blk_right (R : Fin 128) (k : Fin 64) : iblk m c 2 t (ix2 R ⟨64 + k.val, by omega⟩) = Cert.Reference8Ideal.Stage1.right (arg2 m c) (arg3 m c) R k := by
  rw [← V_right m c]; blk_ext [iblk, idx t]
variable (l : Fin 4) (hl : l.val = t.val / 4) (k : Fin 64) (j : Fin 16384) (J : Fin 65536) (hJ : J.val = t.val % 4 * 16384 + j.val)
include hl hJ
theorem blk_a : iblk m c 0 t (ix3 0 k j) = arg0 m c (ix3 l k J) := by
  rw [arg0, ← V_main_arg0 m c]; blk_ext [iblk, idx t, hl, hJ]
theorem blk_b : iblk m c 1 t (ix3 0 k j) = arg1 m c (ix3 l k J) := by
  rw [arg1, ← V_main_arg1 m c]; blk_ext [iblk, idx t, hl, hJ]
end

/-- The reference's result on the call's arguments. -/
abbrev res : FVec Ideal S4x128x65536 .f32 := Cert.Reference8Ideal.Stage1.out (arg0 m c) (arg1 m c) (arg2 m c) (arg3 m c)

theorem arr : (dats m 0 c).arrAt 3 cfg0.N = res m c := by
  refine (dats m 0 c).arrAt_eq_of_covers 3 _ (by decide +kernel) fun t hf y => ?_
  blk_simp
  rw [after0_3]
  have ht : t.val < 16 := lt_of_lt_of_eq t.isLt N_0
  have hr : (y 1).val < 128 := (y 1).isLt
  have hj : (y 2).val < 16384 := (y 2).isLt
  have hy : y = (ix3 0 (show Fin 128 from y 1) (show Fin 16384 from y 2) : S1x128x16384.Idx) := by
    blk_ext
  have he : ((win0_3.blk t).view.emb y : S4x128x65536.Idx) =
      ix3 ⟨t.val / 4, by omega⟩ (show Fin 128 from y 1) ⟨t.val % 4 * 16384 + (y 2).val, by omega⟩ := by
    blk_ext [idx t]
  refine Eq.trans ?_ (congrArg (res m c) he).symm
  refine (congrArg _ hy).trans ((body _ _ _ _ _).trans (Eq.trans ?_ (Cert.Reference8Ideal.Stage1.out_apply _ _ _ _ _ _ _).symm))
  exact congr (congr (congr (congrArg Fourier.pair (funext fun k => blk_left m c t _ k)) (funext fun k => blk_a m c t ⟨t.val / 4, by omega⟩ rfl k _ ⟨t.val % 4 * 16384 + (y 2).val, by omega⟩ rfl))
    (funext fun k => blk_right m c t _ k)) (funext fun k => blk_b m c t ⟨t.val / 4, by omega⟩ rfl k _ ⟨t.val % 4 * 16384 + (y 2).val, by omega⟩ rfl)
end Cert.Kernel8Ideal.Stage1
-- ==== Proof.Stage2Array.lean ====
module
public import proofs.«01_k».proof.Proof.Fourier
public import proofs.«01_k».proof.Proof.Gen.Kernel9Ideal.Value
public import proofs.«01_k».proof.Proof.Gen.Reference9Ideal.Run
public import Idealize.ShloMosaic.Lib.Pipeline.ValueKit
@[expose] public section
set_option maxRecDepth 16384
noncomputable section

/-! # The second Fourier stage: what the call leaves is the reference's result -/

namespace Cert.Reference9Ideal.Stage2
open Cert.Reference9Ideal Cert.Reference9Ideal.Gen Idealize.ShloMosaic Idealize.ShloMosaic.TcCoe Idealize.SL.Sem

/-- The real parts. -/
def re (x : FVec Ideal S4x2x64x128x512 .f32) : FVec Ideal S4x64x128x512 .f32 :=
  shapeCast _ (extractStridedSlice S4x1x64x128x512 ![0, 0, 0, 0, 0] x slices_S4x2x64x128x512_S4x1x64x128x512_0_0_0_0_0) shapeCasts_S4x1x64x128x512_S4x64x128x512
/-- The imaginary parts. -/
def im (x : FVec Ideal S4x2x64x128x512 .f32) : FVec Ideal S4x64x128x512 .f32 :=
  shapeCast _ (extractStridedSlice S4x1x64x128x512 ![0, 1, 0, 0, 0] x slices_S4x2x64x128x512_S4x1x64x128x512_0_1_0_0_0) shapeCasts_S4x1x64x128x512_S4x64x128x512
/-- A table of factors on all batch rows and channels. -/
def spread (u : FVec Ideal S64x128 .f32) : FVec Ideal S4x64x128x512 .f32 :=
  broadcastInDim S4x64x128x512 ![0, 1, 2, 3] bcast_S1x64x128x1_S4x64x128x512_0_1_2_3 (broadcastInDim S1x64x128x1 ![1, 2, 3] bcast_S64x128x1_S1x64x128x1_1_2_3 (broadcastInDim S64x128x1 ![0, 1] bcast_S64x128_S64x128x1_0_1 u))
/-- A matrix on the second axis. -/
def rows (y : FVec Ideal S4x64x128x512 .f32) (u : FVec Ideal S128x128 .f32) : FVec Ideal S4x128x64x512 .f32 :=
  transpose S4x128x64x512 [0, 3, 1, 2] (Host.dotGeneral dot_S4x64x128x512_S128x128_S4x64x512x128_2_1_013_0_n_n none y u) transposes_S4x64x512x128_S4x128x64x512_0_3_1_2
/-- The reference's result. -/
def out (x : FVec Ideal S4x2x64x128x512 .f32) (tc ts : FVec Ideal S64x128 .f32) (c s : FVec Ideal S128x128 .f32) : FVec Ideal S4x128x64x512 .f32 :=
  addf (rows (addf (mulf (re x) (spread tc)) (mulf (im x) (spread ts))) c) (rows (subf (mulf (im x) (spread tc)) (mulf (re x) (spread ts))) s)

variable (x : FVec Ideal S4x2x64x128x512 .f32) (tc ts : FVec Ideal S64x128 .f32) (c s : FVec Ideal S128x128 .f32) (l : Fin 4) (k : Fin 64) (n : Fin 128) (j : Fin 512)

theorem re_apply : re x (ix4 l k n j) = x (ix5 l 0 k n j) := by
  pointwise [re]
theorem im_apply : im x (ix4 l k n j) = x (ix5 l 1 k n j) := by
  pointwise [im]
theorem spread_apply : spread tc (ix4 l k n j) = tc (ix2 k n) := by
  pointwise [spread]
theorem rows_apply (y : FVec Ideal S4x64x128x512 .f32) (p : Fin 128) : rows y c (ix4 l p k j) = ∑ n : Fin 128, c (ix2 p n) * y (ix4 l k n j) := by
  have h : rows y c (ix4 l p k j) = ∑ n : Fin 128, y (ix4 l k n j) * c (ix2 p n) := by
    pointwise [rows]
  rw [h]
  exact Finset.sum_congr rfl fun n _ => mul_comm _ _
theorem out_apply (p : Fin 128) : out x tc ts c s (ix4 l p k j) =
    Fourier.pair (fun n => c (ix2 p n)) (fun n => x (ix5 l 0 k n j) * tc (ix2 k n) + x (ix5 l 1 k n j) * ts (ix2 k n))
      (fun n => s (ix2 p n)) (fun n => x (ix5 l 1 k n j) * tc (ix2 k n) - x (ix5 l 0 k n j) * ts (ix2 k n)) := by
  pointwise [out, Fourier.pair, rows_apply, re_apply, im_apply, spread_apply]
end Cert.Reference9Ideal.Stage2

namespace Cert.Kernel9Ideal.Stage2
open Cert.Kernel9Ideal Cert.Kernel9Ideal.Gen Idealize.ShloMosaic Idealize.ShloMosaic.TcCoe Idealize.SL.Sem
open Idealize.ShloMosaic.Pipeline (Dat)

section
variable (w : FVec Ideal S128x256 .bf16) (l : Fin 128) (j : Fin 512)

/-- One entry of the stage: a row of the matrix on the turned column. -/
def turned (a b u v : Fin 128 → EReal) : EReal :=
  Fourier.pair (n := 128) (fun n => w (ix2 l ⟨n.val, by omega⟩)) (fun n => a n * u n + b n * v n) (fun n => w (ix2 l ⟨128 + n.val, by omega⟩)) (fun n => b n * u n - a n * v n)

theorem cell (a b : FVec Ideal S1x1x1x128x512 .f32) (tc ts : FVec Ideal S1x128x128 .f32) (u v : Fin 128 → EReal)
    (hu : ∀ n e, tc (ix3 0 n e) = u n) (hv : ∀ n e, ts (ix3 0 n e) = v n) : k0_pay2 (F := Ideal) a b tc ts w (ix4 0 l 0 j) =
    turned w l (fun n => a (ix5 0 0 0 n j)) (fun n => b (ix5 0 0 0 n j)) u v := by
  unfold turned Fourier.pair
  pointwise [k0_pay2, hu, hv]
  simp only [dite_eq_ite, ite_self]

/-- A piece read at its own index: the stage's entry at the place the piece has in the block. -/
theorem close (x : FVec Ideal S1x2x8x128x512 .f32) (U V : Fin 8 → Fin 128 → EReal) (q q' : Fin 8)
    (a b : FVec Ideal S1x1x1x128x512 .f32) (tc ts : FVec Ideal S1x128x128 .f32)
    (ha : ∀ n j, a (ix5 0 0 0 n j) = x (ix5 0 0 q n j)) (hb : ∀ n j, b (ix5 0 0 0 n j) = x (ix5 0 1 q n j))
    (hu : ∀ n e, tc (ix3 0 n e) = U q n) (hv : ∀ n e, ts (ix3 0 n e) = V q n)
    (i : S1x128x1x512.Idx) (h1 : l.val = (i 1).val) (h2 : q'.val = q.val + (i 2).val) (h3 : j.val = (i 3).val) :
    k0_pay2 (F := Ideal) a b tc ts w i = turned w l (fun n => x (ix5 0 0 q' n j)) (fun n => x (ix5 0 1 q' n j)) (U q') (V q') := by
  have i2 : (i 2).val < 1 := (i 2).isLt
  have hq : q' = q := Fin.ext (by omega)
  have hi : i = (ix4 0 l 0 j : S1x128x1x512.Idx) := by
    have a0 : i 0 = (0 : Fin 1) := Subsingleton.elim (α := Fin 1) _ _
    have a1 : i 1 = l := Fin.ext h1.symm
    have a2 : i 2 = (0 : Fin 1) := Subsingleton.elim (α := Fin 1) _ _
    have a3 : i 3 = j := Fin.ext h3.symm
    rw [ValueIdx.eq_ix4 i, a0, a1, a2, a3]
    rfl
  subst hq
  rw [hi]
  refine (cell w l j a b tc ts (U q') (V q') hu hv).trans ?_
  simp only [ha, hb]
end

section
variable (a b : FVec Ideal S1x1x1x128x512 .f32) (tc ts : FVec Ideal S1x128x128 .f32) (w : FVec Ideal S128x256 .bf16)
theorem piece1 : k0_pay4 (F := Ideal) (k0_pay3 a) b tc ts w = k0_pay2 (F := Ideal) a b tc ts w := rfl
theorem piece2 : k0_pay8 (F := Ideal) (k0_pay5 a) (k0_pay6 b) (k0_pay7 tc) ts w = k0_pay2 (F := Ideal) a b tc ts w := rfl
theorem piece3 : k0_pay10 (F := Ideal) (k0_pay9 a b tc ts) w = k0_pay2 (F := Ideal) a b tc ts w := rfl
theorem piece4 : k0_pay12 (F := Ideal) (k0_pay11 a b tc ts w) = k0_pay2 (F := Ideal) a b tc ts w := rfl
theorem piece5 : k0_pay13 (F := Ideal) a b tc ts w = k0_pay2 (F := Ideal) a b tc ts w := rfl
theorem piece6 : k0_pay15 (F := Ideal) (k0_pay14 a) b tc ts w = k0_pay2 (F := Ideal) a b tc ts w := rfl
theorem piece7 : k0_pay1 (F := Ideal) (k0_pay16 a) (k0_pay17 b) (k0_pay18 tc) ts w = k0_pay2 (F := Ideal) a b tc ts w := rfl
end

/-- What the body leaves of its block, when the factors it reads are the same on all channels. -/
theorem body (x : FVec Ideal S1x2x8x128x512 .f32) (T S : FVec Ideal S8x128x128 .f32) (w : FVec Ideal S128x256 .bf16) (U V : Fin 8 → Fin 128 → EReal)
    (hU : ∀ q n e, T (ix3 q n e) = U q n) (hV : ∀ q n e, S (ix3 q n e) = V q n) (l : Fin 128) (q : Fin 8) (j : Fin 512) :
    out0_4 (F := Ideal) x T S w (ix4 0 l q j) = turned w l (fun n => x (ix5 0 0 q n j)) (fun n => x (ix5 0 1 q n j)) (U q) (V q) := by
  frame_out
  canon_tiles i h
  · refine (congrFun (piece7 _ _ _ _ _) i).trans ?_
    exact close w l j x U V 7 q (View.ld (Val := Elt Ideal) (e' := .f32) x r0_29) (View.ld (Val := Elt Ideal) (e' := .f32) x r0_30) (View.ld (Val := Elt Ideal) (e' := .f32) T r0_31) (View.ld (Val := Elt Ideal) (e' := .f32) S r0_31) (fun n j => by pointwise) (fun n j => by pointwise)
      (fun n e => Eq.trans (by pointwise) (hU 7 n e)) (fun n e => Eq.trans (by pointwise) (hV 7 n e)) i h1 h2 h3
  · refine (congrFun (piece6 _ _ _ _ _) i).trans ?_
    exact close w l j x U V 6 q (View.ld (Val := Elt Ideal) (e' := .f32) x r0_25) (View.ld (Val := Elt Ideal) (e' := .f32) x r0_26) (View.ld (Val := Elt Ideal) (e' := .f32) T r0_27) (View.ld (Val := Elt Ideal) (e' := .f32) S r0_27) (fun n j => by pointwise) (fun n j => by pointwise)
      (fun n e => Eq.trans (by pointwise) (hU 6 n e)) (fun n e => Eq.trans (by pointwise) (hV 6 n e)) i h1 h2 h3
  · refine (congrFun (piece5 _ _ _ _ _) i).trans ?_
    exact close w l j x U V 5 q (View.ld (Val := Elt Ideal) (e' := .f32) x r0_21) (View.ld (Val := Elt Ideal) (e' := .f32) x r0_22) (View.ld (Val := Elt Ideal) (e' := .f32) T r0_23) (View.ld (Val := Elt Ideal) (e' := .f32) S r0_23) (fun n j => by pointwise) (fun n j => by pointwise)
      (fun n e => Eq.trans (by pointwise) (hU 5 n e)) (fun n e => Eq.trans (by pointwise) (hV 5 n e)) i h1 h2 h3
  · refine (congrFun (piece4 _ _ _ _ _) i).trans ?_
    exact close w l j x U V 4 q (View.ld (Val := Elt Ideal) (e' := .f32) x r0_17) (View.ld (Val := Elt Ideal) (e' := .f32) x r0_18) (View.ld (Val := Elt Ideal) (e' := .f32) T r0_19) (View.ld (Val := Elt Ideal) (e' := .f32) S r0_19) (fun n j => by pointwise) (fun n j => by pointwise)
      (fun n e => Eq.trans (by pointwise) (hU 4 n e)) (fun n e => Eq.trans (by pointwise) (hV 4 n e)) i h1 h2 h3
  · refine (congrFun (piece3 _ _ _ _ _) i).trans ?_
    exact close w l j x U V 3 q (View.ld (Val := Elt Ideal) (e' := .f32) x r0_13) (View.ld (Val := Elt Ideal) (e' := .f32) x r0_14) (View.ld (Val := Elt Ideal) (e' := .f32) T r0_15) (View.ld (Val := Elt Ideal) (e' := .f32) S r0_15) (fun n j => by pointwise) (fun n j => by pointwise)
      (fun n e => Eq.trans (by pointwise) (hU 3 n e)) (fun n e => Eq.trans (by pointwise) (hV 3 n e)) i h1 h2 h3
  · refine (congrFun (piece2 _ _ _ _ _) i).trans ?_
    exact close w l j x U V 2 q (View.ld (Val := Elt Ideal) (e' := .f32) x r0_9) (View.ld (Val := Elt Ideal) (e' := .f32) x r0_10) (View.ld (Val := Elt Ideal) (e' := .f32) T r0_11) (View.ld (Val := Elt Ideal) (e' := .f32) S r0_11) (fun n j => by pointwise) (fun n j => by pointwise)
      (fun n e => Eq.trans (by pointwise) (hU 2 n e)) (fun n e => Eq.trans (by pointwise) (hV 2 n e)) i h1 h2 h3
  · refine (congrFun (piece1 _ _ _ _ _) i).trans ?_
    exact close w l j x U V 1 q (View.ld (Val := Elt Ideal) (e' := .f32) x r0_5) (View.ld (Val := Elt Ideal) (e' := .f32) x r0_6) (View.ld (Val := Elt Ideal) (e' := .f32) T r0_7) (View.ld (Val := Elt Ideal) (e' := .f32) S r0_7) (fun n j => by pointwise) (fun n j => by pointwise)
      (fun n e => Eq.trans (by pointwise) (hU 1 n e)) (fun n e => Eq.trans (by pointwise) (hV 1 n e)) i h1 h2 h3
  · exact close w l j x U V 0 q (View.ld (Val := Elt Ideal) (e' := .f32) x r0_0) (View.ld (Val := Elt Ideal) (e' := .f32) x r0_1) (View.ld (Val := Elt Ideal) (e' := .f32) T r0_2) (View.ld (Val := Elt Ideal) (e' := .f32) S r0_2) (fun n j => by pointwise) (fun n j => by pointwise)
      (fun n e => Eq.trans (by pointwise) (hU 0 n e)) (fun n e => Eq.trans (by pointwise) (hV 0 n e)) i h1 ((show q.val = (i 2).val from h2).trans (Nat.zero_add _).symm) h3

/-- The blocks' places at a grid point. -/
theorem idx : ∀ t : Fin cfg0.N, win0_0.index t = ![t.val / 8, 0, t.val % 8, 0, 0] ∧ win0_1.index t = ![t.val % 8, 0, 0] ∧ win0_2.index t = ![t.val % 8, 0, 0] ∧
    win0_3.index t = ![0, 0] ∧ win0_4.index t = ![t.val / 8, 0, t.val % 8, 0] :=
  (by decide +kernel : ∀ t : Fin grid0.N, _)

variable (m : (ℓ : Loc nD τ sig) → Buf (Elt Ideal) ℓ) (c : Dev nD)

/-- The call's arguments. -/
abbrev arg0 : FVec Ideal S4x2x64x128x512 .f32 := m (c, Proc.tc.devRef main_arg0)
abbrev arg1 : FVec Ideal S64x128 .f32 := m (c, Proc.tc.devRef main_arg1)
abbrev arg2 : FVec Ideal S64x128 .f32 := m (c, Proc.tc.devRef main_arg2)
abbrev arg3 : FVec Ideal S128x128 .f32 := m (c, Proc.tc.devRef main_arg3)
abbrev arg4 : FVec Ideal S128x128 .f32 := m (c, Proc.tc.devRef main_arg4)

theorem V_c (r k : Fin 128) : V m c main_v1 (ix2 r ⟨k.val, by omega⟩) = arg3 m c (ix2 r k) := by
  entry_read
  pointwise
theorem V_s (r k : Fin 128) : V m c main_v1 (ix2 r ⟨128 + k.val, by omega⟩) = arg4 m c (ix2 r k) := by
  entry_read
  pointwise
theorem V_tc (k : Fin 64) (n e : Fin 128) : V m c main_v3 (ix3 k n e) = arg1 m c (ix2 k n) := by
  entry_read
  pointwise
theorem V_ts (k : Fin 64) (n e : Fin 128) : V m c main_v5 (ix3 k n e) = arg2 m c (ix2 k n) := by
  entry_read
  pointwise

section
variable (t : Fin cfg0.N)
theorem blk_c (r k : Fin 128) : iblk m c 3 t (ix2 r ⟨k.val, by omega⟩) = arg3 m c (ix2 r k) := by
  rw [← V_c m c]; blk_ext [iblk, idx t]
theorem blk_s (r k : Fin 128) : iblk m c 3 t (ix2 r ⟨128 + k.val, by omega⟩) = arg4 m c (ix2 r k) := by
  rw [← V_s m c]; blk_ext [iblk, idx t]
/-- Where row `q` of the block lies in the array. -/
abbrev place (q : Fin 8) : Fin 64 := ⟨t.val % 8 * 8 + q.val, by omega⟩
theorem blk_tc (q : Fin 8) (n e : Fin 128) : iblk m c 1 t (ix3 q n e) = arg1 m c (ix2 (place t q) n) := by
  rw [← V_tc m c _ _ e]; blk_ext [iblk, idx t]
theorem blk_ts (q : Fin 8) (n e : Fin 128) : iblk m c 2 t (ix3 q n e) = arg2 m c (ix2 (place t q) n) := by
  rw [← V_ts m c _ _ e]; blk_ext [iblk, idx t]
theorem blk_x (l : Fin 4) (hl : l.val = t.val / 8) (s : Fin 2) (q : Fin 8) (n : Fin 128) (j : Fin 512) : iblk m c 0 t (ix5 0 s q n j) = arg0 m c (ix5 l s (place t q) n j) := by
  rw [arg0, ← V_main_arg0 m c]; blk_ext [iblk, idx t, hl]
end

/-- The reference's result on the call's arguments. -/
abbrev res : FVec Ideal S4x128x64x512 .f32 := Cert.Reference9Ideal.Stage2.out (arg0 m c) (arg1 m c) (arg2 m c) (arg3 m c) (arg4 m c)

theorem arr : (dats m 0 c).arrAt 4 cfg0.N = res m c := by
  refine (dats m 0 c).arrAt_eq_of_covers 4 _ (by decide +kernel) fun t hf y => ?_
  blk_simp
  rw [after0_4]
  have ht : t.val < 32 := lt_of_lt_of_eq t.isLt N_0
  have hy : y = (ix4 0 (show Fin 128 from y 1) (show Fin 8 from y 2) (show Fin 512 from y 3) : S1x128x8x512.Idx) := by
    blk_ext
  have he : ((win0_4.blk t).view.emb y : S4x128x64x512.Idx) =
      ix4 ⟨t.val / 8, by omega⟩ (show Fin 128 from y 1) (place t (show Fin 8 from y 2)) (show Fin 512 from y 3) := by
    blk_ext [idx t]
  refine Eq.trans ?_ (congrArg (res m c) he).symm
  refine (congrArg _ hy).trans ((body _ _ _ _ _ _ (blk_tc m c t) (blk_ts m c t) _ _ _).trans (Eq.trans ?_ (Cert.Reference9Ideal.Stage2.out_apply _ _ _ _ _ _ _ _ _).symm))
  unfold turned
  exact congr (congr (congr (congrArg Fourier.pair (funext fun n => blk_c m c t _ n))
    (funext fun n => congrArg₂ (· + ·) (congrArg (· * _) (blk_x m c t ⟨t.val / 8, by omega⟩ rfl 0 _ n _)) (congrArg (· * _) (blk_x m c t ⟨t.val / 8, by omega⟩ rfl 1 _ n _))))
    (funext fun n => blk_s m c t _ n))
    (funext fun n => congrArg₂ (· - ·) (congrArg (· * _) (blk_x m c t ⟨t.val / 8, by omega⟩ rfl 1 _ n _)) (congrArg (· * _) (blk_x m c t ⟨t.val / 8, by omega⟩ rfl 0 _ n _)))
end Cert.Kernel9Ideal.Stage2
-- ==== Proof.CtxHead.lean ====
module
public import proofs.«01_k».proof.Proof.Gen.Kernel14Ideal.Value
public import proofs.«01_k».proof.Proof.Rec
public import Idealize.ShloMosaic.Lib.Pipeline.ValueKit
@[expose] public section
set_option maxRecDepth 16384
noncomputable section

/-! # The context's calls: what the kernel computes for one head in one chunk

The kernel treats its four heads one after the other by the same operations on different lanes. `Head` names the operands
of one head; `headH`, `headC`, `headN`, `headM` are the arrays it stores, and the theorems read them at an index as the
recurrence of `Rec.lean`. -/

namespace Cert.Kernel14Ideal.Scan
open Cert.Kernel14Ideal Cert.Kernel14Ideal.Gen Idealize.ShloMosaic Idealize.ShloMosaic.TcCoe Idealize.SL.Sem
open Cert (Rec.Chunk Rec.State)

/-- The operands of one head in one chunk. -/
structure Head where
  mask : IVec S128x128 1
  qf : FVec Ideal S128x128 .f32
  kf : FVec Ideal S128x128 .f32
  v : FVec Ideal S128x128 .f32
  icol : FVec Ideal S128x1 .f32
  bcol : FVec Ideal S128x1 .f32
  irow : FVec Ideal S1x128 .f32
  brow : FVec Ideal S1x128 .f32
  blast : FVec Ideal S1x1 .f32
  C : FVec Ideal S128x128 .f32
  n : FVec Ideal S1x128 .f32
  mst : FVec Ideal S1x1 .f32

variable (H : Head)

def Head.dm : FVec Ideal S128x128 .f32 :=
  select H.mask (addf (subf (broadcastTo S128x128 H.bcol broadcasts_S128x1_S128x128)
    (broadcastTo S128x128 H.brow broadcasts_S1x128_S128x128)) (broadcastTo S128x128 H.irow broadcasts_S1x128_S128x128))
    (broadcast S128x128 (Scalar.ofBits .f32 0xFF800000#32))
def Head.inter : FVec Ideal S128x1 .f32 := addf H.bcol (broadcastTo S128x1 H.mst broadcasts_S1x1_S128x1)
def Head.mt : FVec Ideal S128x1 .f32 :=
  maximumf H.inter (shapeCast S128x1 (multiReduction .maximumf [1] S128 H.dm 0xFF800000#32 reduces_S128x128_S128 (.inl rfl) rfl) shapeCasts_S128_S128x1)
def Head.sc : FVec Ideal S128x128 .f32 :=
  mulf (matmul dot_S128x128_S128x128_S128x128_1_1_0_0_n_n none (truncf .bf16 H.qf bitsLt_bf16_f32) (truncf .bf16 H.kf bitsLt_bf16_f32) (constant S128x128 .f32 0x00000000#32))
    (exp (subf H.dm (broadcastTo S128x128 H.mt broadcasts_S128x1_S128x128)))
def Head.al : FVec Ideal S128x1 .f32 := exp (subf H.inter H.mt)
def Head.num : FVec Ideal S128x128 .f32 :=
  addf (matmul dot_S128x128_S128x128_S128x128_1_0_0_1_n_n none (truncf .bf16 H.sc bitsLt_bf16_f32) (truncf .bf16 H.v bitsLt_bf16_f32) (constant S128x128 .f32 0x00000000#32))
    (mulf (broadcastTo S128x128 H.al broadcasts_S128x1_S128x128)
      (matmul dot_S128x128_S128x128_S128x128_1_0_0_1_n_n none (truncf .bf16 H.qf bitsLt_bf16_f32) (truncf .bf16 H.C bitsLt_bf16_f32) (constant S128x128 .f32 0x00000000#32)))
def Head.den : FVec Ideal S128x1 .f32 :=
  addf (shapeCast S128x1 (multiReduction .add [1] S128 H.sc 0x00000000#32 reduces_S128x128_S128 (.inl rfl) rfl) shapeCasts_S128_S128x1)
    (mulf H.al (shapeCast S128x1 (multiReduction .add [1] S128 (mulf H.qf (broadcastTo S128x128 H.n broadcasts_S1x128_S128x128)) 0x00000000#32 reduces_S128x128_S128 (.inl rfl) rfl) shapeCasts_S128_S128x1))
/-- The head's output over the chunk. -/
def headH : FVec Ideal S128x128 .f32 :=
  divf H.num (broadcastTo S128x128 (maximumf (absf H.den)
    (exp (subf (broadcast S128x1 (Scalar.ofBits .f32 0x00000000#32)) H.mt))) broadcasts_S128x1_S128x128)
/-- The head's next stabilizer. -/
def headM : FVec Ideal S1x1 .f32 :=
  maximumf (addf H.blast H.mst) (shapeCast S1x1 (multiReduction .maximumf [1] S1
    (addf (subf (broadcastTo S1x128 H.blast broadcasts_S1x1_S1x128) H.brow) H.irow) 0xFF800000#32 reduces_S1x128_S1 (.inl rfl) rfl) shapeCasts_S1_S1x1)
def Head.kw : FVec Ideal S128x128 .f32 :=
  mulf H.kf (broadcastTo S128x128 (exp (subf (addf (subf (broadcastTo S128x1 H.blast broadcasts_S1x1_S128x1) H.bcol) H.icol)
    (broadcastTo S128x1 (headM H) broadcasts_S1x1_S128x1))) broadcasts_S128x1_S128x128)
def Head.dec : FVec Ideal S1x1 .f32 := exp (subf (addf H.blast H.mst) (headM H))
/-- The head's next matrix memory. -/
def headC : FVec Ideal S128x128 .f32 :=
  addf (mulf (broadcastTo S128x128 H.dec broadcasts_S1x1_S128x128) H.C)
    (matmul dot_S128x128_S128x128_S128x128_1_0_0_1_n_n none (truncf .bf16 (transpose S128x128 [1, 0] H.kw transposes_S128x128_p1_0_S128x128) bitsLt_bf16_f32)
      (truncf .bf16 H.v bitsLt_bf16_f32) (constant S128x128 .f32 0x00000000#32))
/-- The head's next normalizer. -/
def headN : FVec Ideal S1x128 .f32 :=
  addf (mulf (broadcastTo S1x128 H.dec broadcasts_S1x1_S1x128) H.n)
    (shapeCast S1x128 (multiReduction .add [0] S128 H.kw 0x00000000#32 reduces_S128x128_S128_2 (.inl rfl) rfl) shapeCasts_S128_S1x128)

/-- The head's chunk as the recurrence takes it. -/
def Head.chunk : Rec.Chunk where
  M := fun t s => H.mask (ix2 t s)
  b := fun t => H.brow (ix2 0 t)
  bl := H.blast (ix2 0 0)
  q := fun t j => H.qf (ix2 t j)
  k := fun t j => H.kf (ix2 t j)
  v := fun t j => H.v (ix2 t j)
  ig := fun t => H.irow (ix2 0 t)
/-- The head's carried state as the recurrence takes it. -/
def Head.state : Rec.State where
  C := fun e j => H.C (ix2 e j)
  n := fun j => H.n (ix2 0 j)
  m := H.mst (ix2 0 0)

/-- The gates and their running sums as columns and as rows are the same. -/
structure Head.Coherent : Prop where
  b : ∀ t : Fin 128, H.bcol (ix2 t 0) = H.brow (ix2 0 t)
  i : ∀ t : Fin 128, H.icol (ix2 t 0) = H.irow (ix2 0 t)

variable {H} (hH : H.Coherent)
include hH

theorem Head.dm_apply (t s : Fin 128) : H.dm (ix2 t s) = Rec.dm H.chunk t s := by
  pointwise [Head.dm, Rec.dm, Head.chunk, hH.b]
theorem Head.inter_apply (t : Fin 128) : H.inter (ix2 t 0) = Rec.inter H.chunk H.state t := by
  pointwise [Head.inter, Rec.inter, Head.chunk, Head.state, hH.b]
theorem Head.mt_apply (t : Fin 128) : H.mt (ix2 t 0) = Rec.mt H.chunk H.state t := by
  pointwise [Head.mt, Rec.mt, Rec.vmax, Head.inter_apply hH, Head.dm_apply hH]
theorem Head.sc_apply (t s : Fin 128) : H.sc (ix2 t s) = Rec.sc H.chunk H.state t s := by
  pointwise [Head.sc, Rec.sc, Head.mt_apply hH, Head.dm_apply hH]
  rfl
theorem Head.al_apply (t : Fin 128) : H.al (ix2 t 0) = Rec.al H.chunk H.state t := by
  pointwise [Head.al, Rec.al, Head.mt_apply hH, Head.inter_apply hH]
theorem Head.num_apply (t j : Fin 128) : H.num (ix2 t j) = Rec.num H.chunk H.state t j := by
  pointwise [Head.num, Rec.num, Head.sc_apply hH, Head.al_apply hH]
  rfl
theorem Head.den_apply (t : Fin 128) : H.den (ix2 t 0) = Rec.den H.chunk H.state t := by
  pointwise [Head.den, Rec.den, Head.sc_apply hH, Head.al_apply hH]
  rfl
/-- The head's output is the recurrence's. -/
theorem headH_apply (t j : Fin 128) : headH H (ix2 t j) = Rec.out H.chunk H.state t j := by
  pointwise [headH, Rec.out, Head.num_apply hH, Head.den_apply hH, Head.mt_apply hH]
  rw [sub_eq_add_neg, zero_add]
  rfl
/-- The head's next stabilizer is the recurrence's. -/
theorem headM_apply : headM H (ix2 0 0) = (Rec.next H.chunk H.state).m := by
  pointwise [headM, Rec.next, Rec.mnew, Rec.vmax, Rec.gl]
  rfl
theorem Head.kw_apply (s e : Fin 128) : H.kw (ix2 s e) = H.chunk.k s e * Rec.wt H.chunk H.state s := by
  pointwise [Head.kw, Rec.wt, Rec.gl, headM_apply hH, hH.b, hH.i]
  rfl
theorem Head.dec_apply : H.dec (ix2 0 0) = Rec.dec H.chunk H.state := by
  pointwise [Head.dec, Rec.dec, headM_apply hH]
  rfl
/-- The head's next matrix memory is the recurrence's. -/
theorem headC_apply (e j : Fin 128) : headC H (ix2 e j) = (Rec.next H.chunk H.state).C e j := by
  pointwise [headC, Rec.next, Head.dec_apply hH, Head.kw_apply hH]
  rfl
/-- The head's next normalizer is the recurrence's. -/
theorem headN_apply (j : Fin 128) : headN H (ix2 0 j) = (Rec.next H.chunk H.state).n j := by
  pointwise [headN, Rec.next, Head.dec_apply hH, Head.kw_apply hH]
  rfl
end Cert.Kernel14Ideal.Scan
-- ==== Proof.CtxPoint.lean ====
module
public import proofs.«01_k».proof.Proof.CtxHead
@[expose] public section
set_option maxRecDepth 16384
noncomputable section

/-! # The context's calls: what one grid point of the kernel leaves

At a grid point the kernel reads a chunk of the projections and gates and the carried state, and leaves the chunk's output
and the next state, head by head. -/

namespace Cert.Kernel14Ideal.Scan
open Cert.Kernel14Ideal Cert.Kernel14Ideal.Gen Idealize.ShloMosaic Idealize.ShloMosaic.TcCoe Idealize.SL.Sem
open Idealize.ShloMosaic.Pipeline (Dat)

/-- The chunk's queries and keys, after the convolution along the sequence and its activation. -/
abbrev chunkQK (x0 x1 : FVec Ideal S1x128x512 .f32) (x3 : FVec Ideal S1x1x2x1024 .f32) (x6 : FVec Ideal S3x1024 .f32) : FVec Ideal S128x1024 .f32 :=
  k0_pay13 (iota .tc S128x1024 32 [0] iota_S128x1024_d0_w32) (k0_pay10 x0 x1)
    (k0_pay11 x0 x1 (View.ld (Val := Elt Ideal) (e' := .f32) x3 (Rect.unit ![0, 0, 0, 0] ![1, 1, 1, 1024] inb_S1x1x2x1024_S1x1x1x1024_0_0_0_0))) k0_pay12
    (View.ld (Val := Elt Ideal) (e' := .f32) x3 (Rect.unit ![0, 0, 1, 0] ![1, 1, 1, 1024] inb_S1x1x2x1024_S1x1x1x1024_0_0_1_0))
    (View.ld (Val := Elt Ideal) (e' := .f32) x6 (Rect.unit ![0, 0] ![1, 1024] inb_S3x1024_S1x1024_0_0))
    (View.ld (Val := Elt Ideal) (e' := .f32) x6 (Rect.unit ![1, 0] ![1, 1024] inb_S3x1024_S1x1024_1_0))
    (View.ld (Val := Elt Ideal) (e' := .f32) x6 (Rect.unit ![2, 0] ![1, 1024] inb_S3x1024_S1x1024_2_0))

/-- The running sums of the gates' logarithms, a column for each gate. -/
abbrev sumsCol (i : grid0.Coords) (x4 : FVec Ideal S1x1x128x128 .f32) : FVec Ideal S128x128 .f32 := k0_pay16 (k0_pay8 i) x4
/-- The running sums of the gates' logarithms, a row for each gate. -/
abbrev sumsRow (i : grid0.Coords) (x5 : FVec Ideal S1x1x8x128 .f32) : FVec Ideal S8x128 .f32 :=
  k0_pay19 (k0_pay9 i) (k0_pay17 x5) (k0_pay18 x5) (FloatOps.ofBits FTy.f32 0#32)

theorem slices_qk (k : Fin 4) (o : Fin 2) : S128x1024.Slices ![0, 512 * o.val + 128 * k.val] S128x128 := by
  revert k o; decide
theorem slices_v (k : Fin 4) : S128x512.Slices ![0, 128 * k.val] S128x128 := by revert k; decide
theorem slices_col (k : Fin 4) (o : Fin 2) : S128x128.Slices ![0, 4 * o.val + k.val] S128x1 := by revert k o; decide
theorem slices_row (k : Fin 4) (o : Fin 2) : S8x128.Slices ![4 * o.val + k.val, 0] S1x128 := by revert k o; decide

/-- The operands of head `k` at a grid point, from the blocks it reads and the carried state. -/
def headOf (i : grid0.Coords) (x0 x1 x2 : FVec Ideal S1x128x512 .f32) (x3 : FVec Ideal S1x1x2x1024 .f32)
    (x4 : FVec Ideal S1x1x128x128 .f32) (x5 : FVec Ideal S1x1x8x128 .f32) (x6 : FVec Ideal S3x1024 .f32)
    (C : FVec Ideal S1x1x1x128x128 .f32) (n m : FVec Ideal S1x1x1x1x128 .f32) (k : Fin 4) : Head where
  mask := k0_pay7 i
  qf := extractStridedSlice S128x128 ![0, 512 * (0 : Fin 2).val + 128 * k.val] (chunkQK x0 x1 x3 x6) (slices_qk k 0)
  kf := mulf (extractStridedSlice S128x128 ![0, 512 * (1 : Fin 2).val + 128 * k.val] (chunkQK x0 x1 x3 x6) (slices_qk k 1))
    (broadcast S128x128 (Scalar.ofBits .f32 0x3DB504F3#32))
  v := extractStridedSlice S128x128 ![0, 128 * k.val] (k0_pay20 x2) (slices_v k)
  icol := extractStridedSlice S128x1 ![0, 4 * (0 : Fin 2).val + k.val] (k0_pay14 x4) (slices_col k 0)
  bcol := extractStridedSlice S128x1 ![0, 4 * (1 : Fin 2).val + k.val] (sumsCol i x4) (slices_col k 1)
  irow := extractStridedSlice S1x128 ![4 * (0 : Fin 2).val + k.val, 0] (k0_pay15 x5) (slices_row k 0)
  brow := extractStridedSlice S1x128 ![4 * (1 : Fin 2).val + k.val, 0] (sumsRow i x5) (slices_row k 1)
  blast := Scalar.select (Scalar.cmpi .eq (BitVec.ofNat 32 (i 0).val) 0#32)
    (extractStridedSlice S1x1 ![0, 127] (extractStridedSlice S1x128 ![4 * (1 : Fin 2).val + k.val, 0] (sumsRow i x5) (slices_row k 1)) slices_S1x128_o0_127_S1x1)
    (extractStridedSlice S1x1 ![0, 0] (extractStridedSlice S1x128 ![4 * (1 : Fin 2).val + k.val, 0] (sumsRow i x5) (slices_row k 1)) slices_S1x128_o0_0_S1x1)
  C := shapeCast S128x128 C shapeCasts_S1x1x1x128x128_S128x128
  n := shapeCast S1x128 n shapeCasts_S1x1x1x1x128_S1x128
  mst := extractStridedSlice S1x1 ![0, 0] (shapeCast S1x128 m shapeCasts_S1x1x1x1x128_S1x128) slices_S1x128_o0_0_S1x1

variable (m : (ℓ : Loc nD τ sig) → Buf (Elt Ideal) ℓ)

theorem inbC (k : Fin 4) : ∀ a, (![0, 0, k.val, 0, 0] : Fin 5 → ℕ) a + (![1, 1, 1, 128, 128] : Fin 5 → ℕ) a ≤ S1x1x4x128x128.size a := by
  revert k; decide
theorem inbN (k : Fin 4) : ∀ a, (![0, 0, k.val, 0, 0] : Fin 5 → ℕ) a + (![1, 1, 1, 1, 128] : Fin 5 → ℕ) a ≤ S1x1x4x1x128.size a := by
  revert k; decide

/-- Head `k` of the carried matrix memories. -/
abbrev memOf (X : FVec Ideal S1x1x4x128x128 .f32) (k : Fin 4) : FVec Ideal S1x1x1x128x128 .f32 :=
  View.ld (Val := Elt Ideal) (e' := .f32) X (Rect.unit ![0, 0, k.val, 0, 0] ![1, 1, 1, 128, 128] (inbC k))
/-- Head `k` of the carried normalizers or stabilizers. -/
abbrev vecOf (X : FVec Ideal S1x1x4x1x128 .f32) (k : Fin 4) : FVec Ideal S1x1x1x1x128 .f32 :=
  View.ld (Val := Elt Ideal) (e' := .f32) X (Rect.unit ![0, 0, k.val, 0, 0] ![1, 1, 1, 1, 128] (inbN k))

/-- The operands of head `k` at grid point `t`, over the carried state `C`, `n`, `s`. -/
abbrev headAt (c : Dev nD) (t : Fin cfg0.N) (C : FVec Ideal S1x1x4x128x128 .f32) (n s : FVec Ideal S1x1x4x1x128 .f32) (k : Fin 4) : Head :=
  headOf (grid0.coords t) (iblk m c 0 t) (iblk m c 1 t) (iblk m c 2 t) (iblk m c 3 t) (iblk m c 4 t) (iblk m c 5 t) (iblk m c 6 t)
    (memOf C k) (vecOf n k) (vecOf s k) k

theorem lane_div (y : S1x1x128x512.Idx) : (y 3).val / 128 < 4 := by
  have := (y 3).isLt
  change (y 3).val < 512 at this
  omega

set_option maxHeartbeats 2000000 in
/-- The output chunk after a point that is not the first of its sequence, over the state the point before left. -/
theorem outsH_later (c : Dev nD) (t : Fin cfg0.N) (h0 : ¬ t.val % 2 = 0) (y : S1x1x128x512.Idx) :
    (outsAt0 m c t.val t.isLt).1 y = headH (headAt m c t (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2 ⟨(y 3).val / 128, lane_div y⟩) (ix2 (y 2) ⟨(y 3).val % 128, Nat.mod_lt _ (by decide)⟩) := by
  rw [outsAt0_B m c t h0]
  generalize (outsAt0 m c (t.val - 1) (Nat.lt_of_le_of_lt (Nat.sub_le _ _) t.isLt)) = X
  dsimp only
  frame_out
  canon_tiles x h
  · have hk : (⟨(y 3).val / 128, lane_div y⟩ : Fin 4) = 3 := Fin.ext (by show (y 3).val / 128 = 3; omega)
    rw [hk]
    show shapeCast S1x1x128x128 (headH (headAt m c t X.2.1 X.2.2.1 X.2.2.2 3)) shapeCasts_S128x128_S1x1x128x128 x = _
    pointwise
    exact congrArg (headH _) (congrArg₂ ix2 (Fin.ext h2.symm) (Fin.ext (by show (x 3).val = (y 3).val % 128; omega)))
  · have hk : (⟨(y 3).val / 128, lane_div y⟩ : Fin 4) = 2 := Fin.ext (by show (y 3).val / 128 = 2; omega)
    rw [hk]
    show shapeCast S1x1x128x128 (headH (headAt m c t X.2.1 X.2.2.1 X.2.2.2 2)) shapeCasts_S128x128_S1x1x128x128 x = _
    pointwise
    exact congrArg (headH _) (congrArg₂ ix2 (Fin.ext h2.symm) (Fin.ext (by show (x 3).val = (y 3).val % 128; omega)))
  · have hk : (⟨(y 3).val / 128, lane_div y⟩ : Fin 4) = 1 := Fin.ext (by show (y 3).val / 128 = 1; omega)
    rw [hk]
    show shapeCast S1x1x128x128 (headH (headAt m c t X.2.1 X.2.2.1 X.2.2.2 1)) shapeCasts_S128x128_S1x1x128x128 x = _
    pointwise
    exact congrArg (headH _) (congrArg₂ ix2 (Fin.ext h2.symm) (Fin.ext (by show (x 3).val = (y 3).val % 128; omega)))
  · have hk : (⟨(y 3).val / 128, lane_div y⟩ : Fin 4) = 0 := Fin.ext (by show (y 3).val / 128 = 0; omega)
    rw [hk]
    show shapeCast S1x1x128x128 (headH (headAt m c t X.2.1 X.2.2.1 X.2.2.2 0)) shapeCasts_S128x128_S1x1x128x128 x = _
    pointwise
    exact congrArg (headH _) (congrArg₂ ix2 (Fin.ext h2.symm) (Fin.ext (by show (x 3).val = (y 3).val % 128; omega)))

/-- The matrix memories after a point that is not the first of its sequence, over the state the point before left. -/
theorem outsC_later (c : Dev nD) (t : Fin cfg0.N) (h0 : ¬ t.val % 2 = 0) (y : S1x1x4x128x128.Idx) :
    (outsAt0 m c t.val t.isLt).2.1 y = headC (headAt m c t (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2 (y 2)) (ix2 (y 3) (y 4)) := by
  rw [outsAt0_B m c t h0]
  generalize (outsAt0 m c (t.val - 1) (Nat.lt_of_le_of_lt (Nat.sub_le _ _) t.isLt)) = X
  dsimp only
  frame_out
  canon_tiles x h
  · have hk : y 2 = (show Fin 4 from 3) := Fin.ext (by show (y 2).val = 3; omega)
    rw [hk]
    show shapeCast S1x1x1x128x128 (headC (headAt m c t X.2.1 X.2.2.1 X.2.2.2 3)) shapeCasts_S128x128_S1x1x1x128x128 x = _
    pointwise
    exact congrArg (headC _) (congrArg₂ ix2 (Fin.ext h3.symm) (Fin.ext h4.symm))
  · have hk : y 2 = (show Fin 4 from 2) := Fin.ext (by show (y 2).val = 2; omega)
    rw [hk]
    show shapeCast S1x1x1x128x128 (headC (headAt m c t X.2.1 X.2.2.1 X.2.2.2 2)) shapeCasts_S128x128_S1x1x1x128x128 x = _
    pointwise
    exact congrArg (headC _) (congrArg₂ ix2 (Fin.ext h3.symm) (Fin.ext h4.symm))
  · have hk : y 2 = (show Fin 4 from 1) := Fin.ext (by show (y 2).val = 1; omega)
    rw [hk]
    show shapeCast S1x1x1x128x128 (headC (headAt m c t X.2.1 X.2.2.1 X.2.2.2 1)) shapeCasts_S128x128_S1x1x1x128x128 x = _
    pointwise
    exact congrArg (headC _) (congrArg₂ ix2 (Fin.ext h3.symm) (Fin.ext h4.symm))
  · have hk : y 2 = (show Fin 4 from 0) := Fin.ext (by show (y 2).val = 0; omega)
    rw [hk]
    show shapeCast S1x1x1x128x128 (headC (headAt m c t X.2.1 X.2.2.1 X.2.2.2 0)) shapeCasts_S128x128_S1x1x1x128x128 x = _
    pointwise
    exact congrArg (headC _) (congrArg₂ ix2 (Fin.ext h3.symm) (Fin.ext h4.symm))

/-- The normalizers after a point that is not the first of its sequence, over the state the point before left. -/
theorem outsN_later (c : Dev nD) (t : Fin cfg0.N) (h0 : ¬ t.val % 2 = 0) (y : S1x1x4x1x128.Idx) :
    (outsAt0 m c t.val t.isLt).2.2.1 y = headN (headAt m c t (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2 (y 2)) (ix2 0 (y 4)) := by
  rw [outsAt0_B m c t h0]
  generalize (outsAt0 m c (t.val - 1) (Nat.lt_of_le_of_lt (Nat.sub_le _ _) t.isLt)) = X
  dsimp only
  frame_out
  canon_tiles x h
  · have hk : y 2 = (show Fin 4 from 3) := Fin.ext (by show (y 2).val = 3; omega)
    rw [hk]
    show shapeCast S1x1x1x1x128 (headN (headAt m c t X.2.1 X.2.2.1 X.2.2.2 3)) shapeCasts_S1x128_S1x1x1x1x128 x = _
    pointwise
    exact congrArg (headN _) (congrArg₂ ix2 rfl (Fin.ext h4.symm))
  · have hk : y 2 = (show Fin 4 from 2) := Fin.ext (by show (y 2).val = 2; omega)
    rw [hk]
    show shapeCast S1x1x1x1x128 (headN (headAt m c t X.2.1 X.2.2.1 X.2.2.2 2)) shapeCasts_S1x128_S1x1x1x1x128 x = _
    pointwise
    exact congrArg (headN _) (congrArg₂ ix2 rfl (Fin.ext h4.symm))
  · have hk : y 2 = (show Fin 4 from 1) := Fin.ext (by show (y 2).val = 1; omega)
    rw [hk]
    show shapeCast S1x1x1x1x128 (headN (headAt m c t X.2.1 X.2.2.1 X.2.2.2 1)) shapeCasts_S1x128_S1x1x1x1x128 x = _
    pointwise
    exact congrArg (headN _) (congrArg₂ ix2 rfl (Fin.ext h4.symm))
  · have hk : y 2 = (show Fin 4 from 0) := Fin.ext (by show (y 2).val = 0; omega)
    rw [hk]
    show shapeCast S1x1x1x1x128 (headN (headAt m c t X.2.1 X.2.2.1 X.2.2.2 0)) shapeCasts_S1x128_S1x1x1x1x128 x = _
    pointwise
    exact congrArg (headN _) (congrArg₂ ix2 rfl (Fin.ext h4.symm))

/-- The stabilizers after a point that is not the first of its sequence, over the state the point before left. -/
theorem outsM_later (c : Dev nD) (t : Fin cfg0.N) (h0 : ¬ t.val % 2 = 0) (y : S1x1x4x1x128.Idx) :
    (outsAt0 m c t.val t.isLt).2.2.2 y = headM (headAt m c t (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2 (y 2)) (ix2 0 0) := by
  rw [outsAt0_B m c t h0]
  generalize (outsAt0 m c (t.val - 1) (Nat.lt_of_le_of_lt (Nat.sub_le _ _) t.isLt)) = X
  dsimp only
  frame_out
  canon_tiles x h
  · have hk : y 2 = (show Fin 4 from 3) := Fin.ext (by show (y 2).val = 3; omega)
    rw [hk]
    show shapeCast S1x1x1x1x128 (broadcastTo S1x128 (shapeCast S1x1 (headM (headAt m c t X.2.1 X.2.2.1 X.2.2.2 3)) shapeCasts_S1x1_S1x1) broadcasts_S1x1_S1x128) shapeCasts_S1x128_S1x1x1x1x128 x = _
    pointwise
  · have hk : y 2 = (show Fin 4 from 2) := Fin.ext (by show (y 2).val = 2; omega)
    rw [hk]
    show shapeCast S1x1x1x1x128 (broadcastTo S1x128 (shapeCast S1x1 (headM (headAt m c t X.2.1 X.2.2.1 X.2.2.2 2)) shapeCasts_S1x1_S1x1) broadcasts_S1x1_S1x128) shapeCasts_S1x128_S1x1x1x1x128 x = _
    pointwise
  · have hk : y 2 = (show Fin 4 from 1) := Fin.ext (by show (y 2).val = 1; omega)
    rw [hk]
    show shapeCast S1x1x1x1x128 (broadcastTo S1x128 (shapeCast S1x1 (headM (headAt m c t X.2.1 X.2.2.1 X.2.2.2 1)) shapeCasts_S1x1_S1x1) broadcasts_S1x1_S1x128) shapeCasts_S1x128_S1x1x1x1x128 x = _
    pointwise
  · have hk : y 2 = (show Fin 4 from 0) := Fin.ext (by show (y 2).val = 0; omega)
    rw [hk]
    show shapeCast S1x1x1x1x128 (broadcastTo S1x128 (shapeCast S1x1 (headM (headAt m c t X.2.1 X.2.2.1 X.2.2.2 0)) shapeCasts_S1x1_S1x1) broadcasts_S1x1_S1x128) shapeCasts_S1x128_S1x1x1x1x128 x = _
    pointwise

end Cert.Kernel14Ideal.Scan
-- ==== Proof.CtxPointFirst.lean ====
module
public import proofs.«01_k».proof.Proof.CtxPoint
public import Idealize.ShloMosaic.Lib.Pipeline.ReadBack
@[expose] public section
set_option maxRecDepth 16384
set_option maxHeartbeats 2000000
noncomputable section

/-! # The context's calls: what the first grid point of a sequence leaves -/

namespace Cert.Kernel14Ideal.Scan
open Cert.Kernel14Ideal Cert.Kernel14Ideal.Gen Idealize.ShloMosaic Idealize.ShloMosaic.TcCoe Idealize.SL.Sem
open Idealize.ShloMosaic.Pipeline (Dat)
variable (m : (ℓ : Loc nD τ sig) → Buf (Elt Ideal) ℓ)

/-- Four stores over an earlier one: where one of the four covers the index, the earlier store isn't seen. -/
theorem canon_four {S : Shape} {e : EltTy} {Val : EltTy → Type} [∀ e, Nonempty (Val e)] (p₀ p₁ p₂ p₃ q : View.Piece Val S e) (y : S.Idx)
    (h : ∃ p ∈ [p₀, p₁, p₂, p₃], y ∈ p.1.set) :
    View.canon [p₀, p₁, p₂, p₃, q] y = View.canon [p₀, p₁, p₂, p₃] y := by
  have key : ∀ (L L' : List (View.Piece Val S e)), (∃ p ∈ L, y ∈ p.1.set) → View.canon (L ++ L') y = View.canon L y := by
    intro L L'
    induction L with
    | nil => rintro ⟨p, hp, _⟩; exact absurd hp List.not_mem_nil
    | cons p L ih =>
      intro hc
      by_cases hm : y ∈ p.1.set
      · obtain ⟨x, rfl⟩ := p.1.exists_idx_of_mem hm
        exact (View.canon_cons_emb p.1 p.2 (L ++ L') x).trans (View.canon_cons_emb p.1 p.2 L x).symm
      · rw [List.cons_append, View.canon_cons_of_not_mem p _ hm, View.canon_cons_of_not_mem p _ hm]
        refine ih ?_
        obtain ⟨p', hp', hy'⟩ := hc
        rcases List.mem_cons.mp hp' with rfl | hp'
        · exact absurd hy' hm
        · exact ⟨p', hp', hy'⟩
  exact key [p₀, p₁, p₂, p₃] [q] h

/-- The output chunk after the first point of a sequence, over the initial state. -/
theorem outsH_first (c : Dev nD) (t : Fin cfg0.N) (h0 : t.val % 2 = 0) (y : S1x1x128x512.Idx) :
    (outsAt0 m c t.val t.isLt).1 y = headH (headAt m c t (k0_pay4 (iblk m c 7 t)) (k0_pay5 (iblk m c 8 t)) (k0_pay6 (iblk m c 9 t)) ⟨(y 3).val / 128, lane_div y⟩) (ix2 (y 2) ⟨(y 3).val % 128, Nat.mod_lt _ (by decide)⟩) := by
  rw [outsAt0_A m c t h0]
  dsimp only
  frame_open
  simp (disch := decide) only [↓ View.readCov_skip, ↓ View.readCov_cons_toLoadRect, ↓ View.readCov_fill]
  frame_out
  canon_tiles x h
  · have hk : (⟨(y 3).val / 128, lane_div y⟩ : Fin 4) = 3 := Fin.ext (by show (y 3).val / 128 = 3; omega)
    rw [hk]
    show shapeCast S1x1x128x128 (headH (headAt m c t (k0_pay4 (iblk m c 7 t)) (k0_pay5 (iblk m c 8 t)) (k0_pay6 (iblk m c 9 t)) 3)) shapeCasts_S128x128_S1x1x128x128 x = _
    pointwise
    exact congrArg (headH _) (congrArg₂ ix2 (Fin.ext h2.symm) (Fin.ext (by show (x 3).val = (y 3).val % 128; omega)))
  · have hk : (⟨(y 3).val / 128, lane_div y⟩ : Fin 4) = 2 := Fin.ext (by show (y 3).val / 128 = 2; omega)
    rw [hk]
    show shapeCast S1x1x128x128 (headH (headAt m c t (k0_pay4 (iblk m c 7 t)) (k0_pay5 (iblk m c 8 t)) (k0_pay6 (iblk m c 9 t)) 2)) shapeCasts_S128x128_S1x1x128x128 x = _
    pointwise
    exact congrArg (headH _) (congrArg₂ ix2 (Fin.ext h2.symm) (Fin.ext (by show (x 3).val = (y 3).val % 128; omega)))
  · have hk : (⟨(y 3).val / 128, lane_div y⟩ : Fin 4) = 1 := Fin.ext (by show (y 3).val / 128 = 1; omega)
    rw [hk]
    show shapeCast S1x1x128x128 (headH (headAt m c t (k0_pay4 (iblk m c 7 t)) (k0_pay5 (iblk m c 8 t)) (k0_pay6 (iblk m c 9 t)) 1)) shapeCasts_S128x128_S1x1x128x128 x = _
    pointwise
    exact congrArg (headH _) (congrArg₂ ix2 (Fin.ext h2.symm) (Fin.ext (by show (x 3).val = (y 3).val % 128; omega)))
  · have hk : (⟨(y 3).val / 128, lane_div y⟩ : Fin 4) = 0 := Fin.ext (by show (y 3).val / 128 = 0; omega)
    rw [hk]
    show shapeCast S1x1x128x128 (headH (headAt m c t (k0_pay4 (iblk m c 7 t)) (k0_pay5 (iblk m c 8 t)) (k0_pay6 (iblk m c 9 t)) 0)) shapeCasts_S128x128_S1x1x128x128 x = _
    pointwise
    exact congrArg (headH _) (congrArg₂ ix2 (Fin.ext h2.symm) (Fin.ext (by show (x 3).val = (y 3).val % 128; omega)))

/-- The matrix memories after the first point of a sequence, over the initial state. -/
theorem outsC_first (c : Dev nD) (t : Fin cfg0.N) (h0 : t.val % 2 = 0) (y : S1x1x4x128x128.Idx) :
    (outsAt0 m c t.val t.isLt).2.1 y = headC (headAt m c t (k0_pay4 (iblk m c 7 t)) (k0_pay5 (iblk m c 8 t)) (k0_pay6 (iblk m c 9 t)) (y 2)) (ix2 (y 3) (y 4)) := by
  rw [outsAt0_A m c t h0]
  dsimp only
  frame_open
  simp (disch := decide) only [↓ View.readCov_skip, ↓ View.readCov_cons_toLoadRect, ↓ View.readCov_fill]
  frame_out
  refine (canon_four _ _ _ _ _ y (View.cover_of_tiledL _ ![1, 1, 1, 128, 128] (by rfl) y)).trans ?_
  canon_tiles x h
  · have hk : y 2 = (show Fin 4 from 3) := Fin.ext (by show (y 2).val = 3; omega)
    rw [hk]
    show shapeCast S1x1x1x128x128 (headC (headAt m c t (k0_pay4 (iblk m c 7 t)) (k0_pay5 (iblk m c 8 t)) (k0_pay6 (iblk m c 9 t)) 3)) shapeCasts_S128x128_S1x1x1x128x128 x = _
    pointwise
    exact congrArg (headC _) (congrArg₂ ix2 (Fin.ext h3.symm) (Fin.ext h4.symm))
  · have hk : y 2 = (show Fin 4 from 2) := Fin.ext (by show (y 2).val = 2; omega)
    rw [hk]
    show shapeCast S1x1x1x128x128 (headC (headAt m c t (k0_pay4 (iblk m c 7 t)) (k0_pay5 (iblk m c 8 t)) (k0_pay6 (iblk m c 9 t)) 2)) shapeCasts_S128x128_S1x1x1x128x128 x = _
    pointwise
    exact congrArg (headC _) (congrArg₂ ix2 (Fin.ext h3.symm) (Fin.ext h4.symm))
  · have hk : y 2 = (show Fin 4 from 1) := Fin.ext (by show (y 2).val = 1; omega)
    rw [hk]
    show shapeCast S1x1x1x128x128 (headC (headAt m c t (k0_pay4 (iblk m c 7 t)) (k0_pay5 (iblk m c 8 t)) (k0_pay6 (iblk m c 9 t)) 1)) shapeCasts_S128x128_S1x1x1x128x128 x = _
    pointwise
    exact congrArg (headC _) (congrArg₂ ix2 (Fin.ext h3.symm) (Fin.ext h4.symm))
  · have hk : y 2 = (show Fin 4 from 0) := Fin.ext (by show (y 2).val = 0; omega)
    rw [hk]
    show shapeCast S1x1x1x128x128 (headC (headAt m c t (k0_pay4 (iblk m c 7 t)) (k0_pay5 (iblk m c 8 t)) (k0_pay6 (iblk m c 9 t)) 0)) shapeCasts_S128x128_S1x1x1x128x128 x = _
    pointwise
    exact congrArg (headC _) (congrArg₂ ix2 (Fin.ext h3.symm) (Fin.ext h4.symm))

/-- The normalizers after the first point of a sequence, over the initial state. -/
theorem outsN_first (c : Dev nD) (t : Fin cfg0.N) (h0 : t.val % 2 = 0) (y : S1x1x4x1x128.Idx) :
    (outsAt0 m c t.val t.isLt).2.2.1 y = headN (headAt m c t (k0_pay4 (iblk m c 7 t)) (k0_pay5 (iblk m c 8 t)) (k0_pay6 (iblk m c 9 t)) (y 2)) (ix2 0 (y 4)) := by
  rw [outsAt0_A m c t h0]
  dsimp only
  frame_open
  simp (disch := decide) only [↓ View.readCov_skip, ↓ View.readCov_cons_toLoadRect, ↓ View.readCov_fill]
  frame_out
  refine (canon_four _ _ _ _ _ y (View.cover_of_tiledL _ ![1, 1, 1, 1, 128] (by rfl) y)).trans ?_
  canon_tiles x h
  · have hk : y 2 = (show Fin 4 from 3) := Fin.ext (by show (y 2).val = 3; omega)
    rw [hk]
    show shapeCast S1x1x1x1x128 (headN (headAt m c t (k0_pay4 (iblk m c 7 t)) (k0_pay5 (iblk m c 8 t)) (k0_pay6 (iblk m c 9 t)) 3)) shapeCasts_S1x128_S1x1x1x1x128 x = _
    pointwise
    exact congrArg (headN _) (congrArg₂ ix2 rfl (Fin.ext h4.symm))
  · have hk : y 2 = (show Fin 4 from 2) := Fin.ext (by show (y 2).val = 2; omega)
    rw [hk]
    show shapeCast S1x1x1x1x128 (headN (headAt m c t (k0_pay4 (iblk m c 7 t)) (k0_pay5 (iblk m c 8 t)) (k0_pay6 (iblk m c 9 t)) 2)) shapeCasts_S1x128_S1x1x1x1x128 x = _
    pointwise
    exact congrArg (headN _) (congrArg₂ ix2 rfl (Fin.ext h4.symm))
  · have hk : y 2 = (show Fin 4 from 1) := Fin.ext (by show (y 2).val = 1; omega)
    rw [hk]
    show shapeCast S1x1x1x1x128 (headN (headAt m c t (k0_pay4 (iblk m c 7 t)) (k0_pay5 (iblk m c 8 t)) (k0_pay6 (iblk m c 9 t)) 1)) shapeCasts_S1x128_S1x1x1x1x128 x = _
    pointwise
    exact congrArg (headN _) (congrArg₂ ix2 rfl (Fin.ext h4.symm))
  · have hk : y 2 = (show Fin 4 from 0) := Fin.ext (by show (y 2).val = 0; omega)
    rw [hk]
    show shapeCast S1x1x1x1x128 (headN (headAt m c t (k0_pay4 (iblk m c 7 t)) (k0_pay5 (iblk m c 8 t)) (k0_pay6 (iblk m c 9 t)) 0)) shapeCasts_S1x128_S1x1x1x1x128 x = _
    pointwise
    exact congrArg (headN _) (congrArg₂ ix2 rfl (Fin.ext h4.symm))

/-- The stabilizers after the first point of a sequence, over the initial state. -/
theorem outsM_first (c : Dev nD) (t : Fin cfg0.N) (h0 : t.val % 2 = 0) (y : S1x1x4x1x128.Idx) :
    (outsAt0 m c t.val t.isLt).2.2.2 y = headM (headAt m c t (k0_pay4 (iblk m c 7 t)) (k0_pay5 (iblk m c 8 t)) (k0_pay6 (iblk m c 9 t)) (y 2)) (ix2 0 0) := by
  rw [outsAt0_A m c t h0]
  dsimp only
  frame_open
  simp (disch := decide) only [↓ View.readCov_skip, ↓ View.readCov_cons_toLoadRect, ↓ View.readCov_fill]
  frame_out
  refine (canon_four _ _ _ _ _ y (View.cover_of_tiledL _ ![1, 1, 1, 1, 128] (by rfl) y)).trans ?_
  canon_tiles x h
  · have hk : y 2 = (show Fin 4 from 3) := Fin.ext (by show (y 2).val = 3; omega)
    rw [hk]
    show shapeCast S1x1x1x1x128 (broadcastTo S1x128 (shapeCast S1x1 (headM (headAt m c t (k0_pay4 (iblk m c 7 t)) (k0_pay5 (iblk m c 8 t)) (k0_pay6 (iblk m c 9 t)) 3)) shapeCasts_S1x1_S1x1) broadcasts_S1x1_S1x128) shapeCasts_S1x128_S1x1x1x1x128 x = _
    pointwise
  · have hk : y 2 = (show Fin 4 from 2) := Fin.ext (by show (y 2).val = 2; omega)
    rw [hk]
    show shapeCast S1x1x1x1x128 (broadcastTo S1x128 (shapeCast S1x1 (headM (headAt m c t (k0_pay4 (iblk m c 7 t)) (k0_pay5 (iblk m c 8 t)) (k0_pay6 (iblk m c 9 t)) 2)) shapeCasts_S1x1_S1x1) broadcasts_S1x1_S1x128) shapeCasts_S1x128_S1x1x1x1x128 x = _
    pointwise
  · have hk : y 2 = (show Fin 4 from 1) := Fin.ext (by show (y 2).val = 1; omega)
    rw [hk]
    show shapeCast S1x1x1x1x128 (broadcastTo S1x128 (shapeCast S1x1 (headM (headAt m c t (k0_pay4 (iblk m c 7 t)) (k0_pay5 (iblk m c 8 t)) (k0_pay6 (iblk m c 9 t)) 1)) shapeCasts_S1x1_S1x1) broadcasts_S1x1_S1x128) shapeCasts_S1x128_S1x1x1x1x128 x = _
    pointwise
  · have hk : y 2 = (show Fin 4 from 0) := Fin.ext (by show (y 2).val = 0; omega)
    rw [hk]
    show shapeCast S1x1x1x1x128 (broadcastTo S1x128 (shapeCast S1x1 (headM (headAt m c t (k0_pay4 (iblk m c 7 t)) (k0_pay5 (iblk m c 8 t)) (k0_pay6 (iblk m c 9 t)) 0)) shapeCasts_S1x1_S1x1) broadcasts_S1x1_S1x128) shapeCasts_S1x128_S1x1x1x1x128 x = _
    pointwise

end Cert.Kernel14Ideal.Scan
-- ==== Proof.CtxModel.lean ====
module
public import proofs.«01_k».proof.Proof.Model
@[expose] public section
noncomputable section

/-! # The context's calls: the bidirectional recurrence, over the extended reals

From the projections, the gates, the convolution's weights and the initial state: the recurrence of `Rec.lean` over the two
chunks of each sequence, once forwards and once backwards (`d` is the direction), for each sequence `b` and head `h`. -/

namespace Cert.CtxModel
open Idealize.ShloMosaic Cert.Rec

/-- The call's arguments, entry by entry. -/
structure Inputs where
  X : Fin 4 → Fin 256 → Fin 2048 → EReal
  G : Fin 2 → Fin 4 → Fin 256 → Fin 128 → EReal
  W : Fin 3 → Fin 1024 → EReal
  C0 : Fin 2 → Fin 4 → Fin 4 → Fin 128 → Fin 128 → EReal
  n0 : Fin 2 → Fin 4 → Fin 4 → Fin 128 → EReal
  m0 : Fin 2 → Fin 4 → Fin 4 → Fin 128 → EReal

/-- The logarithm of the logistic function. -/
def logsig (x : EReal) : EReal := min x 0 - Ideal.log1p (Ideal.exp (0 - max x (-x)))

/-- The row of the sequence that direction `d` meets at step `p`. -/
def row (d : Fin 2) (p : ℕ) : Fin 256 := ⟨if d.val = 0 then p % 256 else 255 - p % 256, by split <;> omega⟩

variable (I : Inputs)

/-- The query and key projections. -/
def qk (b : Fin 4) (r : Fin 256) (j : Fin 1024) : EReal := I.X b r ⟨j.val, by omega⟩
/-- The row before, zero before the first. -/
def before (b : Fin 4) (r : Fin 256) (j : Fin 1024) : EReal := if h : r.val = 0 then 0 else qk I b ⟨r.val - 1, by omega⟩ j
/-- The row after, zero after the last. -/
def after (b : Fin 4) (r : Fin 256) (j : Fin 1024) : EReal := if h : r.val = 255 then 0 else qk I b ⟨r.val + 1, by omega⟩ j
/-- The convolution along the sequence. -/
def conv (b : Fin 4) (r : Fin 256) (j : Fin 1024) : EReal :=
  before I b r j * I.W 0 j + qk I b r j * I.W 1 j + after I b r j * I.W 2 j
/-- The queries and keys. -/
def act (b : Fin 4) (r : Fin 256) (j : Fin 1024) : EReal := conv I b r j * Ideal.logistic (conv I b r j)

/-- The logarithm of the forget gate of direction `d`, sequence `b` and head `h` at step `p`. -/
def lf (d : Fin 2) (b h : Fin 4) (p : ℕ) : EReal := logsig (I.G d b (row d p) ⟨4 + h.val, by omega⟩)

/-- The running sum of a vector. -/
def running (f : Vec128) : Vec128 := fun t => ∑ s, if s.val ≤ t.val then f s else 0

/-- Chunk `c` of what direction `d`, sequence `b` and head `h` meet. -/
def chunk (d : Fin 2) (b h : Fin 4) (c : ℕ) : Chunk where
  M := fun t s => if s.val ≤ t.val then 1#1 else 0#1
  b := running fun s => lf I d b h (128 * c + s.val)
  bl := running (fun s => lf I d b h (128 * c + s.val)) 127
  q := fun t j => act I b (row d (128 * c + t.val)) ⟨128 * h.val + j.val, by omega⟩
  k := fun t j => act I b (row d (128 * c + t.val)) ⟨512 + 128 * h.val + j.val, by omega⟩ * Ideal.ofBits .f32 0x3DB504F3#32
  v := fun t j => I.X b (row d (128 * c + t.val)) ⟨1024 + 128 * h.val + j.val, by omega⟩
  ig := fun t => I.G d b (row d (128 * c + t.val)) ⟨h.val, by omega⟩

/-- The state before chunk `c`. -/
def state (d : Fin 2) (b h : Fin 4) : ℕ → State
  | 0 => ⟨I.C0 d b h, I.n0 d b h, I.m0 d b h 0⟩
  | c + 1 => next (chunk I d b h c) (state d b h c)

/-- The recurrence's output at row `r` of sequence `b` in direction `d`: lane `j` of head `h`. -/
def result (d : Fin 2) (b : Fin 4) (r : Fin 256) (h : Fin 4) (j : Fin 128) : EReal :=
  let p := (row d r.val).val
  out (chunk I d b h (p / 128)) (state I d b h (p / 128)) ⟨p % 128, Nat.mod_lt _ (by decide)⟩ j

end Cert.CtxModel
-- ==== Proof.CtxBlocks.lean ====
module
public import proofs.«01_k».proof.Proof.CtxHead
public import proofs.«01_k».proof.Proof.CtxModel
@[expose] public section
set_option maxRecDepth 16384
noncomputable section

/-! # The context's calls: the blocks a grid point reads

Each block of an operand, entry by entry, in terms of the launch's arguments. -/

namespace Cert.Kernel14Ideal.Scan
open Cert.Kernel14Ideal Cert.Kernel14Ideal.Gen Idealize.ShloMosaic Idealize.ShloMosaic.TcCoe Idealize.SL.Sem
open Idealize.ShloMosaic.Pipeline (Dat)

/-- The direction of a grid point. -/
abbrev dirN (n : ℕ) : ℕ := n / 8
/-- The sequence of a grid point. -/
abbrev seqN (n : ℕ) : ℕ := n % 8 / 2
/-- The array's chunk at a grid point. -/
abbrev blkN (n : ℕ) : ℕ := if n / 8 = 0 then n % 2 else 1 - n % 2

/-- The blocks' places at a grid point. -/
theorem idx : ∀ t : Fin cfg0.N,
    win0_0.index t = ![seqN t.val, blkN t.val, 0] ∧ win0_1.index t = ![seqN t.val, blkN t.val, 1] ∧ win0_2.index t = ![seqN t.val, blkN t.val, 2] ∧
    win0_3.index t = ![seqN t.val, blkN t.val, 0, 0] ∧ win0_4.index t = ![dirN t.val, seqN t.val, blkN t.val, 0] ∧
    win0_5.index t = ![dirN t.val, seqN t.val, 0, blkN t.val] ∧ win0_6.index t = ![0, 0] ∧
    win0_7.index t = ![dirN t.val, seqN t.val, 0, 0, 0] ∧ win0_8.index t = ![dirN t.val, seqN t.val, 0, 0, 0] ∧ win0_9.index t = ![dirN t.val, seqN t.val, 0, 0, 0] ∧
    win0_10.index t = ![dirN t.val, seqN t.val, blkN t.val, 0] ∧
    win0_11.index t = ![dirN t.val, seqN t.val, 0, 0, 0] ∧ win0_12.index t = ![dirN t.val, seqN t.val, 0, 0, 0] ∧ win0_13.index t = ![dirN t.val, seqN t.val, 0, 0, 0] ∧
    (grid0.coords t 0).val = dirN t.val :=
  (by decide +kernel : ∀ t : Fin grid0.N, _)

variable (m : (ℓ : Loc nD τ sig) → Buf (Elt Ideal) ℓ)

/-- The projections. -/
abbrev argX (c : Dev nD) : FVec Ideal S4x256x2048 .f32 := m (c, Proc.tc.devRef main_arg0)
/-- The gates. -/
abbrev argG (c : Dev nD) : FVec Ideal S2x4x256x128 .f32 := m (c, Proc.tc.devRef main_arg1)

/-- The convolution's weights. -/
abbrev argW (c : Dev nD) : FVec Ideal S3x1024 .f32 := m (c, Proc.tc.devRef main_arg2)
/-- The initial matrix memories. -/
abbrev argC (c : Dev nD) : FVec Ideal S2x4x4x128x128 .f32 := m (c, Proc.tc.devRef main_arg3)
/-- The initial normalizers. -/
abbrev argN (c : Dev nD) : FVec Ideal S2x4x4x1x128 .f32 := m (c, Proc.tc.devRef main_arg4)
/-- The initial stabilizers. -/
abbrev argM (c : Dev nD) : FVec Ideal S2x4x4x1x128 .f32 := m (c, Proc.tc.devRef main_arg5)

/-- The rows beside each chunk, zero outside the sequence. -/
theorem V_halo (c : Dev nD) (b : Fin 4) (k : Fin 2) (r : Fin 2) (j : Fin 1024) : V m c main_v7 (ix4 b k r j) =
    if r.val = 0 then (if h : k.val = 0 then 0 else argX m c (ix3 b ⟨k.val * 128 - 1, by omega⟩ ⟨j, by omega⟩))
    else (if h : k.val = 1 then 0 else argX m c (ix3 b ⟨(k.val + 1) * 128, by omega⟩ ⟨j, by omega⟩)) := by
  entry_read
  pointwise
  by_cases hr : r.val < 1
  · refine Eq.trans (dif_pos hr) (Eq.trans ?_ (if_pos (by omega)).symm)
    by_cases hk : k.val < 1
    · refine Eq.trans (dif_pos hk) (Eq.trans ?_ (dif_pos (by omega)).symm)
      show broadcastInDim S4x1x1024 ![] bcast_S_S4x1x1024 (constant (F := Ideal) S_ .f32 0x00000000#32) (ix3 b ⟨k.val, hk⟩ j) = 0
      pointwise
    · refine Eq.trans (dif_neg hk) (Eq.trans ?_ (dif_neg (by omega)).symm)
      show Host.slice S4x1x1024 ![0, 127, 0] ![1, 128, 1] (argX m c) slicesBy_S4x256x2048_S4x1x1024_0s1_127s128_0s1 (ix3 b ⟨k.val - 1, by omega⟩ j) = _
      pointwise
      exact congrArg _ (congrArg₂ (ix3 b) (Fin.ext (by show 127 + 128 * (k.val - 1) = k.val * 128 - 1; omega)) rfl)
  · refine Eq.trans (dif_neg hr) (Eq.trans ?_ (if_neg (by omega)).symm)
    by_cases hk : k.val < 1
    · refine Eq.trans (dif_pos hk) (Eq.trans ?_ (dif_neg (by omega)).symm)
      show Host.slice S4x1x1024 ![0, 128, 0] ![1, 128, 1] (argX m c) slicesBy_S4x256x2048_S4x1x1024_0s1_128s128_0s1 (ix3 b ⟨k.val, hk⟩ j) = _
      pointwise
      exact congrArg _ (congrArg₂ (ix3 b) (Fin.ext (by show 128 + 128 * k.val = (k.val + 1) * 128; omega)) rfl)
    · refine Eq.trans (dif_neg hk) (Eq.trans ?_ (dif_pos (by omega)).symm)
      show broadcastInDim S4x1x1024 ![] bcast_S_S4x1x1024 (constant (F := Ideal) S_ .f32 0x00000000#32) (ix3 b ⟨k.val - 1, by omega⟩ j) = 0
      pointwise
/-- The gates as rows: the transposed gates. -/
theorem V_gatesT (c : Dev nD) (d : Fin 2) (b : Fin 4) (r : Fin 8) (p : Fin 256) :
    V m c main_v9 (ix4 d b r p) = argG m c (ix4 d b p ⟨r.val, by omega⟩) := by
  entry_read
  pointwise

section
variable (c : Dev nD) (t : Fin cfg0.N) (d : Fin 2) (b : Fin 4) (hd : d.val = dirN t.val) (hb : b.val = seqN t.val)
include hb

theorem blk_q (r : Fin 128) (j : Fin 512) (p : Fin 256) (hp : p.val = blkN t.val * 128 + r.val) :
    iblk m c 0 t (ix3 0 r j) = argX m c (ix3 b p ⟨j, by omega⟩) := by
  rw [argX, ← V_main_arg0 m c]
  blk_ext [iblk, idx t, hb, hp]
theorem blk_k (r : Fin 128) (j : Fin 512) (p : Fin 256) (hp : p.val = blkN t.val * 128 + r.val) :
    iblk m c 1 t (ix3 0 r j) = argX m c (ix3 b p ⟨512 + j, by omega⟩) := by
  rw [argX, ← V_main_arg0 m c]
  blk_ext [iblk, idx t, hb, hp]
theorem blk_v (r : Fin 128) (j : Fin 512) (p : Fin 256) (hp : p.val = blkN t.val * 128 + r.val) :
    iblk m c 2 t (ix3 0 r j) = argX m c (ix3 b p ⟨1024 + j, by omega⟩) := by
  rw [argX, ← V_main_arg0 m c]
  blk_ext [iblk, idx t, hb, hp]
theorem blk_halo (r : Fin 2) (j : Fin 1024) (k : Fin 2) (hk : k.val = blkN t.val) :
    iblk m c 3 t (ix4 0 0 r j) = V m c main_v7 (ix4 b k r j) := by
  blk_ext [iblk, idx t, hb, hk]
omit hb in
theorem blk_w (i : Fin 3) (j : Fin 1024) : iblk m c 6 t (ix2 i j) = argW m c (ix2 i j) := by
  rw [argW, ← V_main_arg2 m c]
  blk_ext [iblk, idx t]
include hd
theorem blk_gates (r : Fin 128) (j : Fin 128) (p : Fin 256) (hp : p.val = blkN t.val * 128 + r.val) :
    iblk m c 4 t (ix4 0 0 r j) = argG m c (ix4 d b p j) := by
  rw [argG, ← V_main_arg1 m c]
  blk_ext [iblk, idx t, hb, hp, hd]
theorem blk_gatesT (j : Fin 8) (r : Fin 128) (p : Fin 256) (hp : p.val = blkN t.val * 128 + r.val) :
    iblk m c 5 t (ix4 0 0 j r) = argG m c (ix4 d b p ⟨j.val, by omega⟩) := by
  rw [← V_gatesT m c]
  blk_ext [iblk, idx t, hb, hp, hd]
theorem blk_C (h : Fin 4) (e j : Fin 128) : iblk m c 7 t (ix5 0 0 h e j) = argC m c (ix5 d b h e j) := by
  rw [argC, ← V_main_arg3 m c]
  blk_ext [iblk, idx t, hb, hd]
theorem blk_n (h : Fin 4) (j : Fin 128) : iblk m c 8 t (ix5 0 0 h 0 j) = argN m c (ix5 d b h 0 j) := by
  rw [argN, ← V_main_arg4 m c]
  blk_ext [iblk, idx t, hb, hd]
theorem blk_m (h : Fin 4) (j : Fin 128) : iblk m c 9 t (ix5 0 0 h 0 j) = argM m c (ix5 d b h 0 j) := by
  rw [argM, ← V_main_arg5 m c]
  blk_ext [iblk, idx t, hb, hd]
end

/-- The launch's arguments, entry by entry. -/
def inputs (c : Dev nD) : CtxModel.Inputs where
  X := fun b r j => argX m c (ix3 b r j)
  G := fun d b r j => argG m c (ix4 d b r j)
  W := fun i j => argW m c (ix2 i j)
  C0 := fun d b h e j => argC m c (ix5 d b h e j)
  n0 := fun d b h j => argN m c (ix5 d b h 0 j)
  m0 := fun d b h j => argM m c (ix5 d b h 0 j)

end Cert.Kernel14Ideal.Scan
-- ==== Proof.CtxChunks.lean ====
module
public import proofs.«01_k».proof.Proof.CtxPoint
public import proofs.«01_k».proof.Proof.CtxBlocks
@[expose] public section
set_option maxRecDepth 16384
noncomputable section

/-! # The context's calls: the chunk a grid point feeds the recurrence

At grid point `t` the operands of head `k` are those of the model's chunk `t % 2`, with the positions counted as the
direction counts them. -/

namespace Cert.Kernel14Ideal.Scan
open Cert.Kernel14Ideal Cert.Kernel14Ideal.Gen Idealize.ShloMosaic Idealize.ShloMosaic.TcCoe Idealize.SL.Sem
open Idealize.ShloMosaic.Pipeline (Dat)
open Cert.Rec (flip)

/-- The mask's bit: which of two positions comes first in the direction. -/
theorem mask_bit : ∀ d : Fin 2, ∀ t s : Fin 128,
    IntOp.cmpi .sle (IntOp.muli (IntOp.subi (BitVec.ofNat 32 s.val) (BitVec.ofNat 32 t.val))
      (Scalar.select (Scalar.cmpi .eq (BitVec.ofNat 32 d.val) 0#32) 1#32 4294967295#32)) 0#32
      = if (flip d s).val ≤ (flip d t).val then 1#1 else 0#1 := by decide +kernel

theorem bit_value (p : Prop) [Decidable p] :
    (FloatOps.sitofp .f32 (BitVec.setWidth 32 (if p then 1#1 else 0#1 : BitVec 1)) : Ideal .f32) = if p then (1 : EReal) else 0 := by
  by_cases h : p
  · simp only [if_pos h]
    show (((BitVec.setWidth 32 1#1).toInt : ℝ) : EReal) = 1
    have : (BitVec.setWidth 32 1#1).toInt = 1 := by decide
    rw [this]; simp
  · simp only [if_neg h]
    show (((BitVec.setWidth 32 0#1).toInt : ℝ) : EReal) = 0
    have : (BitVec.setWidth 32 0#1).toInt = 0 := by decide
    rw [this]; simp

theorem select_one {α : Type} (a b : α) : Scalar.select 1#1 a b = a := rfl
theorem select_zero {α : Type} (a b : α) : Scalar.select 0#1 a b = b := rfl

theorem running_flip (d : Fin 2) (f : Fin 128 → EReal) (t : Fin 128) :
    (∑ s, if (flip d s).val ≤ (flip d t).val then f (flip d s) else 0) = CtxModel.running f (flip d t) :=
  Rec.sum_flip d fun s => if s.val ≤ (flip d t).val then f s else 0

variable (m : (ℓ : Loc nD τ sig) → Buf (Elt Ideal) ℓ)

section
variable (c : Dev nD) (t : Fin cfg0.N) (d : Fin 2) (b : Fin 4) (hd : d.val = dirN t.val) (hb : b.val = seqN t.val)

include hd in
/-- The array's row of a chunk's position. -/
theorem row_val (r : Fin 128) : (CtxModel.row d (128 * (t.val % 2) + (flip d r).val)).val = blkN t.val * 128 + r.val := by
  have h1 := t.isLt
  change t.val < 16 at h1
  have h2 := r.isLt
  have h3 := d.isLt
  unfold CtxModel.row Rec.flip blkN
  unfold dirN at hd
  dsimp only
  by_cases h : d.val = 0
  · rw [if_pos h, if_pos h, if_pos (by omega)]; omega
  · rw [if_neg h, if_neg h, if_neg (by omega), Fin.val_rev]; omega

include hd in
theorem coord_d : (grid0.coords t 0).val = d.val := (idx t).2.2.2.2.2.2.2.2.2.2.2.2.2.2.trans hd.symm

include hd hb

theorem sumsRow_apply (k : Fin 4) (r : Fin 128) :
    sumsRow (grid0.coords t) (iblk m c 5 t) (ix2 ⟨4 + k.val, by omega⟩ r)
      = CtxModel.running (fun s => CtxModel.lf (inputs m c) d b k (128 * (t.val % 2) + s.val)) (flip d r) := by
  rw [← running_flip d]
  pointwise [sumsRow, k0_pay19, k0_pay9, k0_pay17, k0_pay18, k0_pay15]
  rw [coord_d t d hd]
  refine Finset.sum_congr rfl fun s _ => ?_
  rw [mask_bit, bit_value, blk_gatesT m c t d b hd hb _ s _ (row_val t d hd s)]
  split
  · rw [mul_one]; rfl
  · rw [mul_zero]

theorem sumsCol_apply (k : Fin 4) (r : Fin 128) :
    sumsCol (grid0.coords t) (iblk m c 4 t) (ix2 r ⟨4 + k.val, by omega⟩)
      = CtxModel.running (fun s => CtxModel.lf (inputs m c) d b k (128 * (t.val % 2) + s.val)) (flip d r) := by
  rw [← running_flip d]
  pointwise [sumsCol, k0_pay16, k0_pay8, k0_pay7, k0_pay14]
  rw [coord_d t d hd]
  refine Finset.sum_congr rfl fun s _ => ?_
  rw [mask_bit, bit_value, blk_gates m c t d b hd hb s _ _ (row_val t d hd s)]
  split
  · rw [one_mul]; rfl
  · rw [zero_mul]

omit hd in
/-- The queries' and keys' projections in the blocks. -/
theorem blk_qk (r : Fin 128) (j : Fin 1024) (p : Fin 256) (hp : p.val = blkN t.val * 128 + r.val) :
    (if h : j.val < 512 then iblk m c 0 t (ix3 0 r ⟨j.val, h⟩) else iblk m c 1 t (ix3 0 r ⟨j.val - 512, by omega⟩)) = CtxModel.qk (inputs m c) b p j := by
  unfold CtxModel.qk
  split
  · exact blk_q m c t d b hb r _ p hp
  · refine (blk_k m c t d b hb r _ p hp).trans ?_
    exact congrArg _ (congrArg (ix3 b p) (Fin.ext (by show 512 + (j.val - 512) = j.val; omega)))

omit hd in
theorem before_apply (r : Fin 128) (j : Fin 1024) (p : Fin 256) (hp : p.val = blkN t.val * 128 + r.val) (q : Fin 128)
    (hq : q.val = (r.val + 128 - 1) % 128) :
    Scalar.select (IntOp.cmpi .eq (BitVec.ofNat 32 r.val) 0#32) (iblk m c 3 t (ix4 0 0 0 j))
      (if h : j.val < 512 then iblk m c 0 t (ix3 0 q ⟨j.val, h⟩) else iblk m c 1 t (ix3 0 q ⟨j.val - 512, by omega⟩))
      = CtxModel.before (inputs m c) b p j := by
  have h1 := t.isLt
  change t.val < 16 at h1
  have hk : blkN t.val < 2 := by unfold blkN; split <;> omega
  by_cases h : r.val = 0
  · have e : IntOp.cmpi .eq (BitVec.ofNat 32 r.val) 0#32 = 1#1 := by rw [h]; rfl
    rw [e, select_one, blk_halo m c t b hb 0 j ⟨blkN t.val, hk⟩ rfl, V_halo]
    refine (if_pos rfl).trans ?_
    unfold CtxModel.before
    by_cases h' : blkN t.val = 0
    · rw [dif_pos h', dif_pos (show p.val = 0 by omega)]
    · rw [dif_neg h', dif_neg (show ¬ p.val = 0 by omega)]
      exact congrArg _ (congrArg₂ (ix3 b) (Fin.ext (by show blkN t.val * 128 - 1 = p.val - 1; omega)) rfl)
  · have e : IntOp.cmpi .eq (BitVec.ofNat 32 r.val) 0#32 = 0#1 := by
      have : ∀ r : Fin 128, r.val ≠ 0 → IntOp.cmpi .eq (BitVec.ofNat 32 r.val) 0#32 = 0#1 := by decide +kernel
      exact this r h
    rw [e, select_zero]
    unfold CtxModel.before
    rw [dif_neg (show ¬ p.val = 0 by omega)]
    exact blk_qk m c t d b hb q j ⟨p.val - 1, by omega⟩ (by show p.val - 1 = _; omega)

omit hd in
theorem after_apply (r : Fin 128) (j : Fin 1024) (p : Fin 256) (hp : p.val = blkN t.val * 128 + r.val) (q : Fin 128)
    (hq : q.val = (r.val + 128 - 127) % 128) :
    Scalar.select (IntOp.cmpi .eq (BitVec.ofNat 32 r.val) 127#32) (iblk m c 3 t (ix4 0 0 1 j))
      (if h : j.val < 512 then iblk m c 0 t (ix3 0 q ⟨j.val, h⟩) else iblk m c 1 t (ix3 0 q ⟨j.val - 512, by omega⟩))
      = CtxModel.after (inputs m c) b p j := by
  have h1 := t.isLt
  change t.val < 16 at h1
  have hk : blkN t.val < 2 := by unfold blkN; split <;> omega
  by_cases h : r.val = 127
  · have e : IntOp.cmpi .eq (BitVec.ofNat 32 r.val) 127#32 = 1#1 := by rw [h]; rfl
    rw [e, select_one, blk_halo m c t b hb 1 j ⟨blkN t.val, hk⟩ rfl, V_halo]
    refine (if_neg (by decide)).trans ?_
    unfold CtxModel.after
    by_cases h' : blkN t.val = 1
    · rw [dif_pos h', dif_pos (show p.val = 255 by omega)]
    · rw [dif_neg h', dif_neg (show ¬ p.val = 255 by omega)]
      exact congrArg _ (congrArg₂ (ix3 b) (Fin.ext (by show (blkN t.val + 1) * 128 = p.val + 1; omega)) rfl)
  · have e : IntOp.cmpi .eq (BitVec.ofNat 32 r.val) 127#32 = 0#1 := by
      have : ∀ r : Fin 128, r.val ≠ 127 → IntOp.cmpi .eq (BitVec.ofNat 32 r.val) 127#32 = 0#1 := by decide +kernel
      exact this r h
    have hr := r.isLt
    rw [e, select_zero]
    unfold CtxModel.after
    rw [dif_neg (show ¬ p.val = 255 by omega)]
    exact blk_qk m c t d b hb q j ⟨p.val + 1, by omega⟩ (by show p.val + 1 = _; omega)

omit hd in
/-- The chunk's queries and keys. -/
theorem chunkQK_apply (r : Fin 128) (j : Fin 1024) (p : Fin 256) (hp : p.val = blkN t.val * 128 + r.val) :
    chunkQK (iblk m c 0 t) (iblk m c 1 t) (iblk m c 3 t) (iblk m c 6 t) (ix2 r j) = CtxModel.act (inputs m c) b p j := by
  pointwise [chunkQK, k0_pay13, k0_pay10, k0_pay11, k0_pay12]
  have e := congrArg₂ (fun x y : EReal => x + y) (congrArg₂ (fun x y : EReal => x + y)
    (congrArg₂ (fun x y : EReal => x * y) (before_apply m c t 0 b hb r j p hp ⟨(r.val + 128 - 1) % 128, Nat.mod_lt _ (by decide)⟩ rfl) (blk_w m c t 0 j))
    (congrArg₂ (fun x y : EReal => x * y) (blk_qk m c t 0 b hb r j p hp) (blk_w m c t 1 j)))
    (congrArg₂ (fun x y : EReal => x * y) (after_apply m c t 0 b hb r j p hp ⟨(r.val + 128 - 127) % 128, Nat.mod_lt _ (by decide)⟩ rfl) (blk_w m c t 2 j))
  exact congrArg (fun x : EReal => x * Ideal.logistic x) e

end

/-- The operands of head `k` at a grid point are the model's chunk. -/
theorem chunk_at (c : Dev nD) (t : Fin cfg0.N) (d : Fin 2) (b : Fin 4) (hd : d.val = dirN t.val) (hb : b.val = seqN t.val)
    (C : FVec Ideal S1x1x4x128x128 .f32) (n s : FVec Ideal S1x1x4x1x128 .f32) (k : Fin 4) :
    (headAt m c t C n s k).chunk = (CtxModel.chunk (inputs m c) d b k (t.val % 2)).flip d := by
  have hrow : ∀ r : Fin 128, (headAt m c t C n s k).brow (ix2 0 r)
      = CtxModel.running (fun s => CtxModel.lf (inputs m c) d b k (128 * (t.val % 2) + s.val)) (flip d r) := by
    intro r
    refine Eq.trans ?_ (sumsRow_apply m c t d b hd hb k r)
    pointwise [headAt, headOf]
  refine Rec.Chunk.ext ?_ ?_ ?_ ?_ ?_ ?_ ?_
  · funext r s
    show k0_pay7 (grid0.coords t) (ix2 r s) = _
    pointwise [k0_pay7]
    rw [coord_d t d hd]
    exact mask_bit d r s
  · funext r
    exact hrow r
  · refine Eq.trans (b := Scalar.select (Scalar.cmpi .eq (BitVec.ofNat 32 (grid0.coords t 0).val) 0#32)
      ((headAt m c t C n s k).brow (ix2 0 127)) ((headAt m c t C n s k).brow (ix2 0 0))) ?_ ?_
    · pointwise [headAt, headOf, Head.chunk]
    · rw [coord_d t d hd, hrow, hrow]
      have h3 := d.isLt
      by_cases h : d.val = 0
      · rw [h]
        refine (select_one _ _).trans (congrArg _ ?_)
        exact (if_pos h)
      · have h' : d.val = 1 := by omega
        rw [h']
        refine (select_zero _ _).trans (congrArg _ ?_)
        exact (if_neg h)
  · funext r j
    refine Eq.trans ?_ (chunkQK_apply m c t b hb r ⟨128 * k.val + j.val, by omega⟩ _ (row_val t d hd r))
    pointwise [headAt, headOf, Head.chunk]
  · funext r j
    refine Eq.trans ?_ (congrArg (· * _) (chunkQK_apply m c t b hb r ⟨512 + 128 * k.val + j.val, by omega⟩ _ (row_val t d hd r)))
    pointwise [headAt, headOf, Head.chunk]
  · funext r j
    refine Eq.trans ?_ ((blk_v m c t d b hb r ⟨128 * k.val + j.val, by omega⟩ _ (row_val t d hd r)).trans
      (congrArg (argX m c) (congrArg (ix3 b _) (Fin.ext (by show 1024 + (128 * k.val + j.val) = 1024 + 128 * k.val + j.val; omega)))))
    pointwise [headAt, headOf, Head.chunk, k0_pay20]
  · funext r
    refine Eq.trans ?_ (blk_gatesT m c t d b hd hb ⟨k.val, by omega⟩ r _ (row_val t d hd r))
    pointwise [headAt, headOf, Head.chunk, k0_pay15]

/-- The gates and their running sums as columns and as rows agree. -/
theorem coherent_at (c : Dev nD) (t : Fin cfg0.N) (d : Fin 2) (b : Fin 4) (hd : d.val = dirN t.val) (hb : b.val = seqN t.val)
    (C : FVec Ideal S1x1x4x128x128 .f32) (n s : FVec Ideal S1x1x4x1x128 .f32) (k : Fin 4) :
    (headAt m c t C n s k).Coherent where
  b := by
    intro r
    refine Eq.trans ?_ ((sumsCol_apply m c t d b hd hb k r).trans ((sumsRow_apply m c t d b hd hb k r).symm.trans ?_))
    · pointwise [headAt, headOf]
    · pointwise [headAt, headOf]
  i := by
    intro r
    refine Eq.trans ?_ ((blk_gates m c t d b hd hb r ⟨k.val, by omega⟩ _ (row_val t d hd r)).trans
      ((blk_gatesT m c t d b hd hb ⟨k.val, by omega⟩ r _ (row_val t d hd r)).symm.trans ?_))
    · pointwise [headAt, headOf, k0_pay14]
    · pointwise [headAt, headOf, k0_pay15]

theorem memOf_apply (X : FVec Ideal S1x1x4x128x128 .f32) (k : Fin 4) (e j : Fin 128) : memOf X k (ix5 0 0 0 e j) = X (ix5 0 0 k e j) := by
  refine congrArg X (funext fun a => Fin.ext ((Rect.idx_unit_val ..).trans ?_))
  fin_cases a
  · rfl
  · rfl
  · rfl
  · exact Nat.zero_add _
  · exact Nat.zero_add _
theorem vecOf_apply (X : FVec Ideal S1x1x4x1x128 .f32) (k : Fin 4) (j : Fin 128) : vecOf X k (ix5 0 0 0 0 j) = X (ix5 0 0 k 0 j) := by
  refine congrArg X (funext fun a => Fin.ext ((Rect.idx_unit_val ..).trans ?_))
  fin_cases a
  · rfl
  · rfl
  · rfl
  · rfl
  · exact Nat.zero_add _

/-- The carried state of head `k`, as the recurrence takes it. -/
theorem state_at (c : Dev nD) (t : Fin cfg0.N) (C : FVec Ideal S1x1x4x128x128 .f32) (n s : FVec Ideal S1x1x4x1x128 .f32) (k : Fin 4)
    (S : Rec.State) (hC : ∀ e j : Fin 128, C (ix5 0 0 k e j) = S.C e j) (hn : ∀ j : Fin 128, n (ix5 0 0 k 0 j) = S.n j)
    (hs : s (ix5 0 0 k 0 0) = S.m) : (headAt m c t C n s k).state = S := by
  refine Rec.State.ext ?_ ?_ ?_
  · funext e j
    refine Eq.trans ?_ (hC e j)
    pointwise [headAt, headOf, Head.state]
    exact memOf_apply C k e j
  · funext j
    refine Eq.trans ?_ (hn j)
    pointwise [headAt, headOf, Head.state]
    exact vecOf_apply n k j
  · refine Eq.trans ?_ hs
    pointwise [headAt, headOf, Head.state]
    exact vecOf_apply s k 0

end Cert.Kernel14Ideal.Scan
-- ==== Proof.CtxScan.lean ====
module
public import proofs.«01_k».proof.Proof.CtxPointFirst
public import proofs.«01_k».proof.Proof.CtxChunks
public import Idealize.ShloMosaic.Lib.Pipeline.Covers
@[expose] public section
set_option maxRecDepth 16384
noncomputable section

/-! # The context's calls: the kernel's grid, point after point

By induction over the grid points of a sequence, what each point leaves is the model's output and state; the launch's
result arrays are the model's results. -/

namespace Cert.Kernel14Ideal.Scan
open Cert.Kernel14Ideal Cert.Kernel14Ideal.Gen Idealize.ShloMosaic Idealize.ShloMosaic.TcCoe Idealize.SL.Sem
open Idealize.ShloMosaic.Pipeline (Dat)
open Cert.Rec (flip)

variable (m : (ℓ : Loc nD τ sig) → Buf (Elt Ideal) ℓ)

section
variable (c : Dev nD) (t : Fin cfg0.N) (d : Fin 2) (b : Fin 4) (hd : d.val = dirN t.val) (hb : b.val = seqN t.val)
    (C : FVec Ideal S1x1x4x128x128 .f32) (n s : FVec Ideal S1x1x4x1x128 .f32) (k : Fin 4) (S : Rec.State)
    (hC : ∀ e j : Fin 128, C (ix5 0 0 k e j) = S.C e j) (hn : ∀ j : Fin 128, n (ix5 0 0 k 0 j) = S.n j)
    (hs : s (ix5 0 0 k 0 0) = S.m)
include hd hb hC hn hs

theorem pointH (r j : Fin 128) : headH (headAt m c t C n s k) (ix2 r j)
    = Rec.out (CtxModel.chunk (inputs m c) d b k (t.val % 2)) S (flip d r) j := by
  rw [headH_apply (coherent_at m c t d b hd hb C n s k), chunk_at m c t d b hd hb C n s k, state_at m c t C n s k S hC hn hs, Rec.out_flip]
theorem pointC (e j : Fin 128) : headC (headAt m c t C n s k) (ix2 e j)
    = (Rec.next (CtxModel.chunk (inputs m c) d b k (t.val % 2)) S).C e j := by
  rw [headC_apply (coherent_at m c t d b hd hb C n s k), chunk_at m c t d b hd hb C n s k, state_at m c t C n s k S hC hn hs, Rec.next_flip]
theorem pointN (j : Fin 128) : headN (headAt m c t C n s k) (ix2 0 j)
    = (Rec.next (CtxModel.chunk (inputs m c) d b k (t.val % 2)) S).n j := by
  rw [headN_apply (coherent_at m c t d b hd hb C n s k), chunk_at m c t d b hd hb C n s k, state_at m c t C n s k S hC hn hs, Rec.next_flip]
theorem pointM : headM (headAt m c t C n s k) (ix2 0 0)
    = (Rec.next (CtxModel.chunk (inputs m c) d b k (t.val % 2)) S).m := by
  rw [headM_apply (coherent_at m c t d b hd hb C n s k), chunk_at m c t d b hd hb C n s k, state_at m c t C n s k S hC hn hs, Rec.next_flip]
end

theorem pay4_apply (X : FVec Ideal S1x1x4x128x128 .f32) (k : Fin 4) (e j : Fin 128) : k0_pay4 X (ix5 0 0 k e j) = X (ix5 0 0 k e j) := by
  pointwise [k0_pay4]
theorem pay5_apply (X : FVec Ideal S1x1x4x1x128 .f32) (k : Fin 4) (j : Fin 128) : k0_pay5 X (ix5 0 0 k 0 j) = X (ix5 0 0 k 0 j) := by
  pointwise [k0_pay5]
theorem pay6_apply (X : FVec Ideal S1x1x4x1x128 .f32) (k : Fin 4) (j : Fin 128) : k0_pay6 X (ix5 0 0 k 0 j) = X (ix5 0 0 k 0 j) := by
  pointwise [k0_pay6]

/-- What grid point `t` leaves, in the model's terms. -/
structure Leaves (c : Dev nD) (d : Fin 2) (b : Fin 4) (t : Fin cfg0.N) : Prop where
  H : ∀ (k : Fin 4) (r j : Fin 128), (outsAt0 m c t.val t.isLt).1 (ix4 0 0 r ⟨128 * k.val + j.val, by omega⟩)
    = Rec.out (CtxModel.chunk (inputs m c) d b k (t.val % 2)) (CtxModel.state (inputs m c) d b k (t.val % 2)) (flip d r) j
  C : ∀ (k : Fin 4) (e j : Fin 128), (outsAt0 m c t.val t.isLt).2.1 (ix5 0 0 k e j) = (CtxModel.state (inputs m c) d b k (t.val % 2 + 1)).C e j
  n : ∀ (k : Fin 4) (j : Fin 128), (outsAt0 m c t.val t.isLt).2.2.1 (ix5 0 0 k 0 j) = (CtxModel.state (inputs m c) d b k (t.val % 2 + 1)).n j
  m : ∀ (k : Fin 4) (j : Fin 128), (outsAt0 m c t.val t.isLt).2.2.2 (ix5 0 0 k 0 j) = (CtxModel.state (inputs m c) d b k (t.val % 2 + 1)).m

theorem lane_split (k : Fin 4) (j : Fin 128) (r : Fin 128) (H : Fin 4 → FVec Ideal S128x128 .f32) :
    H ⟨(128 * k.val + j.val) / 128, by omega⟩ (ix2 r ⟨(128 * k.val + j.val) % 128, Nat.mod_lt _ (by decide)⟩) = H k (ix2 r j) := by
  have h1 : (⟨(128 * k.val + j.val) / 128, by omega⟩ : Fin 4) = k := Fin.ext (by show (128 * k.val + j.val) / 128 = k.val; omega)
  have h2 : (⟨(128 * k.val + j.val) % 128, Nat.mod_lt _ (by decide)⟩ : Fin 128) = j := Fin.ext (by show (128 * k.val + j.val) % 128 = j.val; omega)
  rw [h1, h2]

theorem leaves_first (c : Dev nD) (t : Fin cfg0.N) (d : Fin 2) (b : Fin 4) (hd : d.val = dirN t.val) (hb : b.val = seqN t.val)
    (h0 : t.val % 2 = 0) : Leaves m c d b t := by
  have hC : ∀ (k : Fin 4) (e j : Fin 128), k0_pay4 (iblk m c 7 t) (ix5 0 0 k e j) = (CtxModel.state (inputs m c) d b k 0).C e j :=
    fun k e j => (pay4_apply _ k e j).trans (blk_C m c t d b hd hb k e j)
  have hn : ∀ (k : Fin 4) (j : Fin 128), k0_pay5 (iblk m c 8 t) (ix5 0 0 k 0 j) = (CtxModel.state (inputs m c) d b k 0).n j :=
    fun k j => (pay5_apply _ k j).trans (blk_n m c t d b hd hb k j)
  have hm : ∀ (k : Fin 4), k0_pay6 (iblk m c 9 t) (ix5 0 0 k 0 0) = (CtxModel.state (inputs m c) d b k 0).m :=
    fun k => (pay6_apply _ k 0).trans (blk_m m c t d b hd hb k 0)
  have hc : ∀ k, CtxModel.state (inputs m c) d b k (t.val % 2) = CtxModel.state (inputs m c) d b k 0 := fun k => by rw [h0]
  refine ⟨fun k r j => ?_, fun k e j => ?_, fun k j => ?_, fun k j => ?_⟩
  · rw [hc]
    refine (outsH_first m c t h0 _).trans (Eq.trans ?_ (pointH m c t d b hd hb _ _ _ k _ (hC k) (hn k) (hm k) r j))
    exact lane_split k j r fun k => headH (headAt m c t _ _ _ k)
  · refine (outsC_first m c t h0 _).trans ((pointC m c t d b hd hb _ _ _ k _ (hC k) (hn k) (hm k) e j).trans ?_)
    exact congrArg (fun S => (Rec.next (CtxModel.chunk (inputs m c) d b k (t.val % 2)) S).C e j) (hc k).symm
  · refine (outsN_first m c t h0 _).trans ((pointN m c t d b hd hb _ _ _ k _ (hC k) (hn k) (hm k) j).trans ?_)
    exact congrArg (fun S => (Rec.next (CtxModel.chunk (inputs m c) d b k (t.val % 2)) S).n j) (hc k).symm
  · refine (outsM_first m c t h0 _).trans ((pointM m c t d b hd hb _ _ _ k _ (hC k) (hn k) (hm k)).trans ?_)
    exact congrArg (fun S => (Rec.next (CtxModel.chunk (inputs m c) d b k (t.val % 2)) S).m) (hc k).symm

theorem leaves_later (c : Dev nD) (t : Fin cfg0.N) (d : Fin 2) (b : Fin 4) (hd : d.val = dirN t.val) (hb : b.val = seqN t.val)
    (h0 : ¬ t.val % 2 = 0) (ih : Leaves m c d b ⟨t.val - 1, Nat.lt_of_le_of_lt (Nat.sub_le _ _) t.isLt⟩) : Leaves m c d b t := by
  have e : (t.val - 1) % 2 + 1 = t.val % 2 := by omega
  have hC : ∀ (k : Fin 4) (e j : Fin 128), _ = (CtxModel.state (inputs m c) d b k (t.val % 2)).C e j :=
    fun k e' j => (ih.C k e' j).trans (by rw [← e])
  have hn : ∀ (k : Fin 4) (j : Fin 128), _ = (CtxModel.state (inputs m c) d b k (t.val % 2)).n j :=
    fun k j => (ih.n k j).trans (by rw [← e])
  have hm : ∀ (k : Fin 4), _ = (CtxModel.state (inputs m c) d b k (t.val % 2)).m :=
    fun k => (ih.m k 0).trans (by rw [← e])
  refine ⟨fun k r j => ?_, fun k e j => ?_, fun k j => ?_, fun k j => ?_⟩
  · refine (outsH_later m c t h0 _).trans (Eq.trans ?_ (pointH m c t d b hd hb _ _ _ k _ (hC k) (hn k) (hm k) r j))
    exact lane_split k j r fun k => headH (headAt m c t _ _ _ k)
  · exact (outsC_later m c t h0 _).trans (pointC m c t d b hd hb _ _ _ k _ (hC k) (hn k) (hm k) e j)
  · exact (outsN_later m c t h0 _).trans (pointN m c t d b hd hb _ _ _ k _ (hC k) (hn k) (hm k) j)
  · exact (outsM_later m c t h0 _).trans (pointM m c t d b hd hb _ _ _ k _ (hC k) (hn k) (hm k))

/-- What every grid point leaves. -/
theorem leaves (c : Dev nD) : ∀ (n : ℕ) (hn : n < cfg0.N) (d : Fin 2) (b : Fin 4), d.val = dirN n → b.val = seqN n → Leaves m c d b ⟨n, hn⟩
  | 0, hn, d, b, hd, hb => leaves_first m c ⟨0, hn⟩ d b hd hb rfl
  | n + 1, hn, d, b, hd, hb => by
    by_cases h0 : (n + 1) % 2 = 0
    · exact leaves_first m c ⟨n + 1, hn⟩ d b hd hb h0
    · refine leaves_later m c ⟨n + 1, hn⟩ d b hd hb h0 ?_
      refine leaves c n (Nat.lt_of_succ_lt hn) d b (hd.trans ?_) (hb.trans ?_)
      · unfold dirN; omega
      · unfold seqN; omega

end Cert.Kernel14Ideal.Scan
-- ==== Proof.CtxArrays.lean ====
module
public import proofs.«01_k».proof.Proof.CtxScan
@[expose] public section
set_option maxRecDepth 16384
noncomputable section

/-! # The context's calls: the launch's result arrays

The arrays the launch leaves are the model's outputs and its states after the last chunk. -/

namespace Cert.Kernel14Ideal.Scan
open Cert.Kernel14Ideal Cert.Kernel14Ideal.Gen Idealize.ShloMosaic Idealize.ShloMosaic.TcCoe Idealize.SL.Sem
open Idealize.ShloMosaic.Pipeline (Dat)
open Cert.Rec (flip)

variable (m : (ℓ : Loc nD τ sig) → Buf (Elt Ideal) ℓ)

/-- A lane of the output as head and component. -/
theorem lane_eq (l : Fin 512) : ∃ (k : Fin 4) (j : Fin 128), l = ⟨128 * k.val + j.val, by omega⟩ :=
  ⟨⟨l.val / 128, by omega⟩, ⟨l.val % 128, Nat.mod_lt _ (by decide)⟩, Fin.ext (by show l.val = 128 * (l.val / 128) + l.val % 128; omega)⟩

theorem row_row (d : Fin 2) (r : Fin 256) : CtxModel.row d (CtxModel.row d r.val).val = r := by
  apply Fin.ext
  unfold CtxModel.row
  have := r.isLt
  split <;> simp only [] <;> omega

/-- The model's result at a lane. -/
def outG (I : CtxModel.Inputs) : FVec Ideal S2x4x256x512 .f32 := fun y =>
  CtxModel.result I (y 0) (y 1) (y 2) ⟨(y 3).val / 128, by have := (y 3).isLt; change _ < 512 at this; omega⟩ ⟨(y 3).val % 128, Nat.mod_lt _ (by decide)⟩

theorem outG_apply (I : CtxModel.Inputs) (d : Fin 2) (b : Fin 4) (r : Fin 256) (k : Fin 4) (j : Fin 128) :
    outG I (ix4 d b r ⟨128 * k.val + j.val, by omega⟩) = CtxModel.result I d b r k j := by
  have h1 : (⟨(128 * k.val + j.val) / 128, by omega⟩ : Fin 4) = k := Fin.ext (by show (128 * k.val + j.val) / 128 = k.val; omega)
  have h2 : (⟨(128 * k.val + j.val) % 128, Nat.mod_lt _ (by decide)⟩ : Fin 128) = j := Fin.ext (by show (128 * k.val + j.val) % 128 = j.val; omega)
  show CtxModel.result I d b r ⟨(128 * k.val + j.val) / 128, _⟩ ⟨(128 * k.val + j.val) % 128, _⟩ = _
  rw [h1, h2]

/-- The model's result at the row a position of a chunk comes from. -/
theorem result_at (I : CtxModel.Inputs) (t : Fin cfg0.N) (d : Fin 2) (b : Fin 4) (hd : d.val = dirN t.val) (r : Fin 128) (k : Fin 4) (j : Fin 128) (R : Fin 256)
    (hR : R.val = blkN t.val * 128 + r.val) : CtxModel.result I d b R k j =
      Rec.out (CtxModel.chunk I d b k (t.val % 2)) (CtxModel.state I d b k (t.val % 2)) (flip d r) j := by
  have e : CtxModel.row d (128 * (t.val % 2) + (flip d r).val) = R := Fin.ext ((row_val t d hd r).trans hR.symm)
  have e' : (CtxModel.row d R.val).val = 128 * (t.val % 2) + (flip d r).val := by
    rw [← e]
    unfold CtxModel.row
    have := (flip d r).isLt
    split <;> simp only [] <;> omega
  have e1 : (CtxModel.row d R.val).val / 128 = t.val % 2 := by omega
  have e2 : (⟨(CtxModel.row d R.val).val % 128, Nat.mod_lt _ (by decide)⟩ : Fin 128) = flip d r := Fin.ext (by show (CtxModel.row d R.val).val % 128 = _; omega)
  unfold CtxModel.result
  simp only [e1, e2]

theorem dir_lt (t : Fin cfg0.N) : dirN t.val < 2 := by
  have := lt_of_lt_of_eq t.isLt N_0
  unfold dirN; omega
theorem seq_lt (t : Fin cfg0.N) : seqN t.val < 4 := by
  unfold seqN; omega
theorem row_lt (t : Fin cfg0.N) (r : Fin 128) : blkN t.val * 128 + r.val < 256 := by
  unfold blkN; split <;> omega

theorem arrH (c : Dev nD) : (dats m 0 c).arrAt 10 cfg0.N = outG (inputs m c) := by
  refine (dats m 0 c).arrAt_eq_of_covers 10 _ (by decide +kernel) fun t hf y => ?_
  blk_simp
  rw [after0_10]
  have L := leaves m c t.val t.isLt ⟨dirN t.val, dir_lt t⟩ ⟨seqN t.val, seq_lt t⟩ rfl rfl
  obtain ⟨k, j, hl⟩ := lane_eq (y 3)
  have hy : y = (ix4 0 0 (show Fin 128 from y 2) ⟨128 * k.val + j.val, by omega⟩ : S1x1x128x512.Idx) := by
    rw [← hl]; blk_ext
  have he : ((win0_10.blk t).view.emb y : S2x4x256x512.Idx) = ix4 ⟨dirN t.val, dir_lt t⟩ ⟨seqN t.val, seq_lt t⟩ ⟨blkN t.val * 128 + (show Fin 128 from y 2).val, row_lt t _⟩ ⟨128 * k.val + j.val, by omega⟩ := by
    have hl' := congrArg Fin.val hl
    blk_ext [idx t, hl']
  refine Eq.trans ?_ (congrArg (outG (inputs m c)) he).symm
  rw [outG_apply, result_at (inputs m c) t ⟨dirN t.val, dir_lt t⟩ _ rfl (show Fin 128 from y 2) k j _ rfl]
  exact (congrArg _ hy).trans (L.H k _ j)

/-- The matrix memories after the last chunk. -/
def memG (I : CtxModel.Inputs) : FVec Ideal S2x4x4x128x128 .f32 := fun y => (CtxModel.state I (y 0) (y 1) (y 2) 2).C (y 3) (y 4)
/-- The normalizers after the last chunk. -/
def vecG (I : CtxModel.Inputs) : FVec Ideal S2x4x4x1x128 .f32 := fun y => (CtxModel.state I (y 0) (y 1) (y 2) 2).n (y 4)
/-- The stabilizers after the last chunk, repeated along the lanes. -/
def stabG (I : CtxModel.Inputs) : FVec Ideal S2x4x4x1x128 .f32 := fun y => (CtxModel.state I (y 0) (y 1) (y 2) 2).m

theorem arrC (c : Dev nD) : (dats m 0 c).arrAt 11 cfg0.N = memG (inputs m c) := by
  refine (dats m 0 c).arrAt_eq_of_covers 11 _ (by decide +kernel) fun t hf y => ?_
  have h63 : t.val % 2 + 1 = 2 := by have := (flush0_11 t).mp hf; omega
  blk_simp
  rw [after0_11]
  have L := leaves m c t.val t.isLt ⟨dirN t.val, dir_lt t⟩ ⟨seqN t.val, seq_lt t⟩ rfl rfl
  have hy : y = (ix5 0 0 (show Fin 4 from y 2) (show Fin 128 from y 3) (show Fin 128 from y 4) : S1x1x4x128x128.Idx) := by
    blk_ext
  have he : ((win0_11.blk t).view.emb y : S2x4x4x128x128.Idx) = ix5 ⟨dirN t.val, dir_lt t⟩ ⟨seqN t.val, seq_lt t⟩ (show Fin 4 from y 2) (show Fin 128 from y 3) (show Fin 128 from y 4) := by
    blk_ext [idx t]
  refine Eq.trans ?_ (congrArg (memG (inputs m c)) he).symm
  refine (congrArg _ hy).trans ((L.C _ _ _).trans ?_)
  rw [h63]; rfl

theorem arrN (c : Dev nD) : (dats m 0 c).arrAt 12 cfg0.N = vecG (inputs m c) := by
  refine (dats m 0 c).arrAt_eq_of_covers 12 _ (by decide +kernel) fun t hf y => ?_
  have h63 : t.val % 2 + 1 = 2 := by have := (flush0_12 t).mp hf; omega
  blk_simp
  rw [after0_12]
  have L := leaves m c t.val t.isLt ⟨dirN t.val, dir_lt t⟩ ⟨seqN t.val, seq_lt t⟩ rfl rfl
  have hy : y = (ix5 0 0 (show Fin 4 from y 2) 0 (show Fin 128 from y 4) : S1x1x4x1x128.Idx) := by
    blk_ext
  have he : ((win0_12.blk t).view.emb y : S2x4x4x1x128.Idx) = ix5 ⟨dirN t.val, dir_lt t⟩ ⟨seqN t.val, seq_lt t⟩ (show Fin 4 from y 2) 0 (show Fin 128 from y 4) := by
    blk_ext [idx t]
  refine Eq.trans ?_ (congrArg (vecG (inputs m c)) he).symm
  refine (congrArg _ hy).trans ((L.n _ _).trans ?_)
  rw [h63]; rfl

theorem arrM (c : Dev nD) : (dats m 0 c).arrAt 13 cfg0.N = stabG (inputs m c) := by
  refine (dats m 0 c).arrAt_eq_of_covers 13 _ (by decide +kernel) fun t hf y => ?_
  have h63 : t.val % 2 + 1 = 2 := by have := (flush0_13 t).mp hf; omega
  blk_simp
  rw [after0_13]
  have L := leaves m c t.val t.isLt ⟨dirN t.val, dir_lt t⟩ ⟨seqN t.val, seq_lt t⟩ rfl rfl
  have hy : y = (ix5 0 0 (show Fin 4 from y 2) 0 (show Fin 128 from y 4) : S1x1x4x1x128.Idx) := by
    blk_ext
  have he : ((win0_13.blk t).view.emb y : S2x4x4x1x128.Idx) = ix5 ⟨dirN t.val, dir_lt t⟩ ⟨seqN t.val, seq_lt t⟩ (show Fin 4 from y 2) 0 (show Fin 128 from y 4) := by
    blk_ext [idx t]
  refine Eq.trans ?_ (congrArg (stabG (inputs m c)) he).symm
  refine (congrArg _ hy).trans ((L.m _ _).trans ?_)
  rw [h63]; rfl

end Cert.Kernel14Ideal.Scan
-- ==== Proof.CtxCumsum.lean ====
module
public import proofs.«01_k».proof.Proof.CtxModel
public import proofs.«01_k».proof.Proof.Gen.Reference14Ideal.Run
@[expose] public section
set_option maxRecDepth 16384
noncomputable section

/-! # The context's calls: the running sum of the reference

A window of the whole length, padded low by one less, sums a prefix. -/

namespace Cert.CtxRefScan
open Cert.Reference14Ideal Idealize.ShloMosaic

/-- Adding entry after entry is adding their sum. -/
theorem foldl_add {ι : Type} (g : ι → EReal) (l : List ι) (z : EReal) : l.foldl (fun r n => r + g n) z = z + (l.map g).sum := by
  induction l generalizing z with
  | nil => simp
  | cons a l ih => rw [List.foldl_cons, ih, List.map_cons, List.sum_cons, add_assoc]

/-- The window's place at position `n`. -/
theorem place (n : Fin (⟨3, ![1, 1, 128]⟩ : Shape).numel) :
    ((⟨3, ![1, 1, 128]⟩ : Shape).rowMajor.symm n 0).val = 0 ∧ ((⟨3, ![1, 1, 128]⟩ : Shape).rowMajor.symm n 1).val = 0 ∧
      ((⟨3, ![1, 1, 128]⟩ : Shape).rowMajor.symm n 2).val = n.val := by
  have h := Shape.rowMajor_val_three ((⟨3, ![1, 1, 128]⟩ : Shape).rowMajor.symm n)
  rw [Equiv.apply_symm_apply] at h
  have h0 := ((⟨3, ![1, 1, 128]⟩ : Shape).rowMajor.symm n 0).isLt
  have h1 := ((⟨3, ![1, 1, 128]⟩ : Shape).rowMajor.symm n 1).isLt
  change _ < 1 at h0
  change _ < 1 at h1
  change n.val = (_ * 1 + _) * 128 + _ at h
  refine ⟨by omega, by omega, by omega⟩

theorem numel_window : (⟨3, ![1, 1, 128]⟩ : Shape).numel = 128 := by decide

/-- The reference's running sum along the last axis, entry by entry. -/
theorem cumsum_apply (x : FVec Ideal S8x4x128 .f32) (init : FVec Ideal S_ .f32) (hinit : ∀ i, init i = (0 : EReal))
    (h : S8x4x128.ReduceWindows (![1, 1, 128] : Fin 3 → ℕ) ![1, 1, 1] ![0, 0, 127] ![0, 0, 0] S8x4x128) (hu : 0 < S_.numel) (B : Fin 8) (k : Fin 4) (j : Fin 128) :
    Host.reduceWindowAdd ![1, 1, 128] ![1, 1, 1] ![0, 0, 127] ![0, 0, 0] x init h hu (ix3 B k j)
      = CtxModel.running (fun s => x (ix3 B k s)) j := by
  unfold Host.reduceWindowAdd
  rw [Ideal.hostReduceWindowAdd_def]
  unfold Ideal.hostReduceWindowAdd Host.reduceWindow
  refine (foldl_add _ _ _).trans ?_
  rw [hinit, zero_add]
  rw [← List.ofFn_eq_map, List.sum_ofFn]
  refine (Equiv.sum_comp (finCongr numel_window.symm) _).symm.trans ?_
  refine Eq.trans ?_ (Equiv.sum_comp (Equiv.addRight (j + 1)) _)
  refine Finset.sum_congr rfl fun w _ => ?_
  obtain ⟨p0, p1, p2⟩ := place (finCongr numel_window.symm w)
  have hw : (finCongr numel_window.symm w).val = w.val := rfl
  have hs : (Equiv.addRight (j + 1) w).val = (w.val + (j.val + 1)) % 128 := by
    show (w + (j + 1)).val = _
    simp only [Fin.val_add, Nat.add_mod_mod]
    rfl
  have hj := j.isLt
  have hwl := w.isLt
  by_cases hc : 127 ≤ w.val + j.val
  · have hs' : (Equiv.addRight (j + 1) w).val = w.val + j.val - 127 := by rw [hs]; omega
    refine (dif_pos ?_).trans (Eq.trans ?_ (if_pos (by omega)).symm)
    · intro a
      match a with
      | ⟨0, _⟩ =>
        show 0 ≤ B.val * 1 + ((⟨3, ![1, 1, 128]⟩ : Shape).rowMajor.symm (finCongr numel_window.symm w) 0).val ∧ B.val * 1 + ((⟨3, ![1, 1, 128]⟩ : Shape).rowMajor.symm (finCongr numel_window.symm w) 0).val - 0 < 8
        omega
      | ⟨1, _⟩ =>
        show 0 ≤ k.val * 1 + ((⟨3, ![1, 1, 128]⟩ : Shape).rowMajor.symm (finCongr numel_window.symm w) 1).val ∧ k.val * 1 + ((⟨3, ![1, 1, 128]⟩ : Shape).rowMajor.symm (finCongr numel_window.symm w) 1).val - 0 < 4
        omega
      | ⟨2, _⟩ =>
        show 127 ≤ j.val * 1 + ((⟨3, ![1, 1, 128]⟩ : Shape).rowMajor.symm (finCongr numel_window.symm w) 2).val ∧ j.val * 1 + ((⟨3, ![1, 1, 128]⟩ : Shape).rowMajor.symm (finCongr numel_window.symm w) 2).val - 127 < 128
        omega
    · refine congrArg x (funext fun a => Fin.ext ?_)
      match a with
      | ⟨0, _⟩ =>
        show B.val * 1 + ((⟨3, ![1, 1, 128]⟩ : Shape).rowMajor.symm (finCongr numel_window.symm w) 0).val - 0 = B.val
        omega
      | ⟨1, _⟩ =>
        show k.val * 1 + ((⟨3, ![1, 1, 128]⟩ : Shape).rowMajor.symm (finCongr numel_window.symm w) 1).val - 0 = k.val
        omega
      | ⟨2, _⟩ =>
        show j.val * 1 + ((⟨3, ![1, 1, 128]⟩ : Shape).rowMajor.symm (finCongr numel_window.symm w) 2).val - 127 = (Equiv.addRight (j + 1) w).val
        omega
  · refine (dif_neg ?_).trans (if_neg (by omega)).symm
    intro hin
    have h2 := (hin 2).1
    change 127 ≤ j.val * 1 + ((⟨3, ![1, 1, 128]⟩ : Shape).rowMajor.symm (finCongr numel_window.symm w) 2).val at h2
    omega

end Cert.CtxRefScan
-- ==== Proof.CtxRefTrip.lean ====
module
public import proofs.«01_k».proof.Proof.CtxCumsum
public import Idealize.ShloMosaic.Lib.DynamicIndex
@[expose] public section
set_option maxRecDepth 16384
noncomputable section

/-! # The context's calls: one trip of the reference's scan

What one trip makes of the carried arrays, entry by entry: one chunk of the recurrence of each sequence and head. -/

namespace Cert.CtxRefScan
open Cert.Reference14Ideal Cert.Reference14Ideal.Gen Cert.Reference14Ideal.Value Idealize.ShloMosaic Idealize.ShloMosaic.TcCoe

theorem ctr_toInt (k : Fin 2) : (Scf.iv 0#32 1#32 k.val).toInt = ((k.val : ℕ) : Int) := by
  revert k; decide

/-- The largest entry of a row, as a maximum over the row's places. -/
theorem fold_row4 (f : S8x4x128x128.Idx → EReal) (z : EReal) (B : Fin 8) (h : Fin 4) (t : Fin 128) :
    Finset.fold max z f {i | reducesTo_S8x4x128x128_S8x4x128_d3.drop i = ix3 B h t} = Finset.univ.fold max z fun s : Fin 128 => f (ix4 B h t s) := by
  have e : (Finset.univ.filter fun i : S8x4x128x128.Idx => reducesTo_S8x4x128x128_S8x4x128_d3.drop i = ix3 B h t)
      = Finset.univ.map ⟨fun s : Fin 128 => ix4 B h t s, fun a b hab => congrFun hab 3⟩ := by
    ext i
    simp only [Finset.mem_filter, Finset.mem_univ, true_and, Finset.mem_map, Function.Embedding.coeFn_mk]
    constructor
    · intro hi
      refine ⟨i 3, ?_⟩
      rw [ValueIdx.eq_ix4 i] at hi ⊢
      have h0 := congrFun hi 0
      have h1 := congrFun hi 1
      have h2 := congrFun hi 2
      change i 0 = B at h0
      change i 1 = h at h1
      change i 2 = t at h2
      rw [← h0, ← h1, ← h2]
      rfl
    · rintro ⟨s, rfl⟩
      exact ValueIdx.eq_ix3 _
  rw [e, Finset.fold_map]
  rfl
theorem fold_row3 (f : S8x4x128.Idx → EReal) (z : EReal) (B : Fin 8) (h : Fin 4) :
    Finset.fold max z f {i | reducesTo_S8x4x128_S8x4_d2.drop i = ix2 B h} = Finset.univ.fold max z fun s : Fin 128 => f (ix3 B h s) := by
  have e : (Finset.univ.filter fun i : S8x4x128.Idx => reducesTo_S8x4x128_S8x4_d2.drop i = ix2 B h)
      = Finset.univ.map ⟨fun s : Fin 128 => ix3 B h s, fun a b hab => congrFun hab 2⟩ := by
    ext i
    simp only [Finset.mem_filter, Finset.mem_univ, true_and, Finset.mem_map, Function.Embedding.coeFn_mk]
    constructor
    · intro hi
      refine ⟨i 2, ?_⟩
      rw [ValueIdx.eq_ix3 i] at hi ⊢
      have h0 := congrFun hi 0
      have h1 := congrFun hi 1
      change i 0 = B at h0
      change i 1 = h at h1
      rw [← h0, ← h1]
      rfl
    · rintro ⟨s, rfl⟩
      exact ValueIdx.eq_ix2 _
  rw [e, Finset.fold_map]
  rfl

theorem max_row4 (f : FVec Ideal S8x4x128x128 .f32) (B : Fin 8) (h : Fin 4) (t : Fin 128) :
    Host.reduce FloatOps.maximumf f (constant S_ .f32 0xFF800000#32) reducesTo_S8x4x128x128_S8x4x128_d3 h_S_ (ix3 B h t) = Rec.vmax fun s => f (ix4 B h t s) := by
  unfold Rec.vmax
  rw [← fold_row4]
  pointwise
theorem max_row3 (f : FVec Ideal S8x4x128 .f32) (B : Fin 8) (h : Fin 4) :
    Host.reduce FloatOps.maximumf f (constant S_ .f32 0xFF800000#32) reducesTo_S8x4x128_S8x4_d2 h_S_ (ix2 B h) = Rec.vmax fun s => f (ix3 B h s) := by
  unfold Rec.vmax
  rw [← fold_row3]
  pointwise

variable (V0 : Valuation τ sig (Elt Ideal))

/-- The carried arrays. -/
abbrev aQ : FVec Ideal S2x8x4x128x128 .f32 := V0 (Proc.devRef .tc main_v71_0)
abbrev aK : FVec Ideal S2x8x4x128x128 .f32 := V0 (Proc.devRef .tc main_v71_1)
abbrev aV : FVec Ideal S2x8x4x128x128 .f32 := V0 (Proc.devRef .tc main_v71_2)
abbrev aI : FVec Ideal S2x8x4x128 .f32 := V0 (Proc.devRef .tc main_v71_3)
abbrev aF : FVec Ideal S2x8x4x128 .f32 := V0 (Proc.devRef .tc main_v71_4)
abbrev aE : IVec S128x128 1 := V0 (Proc.devRef .tc main_v71_5)
abbrev aC : FVec Ideal S8x4x128x128 .f32 := V0 (Proc.devRef .tc main_v71_7)
abbrev aN : FVec Ideal S8x4x128 .f32 := V0 (Proc.devRef .tc main_v71_8)
abbrev aM : FVec Ideal S8x4 .f32 := V0 (Proc.devRef .tc main_v71_9)
abbrev aH : FVec Ideal S2x8x4x128x128 .f32 := V0 (Proc.devRef .tc main_v71_10)

/-- Chunk `k` of what sequence `B` and head `h` meet. -/
def tripChunk (k : Fin 2) (B : Fin 8) (h : Fin 4) : Rec.Chunk where
  M := fun t s => aE V0 (ix2 t s)
  b := CtxModel.running fun s => aF V0 (ix4 k B h s)
  bl := CtxModel.running (fun s => aF V0 (ix4 k B h s)) 127
  q := fun t j => aQ V0 (ix5 k B h t j)
  k := fun t j => aK V0 (ix5 k B h t j)
  v := fun t j => aV V0 (ix5 k B h t j)
  ig := fun t => aI V0 (ix4 k B h t)

/-- The state of sequence `B` and head `h`. -/
def tripState (B : Fin 8) (h : Fin 4) : Rec.State where
  C := fun e j => aC V0 (ix4 B h e j)
  n := fun j => aN V0 (ix3 B h j)
  m := aM V0 (ix2 B h)

variable (k : Fin 2) (hk : V0 (Proc.devRef .tc main_v71_6) = fun _ => Scf.iv 0#32 1#32 k.val)
include hk

theorem slices5 : S2x8x4x128x128.Slices ![k.val, 0, 0, 0, 0] S1x8x4x128x128 := by
  refine ⟨rfl, fun a => ?_⟩
  have := k.isLt
  match a with
  | ⟨0, _⟩ => show k.val + 1 ≤ 2; omega
  | ⟨1, _⟩ => show 0 + 8 ≤ 8; omega
  | ⟨2, _⟩ => show 0 + 4 ≤ 4; omega
  | ⟨3, _⟩ => show 0 + 128 ≤ 128; omega
  | ⟨4, _⟩ => show 0 + 128 ≤ 128; omega
theorem slices4 : S2x8x4x128.Slices ![k.val, 0, 0, 0] S1x8x4x128 := by
  refine ⟨rfl, fun a => ?_⟩
  have := k.isLt
  match a with
  | ⟨0, _⟩ => show k.val + 1 ≤ 2; omega
  | ⟨1, _⟩ => show 0 + 8 ≤ 8; omega
  | ⟨2, _⟩ => show 0 + 4 ≤ 4; omega
  | ⟨3, _⟩ => show 0 + 128 ≤ 128; omega

/-- A chunk taken out of a stacked array, entry by entry. -/
theorem chunk5 (x : FVec Ideal S2x8x4x128x128 .f32) (B : Fin 8) (h : Fin 4) (t j : Fin 128) :
    shapeCast S8x4x128x128 (Host.dynamicSlice S1x8x4x128x128 x (fun k => (((![V0 (Proc.devRef .tc main_v71_6), constantI S_ 32 0#32, constantI S_ 32 0#32, constantI S_ 32 0#32, constantI S_ 32 0#32] : Fin 5 → (⟨S_, .i32⟩ : BufTy).Contents (Elt Ideal))) k (Shape.Idx.first h_S_)).toInt) sliceFits_S2x8x4x128x128_S1x8x4x128x128) shapeCasts_S1x8x4x128x128_S8x4x128x128 (ix4 B h t j)
      = x (ix5 k B h t j) := by
  rw [Host.dynamicSlice_eq_extractStridedSlice S1x8x4x128x128 _ _ ![k.val,0,0,0,0] _ (slices5 V0 k hk) (fun a => by
    match a with
    | ⟨0,_⟩ => exact (congrArg (fun f : S_.Idx → BitVec 32 => (f (Shape.Idx.first h_S_)).toInt) hk).trans (ctr_toInt k)
    | ⟨1,_⟩ => rfl
    | ⟨2,_⟩ => rfl
    | ⟨3,_⟩ => rfl
    | ⟨4,_⟩ => rfl)]
  pointwise
theorem chunk4 (x : FVec Ideal S2x8x4x128 .f32) (B : Fin 8) (h : Fin 4) (t : Fin 128) :
    shapeCast S8x4x128 (Host.dynamicSlice S1x8x4x128 x (fun k => (((![V0 (Proc.devRef .tc main_v71_6), constantI S_ 32 0#32, constantI S_ 32 0#32, constantI S_ 32 0#32] : Fin 4 → (⟨S_, .i32⟩ : BufTy).Contents (Elt Ideal))) k (Shape.Idx.first h_S_)).toInt) sliceFits_S2x8x4x128_S1x8x4x128) shapeCasts_S1x8x4x128_S8x4x128 (ix3 B h t)
      = x (ix4 k B h t) := by
  rw [Host.dynamicSlice_eq_extractStridedSlice S1x8x4x128 _ _ ![k.val,0,0,0] _ (slices4 V0 k hk) (fun a => by
    match a with
    | ⟨0,_⟩ => exact (congrArg (fun f : S_.Idx → BitVec 32 => (f (Shape.Idx.first h_S_)).toInt) hk).trans (ctr_toInt k)
    | ⟨1,_⟩ => rfl
    | ⟨2,_⟩ => rfl
    | ⟨3,_⟩ => rfl)]
  pointwise

theorem rd_q (B : Fin 8) (h : Fin 4) (t j : Fin 128) : res_main_while0b_v85 V0 (ix4 B h t j) = (tripChunk V0 k B h).q t j := chunk5 V0 k hk _ B h t j
theorem rd_k (B : Fin 8) (h : Fin 4) (t j : Fin 128) : res_main_while0b_v86 V0 (ix4 B h t j) = (tripChunk V0 k B h).k t j := chunk5 V0 k hk _ B h t j
theorem rd_v (B : Fin 8) (h : Fin 4) (t j : Fin 128) : res_main_while0b_v87 V0 (ix4 B h t j) = (tripChunk V0 k B h).v t j := chunk5 V0 k hk _ B h t j
theorem rd_ig (B : Fin 8) (h : Fin 4) (t : Fin 128) : res_main_while0b_v88 V0 (ix3 B h t) = (tripChunk V0 k B h).ig t := chunk4 V0 k hk _ B h t
theorem rd_b (B : Fin 8) (h : Fin 4) (t : Fin 128) : res_main_while0b_v90 V0 (ix3 B h t) = (tripChunk V0 k B h).b t := by
  unfold res_main_while0b_v90
  refine (cumsum_apply _ _ (fun i => by rw [ValueIdx.eq_ix0 i]; pointwise) _ _ B h t).trans ?_
  exact congrArg (fun f => CtxModel.running f t) (funext fun s => chunk4 V0 k hk _ B h s)
theorem rd_bl (B : Fin 8) (h : Fin 4) : res_main_while0b_v131 V0 (ix2 B h) = (tripChunk V0 k B h).bl := by
  unfold res_main_while0b_v131
  refine Eq.trans ?_ (rd_b V0 k hk B h 127)
  pointwise

theorem rd_dm (B : Fin 8) (h : Fin 4) (t s : Fin 128) : res_main_while0b_v99 V0 (ix4 B h t s) = Rec.dm (tripChunk V0 k B h) t s := by
  unfold res_main_while0b_v99
  pointwise
  simp only [rd_b V0 k hk, rd_ig V0 k hk]
  rfl
theorem rd_inter (B : Fin 8) (h : Fin 4) (t : Fin 128) : res_main_while0b_v102 V0 (ix3 B h t) = Rec.inter (tripChunk V0 k B h) (tripState V0 B h) t := by
  unfold res_main_while0b_v102
  pointwise
  simp only [rd_b V0 k hk]
  rfl
theorem rd_mt (B : Fin 8) (h : Fin 4) (t : Fin 128) : res_main_while0b_v104 V0 (ix3 B h t) = Rec.mt (tripChunk V0 k B h) (tripState V0 B h) t := by
  unfold res_main_while0b_v104
  refine congrArg₂ (fun x y : EReal => max x y) (rd_inter V0 k hk B h t) ((max_row4 _ B h t).trans ?_)
  simp only [rd_dm V0 k hk]
theorem rd_sc (B : Fin 8) (h : Fin 4) (t s : Fin 128) : res_main_while0b_v110 V0 (ix4 B h t s) = Rec.sc (tripChunk V0 k B h) (tripState V0 B h) t s := by
  unfold res_main_while0b_v110
  pointwise
  simp only [rd_q V0 k hk, rd_k V0 k hk, rd_dm V0 k hk, rd_mt V0 k hk]
  rfl
theorem rd_al (B : Fin 8) (h : Fin 4) (t : Fin 128) : res_main_while0b_v112 V0 (ix3 B h t) = Rec.al (tripChunk V0 k B h) (tripState V0 B h) t := by
  unfold res_main_while0b_v112
  pointwise
  simp only [rd_inter V0 k hk, rd_mt V0 k hk]
  rfl
theorem rd_gl (B : Fin 8) (h : Fin 4) (s : Fin 128) : res_main_while0b_v135 V0 (ix3 B h s) = Rec.gl (tripChunk V0 k B h) s := by
  unfold res_main_while0b_v135
  pointwise
  simp only [rd_b V0 k hk, rd_bl V0 k hk, rd_ig V0 k hk]
  rfl
theorem rd_mnew (B : Fin 8) (h : Fin 4) : res_main_while0b_v138 V0 (ix2 B h) = Rec.mnew (tripChunk V0 k B h) (tripState V0 B h) := by
  unfold res_main_while0b_v138
  refine congrArg₂ (fun x y : EReal => max x y) (congrArg (· + _) (rd_bl V0 k hk B h)) ((max_row3 _ B h).trans ?_)
  simp only [rd_gl V0 k hk]
theorem rd_wt (B : Fin 8) (h : Fin 4) (s : Fin 128) : res_main_while0b_v142 V0 (ix3 B h s) = Rec.wt (tripChunk V0 k B h) (tripState V0 B h) s := by
  unfold res_main_while0b_v142
  pointwise
  simp only [rd_gl V0 k hk, rd_mnew V0 k hk]
  rfl
theorem rd_dec (B : Fin 8) (h : Fin 4) : res_main_while0b_v145 V0 (ix2 B h) = Rec.dec (tripChunk V0 k B h) (tripState V0 B h) := by
  unfold res_main_while0b_v145
  pointwise
  simp only [rd_bl V0 k hk, rd_mnew V0 k hk]
  rfl

/-- The matrix memory after the trip. -/
theorem step_C (B : Fin 8) (h : Fin 4) (e j : Fin 128) :
    step_main_v71_7 V0 (ix4 B h e j) = (Rec.next (tripChunk V0 k B h) (tripState V0 B h)).C e j := by
  unfold step_main_v71_7
  dsimp only [id]
  pointwise
  simp only [rd_dec V0 k hk, rd_k V0 k hk, rd_wt V0 k hk, rd_v V0 k hk]
  rfl
/-- The normalizer after the trip. -/
theorem step_n (B : Fin 8) (h : Fin 4) (j : Fin 128) :
    step_main_v71_8 V0 (ix3 B h j) = (Rec.next (tripChunk V0 k B h) (tripState V0 B h)).n j := by
  unfold step_main_v71_8
  dsimp only [id]
  pointwise
  simp only [rd_dec V0 k hk, rd_k V0 k hk, rd_wt V0 k hk]
  refine congrArg (_ + ·) (Finset.sum_congr rfl fun s _ => ?_)
  exact mul_comm _ _
/-- The stabilizer after the trip. -/
theorem step_m (B : Fin 8) (h : Fin 4) :
    step_main_v71_9 V0 (ix2 B h) = (Rec.next (tripChunk V0 k B h) (tripState V0 B h)).m := rd_mnew V0 k hk B h

/-- What is written at one place of a stacked array, entry by entry. -/
theorem write5 (x : FVec Ideal S2x8x4x128x128 .f32) (y : FVec Ideal S1x8x4x128x128 .f32) (k' : Fin 2) (B : Fin 8) (h : Fin 4) (t j : Fin 128) :
    Host.dynamicUpdateSlice x y (fun k => (((![V0 (Proc.devRef .tc main_v71_6), constantI S_ 32 0#32, constantI S_ 32 0#32, constantI S_ 32 0#32, constantI S_ 32 0#32] : Fin 5 → (⟨S_, .i32⟩ : BufTy).Contents (Elt Ideal))) k (Shape.Idx.first h_S_)).toInt) updateFits_S2x8x4x128x128_S1x8x4x128x128 (ix5 k' B h t j)
      = if k' = k then y (ix5 0 B h t j) else x (ix5 k' B h t j) := by
  have hc := (congrArg (fun f : S_.Idx → BitVec 32 => (f (Shape.Idx.first h_S_)).toInt) hk).trans (ctr_toInt k)
  rw [Host.dynamicUpdateSlice_eq_updateSlice x y _ _ ![k.val,0,0,0,0] (fun a => by
    have := k.isLt
    match a with
    | ⟨0,_⟩ =>
      show (min (max ((V0 (Proc.devRef .tc main_v71_6) : S_.Idx → BitVec 32) (Shape.Idx.first h_S_)).toInt 0) ((2 - 1 : ℕ) : Int)).toNat = k.val
      change ((V0 (Proc.devRef .tc main_v71_6) : S_.Idx → BitVec 32) (Shape.Idx.first h_S_)).toInt = _ at hc
      rw [hc]
      omega
    | ⟨1,_⟩ => rfl
    | ⟨2,_⟩ => rfl
    | ⟨3,_⟩ => rfl
    | ⟨4,_⟩ => rfl) (slices5 V0 k hk)]
  by_cases e : k' = k
  · subst e
    rw [if_pos rfl]
    refine (dif_pos ?_).trans (congrArg y (funext fun b => Fin.ext ?_))
    · intro a
      match a with
      | ⟨0,_⟩ => exact ⟨le_refl k'.val, Nat.lt_succ_self k'.val⟩
      | ⟨1,_⟩ => exact ⟨Nat.zero_le _, (Nat.zero_add 8).symm ▸ B.isLt⟩
      | ⟨2,_⟩ => exact ⟨Nat.zero_le _, (Nat.zero_add 4).symm ▸ h.isLt⟩
      | ⟨3,_⟩ => exact ⟨Nat.zero_le _, (Nat.zero_add 128).symm ▸ t.isLt⟩
      | ⟨4,_⟩ => exact ⟨Nat.zero_le _, (Nat.zero_add 128).symm ▸ j.isLt⟩
    · match b with
      | ⟨0,_⟩ => exact Nat.sub_self k'.val
      | ⟨1,_⟩ => rfl
      | ⟨2,_⟩ => rfl
      | ⟨3,_⟩ => rfl
      | ⟨4,_⟩ => rfl
  · rw [if_neg e]
    refine dif_neg fun hin => e (Fin.ext ?_)
    have h0 := hin 0
    change k.val ≤ k'.val ∧ k'.val < k.val + 1 at h0
    omega

/-- The outputs after the trip: those of the trip's own chunk are written, the others stay. -/
theorem step_H (k' : Fin 2) (B : Fin 8) (h : Fin 4) (t j : Fin 128) :
    step_main_v71_10 V0 (ix5 k' B h t j) =
      if k' = k then Rec.out (tripChunk V0 k B h) (tripState V0 B h) t j else aH V0 (ix5 k' B h t j) := by
  unfold step_main_v71_10
  dsimp only [id]
  refine (write5 V0 k hk _ _ k' B h t j).trans ?_
  refine congrArg (fun z => if k' = k then z else _) ?_
  pointwise
  simp only [rd_sc V0 k hk, rd_v V0 k hk, rd_al V0 k hk, rd_q V0 k hk, rd_mt V0 k hk]
  rfl

end Cert.CtxRefScan
-- ==== Proof.CtxRefInputs.lean ====
module
public import proofs.«01_k».proof.Proof.CtxRefTrip
public import Idealize.ShloMosaic.Lib.StableHlo.RunClose
@[expose] public section
set_option maxRecDepth 16384
noncomputable section

/-! # The context's calls: the arrays the reference's scan reads, as functions of the arguments -/

namespace Cert.CtxRefScan
open Cert.Reference14Ideal Cert.Reference14Ideal.Gen Cert.Reference14Ideal.Value Idealize.ShloMosaic Idealize.ShloMosaic.TcCoe
open Idealize.ShloMosaic.StableHlo Idealize.ShloMosaic.Tactic

/-- The query and key projections with a row of zeros before and after. -/
def padR (X : FVec Ideal S4x256x2048 .f32) : FVec Ideal S4x258x1024 .f32 :=
  pad S4x258x1024 ![0, 1, 0] ![0, 1, 0] ![0, 0, 0] (extractStridedSlice S4x256x1024 ![0, 0, 0] X slices_S4x256x2048_S4x256x1024_0_0_0)
    (sitofp .f32 (constantI S_ 32 0#32)) pads_S4x256x1024_S4x258x1024_000_110_000 h_S_

/-- One row of weights, repeated over the sequences. -/
def rowR (w : FVec Ideal S1x1024 .f32) : FVec Ideal S4x256x1024 .f32 :=
  broadcastInDim S4x256x1024 ![0, 1, 2] bcast_S1x1x1024_S4x256x1024_0_1_2 (broadcastInDim S1x1x1024 ![2] bcast_S1024_S1x1x1024_2
    (shapeCast S1024 w shapeCasts_S1x1024_S1024))

/-- The convolution. -/
def convR (X : FVec Ideal S4x256x2048 .f32) (W : FVec Ideal S3x1024 .f32) : FVec Ideal S4x256x1024 .f32 :=
  addf (addf
    (mulf (extractStridedSlice S4x256x1024 ![0, 0, 0] (padR X) slices_S4x258x1024_S4x256x1024_0_0_0) (rowR (extractStridedSlice S1x1024 ![0, 0] W slices_S3x1024_S1x1024_0_0)))
    (mulf (extractStridedSlice S4x256x1024 ![0, 1, 0] (padR X) slices_S4x258x1024_S4x256x1024_0_1_0) (rowR (extractStridedSlice S1x1024 ![1, 0] W slices_S3x1024_S1x1024_1_0))))
    (mulf (extractStridedSlice S4x256x1024 ![0, 2, 0] (padR X) slices_S4x258x1024_S4x256x1024_0_2_0) (rowR (extractStridedSlice S1x1024 ![2, 0] W slices_S3x1024_S1x1024_2_0)))

/-- The activation. -/
def siluR (x : FVec Ideal S4x256x1024 .f32) : FVec Ideal S4x256x1024 .f32 :=
  mulf x (Host.divf (broadcastInDim S4x256x1024 ![] bcast_S_S4x256x1024 (constant S_ .f32 0x3F800000#32))
    (addf (broadcastInDim S4x256x1024 ![] bcast_S_S4x256x1024 (constant S_ .f32 0x3F800000#32)) (Host.exp (Host.negf x))))

/-- The queries and keys of all sequences. -/
def actR (X : FVec Ideal S4x256x2048 .f32) (W : FVec Ideal S3x1024 .f32) : FVec Ideal S4x256x1024 .f32 := siluR (convR X W)

/-- The queries by head. -/
def qR (X : FVec Ideal S4x256x2048 .f32) (W : FVec Ideal S3x1024 .f32) : FVec Ideal S4x256x4x128 .f32 :=
  shapeCast S4x256x4x128 (extractStridedSlice S4x256x512 ![0, 0, 0] (actR X W) slices_S4x256x1024_S4x256x512_0_0_0) shapeCasts_S4x256x512_S4x256x4x128
/-- The keys by head. -/
def kR (X : FVec Ideal S4x256x2048 .f32) (W : FVec Ideal S3x1024 .f32) : FVec Ideal S4x256x4x128 .f32 :=
  mulf (shapeCast S4x256x4x128 (extractStridedSlice S4x256x512 ![0, 0, 512] (actR X W) slices_S4x256x1024_S4x256x512_0_0_512) shapeCasts_S4x256x512_S4x256x4x128)
    (broadcastInDim S4x256x4x128 ![] bcast_S_S4x256x4x128 (constant S_ .f32 0x3DB504F3#32))
/-- The values by head. -/
def vR (X : FVec Ideal S4x256x2048 .f32) : FVec Ideal S4x256x4x128 .f32 :=
  shapeCast S4x256x4x128 (extractStridedSlice S4x256x512 ![0, 0, 1024] X slices_S4x256x2048_S4x256x512_0_0_1024) shapeCasts_S4x256x512_S4x256x4x128

/-- The sequences and the reversed sequences, one after the other, cut into chunks and stacked. -/
def stackR (x : FVec Ideal S4x256x4x128 .f32) : FVec Ideal S2x8x4x128x128 .f32 :=
  transpose S2x8x4x128x128 [1, 0, 3, 2, 4] (shapeCast S8x2x128x4x128
    (concatenate S8x256x4x128 0 [⟨S4x256x4x128, x⟩, ⟨S4x256x4x128, Host.reverse [1] x⟩] concatenates_S4x256x4x128_S4x256x4x128_S8x256x4x128_d0)
    shapeCasts_S8x256x4x128_S8x2x128x4x128) transposes_S8x2x128x4x128_S2x8x4x128x128_1_0_3_2_4

/-- The same for the two directions' gates. -/
def stackG (g : FVec Ideal S2x4x256x4 .f32) : FVec Ideal S2x8x4x128 .f32 :=
  transpose S2x8x4x128 [1, 0, 3, 2] (shapeCast S8x2x128x4
    (concatenate S8x256x4 0 [⟨S4x256x4, shapeCast S4x256x4 (extractStridedSlice S1x4x256x4 ![0, 0, 0, 0] g slices_S2x4x256x4_S1x4x256x4_0_0_0_0) shapeCasts_S1x4x256x4_S4x256x4⟩,
      ⟨S4x256x4, Host.reverse [1] (shapeCast S4x256x4 (extractStridedSlice S1x4x256x4 ![1, 0, 0, 0] g slices_S2x4x256x4_S1x4x256x4_1_0_0_0) shapeCasts_S1x4x256x4_S4x256x4)⟩]
      concatenates_S4x256x4_S4x256x4_S8x256x4_d0)
    shapeCasts_S8x256x4_S8x2x128x4) transposes_S8x2x128x4_S2x8x4x128_1_0_3_2

/-- The input gates. -/
def igR (G : FVec Ideal S2x4x256x128 .f32) : FVec Ideal S2x4x256x4 .f32 :=
  extractStridedSlice S2x4x256x4 ![0, 0, 0, 0] (extractStridedSlice S2x4x256x8 ![0, 0, 0, 0] G slices_S2x4x256x128_S2x4x256x8_0_0_0_0) slices_S2x4x256x8_S2x4x256x4_0_0_0_0

/-- A zero everywhere. -/
def zeroR : FVec Ideal S2x4x256x4 .f32 := broadcastInDim S2x4x256x4 ![] bcast_S_S2x4x256x4 (constant S_ .f32 0x00000000#32)

/-- The logarithm of the logistic function, as a softplus of the negation. -/
def logsigR (x : FVec Ideal S2x4x256x4 .f32) : FVec Ideal S2x4x256x4 .f32 :=
  Host.negf (select (cmpf .une (subf (Host.negf x) zeroR) (subf (Host.negf x) zeroR)) (addf (Host.negf x) zeroR)
    (addf (maximumf (Host.negf x) zeroR) (Host.log1p (Host.exp (Host.negf (Host.absf (subf (Host.negf x) zeroR)))))))

/-- The forget gates' logarithms. -/
def lfR (G : FVec Ideal S2x4x256x128 .f32) : FVec Ideal S2x4x256x4 .f32 :=
  logsigR (extractStridedSlice S2x4x256x4 ![0, 0, 0, 4] (extractStridedSlice S2x4x256x8 ![0, 0, 0, 0] G slices_S2x4x256x128_S2x4x256x8_0_0_0_0) slices_S2x4x256x8_S2x4x256x4_0_0_0_4)

/-- The pairs of positions the first of which sees the second. -/
def earlierR : IVec S128x128 1 :=
  select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))

variable (m : (ℓ : Loc nD τ sig) → Buf (Elt Ideal) ℓ)

/-- The arguments. -/
abbrev argX (c : Dev nD) : FVec Ideal S4x256x2048 .f32 := m ((c.tc : Thread nD τ).loc main_arg0)
abbrev argG (c : Dev nD) : FVec Ideal S2x4x256x128 .f32 := m ((c.tc : Thread nD τ).loc main_arg1)
abbrev argW (c : Dev nD) : FVec Ideal S3x1024 .f32 := m ((c.tc : Thread nD τ).loc main_arg2)
abbrev argC (c : Dev nD) : FVec Ideal S2x4x4x128x128 .f32 := m ((c.tc : Thread nD τ).loc main_arg3)
abbrev argN (c : Dev nD) : FVec Ideal S2x4x4x1x128 .f32 := m ((c.tc : Thread nD τ).loc main_arg4)
abbrev argM (c : Dev nD) : FVec Ideal S2x4x4x1x128 .f32 := m ((c.tc : Thread nD τ).loc main_arg5)

end Cert.CtxRefScan
-- ==== Proof.CtxRefRead.lean ====
module
public import proofs.«01_k».proof.Proof.CtxRefInputs
public import Idealize.ShloMosaic.Lib.Pointwise
@[expose] public section
set_option maxRecDepth 16384
noncomputable section

/-! # The context's calls: the reference's arrays, entry by entry

At sequence `d * 4 + b` of the doubled batch the reference's scan reads direction `d` of sequence `b`. -/

namespace Cert.CtxRefScan
open Cert.Reference14Ideal Cert.Reference14Ideal.Gen Cert.Reference14Ideal.Value Idealize.ShloMosaic Idealize.ShloMosaic.TcCoe

/-- Where the doubled batch holds direction `d` of sequence `b`. -/
def both (d : Fin 2) (b : Fin 4) : Fin 8 := ⟨d.val * 4 + b.val, by omega⟩

theorem split_rows (x : FVec Ideal S8x256x4x128 .f32) (B : Fin 8) (k : Fin 2) (t : Fin 128) (h : Fin 4) (j : Fin 128) :
    shapeCast S8x2x128x4x128 x shapeCasts_S8x256x4x128_S8x2x128x4x128 (ix5 B k t h j) = x (ix4 B ⟨128 * k.val + t.val, by omega⟩ h j) :=
  shapeCast_apply x shapeCasts_S8x256x4x128_S8x2x128x4x128 (ix5 B k t h j) (ix4 B ⟨128 * k.val + t.val, by omega⟩ h j) (by
    rw [Shape.rowMajor_val_four, Shape.rowMajor_val_five]
    show ((B.val * 256 + (128 * k.val + t.val)) * 4 + h.val) * 128 + j.val = (((B.val * 2 + k.val) * 128 + t.val) * 4 + h.val) * 128 + j.val
    omega)

theorem split_heads (x : FVec Ideal S4x256x512 .f32) (b : Fin 4) (r : Fin 256) (h : Fin 4) (j : Fin 128) :
    shapeCast S4x256x4x128 x shapeCasts_S4x256x512_S4x256x4x128 (ix4 b r h j) = x (ix3 b r ⟨128 * h.val + j.val, by omega⟩) :=
  shapeCast_apply x shapeCasts_S4x256x512_S4x256x4x128 (ix4 b r h j) (ix3 b r ⟨128 * h.val + j.val, by omega⟩) (by
    rw [Shape.rowMajor_val_three, Shape.rowMajor_val_four]
    show (b.val * 256 + r.val) * 512 + (128 * h.val + j.val) = ((b.val * 256 + r.val) * 4 + h.val) * 128 + j.val
    omega)

/-- The reversed batch after the batch. -/
theorem doubled (x : FVec Ideal S4x256x4x128 .f32) (d : Fin 2) (b : Fin 4) (p : Fin 256) (h : Fin 4) (j : Fin 128) :
    concatenate S8x256x4x128 0 [⟨S4x256x4x128, x⟩, ⟨S4x256x4x128, Host.reverse [1] x⟩] concatenates_S4x256x4x128_S4x256x4x128_S8x256x4x128_d0
      (ix4 (both d b) p h j) = x (ix4 b (CtxModel.row d p.val) h j) := by
  pointwise
  have hp := p.isLt
  match d with
  | 0 =>
    refine (dif_pos (show 0 * 4 + b.val < 4 by omega)).trans ?_
    refine congrArg x (congrArg₂ (fun u v => ix4 u v h j) (Fin.ext (by show 0 * 4 + b.val = b.val; omega)) (Fin.ext ?_))
    show p.val = if (0 : ℕ) = 0 then p.val % 256 else 255 - p.val % 256
    rw [if_pos rfl]; omega
  | 1 =>
    refine (dif_neg (show ¬ 1 * 4 + b.val < 4 by omega)).trans ?_
    refine congrArg x (congrArg₂ (fun u v => ix4 u v h j) (Fin.ext (by show 1 * 4 + b.val - 4 = b.val; omega)) (Fin.ext ?_))
    show 256 - (p.val + 1) = if (1 : ℕ) = 0 then p.val % 256 else 255 - p.val % 256
    rw [if_neg (by decide)]; omega

theorem stacked (y : FVec Ideal S8x2x128x4x128 .f32) (k : Fin 2) (B : Fin 8) (h : Fin 4) (t j : Fin 128) :
    transpose S2x8x4x128x128 [1, 0, 3, 2, 4] y transposes_S8x2x128x4x128_S2x8x4x128x128_1_0_3_2_4 (ix5 k B h t j) = y (ix5 B k t h j) :=
  congrArg y (ValueIdx.eq_ix5 _)

theorem stackR_apply (x : FVec Ideal S4x256x4x128 .f32) (k : Fin 2) (d : Fin 2) (b h : Fin 4) (t j : Fin 128) :
    stackR x (ix5 k (both d b) h t j) = x (ix4 b (CtxModel.row d (128 * k.val + t.val)) h j) := by
  unfold stackR
  rw [stacked, split_rows, doubled]

theorem stackG_apply (g : FVec Ideal S2x4x256x4 .f32) (k : Fin 2) (d : Fin 2) (b h : Fin 4) (t : Fin 128) :
    stackG g (ix4 k (both d b) h t) = g (ix4 d b (CtxModel.row d (128 * k.val + t.val)) h) := by
  pointwise [stackG]
  have hk := k.isLt
  have ht := t.isLt
  match d with
  | 0 =>
    refine (dif_pos (show 0 * 4 + b.val < 4 by omega)).trans ?_
    refine congrArg g (congrArg₂ (fun u v => ix4 0 u v h) (Fin.ext (by show 0 * 4 + b.val = b.val; omega)) (Fin.ext ?_))
    show k.val * 128 + t.val = if (0 : ℕ) = 0 then (128 * k.val + t.val) % 256 else 255 - (128 * k.val + t.val) % 256
    rw [if_pos rfl]; omega
  | 1 =>
    refine (dif_neg (show ¬ 1 * 4 + b.val < 4 by omega)).trans ?_
    refine congrArg g (congrArg₂ (fun u v => ix4 1 u v h) (Fin.ext (by show 1 * 4 + b.val - 4 = b.val; omega)) (Fin.ext ?_))
    show 256 - (k.val * 128 + t.val + 1) = if (1 : ℕ) = 0 then (128 * k.val + t.val) % 256 else 255 - (128 * k.val + t.val) % 256
    rw [if_neg (by decide)]; omega

/-- The arguments, entry by entry. -/
def inputs (X : FVec Ideal S4x256x2048 .f32) (G : FVec Ideal S2x4x256x128 .f32) (W : FVec Ideal S3x1024 .f32)
    (C : FVec Ideal S2x4x4x128x128 .f32) (N M : FVec Ideal S2x4x4x1x128 .f32) : CtxModel.Inputs where
  X := fun b r j => X (ix3 b r j)
  G := fun d b r j => G (ix4 d b r j)
  W := fun i j => W (ix2 i j)
  C0 := fun d b h e j => C (ix5 d b h e j)
  n0 := fun d b h j => N (ix5 d b h 0 j)
  m0 := fun d b h j => M (ix5 d b h 0 j)

variable (X : FVec Ideal S4x256x2048 .f32) (G : FVec Ideal S2x4x256x128 .f32) (W : FVec Ideal S3x1024 .f32)
    (C : FVec Ideal S2x4x4x128x128 .f32) (N M : FVec Ideal S2x4x4x1x128 .f32)

theorem zero_value : (FloatOps.sitofp .f32 (0#32) : Ideal .f32) = (0 : EReal) := by
  show (((0#32 : BitVec 32).toInt : ℝ) : EReal) = 0
  simp

theorem padR_apply (b : Fin 4) (r : Fin 258) (j : Fin 1024) :
    padR X (ix3 b r j) = if h : 1 ≤ r.val ∧ r.val - 1 < 256 then X (ix3 b ⟨r.val - 1, h.2⟩ ⟨j.val, by omega⟩) else 0 := by
  pointwise [padR]
  split
  · rfl
  · exact zero_value

theorem convR_apply (b : Fin 4) (r : Fin 256) (j : Fin 1024) :
    convR X W (ix3 b r j) = CtxModel.conv (inputs X G W C N M) b r j := by
  have hr := r.isLt
  pointwise [convR, rowR]
  rw [padR_apply, padR_apply, padR_apply]
  unfold CtxModel.conv
  have e0 : (if h : 1 ≤ r.val ∧ r.val - 1 < 256 then X (ix3 b ⟨r.val - 1, h.2⟩ ⟨j.val, by omega⟩) else 0) = CtxModel.before (inputs X G W C N M) b r j := by
    unfold CtxModel.before
    by_cases h : r.val = 0
    · rw [dif_pos h, dif_neg (by omega)]
    · rw [dif_neg h, dif_pos (by omega)]; rfl
  have e1 : (if h : 1 ≤ 1 + r.val ∧ 1 + r.val - 1 < 256 then X (ix3 b ⟨1 + r.val - 1, h.2⟩ ⟨j.val, by omega⟩) else 0) = CtxModel.qk (inputs X G W C N M) b r j := by
    rw [dif_pos (by omega)]
    exact congrArg X (congrArg₂ (ix3 b) (Fin.ext (by show 1 + r.val - 1 = r.val; omega)) rfl)
  have e2 : (if h : 1 ≤ 2 + r.val ∧ 2 + r.val - 1 < 256 then X (ix3 b ⟨2 + r.val - 1, h.2⟩ ⟨j.val, by omega⟩) else 0) = CtxModel.after (inputs X G W C N M) b r j := by
    unfold CtxModel.after
    by_cases h : r.val = 255
    · rw [dif_pos h, dif_neg (by omega)]
    · rw [dif_neg h, dif_pos (by omega)]
      exact congrArg X (congrArg₂ (ix3 b) (Fin.ext (by show 2 + r.val - 1 = r.val + 1; omega)) rfl)
  exact congr (congrArg HAdd.hAdd (congr (congrArg HAdd.hAdd (congrArg (· * W (ix2 0 j)) e0)) (congrArg (· * W (ix2 1 j)) e1))) (congrArg (· * W (ix2 2 j)) e2)

theorem actR_apply (b : Fin 4) (r : Fin 256) (j : Fin 1024) :
    actR X W (ix3 b r j) = CtxModel.act (inputs X G W C N M) b r j := by
  unfold actR CtxModel.act
  rw [← convR_apply]
  pointwise [siluR]
  rfl

theorem qR_apply (b : Fin 4) (r : Fin 256) (h : Fin 4) (j : Fin 128) :
    qR X W (ix4 b r h j) = CtxModel.act (inputs X G W C N M) b r ⟨128 * h.val + j.val, by omega⟩ := by
  rw [← actR_apply]
  refine (split_heads _ b r h j).trans ?_
  pointwise

theorem scaled (y : FVec Ideal S4x256x4x128 .f32) (w : BitVec 32) (i : S4x256x4x128.Idx) :
    mulf y (broadcastInDim S4x256x4x128 ![] bcast_S_S4x256x4x128 (constant (F := Ideal) S_ .f32 w)) i = y i * Ideal.ofBits .f32 w := rfl

theorem kR_apply (b : Fin 4) (r : Fin 256) (h : Fin 4) (j : Fin 128) :
    kR X W (ix4 b r h j) = CtxModel.act (inputs X G W C N M) b r ⟨512 + 128 * h.val + j.val, by omega⟩ * Ideal.ofBits .f32 0x3DB504F3#32 := by
  unfold kR
  rw [scaled, split_heads, ← actR_apply]
  refine congrArg (· * Ideal.ofBits .f32 0x3DB504F3#32) ?_
  pointwise
  exact congrArg _ (congrArg (ix3 b r) (Fin.ext (by show 512 + (128 * h.val + j.val) = 512 + 128 * h.val + j.val; omega)))

theorem vR_apply (b : Fin 4) (r : Fin 256) (h : Fin 4) (j : Fin 128) :
    vR X (ix4 b r h j) = X (ix3 b r ⟨1024 + 128 * h.val + j.val, by omega⟩) := by
  refine (split_heads _ b r h j).trans ?_
  pointwise
  exact congrArg _ (congrArg (ix3 b r) (Fin.ext (by show 1024 + (128 * h.val + j.val) = 1024 + 128 * h.val + j.val; omega)))

theorem igR_apply (d : Fin 2) (b : Fin 4) (r : Fin 256) (h : Fin 4) : igR G (ix4 d b r h) = G (ix4 d b r ⟨h.val, by omega⟩) := by
  pointwise [igR]

theorem exp_nonneg (x : EReal) : 0 ≤ Ideal.exp x := by
  induction x with
  | bot => exact le_refl _
  | top => exact le_top
  | coe r => exact EReal.coe_nonneg.2 (Real.exp_pos r).le

theorem log1p_ne_bot (x : EReal) (h : 0 ≤ x) : Ideal.log1p x ≠ ⊥ := by
  unfold Ideal.log1p
  induction x with
  | bot => simp at h
  | top =>
    have e : (1 : EReal) + ⊤ = ⊤ := EReal.add_top_of_ne_bot (EReal.coe_ne_bot 1)
    rw [e]
    show (⊤ : EReal) ≠ ⊥
    simp
  | coe r =>
    have h' : 0 ≤ r := EReal.coe_nonneg.1 h
    show (if 1 + r ≤ 0 then (⊥ : EReal) else (Real.log (1 + r) : EReal)) ≠ ⊥
    rw [if_neg (by linarith)]
    exact EReal.coe_ne_bot _

theorem neg_max_zero (x : EReal) : -max (-x) 0 = min x 0 := by
  rcases le_total x 0 with h | h
  · rw [max_eq_left (by simpa using h), min_eq_left h, neg_neg]
  · rw [max_eq_right (by simpa using h), min_eq_right h, neg_zero]

/-- Minus the softplus of minus `x` is the logarithm of the logistic function, at the infinities too. -/
theorem logsig_eq (x : EReal) : -(max (-x) 0 + Ideal.log1p (Ideal.exp (-max (-x) (- -x)))) = CtxModel.logsig x := by
  unfold CtxModel.logsig
  rw [neg_neg, max_comm (-x) x, zero_sub, ← neg_max_zero]
  have hne : max (-x) 0 ≠ ⊥ := fun h => by
    have := le_max_right (-x) (0 : EReal)
    rw [h] at this
    simp at this
  exact EReal.neg_add (Or.inl hne) (Or.inr (log1p_ne_bot _ (exp_nonneg _)))

theorem logsigR_apply (x : FVec Ideal S2x4x256x4 .f32) (d : Fin 2) (b : Fin 4) (r : Fin 256) (h : Fin 4) :
    logsigR x (ix4 d b r h) = CtxModel.logsig (x (ix4 d b r h)) := by
  rw [← logsig_eq]
  pointwise [logsigR, zeroR]
  rw [if_neg (by simp)]
  rfl

theorem lfR_apply (d : Fin 2) (b : Fin 4) (r : Fin 256) (h : Fin 4) : lfR G (ix4 d b r h) = CtxModel.logsig (G (ix4 d b r ⟨4 + h.val, by omega⟩)) := by
  unfold lfR
  rw [logsigR_apply]
  refine congrArg CtxModel.logsig ?_
  pointwise

theorem earlierR_apply (t s : Fin 128) : earlierR (ix2 t s) = if s.val ≤ t.val then 1#1 else 0#1 := by
  have e : ∀ t s : Fin 128, Scalar.select (IntOp.cmpi CmpIPredicate.sge (IntOp.addi (BitVec.ofNat 32 t.val) 0#32) (BitVec.ofNat 32 s.val)) 1#1 0#1
      = if s.val ≤ t.val then 1#1 else 0#1 := by decide +kernel
  rw [← e]
  pointwise [earlierR]

theorem both_div (d : Fin 2) (b : Fin 4) : (⟨(both d b).val / 4, by omega⟩ : Fin 2) = d := Fin.ext (by show (d.val * 4 + b.val) / 4 = d.val; omega)
theorem both_mod (d : Fin 2) (b : Fin 4) : (⟨(both d b).val % 4, by omega⟩ : Fin 4) = b := Fin.ext (by show (d.val * 4 + b.val) % 4 = b.val; omega)

theorem memR_apply (d : Fin 2) (b h : Fin 4) (e j : Fin 128) :
    shapeCast S8x4x128x128 C shapeCasts_S2x4x4x128x128_S8x4x128x128 (ix4 (both d b) h e j) = C (ix5 d b h e j) := by
  pointwise
  exact congrArg₂ (fun u v => C (ix5 u v h e j)) (both_div d b) (both_mod d b)
theorem vecR_apply (d : Fin 2) (b h : Fin 4) (j : Fin 128) :
    shapeCast S8x4x128 N shapeCasts_S2x4x4x1x128_S8x4x128 (ix3 (both d b) h j) = N (ix5 d b h 0 j) := by
  pointwise
  exact congrArg₂ (fun u v => N (ix5 u v h 0 j)) (both_div d b) (both_mod d b)
theorem stabR_apply (d : Fin 2) (b h : Fin 4) :
    shapeCast S8x4 (shapeCast S2x4x4 (extractStridedSlice S2x4x4x1x1 ![0, 0, 0, 0, 0] M slices_S2x4x4x1x128_S2x4x4x1x1_0_0_0_0_0)
      shapeCasts_S2x4x4x1x1_S2x4x4) shapeCasts_S2x4x4_S8x4 (ix2 (both d b) h) = M (ix5 d b h 0 0) := by
  pointwise
  exact congrArg₂ (fun u v => M (ix5 u v h 0 0)) (both_div d b) (both_mod d b)

end Cert.CtxRefScan
-- ==== Proof.CtxRefEntryAct.lean ====
module
public import proofs.«01_k».proof.Proof.CtxRefInputs
@[expose] public section
set_option maxRecDepth 16384
noncomputable section

/-! # The context's calls: what the reference's scan starts from: queries and keys -/

namespace Cert.CtxRefScan
open Cert.Reference14Ideal Cert.Reference14Ideal.Gen Cert.Reference14Ideal.Value Idealize.ShloMosaic Idealize.ShloMosaic.TcCoe
open Idealize.ShloMosaic.StableHlo Idealize.ShloMosaic.Tactic

variable (m : (ℓ : Loc nD τ sig) → Buf (Elt Ideal) ℓ) (V : Valuation τ sig (Elt Ideal))

/-- The padded projections, where the convolution reads them. -/
theorem at_pad : after hostOps0_1 (after hostOps0 V) (Proc.devRef .tc main_v1) = padR (V (Proc.devRef .tc main_arg0)) := by
  after_reads_simp
  rfl

/-- The convolution, from the padded projections and the weights. -/
theorem at_conv (P : FVec Ideal S4x258x1024 .f32) (W : FVec Ideal S3x1024 .f32) (hP : V (Proc.devRef .tc main_v1) = P)
    (hW : V (Proc.devRef .tc main_arg2) = W) : after hostOps0_2 V (Proc.devRef .tc main_v21) = addf (addf
    (mulf (extractStridedSlice S4x256x1024 ![0, 0, 0] P slices_S4x258x1024_S4x256x1024_0_0_0) (rowR (extractStridedSlice S1x1024 ![0, 0] W slices_S3x1024_S1x1024_0_0)))
    (mulf (extractStridedSlice S4x256x1024 ![0, 1, 0] P slices_S4x258x1024_S4x256x1024_0_1_0) (rowR (extractStridedSlice S1x1024 ![1, 0] W slices_S3x1024_S1x1024_1_0))))
    (mulf (extractStridedSlice S4x256x1024 ![0, 2, 0] P slices_S4x258x1024_S4x256x1024_0_2_0) (rowR (extractStridedSlice S1x1024 ![2, 0] W slices_S3x1024_S1x1024_2_0))) := by
  subst hP hW
  after_reads_simp
  rfl

/-- The activation, from the convolution. -/
theorem at_silu : after hostOps0_3 V (Proc.devRef .tc main_v22) = siluR (V (Proc.devRef .tc main_v21)) := by
  after_reads_simp
  rfl

/-- The activation, from the arguments. -/
theorem at_act : after hostOps0_3 (after hostOps0_2 (after hostOps0_1 (after hostOps0 V))) (Proc.devRef .tc main_v22) =
    actR (V (Proc.devRef .tc main_arg0)) (V (Proc.devRef .tc main_arg2)) := by
  rw [at_silu, at_conv _ _ (V (Proc.devRef .tc main_arg2)) (at_pad V) (by after_reads_simp)]
  rfl

/-- The rest of the way to the queries. -/
theorem at_q : after hostOps0_18 (after hostOps0_17 (after hostOps0_16 (after hostOps0_15 (after hostOps0_14 (after hostOps0_13
    (after hostOps0_12 (after hostOps0_11 (after hostOps0_10 (after hostOps0_9 (after hostOps0_8 (after hostOps0_7 (after hostOps0_6
    (after hostOps0_5 (after hostOps0_4 V)))))))))))))) (Proc.devRef .tc main_v71_0) =
    stackR (shapeCast S4x256x4x128 (extractStridedSlice S4x256x512 ![0, 0, 0] (V (Proc.devRef .tc main_v22) : FVec Ideal S4x256x1024 .f32)
      slices_S4x256x1024_S4x256x512_0_0_0) shapeCasts_S4x256x512_S4x256x4x128) := by
  after_reads_simp
  rfl

/-- The rest of the way to the keys. -/
theorem at_k : after hostOps0_18 (after hostOps0_17 (after hostOps0_16 (after hostOps0_15 (after hostOps0_14 (after hostOps0_13
    (after hostOps0_12 (after hostOps0_11 (after hostOps0_10 (after hostOps0_9 (after hostOps0_8 (after hostOps0_7 (after hostOps0_6
    (after hostOps0_5 (after hostOps0_4 V)))))))))))))) (Proc.devRef .tc main_v71_1) =
    stackR (mulf (shapeCast S4x256x4x128 (extractStridedSlice S4x256x512 ![0, 0, 512] (V (Proc.devRef .tc main_v22) : FVec Ideal S4x256x1024 .f32)
      slices_S4x256x1024_S4x256x512_0_0_512) shapeCasts_S4x256x512_S4x256x4x128)
      (broadcastInDim S4x256x4x128 ![] bcast_S_S4x256x4x128 (constant S_ .f32 0x3DB504F3#32))) := by
  after_reads_simp
  rfl

theorem entry_0 (c : Dev nD) : entryContents preI m c (Proc.devRef .tc main_v71_0) = stackR (qR (argX m c) (argW m c)) := by
  simp only [entryContents, afterL_cons, afterL_nil]
  rw [at_q, at_act]
  rfl
theorem entry_1 (c : Dev nD) : entryContents preI m c (Proc.devRef .tc main_v71_1) = stackR (kR (argX m c) (argW m c)) := by
  simp only [entryContents, afterL_cons, afterL_nil]
  rw [at_k, at_act]
  rfl

end Cert.CtxRefScan
-- ==== Proof.CtxRefEntry.lean ====
module
public import proofs.«01_k».proof.Proof.CtxRefInputs
@[expose] public section
set_option maxRecDepth 16384
noncomputable section

/-! # The context's calls: what the reference's scan starts from: values, gates and the state -/

namespace Cert.CtxRefScan
open Cert.Reference14Ideal Cert.Reference14Ideal.Gen Cert.Reference14Ideal.Value Idealize.ShloMosaic Idealize.ShloMosaic.TcCoe
open Idealize.ShloMosaic.StableHlo Idealize.ShloMosaic.Tactic

variable (m : (ℓ : Loc nD τ sig) → Buf (Elt Ideal) ℓ)

set_option maxHeartbeats 2000000
theorem entry_2 (c : Dev nD) : entryContents preI m c (Proc.devRef .tc main_v71_2) = stackR (vR (argX m c)) := by
  simp only [entryContents, afterL_cons, afterL_nil]
  after_reads_simp
  rfl
theorem entry_3 (c : Dev nD) : entryContents preI m c (Proc.devRef .tc main_v71_3) = stackG (igR (argG m c)) := by
  simp only [entryContents, afterL_cons, afterL_nil]
  after_reads_simp
  rfl
theorem entry_4 (c : Dev nD) : entryContents preI m c (Proc.devRef .tc main_v71_4) = stackG (lfR (argG m c)) := by
  simp only [entryContents, afterL_cons, afterL_nil]
  after_reads_simp
  rfl
theorem entry_5 (c : Dev nD) : entryContents preI m c (Proc.devRef .tc main_v71_5) = earlierR := by
  simp only [entryContents, afterL_cons, afterL_nil]
  after_reads_simp
  rfl
theorem entry_7 (c : Dev nD) : entryContents preI m c (Proc.devRef .tc main_v71_7) = shapeCast S8x4x128x128 (argC m c) shapeCasts_S2x4x4x128x128_S8x4x128x128 := by
  simp only [entryContents, afterL_cons, afterL_nil]
  after_reads_simp
  rfl
theorem entry_8 (c : Dev nD) : entryContents preI m c (Proc.devRef .tc main_v71_8) = shapeCast S8x4x128 (argN m c) shapeCasts_S2x4x4x1x128_S8x4x128 := by
  simp only [entryContents, afterL_cons, afterL_nil]
  after_reads_simp
  rfl
theorem entry_9 (c : Dev nD) : entryContents preI m c (Proc.devRef .tc main_v71_9) =
    shapeCast S8x4 (shapeCast S2x4x4 (extractStridedSlice S2x4x4x1x1 ![0, 0, 0, 0, 0] (argM m c) slices_S2x4x4x1x128_S2x4x4x1x1_0_0_0_0_0) shapeCasts_S2x4x4x1x1_S2x4x4) shapeCasts_S2x4x4_S8x4 := by
  simp only [entryContents, afterL_cons, afterL_nil]
  after_reads_simp
  rfl

end Cert.CtxRefScan
-- ==== Proof.CtxRefFinal.lean ====
module
public import proofs.«01_k».proof.Proof.CtxRefTrip
public import proofs.«01_k».proof.Proof.CtxRefRead
public import proofs.«01_k».proof.Proof.CtxRefEntryAct
public import proofs.«01_k».proof.Proof.CtxRefEntry
@[expose] public section
set_option maxRecDepth 16384
noncomputable section

/-! # The context's calls: the reference's results

After `k` trips the reference's scan carries the model's states before chunk `k` and has written the model's outputs of
the chunks before `k`; its results are the model's. -/

namespace Cert.CtxRefScan
open Cert.Reference14Ideal Cert.Reference14Ideal.Gen Cert.Reference14Ideal.Value Idealize.ShloMosaic Idealize.ShloMosaic.TcCoe
open Idealize.ShloMosaic.StableHlo

/-- What holds of the carried arrays before trip `k`. -/
structure Inv (I : CtxModel.Inputs) (k : ℕ) (V : Valuation τ sig (Elt Ideal)) : Prop where
  ctr : V (Proc.devRef .tc main_v71_6) = fun _ => Scf.iv 0#32 1#32 k
  chunk : ∀ (c : Fin 2) (d : Fin 2) (b h : Fin 4), tripChunk V c (both d b) h = CtxModel.chunk I d b h c.val
  state : ∀ (d : Fin 2) (b h : Fin 4), tripState V (both d b) h = CtxModel.state I d b h k
  out : ∀ c : Fin 2, c.val < k → ∀ (d : Fin 2) (b h : Fin 4) (t j : Fin 128),
    aH V (ix5 c (both d b) h t j) = Rec.out (CtxModel.chunk I d b h c.val) (CtxModel.state I d b h c.val) t j

theorem tripChunk_STEP (V : Valuation τ sig (Elt Ideal)) (c : Fin 2) (B : Fin 8) (h : Fin 4) : tripChunk (STEP V) c B h = tripChunk V c B h := by
  have e4 : aF (STEP V) = aF V := STEP_main_v71_4 V
  refine Rec.Chunk.ext ?_ ?_ ?_ ?_ ?_ ?_ ?_
  · exact congrArg (fun (a : IVec S128x128 1) t s => a (ix2 t s)) (STEP_main_v71_5 V)
  · show CtxModel.running (fun s => aF (STEP V) (ix4 c B h s)) = _
    rw [e4]; rfl
  · show CtxModel.running (fun s => aF (STEP V) (ix4 c B h s)) 127 = _
    rw [e4]; rfl
  · exact congrArg (fun (a : FVec Ideal S2x8x4x128x128 .f32) t j => a (ix5 c B h t j)) (STEP_main_v71_0 V)
  · exact congrArg (fun (a : FVec Ideal S2x8x4x128x128 .f32) t j => a (ix5 c B h t j)) (STEP_main_v71_1 V)
  · exact congrArg (fun (a : FVec Ideal S2x8x4x128x128 .f32) t j => a (ix5 c B h t j)) (STEP_main_v71_2 V)
  · exact congrArg (fun (a : FVec Ideal S2x8x4x128 .f32) t => a (ix4 c B h t)) (STEP_main_v71_3 V)

theorem Inv.step {I : CtxModel.Inputs} {k : ℕ} {V : Valuation τ sig (Elt Ideal)} (hk : k < 2) (H : Inv I k V) : Inv I (k + 1) (STEP V) where
  ctr := by
    rw [STEP_main_v71_6]
    unfold step_main_v71_6
    rw [H.ctr, Scf.iv_succ]
    rfl
  chunk := fun c d b h => (tripChunk_STEP V c (both d b) h).trans (H.chunk c d b h)
  state := fun d b h => by
    have e : Rec.next (tripChunk V ⟨k, hk⟩ (both d b) h) (tripState V (both d b) h) = CtxModel.state I d b h (k + 1) := by
      rw [H.chunk, H.state]; rfl
    rw [← e]
    refine Rec.State.ext ?_ ?_ ?_
    · funext e j
      exact (congrFun (STEP_main_v71_7 V) (ix4 (both d b) h e j)).trans (step_C V ⟨k, hk⟩ H.ctr (both d b) h e j)
    · funext j
      exact (congrFun (STEP_main_v71_8 V) (ix3 (both d b) h j)).trans (step_n V ⟨k, hk⟩ H.ctr (both d b) h j)
    · exact (congrFun (STEP_main_v71_9 V) (ix2 (both d b) h)).trans (step_m V ⟨k, hk⟩ H.ctr (both d b) h)
  out := fun c hc d b h t j => by
    refine (congrFun (STEP_main_v71_10 V) (ix5 c (both d b) h t j)).trans ?_
    rw [step_H V ⟨k, hk⟩ H.ctr c (both d b) h t j]
    by_cases e : c = ⟨k, hk⟩
    · rw [if_pos e, H.chunk, H.state, e]
    · rw [if_neg e]
      exact H.out c (by have : c.val ≠ k := fun h => e (Fin.ext h); omega) d b h t j

theorem Inv.iterate {I : CtxModel.Inputs} {V : Valuation τ sig (Elt Ideal)} (H : Inv I 0 V) : ∀ k, k ≤ 2 → Inv I k (STEP^[k] V)
  | 0, _ => H
  | k + 1, hk => by
    rw [Function.iterate_succ_apply']
    exact (Inv.iterate H k (by omega)).step (by omega)

/-- The carried arrays before the first trip, from what they hold entry by entry. -/
theorem Inv.start {I : CtxModel.Inputs} {V : Valuation τ sig (Elt Ideal)}
    (hctr : V (Proc.devRef .tc main_v71_6) = fun _ => (0#32 : BitVec 32))
    (hE : ∀ t s : Fin 128, aE V (ix2 t s) = if s.val ≤ t.val then 1#1 else 0#1)
    (hF : ∀ (k : Fin 2) (d : Fin 2) (b h : Fin 4) (t : Fin 128), aF V (ix4 k (both d b) h t) = CtxModel.lf I d b h (128 * k.val + t.val))
    (hQ : ∀ (k : Fin 2) (d : Fin 2) (b h : Fin 4) (t j : Fin 128), aQ V (ix5 k (both d b) h t j) =
      CtxModel.act I b (CtxModel.row d (128 * k.val + t.val)) ⟨128 * h.val + j.val, by omega⟩)
    (hK : ∀ (k : Fin 2) (d : Fin 2) (b h : Fin 4) (t j : Fin 128), aK V (ix5 k (both d b) h t j) =
      CtxModel.act I b (CtxModel.row d (128 * k.val + t.val)) ⟨512 + 128 * h.val + j.val, by omega⟩ * Ideal.ofBits .f32 0x3DB504F3#32)
    (hV : ∀ (k : Fin 2) (d : Fin 2) (b h : Fin 4) (t j : Fin 128), aV V (ix5 k (both d b) h t j) =
      I.X b (CtxModel.row d (128 * k.val + t.val)) ⟨1024 + 128 * h.val + j.val, by omega⟩)
    (hI : ∀ (k : Fin 2) (d : Fin 2) (b h : Fin 4) (t : Fin 128), aI V (ix4 k (both d b) h t) =
      I.G d b (CtxModel.row d (128 * k.val + t.val)) ⟨h.val, by omega⟩)
    (hC : ∀ (d : Fin 2) (b h : Fin 4) (e j : Fin 128), aC V (ix4 (both d b) h e j) = I.C0 d b h e j)
    (hN : ∀ (d : Fin 2) (b h : Fin 4) (j : Fin 128), aN V (ix3 (both d b) h j) = I.n0 d b h j)
    (hM : ∀ (d : Fin 2) (b h : Fin 4), aM V (ix2 (both d b) h) = I.m0 d b h 0) : Inv I 0 V where
  ctr := hctr.trans (by rw [Scf.iv_zero])
  chunk := fun k d b h => by
    have eF : (fun s => aF V (ix4 k (both d b) h s)) = fun s : Fin 128 => CtxModel.lf I d b h (128 * k.val + s.val) := funext (hF k d b h)
    unfold tripChunk CtxModel.chunk
    rw [eF]
    congr 1
    · funext t s; exact hE t s
    · funext t j; exact hQ k d b h t j
    · funext t j; exact hK k d b h t j
    · funext t j; exact hV k d b h t j
    · funext t; exact hI k d b h t
  state := fun d b h => by
    unfold tripState CtxModel.state
    congr 1
    · funext e j; exact hC d b h e j
    · funext j; exact hN d b h j
    · exact hM d b h
  out := fun k hk => absurd hk (by omega)

variable (m : (ℓ : Loc nD τ sig) → Buf (Elt Ideal) ℓ) (c : Dev nD)

/-- The reference's arguments, entry by entry. -/
abbrev argI : CtxModel.Inputs := inputs (argX m c) (argG m c) (argW m c) (argC m c) (argN m c) (argM m c)

variable (k : Fin 2) (d : Fin 2) (b h : Fin 4) (t j : Fin 128)

theorem entry_q : aQ (entryContents preI m c) (ix5 k (both d b) h t j) =
    CtxModel.act (argI m c) b (CtxModel.row d (128 * k.val + t.val)) ⟨128 * h.val + j.val, by omega⟩ := by
  refine (congrFun (entry_0 m c) (ix5 k (both d b) h t j)).trans ?_
  rw [stackR_apply]
  exact qR_apply (argX m c) (argG m c) (argW m c) (argC m c) (argN m c) (argM m c) b (CtxModel.row d (128 * k.val + t.val)) h j
theorem entry_k : aK (entryContents preI m c) (ix5 k (both d b) h t j) =
    CtxModel.act (argI m c) b (CtxModel.row d (128 * k.val + t.val)) ⟨512 + 128 * h.val + j.val, by omega⟩ * Ideal.ofBits .f32 0x3DB504F3#32 := by
  refine (congrFun (entry_1 m c) (ix5 k (both d b) h t j)).trans ?_
  rw [stackR_apply]
  exact kR_apply (argX m c) (argG m c) (argW m c) (argC m c) (argN m c) (argM m c) b (CtxModel.row d (128 * k.val + t.val)) h j
theorem entry_v : aV (entryContents preI m c) (ix5 k (both d b) h t j) =
    (argI m c).X b (CtxModel.row d (128 * k.val + t.val)) ⟨1024 + 128 * h.val + j.val, by omega⟩ := by
  refine (congrFun (entry_2 m c) (ix5 k (both d b) h t j)).trans ?_
  rw [stackR_apply]
  exact vR_apply (argX m c) b (CtxModel.row d (128 * k.val + t.val)) h j
theorem entry_i : aI (entryContents preI m c) (ix4 k (both d b) h t) =
    (argI m c).G d b (CtxModel.row d (128 * k.val + t.val)) ⟨h.val, by omega⟩ := by
  refine (congrFun (entry_3 m c) (ix4 k (both d b) h t)).trans ?_
  rw [stackG_apply]
  exact igR_apply (argG m c) d b (CtxModel.row d (128 * k.val + t.val)) h
theorem entry_f : aF (entryContents preI m c) (ix4 k (both d b) h t) = CtxModel.lf (argI m c) d b h (128 * k.val + t.val) := by
  refine (congrFun (entry_4 m c) (ix4 k (both d b) h t)).trans ?_
  rw [stackG_apply]
  exact lfR_apply (argG m c) d b (CtxModel.row d (128 * k.val + t.val)) h

omit k d b h t j in
theorem Inv.entry : Inv (argI m c) 0 (entryContents preI m c) :=
  Inv.start (ctr_entry m c) (fun t s => (congrFun (entry_5 m c) (ix2 t s)).trans (earlierR_apply t s)) (entry_f m c) (entry_q m c) (entry_k m c)
    (entry_v m c) (entry_i m c) (fun d b h e j => (congrFun (entry_7 m c) (ix4 (both d b) h e j)).trans (memR_apply (argC m c) d b h e j))
    (fun d b h j => (congrFun (entry_8 m c) (ix3 (both d b) h j)).trans (vecR_apply (argN m c) d b h j))
    (fun d b h => (congrFun (entry_9 m c) (ix2 (both d b) h)).trans (stabR_apply (argM m c) d b h))

/-- What the carried arrays hold after the scan. -/
theorem scanned : Inv (argI m c) 2 (STEP^[2] (entryContents preI m c)) := (Inv.entry m c).iterate 2 (le_refl _)

/-! ## The results, from what the scan leaves -/

theorem merge_heads (z : FVec Ideal S2x4x256x4x128 .f32) (d : Fin 2) (b : Fin 4) (r : Fin 256) (h : Fin 4) (j : Fin 128) :
    shapeCast S2x4x256x512 z shapeCasts_S2x4x256x4x128_S2x4x256x512 (ix4 d b r ⟨128 * h.val + j.val, by omega⟩) = z (ix5 d b r h j) :=
  shapeCast_apply z shapeCasts_S2x4x256x4x128_S2x4x256x512 (ix4 d b r ⟨128 * h.val + j.val, by omega⟩) (ix5 d b r h j) (by
    rw [Shape.rowMajor_val_four, Shape.rowMajor_val_five]
    show (((d.val * 4 + b.val) * 256 + r.val) * 4 + h.val) * 128 + j.val = ((d.val * 4 + b.val) * 256 + r.val) * 512 + (128 * h.val + j.val)
    omega)

theorem parted (w : FVec Ideal S8x256x4x128 .f32) (d : Fin 2) (b : Fin 4) (r : Fin 256) (h : Fin 4) (j : Fin 128) :
    concatenate S2x4x256x4x128 0 [⟨S1x4x256x4x128, broadcastInDim S1x4x256x4x128 ![1, 2, 3, 4] bcast_S4x256x4x128_S1x4x256x4x128_1_2_3_4
        (extractStridedSlice S4x256x4x128 ![0, 0, 0, 0] w slices_S8x256x4x128_S4x256x4x128_0_0_0_0)⟩,
      ⟨S1x4x256x4x128, broadcastInDim S1x4x256x4x128 ![1, 2, 3, 4] bcast_S4x256x4x128_S1x4x256x4x128_1_2_3_4
        (Host.reverse [1] (extractStridedSlice S4x256x4x128 ![4, 0, 0, 0] w slices_S8x256x4x128_S4x256x4x128_4_0_0_0))⟩]
      concatenates_S1x4x256x4x128_S1x4x256x4x128_S2x4x256x4x128_d0 (ix5 d b r h j) = w (ix4 (both d b) (CtxModel.row d r.val) h j) := by
  pointwise
  have hr := r.isLt
  match d with
  | 0 =>
    refine (dif_pos (show (0 : ℕ) < 1 by omega)).trans ?_
    refine congrArg w (congrArg₂ (fun u v => ix4 u v h j) (Fin.ext (by show b.val = 0 * 4 + b.val; omega)) (Fin.ext ?_))
    show r.val = if (0 : ℕ) = 0 then r.val % 256 else 255 - r.val % 256
    rw [if_pos rfl]; omega
  | 1 =>
    refine (dif_neg (show ¬ (1 : ℕ) < 1 by omega)).trans ?_
    refine congrArg w (congrArg₂ (fun u v => ix4 u v h j) (Fin.ext (by show 4 + b.val = 1 * 4 + b.val; omega)) (Fin.ext ?_))
    show 256 - (r.val + 1) = if (1 : ℕ) = 0 then r.val % 256 else 255 - r.val % 256
    rw [if_neg (by decide)]; omega

theorem join_rows (u : FVec Ideal S8x2x128x4x128 .f32) (B : Fin 8) (p : Fin 256) (h : Fin 4) (j : Fin 128) :
    shapeCast S8x256x4x128 u shapeCasts_S8x2x128x4x128_S8x256x4x128 (ix4 B p h j) =
      u (ix5 B ⟨p.val / 128, by omega⟩ ⟨p.val % 128, Nat.mod_lt _ (by decide)⟩ h j) :=
  shapeCast_apply u shapeCasts_S8x2x128x4x128_S8x256x4x128 (ix4 B p h j) (ix5 B ⟨p.val / 128, by omega⟩ ⟨p.val % 128, Nat.mod_lt _ (by decide)⟩ h j) (by
    rw [Shape.rowMajor_val_four, Shape.rowMajor_val_five]
    show (((B.val * 2 + p.val / 128) * 128 + p.val % 128) * 4 + h.val) * 128 + j.val = ((B.val * 256 + p.val) * 4 + h.val) * 128 + j.val
    omega)

theorem unstacked (y : FVec Ideal S2x8x4x128x128 .f32) (k : Fin 2) (B : Fin 8) (h : Fin 4) (t j : Fin 128) :
    transpose S8x2x128x4x128 [1, 0, 3, 2, 4] y transposes_S2x8x4x128x128_S8x2x128x4x128_1_0_3_2_4 (ix5 B k t h j) = y (ix5 k B h t j) :=
  congrArg y (ValueIdx.eq_ix5 _)

variable (V : Valuation τ sig (Elt Ideal))

theorem out_H (d : Fin 2) (b : Fin 4) (r : Fin 256) (h : Fin 4) (j : Fin 128) :
    out_main_v80 V (ix4 d b r ⟨128 * h.val + j.val, by omega⟩) =
      aH V (ix5 ⟨(CtxModel.row d r.val).val / 128, by omega⟩ (both d b) h ⟨(CtxModel.row d r.val).val % 128, Nat.mod_lt _ (by decide)⟩ j) := by
  unfold out_main_v80
  refine (merge_heads _ d b r h j).trans ?_
  refine (parted _ d b r h j).trans ?_
  refine (join_rows _ (both d b) (CtxModel.row d r.val) h j).trans ?_
  exact unstacked _ _ _ _ _ _

theorem out_C (d : Fin 2) (b h : Fin 4) (e j : Fin 128) : out_main_v83 V (ix5 d b h e j) = aC V (ix4 (both d b) h e j) := by
  unfold out_main_v83
  refine shapeCast_apply (aC V) shapeCasts_S8x4x128x128_S2x4x4x128x128 (ix5 d b h e j) (ix4 (both d b) h e j) ?_
  rw [Shape.rowMajor_val_four, Shape.rowMajor_val_five]
  rfl

theorem out_N (d : Fin 2) (b h : Fin 4) (j : Fin 128) : out_main_v84 V (ix5 d b h 0 j) = aN V (ix3 (both d b) h j) := by
  unfold out_main_v84
  refine shapeCast_apply (aN V) shapeCasts_S8x4x128_S2x4x4x1x128 (ix5 d b h 0 j) (ix3 (both d b) h j) ?_
  rw [Shape.rowMajor_val_three, Shape.rowMajor_val_five]
  show ((d.val * 4 + b.val) * 4 + h.val) * 128 + j.val = (((d.val * 4 + b.val) * 4 + h.val) * 1 + 0) * 128 + j.val
  omega

theorem spread (y : FVec Ideal S8x4 .f32) (d : Fin 2) (b h : Fin 4) (j : Fin 128) :
    broadcastInDim S2x4x4x1x128 ![0, 1, 2, 3, 4] bcast_S2x4x4x1x1_S2x4x4x1x128_0_1_2_3_4 (shapeCast S2x4x4x1x1 y shapeCasts_S8x4_S2x4x4x1x1) (ix5 d b h 0 j)
      = y (ix2 (both d b) h) := by
  pointwise
  rfl

theorem out_M (d : Fin 2) (b h : Fin 4) (j : Fin 128) : out_main_v82 V (ix5 d b h 0 j) = aM V (ix2 (both d b) h) := spread (aM V) d b h j

/-! ## The results are the model's -/

theorem final_H (d : Fin 2) (b : Fin 4) (r : Fin 256) (h : Fin 4) (j : Fin 128) :
    out_main_v80 (STEP^[2] (entryContents preI m c)) (ix4 d b r ⟨128 * h.val + j.val, by omega⟩) = CtxModel.result (argI m c) d b r h j :=
  (out_H _ d b r h j).trans ((scanned m c).out _ (by show (CtxModel.row d r.val).val / 128 < 2; omega) d b h _ j)

theorem final_C (d : Fin 2) (b h : Fin 4) (e j : Fin 128) :
    out_main_v83 (STEP^[2] (entryContents preI m c)) (ix5 d b h e j) = (CtxModel.state (argI m c) d b h 2).C e j :=
  (out_C _ d b h e j).trans (congrArg (fun S : Rec.State => S.C e j) ((scanned m c).state d b h))
theorem final_N (d : Fin 2) (b h : Fin 4) (j : Fin 128) :
    out_main_v84 (STEP^[2] (entryContents preI m c)) (ix5 d b h 0 j) = (CtxModel.state (argI m c) d b h 2).n j :=
  (out_N _ d b h j).trans (congrArg (fun S : Rec.State => S.n j) ((scanned m c).state d b h))
theorem final_M (d : Fin 2) (b h : Fin 4) (j : Fin 128) :
    out_main_v82 (STEP^[2] (entryContents preI m c)) (ix5 d b h 0 j) = (CtxModel.state (argI m c) d b h 2).m :=
  (out_M _ d b h j).trans (congrArg (fun S : Rec.State => S.m) ((scanned m c).state d b h))

end Cert.CtxRefScan
-- ==== Proof.CtxMergeBlock.lean ====
module
public import proofs.«01_k».proof.Proof.Layer
public import proofs.«01_k».proof.Proof.Gen.Kernel13Ideal.Frame
public import Idealize.ShloMosaic.Lib.Pipeline.ValueKit
@[expose] public section
set_option maxRecDepth 16384
noncomputable section

/-! # The context's calls: the merge on one block of 256 tokens -/

namespace Cert.Kernel13Ideal.Merge
open Cert.Kernel13Ideal Cert.Kernel13Ideal.Gen Idealize.ShloMosaic Idealize.ShloMosaic.TcCoe Idealize.SL.Sem
open Cert.Layer (Row Tab)

variable (x : FVec Ideal S1x256x1024 .f32) (sh sc gt : FVec Ideal S1x1x1024 .f32) (g : FVec Ideal S1x1024 .f32) (a0 a1 : FVec Ideal S1x1x256x512 .f32)
  (o : FVec Ideal S1x256x512 .f32) (mg : FVec Ideal S1x512 .f32) (ys yf : FVec Ideal S1x256x512 .f32) (w : FVec Ideal S1024x3072 .bf16) (wb : FVec Ideal S1x3072 .f32)
  (p : FVec Ideal S3x512x1024 .bf16) (q : FVec Ideal S1024x1024 .bf16) (r : Fin 256)

theorem hid_apply (j : Fin 1024) : k0_pay3 (F := Ideal) x g sh sc (ix2 r j) =
    Layer.norm (fun k => x (ix3 0 r k)) (fun k => sh (ix3 0 0 k)) (fun k => sc (ix3 0 0 k)) (fun k => g (ix2 0 k)) j := by
  pointwise [k0_pay3, k0_pay2, Layer.norm]
theorem hs_apply (i : Fin 512) : k0_pay4 (F := Ideal) a0 a1 (ix2 r i) = a0 (ix4 0 0 r i) + a1 (ix4 0 0 r i) := by
  pointwise [k0_pay4]
theorem head0 (e : Fin 128) : k0_pay7 (F := Ideal) (k0_pay5 a0 a1) (k0_pay6 a0 a1) (ix2 r e) =
    Layer.ln (Layer.head (fun i => k0_pay4 (F := Ideal) a0 a1 (ix2 r i)) 0) e := by
  pointwise [k0_pay7, k0_pay6, k0_pay5, Layer.ln, Layer.mean, Layer.head]
variable (h : FVec Ideal S256x512 .f32)
theorem head1 (e : Fin 128) : k0_pay8 (F := Ideal) h (ix2 r e) = Layer.ln (Layer.head (fun i => h (ix2 r i)) 1) e := by
  pointwise [k0_pay8, Layer.ln, Layer.mean, Layer.head]
theorem head2 (e : Fin 128) : (k0_pay9 (F := Ideal) h (ix2 r e) - k0_pay10 (F := Ideal) h (ix2 r 0)) * Ideal.rsqrt (k0_pay11 (F := Ideal) h (ix2 r 0) + Layer.eps) =
    Layer.ln (Layer.head (fun i => h (ix2 r i)) 2) e := by
  pointwise [k0_pay9, k0_pay10, k0_pay11, Layer.ln, Layer.mean, Layer.head]
theorem heads_apply (v : FVec Ideal S256x128 .f32) (hv : ∀ e, v (ix2 r e) = Layer.ln (Layer.head (fun i => h (ix2 r i)) 0) e) (i : Fin 512) :
    k0_pay12 (F := Ideal) h v (k0_pay8 h) (k0_pay9 h) (k0_pay10 h) (k0_pay11 h) mg o (ix2 r i) =
      Layer.heads (fun i => h (ix2 r i)) (fun i => o (ix3 0 r i)) (fun i => mg (ix2 0 i)) i := by
  pointwise [k0_pay12]
  unfold Layer.heads
  by_cases h1 : i.val < 128
  · have e1 : (⟨i.val / 128, by omega⟩ : Fin 4) = 0 := Fin.ext (by show i.val / 128 = 0; omega)
    have e2 : (⟨i.val % 128, Nat.mod_lt _ (by decide)⟩ : Fin 128) = ⟨i.val, h1⟩ := Fin.ext (by show i.val % 128 = i.val; omega)
    rw [dif_pos h1, e1, e2, hv]
  by_cases h2 : i.val - 128 < 128
  · have e1 : (⟨i.val / 128, by omega⟩ : Fin 4) = 1 := Fin.ext (by show i.val / 128 = 1; omega)
    have e2 : (⟨i.val % 128, Nat.mod_lt _ (by decide)⟩ : Fin 128) = ⟨i.val - 128, h2⟩ := Fin.ext (by show i.val % 128 = i.val - 128; omega)
    rw [dif_neg h1, dif_pos h2, e1, e2, head1]
  by_cases h3 : i.val - 128 - 128 < 128
  · have e1 : (⟨i.val / 128, by omega⟩ : Fin 4) = 2 := Fin.ext (by show i.val / 128 = 2; omega)
    have e2 : (⟨i.val % 128, Nat.mod_lt _ (by decide)⟩ : Fin 128) = ⟨i.val - 128 - 128, h3⟩ := Fin.ext (by show i.val % 128 = i.val - 128 - 128; omega)
    rw [dif_neg h1, dif_neg h2, dif_pos h3, e1, e2, head2]
  · have e1 : (⟨i.val / 128, by omega⟩ : Fin 4) = 3 := Fin.ext (by show i.val / 128 = 3; omega)
    have e2 : (⟨i.val % 128, Nat.mod_lt _ (by decide)⟩ : Fin 128) = ⟨i.val - 128 - 128 - 128, by omega⟩ := Fin.ext (by show i.val % 128 = i.val - 128 - 128 - 128; omega)
    rw [dif_neg h1, dif_neg h2, dif_neg h3, e1, e2]
    rfl
theorem mix_apply (v25 : FVec Ideal S256x1024 .bf16) (y0 y1 y2 : FVec Ideal S256x512 .f32) (j : Fin 1024) :
    k0_pay16 (F := Ideal) v25 y0 y1 y2 (k0_pay15 (View.ld w r0_6)) (constant S256x1024 .f32 0x00000000#32) (View.ld wb r0_7) (View.ld p r0_8) (View.ld w r0_9) (View.ld wb r0_10) (View.ld p r0_11) (View.ld w r0_12) (View.ld wb r0_13) (View.ld p r0_14) (ix2 r j) =
    Layer.branch (fun k => v25 (ix2 r k)) (fun k j => w (ix2 k j)) (fun j => wb (ix2 0 j)) 0 (fun k => y0 (ix2 r k)) (fun k j => p (ix3 0 k j)) j +
    Layer.branch (fun k => v25 (ix2 r k)) (fun k j => w (ix2 k j)) (fun j => wb (ix2 0 j)) 1 (fun k => y1 (ix2 r k)) (fun k j => p (ix3 1 k j)) j +
    Layer.branch (fun k => v25 (ix2 r k)) (fun k j => w (ix2 k j)) (fun j => wb (ix2 0 j)) 2 (fun k => y2 (ix2 r k)) (fun k j => p (ix3 2 k j)) j := by
  have e0 : ∀ j : Fin 1024, (⟨1024 * (0 : Fin 3).val + j.val, by omega⟩ : Fin 3072) = ⟨j.val, by omega⟩ := fun j => Fin.ext (by show 1024 * 0 + j.val = j.val; omega)
  pointwise [k0_pay16, k0_pay15, Layer.branch, Layer.lin, e0]
theorem fin_apply (z : FVec Ideal S256x1024 .f32) (j : Fin 1024) : k0_pay1 (F := Ideal) (k0_pay2 x) z gt q (ix3 0 r j) =
    x (ix3 0 r j) + gt (ix3 0 0 j) * Layer.lin (fun k => z (ix2 r k)) (fun k j => q (ix2 k j)) j := by
  pointwise [k0_pay1, k0_pay2, Layer.lin]

theorem ys_apply (j : Fin 512) : k0_pay13 (F := Ideal) ys (ix2 r j) = ys (ix3 0 r j) := by pointwise [k0_pay13]
theorem yf_apply (j : Fin 512) : k0_pay14 (F := Ideal) yf (ix2 r j) = yf (ix3 0 r j) := by pointwise [k0_pay14]

/-- What the body leaves of token `r` of its block. -/
theorem body (j : Fin 1024) : out0_15 (F := Ideal) x sh sc gt g a0 a1 o mg ys yf w wb p q (ix3 0 r j) =
    Layer.merge (fun k => x (ix3 0 r k)) (fun k => sh (ix3 0 0 k)) (fun k => sc (ix3 0 0 k)) (fun k => gt (ix3 0 0 k)) (fun k => g (ix2 0 k))
      (fun i => a0 (ix4 0 0 r i)) (fun i => a1 (ix4 0 0 r i)) (fun i => o (ix3 0 r i)) (fun i => mg (ix2 0 i))
      (fun i => ys (ix3 0 r i)) (fun i => yf (ix3 0 r i)) (fun k j => w (ix2 k j)) (fun j => wb (ix2 0 j)) (fun s k j => p (ix3 s k j)) (fun k j => q (ix2 k j)) j := by
  unfold_out out0_15
  frame_out
  rw [fin_apply]
  simp only [mix_apply, hid_apply, heads_apply _ _ _ _ _ (head0 a0 a1 r), hs_apply, ys_apply, yf_apply]
  rfl
end Cert.Kernel13Ideal.Merge
-- ==== Proof.CtxMergeRef.lean ====
module
public import proofs.«01_k».proof.Proof.Layer
public import proofs.«01_k».proof.Proof.Gen.Reference13Ideal.Run
@[expose] public section
set_option maxRecDepth 16384
noncomputable section

/-! # The context's calls: the merge's reference, entry by entry -/

namespace Cert.Reference13Ideal.Merge
open Cert.Reference13Ideal Cert.Reference13Ideal.Gen Idealize.ShloMosaic Idealize.ShloMosaic.TcCoe Idealize.SL.Sem
open Cert.Layer (Row Tab)

/-- The normalized and modulated input. -/
def hid (x : FVec Ideal S4x256x1024 .f32) (sh sc : FVec Ideal S4x1x1024 .f32) (g : FVec Ideal S1x1024 .f32) : FVec Ideal S4x256x1024 .f32 :=
  addf (mulf (mulf (mulf x (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf x x) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![1, 2] bcast_S1x1024_S1x1x1024_1_2 g))) (broadcastInDim S4x256x1024 ![0, 1, 2] bcast_S4x1x1024_S4x256x1024_0_1_2 (addf (broadcastInDim S4x1x1024 ![] bcast_S_S4x1x1024 (constant S_ .f32 0x3F800000#32)) sc))) (broadcastInDim S4x256x1024 ![0, 1, 2] bcast_S4x1x1024_S4x256x1024_0_1_2 sh)
/-- The sum of the two directions' outputs, as heads. -/
def hs (a : FVec Ideal S2x4x256x512 .f32) : FVec Ideal S4x256x4x128 .f32 :=
  shapeCast _ (addf (shapeCast _ (extractStridedSlice S1x4x256x512 ![0, 0, 0, 0] a slices_S2x4x256x512_S1x4x256x512_0_0_0_0) shapeCasts_S1x4x256x512_S4x256x512) (shapeCast _ (extractStridedSlice S1x4x256x512 ![1, 0, 0, 0] a slices_S2x4x256x512_S1x4x256x512_1_0_0_0) shapeCasts_S1x4x256x512_S4x256x512)) shapeCasts_S4x256x512_S4x256x4x128
/-- The heads' means. -/
def mean (z : FVec Ideal S4x256x4x128 .f32) : FVec Ideal S4x256x4x1 .f32 :=
  Host.divf (broadcastInDim S4x256x4x1 ![0, 1, 2] bcast_S4x256x4_S4x256x4x1_0_1_2 (Host.reduceAdd z (constant S_ .f32 0x00000000#32) reducesTo_S4x256x4x128_S4x256x4_d3 h_S_)) (broadcastInDim S4x256x4x1 ![] bcast_S_S4x256x4x1 (constant S_ .f32 0x43000000#32))
/-- The heads less their means. -/
def cen (z : FVec Ideal S4x256x4x128 .f32) : FVec Ideal S4x256x4x128 .f32 :=
  subf z (broadcastInDim S4x256x4x128 ![0, 1, 2, 3] bcast_S4x256x4x1_S4x256x4x128_0_1_2_3 (mean z))
/-- The heads' layer normalization, scaled. -/
def lnm (z : FVec Ideal S4x256x4x128 .f32) (g : FVec Ideal S1x512 .f32) : FVec Ideal S4x256x4x128 .f32 :=
  mulf (mulf (cen z) (broadcastInDim S4x256x4x128 ![0, 1, 2, 3] bcast_S4x256x4x1_S4x256x4x128_0_1_2_3 (Host.rsqrt (addf (mean (mulf (cen z) (cen z))) (broadcastInDim S4x256x4x1 ![] bcast_S_S4x256x4x1 (constant S_ .f32 0x358637BD#32)))))) (broadcastInDim S4x256x4x128 ![0, 1, 2, 3] bcast_S1x1x4x128_S4x256x4x128_0_1_2_3 (broadcastInDim S1x1x4x128 ![2, 3] bcast_S4x128_S1x1x4x128_2_3 (shapeCast _ g shapeCasts_S1x512_S4x128)))
/-- The recurrence's branch. -/
def ym (z : FVec Ideal S4x256x4x128 .f32) (a : FVec Ideal S4x256x2048 .f32) : FVec Ideal S4x256x512 .f32 :=
  mulf (Host.divf (broadcastInDim S4x256x512 ![] bcast_S_S4x256x512 (constant S_ .f32 0x3F800000#32)) (addf (broadcastInDim S4x256x512 ![] bcast_S_S4x256x512 (constant S_ .f32 0x3F800000#32)) (Host.exp (Host.negf (extractStridedSlice S4x256x512 ![0, 0, 1536] a slices_S4x256x2048_S4x256x512_0_0_1536))))) (shapeCast _ z shapeCasts_S4x256x4x128_S4x256x512)
/-- The branches' gates, as one row. -/
def gates (h : FVec Ideal S4x256x1024 .f32) (w : FVec Ideal S1024x3072 .f32) (b : FVec Ideal S1x3072 .f32) : FVec Ideal S4x256x3072 .f32 :=
  Host.divf (broadcastInDim S4x256x3072 ![] bcast_S_S4x256x3072 (constant S_ .f32 0x3F800000#32)) (addf (broadcastInDim S4x256x3072 ![] bcast_S_S4x256x3072 (constant S_ .f32 0x3F800000#32)) (Host.exp (Host.negf (addf (Host.dotGeneral dot_S4x256x1024_S1024x3072_S4x256x3072_2_0_01_1_n_n none h w) (broadcastInDim S4x256x3072 ![0, 1, 2] bcast_S1x1x3072_S4x256x3072_0_1_2 (broadcastInDim S1x1x3072 ![1, 2] bcast_S1x3072_S1x1x3072_1_2 b))))))
/-- The branches' gates, one row for each branch. -/
def gates3 (G : FVec Ideal S4x256x3072 .f32) : FVec Ideal S4x256x3x1024 .f32 := shapeCast _ G shapeCasts_S4x256x3072_S4x256x3x1024
/-- Branch 0, projected and gated. -/
def br0 (G : FVec Ideal S4x256x3x1024 .f32) (y : FVec Ideal S4x256x512 .f32) (p : FVec Ideal S3x512x1024 .f32) : FVec Ideal S4x256x1024 .f32 :=
  mulf (shapeCast _ (extractStridedSlice S4x256x1x1024 ![0, 0, 0, 0] G slices_S4x256x3x1024_S4x256x1x1024_0_0_0_0) shapeCasts_S4x256x1x1024_S4x256x1024) (Host.dotGeneral dot_S4x256x512_S512x1024_S4x256x1024_2_0_01_1_n_n none y (shapeCast _ (extractStridedSlice S1x512x1024 ![0, 0, 0] p slices_S3x512x1024_S1x512x1024_0_0_0) shapeCasts_S1x512x1024_S512x1024))
/-- Branch 1, projected and gated. -/
def br1 (G : FVec Ideal S4x256x3x1024 .f32) (y : FVec Ideal S4x256x512 .f32) (p : FVec Ideal S3x512x1024 .f32) : FVec Ideal S4x256x1024 .f32 :=
  mulf (shapeCast _ (extractStridedSlice S4x256x1x1024 ![0, 0, 1, 0] G slices_S4x256x3x1024_S4x256x1x1024_0_0_1_0) shapeCasts_S4x256x1x1024_S4x256x1024) (Host.dotGeneral dot_S4x256x512_S512x1024_S4x256x1024_2_0_01_1_n_n none y (shapeCast _ (extractStridedSlice S1x512x1024 ![1, 0, 0] p slices_S3x512x1024_S1x512x1024_1_0_0) shapeCasts_S1x512x1024_S512x1024))
/-- Branch 2, projected and gated. -/
def br2 (G : FVec Ideal S4x256x3x1024 .f32) (y : FVec Ideal S4x256x512 .f32) (p : FVec Ideal S3x512x1024 .f32) : FVec Ideal S4x256x1024 .f32 :=
  mulf (shapeCast _ (extractStridedSlice S4x256x1x1024 ![0, 0, 2, 0] G slices_S4x256x3x1024_S4x256x1x1024_0_0_2_0) shapeCasts_S4x256x1x1024_S4x256x1024) (Host.dotGeneral dot_S4x256x512_S512x1024_S4x256x1024_2_0_01_1_n_n none y (shapeCast _ (extractStridedSlice S1x512x1024 ![2, 0, 0] p slices_S3x512x1024_S1x512x1024_2_0_0) shapeCasts_S1x512x1024_S512x1024))
/-- The branches summed, projected, gated and added to the input. -/
def fin (x : FVec Ideal S4x256x1024 .f32) (gt : FVec Ideal S4x1x1024 .f32) (Y0 Y1 Y2 : FVec Ideal S4x256x1024 .f32) (q : FVec Ideal S1024x1024 .f32) : FVec Ideal S4x256x1024 .f32 :=
  addf x (mulf (broadcastInDim S4x256x1024 ![0, 1, 2] bcast_S4x1x1024_S4x256x1024_0_1_2 gt) (Host.dotGeneral dot_S4x256x1024_S1024x1024_S4x256x1024_2_0_01_1_n_n none (addf (addf Y0 Y1) Y2) q))

variable (x : FVec Ideal S4x256x1024 .f32) (sh sc gt : FVec Ideal S4x1x1024 .f32) (g : FVec Ideal S1x1024 .f32) (a : FVec Ideal S2x4x256x512 .f32)
  (qk : FVec Ideal S4x256x2048 .f32) (mg : FVec Ideal S1x512 .f32) (ys yf : FVec Ideal S4x256x512 .f32) (w : FVec Ideal S1024x3072 .f32) (wb : FVec Ideal S1x3072 .f32)
  (p : FVec Ideal S3x512x1024 .f32) (q : FVec Ideal S1024x1024 .f32) (b : Fin 4) (t : Fin 256)

theorem hid_apply (j : Fin 1024) : hid x sh sc g (ix3 b t j) =
    Layer.norm (fun k => x (ix3 b t k)) (fun k => sh (ix3 b 0 k)) (fun k => sc (ix3 b 0 k)) (fun k => g (ix2 0 k)) j := by
  pointwise [hid, Layer.norm]
theorem hs_apply (k : Fin 4) (e : Fin 128) : hs a (ix4 b t k e) =
    Layer.head (fun i => a (ix4 0 b t i) + a (ix4 1 b t i)) k e := by
  refine (shapeCast_apply _ _ _ (ix3 b t ⟨128 * k.val + e.val, by omega⟩) ?_).trans ?_
  · rw [Shape.rowMajor_val_three, Shape.rowMajor_val_four]
    show (b.val * 256 + t.val) * 512 + (128 * k.val + e.val) = ((b.val * 256 + t.val) * 4 + k.val) * 128 + e.val
    omega
  · pointwise [Layer.head]
theorem mean_apply (z : FVec Ideal S4x256x4x128 .f32) (k : Fin 4) : mean z (ix4 b t k 0) = Layer.mean (fun e => z (ix4 b t k e)) := by
  pointwise [mean, Layer.mean]
theorem cen_apply (z : FVec Ideal S4x256x4x128 .f32) (k : Fin 4) (e : Fin 128) : cen z (ix4 b t k e) = z (ix4 b t k e) - Layer.mean (fun e => z (ix4 b t k e)) := by
  pointwise [cen, mean_apply]
theorem lnm_apply (z : FVec Ideal S4x256x4x128 .f32) (k : Fin 4) (e : Fin 128) : lnm z mg (ix4 b t k e) =
    Layer.ln (fun e => z (ix4 b t k e)) e * mg (ix2 0 ⟨k.val * 128 + e.val, by omega⟩) := by
  pointwise [lnm, Layer.ln, mean_apply, cen_apply]
theorem ym_apply (z : FVec Ideal S4x256x4x128 .f32) (i : Fin 512) : ym z qk (ix3 b t i) =
    Ideal.logistic (qk (ix3 b t ⟨1536 + i.val, by omega⟩)) * z (ix4 b t ⟨i.val / 128, by omega⟩ ⟨i.val % 128, Nat.mod_lt _ (by decide)⟩) := by
  pointwise [ym]
  rfl
theorem gates_apply (h : FVec Ideal S4x256x1024 .f32) (j : Fin 3072) : gates h w wb (ix3 b t j) =
    Ideal.logistic (Layer.lin (fun k => h (ix3 b t k)) (fun k j => w (ix2 k j)) j + wb (ix2 0 j)) := by
  pointwise [gates, Layer.lin]
  rfl
theorem gates3_apply (G : FVec Ideal S4x256x3072 .f32) (r : Fin 3) (j : Fin 1024) : gates3 G (ix4 b t r j) = G (ix3 b t ⟨1024 * r.val + j.val, by omega⟩) := by
  refine shapeCast_apply _ _ _ (ix3 b t ⟨1024 * r.val + j.val, by omega⟩) ?_
  rw [Shape.rowMajor_val_three, Shape.rowMajor_val_four]
  show (b.val * 256 + t.val) * 3072 + (1024 * r.val + j.val) = ((b.val * 256 + t.val) * 3 + r.val) * 1024 + j.val
  omega
theorem br0_apply (G : FVec Ideal S4x256x3x1024 .f32) (y : FVec Ideal S4x256x512 .f32) (j : Fin 1024) : br0 G y p (ix3 b t j) =
    G (ix4 b t 0 j) * Layer.lin (fun k => y (ix3 b t k)) (fun k j => p (ix3 0 k j)) j := by
  pointwise [br0, Layer.lin]
theorem br1_apply (G : FVec Ideal S4x256x3x1024 .f32) (y : FVec Ideal S4x256x512 .f32) (j : Fin 1024) : br1 G y p (ix3 b t j) =
    G (ix4 b t 1 j) * Layer.lin (fun k => y (ix3 b t k)) (fun k j => p (ix3 1 k j)) j := by
  pointwise [br1, Layer.lin]
theorem br2_apply (G : FVec Ideal S4x256x3x1024 .f32) (y : FVec Ideal S4x256x512 .f32) (j : Fin 1024) : br2 G y p (ix3 b t j) =
    G (ix4 b t 2 j) * Layer.lin (fun k => y (ix3 b t k)) (fun k j => p (ix3 2 k j)) j := by
  pointwise [br2, Layer.lin]
theorem fin_apply (Y0 Y1 Y2 : FVec Ideal S4x256x1024 .f32) (j : Fin 1024) : fin x gt Y0 Y1 Y2 q (ix3 b t j) =
    x (ix3 b t j) + gt (ix3 b 0 j) * Layer.lin (fun i => Y0 (ix3 b t i) + Y1 (ix3 b t i) + Y2 (ix3 b t i)) (fun k j => q (ix2 k j)) j := by
  pointwise [fin, Layer.lin]

/-- The reference's result from its arguments. -/
def out : FVec Ideal S4x256x1024 .f32 :=
  fin x gt (br0 (gates3 (gates (hid x sh sc g) w wb)) (ym (lnm (hs a) mg) qk) p) (br1 (gates3 (gates (hid x sh sc g) w wb)) ys p)
    (br2 (gates3 (gates (hid x sh sc g) w wb)) yf p) q

/-- The merge at one token and entry. -/
def ref (j : Fin 1024) : EReal :=
  Layer.merge (fun k => x (ix3 b t k)) (fun k => sh (ix3 b 0 k)) (fun k => sc (ix3 b 0 k)) (fun k => gt (ix3 b 0 k)) (fun k => g (ix2 0 k))
    (fun i => a (ix4 0 b t i)) (fun i => a (ix4 1 b t i)) (fun i => qk (ix3 b t ⟨1536 + i.val, by omega⟩)) (fun i => mg (ix2 0 i))
    (fun i => ys (ix3 b t i)) (fun i => yf (ix3 b t i)) (fun k j => w (ix2 k j)) (fun j => wb (ix2 0 j)) (fun r k j => p (ix3 r k j)) (fun k j => q (ix2 k j)) j

theorem out_apply (j : Fin 1024) : out x sh sc gt g a qk mg ys yf w wb p q (ix3 b t j) = ref x sh sc gt g a qk mg ys yf w wb p q b t j := by
  unfold out
  rw [fin_apply]
  simp only [br0_apply, br1_apply, br2_apply, gates3_apply, gates_apply, ym_apply, lnm_apply, hs_apply, hid_apply]
  have e : ∀ k : Fin 512, (⟨k.val / 128 * 128 + k.val % 128, by omega⟩ : Fin 512) = k := fun k => Fin.ext (Nat.div_add_mod' k.val 128)
  simp only [e]
  rfl
theorem res_eq (m : (ℓ : Loc nD τ sig) → Buf (Elt Ideal) ℓ) (c : Dev nD) : Value.res_main_v90 (F := Ideal) m c =
    out (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) := by
  unfold Value.res_main_v90
  rfl
end Cert.Reference13Ideal.Merge
-- ==== Proof.CtxMergeArray.lean ====
module
public import proofs.«01_k».proof.Proof.CtxMergeBlock
public import proofs.«01_k».proof.Proof.CtxMergeRef
public import proofs.«01_k».proof.Proof.Gen.Kernel13Ideal.Value
@[expose] public section
set_option maxRecDepth 16384
noncomputable section

/-! # The context's calls: the array the merge leaves

The blocks a grid point reads, entry by entry, and the array all grid points leave: the reference's result. -/

namespace Cert.Kernel13Ideal.Merge
open Cert.Kernel13Ideal Cert.Kernel13Ideal.Gen Idealize.ShloMosaic Idealize.ShloMosaic.TcCoe Idealize.SL.Sem
open Idealize.ShloMosaic.Pipeline (Dat)

/-- The blocks' places at a grid point. -/
theorem idx : ∀ t : Fin cfg0.N,
    win0_0.index t = ![t.val, 0, 0] ∧ win0_1.index t = ![t.val, 0, 0] ∧ win0_2.index t = ![t.val, 0, 0] ∧ win0_3.index t = ![t.val, 0, 0] ∧
    win0_4.index t = ![0, 0] ∧ win0_5.index t = ![0, t.val, 0, 0] ∧ win0_6.index t = ![1, t.val, 0, 0] ∧
    win0_7.index t = ![t.val, 0, 3] ∧ win0_8.index t = ![0, 0] ∧ win0_9.index t = ![t.val, 0, 0] ∧ win0_10.index t = ![t.val, 0, 0] ∧
    win0_11.index t = ![0, 0] ∧ win0_12.index t = ![0, 0] ∧ win0_13.index t = ![0, 0, 0] ∧ win0_14.index t = ![0, 0] ∧ win0_15.index t = ![t.val, 0, 0] :=
  (by decide +kernel : ∀ t : Fin grid0.N, _)

variable (m : (ℓ : Loc nD τ sig) → Buf (Elt Ideal) ℓ) (c : Dev nD)

abbrev arg0 : FVec Ideal S4x256x1024 .f32 := m (c, Proc.tc.devRef main_arg0)
abbrev arg1 : FVec Ideal S4x1x1024 .f32 := m (c, Proc.tc.devRef main_arg1)
abbrev arg2 : FVec Ideal S4x1x1024 .f32 := m (c, Proc.tc.devRef main_arg2)
abbrev arg3 : FVec Ideal S4x1x1024 .f32 := m (c, Proc.tc.devRef main_arg3)
abbrev arg4 : FVec Ideal S1x1024 .f32 := m (c, Proc.tc.devRef main_arg4)
abbrev arg5 : FVec Ideal S2x4x256x512 .f32 := m (c, Proc.tc.devRef main_arg5)
abbrev arg6 : FVec Ideal S4x256x2048 .f32 := m (c, Proc.tc.devRef main_arg6)
abbrev arg7 : FVec Ideal S1x512 .f32 := m (c, Proc.tc.devRef main_arg7)
abbrev arg8 : FVec Ideal S4x256x512 .f32 := m (c, Proc.tc.devRef main_arg8)
abbrev arg9 : FVec Ideal S4x256x512 .f32 := m (c, Proc.tc.devRef main_arg9)
abbrev arg10 : FVec Ideal S1024x3072 .f32 := m (c, Proc.tc.devRef main_arg10)
abbrev arg11 : FVec Ideal S1x3072 .f32 := m (c, Proc.tc.devRef main_arg11)
abbrev arg12 : FVec Ideal S3x512x1024 .f32 := m (c, Proc.tc.devRef main_arg12)
abbrev arg13 : FVec Ideal S1024x1024 .f32 := m (c, Proc.tc.devRef main_arg13)

theorem V_w (i : Fin 1024) (j : Fin 3072) : V m c main_v0 (ix2 i j) = arg10 m c (ix2 i j) := by
  entry_read
  pointwise
theorem V_p (s : Fin 3) (i : Fin 512) (j : Fin 1024) : V m c main_v1 (ix3 s i j) = arg12 m c (ix3 s i j) := by
  entry_read
  pointwise
theorem V_q (i : Fin 1024) (j : Fin 1024) : V m c main_v2 (ix2 i j) = arg13 m c (ix2 i j) := by
  entry_read
  pointwise

section
variable (t : Fin cfg0.N) (b : Fin 4) (hb : b.val = t.val) (r : Fin 256) (R : Fin 256) (hR : R.val = r.val)
theorem blk_g (j : Fin 1024) : iblk m c 4 t (ix2 0 j) = arg4 m c (ix2 0 j) := by
  rw [arg4, ← V_main_arg4 m c]; blk_ext [iblk, idx t]
theorem blk_mg (j : Fin 512) : iblk m c 8 t (ix2 0 j) = arg7 m c (ix2 0 j) := by
  rw [arg7, ← V_main_arg7 m c]; blk_ext [iblk, idx t]
theorem blk_w (i : Fin 1024) (j : Fin 3072) : iblk m c 11 t (ix2 i j) = arg10 m c (ix2 i j) := by
  rw [← V_w m c]; blk_ext [iblk, idx t]
theorem blk_wb (j : Fin 3072) : iblk m c 12 t (ix2 0 j) = arg11 m c (ix2 0 j) := by
  rw [arg11, ← V_main_arg11 m c]; blk_ext [iblk, idx t]
theorem blk_p (s : Fin 3) (i : Fin 512) (j : Fin 1024) : iblk m c 13 t (ix3 s i j) = arg12 m c (ix3 s i j) := by
  rw [← V_p m c]; blk_ext [iblk, idx t]
theorem blk_q (i : Fin 1024) (j : Fin 1024) : iblk m c 14 t (ix2 i j) = arg13 m c (ix2 i j) := by
  rw [← V_q m c]; blk_ext [iblk, idx t]
include hb
theorem blk_sh (j : Fin 1024) : iblk m c 1 t (ix3 0 0 j) = arg1 m c (ix3 b 0 j) := by
  rw [arg1, ← V_main_arg1 m c]; blk_ext [iblk, idx t, hb]
theorem blk_sc (j : Fin 1024) : iblk m c 2 t (ix3 0 0 j) = arg2 m c (ix3 b 0 j) := by
  rw [arg2, ← V_main_arg2 m c]; blk_ext [iblk, idx t, hb]
theorem blk_gt (j : Fin 1024) : iblk m c 3 t (ix3 0 0 j) = arg3 m c (ix3 b 0 j) := by
  rw [arg3, ← V_main_arg3 m c]; blk_ext [iblk, idx t, hb]
include hR
theorem blk_x (j : Fin 1024) : iblk m c 0 t (ix3 0 r j) = arg0 m c (ix3 b R j) := by
  rw [arg0, ← V_main_arg0 m c]; blk_ext [iblk, idx t, hb, hR]
theorem blk_a0 (j : Fin 512) : iblk m c 5 t (ix4 0 0 r j) = arg5 m c (ix4 0 b R j) := by
  rw [arg5, ← V_main_arg5 m c]; blk_ext [iblk, idx t, hb, hR]
theorem blk_a1 (j : Fin 512) : iblk m c 6 t (ix4 0 0 r j) = arg5 m c (ix4 1 b R j) := by
  rw [arg5, ← V_main_arg5 m c]; blk_ext [iblk, idx t, hb, hR]
theorem blk_o (j : Fin 512) : iblk m c 7 t (ix3 0 r j) = arg6 m c (ix3 b R ⟨1536 + j.val, by omega⟩) := by
  rw [arg6, ← V_main_arg6 m c]; blk_ext [iblk, idx t, hb, hR]
theorem blk_ys (j : Fin 512) : iblk m c 9 t (ix3 0 r j) = arg8 m c (ix3 b R j) := by
  rw [arg8, ← V_main_arg8 m c]; blk_ext [iblk, idx t, hb, hR]
theorem blk_yf (j : Fin 512) : iblk m c 10 t (ix3 0 r j) = arg9 m c (ix3 b R j) := by
  rw [arg9, ← V_main_arg9 m c]; blk_ext [iblk, idx t, hb, hR]

/-- What a grid point leaves of a token is the reference's result there. -/
theorem point (j : Fin 1024) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) (iblk m c 13 t) (iblk m c 14 t) (ix3 0 r j) =
    Cert.Reference13Ideal.Merge.ref (arg0 m c) (arg1 m c) (arg2 m c) (arg3 m c) (arg4 m c) (arg5 m c) (arg6 m c) (arg7 m c) (arg8 m c) (arg9 m c) (arg10 m c) (arg11 m c)
      (arg12 m c) (arg13 m c) b R j := by
  refine (body _ _ _ _ _ _ _ _ _ _ _ _ _ _ _ r j).trans ?_
  have h0 := funext (blk_x m c t b hb r R hR)
  have h1 := funext (blk_sh m c t b hb)
  have h2 := funext (blk_sc m c t b hb)
  have h3 := funext (blk_gt m c t b hb)
  have h4 := funext (blk_g m c t)
  have h5 := funext (blk_a0 m c t b hb r R hR)
  have h6 := funext (blk_a1 m c t b hb r R hR)
  have h7 := funext (blk_o m c t b hb r R hR)
  have h8 := funext (blk_mg m c t)
  have h9 := funext (blk_ys m c t b hb r R hR)
  have h10 := funext (blk_yf m c t b hb r R hR)
  have h11 := funext fun i => funext (blk_w m c t i)
  have h12 := funext (blk_wb m c t)
  have h13 := funext fun s => funext fun i => funext (blk_p m c t s i)
  have h14 := funext fun i => funext (blk_q m c t i)
  rw [h0, h1, h2, h3, h4, h5, h6, h7, h8, h9, h10, h11, h12, h13, h14]
  rfl
end

/-- The reference's result on the call's arguments. -/
abbrev res : FVec Ideal S4x256x1024 .f32 :=
  Cert.Reference13Ideal.Merge.out (arg0 m c) (arg1 m c) (arg2 m c) (arg3 m c) (arg4 m c) (arg5 m c) (arg6 m c) (arg7 m c) (arg8 m c) (arg9 m c) (arg10 m c) (arg11 m c)
    (arg12 m c) (arg13 m c)

theorem arr : (dats m 0 c).arrAt 15 cfg0.N = res m c := by
  refine (dats m 0 c).arrAt_eq_of_covers 15 _ (by decide +kernel) fun t hf y => ?_
  blk_simp
  rw [after0_15]
  have ht : t.val < 4 := lt_of_lt_of_eq t.isLt N_0
  have hr : (y 1).val < 256 := (y 1).isLt
  have hy : y = (ix3 0 (show Fin 256 from y 1) (show Fin 1024 from y 2) : S1x256x1024.Idx) := by
    blk_ext
  have he : ((win0_15.blk t).view.emb y : S4x256x1024.Idx) = ix3 ⟨t.val, by omega⟩ ⟨(y 1).val, by omega⟩ (show Fin 1024 from y 2) := by
    blk_ext [idx t]
  refine Eq.trans ?_ (congrArg (res m c) he).symm
  refine (congrArg _ hy).trans ((point m c t ⟨t.val, by omega⟩ rfl (show Fin 256 from y 1) ⟨(y 1).val, by omega⟩ rfl _).trans ?_)
  exact (Cert.Reference13Ideal.Merge.out_apply _ _ _ _ _ _ _ _ _ _ _ _ _ _ _ _ _).symm
end Cert.Kernel13Ideal.Merge
-- ==== Proof.CtxProjBlock.lean ====
module
public import proofs.«01_k».proof.Proof.Layer
public import proofs.«01_k».proof.Proof.Gen.Kernel11Ideal.Frame
public import Idealize.ShloMosaic.Lib.Pipeline.ValueKit
@[expose] public section
set_option maxRecDepth 16384
noncomputable section

/-! # The context's calls: the projection on one block of 256 tokens -/

namespace Cert.Kernel11Ideal.Proj
open Cert.Kernel11Ideal Cert.Kernel11Ideal.Gen Idealize.ShloMosaic Idealize.ShloMosaic.TcCoe Idealize.SL.Sem
open Cert.Layer (Row Tab)

variable (x : FVec Ideal S1x256x1024 .f32) (sh sc : FVec Ideal S1x1x1024 .f32) (g : FVec Ideal S1x1024 .f32) (w : FVec Ideal S1024x2048 .bf16) (wb : FVec Ideal S1x2048 .f32)
  (u : FVec Ideal S1024x256 .f32) (ub : FVec Ideal S1x256 .f32) (r : Fin 256)

/-- A token of the block, normalized and modulated. -/
abbrev tok : Row 1024 := Layer.norm (fun k => x (ix3 0 r k)) (fun k => sh (ix3 0 0 k)) (fun k => sc (ix3 0 0 k)) (fun k => g (ix2 0 k))

theorem hid_apply (j : Fin 1024) : k0_pay8 (F := Ideal) x g sh sc (ix2 r j) = tok x sh sc g r j := by
  pointwise [k0_pay8, tok, Layer.norm]
theorem lin_apply (j : Fin 2048) : k0_pay9 (F := Ideal) x g sh sc w wb (ix3 0 r j) =
    Layer.lin (tok x sh sc g r) (fun k j => w (ix2 k j)) j + wb (ix2 0 j) := by
  pointwise [k0_pay9, Layer.lin, hid_apply]
theorem glin_apply (h : FVec Ideal S256x1024 .f32) (j : Fin 256) : k0_pay1 (F := Ideal) h u ub (ix2 r j) =
    Layer.lin (fun k => h (ix2 r k)) (fun k j => u (ix2 k j)) j + ub (ix2 0 j) := by
  pointwise [k0_pay1, Layer.lin]
theorem g0 (h : FVec Ideal S256x1024 .f32) (j : Fin 128) : k0_pay3 (F := Ideal) h u ub (ix4 0 0 r j) = k0_pay1 (F := Ideal) h u ub (ix2 r ⟨j.val, by omega⟩) := by
  pointwise [k0_pay3, k0_pay2]
theorem g1 (h : FVec Ideal S256x1024 .f32) (j : Fin 128) : k0_pay6 (F := Ideal) h u ub (ix4 0 0 r j) = k0_pay1 (F := Ideal) h u ub (ix2 r ⟨128 + j.val, by omega⟩) := by
  pointwise [k0_pay6, k0_pay5]
theorem t0 (h : FVec Ideal S256x1024 .f32) (j : Fin 8) : k0_pay4 (F := Ideal) h u ub (ix4 0 0 j r) = k0_pay1 (F := Ideal) h u ub (ix2 r ⟨j.val, by omega⟩) := by
  pointwise [k0_pay4, k0_pay2]
theorem t1 (h : FVec Ideal S256x1024 .f32) (j : Fin 8) : k0_pay7 (F := Ideal) h u ub (ix4 0 0 j r) = k0_pay1 (F := Ideal) h u ub (ix2 r ⟨128 + j.val, by omega⟩) := by
  pointwise [k0_pay7, k0_pay5]

/-- The gates of a token of the block. -/
abbrev gts (j : Fin 256) : EReal := Layer.lin (tok x sh sc g r) (fun k j => u (ix2 k j)) j + ub (ix2 0 j)

theorem body (j : Fin 2048) : out0_8 (F := Ideal) x sh sc g w wb u ub (ix3 0 r j) = Layer.lin (tok x sh sc g r) (fun k j => w (ix2 k j)) j + wb (ix2 0 j) := by
  unfold_out out0_8
  frame_out
  exact lin_apply x sh sc g w wb r j
theorem bodyG (d : Fin 2) (j : Fin 128) : out0_9 (F := Ideal) x sh sc g w wb u ub (ix4 d 0 r j) = gts x sh sc g u ub r ⟨128 * d.val + j.val, by omega⟩ := by
  unfold_out out0_9
  frame_out
  have n0 : ∀ j : Fin 128, k0_pay3 (F := Ideal) (k0_pay8 (F := Ideal) x g sh sc) u ub (ix4 0 0 r j) = gts x sh sc g u ub r ⟨j.val, by omega⟩ := fun j => by
    rw [g0, glin_apply]
    simp only [hid_apply]
  have n1 : ∀ j : Fin 128, k0_pay6 (F := Ideal) (k0_pay8 (F := Ideal) x g sh sc) u ub (ix4 0 0 r j) = gts x sh sc g u ub r ⟨128 + j.val, by omega⟩ := fun j => by
    rw [g1, glin_apply]
    simp only [hid_apply]
  canon_tiles i h
  · have hd : d = 1 := Fin.ext (by have := d.isLt; have : d.val = 1 + (i 0).val := h0; show d.val = 1; omega)
    have hi : i = (ix4 0 0 r j : S1x1x256x128.Idx) := by
      have a0 : i 0 = (0 : Fin 1) := Subsingleton.elim (α := Fin 1) _ _
      have a1 : i 1 = (0 : Fin 1) := Subsingleton.elim (α := Fin 1) _ _
      have a2 : i 2 = r := Fin.ext h2.symm
      have a3 : i 3 = j := Fin.ext h3.symm
      rw [ValueIdx.eq_ix4 i, a0, a1, a2, a3]
      rfl
    subst hd
    rw [hi]
    exact n1 j
  · have hd : d = 0 := Fin.ext (by have : d.val = (i 0).val := h0; show d.val = 0; omega)
    have hi : i = (ix4 0 0 r j : S1x1x256x128.Idx) := by
      have a0 : i 0 = (0 : Fin 1) := Subsingleton.elim (α := Fin 1) _ _
      have a1 : i 1 = (0 : Fin 1) := Subsingleton.elim (α := Fin 1) _ _
      have a2 : i 2 = r := Fin.ext h2.symm
      have a3 : i 3 = j := Fin.ext h3.symm
      rw [ValueIdx.eq_ix4 i, a0, a1, a2, a3]
      rfl
    subst hd
    rw [hi]
    refine (n0 j).trans ?_
    rw [show (⟨j.val, by omega⟩ : Fin 256) = ⟨128 * (0 : Fin 2).val + j.val, by omega⟩ from Fin.ext (by show j.val = 128 * 0 + j.val; omega)]
theorem bodyT (d : Fin 2) (j : Fin 8) : out0_10 (F := Ideal) x sh sc g w wb u ub (ix4 d 0 j r) = gts x sh sc g u ub r ⟨128 * d.val + j.val, by omega⟩ := by
  unfold_out out0_10
  frame_out
  have n0 : ∀ j : Fin 8, k0_pay4 (F := Ideal) (k0_pay8 (F := Ideal) x g sh sc) u ub (ix4 0 0 j r) = gts x sh sc g u ub r ⟨j.val, by omega⟩ := fun j => by
    rw [t0, glin_apply]
    simp only [hid_apply]
  have n1 : ∀ j : Fin 8, k0_pay7 (F := Ideal) (k0_pay8 (F := Ideal) x g sh sc) u ub (ix4 0 0 j r) = gts x sh sc g u ub r ⟨128 + j.val, by omega⟩ := fun j => by
    rw [t1, glin_apply]
    simp only [hid_apply]
  canon_tiles i h
  · have hd : d = 1 := Fin.ext (by have := d.isLt; have : d.val = 1 + (i 0).val := h0; show d.val = 1; omega)
    have hi : i = (ix4 0 0 j r : S1x1x8x256.Idx) := by
      have a0 : i 0 = (0 : Fin 1) := Subsingleton.elim (α := Fin 1) _ _
      have a1 : i 1 = (0 : Fin 1) := Subsingleton.elim (α := Fin 1) _ _
      have a2 : i 2 = j := Fin.ext h2.symm
      have a3 : i 3 = r := Fin.ext h3.symm
      rw [ValueIdx.eq_ix4 i, a0, a1, a2, a3]
      rfl
    subst hd
    rw [hi]
    exact n1 j
  · have hd : d = 0 := Fin.ext (by have : d.val = (i 0).val := h0; show d.val = 0; omega)
    have hi : i = (ix4 0 0 j r : S1x1x8x256.Idx) := by
      have a0 : i 0 = (0 : Fin 1) := Subsingleton.elim (α := Fin 1) _ _
      have a1 : i 1 = (0 : Fin 1) := Subsingleton.elim (α := Fin 1) _ _
      have a2 : i 2 = j := Fin.ext h2.symm
      have a3 : i 3 = r := Fin.ext h3.symm
      rw [ValueIdx.eq_ix4 i, a0, a1, a2, a3]
      rfl
    subst hd
    rw [hi]
    refine (n0 j).trans ?_
    rw [show (⟨j.val, by omega⟩ : Fin 256) = ⟨128 * (0 : Fin 2).val + j.val, by omega⟩ from Fin.ext (by show j.val = 128 * 0 + j.val; omega)]
end Cert.Kernel11Ideal.Proj
-- ==== Proof.CtxProjRef.lean ====
module
public import proofs.«01_k».proof.Proof.Layer
public import proofs.«01_k».proof.Proof.Gen.Reference11Ideal.Run
@[expose] public section
set_option maxRecDepth 16384
noncomputable section

/-! # The context's calls: the projection's reference, entry by entry -/

namespace Cert.Reference11Ideal.Proj
open Cert.Reference11Ideal Cert.Reference11Ideal.Gen Idealize.ShloMosaic Idealize.ShloMosaic.TcCoe Idealize.SL.Sem
open Cert.Layer (Row Tab)

/-- The normalized and modulated input. -/
def hid (x : FVec Ideal S4x256x1024 .f32) (sh sc : FVec Ideal S4x1x1024 .f32) (g : FVec Ideal S1x1024 .f32) : FVec Ideal S4x256x1024 .f32 :=
  addf (mulf (mulf (mulf x (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf x x) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![1, 2] bcast_S1x1024_S1x1x1024_1_2 g))) (broadcastInDim S4x256x1024 ![0, 1, 2] bcast_S4x1x1024_S4x256x1024_0_1_2 (addf (broadcastInDim S4x1x1024 ![] bcast_S_S4x1x1024 (constant S_ .f32 0x3F800000#32)) sc))) (broadcastInDim S4x256x1024 ![0, 1, 2] bcast_S4x1x1024_S4x256x1024_0_1_2 sh)
/-- The projection. -/
def lin (h : FVec Ideal S4x256x1024 .f32) (w : FVec Ideal S1024x2048 .f32) (b : FVec Ideal S1x2048 .f32) : FVec Ideal S4x256x2048 .f32 :=
  addf (Host.dotGeneral dot_S4x256x1024_S1024x2048_S4x256x2048_2_0_01_1_n_n none h w) (broadcastInDim S4x256x2048 ![0, 1, 2] bcast_S1x1x2048_S4x256x2048_0_1_2 (broadcastInDim S1x1x2048 ![1, 2] bcast_S1x2048_S1x1x2048_1_2 b))
/-- The gates, both directions in one row. -/
def glin (h : FVec Ideal S4x256x1024 .f32) (w : FVec Ideal S1024x256 .f32) (b : FVec Ideal S1x256 .f32) : FVec Ideal S4x256x256 .f32 :=
  addf (Host.dotGeneral dot_S4x256x1024_S1024x256_S4x256x256_2_0_01_1_n_n none h w) (broadcastInDim S4x256x256 ![0, 1, 2] bcast_S1x1x256_S4x256x256_0_1_2 (broadcastInDim S1x1x256 ![1, 2] bcast_S1x256_S1x1x256_1_2 b))
/-- The gates, a row for each direction. -/
def split (G : FVec Ideal S4x256x256 .f32) : FVec Ideal S4x256x2x128 .f32 := shapeCast _ G shapeCasts_S4x256x256_S4x256x2x128
/-- The gates, the direction first. -/
def gates (G : FVec Ideal S4x256x2x128 .f32) : FVec Ideal S2x4x256x128 .f32 := transpose S2x4x256x128 [2, 0, 1, 3] G transposes_S4x256x2x128_S2x4x256x128_2_0_1_3
/-- The first eight gates, as rows. -/
def gatesT (G : FVec Ideal S2x4x256x128 .f32) : FVec Ideal S2x4x8x256 .f32 :=
  transpose S2x4x8x256 [0, 1, 3, 2] (extractStridedSlice S2x4x256x8 ![0, 0, 0, 0] G slices_S2x4x256x128_S2x4x256x8_0_0_0_0) transposes_S2x4x256x8_S2x4x8x256_0_1_3_2

variable (x : FVec Ideal S4x256x1024 .f32) (sh sc : FVec Ideal S4x1x1024 .f32) (g : FVec Ideal S1x1024 .f32)
  (w : FVec Ideal S1024x2048 .f32) (wb : FVec Ideal S1x2048 .f32) (u : FVec Ideal S1024x256 .f32) (ub : FVec Ideal S1x256 .f32) (d : Fin 2) (b : Fin 4) (t : Fin 256)

theorem hid_apply (j : Fin 1024) : hid x sh sc g (ix3 b t j) =
    Layer.norm (fun k => x (ix3 b t k)) (fun k => sh (ix3 b 0 k)) (fun k => sc (ix3 b 0 k)) (fun k => g (ix2 0 k)) j := by
  pointwise [hid, Layer.norm]
theorem lin_apply (h : FVec Ideal S4x256x1024 .f32) (j : Fin 2048) : lin h w wb (ix3 b t j) =
    Layer.lin (fun k => h (ix3 b t k)) (fun k j => w (ix2 k j)) j + wb (ix2 0 j) := by
  pointwise [lin, Layer.lin]
theorem glin_apply (h : FVec Ideal S4x256x1024 .f32) (j : Fin 256) : glin h u ub (ix3 b t j) =
    Layer.lin (fun k => h (ix3 b t k)) (fun k j => u (ix2 k j)) j + ub (ix2 0 j) := by
  pointwise [glin, Layer.lin]
theorem split_apply (G : FVec Ideal S4x256x256 .f32) (j : Fin 128) : split G (ix4 b t d j) = G (ix3 b t ⟨128 * d.val + j.val, by omega⟩) := by
  refine shapeCast_apply _ _ _ (ix3 b t ⟨128 * d.val + j.val, by omega⟩) ?_
  rw [Shape.rowMajor_val_three, Shape.rowMajor_val_four]
  show (b.val * 256 + t.val) * 256 + (128 * d.val + j.val) = ((b.val * 256 + t.val) * 2 + d.val) * 128 + j.val
  omega
theorem gates_apply (G : FVec Ideal S4x256x2x128 .f32) (j : Fin 128) : gates G (ix4 d b t j) = G (ix4 b t d j) := by
  pointwise [gates]
theorem gatesT_apply (G : FVec Ideal S2x4x256x128 .f32) (j : Fin 8) : gatesT G (ix4 d b j t) = G (ix4 d b t ⟨j.val, by omega⟩) := by
  pointwise [gatesT]

/-- The first result: the projection. -/
def out : FVec Ideal S4x256x2048 .f32 := lin (hid x sh sc g) w wb
/-- The second result: the gates. -/
def outG : FVec Ideal S2x4x256x128 .f32 := gates (split (glin (hid x sh sc g) u ub))
/-- The third result: the gates as rows. -/
def outT : FVec Ideal S2x4x8x256 .f32 := gatesT (outG x sh sc g u ub)

/-- The projection of one token. -/
def ref (j : Fin 2048) : EReal :=
  Layer.lin (Layer.norm (fun k => x (ix3 b t k)) (fun k => sh (ix3 b 0 k)) (fun k => sc (ix3 b 0 k)) (fun k => g (ix2 0 k))) (fun k j => w (ix2 k j)) j + wb (ix2 0 j)
/-- The gates of one token. -/
def refG (j : Fin 256) : EReal :=
  Layer.lin (Layer.norm (fun k => x (ix3 b t k)) (fun k => sh (ix3 b 0 k)) (fun k => sc (ix3 b 0 k)) (fun k => g (ix2 0 k))) (fun k j => u (ix2 k j)) j + ub (ix2 0 j)

theorem out_apply (j : Fin 2048) : out x sh sc g w wb (ix3 b t j) = ref x sh sc g w wb b t j := by
  unfold out
  rw [lin_apply]
  simp only [hid_apply]
  rfl
theorem outG_apply (j : Fin 128) : outG x sh sc g u ub (ix4 d b t j) = refG x sh sc g u ub b t ⟨128 * d.val + j.val, by omega⟩ := by
  unfold outG
  rw [gates_apply, split_apply, glin_apply]
  simp only [hid_apply]
  rfl
theorem outT_apply (j : Fin 8) : outT x sh sc g u ub (ix4 d b j t) = refG x sh sc g u ub b t ⟨128 * d.val + j.val, by omega⟩ := by
  unfold outT
  rw [gatesT_apply, outG_apply]
end Cert.Reference11Ideal.Proj
-- ==== Proof.CtxProjArray.lean ====
module
public import proofs.«01_k».proof.Proof.CtxProjBlock
public import proofs.«01_k».proof.Proof.CtxProjRef
public import proofs.«01_k».proof.Proof.Gen.Kernel11Ideal.Value
@[expose] public section
set_option maxRecDepth 16384
noncomputable section

/-! # The context's calls: the arrays the projection leaves

The blocks a grid point reads, entry by entry, and the arrays all grid points leave: the reference's results. -/

namespace Cert.Kernel11Ideal.Proj
open Cert.Kernel11Ideal Cert.Kernel11Ideal.Gen Idealize.ShloMosaic Idealize.ShloMosaic.TcCoe Idealize.SL.Sem
open Idealize.ShloMosaic.Pipeline (Dat)

/-- The blocks' places at a grid point. -/
theorem idx : ∀ t : Fin cfg0.N,
    win0_0.index t = ![t.val, 0, 0] ∧ win0_1.index t = ![t.val, 0, 0] ∧ win0_2.index t = ![t.val, 0, 0] ∧ win0_3.index t = ![0, 0] ∧
    win0_4.index t = ![0, 0] ∧ win0_5.index t = ![0, 0] ∧ win0_6.index t = ![0, 0] ∧ win0_7.index t = ![0, 0] ∧ win0_8.index t = ![t.val, 0, 0] ∧
    win0_9.index t = ![0, t.val, 0, 0] ∧ win0_10.index t = ![0, t.val, 0, 0] :=
  (by decide +kernel : ∀ t : Fin grid0.N, _)

variable (m : (ℓ : Loc nD τ sig) → Buf (Elt Ideal) ℓ) (c : Dev nD)

/-- The call's arguments. -/
abbrev arg0 : FVec Ideal S4x256x1024 .f32 := m (c, Proc.tc.devRef main_arg0)
abbrev arg1 : FVec Ideal S4x1x1024 .f32 := m (c, Proc.tc.devRef main_arg1)
abbrev arg2 : FVec Ideal S4x1x1024 .f32 := m (c, Proc.tc.devRef main_arg2)
abbrev arg3 : FVec Ideal S1x1024 .f32 := m (c, Proc.tc.devRef main_arg3)
abbrev arg4 : FVec Ideal S1024x2048 .f32 := m (c, Proc.tc.devRef main_arg4)
abbrev arg5 : FVec Ideal S1x2048 .f32 := m (c, Proc.tc.devRef main_arg5)
abbrev arg6 : FVec Ideal S1024x256 .f32 := m (c, Proc.tc.devRef main_arg6)
abbrev arg7 : FVec Ideal S1x256 .f32 := m (c, Proc.tc.devRef main_arg7)

theorem V_w (i : Fin 1024) (j : Fin 2048) : V m c main_v0 (ix2 i j) = arg4 m c (ix2 i j) := by
  entry_read
  pointwise

section
variable (t : Fin cfg0.N) (b : Fin 4) (hb : b.val = t.val) (r : Fin 256) (R : Fin 256) (hR : R.val = r.val)
theorem blk_g (j : Fin 1024) : iblk m c 3 t (ix2 0 j) = arg3 m c (ix2 0 j) := by
  rw [arg3, ← V_main_arg3 m c]; blk_ext [iblk, idx t]
theorem blk_w (i : Fin 1024) (j : Fin 2048) : iblk m c 4 t (ix2 i j) = arg4 m c (ix2 i j) := by
  rw [← V_w m c]; blk_ext [iblk, idx t]
theorem blk_wb (j : Fin 2048) : iblk m c 5 t (ix2 0 j) = arg5 m c (ix2 0 j) := by
  rw [arg5, ← V_main_arg5 m c]; blk_ext [iblk, idx t]
theorem blk_u (i : Fin 1024) (j : Fin 256) : iblk m c 6 t (ix2 i j) = arg6 m c (ix2 i j) := by
  rw [arg6, ← V_main_arg6 m c]; blk_ext [iblk, idx t]
theorem blk_ub (j : Fin 256) : iblk m c 7 t (ix2 0 j) = arg7 m c (ix2 0 j) := by
  rw [arg7, ← V_main_arg7 m c]; blk_ext [iblk, idx t]
include hb
theorem blk_sh (j : Fin 1024) : iblk m c 1 t (ix3 0 0 j) = arg1 m c (ix3 b 0 j) := by
  rw [arg1, ← V_main_arg1 m c]; blk_ext [iblk, idx t, hb]
theorem blk_sc (j : Fin 1024) : iblk m c 2 t (ix3 0 0 j) = arg2 m c (ix3 b 0 j) := by
  rw [arg2, ← V_main_arg2 m c]; blk_ext [iblk, idx t, hb]
include hR
theorem blk_x (j : Fin 1024) : iblk m c 0 t (ix3 0 r j) = arg0 m c (ix3 b R j) := by
  rw [arg0, ← V_main_arg0 m c]; blk_ext [iblk, idx t, hb, hR]

theorem tok_eq : tok (iblk m c 0 t) (iblk m c 1 t) (iblk m c 2 t) (iblk m c 3 t) r =
    Layer.norm (fun k => arg0 m c (ix3 b R k)) (fun k => arg1 m c (ix3 b 0 k)) (fun k => arg2 m c (ix3 b 0 k)) (fun k => arg3 m c (ix2 0 k)) := by
  have h0 := funext (blk_x m c t b hb r R hR)
  have h1 := funext (blk_sh m c t b hb)
  have h2 := funext (blk_sc m c t b hb)
  have h3 := funext (blk_g m c t)
  unfold tok
  rw [h0, h1, h2, h3]

/-- What a grid point leaves of a token is the reference's result there. -/
theorem point (j : Fin 2048) :
    out0_8 (F := Ideal) (iblk m c 0 t) (iblk m c 1 t) (iblk m c 2 t) (iblk m c 3 t) (iblk m c 4 t) (iblk m c 5 t) (iblk m c 6 t) (iblk m c 7 t) (ix3 0 r j) =
    Cert.Reference11Ideal.Proj.ref (arg0 m c) (arg1 m c) (arg2 m c) (arg3 m c) (arg4 m c) (arg5 m c) b R j := by
  refine (body _ _ _ _ _ _ _ _ r j).trans ?_
  have h4 := funext fun i => funext (blk_w m c t i)
  rw [tok_eq m c t b hb r R hR, h4, blk_wb m c t]
  rfl
theorem gts_eq (j : Fin 256) : gts (iblk m c 0 t) (iblk m c 1 t) (iblk m c 2 t) (iblk m c 3 t) (iblk m c 6 t) (iblk m c 7 t) r j =
    Cert.Reference11Ideal.Proj.refG (arg0 m c) (arg1 m c) (arg2 m c) (arg3 m c) (arg6 m c) (arg7 m c) b R j := by
  have h4 := funext fun i => funext (blk_u m c t i)
  unfold gts
  rw [tok_eq m c t b hb r R hR, h4, blk_ub m c t]
  rfl
end

/-- The reference's results on the call's arguments. -/
abbrev res : FVec Ideal S4x256x2048 .f32 :=
  Cert.Reference11Ideal.Proj.out (arg0 m c) (arg1 m c) (arg2 m c) (arg3 m c) (arg4 m c) (arg5 m c)
abbrev resG : FVec Ideal S2x4x256x128 .f32 :=
  Cert.Reference11Ideal.Proj.outG (arg0 m c) (arg1 m c) (arg2 m c) (arg3 m c) (arg6 m c) (arg7 m c)
abbrev resT : FVec Ideal S2x4x8x256 .f32 :=
  Cert.Reference11Ideal.Proj.outT (arg0 m c) (arg1 m c) (arg2 m c) (arg3 m c) (arg6 m c) (arg7 m c)

theorem arr : (dats m 0 c).arrAt 8 cfg0.N = res m c := by
  refine (dats m 0 c).arrAt_eq_of_covers 8 _ (by decide +kernel) fun t hf y => ?_
  blk_simp
  rw [after0_8]
  have ht : t.val < 4 := lt_of_lt_of_eq t.isLt N_0
  have hr : (y 1).val < 256 := (y 1).isLt
  have hy : y = (ix3 0 (show Fin 256 from y 1) (show Fin 2048 from y 2) : S1x256x2048.Idx) := by
    blk_ext
  have he : ((win0_8.blk t).view.emb y : S4x256x2048.Idx) = ix3 ⟨t.val, by omega⟩ ⟨(y 1).val, by omega⟩ (show Fin 2048 from y 2) := by
    blk_ext [idx t]
  refine Eq.trans ?_ (congrArg (res m c) he).symm
  refine (congrArg _ hy).trans ((point m c t ⟨t.val, by omega⟩ rfl (show Fin 256 from y 1) ⟨(y 1).val, by omega⟩ rfl _).trans ?_)
  exact (Cert.Reference11Ideal.Proj.out_apply _ _ _ _ _ _ _ _ _).symm

theorem arrG : (dats m 0 c).arrAt 9 cfg0.N = resG m c := by
  refine (dats m 0 c).arrAt_eq_of_covers 9 _ (by decide +kernel) fun t hf y => ?_
  blk_simp
  rw [after0_9]
  have ht : t.val < 4 := lt_of_lt_of_eq t.isLt N_0
  have hr : (y 2).val < 256 := (y 2).isLt
  have hy : y = (ix4 (show Fin 2 from y 0) 0 (show Fin 256 from y 2) (show Fin 128 from y 3) : S2x1x256x128.Idx) := by
    blk_ext
  have he : ((win0_9.blk t).view.emb y : S2x4x256x128.Idx) = ix4 (show Fin 2 from y 0) ⟨t.val, by omega⟩ ⟨(y 2).val, by omega⟩ (show Fin 128 from y 3) := by
    blk_ext [idx t]
  refine Eq.trans ?_ (congrArg (resG m c) he).symm
  refine (congrArg _ hy).trans ((bodyG _ _ _ _ _ _ _ _ _ _ _).trans
    ((gts_eq m c t ⟨t.val, by omega⟩ rfl (show Fin 256 from y 2) ⟨(y 2).val, by omega⟩ rfl _).trans ?_))
  exact (Cert.Reference11Ideal.Proj.outG_apply _ _ _ _ _ _ _ _ _ _).symm

theorem arrT : (dats m 0 c).arrAt 10 cfg0.N = resT m c := by
  refine (dats m 0 c).arrAt_eq_of_covers 10 _ (by decide +kernel) fun t hf y => ?_
  blk_simp
  rw [after0_10]
  have ht : t.val < 4 := lt_of_lt_of_eq t.isLt N_0
  have hr : (y 3).val < 256 := (y 3).isLt
  have hy : y = (ix4 (show Fin 2 from y 0) 0 (show Fin 8 from y 2) (show Fin 256 from y 3) : S2x1x8x256.Idx) := by
    blk_ext
  have he : ((win0_10.blk t).view.emb y : S2x4x8x256.Idx) = ix4 (show Fin 2 from y 0) ⟨t.val, by omega⟩ (show Fin 8 from y 2) ⟨(y 3).val, by omega⟩ := by
    blk_ext [idx t]
  refine Eq.trans ?_ (congrArg (resT m c) he).symm
  refine (congrArg _ hy).trans ((bodyT _ _ _ _ _ _ _ _ _ _ _).trans
    ((gts_eq m c t ⟨t.val, by omega⟩ rfl (show Fin 256 from y 3) ⟨(y 3).val, by omega⟩ rfl _).trans ?_))
  exact (Cert.Reference11Ideal.Proj.outT_apply _ _ _ _ _ _ _ _ _ _).symm
end Cert.Kernel11Ideal.Proj
-- ==== Proof.CtxGateBlock.lean ====
module
public import proofs.«01_k».proof.Proof.Layer
public import proofs.«01_k».proof.Proof.Gen.Kernel12Ideal.Frame
public import Idealize.ShloMosaic.Lib.Pipeline.ValueKit
@[expose] public section
set_option maxRecDepth 16384
noncomputable section

/-! # The context's calls: the gating projection on one block of 256 tokens -/

namespace Cert.Kernel12Ideal.Gate
open Cert.Kernel12Ideal Cert.Kernel12Ideal.Gen Idealize.ShloMosaic Idealize.ShloMosaic.TcCoe Idealize.SL.Sem
open Cert.Layer (Row Tab)

/-- An index from its coordinates. -/
theorem ix3_of {n0 n1 n2 : ℕ} (x : (⟨3, ![n0, n1, n2]⟩ : Shape).Idx) (a : Fin n0) (b : Fin n1) (c : Fin n2) (h0 : x 0 = a) (h1 : x 1 = b) (h2 : x 2 = c) : x = ix3 a b c := by
  subst h0 h1 h2
  exact ValueIdx.eq_ix3 x

section
variable (u : FVec Ideal S256x512 .f32) (v : FVec Ideal S256x512 .bf16) (w : FVec Ideal S4x128x128 .bf16) (sb : FVec Ideal S128x4 .f32)

/-- What is stored of chunk `a` and group `q`. -/
def cell (a : Fin 2) (q : Fin 4) (i e : Fin 128) : EReal :=
  u (ix2 ⟨a.val * 128 + i.val, by omega⟩ ⟨q.val * 128 + e.val, by omega⟩) *
    ((∑ k : Fin 128, w (ix3 q i k) * v (ix2 ⟨a.val * 128 + k.val, by omega⟩ ⟨q.val * 128 + e.val, by omega⟩)) + sb (ix2 i q))

variable (i e : Fin 128)
theorem cell00 : k0_pay12 (F := Ideal) u (k0_pay10 (F := Ideal) (View.ld w r0_5)) (extractStridedSlice S128x128 ![0, 0] v slices_S256x512_o0_0_S128x128) (View.ld sb r0_6) (ix3 0 i e) = cell u v w sb 0 0 i e := by
  pointwise [k0_pay12, k0_pay10, cell]
theorem cell01 : k0_pay13 (F := Ideal) u v (View.ld w r0_8) (View.ld sb r0_9) (ix3 0 i e) = cell u v w sb 0 1 i e := by
  pointwise [k0_pay13, cell]
theorem cell02 : k0_pay15 (F := Ideal) (k0_pay14 (F := Ideal) u v (View.ld w r0_11) (View.ld sb r0_12)) (ix3 0 i e) = cell u v w sb 0 2 i e := by
  pointwise [k0_pay15, k0_pay14, cell]
theorem cell03 : k0_pay16 (F := Ideal) u v (View.ld w r0_14) (View.ld sb r0_15) (ix3 0 i e) = cell u v w sb 0 3 i e := by
  pointwise [k0_pay16, cell]
theorem cell10 : k0_pay17 (F := Ideal) u v (View.ld w r0_5) (View.ld sb r0_6) (ix3 0 i e) = cell u v w sb 1 0 i e := by
  pointwise [k0_pay17, cell]
theorem cell11 : k0_pay19 (F := Ideal) u (k0_pay18 (F := Ideal) v (View.ld w r0_8)) (View.ld sb r0_9) (ix3 0 i e) = cell u v w sb 1 1 i e := by
  pointwise [k0_pay19, k0_pay18, cell]
theorem cell12 : k0_pay20 (F := Ideal) u v (View.ld w r0_11) (View.ld sb r0_12) (ix3 0 i e) = cell u v w sb 1 2 i e := by
  pointwise [k0_pay20, cell]
theorem cell13 : k0_pay21 (F := Ideal) u v (View.ld w r0_14) (View.ld sb r0_15) (ix3 0 i e) = cell u v w sb 1 3 i e := by
  pointwise [k0_pay21, cell]

/-- A piece read at its own index. -/
theorem close (f : FVec Ideal S1x128x128 .f32) (a : Fin 2) (q : Fin 4) (hf : ∀ i e, f (ix3 0 i e) = cell u v w sb a q i e) (r : Fin 256) (j : Fin 512) (x : S1x128x128.Idx)
    (h1 : r.val = a.val * 128 + (x 1).val) (h2 : j.val = q.val * 128 + (x 2).val) :
    f x = cell u v w sb ⟨r.val / 128, by omega⟩ ⟨j.val / 128, by omega⟩ ⟨r.val % 128, by omega⟩ ⟨j.val % 128, by omega⟩ := by
  have x1 : (x 1).val < 128 := (x 1).isLt
  have x2 : (x 2).val < 128 := (x 2).isLt
  have a0 : x 0 = (0 : Fin 1) := Subsingleton.elim (α := Fin 1) _ _
  have a1 : x 1 = (⟨r.val % 128, by omega⟩ : Fin 128) := Fin.ext (by show (x 1).val = r.val % 128; omega)
  have a2 : x 2 = (⟨j.val % 128, by omega⟩ : Fin 128) := Fin.ext (by show (x 2).val = j.val % 128; omega)
  have ea : a = ⟨r.val / 128, by omega⟩ := Fin.ext (by show a.val = r.val / 128; omega)
  have eq : q = ⟨j.val / 128, by omega⟩ := Fin.ext (by show q.val = j.val / 128; omega)
  have hx : x = (ix3 0 ⟨r.val % 128, by omega⟩ ⟨j.val % 128, by omega⟩ : S1x128x128.Idx) := by
    exact ix3_of x _ _ _ a0 a1 a2
  refine (congrArg f hx).trans ((hf _ _).trans ?_)
  rw [← ea, ← eq]
end

section
variable (z : FVec Ideal S256x512 .bf16) (d : FVec Ideal S128x128 .bf16) (r : Fin 256) (e : Fin 128)

/-- The transformed channels of group `q`. -/
def zcell (q : Fin 4) (r : Fin 256) (e : Fin 128) : EReal := Layer.lin (fun k : Fin 128 => z (ix2 r ⟨q.val * 128 + k.val, by omega⟩)) (fun k j => d (ix2 k j)) e
theorem c0 : k0_pay23 (F := Ideal) z d (ix3 0 r e) = zcell z d 0 r e := by
  pointwise [k0_pay23, zcell, Layer.lin]
theorem s0 : k0_pay24 (F := Ideal) z d (ix3 0 r e) = zcell z d 0 r e := by
  pointwise [k0_pay24, zcell, Layer.lin]
theorem c1 : k0_pay25 (F := Ideal) z d (ix3 0 r e) = zcell z d 1 r e := by
  pointwise [k0_pay25, zcell, Layer.lin]
theorem s1 : k0_pay26 (F := Ideal) z d (ix3 0 r e) = zcell z d 1 r e := by
  pointwise [k0_pay26, zcell, Layer.lin]
theorem c2 : k0_pay1 (F := Ideal) (k0_pay27 (F := Ideal) z) d (ix3 0 r e) = zcell z d 2 r e := by
  pointwise [k0_pay1, k0_pay27, zcell, Layer.lin]
theorem s2 : k0_pay2 (F := Ideal) z d (ix3 0 r e) = zcell z d 2 r e := by
  pointwise [k0_pay2, zcell, Layer.lin]
theorem c3 : k0_pay3 (F := Ideal) z d (ix3 0 r e) = zcell z d 3 r e := by
  pointwise [k0_pay3, zcell, Layer.lin]
theorem s3 : k0_pay4 (F := Ideal) z d (ix3 0 r e) = zcell z d 3 r e := by
  pointwise [k0_pay4, zcell, Layer.lin]

/-- A piece read at its own index. -/
theorem zclose (f : FVec Ideal S1x256x128 .f32) (q : Fin 4) (hf : ∀ r e, f (ix3 0 r e) = zcell z d q r e) (r : Fin 256) (j : Fin 512) (x : S1x256x128.Idx)
    (h1 : r.val = (x 1).val) (h2 : j.val = q.val * 128 + (x 2).val) : f x = zcell z d ⟨j.val / 128, by omega⟩ r ⟨j.val % 128, by omega⟩ := by
  have x2 : (x 2).val < 128 := (x 2).isLt
  have a0 : x 0 = (0 : Fin 1) := Subsingleton.elim (α := Fin 1) _ _
  have a1 : x 1 = r := Fin.ext h1.symm
  have a2 : x 2 = (⟨j.val % 128, by omega⟩ : Fin 128) := Fin.ext (by show (x 2).val = j.val % 128; omega)
  have eq : q = ⟨j.val / 128, by omega⟩ := Fin.ext (by show q.val = j.val / 128; omega)
  have hx : x = (ix3 0 r ⟨j.val % 128, by omega⟩ : S1x256x128.Idx) := by
    exact ix3_of x _ _ _ a0 a1 a2
  refine (congrArg f hx).trans ((hf _ _).trans ?_)
  rw [← eq]
end

variable (x : FVec Ideal S1x256x1024 .f32) (sh sc : FVec Ideal S1x1x1024 .f32) (g : FVec Ideal S1x1024 .f32) (w : FVec Ideal S1024x1536 .bf16) (wb : FVec Ideal S1x1536 .f32)
  (sw : FVec Ideal S4x128x128 .bf16) (sb : FVec Ideal S128x4 .f32) (d d' : FVec Ideal S128x128 .bf16) (r : Fin 256)

/-- The projection of a token of the block. -/
abbrev tok (j : Fin 1536) : EReal :=
  Layer.lin (Layer.norm (fun k => x (ix3 0 r k)) (fun k => sh (ix3 0 0 k)) (fun k => sc (ix3 0 0 k)) (fun k => g (ix2 0 k))) (fun k j => w (ix2 k j)) j + wb (ix2 0 j)

theorem pre_apply (j : Fin 1536) : k0_pay5 (F := Ideal) x g sh sc w wb (ix2 r j) = tok x sh sc g w wb r j := by
  pointwise [k0_pay5, tok, Layer.norm, Layer.lin]
theorem u_apply (j : Fin 512) : k0_pay8 (F := Ideal) (k0_pay6 (F := Ideal) x g sh sc w wb) (k0_pay7 (F := Ideal) x g sh sc w wb) (ix2 r j) =
    Layer.gelu (tok x sh sc g w wb r ⟨j.val, by omega⟩) := by
  pointwise [k0_pay8, k0_pay6, k0_pay7, pre_apply, Layer.gelu]
  simp only [mul_assoc]
theorem v_apply (P : FVec Ideal S256x1536 .f32) (j : Fin 512) : k0_pay9 (F := Ideal) P (ix2 r j) = Layer.ln512 (fun k => Layer.gelu (P (ix2 r ⟨512 + k.val, by omega⟩))) j := by
  pointwise [k0_pay9, Layer.ln512, Layer.mean512, Layer.gelu]
  simp only [mul_assoc]
theorem z_apply (P : FVec Ideal S256x1536 .f32) (j : Fin 512) : k0_pay22 (F := Ideal) P (ix2 r j) = P (ix2 r ⟨1024 + j.val, by omega⟩) := by
  pointwise [k0_pay22]

theorem body (j : Fin 512) : out0_10 (F := Ideal) x sh sc g w wb sw sb d d' (ix3 0 r j) =
   cell (k0_pay8 (F := Ideal) (k0_pay6 (F := Ideal) x g sh sc w wb) (k0_pay7 (F := Ideal) x g sh sc w wb)) (k0_pay9 (F := Ideal) (k0_pay5 (F := Ideal) x g sh sc w wb)) sw sb ⟨r.val / 128, by omega⟩ ⟨j.val / 128, by omega⟩ ⟨r.val % 128, by omega⟩ ⟨j.val % 128, by omega⟩ := by
  unfold_out out0_10
  frame_out
  canon_tiles i h
  · exact close _ _ sw sb _ 1 3 (cell13 _ _ sw sb) r j i (show r.val = 128 + (i 1).val from h1) (show j.val = 384 + (i 2).val from h2)
  · exact close _ _ sw sb _ 1 2 (cell12 _ _ sw sb) r j i (show r.val = 128 + (i 1).val from h1) (show j.val = 256 + (i 2).val from h2)
  · exact close _ _ sw sb _ 1 1 (cell11 _ _ sw sb) r j i (show r.val = 128 + (i 1).val from h1) (show j.val = 128 + (i 2).val from h2)
  · exact close _ _ sw sb _ 1 0 (cell10 _ _ sw sb) r j i (show r.val = 128 + (i 1).val from h1) (show j.val = 0 * 128 + (i 2).val from (show j.val = (i 2).val from h2).trans (Nat.zero_add _).symm)
  · exact close _ _ sw sb _ 0 3 (cell03 _ _ sw sb) r j i (show r.val = 0 * 128 + (i 1).val from (show r.val = (i 1).val from h1).trans (Nat.zero_add _).symm) (show j.val = 384 + (i 2).val from h2)
  · exact close _ _ sw sb _ 0 2 (cell02 _ _ sw sb) r j i (show r.val = 0 * 128 + (i 1).val from (show r.val = (i 1).val from h1).trans (Nat.zero_add _).symm) (show j.val = 256 + (i 2).val from h2)
  · exact close _ _ sw sb _ 0 1 (cell01 _ _ sw sb) r j i (show r.val = 0 * 128 + (i 1).val from (show r.val = (i 1).val from h1).trans (Nat.zero_add _).symm) (show j.val = 128 + (i 2).val from h2)
  · exact close _ _ sw sb _ 0 0 (cell00 _ _ sw sb) r j i (show r.val = 0 * 128 + (i 1).val from (show r.val = (i 1).val from h1).trans (Nat.zero_add _).symm) (show j.val = 0 * 128 + (i 2).val from (show j.val = (i 2).val from h2).trans (Nat.zero_add _).symm)
theorem bodyC (j : Fin 512) : out0_11 (F := Ideal) x sh sc g w wb sw sb d d' (ix3 0 r j) =
    zcell (k0_pay22 (F := Ideal) (k0_pay5 (F := Ideal) x g sh sc w wb)) d ⟨j.val / 128, by omega⟩ r ⟨j.val % 128, by omega⟩ := by
  unfold_out out0_11
  frame_out
  canon_tiles i h
  · exact zclose _ d _ 3 (c3 _ d) r j i h1 (show j.val = 384 + (i 2).val from h2)
  · exact zclose _ d _ 2 (c2 _ d) r j i h1 (show j.val = 256 + (i 2).val from h2)
  · exact zclose _ d _ 1 (c1 _ d) r j i h1 (show j.val = 128 + (i 2).val from h2)
  · exact zclose _ d _ 0 (c0 _ d) r j i h1 (show j.val = 0 * 128 + (i 2).val from (show j.val = (i 2).val from h2).trans (Nat.zero_add _).symm)
theorem bodyS (j : Fin 512) : out0_12 (F := Ideal) x sh sc g w wb sw sb d d' (ix3 0 r j) =
    zcell (k0_pay22 (F := Ideal) (k0_pay5 (F := Ideal) x g sh sc w wb)) d' ⟨j.val / 128, by omega⟩ r ⟨j.val % 128, by omega⟩ := by
  unfold_out out0_12
  frame_out
  canon_tiles i h
  · exact zclose _ d' _ 3 (s3 _ d') r j i h1 (show j.val = 384 + (i 2).val from h2)
  · exact zclose _ d' _ 2 (s2 _ d') r j i h1 (show j.val = 256 + (i 2).val from h2)
  · exact zclose _ d' _ 1 (s1 _ d') r j i h1 (show j.val = 128 + (i 2).val from h2)
  · exact zclose _ d' _ 0 (s0 _ d') r j i h1 (show j.val = 0 * 128 + (i 2).val from (show j.val = (i 2).val from h2).trans (Nat.zero_add _).symm)
end Cert.Kernel12Ideal.Gate
-- ==== Proof.CtxGateRef.lean ====
module
public import proofs.«01_k».proof.Proof.Layer
public import proofs.«01_k».proof.Proof.Gen.Reference12Ideal.Run
@[expose] public section
set_option maxRecDepth 16384
noncomputable section

/-! # The context's calls: the gating projection's reference, entry by entry -/

namespace Cert.Reference12Ideal.Gate
open Cert.Reference12Ideal Cert.Reference12Ideal.Gen Idealize.ShloMosaic Idealize.ShloMosaic.TcCoe Idealize.SL.Sem
open Cert.Layer (Row Tab)

/-- The normalized and modulated input. -/
def hid (x : FVec Ideal S4x256x1024 .f32) (sh sc : FVec Ideal S4x1x1024 .f32) (g : FVec Ideal S1x1024 .f32) : FVec Ideal S4x256x1024 .f32 :=
  addf (mulf (mulf (mulf x (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf x x) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![1, 2] bcast_S1x1024_S1x1x1024_1_2 g))) (broadcastInDim S4x256x1024 ![0, 1, 2] bcast_S4x1x1024_S4x256x1024_0_1_2 (addf (broadcastInDim S4x1x1024 ![] bcast_S_S4x1x1024 (constant S_ .f32 0x3F800000#32)) sc))) (broadcastInDim S4x256x1024 ![0, 1, 2] bcast_S4x1x1024_S4x256x1024_0_1_2 sh)
/-- The projection. -/
def lin (h : FVec Ideal S4x256x1024 .f32) (w : FVec Ideal S1024x1536 .f32) (b : FVec Ideal S1x1536 .f32) : FVec Ideal S4x256x1536 .f32 :=
  addf (Host.dotGeneral dot_S4x256x1024_S1024x1536_S4x256x1536_2_0_01_1_n_n none h w) (broadcastInDim S4x256x1536 ![0, 1, 2] bcast_S1x1x1536_S4x256x1536_0_1_2 (broadcastInDim S1x1x1536 ![1, 2] bcast_S1x1536_S1x1x1536_1_2 b))
/-- The rectifier. -/
def gelu (z : FVec Ideal S4x256x512 .f32) : FVec Ideal S4x256x512 .f32 :=
  mulf z (mulf (broadcastInDim S4x256x512 ![] bcast_S_S4x256x512 (constant S_ .f32 0x3F000000#32)) (addf (broadcastInDim S4x256x512 ![] bcast_S_S4x256x512 (constant S_ .f32 0x3F800000#32)) (Host.tanh (mulf (broadcastInDim S4x256x512 ![] bcast_S_S4x256x512 (constant S_ .f32 0x3F4C422A#32)) (addf z (mulf (broadcastInDim S4x256x512 ![] bcast_S_S4x256x512 (constant S_ .f32 0x3D372713#32)) (mulf (mulf z z) z)))))))
/-- The columns that are gated. -/
def colU (P : FVec Ideal S4x256x1536 .f32) : FVec Ideal S4x256x512 .f32 := extractStridedSlice S4x256x512 ![0, 0, 0] P slices_S4x256x1536_S4x256x512_0_0_0
/-- The columns the gate is made of. -/
def colV (P : FVec Ideal S4x256x1536 .f32) : FVec Ideal S4x256x512 .f32 := extractStridedSlice S4x256x512 ![0, 0, 512] P slices_S4x256x1536_S4x256x512_0_0_512
/-- The columns whose channels are transformed. -/
def colZ (P : FVec Ideal S4x256x1536 .f32) : FVec Ideal S4x256x512 .f32 := extractStridedSlice S4x256x512 ![0, 0, 1024] P slices_S4x256x1536_S4x256x512_0_0_1024
/-- The rows' means. -/
def mean (z : FVec Ideal S4x256x512 .f32) : FVec Ideal S4x256x1 .f32 :=
  Host.divf (broadcastInDim S4x256x1 ![0, 1] bcast_S4x256_S4x256x1_0_1 (Host.reduceAdd z (constant S_ .f32 0x00000000#32) reducesTo_S4x256x512_S4x256_d2 h_S_)) (broadcastInDim S4x256x1 ![] bcast_S_S4x256x1 (constant S_ .f32 0x44000000#32))
/-- The rows less their means. -/
def cen (z : FVec Ideal S4x256x512 .f32) : FVec Ideal S4x256x512 .f32 :=
  subf z (broadcastInDim S4x256x512 ![0, 1, 2] bcast_S4x256x1_S4x256x512_0_1_2 (mean z))
/-- The rows' layer normalization. -/
def ln (z : FVec Ideal S4x256x512 .f32) : FVec Ideal S4x256x512 .f32 :=
  mulf (cen z) (broadcastInDim S4x256x512 ![0, 1, 2] bcast_S4x256x1_S4x256x512_0_1_2 (Host.rsqrt (addf (mean (mulf (cen z) (cen z))) (broadcastInDim S4x256x1 ![] bcast_S_S4x256x1 (constant S_ .f32 0x358637BD#32)))))
/-- The tokens cut into chunks and the channels into groups. -/
def cut (z : FVec Ideal S4x256x512 .f32) : FVec Ideal S4x2x128x4x128 .f32 := shapeCast _ z shapeCasts_S4x256x512_S4x2x128x4x128
/-- The chunks' tokens mixed. -/
def mix (z : FVec Ideal S4x2x128x4x128 .f32) (w : FVec Ideal S4x128x128 .f32) (sb : FVec Ideal S4x128 .f32) : FVec Ideal S4x2x128x4x128 .f32 :=
  addf (transpose S4x2x128x4x128 [1, 2, 4, 0, 3] (Host.dotGeneral dot_S4x2x128x4x128_S4x128x128_S4x4x2x128x128_2_2_014_1_3_0 none z w) transposes_S4x4x2x128x128_S4x2x128x4x128_1_2_4_0_3) (broadcastInDim S4x2x128x4x128 ![0, 1, 2, 3, 4] bcast_S1x1x128x4x1_S4x2x128x4x128_0_1_2_3_4 (broadcastInDim S1x1x128x4x1 ![2, 3] bcast_S128x4_S1x1x128x4x1_2_3 (transpose S128x4 [1, 0] sb transposes_S4x128_S128x4_1_0)))
/-- The chunks set side by side again. -/
def join (z : FVec Ideal S4x2x128x4x128 .f32) : FVec Ideal S4x256x512 .f32 := shapeCast _ z shapeCasts_S4x2x128x4x128_S4x256x512
/-- The channels of each group transformed. -/
def chan (z : FVec Ideal S4x256x512 .f32) (w : FVec Ideal S128x128 .f32) : FVec Ideal S4x256x512 .f32 :=
  shapeCast _ (Host.dotGeneral dot_S4x256x4x128_S128x128_S4x256x4x128_3_0_012_1_n_n none (shapeCast _ z shapeCasts_S4x256x512_S4x256x4x128) w) shapeCasts_S4x256x4x128_S4x256x512

variable (x : FVec Ideal S4x256x1024 .f32) (sh sc : FVec Ideal S4x1x1024 .f32) (g : FVec Ideal S1x1024 .f32)
  (w : FVec Ideal S1024x1536 .f32) (wb : FVec Ideal S1x1536 .f32) (sw : FVec Ideal S4x128x128 .f32) (sb : FVec Ideal S4x128 .f32) (d : FVec Ideal S128x128 .f32)
  (b : Fin 4) (t : Fin 256) (n : Fin 2) (q : Fin 4) (i e : Fin 128)

theorem hid_apply (j : Fin 1024) : hid x sh sc g (ix3 b t j) =
    Layer.norm (fun k => x (ix3 b t k)) (fun k => sh (ix3 b 0 k)) (fun k => sc (ix3 b 0 k)) (fun k => g (ix2 0 k)) j := by
  pointwise [hid, Layer.norm]
theorem lin_apply (h : FVec Ideal S4x256x1024 .f32) (j : Fin 1536) : lin h w wb (ix3 b t j) =
    Layer.lin (fun k => h (ix3 b t k)) (fun k j => w (ix2 k j)) j + wb (ix2 0 j) := by
  pointwise [lin, Layer.lin]
theorem gelu_apply (z : FVec Ideal S4x256x512 .f32) (j : Fin 512) : gelu z (ix3 b t j) = Layer.gelu (z (ix3 b t j)) := by
  pointwise [gelu, Layer.gelu]
theorem colU_apply (P : FVec Ideal S4x256x1536 .f32) (j : Fin 512) : colU P (ix3 b t j) = P (ix3 b t ⟨j.val, by omega⟩) := by
  pointwise [colU]
theorem colV_apply (P : FVec Ideal S4x256x1536 .f32) (j : Fin 512) : colV P (ix3 b t j) = P (ix3 b t ⟨512 + j.val, by omega⟩) := by
  pointwise [colV]
theorem colZ_apply (P : FVec Ideal S4x256x1536 .f32) (j : Fin 512) : colZ P (ix3 b t j) = P (ix3 b t ⟨1024 + j.val, by omega⟩) := by
  pointwise [colZ]
theorem mean_apply (z : FVec Ideal S4x256x512 .f32) : mean z (ix3 b t 0) = Layer.mean512 (fun k => z (ix3 b t k)) := by
  pointwise [mean, Layer.mean512]
theorem cen_apply (z : FVec Ideal S4x256x512 .f32) (j : Fin 512) : cen z (ix3 b t j) = z (ix3 b t j) - Layer.mean512 (fun k => z (ix3 b t k)) := by
  pointwise [cen, mean_apply]
theorem ln_apply (z : FVec Ideal S4x256x512 .f32) (j : Fin 512) : ln z (ix3 b t j) = Layer.ln512 (fun k => z (ix3 b t k)) j := by
  pointwise [ln, mean_apply, cen_apply, Layer.ln512]
theorem cut_apply (z : FVec Ideal S4x256x512 .f32) : cut z (ix5 b n i q e) = z (ix3 b ⟨n.val * 128 + i.val, by omega⟩ ⟨q.val * 128 + e.val, by omega⟩) := by
  pointwise [cut]
theorem mix_apply (z : FVec Ideal S4x2x128x4x128 .f32) : mix z sw sb (ix5 b n i q e) = (∑ k, sw (ix3 q i k) * z (ix5 b n k q e)) + sb (ix2 q i) := by
  pointwise [mix]
  exact congrArg (· + _) (Finset.sum_congr rfl fun k _ => mul_comm _ _)
theorem join_apply (z : FVec Ideal S4x2x128x4x128 .f32) :
    join z (ix3 b ⟨n.val * 128 + i.val, by omega⟩ ⟨q.val * 128 + e.val, by omega⟩) = z (ix5 b n i q e) := by
  pointwise [join]
theorem chan_apply (z : FVec Ideal S4x256x512 .f32) :
    chan z d (ix3 b t ⟨q.val * 128 + e.val, by omega⟩) = Layer.lin (fun k => z (ix3 b t ⟨q.val * 128 + k.val, by omega⟩)) (fun k j => d (ix2 k j)) e := by
  pointwise [chan, Layer.lin]

/-- The projected input. -/
def pre : FVec Ideal S4x256x1536 .f32 := lin (hid x sh sc g) w wb
/-- The first result: the gated columns. -/
def out : FVec Ideal S4x256x512 .f32 :=
  mulf (gelu (colU (pre x sh sc g w wb))) (join (mix (cut (ln (gelu (colV (pre x sh sc g w wb))))) sw sb))
/-- The other results: the transformed channels. -/
def outZ : FVec Ideal S4x256x512 .f32 := chan (colZ (pre x sh sc g w wb)) d

/-- The projection of one token. -/
def ref (j : Fin 1536) : EReal :=
  Layer.lin (Layer.norm (fun k => x (ix3 b t k)) (fun k => sh (ix3 b 0 k)) (fun k => sc (ix3 b 0 k)) (fun k => g (ix2 0 k))) (fun k j => w (ix2 k j)) j + wb (ix2 0 j)

theorem pre_apply (j : Fin 1536) : pre x sh sc g w wb (ix3 b t j) = ref x sh sc g w wb b t j := by
  unfold pre
  rw [lin_apply]
  simp only [hid_apply]
  rfl

theorem out_apply : out x sh sc g w wb sw sb (ix3 b ⟨n.val * 128 + i.val, by omega⟩ ⟨q.val * 128 + e.val, by omega⟩) =
    Layer.sgu (fun k j => ref x sh sc g w wb b ⟨n.val * 128 + k.val, by omega⟩ ⟨j.val, by omega⟩) (fun k j => ref x sh sc g w wb b ⟨n.val * 128 + k.val, by omega⟩ ⟨512 + j.val, by omega⟩)
      (fun i k => sw (ix3 q i k)) (fun i => sb (ix2 q i)) q i e := by
  refine Eq.trans (b := gelu (colU (pre x sh sc g w wb)) (ix3 b ⟨n.val * 128 + i.val, by omega⟩ ⟨q.val * 128 + e.val, by omega⟩) *
    join (mix (cut (ln (gelu (colV (pre x sh sc g w wb))))) sw sb) (ix3 b ⟨n.val * 128 + i.val, by omega⟩ ⟨q.val * 128 + e.val, by omega⟩)) rfl ?_
  rw [join_apply, mix_apply, gelu_apply, colU_apply, pre_apply]
  simp only [cut_apply, ln_apply, gelu_apply, colV_apply, pre_apply]
  rfl
theorem outZ_apply : outZ x sh sc g w wb d (ix3 b t ⟨q.val * 128 + e.val, by omega⟩) =
    Layer.lin (fun k : Fin 128 => ref x sh sc g w wb b t ⟨1024 + (q.val * 128 + k.val), by omega⟩) (fun k j => d (ix2 k j)) e := by
  unfold outZ
  rw [chan_apply]
  simp only [colZ_apply, pre_apply]

/-- The call's first result, read off its run. -/
theorem res_eq (m : (ℓ : Loc nD τ sig) → Buf (Elt Ideal) ℓ) (c : Dev nD) :
    Value.res_main_v79 m c = out (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) := by
  unfold Value.res_main_v79
  rfl
end Cert.Reference12Ideal.Gate
-- ==== Proof.CtxGateArray.lean ====
module
public import proofs.«01_k».proof.Proof.CtxGateBlock
public import proofs.«01_k».proof.Proof.CtxGateRef
public import proofs.«01_k».proof.Proof.Gen.Kernel12Ideal.Value
@[expose] public section
set_option maxRecDepth 16384
noncomputable section

/-! # The context's calls: the arrays the gating projection leaves

The blocks a grid point reads, entry by entry, and the arrays all grid points leave: the reference's results. -/

namespace Cert.Kernel12Ideal.Gate
open Cert.Kernel12Ideal Cert.Kernel12Ideal.Gen Idealize.ShloMosaic Idealize.ShloMosaic.TcCoe Idealize.SL.Sem
open Idealize.ShloMosaic.Pipeline (Dat)

/-- The blocks' places at a grid point. -/
theorem idx : ∀ t : Fin cfg0.N,
    win0_0.index t = ![t.val, 0, 0] ∧ win0_1.index t = ![t.val, 0, 0] ∧ win0_2.index t = ![t.val, 0, 0] ∧ win0_3.index t = ![0, 0] ∧
    win0_4.index t = ![0, 0] ∧ win0_5.index t = ![0, 0] ∧ win0_6.index t = ![0, 0, 0] ∧ win0_7.index t = ![0, 0] ∧ win0_8.index t = ![0, 0] ∧ win0_9.index t = ![0, 0] ∧
    win0_10.index t = ![t.val, 0, 0] ∧ win0_11.index t = ![t.val, 0, 0] ∧ win0_12.index t = ![t.val, 0, 0] :=
  (by decide +kernel : ∀ t : Fin grid0.N, _)

variable (m : (ℓ : Loc nD τ sig) → Buf (Elt Ideal) ℓ) (c : Dev nD)

/-- The call's arguments. -/
abbrev arg0 : FVec Ideal S4x256x1024 .f32 := m (c, Proc.tc.devRef main_arg0)
abbrev arg1 : FVec Ideal S4x1x1024 .f32 := m (c, Proc.tc.devRef main_arg1)
abbrev arg2 : FVec Ideal S4x1x1024 .f32 := m (c, Proc.tc.devRef main_arg2)
abbrev arg3 : FVec Ideal S1x1024 .f32 := m (c, Proc.tc.devRef main_arg3)
abbrev arg4 : FVec Ideal S1024x1536 .f32 := m (c, Proc.tc.devRef main_arg4)
abbrev arg5 : FVec Ideal S1x1536 .f32 := m (c, Proc.tc.devRef main_arg5)
abbrev arg6 : FVec Ideal S4x128x128 .f32 := m (c, Proc.tc.devRef main_arg6)
abbrev arg7 : FVec Ideal S4x128 .f32 := m (c, Proc.tc.devRef main_arg7)
abbrev arg8 : FVec Ideal S128x128 .f32 := m (c, Proc.tc.devRef main_arg8)
abbrev arg9 : FVec Ideal S128x128 .f32 := m (c, Proc.tc.devRef main_arg9)

theorem V_w (i : Fin 1024) (j : Fin 1536) : V m c main_v0 (ix2 i j) = arg4 m c (ix2 i j) := by
  entry_read
  pointwise
theorem V_sw (q : Fin 4) (i j : Fin 128) : V m c main_v1 (ix3 q i j) = arg6 m c (ix3 q i j) := by
  entry_read
  pointwise
theorem V_sb (i : Fin 128) (q : Fin 4) : V m c main_v2 (ix2 i q) = arg7 m c (ix2 q i) := by
  entry_read
  pointwise
theorem V_c (i j : Fin 128) : V m c main_v3 (ix2 i j) = arg8 m c (ix2 i j) := by
  entry_read
  pointwise
theorem V_s (i j : Fin 128) : V m c main_v4 (ix2 i j) = arg9 m c (ix2 i j) := by
  entry_read
  pointwise

section
variable (t : Fin cfg0.N) (b : Fin 4) (hb : b.val = t.val) (r : Fin 256) (R : Fin 256) (hR : R.val = r.val)
theorem blk_g (j : Fin 1024) : iblk m c 3 t (ix2 0 j) = arg3 m c (ix2 0 j) := by
  rw [arg3, ← V_main_arg3 m c]; blk_ext [iblk, idx t]
theorem blk_w (i : Fin 1024) (j : Fin 1536) : iblk m c 4 t (ix2 i j) = arg4 m c (ix2 i j) := by
  rw [← V_w m c]; blk_ext [iblk, idx t]
theorem blk_wb (j : Fin 1536) : iblk m c 5 t (ix2 0 j) = arg5 m c (ix2 0 j) := by
  rw [arg5, ← V_main_arg5 m c]; blk_ext [iblk, idx t]
theorem blk_sw (q : Fin 4) (i j : Fin 128) : iblk m c 6 t (ix3 q i j) = arg6 m c (ix3 q i j) := by
  rw [← V_sw m c]; blk_ext [iblk, idx t]
theorem blk_sb (i : Fin 128) (q : Fin 4) : iblk m c 7 t (ix2 i q) = arg7 m c (ix2 q i) := by
  rw [← V_sb m c]; blk_ext [iblk, idx t]
theorem blk_c (i j : Fin 128) : iblk m c 8 t (ix2 i j) = arg8 m c (ix2 i j) := by
  rw [← V_c m c]; blk_ext [iblk, idx t]
theorem blk_s (i j : Fin 128) : iblk m c 9 t (ix2 i j) = arg9 m c (ix2 i j) := by
  rw [← V_s m c]; blk_ext [iblk, idx t]
include hb
theorem blk_sh (j : Fin 1024) : iblk m c 1 t (ix3 0 0 j) = arg1 m c (ix3 b 0 j) := by
  rw [arg1, ← V_main_arg1 m c]; blk_ext [iblk, idx t, hb]
theorem blk_sc (j : Fin 1024) : iblk m c 2 t (ix3 0 0 j) = arg2 m c (ix3 b 0 j) := by
  rw [arg2, ← V_main_arg2 m c]; blk_ext [iblk, idx t, hb]
include hR
theorem blk_x (j : Fin 1024) : iblk m c 0 t (ix3 0 r j) = arg0 m c (ix3 b R j) := by
  rw [arg0, ← V_main_arg0 m c]; blk_ext [iblk, idx t, hb, hR]

theorem tok_eq (j : Fin 1536) : tok (iblk m c 0 t) (iblk m c 1 t) (iblk m c 2 t) (iblk m c 3 t) (iblk m c 4 t) (iblk m c 5 t) r j =
    Cert.Reference12Ideal.Gate.ref (arg0 m c) (arg1 m c) (arg2 m c) (arg3 m c) (arg4 m c) (arg5 m c) b R j := by
  have h0 := funext (blk_x m c t b hb r R hR)
  have h1 := funext (blk_sh m c t b hb)
  have h2 := funext (blk_sc m c t b hb)
  have h3 := funext (blk_g m c t)
  have h4 := funext fun i => funext (blk_w m c t i)
  unfold tok
  rw [h0, h1, h2, h3, h4, blk_wb m c t]
  rfl
end

/-- The reference's results on the call's arguments. -/
abbrev res : FVec Ideal S4x256x512 .f32 :=
  Cert.Reference12Ideal.Gate.out (arg0 m c) (arg1 m c) (arg2 m c) (arg3 m c) (arg4 m c) (arg5 m c) (arg6 m c) (arg7 m c)
abbrev resC : FVec Ideal S4x256x512 .f32 :=
  Cert.Reference12Ideal.Gate.outZ (arg0 m c) (arg1 m c) (arg2 m c) (arg3 m c) (arg4 m c) (arg5 m c) (arg8 m c)
abbrev resS : FVec Ideal S4x256x512 .f32 :=
  Cert.Reference12Ideal.Gate.outZ (arg0 m c) (arg1 m c) (arg2 m c) (arg3 m c) (arg4 m c) (arg5 m c) (arg9 m c)

section
variable (t : Fin cfg0.N) (b : Fin 4) (hb : b.val = t.val)
include hb

/-- What a grid point leaves of a gated entry is the reference's result there. -/
theorem point (a : Fin 2) (q : Fin 4) (i e : Fin 128) (n : Fin 2) (hn : n.val = a.val) :
    cell (k0_pay8 (F := Ideal) (k0_pay6 (F := Ideal) (iblk m c 0 t) (iblk m c 3 t) (iblk m c 1 t) (iblk m c 2 t) (iblk m c 4 t) (iblk m c 5 t))
        (k0_pay7 (F := Ideal) (iblk m c 0 t) (iblk m c 3 t) (iblk m c 1 t) (iblk m c 2 t) (iblk m c 4 t) (iblk m c 5 t)))
      (k0_pay9 (F := Ideal) (k0_pay5 (F := Ideal) (iblk m c 0 t) (iblk m c 3 t) (iblk m c 1 t) (iblk m c 2 t) (iblk m c 4 t) (iblk m c 5 t)))
      (iblk m c 6 t) (iblk m c 7 t) a q i e =
    res m c (ix3 b ⟨n.val * 128 + i.val, by omega⟩ ⟨q.val * 128 + e.val, by omega⟩) := by
  refine Eq.trans ?_ (Cert.Reference12Ideal.Gate.out_apply _ _ _ _ _ _ _ _ _ _ _ _ _).symm
  have hk := fun k : Fin 128 => tok_eq m c t b hb ⟨a.val * 128 + k.val, by omega⟩ ⟨n.val * 128 + k.val, by omega⟩ (by show n.val * 128 + k.val = (a.val * 128 + k.val); omega)
  unfold cell
  simp only [u_apply, v_apply, pre_apply, hk, blk_sw, blk_sb]
  rfl
theorem pointZ (d : FVec Ideal S128x128 .bf16) (d' : FVec Ideal S128x128 .f32) (hd : ∀ i j, d (ix2 i j) = d' (ix2 i j)) (q : Fin 4) (r : Fin 256) (e : Fin 128) (R : Fin 256)
    (hR : R.val = r.val) :
    zcell (k0_pay22 (F := Ideal) (k0_pay5 (F := Ideal) (iblk m c 0 t) (iblk m c 3 t) (iblk m c 1 t) (iblk m c 2 t) (iblk m c 4 t) (iblk m c 5 t))) d q r e =
    Cert.Reference12Ideal.Gate.outZ (arg0 m c) (arg1 m c) (arg2 m c) (arg3 m c) (arg4 m c) (arg5 m c) d' (ix3 b R ⟨q.val * 128 + e.val, by omega⟩) := by
  refine Eq.trans ?_ (Cert.Reference12Ideal.Gate.outZ_apply _ _ _ _ _ _ _ _ _ _ _).symm
  have hk := tok_eq m c t b hb r R hR
  have hd' := funext fun i => funext (hd i)
  unfold zcell
  simp only [z_apply, pre_apply, hk]
  rw [hd']
end

theorem arr : (dats m 0 c).arrAt 10 cfg0.N = res m c := by
  refine (dats m 0 c).arrAt_eq_of_covers 10 _ (by decide +kernel) fun t hf y => ?_
  blk_simp
  rw [after0_10]
  have ht : t.val < 4 := lt_of_lt_of_eq t.isLt N_0
  have hr : (y 1).val < 256 := (y 1).isLt
  have hj : (y 2).val < 512 := (y 2).isLt
  have hy : y = (ix3 0 (show Fin 256 from y 1) (show Fin 512 from y 2) : S1x256x512.Idx) := by
    blk_ext
  have he : ((win0_10.blk t).view.emb y : S4x256x512.Idx) =
      ix3 ⟨t.val, by omega⟩ ⟨((y 1).val / 128) * 128 + (y 1).val % 128, by omega⟩ ⟨(y 2).val / 128 * 128 + (y 2).val % 128, by omega⟩ := by
    blk_ext [idx t]
  refine Eq.trans ?_ (congrArg (res m c) he).symm
  refine (congrArg _ hy).trans ((body _ _ _ _ _ _ _ _ _ _ _ _).trans ?_)
  exact point m c t ⟨t.val, by omega⟩ rfl _ _ _ _ ⟨(y 1).val / 128, by omega⟩ rfl

theorem arrC : (dats m 0 c).arrAt 11 cfg0.N = resC m c := by
  refine (dats m 0 c).arrAt_eq_of_covers 11 _ (by decide +kernel) fun t hf y => ?_
  blk_simp
  rw [after0_11]
  have ht : t.val < 4 := lt_of_lt_of_eq t.isLt N_0
  have hr : (y 1).val < 256 := (y 1).isLt
  have hj : (y 2).val < 512 := (y 2).isLt
  have hy : y = (ix3 0 (show Fin 256 from y 1) (show Fin 512 from y 2) : S1x256x512.Idx) := by
    blk_ext
  have he : ((win0_11.blk t).view.emb y : S4x256x512.Idx) =
      ix3 ⟨t.val, by omega⟩ ⟨(y 1).val, by omega⟩ ⟨(y 2).val / 128 * 128 + (y 2).val % 128, by omega⟩ := by
    blk_ext [idx t]
  refine Eq.trans ?_ (congrArg (resC m c) he).symm
  refine (congrArg _ hy).trans ((bodyC _ _ _ _ _ _ _ _ _ _ _ _).trans ?_)
  exact pointZ m c t ⟨t.val, by omega⟩ rfl _ _ (blk_c m c t) _ _ _ ⟨(y 1).val, by omega⟩ rfl

theorem arrS : (dats m 0 c).arrAt 12 cfg0.N = resS m c := by
  refine (dats m 0 c).arrAt_eq_of_covers 12 _ (by decide +kernel) fun t hf y => ?_
  blk_simp
  rw [after0_12]
  have ht : t.val < 4 := lt_of_lt_of_eq t.isLt N_0
  have hr : (y 1).val < 256 := (y 1).isLt
  have hj : (y 2).val < 512 := (y 2).isLt
  have hy : y = (ix3 0 (show Fin 256 from y 1) (show Fin 512 from y 2) : S1x256x512.Idx) := by
    blk_ext
  have he : ((win0_12.blk t).view.emb y : S4x256x512.Idx) =
      ix3 ⟨t.val, by omega⟩ ⟨(y 1).val, by omega⟩ ⟨(y 2).val / 128 * 128 + (y 2).val % 128, by omega⟩ := by
    blk_ext [idx t]
  refine Eq.trans ?_ (congrArg (resS m c) he).symm
  refine (congrArg _ hy).trans ((bodyS _ _ _ _ _ _ _ _ _ _ _ _).trans ?_)
  exact pointZ m c t ⟨t.val, by omega⟩ rfl _ _ (blk_s m c t) _ _ _ ⟨(y 1).val, by omega⟩ rfl
end Cert.Kernel12Ideal.Gate
-- ==== Proof.ShortArray.lean ====
module
public import proofs.«01_k».proof.Proof.Fourier
public import proofs.«01_k».proof.Proof.Gen.Kernel10Ideal.Value
public import proofs.«01_k».proof.Proof.Gen.Reference10Ideal.Run
public import Idealize.ShloMosaic.Lib.Pipeline.ValueKit
@[expose] public section
set_option maxRecDepth 16384
noncomputable section

/-! # The Fourier branch of the context: what the call leaves is the reference's result -/

namespace Cert.Reference10Ideal.Short
open Cert.Reference10Ideal Cert.Reference10Ideal.Gen Idealize.ShloMosaic Idealize.ShloMosaic.TcCoe Idealize.SL.Sem

/-- The reference's result. -/
def out (a b : FVec Ideal S4x256x512 .f32) (c s : FVec Ideal S256x256 .f32) : FVec Ideal S4x256x512 .f32 :=
  addf (transpose S4x256x512 [0, 2, 1] (Host.dotGeneral dot_S4x256x512_S256x256_S4x512x256_1_1_02_0_n_n none a c) transposes_S4x512x256_S4x256x512_0_2_1)
    (transpose S4x256x512 [0, 2, 1] (Host.dotGeneral dot_S4x256x512_S256x256_S4x512x256_1_1_02_0_n_n none b (Host.negf s)) transposes_S4x512x256_S4x256x512_0_2_1)

variable (a b : FVec Ideal S4x256x512 .f32) (c s : FVec Ideal S256x256 .f32)

theorem out_apply (l : Fin 4) (t : Fin 256) (j : Fin 512) : out a b c s (ix3 l t j) =
    Fourier.pair (fun k => c (ix2 t k)) (fun k => a (ix3 l k j)) (fun k => -s (ix2 t k)) (fun k => b (ix3 l k j)) := by
  have h : out a b c s (ix3 l t j) = (∑ k : Fin 256, a (ix3 l k j) * c (ix2 t k)) + ∑ k : Fin 256, b (ix3 l k j) * -s (ix2 t k) := by
    pointwise [out]
  rw [h]
  unfold Fourier.pair
  exact congrArg₂ (· + ·) (Finset.sum_congr rfl fun k _ => mul_comm _ _) (Finset.sum_congr rfl fun k _ => mul_comm _ _)
end Cert.Reference10Ideal.Short

namespace Cert.Kernel10Ideal.Short
open Cert.Kernel10Ideal Cert.Kernel10Ideal.Gen Idealize.ShloMosaic Idealize.ShloMosaic.TcCoe Idealize.SL.Sem
open Idealize.ShloMosaic.Pipeline (Dat)

theorem body (a b : FVec Ideal S1x256x512 .f32) (w : FVec Ideal S256x512 .bf16) (r : Fin 256) (j : Fin 512) :
    out0_3 (F := Ideal) a b w (ix3 0 r j) = Fourier.pair (n := 256) (fun k => w (ix2 r ⟨k.val, by omega⟩)) (fun k => a (ix3 0 k j))
      (fun k => w (ix2 r ⟨256 + k.val, by omega⟩)) (fun k => b (ix3 0 k j)) := by
  frame_out
  have h : k0_pay1 (F := Ideal) a b w (ix3 0 r j) = ∑ k : Fin 512, w (ix2 r k) * (if h : k.val < 256 then a (ix3 0 ⟨k.val, h⟩ j) else b (ix3 0 ⟨k.val - 256, by omega⟩ j)) := by
    pointwise [k0_pay1]
  refine h.trans ?_
  rw [Fourier.sum_halves (n := 256) rfl]
  unfold Fourier.pair
  refine congrArg₂ (· + ·) (Finset.sum_congr rfl fun k _ => ?_) (Finset.sum_congr rfl fun k _ => ?_)
  · rw [dif_pos k.isLt]
  · rw [dif_neg (show ¬ 256 + k.val < 256 by omega)]
    simp only [Nat.add_sub_cancel_left]

/-- The blocks' places at a grid point. -/
theorem idx : ∀ t : Fin cfg0.N, win0_0.index t = ![t.val, 0, 0] ∧ win0_1.index t = ![t.val, 0, 0] ∧ win0_2.index t = ![0, 0] ∧ win0_3.index t = ![t.val, 0, 0] :=
  (by decide +kernel : ∀ t : Fin grid0.N, _)

variable (m : (ℓ : Loc nD τ sig) → Buf (Elt Ideal) ℓ) (c : Dev nD)

/-- The call's arguments. -/
abbrev arg0 : FVec Ideal S4x256x512 .f32 := m (c, Proc.tc.devRef main_arg0)
abbrev arg1 : FVec Ideal S4x256x512 .f32 := m (c, Proc.tc.devRef main_arg1)
abbrev arg2 : FVec Ideal S256x256 .f32 := m (c, Proc.tc.devRef main_arg2)
abbrev arg3 : FVec Ideal S256x256 .f32 := m (c, Proc.tc.devRef main_arg3)

theorem V_c (r k : Fin 256) : V m c main_v2 (ix2 r ⟨k.val, by omega⟩) = arg2 m c (ix2 r k) := by
  entry_read
  pointwise
theorem V_s (r k : Fin 256) : V m c main_v2 (ix2 r ⟨256 + k.val, by omega⟩) = -arg3 m c (ix2 r k) := by
  entry_read
  pointwise

section
variable (t : Fin cfg0.N)
theorem blk_c (r k : Fin 256) : iblk m c 2 t (ix2 r ⟨k.val, by omega⟩) = arg2 m c (ix2 r k) := by
  rw [← V_c m c]; blk_ext [iblk, idx t]
theorem blk_s (r k : Fin 256) : iblk m c 2 t (ix2 r ⟨256 + k.val, by omega⟩) = -arg3 m c (ix2 r k) := by
  rw [← V_s m c]; blk_ext [iblk, idx t]
variable (l : Fin 4) (hl : l.val = t.val) (k : Fin 256) (j : Fin 512)
include hl
theorem blk_a : iblk m c 0 t (ix3 0 k j) = arg0 m c (ix3 l k j) := by
  rw [arg0, ← V_main_arg0 m c]; blk_ext [iblk, idx t, hl]
theorem blk_b : iblk m c 1 t (ix3 0 k j) = arg1 m c (ix3 l k j) := by
  rw [arg1, ← V_main_arg1 m c]; blk_ext [iblk, idx t, hl]
end

/-- The reference's result on the call's arguments. -/
abbrev res : FVec Ideal S4x256x512 .f32 := Cert.Reference10Ideal.Short.out (arg0 m c) (arg1 m c) (arg2 m c) (arg3 m c)

theorem arr : (dats m 0 c).arrAt 3 cfg0.N = res m c := by
  refine (dats m 0 c).arrAt_eq_of_covers 3 _ (by decide +kernel) fun t hf y => ?_
  blk_simp
  rw [after0_3]
  have ht : t.val < 4 := lt_of_lt_of_eq t.isLt N_0
  have hr : (y 1).val < 256 := (y 1).isLt
  have hj : (y 2).val < 512 := (y 2).isLt
  have hy : y = (ix3 0 (show Fin 256 from y 1) (show Fin 512 from y 2) : S1x256x512.Idx) := by
    blk_ext
  have he : ((win0_3.blk t).view.emb y : S4x256x512.Idx) = ix3 ⟨t.val, ht⟩ (show Fin 256 from y 1) (show Fin 512 from y 2) := by
    blk_ext [idx t]
  refine Eq.trans ?_ (congrArg (res m c) he).symm
  refine (congrArg _ hy).trans ((body _ _ _ _ _).trans (Eq.trans ?_ (Cert.Reference10Ideal.Short.out_apply _ _ _ _ _ _ _).symm))
  exact congr (congr (congr (congrArg Fourier.pair (funext fun k => blk_c m c t _ k)) (funext fun k => blk_a m c t ⟨t.val, ht⟩ rfl k _))
    (funext fun k => blk_s m c t _ k)) (funext fun k => blk_b m c t ⟨t.val, ht⟩ rfl k _)
end Cert.Kernel10Ideal.Short
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Arrays
public import proofs.«01_k».proof.Proof.RefFinal
public import proofs.«01_k».proof.Proof.MergeArray
public import proofs.«01_k».proof.Proof.ProjArray
public import proofs.«01_k».proof.Proof.GateArray
public import proofs.«01_k».proof.Proof.FinalArray
public import proofs.«01_k».proof.Proof.ModArray
public import proofs.«01_k».proof.Proof.PosArray
public import proofs.«01_k».proof.Proof.Stage1Array
public import proofs.«01_k».proof.Proof.Stage2Array
public import proofs.«01_k».proof.Proof.CtxArrays
public import proofs.«01_k».proof.Proof.CtxRefFinal
public import proofs.«01_k».proof.Proof.CtxMergeArray
public import proofs.«01_k».proof.Proof.CtxProjArray
public import proofs.«01_k».proof.Proof.CtxGateArray
public import proofs.«01_k».proof.Proof.ShortArray
public import Idealize.ShloMosaic.Adequacy
public import Idealize.ShloMosaic.Init

@[expose] public section

noncomputable section

namespace Cert.Proof

open Idealize.ShloMosaic Idealize.SL.Sem
open Cert.KernelIdeal.Scan (outG memG vecG stabG)

section
variable (m : (ℓ : Loc Cert.ReferenceIdeal.nD Cert.ReferenceIdeal.τ Cert.ReferenceIdeal.sig) → Buf (Elt Ideal) ℓ) (c : Dev Cert.ReferenceIdeal.nD)
open Cert.RefScan Cert.ReferenceIdeal.Value Idealize.ShloMosaic.StableHlo

/-- The reference's outputs are the model's. -/
theorem ref_H : out_main_v80 (STEP^[64] (entryContents preI m c)) = outG (argI m c) := by
  funext y
  obtain ⟨h, j, e⟩ := Cert.KernelIdeal.Scan.lane_eq (y 3)
  have he : y = ix4 (y 0) (y 1) (y 2) ⟨128 * h.val + j.val, by omega⟩ := by
    conv_lhs => rw [ValueIdx.eq_ix4 y]
    rw [e]
    rfl
  rw [he]
  exact (final_H m c (y 0) (y 1) (y 2) h j).trans (Cert.KernelIdeal.Scan.outG_apply (argI m c) (y 0) (y 1) (y 2) h j).symm

/-- The reference's final memories are the model's. -/
theorem ref_C : out_main_v83 (STEP^[64] (entryContents preI m c)) = memG (argI m c) := by
  funext y
  rw [ValueIdx.eq_ix5 y]
  exact final_C m c (y 0) (y 1) (y 2) (y 3) (y 4)

theorem unit_eq (y : Cert.ReferenceIdeal.S2x4x4x1x128.Idx) : y = ix5 (y 0) (y 1) (y 2) 0 (y 4) := by
  have h : y 3 = (0 : Fin 1) := Subsingleton.elim (α := Fin 1) _ _
  conv_lhs => rw [ValueIdx.eq_ix5 y, h]
  rfl

/-- The reference's final normalizers are the model's. -/
theorem ref_N : out_main_v84 (STEP^[64] (entryContents preI m c)) = vecG (argI m c) := by
  funext y
  rw [unit_eq y]
  exact final_N m c (y 0) (y 1) (y 2) (y 4)

/-- The reference's final stabilizers are the model's. -/
theorem ref_M : out_main_v82 (STEP^[64] (entryContents preI m c)) = stabG (argI m c) := by
  funext y
  rw [unit_eq y]
  exact final_M m c (y 0) (y 1) (y 2) (y 4)

end

theorem algebraic : Cert.algebraic_KernelIdeal_ReferenceIdeal := by
  intro m g m' g' _ hagree
  have hI : ∀ c, Cert.RefScan.argI m' c = Cert.KernelIdeal.Scan.inputs m c := fun c => by
    obtain ⟨h0, h1, h2, h3, h4, h5⟩ := hagree c
    unfold Cert.RefScan.argI Cert.RefScan.inputs Cert.KernelIdeal.Scan.inputs
    congr 1
    · funext b r j; exact congrFun h0 _
    · funext d b r j; exact congrFun h1 _
    · funext i j; exact congrFun h2 _
    · funext d b h e j; exact congrFun h3 _
    · funext d b h j; exact congrFun h4 _
    · funext d b h j; exact congrFun h5 _
  refine ⟨fun c => outG (Cert.KernelIdeal.Scan.inputs m c), fun c => memG (Cert.KernelIdeal.Scan.inputs m c),
    fun c => vecG (Cert.KernelIdeal.Scan.inputs m c), fun c => stabG (Cert.KernelIdeal.Scan.inputs m c), ?_, ?_⟩
  · refine (θ_run Cert.KernelIdeal.defs _ _).mono (fun r h c => ?_) (Cert.KernelIdeal.Value.run_blocks m g)
    obtain ⟨h0, h1, h2, h3, hr⟩ := h c
    exact ⟨h0.trans (Cert.KernelIdeal.Scan.arrH m c), h1.trans (Cert.KernelIdeal.Scan.arrC m c), h2.trans (Cert.KernelIdeal.Scan.arrN m c),
      h3.trans (Cert.KernelIdeal.Scan.arrM m c), hr⟩
  · refine (θ_run Cert.ReferenceIdeal.defs _ _).mono (fun r h c => ?_) (Cert.ReferenceIdeal.Value.run m' g')
    obtain ⟨h0, h1, h2, h3, hr⟩ := h c
    exact ⟨h0.trans ((ref_H m' c).trans (congrArg outG (hI c))), h1.trans ((ref_C m' c).trans (congrArg memG (hI c))),
      h2.trans ((ref_N m' c).trans (congrArg vecG (hI c))), h3.trans ((ref_M m' c).trans (congrArg stabG (hI c))), hr⟩

theorem frame_reference : Cert.quiescent_ReferenceIdeal := fun m g _ =>
  (θ_run Cert.ReferenceIdeal.defs _ _).mono (fun r h => ⟨fun c => (h c).2.2.2.2, sem_eq_zero_of_no_sems rfl _⟩) (Cert.ReferenceIdeal.Value.run m g)

theorem frame_reference2 : Cert.quiescent_Reference2Ideal := fun m g _ =>
  (θ_run Cert.Reference2Ideal.defs _ _).mono (fun r h => ⟨fun c => (h c).2, sem_eq_zero_of_no_sems rfl _⟩) (Cert.Reference2Ideal.Value.run m g)
theorem frame_reference3 : Cert.quiescent_Reference3Ideal := fun m g _ =>
  (θ_run Cert.Reference3Ideal.defs _ _).mono (fun r h => ⟨fun c => (h c).2.2.2, sem_eq_zero_of_no_sems rfl _⟩) (Cert.Reference3Ideal.Value.run m g)
theorem frame_reference4 : Cert.quiescent_Reference4Ideal := fun m g _ =>
  (θ_run Cert.Reference4Ideal.defs _ _).mono (fun r h => ⟨fun c => (h c).2.2.2, sem_eq_zero_of_no_sems rfl _⟩) (Cert.Reference4Ideal.Value.run m g)
theorem frame_reference5 : Cert.quiescent_Reference5Ideal := fun m g _ =>
  (θ_run Cert.Reference5Ideal.defs _ _).mono (fun r h => ⟨fun c => (h c).2, sem_eq_zero_of_no_sems rfl _⟩) (Cert.Reference5Ideal.Value.run m g)
theorem frame_reference6 : Cert.quiescent_Reference6Ideal := fun m g _ =>
  (θ_run Cert.Reference6Ideal.defs _ _).mono (fun r h => ⟨fun c => (h c).2, sem_eq_zero_of_no_sems rfl _⟩) (Cert.Reference6Ideal.Value.run m g)
theorem frame_reference7 : Cert.quiescent_Reference7Ideal := fun m g _ =>
  (θ_run Cert.Reference7Ideal.defs _ _).mono (fun r h => ⟨fun c => (h c).2, sem_eq_zero_of_no_sems rfl _⟩) (Cert.Reference7Ideal.Value.run m g)
theorem frame_reference8 : Cert.quiescent_Reference8Ideal := fun m g _ =>
  (θ_run Cert.Reference8Ideal.defs _ _).mono (fun r h => ⟨fun c => (h c).2, sem_eq_zero_of_no_sems rfl _⟩) (Cert.Reference8Ideal.Value.run m g)
theorem frame_reference9 : Cert.quiescent_Reference9Ideal := fun m g _ =>
  (θ_run Cert.Reference9Ideal.defs _ _).mono (fun r h => ⟨fun c => (h c).2, sem_eq_zero_of_no_sems rfl _⟩) (Cert.Reference9Ideal.Value.run m g)
theorem frame_reference10 : Cert.quiescent_Reference10Ideal := fun m g _ =>
  (θ_run Cert.Reference10Ideal.defs _ _).mono (fun r h => ⟨fun c => (h c).2, sem_eq_zero_of_no_sems rfl _⟩) (Cert.Reference10Ideal.Value.run m g)
theorem frame_reference11 : Cert.quiescent_Reference11Ideal := fun m g _ =>
  (θ_run Cert.Reference11Ideal.defs _ _).mono (fun r h => ⟨fun c => (h c).2.2.2, sem_eq_zero_of_no_sems rfl _⟩) (Cert.Reference11Ideal.Value.run m g)
theorem frame_reference12 : Cert.quiescent_Reference12Ideal := fun m g _ =>
  (θ_run Cert.Reference12Ideal.defs _ _).mono (fun r h => ⟨fun c => (h c).2.2.2, sem_eq_zero_of_no_sems rfl _⟩) (Cert.Reference12Ideal.Value.run m g)
theorem frame_reference13 : Cert.quiescent_Reference13Ideal := fun m g _ =>
  (θ_run Cert.Reference13Ideal.defs _ _).mono (fun r h => ⟨fun c => (h c).2, sem_eq_zero_of_no_sems rfl _⟩) (Cert.Reference13Ideal.Value.run m g)
theorem frame_reference14 : Cert.quiescent_Reference14Ideal := fun m g _ =>
  (θ_run Cert.Reference14Ideal.defs _ _).mono (fun r h => ⟨fun c => (h c).2.2.2.2, sem_eq_zero_of_no_sems rfl _⟩) (Cert.Reference14Ideal.Value.run m g)

/-- The merge of the branches. -/
theorem algebraic2 : Cert.algebraic_Kernel2Ideal_Reference2Ideal := by
  intro m g m' g' _ hagree
  refine ⟨fun c => Cert.Kernel2Ideal.Merge.res m c, ?_, ?_⟩
  · refine (θ_run Cert.Kernel2Ideal.defs _ _).mono (fun r h c => ?_) (Cert.Kernel2Ideal.Value.run_blocks m g)
    obtain ⟨h0, hr⟩ := h c
    exact ⟨h0.trans (Cert.Kernel2Ideal.Merge.arr m c), hr⟩
  · refine (θ_run Cert.Reference2Ideal.defs _ _).mono (fun r h c => ?_) (Cert.Reference2Ideal.Value.run m' g')
    obtain ⟨h0, hr⟩ := h c
    obtain ⟨a0, a1, a2, a3, a4, a5, a6, a7, a8, a9, a10, a11, a12, a13⟩ := hagree c
    refine ⟨h0.trans ((Cert.Reference2Ideal.Merge.res_eq m' c).trans ?_), hr⟩
    rw [a0, a1, a2, a3, a4, a5, a6, a7, a8, a9, a10, a11, a12, a13]

/-- The recurrence's projections. -/
theorem algebraic3 : Cert.algebraic_Kernel3Ideal_Reference3Ideal := by
  intro m g m' g' _ hagree
  refine ⟨fun c => Cert.Kernel3Ideal.Proj.res m c, fun c => Cert.Kernel3Ideal.Proj.resG m c, fun c => Cert.Kernel3Ideal.Proj.resT m c, ?_, ?_⟩
  · refine (θ_run Cert.Kernel3Ideal.defs _ _).mono (fun r h c => ?_) (Cert.Kernel3Ideal.Value.run_blocks m g)
    obtain ⟨h0, h1, h2, hr⟩ := h c
    exact ⟨h0.trans (Cert.Kernel3Ideal.Proj.arr m c), h1.trans (Cert.Kernel3Ideal.Proj.arrG m c), h2.trans (Cert.Kernel3Ideal.Proj.arrT m c), hr⟩
  · refine (θ_run Cert.Reference3Ideal.defs _ _).mono (fun r h c => ?_) (Cert.Reference3Ideal.Value.run m' g')
    obtain ⟨h0, h1, h2, hr⟩ := h c
    obtain ⟨a0, a1, a2, a3, a4, a5, a6, a7⟩ := hagree c
    refine ⟨h0.trans ?_, h1.trans ?_, h2.trans ?_, hr⟩
    · rw [a0, a1, a2, a3, a4, a5]; rfl
    · rw [a0, a1, a2, a3, a6, a7]; rfl
    · rw [a0, a1, a2, a3, a6, a7]; rfl

/-- The gating branch's projection and spatial gate. -/
theorem algebraic4 : Cert.algebraic_Kernel4Ideal_Reference4Ideal := by
  intro m g m' g' _ hagree
  refine ⟨fun c => Cert.Kernel4Ideal.Gate.res m c, fun c => Cert.Kernel4Ideal.Gate.resC m c, fun c => Cert.Kernel4Ideal.Gate.resS m c, ?_, ?_⟩
  · refine (θ_run Cert.Kernel4Ideal.defs _ _).mono (fun r h c => ?_) (Cert.Kernel4Ideal.Value.run_blocks m g)
    obtain ⟨h0, h1, h2, hr⟩ := h c
    exact ⟨h0.trans (Cert.Kernel4Ideal.Gate.arr m c), h1.trans (Cert.Kernel4Ideal.Gate.arrC m c), h2.trans (Cert.Kernel4Ideal.Gate.arrS m c), hr⟩
  · refine (θ_run Cert.Reference4Ideal.defs _ _).mono (fun r h c => ?_) (Cert.Reference4Ideal.Value.run m' g')
    obtain ⟨h0, h1, h2, hr⟩ := h c
    obtain ⟨a0, a1, a2, a3, a4, a5, a6, a7, a8, a9⟩ := hagree c
    refine ⟨h0.trans ((Cert.Reference4Ideal.Gate.res_eq m' c).trans ?_), h1.trans ?_, h2.trans ?_, hr⟩
    · rw [a0, a1, a2, a3, a4, a5, a6, a7]
    · rw [a0, a1, a2, a3, a4, a5, a8]; rfl
    · rw [a0, a1, a2, a3, a4, a5, a9]; rfl

/-- The final norm. -/
theorem algebraic5 : Cert.algebraic_Kernel5Ideal_Reference5Ideal := by
  intro m g m' g' _ hagree
  refine ⟨fun c => Cert.Kernel5Ideal.Final.res m c, ?_, ?_⟩
  · refine (θ_run Cert.Kernel5Ideal.defs _ _).mono (fun r h c => ?_) (Cert.Kernel5Ideal.Value.run_blocks m g)
    obtain ⟨h0, hr⟩ := h c
    exact ⟨h0.trans (Cert.Kernel5Ideal.Final.arr m c), hr⟩
  · refine (θ_run Cert.Reference5Ideal.defs _ _).mono (fun r h c => ?_) (Cert.Reference5Ideal.Value.run m' g')
    obtain ⟨h0, hr⟩ := h c
    obtain ⟨a0, a1⟩ := hagree c
    refine ⟨h0.trans ?_, hr⟩
    rw [a0, a1]; rfl

/-- The modulation of all layers. -/
theorem algebraic6 : Cert.algebraic_Kernel6Ideal_Reference6Ideal := by
  intro m g m' g' _ hagree
  refine ⟨fun c => Cert.Kernel6Ideal.Mod.res m c, ?_, ?_⟩
  · refine (θ_run Cert.Kernel6Ideal.defs _ _).mono (fun r h c => ?_) (Cert.Kernel6Ideal.Value.run_blocks m g)
    obtain ⟨h0, hr⟩ := h c
    exact ⟨h0.trans (Cert.Kernel6Ideal.Mod.arr m c), hr⟩
  · refine (θ_run Cert.Reference6Ideal.defs _ _).mono (fun r h c => ?_) (Cert.Reference6Ideal.Value.run m' g')
    obtain ⟨h0, hr⟩ := h c
    obtain ⟨a0, a1, a2⟩ := hagree c
    refine ⟨h0.trans ?_, hr⟩
    rw [a0, a1, a2]; rfl

/-- The position embedding. -/
theorem algebraic7 : Cert.algebraic_Kernel7Ideal_Reference7Ideal := by
  intro m g m' g' _ hagree
  refine ⟨fun c => Cert.Kernel7Ideal.Pos.res m c, ?_, ?_⟩
  · refine (θ_run Cert.Kernel7Ideal.defs _ _).mono (fun r h c => ?_) (Cert.Kernel7Ideal.Value.run_blocks m g)
    obtain ⟨h0, hr⟩ := h c
    exact ⟨h0.trans (Cert.Kernel7Ideal.Pos.arr m c), hr⟩
  · refine (θ_run Cert.Reference7Ideal.defs _ _).mono (fun r h c => ?_) (Cert.Reference7Ideal.Value.run m' g')
    obtain ⟨h0, hr⟩ := h c
    have a0 := hagree c
    refine ⟨h0.trans ?_, hr⟩
    rw [a0]; rfl

/-- The first Fourier stage along the sequence. -/
theorem algebraic8 : Cert.algebraic_Kernel8Ideal_Reference8Ideal := by
  intro m g m' g' _ hagree
  refine ⟨fun c => Cert.Kernel8Ideal.Stage1.res m c, ?_, ?_⟩
  · refine (θ_run Cert.Kernel8Ideal.defs _ _).mono (fun r h c => ?_) (Cert.Kernel8Ideal.Value.run_blocks m g)
    obtain ⟨h0, hr⟩ := h c
    exact ⟨h0.trans (Cert.Kernel8Ideal.Stage1.arr m c), hr⟩
  · refine (θ_run Cert.Reference8Ideal.defs _ _).mono (fun r h c => ?_) (Cert.Reference8Ideal.Value.run m' g')
    obtain ⟨h0, hr⟩ := h c
    obtain ⟨a0, a1, a2, a3⟩ := hagree c
    refine ⟨h0.trans ?_, hr⟩
    rw [a0, a1, a2, a3]; rfl

/-- The turning factors and the second Fourier stage. -/
theorem algebraic9 : Cert.algebraic_Kernel9Ideal_Reference9Ideal := by
  intro m g m' g' _ hagree
  refine ⟨fun c => Cert.Kernel9Ideal.Stage2.res m c, ?_, ?_⟩
  · refine (θ_run Cert.Kernel9Ideal.defs _ _).mono (fun r h c => ?_) (Cert.Kernel9Ideal.Value.run_blocks m g)
    obtain ⟨h0, hr⟩ := h c
    exact ⟨h0.trans (Cert.Kernel9Ideal.Stage2.arr m c), hr⟩
  · refine (θ_run Cert.Reference9Ideal.defs _ _).mono (fun r h c => ?_) (Cert.Reference9Ideal.Value.run m' g')
    obtain ⟨h0, hr⟩ := h c
    obtain ⟨a0, a1, a2, a3, a4⟩ := hagree c
    refine ⟨h0.trans ?_, hr⟩
    rw [a0, a1, a2, a3, a4]; rfl

/-- The context's Fourier product along its positions. -/
theorem algebraic10 : Cert.algebraic_Kernel10Ideal_Reference10Ideal := by
  intro m g m' g' _ hagree
  refine ⟨fun c => Cert.Kernel10Ideal.Short.res m c, ?_, ?_⟩
  · refine (θ_run Cert.Kernel10Ideal.defs _ _).mono (fun r h c => ?_) (Cert.Kernel10Ideal.Value.run_blocks m g)
    obtain ⟨h0, hr⟩ := h c
    exact ⟨h0.trans (Cert.Kernel10Ideal.Short.arr m c), hr⟩
  · refine (θ_run Cert.Reference10Ideal.defs _ _).mono (fun r h c => ?_) (Cert.Reference10Ideal.Value.run m' g')
    obtain ⟨h0, hr⟩ := h c
    obtain ⟨a0, a1, a2, a3⟩ := hagree c
    refine ⟨h0.trans ?_, hr⟩
    rw [a0, a1, a2, a3]; rfl

/-- The context's projections for its recurrence. -/
theorem algebraic11 : Cert.algebraic_Kernel11Ideal_Reference11Ideal := by
  intro m g m' g' _ hagree
  refine ⟨fun c => Cert.Kernel11Ideal.Proj.res m c, fun c => Cert.Kernel11Ideal.Proj.resG m c, fun c => Cert.Kernel11Ideal.Proj.resT m c, ?_, ?_⟩
  · refine (θ_run Cert.Kernel11Ideal.defs _ _).mono (fun r h c => ?_) (Cert.Kernel11Ideal.Value.run_blocks m g)
    obtain ⟨h0, h1, h2, hr⟩ := h c
    exact ⟨h0.trans (Cert.Kernel11Ideal.Proj.arr m c), h1.trans (Cert.Kernel11Ideal.Proj.arrG m c), h2.trans (Cert.Kernel11Ideal.Proj.arrT m c), hr⟩
  · refine (θ_run Cert.Reference11Ideal.defs _ _).mono (fun r h c => ?_) (Cert.Reference11Ideal.Value.run m' g')
    obtain ⟨h0, h1, h2, hr⟩ := h c
    obtain ⟨a0, a1, a2, a3, a4, a5, a6, a7⟩ := hagree c
    refine ⟨h0.trans ?_, h1.trans ?_, h2.trans ?_, hr⟩
    · rw [a0, a1, a2, a3, a4, a5]; rfl
    · rw [a0, a1, a2, a3, a6, a7]; rfl
    · rw [a0, a1, a2, a3, a6, a7]; rfl

/-- The context's gating branch. -/
theorem algebraic12 : Cert.algebraic_Kernel12Ideal_Reference12Ideal := by
  intro m g m' g' _ hagree
  refine ⟨fun c => Cert.Kernel12Ideal.Gate.res m c, fun c => Cert.Kernel12Ideal.Gate.resC m c, fun c => Cert.Kernel12Ideal.Gate.resS m c, ?_, ?_⟩
  · refine (θ_run Cert.Kernel12Ideal.defs _ _).mono (fun r h c => ?_) (Cert.Kernel12Ideal.Value.run_blocks m g)
    obtain ⟨h0, h1, h2, hr⟩ := h c
    exact ⟨h0.trans (Cert.Kernel12Ideal.Gate.arr m c), h1.trans (Cert.Kernel12Ideal.Gate.arrC m c), h2.trans (Cert.Kernel12Ideal.Gate.arrS m c), hr⟩
  · refine (θ_run Cert.Reference12Ideal.defs _ _).mono (fun r h c => ?_) (Cert.Reference12Ideal.Value.run m' g')
    obtain ⟨h0, h1, h2, hr⟩ := h c
    obtain ⟨a0, a1, a2, a3, a4, a5, a6, a7, a8, a9⟩ := hagree c
    refine ⟨h0.trans ((Cert.Reference12Ideal.Gate.res_eq m' c).trans ?_), h1.trans ?_, h2.trans ?_, hr⟩
    · rw [a0, a1, a2, a3, a4, a5, a6, a7]
    · rw [a0, a1, a2, a3, a4, a5, a8]; rfl
    · rw [a0, a1, a2, a3, a4, a5, a9]; rfl

/-- The context's merge of the branches. -/
theorem algebraic13 : Cert.algebraic_Kernel13Ideal_Reference13Ideal := by
  intro m g m' g' _ hagree
  refine ⟨fun c => Cert.Kernel13Ideal.Merge.res m c, ?_, ?_⟩
  · refine (θ_run Cert.Kernel13Ideal.defs _ _).mono (fun r h c => ?_) (Cert.Kernel13Ideal.Value.run_blocks m g)
    obtain ⟨h0, hr⟩ := h c
    exact ⟨h0.trans (Cert.Kernel13Ideal.Merge.arr m c), hr⟩
  · refine (θ_run Cert.Reference13Ideal.defs _ _).mono (fun r h c => ?_) (Cert.Reference13Ideal.Value.run m' g')
    obtain ⟨h0, hr⟩ := h c
    obtain ⟨a0, a1, a2, a3, a4, a5, a6, a7, a8, a9, a10, a11, a12, a13⟩ := hagree c
    refine ⟨h0.trans ((Cert.Reference13Ideal.Merge.res_eq m' c).trans ?_), hr⟩
    rw [a0, a1, a2, a3, a4, a5, a6, a7, a8, a9, a10, a11, a12, a13]

section
variable (m : (ℓ : Loc Cert.Reference14Ideal.nD Cert.Reference14Ideal.τ Cert.Reference14Ideal.sig) → Buf (Elt Ideal) ℓ) (c : Dev Cert.Reference14Ideal.nD)
open Cert.CtxRefScan Cert.Reference14Ideal.Value Idealize.ShloMosaic.StableHlo

/-- For the context, the reference's outputs are the model's. -/
theorem ctx_ref_H : out_main_v80 (STEP^[2] (entryContents preI m c)) = Cert.Kernel14Ideal.Scan.outG (argI m c) := by
  funext y
  obtain ⟨h, j, e⟩ := Cert.Kernel14Ideal.Scan.lane_eq (y 3)
  have he : y = ix4 (y 0) (y 1) (y 2) ⟨128 * h.val + j.val, by omega⟩ := by
    conv_lhs => rw [ValueIdx.eq_ix4 y]
    rw [e]
    rfl
  rw [he]
  exact (final_H m c (y 0) (y 1) (y 2) h j).trans (Cert.Kernel14Ideal.Scan.outG_apply (argI m c) (y 0) (y 1) (y 2) h j).symm

/-- For the context, the reference's final memories are the model's. -/
theorem ctx_ref_C : out_main_v83 (STEP^[2] (entryContents preI m c)) = Cert.Kernel14Ideal.Scan.memG (argI m c) := by
  funext y
  rw [ValueIdx.eq_ix5 y]
  exact final_C m c (y 0) (y 1) (y 2) (y 3) (y 4)

theorem ctx_unit_eq (y : Cert.Reference14Ideal.S2x4x4x1x128.Idx) : y = ix5 (y 0) (y 1) (y 2) 0 (y 4) := by
  have h : y 3 = (0 : Fin 1) := Subsingleton.elim (α := Fin 1) _ _
  conv_lhs => rw [ValueIdx.eq_ix5 y, h]
  rfl

/-- For the context, the reference's final normalizers are the model's. -/
theorem ctx_ref_N : out_main_v84 (STEP^[2] (entryContents preI m c)) = Cert.Kernel14Ideal.Scan.vecG (argI m c) := by
  funext y
  rw [ctx_unit_eq y]
  exact final_N m c (y 0) (y 1) (y 2) (y 4)

/-- For the context, the reference's final stabilizers are the model's. -/
theorem ctx_ref_M : out_main_v82 (STEP^[2] (entryContents preI m c)) = Cert.Kernel14Ideal.Scan.stabG (argI m c) := by
  funext y
  rw [ctx_unit_eq y]
  exact final_M m c (y 0) (y 1) (y 2) (y 4)

end

/-- The context's recurrence. -/
theorem algebraic14 : Cert.algebraic_Kernel14Ideal_Reference14Ideal := by
  intro m g m' g' _ hagree
  have hI : ∀ c, Cert.CtxRefScan.argI m' c = Cert.Kernel14Ideal.Scan.inputs m c := fun c => by
    obtain ⟨h0, h1, h2, h3, h4, h5⟩ := hagree c
    unfold Cert.CtxRefScan.argI Cert.CtxRefScan.inputs Cert.Kernel14Ideal.Scan.inputs
    congr 1
    · funext b r j; exact congrFun h0 _
    · funext d b r j; exact congrFun h1 _
    · funext i j; exact congrFun h2 _
    · funext d b h e j; exact congrFun h3 _
    · funext d b h j; exact congrFun h4 _
    · funext d b h j; exact congrFun h5 _
  refine ⟨fun c => Cert.Kernel14Ideal.Scan.outG (Cert.Kernel14Ideal.Scan.inputs m c), fun c => Cert.Kernel14Ideal.Scan.memG (Cert.Kernel14Ideal.Scan.inputs m c),
    fun c => Cert.Kernel14Ideal.Scan.vecG (Cert.Kernel14Ideal.Scan.inputs m c), fun c => Cert.Kernel14Ideal.Scan.stabG (Cert.Kernel14Ideal.Scan.inputs m c), ?_, ?_⟩
  · refine (θ_run Cert.Kernel14Ideal.defs _ _).mono (fun r h c => ?_) (Cert.Kernel14Ideal.Value.run_blocks m g)
    obtain ⟨h0, h1, h2, h3, hr⟩ := h c
    exact ⟨h0.trans (Cert.Kernel14Ideal.Scan.arrH m c), h1.trans (Cert.Kernel14Ideal.Scan.arrC m c), h2.trans (Cert.Kernel14Ideal.Scan.arrN m c),
      h3.trans (Cert.Kernel14Ideal.Scan.arrM m c), hr⟩
  · refine (θ_run Cert.Reference14Ideal.defs _ _).mono (fun r h c => ?_) (Cert.Reference14Ideal.Value.run m' g')
    obtain ⟨h0, h1, h2, h3, hr⟩ := h c
    exact ⟨h0.trans ((ctx_ref_H m' c).trans (congrArg Cert.Kernel14Ideal.Scan.outG (hI c))), h1.trans ((ctx_ref_C m' c).trans (congrArg Cert.Kernel14Ideal.Scan.memG (hI c))),
      h2.trans ((ctx_ref_N m' c).trans (congrArg Cert.Kernel14Ideal.Scan.vecG (hI c))), h3.trans ((ctx_ref_M m' c).trans (congrArg Cert.Kernel14Ideal.Scan.stabG (hI c))), hr⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  fun m g _ => Cert.Kernel.Gen.frame m g, fun m g _ => Cert.KernelIdeal.Gen.frame m g, frame_reference,
  fun m g _ => Cert.Kernel2.Gen.frame m g, fun m g _ => Cert.Kernel2Ideal.Gen.frame m g, frame_reference2,
  fun m g _ => Cert.Kernel3.Gen.frame m g, fun m g _ => Cert.Kernel3Ideal.Gen.frame m g, frame_reference3,
  fun m g _ => Cert.Kernel4.Gen.frame m g, fun m g _ => Cert.Kernel4Ideal.Gen.frame m g, frame_reference4,
  fun m g _ => Cert.Kernel5.Gen.frame m g, fun m g _ => Cert.Kernel5Ideal.Gen.frame m g, frame_reference5,
  fun m g _ => Cert.Kernel6.Gen.frame m g, fun m g _ => Cert.Kernel6Ideal.Gen.frame m g, frame_reference6,
  fun m g _ => Cert.Kernel7.Gen.frame m g, fun m g _ => Cert.Kernel7Ideal.Gen.frame m g, frame_reference7,
  fun m g _ => Cert.Kernel8.Gen.frame m g, fun m g _ => Cert.Kernel8Ideal.Gen.frame m g, frame_reference8,
  fun m g _ => Cert.Kernel9.Gen.frame m g, fun m g _ => Cert.Kernel9Ideal.Gen.frame m g, frame_reference9,
  fun m g _ => Cert.Kernel10.Gen.frame m g, fun m g _ => Cert.Kernel10Ideal.Gen.frame m g, frame_reference10,
  fun m g _ => Cert.Kernel11.Gen.frame m g, fun m g _ => Cert.Kernel11Ideal.Gen.frame m g, frame_reference11,
  fun m g _ => Cert.Kernel12.Gen.frame m g, fun m g _ => Cert.Kernel12Ideal.Gen.frame m g, frame_reference12,
  fun m g _ => Cert.Kernel13.Gen.frame m g, fun m g _ => Cert.Kernel13Ideal.Gen.frame m g, frame_reference13,
  fun m g _ => Cert.Kernel14.Gen.frame m g, fun m g _ => Cert.Kernel14Ideal.Gen.frame m g, frame_reference14,
  trivial, algebraic, trivial, algebraic2, trivial, algebraic3, trivial, algebraic4,
  trivial, algebraic5, trivial, algebraic6, trivial, algebraic7,
  trivial, algebraic8, trivial, algebraic9, trivial, algebraic10,
  trivial, algebraic11, trivial, algebraic12, trivial, algebraic13, trivial, algebraic14⟩

end Cert.Proof

end
